-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Kernel_none (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_ProjInDgrad (m : (ℓ : Loc Cert.ProjInDgrad.nD Cert.ProjInDgrad.τ Cert.ProjInDgrad.sig) → Buf (Elt Bits) ℓ) : Prop :=
  True

def Pre_ProjInDgradIdeal (m : (ℓ : Loc Cert.ProjInDgradIdeal.nD Cert.ProjInDgradIdeal.τ Cert.ProjInDgradIdeal.sig) → Buf (Elt Ideal) ℓ) : Prop :=
  True

def Pre_ProjInDgradRefIdeal (m : (ℓ : Loc Cert.ProjInDgradRefIdeal.nD Cert.ProjInDgradRefIdeal.τ Cert.ProjInDgradRefIdeal.sig) → Buf (Elt Ideal) ℓ) : Prop :=
  True

def Pre_FfnOutWgrad (m : (ℓ : Loc Cert.FfnOutWgrad.nD Cert.FfnOutWgrad.τ Cert.FfnOutWgrad.sig) → Buf (Elt Bits) ℓ) : Prop :=
  True

def Pre_FfnOutWgradIdeal (m : (ℓ : Loc Cert.FfnOutWgradIdeal.nD Cert.FfnOutWgradIdeal.τ Cert.FfnOutWgradIdeal.sig) → Buf (Elt Ideal) ℓ) : Prop :=
  True

def Pre_FfnOutWgradRefIdeal (m : (ℓ : Loc Cert.FfnOutWgradRefIdeal.nD Cert.FfnOutWgradRefIdeal.τ Cert.FfnOutWgradRefIdeal.sig) → Buf (Elt Ideal) ℓ) : Prop :=
  True

def Pre_FfnOutDgrad (m : (ℓ : Loc Cert.FfnOutDgrad.nD Cert.FfnOutDgrad.τ Cert.FfnOutDgrad.sig) → Buf (Elt Bits) ℓ) : Prop :=
  True

def Pre_FfnOutDgradIdeal (m : (ℓ : Loc Cert.FfnOutDgradIdeal.nD Cert.FfnOutDgradIdeal.τ Cert.FfnOutDgradIdeal.sig) → Buf (Elt Ideal) ℓ) : Prop :=
  True

def Pre_FfnOutDgradRefIdeal (m : (ℓ : Loc Cert.FfnOutDgradRefIdeal.nD Cert.FfnOutDgradRefIdeal.τ Cert.FfnOutDgradRefIdeal.sig) → Buf (Elt Ideal) ℓ) : Prop :=
  True

def Pre_ProjInWgrad (m : (ℓ : Loc Cert.ProjInWgrad.nD Cert.ProjInWgrad.τ Cert.ProjInWgrad.sig) → Buf (Elt Bits) ℓ) : Prop :=
  True

def Pre_ProjInWgradIdeal (m : (ℓ : Loc Cert.ProjInWgradIdeal.nD Cert.ProjInWgradIdeal.τ Cert.ProjInWgradIdeal.sig) → Buf (Elt Ideal) ℓ) : Prop :=
  True

def Pre_ProjInWgradRefIdeal (m : (ℓ : Loc Cert.ProjInWgradRefIdeal.nD Cert.ProjInWgradRefIdeal.τ Cert.ProjInWgradRefIdeal.sig) → Buf (Elt Ideal) ℓ) : Prop :=
  True

def Pre_FfnInDgrad (m : (ℓ : Loc Cert.FfnInDgrad.nD Cert.FfnInDgrad.τ Cert.FfnInDgrad.sig) → Buf (Elt Bits) ℓ) : Prop :=
  True

def Pre_FfnInDgradIdeal (m : (ℓ : Loc Cert.FfnInDgradIdeal.nD Cert.FfnInDgradIdeal.τ Cert.FfnInDgradIdeal.sig) → Buf (Elt Ideal) ℓ) : Prop :=
  True

def Pre_FfnInDgradRefIdeal (m : (ℓ : Loc Cert.FfnInDgradRefIdeal.nD Cert.FfnInDgradRefIdeal.τ Cert.FfnInDgradRefIdeal.sig) → Buf (Elt Ideal) ℓ) : Prop :=
  True

def Pre_FfnInWgrad (m : (ℓ : Loc Cert.FfnInWgrad.nD Cert.FfnInWgrad.τ Cert.FfnInWgrad.sig) → Buf (Elt Bits) ℓ) : Prop :=
  True

def Pre_FfnInWgradIdeal (m : (ℓ : Loc Cert.FfnInWgradIdeal.nD Cert.FfnInWgradIdeal.τ Cert.FfnInWgradIdeal.sig) → Buf (Elt Ideal) ℓ) : Prop :=
  True

def Pre_FfnInWgradRefIdeal (m : (ℓ : Loc Cert.FfnInWgradRefIdeal.nD Cert.FfnInWgradRefIdeal.τ Cert.FfnInWgradRefIdeal.sig) → Buf (Elt Ideal) ℓ) : Prop :=
  True

def Pre_ProjODgrad (m : (ℓ : Loc Cert.ProjODgrad.nD Cert.ProjODgrad.τ Cert.ProjODgrad.sig) → Buf (Elt Bits) ℓ) : Prop :=
  True

def Pre_ProjODgradIdeal (m : (ℓ : Loc Cert.ProjODgradIdeal.nD Cert.ProjODgradIdeal.τ Cert.ProjODgradIdeal.sig) → Buf (Elt Ideal) ℓ) : Prop :=
  True

def Pre_ProjODgradRefIdeal (m : (ℓ : Loc Cert.ProjODgradRefIdeal.nD Cert.ProjODgradRefIdeal.τ Cert.ProjODgradRefIdeal.sig) → Buf (Elt Ideal) ℓ) : Prop :=
  True

def Pre_ProjOWgrad (m : (ℓ : Loc Cert.ProjOWgrad.nD Cert.ProjOWgrad.τ Cert.ProjOWgrad.sig) → Buf (Elt Bits) ℓ) : Prop :=
  True

def Pre_ProjOWgradIdeal (m : (ℓ : Loc Cert.ProjOWgradIdeal.nD Cert.ProjOWgradIdeal.τ Cert.ProjOWgradIdeal.sig) → Buf (Elt Ideal) ℓ) : Prop :=
  True

def Pre_ProjOWgradRefIdeal (m : (ℓ : Loc Cert.ProjOWgradRefIdeal.nD Cert.ProjOWgradRefIdeal.τ Cert.ProjOWgradRefIdeal.sig) → Buf (Elt Ideal) ℓ) : Prop :=
  True

def Pre_ProjADgrad (m : (ℓ : Loc Cert.ProjADgrad.nD Cert.ProjADgrad.τ Cert.ProjADgrad.sig) → Buf (Elt Bits) ℓ) : Prop :=
  True

def Pre_ProjADgradIdeal (m : (ℓ : Loc Cert.ProjADgradIdeal.nD Cert.ProjADgradIdeal.τ Cert.ProjADgradIdeal.sig) → Buf (Elt Ideal) ℓ) : Prop :=
  True

def Pre_ProjADgradRefIdeal (m : (ℓ : Loc Cert.ProjADgradRefIdeal.nD Cert.ProjADgradRefIdeal.τ Cert.ProjADgradRefIdeal.sig) → Buf (Elt Ideal) ℓ) : Prop :=
  True

def Pre_ProjAWgrad (m : (ℓ : Loc Cert.ProjAWgrad.nD Cert.ProjAWgrad.τ Cert.ProjAWgrad.sig) → Buf (Elt Bits) ℓ) : Prop :=
  True

def Pre_ProjAWgradIdeal (m : (ℓ : Loc Cert.ProjAWgradIdeal.nD Cert.ProjAWgradIdeal.τ Cert.ProjAWgradIdeal.sig) → Buf (Elt Ideal) ℓ) : Prop :=
  True

def Pre_ProjAWgradRefIdeal (m : (ℓ : Loc Cert.ProjAWgradRefIdeal.nD Cert.ProjAWgradRefIdeal.τ Cert.ProjAWgradRefIdeal.sig) → Buf (Elt Ideal) ℓ) : Prop :=
  True

def Pre_ProjBDgrad (m : (ℓ : Loc Cert.ProjBDgrad.nD Cert.ProjBDgrad.τ Cert.ProjBDgrad.sig) → Buf (Elt Bits) ℓ) : Prop :=
  True

def Pre_ProjBDgradIdeal (m : (ℓ : Loc Cert.ProjBDgradIdeal.nD Cert.ProjBDgradIdeal.τ Cert.ProjBDgradIdeal.sig) → Buf (Elt Ideal) ℓ) : Prop :=
  True

def Pre_ProjBDgradRefIdeal (m : (ℓ : Loc Cert.ProjBDgradRefIdeal.nD Cert.ProjBDgradRefIdeal.τ Cert.ProjBDgradRefIdeal.sig) → Buf (Elt Ideal) ℓ) : Prop :=
  True

def Pre_ProjBWgrad (m : (ℓ : Loc Cert.ProjBWgrad.nD Cert.ProjBWgrad.τ Cert.ProjBWgrad.sig) → Buf (Elt Bits) ℓ) : Prop :=
  True

def Pre_ProjBWgradIdeal (m : (ℓ : Loc Cert.ProjBWgradIdeal.nD Cert.ProjBWgradIdeal.τ Cert.ProjBWgradIdeal.sig) → Buf (Elt Ideal) ℓ) : Prop :=
  True

def Pre_ProjBWgradRefIdeal (m : (ℓ : Loc Cert.ProjBWgradRefIdeal.nD Cert.ProjBWgradRefIdeal.τ Cert.ProjBWgradRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjRest (m : (ℓ : Loc Cert.ProjRest.nD Cert.ProjRest.τ Cert.ProjRest.sig) → Buf (Elt Bits) ℓ) : Prop :=
  True

def Pre_ProjRestIdeal (m : (ℓ : Loc Cert.ProjRestIdeal.nD Cert.ProjRestIdeal.τ Cert.ProjRestIdeal.sig) → Buf (Elt Ideal) ℓ) : Prop :=
  True

def Pre_ProjRestRefIdeal (m : (ℓ : Loc Cert.ProjRestRefIdeal.nD Cert.ProjRestRefIdeal.τ Cert.ProjRestRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_ProjO (m : (ℓ : Loc Cert.ProjO.nD Cert.ProjO.τ Cert.ProjO.sig) → Buf (Elt Bits) ℓ) : Prop :=
  True

def Pre_ProjOIdeal (m : (ℓ : Loc Cert.ProjOIdeal.nD Cert.ProjOIdeal.τ Cert.ProjOIdeal.sig) → Buf (Elt Ideal) ℓ) : Prop :=
  True

def Pre_ProjORefIdeal (m : (ℓ : Loc Cert.ProjORefIdeal.nD Cert.ProjORefIdeal.τ Cert.ProjORefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjRefIdeal (m : (ℓ : Loc Cert.GluProjRefIdeal.nD Cert.GluProjRefIdeal.τ Cert.GluProjRefIdeal.sig) → Buf (Elt Ideal) ℓ) : Prop :=
  True

def Pre_GluWgrad (m : (ℓ : Loc Cert.GluWgrad.nD Cert.GluWgrad.τ Cert.GluWgrad.sig) → Buf (Elt Bits) ℓ) : Prop :=
  True

def Pre_GluWgradIdeal (m : (ℓ : Loc Cert.GluWgradIdeal.nD Cert.GluWgradIdeal.τ Cert.GluWgradIdeal.sig) → Buf (Elt Ideal) ℓ) : Prop :=
  True

def Pre_GluWgradRefIdeal (m : (ℓ : Loc Cert.GluWgradRefIdeal.nD Cert.GluWgradRefIdeal.τ Cert.GluWgradRefIdeal.sig) → Buf (Elt Ideal) ℓ) : Prop :=
  True

def Pre_GluDgrad (m : (ℓ : Loc Cert.GluDgrad.nD Cert.GluDgrad.τ Cert.GluDgrad.sig) → Buf (Elt Bits) ℓ) : Prop :=
  True

def Pre_GluDgradIdeal (m : (ℓ : Loc Cert.GluDgradIdeal.nD Cert.GluDgradIdeal.τ Cert.GluDgradIdeal.sig) → Buf (Elt Ideal) ℓ) : Prop :=
  True

def Pre_GluDgradRefIdeal (m : (ℓ : Loc Cert.GluDgradRefIdeal.nD Cert.GluDgradRefIdeal.τ Cert.GluDgradRefIdeal.sig) → Buf (Elt Ideal) ℓ) : Prop :=
  True

def Pre_BInGrad (m : (ℓ : Loc Cert.BInGrad.nD Cert.BInGrad.τ Cert.BInGrad.sig) → Buf (Elt Bits) ℓ) : Prop :=
  True

def Pre_BInGradIdeal (m : (ℓ : Loc Cert.BInGradIdeal.nD Cert.BInGradIdeal.τ Cert.BInGradIdeal.sig) → Buf (Elt Ideal) ℓ) : Prop :=
  True

def Pre_BInGradRefIdeal (m : (ℓ : Loc Cert.BInGradRefIdeal.nD Cert.BInGradRefIdeal.τ Cert.BInGradRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_ln_finite [hPre_ln_finite : Cert.Pre_ln_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_ln_finite [hPre_ln_finite : Cert.Pre_ln_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))) = (fun _ => 1#1)

def Pre_SsmSkipGeluBwd (m : (ℓ : Loc Cert.SsmSkipGeluBwd.nD Cert.SsmSkipGeluBwd.τ Cert.SsmSkipGeluBwd.sig) → Buf (Elt Bits) ℓ) : Prop :=
  True

def Pre_SsmSkipGeluBwdIdeal (m : (ℓ : Loc Cert.SsmSkipGeluBwdIdeal.nD Cert.SsmSkipGeluBwdIdeal.τ Cert.SsmSkipGeluBwdIdeal.sig) → Buf (Elt Ideal) ℓ) : Prop :=
  True

def Pre_SsmSkipGeluBwdRefIdeal (m : (ℓ : Loc Cert.SsmSkipGeluBwdRefIdeal.nD Cert.SsmSkipGeluBwdRefIdeal.τ Cert.SsmSkipGeluBwdRefIdeal.sig) → Buf (Elt Ideal) ℓ) : Prop :=
  True

def Pre_SsmOutDgrad (m : (ℓ : Loc Cert.SsmOutDgrad.nD Cert.SsmOutDgrad.τ Cert.SsmOutDgrad.sig) → Buf (Elt Bits) ℓ) : Prop :=
  True

def Pre_SsmOutDgradIdeal (m : (ℓ : Loc Cert.SsmOutDgradIdeal.nD Cert.SsmOutDgradIdeal.τ Cert.SsmOutDgradIdeal.sig) → Buf (Elt Ideal) ℓ) : Prop :=
  True

def Pre_SsmOutDgradRefIdeal (m : (ℓ : Loc Cert.SsmOutDgradRefIdeal.nD Cert.SsmOutDgradRefIdeal.τ Cert.SsmOutDgradRefIdeal.sig) → Buf (Elt Ideal) ℓ) : Prop :=
  True

def Pre_SsmOutWgrad (m : (ℓ : Loc Cert.SsmOutWgrad.nD Cert.SsmOutWgrad.τ Cert.SsmOutWgrad.sig) → Buf (Elt Bits) ℓ) : Prop :=
  True

def Pre_SsmOutWgradIdeal (m : (ℓ : Loc Cert.SsmOutWgradIdeal.nD Cert.SsmOutWgradIdeal.τ Cert.SsmOutWgradIdeal.sig) → Buf (Elt Ideal) ℓ) : Prop :=
  True

def Pre_SsmOutWgradRefIdeal (m : (ℓ : Loc Cert.SsmOutWgradRefIdeal.nD Cert.SsmOutWgradRefIdeal.τ Cert.SsmOutWgradRefIdeal.sig) → Buf (Elt Ideal) ℓ) : Prop :=
  True

def Pre_SsmInDgrad (m : (ℓ : Loc Cert.SsmInDgrad.nD Cert.SsmInDgrad.τ Cert.SsmInDgrad.sig) → Buf (Elt Bits) ℓ) : Prop :=
  True

def Pre_SsmInDgradIdeal (m : (ℓ : Loc Cert.SsmInDgradIdeal.nD Cert.SsmInDgradIdeal.τ Cert.SsmInDgradIdeal.sig) → Buf (Elt Ideal) ℓ) : Prop :=
  True

def Pre_SsmInDgradRefIdeal (m : (ℓ : Loc Cert.SsmInDgradRefIdeal.nD Cert.SsmInDgradRefIdeal.τ Cert.SsmInDgradRefIdeal.sig) → Buf (Elt Ideal) ℓ) : Prop :=
  True

def Pre_SsmInWgrad (m : (ℓ : Loc Cert.SsmInWgrad.nD Cert.SsmInWgrad.τ Cert.SsmInWgrad.sig) → Buf (Elt Bits) ℓ) : Prop :=
  True

def Pre_SsmInWgradIdeal (m : (ℓ : Loc Cert.SsmInWgradIdeal.nD Cert.SsmInWgradIdeal.τ Cert.SsmInWgradIdeal.sig) → Buf (Elt Ideal) ℓ) : Prop :=
  True

def Pre_SsmInWgradRefIdeal (m : (ℓ : Loc Cert.SsmInWgradRefIdeal.nD Cert.SsmInWgradRefIdeal.τ Cert.SsmInWgradRefIdeal.sig) → Buf (Elt Ideal) ℓ) : Prop :=
  True

def Pre_SsmDuc (m : (ℓ : Loc Cert.SsmDuc.nD Cert.SsmDuc.τ Cert.SsmDuc.sig) → Buf (Elt Bits) ℓ) : Prop :=
  True

def Pre_SsmDucIdeal (m : (ℓ : Loc Cert.SsmDucIdeal.nD Cert.SsmDucIdeal.τ Cert.SsmDucIdeal.sig) → Buf (Elt Ideal) ℓ) : Prop :=
  True

def Pre_SsmDucRefIdeal (m : (ℓ : Loc Cert.SsmDucRefIdeal.nD Cert.SsmDucRefIdeal.τ Cert.SsmDucRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_SsmSkipGelu (m : (ℓ : Loc Cert.SsmSkipGelu.nD Cert.SsmSkipGelu.τ Cert.SsmSkipGelu.sig) → Buf (Elt Bits) ℓ) : Prop :=
  True

def Pre_SsmSkipGeluIdeal (m : (ℓ : Loc Cert.SsmSkipGeluIdeal.nD Cert.SsmSkipGeluIdeal.τ Cert.SsmSkipGeluIdeal.sig) → Buf (Elt Ideal) ℓ) : Prop :=
  True

def Pre_SsmSkipGeluRefIdeal (m : (ℓ : Loc Cert.SsmSkipGeluRefIdeal.nD Cert.SsmSkipGeluRefIdeal.τ Cert.SsmSkipGeluRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamwWIn (m : (ℓ : Loc Cert.AdamwWIn.nD Cert.AdamwWIn.τ Cert.AdamwWIn.sig) → Buf (Elt Bits) ℓ) : Prop :=
  True

def Pre_AdamwWInIdeal (m : (ℓ : Loc Cert.AdamwWInIdeal.nD Cert.AdamwWInIdeal.τ Cert.AdamwWInIdeal.sig) → Buf (Elt Ideal) ℓ) : Prop :=
  True

def Pre_AdamwWInRefIdeal (m : (ℓ : Loc Cert.AdamwWInRefIdeal.nD Cert.AdamwWInRefIdeal.τ Cert.AdamwWInRefIdeal.sig) → Buf (Elt Ideal) ℓ) : Prop :=
  True

def Pre_AdamwWGlu (m : (ℓ : Loc Cert.AdamwWGlu.nD Cert.AdamwWGlu.τ Cert.AdamwWGlu.sig) → Buf (Elt Bits) ℓ) : Prop :=
  True

def Pre_AdamwWGluIdeal (m : (ℓ : Loc Cert.AdamwWGluIdeal.nD Cert.AdamwWGluIdeal.τ Cert.AdamwWGluIdeal.sig) → Buf (Elt Ideal) ℓ) : Prop :=
  True

def Pre_AdamwWGluRefIdeal (m : (ℓ : Loc Cert.AdamwWGluRefIdeal.nD Cert.AdamwWGluRefIdeal.τ Cert.AdamwWGluRefIdeal.sig) → Buf (Elt Ideal) ℓ) : Prop :=
  True

def Pre_AdamwWPa (m : (ℓ : Loc Cert.AdamwWPa.nD Cert.AdamwWPa.τ Cert.AdamwWPa.sig) → Buf (Elt Bits) ℓ) : Prop :=
  True

def Pre_AdamwWPaIdeal (m : (ℓ : Loc Cert.AdamwWPaIdeal.nD Cert.AdamwWPaIdeal.τ Cert.AdamwWPaIdeal.sig) → Buf (Elt Ideal) ℓ) : Prop :=
  True

def Pre_AdamwWPaRefIdeal (m : (ℓ : Loc Cert.AdamwWPaRefIdeal.nD Cert.AdamwWPaRefIdeal.τ Cert.AdamwWPaRefIdeal.sig) → Buf (Elt Ideal) ℓ) : Prop :=
  True

def Pre_AdamwWPb (m : (ℓ : Loc Cert.AdamwWPb.nD Cert.AdamwWPb.τ Cert.AdamwWPb.sig) → Buf (Elt Bits) ℓ) : Prop :=
  True

def Pre_AdamwWPbIdeal (m : (ℓ : Loc Cert.AdamwWPbIdeal.nD Cert.AdamwWPbIdeal.τ Cert.AdamwWPbIdeal.sig) → Buf (Elt Ideal) ℓ) : Prop :=
  True

def Pre_AdamwWPbRefIdeal (m : (ℓ : Loc Cert.AdamwWPbRefIdeal.nD Cert.AdamwWPbRefIdeal.τ Cert.AdamwWPbRefIdeal.sig) → Buf (Elt Ideal) ℓ) : Prop :=
  True

def Pre_AdamwWO (m : (ℓ : Loc Cert.AdamwWO.nD Cert.AdamwWO.τ Cert.AdamwWO.sig) → Buf (Elt Bits) ℓ) : Prop :=
  True

def Pre_AdamwWOIdeal (m : (ℓ : Loc Cert.AdamwWOIdeal.nD Cert.AdamwWOIdeal.τ Cert.AdamwWOIdeal.sig) → Buf (Elt Ideal) ℓ) : Prop :=
  True

def Pre_AdamwWORefIdeal (m : (ℓ : Loc Cert.AdamwWORefIdeal.nD Cert.AdamwWORefIdeal.τ Cert.AdamwWORefIdeal.sig) → Buf (Elt Ideal) ℓ) : Prop :=
  True

def Pre_AdamwWFfnIn (m : (ℓ : Loc Cert.AdamwWFfnIn.nD Cert.AdamwWFfnIn.τ Cert.AdamwWFfnIn.sig) → Buf (Elt Bits) ℓ) : Prop :=
  True

def Pre_AdamwWFfnInIdeal (m : (ℓ : Loc Cert.AdamwWFfnInIdeal.nD Cert.AdamwWFfnInIdeal.τ Cert.AdamwWFfnInIdeal.sig) → Buf (Elt Ideal) ℓ) : Prop :=
  True

def Pre_AdamwWFfnInRefIdeal (m : (ℓ : Loc Cert.AdamwWFfnInRefIdeal.nD Cert.AdamwWFfnInRefIdeal.τ Cert.AdamwWFfnInRefIdeal.sig) → Buf (Elt Ideal) ℓ) : Prop :=
  True

def Pre_AdamwWFfnOut (m : (ℓ : Loc Cert.AdamwWFfnOut.nD Cert.AdamwWFfnOut.τ Cert.AdamwWFfnOut.sig) → Buf (Elt Bits) ℓ) : Prop :=
  True

def Pre_AdamwWFfnOutIdeal (m : (ℓ : Loc Cert.AdamwWFfnOutIdeal.nD Cert.AdamwWFfnOutIdeal.τ Cert.AdamwWFfnOutIdeal.sig) → Buf (Elt Ideal) ℓ) : Prop :=
  True

def Pre_AdamwWFfnOutRefIdeal (m : (ℓ : Loc Cert.AdamwWFfnOutRefIdeal.nD Cert.AdamwWFfnOutRefIdeal.τ Cert.AdamwWFfnOutRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutIdeal_out_finite [hPre_out_finite : Cert.Pre_out_finite.Facts] (m : (ℓ : Loc Cert.SsmOutIdeal.nD Cert.SsmOutIdeal.τ Cert.SsmOutIdeal.sig) → Buf (Elt Ideal) ℓ) : Prop :=
  ∀ c : Dev Cert.SsmOutIdeal.nD,
    (Cert.Pre_out_finite.fn (F := Ideal) (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1)) (m ((c.tc : Thread Cert.SsmOutIdeal.nD Cert.SsmOutIdeal.τ).loc Cert.SsmOutIdeal.main_arg2))) = (fun _ => 1#1)

def Pre_SsmOutRefIdeal (m : (ℓ : Loc Cert.SsmOutRefIdeal.nD Cert.SsmOutRefIdeal.τ Cert.SsmOutRefIdeal.sig) → Buf (Elt Ideal) ℓ) : Prop :=
  True

def Pre_SsmOutRefIdeal_out_finite [hPre_out_finite : Cert.Pre_out_finite.Facts] (m : (ℓ : Loc Cert.SsmOutRefIdeal.nD Cert.SsmOutRefIdeal.τ Cert.SsmOutRefIdeal.sig) → Buf (Elt Ideal) ℓ) : Prop :=
  ∀ c : Dev Cert.SsmOutRefIdeal.nD,
    (Cert.Pre_out_finite.fn (F := Ideal) (m ((c.tc : Thread Cert.SsmOutRefIdeal.nD Cert.SsmOutRefIdeal.τ).loc Cert.SsmOutRefIdeal.main_arg0)) (m ((c.tc : Thread Cert.SsmOutRefIdeal.nD Cert.SsmOutRefIdeal.τ).loc Cert.SsmOutRefIdeal.main_arg1)) (m ((c.tc : Thread Cert.SsmOutRefIdeal.nD Cert.SsmOutRefIdeal.τ).loc Cert.SsmOutRefIdeal.main_arg2))) = (fun _ => 1#1)

def Pre_SsmParams (m : (ℓ : Loc Cert.SsmParams.nD Cert.SsmParams.τ Cert.SsmParams.sig) → Buf (Elt Bits) ℓ) : Prop :=
  True

def Pre_SsmParamsIdeal (m : (ℓ : Loc Cert.SsmParamsIdeal.nD Cert.SsmParamsIdeal.τ Cert.SsmParamsIdeal.sig) → Buf (Elt Ideal) ℓ) : Prop :=
  True

def Pre_SsmParamsRefIdeal (m : (ℓ : Loc Cert.SsmParamsRefIdeal.nD Cert.SsmParamsRefIdeal.τ Cert.SsmParamsRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel_pre_none [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel_none m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ProjInDgrad [hProjInDgrad : Cert.ProjInDgrad.Facts] : Prop :=
  ∀ (m : (ℓ : Loc Cert.ProjInDgrad.nD Cert.ProjInDgrad.τ Cert.ProjInDgrad.sig) → Buf (Elt Bits) ℓ) (g : Dev Cert.ProjInDgrad.nD → PrngReg), Pre_ProjInDgrad m →
    θ_run (Cert.ProjInDgrad.defs (F := Bits)) (onTc (τ := Cert.ProjInDgrad.τ) (Cert.ProjInDgrad.main (F := Bits))) ⟨m, fun _ => 0, g⟩ (fun r => (∀ c : Dev Cert.ProjInDgrad.nD,
      r.2.mem ((c.tc : Thread Cert.ProjInDgrad.nD Cert.ProjInDgrad.τ).loc Cert.ProjInDgrad.main_arg0) = m ((c.tc : Thread Cert.ProjInDgrad.nD Cert.ProjInDgrad.τ).loc Cert.ProjInDgrad.main_arg0)
      ∧ r.2.mem ((c.tc : Thread Cert.ProjInDgrad.nD Cert.ProjInDgrad.τ).loc Cert.ProjInDgrad.main_arg1) = m ((c.tc : Thread Cert.ProjInDgrad.nD Cert.ProjInDgrad.τ).loc Cert.ProjInDgrad.main_arg1)
      ∧ r.2.mem ((c.tc : Thread Cert.ProjInDgrad.nD Cert.ProjInDgrad.τ).loc Cert.ProjInDgrad.main_arg2) = m ((c.tc : Thread Cert.ProjInDgrad.nD Cert.ProjInDgrad.τ).loc Cert.ProjInDgrad.main_arg2))
      ∧ r.2.sem = fun _ => 0)

def quiescent_ProjInDgradIdeal [hProjInDgradIdeal : Cert.ProjInDgradIdeal.Facts] : Prop :=
  ∀ (m : (ℓ : Loc Cert.ProjInDgradIdeal.nD Cert.ProjInDgradIdeal.τ Cert.ProjInDgradIdeal.sig) → Buf (Elt Ideal) ℓ) (g : Dev Cert.ProjInDgradIdeal.nD → PrngReg), Pre_ProjInDgradIdeal m →
    θ_run (Cert.ProjInDgradIdeal.defs (F := Ideal)) (onTc (τ := Cert.ProjInDgradIdeal.τ) (Cert.ProjInDgradIdeal.main (F := Ideal))) ⟨m, fun _ => 0, g⟩ (fun r => (∀ c : Dev Cert.ProjInDgradIdeal.nD,
      r.2.mem ((c.tc : Thread Cert.ProjInDgradIdeal.nD Cert.ProjInDgradIdeal.τ).loc Cert.ProjInDgradIdeal.main_arg0) = m ((c.tc : Thread Cert.ProjInDgradIdeal.nD Cert.ProjInDgradIdeal.τ).loc Cert.ProjInDgradIdeal.main_arg0)
      ∧ r.2.mem ((c.tc : Thread Cert.ProjInDgradIdeal.nD Cert.ProjInDgradIdeal.τ).loc Cert.ProjInDgradIdeal.main_arg1) = m ((c.tc : Thread Cert.ProjInDgradIdeal.nD Cert.ProjInDgradIdeal.τ).loc Cert.ProjInDgradIdeal.main_arg1)
      ∧ r.2.mem ((c.tc : Thread Cert.ProjInDgradIdeal.nD Cert.ProjInDgradIdeal.τ).loc Cert.ProjInDgradIdeal.main_arg2) = m ((c.tc : Thread Cert.ProjInDgradIdeal.nD Cert.ProjInDgradIdeal.τ).loc Cert.ProjInDgradIdeal.main_arg2))
      ∧ r.2.sem = fun _ => 0)

def quiescent_ProjInDgradRefIdeal [hProjInDgradRefIdeal : Cert.ProjInDgradRefIdeal.Facts] : Prop :=
  ∀ (m : (ℓ : Loc Cert.ProjInDgradRefIdeal.nD Cert.ProjInDgradRefIdeal.τ Cert.ProjInDgradRefIdeal.sig) → Buf (Elt Ideal) ℓ) (g : Dev Cert.ProjInDgradRefIdeal.nD → PrngReg), Pre_ProjInDgradRefIdeal m →
    θ_run (Cert.ProjInDgradRefIdeal.defs (F := Ideal)) (onTc (τ := Cert.ProjInDgradRefIdeal.τ) (Cert.ProjInDgradRefIdeal.main (F := Ideal))) ⟨m, fun _ => 0, g⟩ (fun r => (∀ c : Dev Cert.ProjInDgradRefIdeal.nD,
      r.2.mem ((c.tc : Thread Cert.ProjInDgradRefIdeal.nD Cert.ProjInDgradRefIdeal.τ).loc Cert.ProjInDgradRefIdeal.main_arg0) = m ((c.tc : Thread Cert.ProjInDgradRefIdeal.nD Cert.ProjInDgradRefIdeal.τ).loc Cert.ProjInDgradRefIdeal.main_arg0)
      ∧ r.2.mem ((c.tc : Thread Cert.ProjInDgradRefIdeal.nD Cert.ProjInDgradRefIdeal.τ).loc Cert.ProjInDgradRefIdeal.main_arg1) = m ((c.tc : Thread Cert.ProjInDgradRefIdeal.nD Cert.ProjInDgradRefIdeal.τ).loc Cert.ProjInDgradRefIdeal.main_arg1)
      ∧ r.2.mem ((c.tc : Thread Cert.ProjInDgradRefIdeal.nD Cert.ProjInDgradRefIdeal.τ).loc Cert.ProjInDgradRefIdeal.main_arg2) = m ((c.tc : Thread Cert.ProjInDgradRefIdeal.nD Cert.ProjInDgradRefIdeal.τ).loc Cert.ProjInDgradRefIdeal.main_arg2))
      ∧ r.2.sem = fun _ => 0)

def quiescent_FfnOutWgrad [hFfnOutWgrad : Cert.FfnOutWgrad.Facts] : Prop :=
  ∀ (m : (ℓ : Loc Cert.FfnOutWgrad.nD Cert.FfnOutWgrad.τ Cert.FfnOutWgrad.sig) → Buf (Elt Bits) ℓ) (g : Dev Cert.FfnOutWgrad.nD → PrngReg), Pre_FfnOutWgrad m →
    θ_run (Cert.FfnOutWgrad.defs (F := Bits)) (onTc (τ := Cert.FfnOutWgrad.τ) (Cert.FfnOutWgrad.main (F := Bits))) ⟨m, fun _ => 0, g⟩ (fun r => (∀ c : Dev Cert.FfnOutWgrad.nD,
      r.2.mem ((c.tc : Thread Cert.FfnOutWgrad.nD Cert.FfnOutWgrad.τ).loc Cert.FfnOutWgrad.main_arg0) = m ((c.tc : Thread Cert.FfnOutWgrad.nD Cert.FfnOutWgrad.τ).loc Cert.FfnOutWgrad.main_arg0)
      ∧ r.2.mem ((c.tc : Thread Cert.FfnOutWgrad.nD Cert.FfnOutWgrad.τ).loc Cert.FfnOutWgrad.main_arg1) = m ((c.tc : Thread Cert.FfnOutWgrad.nD Cert.FfnOutWgrad.τ).loc Cert.FfnOutWgrad.main_arg1))
      ∧ r.2.sem = fun _ => 0)

def quiescent_FfnOutWgradIdeal [hFfnOutWgradIdeal : Cert.FfnOutWgradIdeal.Facts] : Prop :=
  ∀ (m : (ℓ : Loc Cert.FfnOutWgradIdeal.nD Cert.FfnOutWgradIdeal.τ Cert.FfnOutWgradIdeal.sig) → Buf (Elt Ideal) ℓ) (g : Dev Cert.FfnOutWgradIdeal.nD → PrngReg), Pre_FfnOutWgradIdeal m →
    θ_run (Cert.FfnOutWgradIdeal.defs (F := Ideal)) (onTc (τ := Cert.FfnOutWgradIdeal.τ) (Cert.FfnOutWgradIdeal.main (F := Ideal))) ⟨m, fun _ => 0, g⟩ (fun r => (∀ c : Dev Cert.FfnOutWgradIdeal.nD,
      r.2.mem ((c.tc : Thread Cert.FfnOutWgradIdeal.nD Cert.FfnOutWgradIdeal.τ).loc Cert.FfnOutWgradIdeal.main_arg0) = m ((c.tc : Thread Cert.FfnOutWgradIdeal.nD Cert.FfnOutWgradIdeal.τ).loc Cert.FfnOutWgradIdeal.main_arg0)
      ∧ r.2.mem ((c.tc : Thread Cert.FfnOutWgradIdeal.nD Cert.FfnOutWgradIdeal.τ).loc Cert.FfnOutWgradIdeal.main_arg1) = m ((c.tc : Thread Cert.FfnOutWgradIdeal.nD Cert.FfnOutWgradIdeal.τ).loc Cert.FfnOutWgradIdeal.main_arg1))
      ∧ r.2.sem = fun _ => 0)

def quiescent_FfnOutWgradRefIdeal [hFfnOutWgradRefIdeal : Cert.FfnOutWgradRefIdeal.Facts] : Prop :=
  ∀ (m : (ℓ : Loc Cert.FfnOutWgradRefIdeal.nD Cert.FfnOutWgradRefIdeal.τ Cert.FfnOutWgradRefIdeal.sig) → Buf (Elt Ideal) ℓ) (g : Dev Cert.FfnOutWgradRefIdeal.nD → PrngReg), Pre_FfnOutWgradRefIdeal m →
    θ_run (Cert.FfnOutWgradRefIdeal.defs (F := Ideal)) (onTc (τ := Cert.FfnOutWgradRefIdeal.τ) (Cert.FfnOutWgradRefIdeal.main (F := Ideal))) ⟨m, fun _ => 0, g⟩ (fun r => (∀ c : Dev Cert.FfnOutWgradRefIdeal.nD,
      r.2.mem ((c.tc : Thread Cert.FfnOutWgradRefIdeal.nD Cert.FfnOutWgradRefIdeal.τ).loc Cert.FfnOutWgradRefIdeal.main_arg0) = m ((c.tc : Thread Cert.FfnOutWgradRefIdeal.nD Cert.FfnOutWgradRefIdeal.τ).loc Cert.FfnOutWgradRefIdeal.main_arg0)
      ∧ r.2.mem ((c.tc : Thread Cert.FfnOutWgradRefIdeal.nD Cert.FfnOutWgradRefIdeal.τ).loc Cert.FfnOutWgradRefIdeal.main_arg1) = m ((c.tc : Thread Cert.FfnOutWgradRefIdeal.nD Cert.FfnOutWgradRefIdeal.τ).loc Cert.FfnOutWgradRefIdeal.main_arg1))
      ∧ r.2.sem = fun _ => 0)

def quiescent_FfnOutDgrad [hFfnOutDgrad : Cert.FfnOutDgrad.Facts] : Prop :=
  ∀ (m : (ℓ : Loc Cert.FfnOutDgrad.nD Cert.FfnOutDgrad.τ Cert.FfnOutDgrad.sig) → Buf (Elt Bits) ℓ) (g : Dev Cert.FfnOutDgrad.nD → PrngReg), Pre_FfnOutDgrad m →
    θ_run (Cert.FfnOutDgrad.defs (F := Bits)) (onTc (τ := Cert.FfnOutDgrad.τ) (Cert.FfnOutDgrad.main (F := Bits))) ⟨m, fun _ => 0, g⟩ (fun r => (∀ c : Dev Cert.FfnOutDgrad.nD,
      r.2.mem ((c.tc : Thread Cert.FfnOutDgrad.nD Cert.FfnOutDgrad.τ).loc Cert.FfnOutDgrad.main_arg0) = m ((c.tc : Thread Cert.FfnOutDgrad.nD Cert.FfnOutDgrad.τ).loc Cert.FfnOutDgrad.main_arg0)
      ∧ r.2.mem ((c.tc : Thread Cert.FfnOutDgrad.nD Cert.FfnOutDgrad.τ).loc Cert.FfnOutDgrad.main_arg1) = m ((c.tc : Thread Cert.FfnOutDgrad.nD Cert.FfnOutDgrad.τ).loc Cert.FfnOutDgrad.main_arg1))
      ∧ r.2.sem = fun _ => 0)

def quiescent_FfnOutDgradIdeal [hFfnOutDgradIdeal : Cert.FfnOutDgradIdeal.Facts] : Prop :=
  ∀ (m : (ℓ : Loc Cert.FfnOutDgradIdeal.nD Cert.FfnOutDgradIdeal.τ Cert.FfnOutDgradIdeal.sig) → Buf (Elt Ideal) ℓ) (g : Dev Cert.FfnOutDgradIdeal.nD → PrngReg), Pre_FfnOutDgradIdeal m →
    θ_run (Cert.FfnOutDgradIdeal.defs (F := Ideal)) (onTc (τ := Cert.FfnOutDgradIdeal.τ) (Cert.FfnOutDgradIdeal.main (F := Ideal))) ⟨m, fun _ => 0, g⟩ (fun r => (∀ c : Dev Cert.FfnOutDgradIdeal.nD,
      r.2.mem ((c.tc : Thread Cert.FfnOutDgradIdeal.nD Cert.FfnOutDgradIdeal.τ).loc Cert.FfnOutDgradIdeal.main_arg0) = m ((c.tc : Thread Cert.FfnOutDgradIdeal.nD Cert.FfnOutDgradIdeal.τ).loc Cert.FfnOutDgradIdeal.main_arg0)
      ∧ r.2.mem ((c.tc : Thread Cert.FfnOutDgradIdeal.nD Cert.FfnOutDgradIdeal.τ).loc Cert.FfnOutDgradIdeal.main_arg1) = m ((c.tc : Thread Cert.FfnOutDgradIdeal.nD Cert.FfnOutDgradIdeal.τ).loc Cert.FfnOutDgradIdeal.main_arg1))
      ∧ r.2.sem = fun _ => 0)

def quiescent_FfnOutDgradRefIdeal [hFfnOutDgradRefIdeal : Cert.FfnOutDgradRefIdeal.Facts] : Prop :=
  ∀ (m : (ℓ : Loc Cert.FfnOutDgradRefIdeal.nD Cert.FfnOutDgradRefIdeal.τ Cert.FfnOutDgradRefIdeal.sig) → Buf (Elt Ideal) ℓ) (g : Dev Cert.FfnOutDgradRefIdeal.nD → PrngReg), Pre_FfnOutDgradRefIdeal m →
    θ_run (Cert.FfnOutDgradRefIdeal.defs (F := Ideal)) (onTc (τ := Cert.FfnOutDgradRefIdeal.τ) (Cert.FfnOutDgradRefIdeal.main (F := Ideal))) ⟨m, fun _ => 0, g⟩ (fun r => (∀ c : Dev Cert.FfnOutDgradRefIdeal.nD,
      r.2.mem ((c.tc : Thread Cert.FfnOutDgradRefIdeal.nD Cert.FfnOutDgradRefIdeal.τ).loc Cert.FfnOutDgradRefIdeal.main_arg0) = m ((c.tc : Thread Cert.FfnOutDgradRefIdeal.nD Cert.FfnOutDgradRefIdeal.τ).loc Cert.FfnOutDgradRefIdeal.main_arg0)
      ∧ r.2.mem ((c.tc : Thread Cert.FfnOutDgradRefIdeal.nD Cert.FfnOutDgradRefIdeal.τ).loc Cert.FfnOutDgradRefIdeal.main_arg1) = m ((c.tc : Thread Cert.FfnOutDgradRefIdeal.nD Cert.FfnOutDgradRefIdeal.τ).loc Cert.FfnOutDgradRefIdeal.main_arg1))
      ∧ r.2.sem = fun _ => 0)

def quiescent_ProjInWgrad [hProjInWgrad : Cert.ProjInWgrad.Facts] : Prop :=
  ∀ (m : (ℓ : Loc Cert.ProjInWgrad.nD Cert.ProjInWgrad.τ Cert.ProjInWgrad.sig) → Buf (Elt Bits) ℓ) (g : Dev Cert.ProjInWgrad.nD → PrngReg), Pre_ProjInWgrad m →
    θ_run (Cert.ProjInWgrad.defs (F := Bits)) (onTc (τ := Cert.ProjInWgrad.τ) (Cert.ProjInWgrad.main (F := Bits))) ⟨m, fun _ => 0, g⟩ (fun r => (∀ c : Dev Cert.ProjInWgrad.nD,
      r.2.mem ((c.tc : Thread Cert.ProjInWgrad.nD Cert.ProjInWgrad.τ).loc Cert.ProjInWgrad.main_arg0) = m ((c.tc : Thread Cert.ProjInWgrad.nD Cert.ProjInWgrad.τ).loc Cert.ProjInWgrad.main_arg0)
      ∧ r.2.mem ((c.tc : Thread Cert.ProjInWgrad.nD Cert.ProjInWgrad.τ).loc Cert.ProjInWgrad.main_arg1) = m ((c.tc : Thread Cert.ProjInWgrad.nD Cert.ProjInWgrad.τ).loc Cert.ProjInWgrad.main_arg1))
      ∧ r.2.sem = fun _ => 0)

def quiescent_ProjInWgradIdeal [hProjInWgradIdeal : Cert.ProjInWgradIdeal.Facts] : Prop :=
  ∀ (m : (ℓ : Loc Cert.ProjInWgradIdeal.nD Cert.ProjInWgradIdeal.τ Cert.ProjInWgradIdeal.sig) → Buf (Elt Ideal) ℓ) (g : Dev Cert.ProjInWgradIdeal.nD → PrngReg), Pre_ProjInWgradIdeal m →
    θ_run (Cert.ProjInWgradIdeal.defs (F := Ideal)) (onTc (τ := Cert.ProjInWgradIdeal.τ) (Cert.ProjInWgradIdeal.main (F := Ideal))) ⟨m, fun _ => 0, g⟩ (fun r => (∀ c : Dev Cert.ProjInWgradIdeal.nD,
      r.2.mem ((c.tc : Thread Cert.ProjInWgradIdeal.nD Cert.ProjInWgradIdeal.τ).loc Cert.ProjInWgradIdeal.main_arg0) = m ((c.tc : Thread Cert.ProjInWgradIdeal.nD Cert.ProjInWgradIdeal.τ).loc Cert.ProjInWgradIdeal.main_arg0)
      ∧ r.2.mem ((c.tc : Thread Cert.ProjInWgradIdeal.nD Cert.ProjInWgradIdeal.τ).loc Cert.ProjInWgradIdeal.main_arg1) = m ((c.tc : Thread Cert.ProjInWgradIdeal.nD Cert.ProjInWgradIdeal.τ).loc Cert.ProjInWgradIdeal.main_arg1))
      ∧ r.2.sem = fun _ => 0)

def quiescent_ProjInWgradRefIdeal [hProjInWgradRefIdeal : Cert.ProjInWgradRefIdeal.Facts] : Prop :=
  ∀ (m : (ℓ : Loc Cert.ProjInWgradRefIdeal.nD Cert.ProjInWgradRefIdeal.τ Cert.ProjInWgradRefIdeal.sig) → Buf (Elt Ideal) ℓ) (g : Dev Cert.ProjInWgradRefIdeal.nD → PrngReg), Pre_ProjInWgradRefIdeal m →
    θ_run (Cert.ProjInWgradRefIdeal.defs (F := Ideal)) (onTc (τ := Cert.ProjInWgradRefIdeal.τ) (Cert.ProjInWgradRefIdeal.main (F := Ideal))) ⟨m, fun _ => 0, g⟩ (fun r => (∀ c : Dev Cert.ProjInWgradRefIdeal.nD,
      r.2.mem ((c.tc : Thread Cert.ProjInWgradRefIdeal.nD Cert.ProjInWgradRefIdeal.τ).loc Cert.ProjInWgradRefIdeal.main_arg0) = m ((c.tc : Thread Cert.ProjInWgradRefIdeal.nD Cert.ProjInWgradRefIdeal.τ).loc Cert.ProjInWgradRefIdeal.main_arg0)
      ∧ r.2.mem ((c.tc : Thread Cert.ProjInWgradRefIdeal.nD Cert.ProjInWgradRefIdeal.τ).loc Cert.ProjInWgradRefIdeal.main_arg1) = m ((c.tc : Thread Cert.ProjInWgradRefIdeal.nD Cert.ProjInWgradRefIdeal.τ).loc Cert.ProjInWgradRefIdeal.main_arg1))
      ∧ r.2.sem = fun _ => 0)

def quiescent_FfnInDgrad [hFfnInDgrad : Cert.FfnInDgrad.Facts] : Prop :=
  ∀ (m : (ℓ : Loc Cert.FfnInDgrad.nD Cert.FfnInDgrad.τ Cert.FfnInDgrad.sig) → Buf (Elt Bits) ℓ) (g : Dev Cert.FfnInDgrad.nD → PrngReg), Pre_FfnInDgrad m →
    θ_run (Cert.FfnInDgrad.defs (F := Bits)) (onTc (τ := Cert.FfnInDgrad.τ) (Cert.FfnInDgrad.main (F := Bits))) ⟨m, fun _ => 0, g⟩ (fun r => (∀ c : Dev Cert.FfnInDgrad.nD,
      r.2.mem ((c.tc : Thread Cert.FfnInDgrad.nD Cert.FfnInDgrad.τ).loc Cert.FfnInDgrad.main_arg0) = m ((c.tc : Thread Cert.FfnInDgrad.nD Cert.FfnInDgrad.τ).loc Cert.FfnInDgrad.main_arg0)
      ∧ r.2.mem ((c.tc : Thread Cert.FfnInDgrad.nD Cert.FfnInDgrad.τ).loc Cert.FfnInDgrad.main_arg1) = m ((c.tc : Thread Cert.FfnInDgrad.nD Cert.FfnInDgrad.τ).loc Cert.FfnInDgrad.main_arg1)
      ∧ r.2.mem ((c.tc : Thread Cert.FfnInDgrad.nD Cert.FfnInDgrad.τ).loc Cert.FfnInDgrad.main_arg2) = m ((c.tc : Thread Cert.FfnInDgrad.nD Cert.FfnInDgrad.τ).loc Cert.FfnInDgrad.main_arg2))
      ∧ r.2.sem = fun _ => 0)

def quiescent_FfnInDgradIdeal [hFfnInDgradIdeal : Cert.FfnInDgradIdeal.Facts] : Prop :=
  ∀ (m : (ℓ : Loc Cert.FfnInDgradIdeal.nD Cert.FfnInDgradIdeal.τ Cert.FfnInDgradIdeal.sig) → Buf (Elt Ideal) ℓ) (g : Dev Cert.FfnInDgradIdeal.nD → PrngReg), Pre_FfnInDgradIdeal m →
    θ_run (Cert.FfnInDgradIdeal.defs (F := Ideal)) (onTc (τ := Cert.FfnInDgradIdeal.τ) (Cert.FfnInDgradIdeal.main (F := Ideal))) ⟨m, fun _ => 0, g⟩ (fun r => (∀ c : Dev Cert.FfnInDgradIdeal.nD,
      r.2.mem ((c.tc : Thread Cert.FfnInDgradIdeal.nD Cert.FfnInDgradIdeal.τ).loc Cert.FfnInDgradIdeal.main_arg0) = m ((c.tc : Thread Cert.FfnInDgradIdeal.nD Cert.FfnInDgradIdeal.τ).loc Cert.FfnInDgradIdeal.main_arg0)
      ∧ r.2.mem ((c.tc : Thread Cert.FfnInDgradIdeal.nD Cert.FfnInDgradIdeal.τ).loc Cert.FfnInDgradIdeal.main_arg1) = m ((c.tc : Thread Cert.FfnInDgradIdeal.nD Cert.FfnInDgradIdeal.τ).loc Cert.FfnInDgradIdeal.main_arg1)
      ∧ r.2.mem ((c.tc : Thread Cert.FfnInDgradIdeal.nD Cert.FfnInDgradIdeal.τ).loc Cert.FfnInDgradIdeal.main_arg2) = m ((c.tc : Thread Cert.FfnInDgradIdeal.nD Cert.FfnInDgradIdeal.τ).loc Cert.FfnInDgradIdeal.main_arg2))
      ∧ r.2.sem = fun _ => 0)

def quiescent_FfnInDgradRefIdeal [hFfnInDgradRefIdeal : Cert.FfnInDgradRefIdeal.Facts] : Prop :=
  ∀ (m : (ℓ : Loc Cert.FfnInDgradRefIdeal.nD Cert.FfnInDgradRefIdeal.τ Cert.FfnInDgradRefIdeal.sig) → Buf (Elt Ideal) ℓ) (g : Dev Cert.FfnInDgradRefIdeal.nD → PrngReg), Pre_FfnInDgradRefIdeal m →
    θ_run (Cert.FfnInDgradRefIdeal.defs (F := Ideal)) (onTc (τ := Cert.FfnInDgradRefIdeal.τ) (Cert.FfnInDgradRefIdeal.main (F := Ideal))) ⟨m, fun _ => 0, g⟩ (fun r => (∀ c : Dev Cert.FfnInDgradRefIdeal.nD,
      r.2.mem ((c.tc : Thread Cert.FfnInDgradRefIdeal.nD Cert.FfnInDgradRefIdeal.τ).loc Cert.FfnInDgradRefIdeal.main_arg0) = m ((c.tc : Thread Cert.FfnInDgradRefIdeal.nD Cert.FfnInDgradRefIdeal.τ).loc Cert.FfnInDgradRefIdeal.main_arg0)
      ∧ r.2.mem ((c.tc : Thread Cert.FfnInDgradRefIdeal.nD Cert.FfnInDgradRefIdeal.τ).loc Cert.FfnInDgradRefIdeal.main_arg1) = m ((c.tc : Thread Cert.FfnInDgradRefIdeal.nD Cert.FfnInDgradRefIdeal.τ).loc Cert.FfnInDgradRefIdeal.main_arg1)
      ∧ r.2.mem ((c.tc : Thread Cert.FfnInDgradRefIdeal.nD Cert.FfnInDgradRefIdeal.τ).loc Cert.FfnInDgradRefIdeal.main_arg2) = m ((c.tc : Thread Cert.FfnInDgradRefIdeal.nD Cert.FfnInDgradRefIdeal.τ).loc Cert.FfnInDgradRefIdeal.main_arg2))
      ∧ r.2.sem = fun _ => 0)

def quiescent_FfnInWgrad [hFfnInWgrad : Cert.FfnInWgrad.Facts] : Prop :=
  ∀ (m : (ℓ : Loc Cert.FfnInWgrad.nD Cert.FfnInWgrad.τ Cert.FfnInWgrad.sig) → Buf (Elt Bits) ℓ) (g : Dev Cert.FfnInWgrad.nD → PrngReg), Pre_FfnInWgrad m →
    θ_run (Cert.FfnInWgrad.defs (F := Bits)) (onTc (τ := Cert.FfnInWgrad.τ) (Cert.FfnInWgrad.main (F := Bits))) ⟨m, fun _ => 0, g⟩ (fun r => (∀ c : Dev Cert.FfnInWgrad.nD,
      r.2.mem ((c.tc : Thread Cert.FfnInWgrad.nD Cert.FfnInWgrad.τ).loc Cert.FfnInWgrad.main_arg0) = m ((c.tc : Thread Cert.FfnInWgrad.nD Cert.FfnInWgrad.τ).loc Cert.FfnInWgrad.main_arg0)
      ∧ r.2.mem ((c.tc : Thread Cert.FfnInWgrad.nD Cert.FfnInWgrad.τ).loc Cert.FfnInWgrad.main_arg1) = m ((c.tc : Thread Cert.FfnInWgrad.nD Cert.FfnInWgrad.τ).loc Cert.FfnInWgrad.main_arg1))
      ∧ r.2.sem = fun _ => 0)

def quiescent_FfnInWgradIdeal [hFfnInWgradIdeal : Cert.FfnInWgradIdeal.Facts] : Prop :=
  ∀ (m : (ℓ : Loc Cert.FfnInWgradIdeal.nD Cert.FfnInWgradIdeal.τ Cert.FfnInWgradIdeal.sig) → Buf (Elt Ideal) ℓ) (g : Dev Cert.FfnInWgradIdeal.nD → PrngReg), Pre_FfnInWgradIdeal m →
    θ_run (Cert.FfnInWgradIdeal.defs (F := Ideal)) (onTc (τ := Cert.FfnInWgradIdeal.τ) (Cert.FfnInWgradIdeal.main (F := Ideal))) ⟨m, fun _ => 0, g⟩ (fun r => (∀ c : Dev Cert.FfnInWgradIdeal.nD,
      r.2.mem ((c.tc : Thread Cert.FfnInWgradIdeal.nD Cert.FfnInWgradIdeal.τ).loc Cert.FfnInWgradIdeal.main_arg0) = m ((c.tc : Thread Cert.FfnInWgradIdeal.nD Cert.FfnInWgradIdeal.τ).loc Cert.FfnInWgradIdeal.main_arg0)
      ∧ r.2.mem ((c.tc : Thread Cert.FfnInWgradIdeal.nD Cert.FfnInWgradIdeal.τ).loc Cert.FfnInWgradIdeal.main_arg1) = m ((c.tc : Thread Cert.FfnInWgradIdeal.nD Cert.FfnInWgradIdeal.τ).loc Cert.FfnInWgradIdeal.main_arg1))
      ∧ r.2.sem = fun _ => 0)

def quiescent_FfnInWgradRefIdeal [hFfnInWgradRefIdeal : Cert.FfnInWgradRefIdeal.Facts] : Prop :=
  ∀ (m : (ℓ : Loc Cert.FfnInWgradRefIdeal.nD Cert.FfnInWgradRefIdeal.τ Cert.FfnInWgradRefIdeal.sig) → Buf (Elt Ideal) ℓ) (g : Dev Cert.FfnInWgradRefIdeal.nD → PrngReg), Pre_FfnInWgradRefIdeal m →
    θ_run (Cert.FfnInWgradRefIdeal.defs (F := Ideal)) (onTc (τ := Cert.FfnInWgradRefIdeal.τ) (Cert.FfnInWgradRefIdeal.main (F := Ideal))) ⟨m, fun _ => 0, g⟩ (fun r => (∀ c : Dev Cert.FfnInWgradRefIdeal.nD,
      r.2.mem ((c.tc : Thread Cert.FfnInWgradRefIdeal.nD Cert.FfnInWgradRefIdeal.τ).loc Cert.FfnInWgradRefIdeal.main_arg0) = m ((c.tc : Thread Cert.FfnInWgradRefIdeal.nD Cert.FfnInWgradRefIdeal.τ).loc Cert.FfnInWgradRefIdeal.main_arg0)
      ∧ r.2.mem ((c.tc : Thread Cert.FfnInWgradRefIdeal.nD Cert.FfnInWgradRefIdeal.τ).loc Cert.FfnInWgradRefIdeal.main_arg1) = m ((c.tc : Thread Cert.FfnInWgradRefIdeal.nD Cert.FfnInWgradRefIdeal.τ).loc Cert.FfnInWgradRefIdeal.main_arg1))
      ∧ r.2.sem = fun _ => 0)

def quiescent_ProjODgrad [hProjODgrad : Cert.ProjODgrad.Facts] : Prop :=
  ∀ (m : (ℓ : Loc Cert.ProjODgrad.nD Cert.ProjODgrad.τ Cert.ProjODgrad.sig) → Buf (Elt Bits) ℓ) (g : Dev Cert.ProjODgrad.nD → PrngReg), Pre_ProjODgrad m →
    θ_run (Cert.ProjODgrad.defs (F := Bits)) (onTc (τ := Cert.ProjODgrad.τ) (Cert.ProjODgrad.main (F := Bits))) ⟨m, fun _ => 0, g⟩ (fun r => (∀ c : Dev Cert.ProjODgrad.nD,
      r.2.mem ((c.tc : Thread Cert.ProjODgrad.nD Cert.ProjODgrad.τ).loc Cert.ProjODgrad.main_arg0) = m ((c.tc : Thread Cert.ProjODgrad.nD Cert.ProjODgrad.τ).loc Cert.ProjODgrad.main_arg0)
      ∧ r.2.mem ((c.tc : Thread Cert.ProjODgrad.nD Cert.ProjODgrad.τ).loc Cert.ProjODgrad.main_arg1) = m ((c.tc : Thread Cert.ProjODgrad.nD Cert.ProjODgrad.τ).loc Cert.ProjODgrad.main_arg1))
      ∧ r.2.sem = fun _ => 0)

def quiescent_ProjODgradIdeal [hProjODgradIdeal : Cert.ProjODgradIdeal.Facts] : Prop :=
  ∀ (m : (ℓ : Loc Cert.ProjODgradIdeal.nD Cert.ProjODgradIdeal.τ Cert.ProjODgradIdeal.sig) → Buf (Elt Ideal) ℓ) (g : Dev Cert.ProjODgradIdeal.nD → PrngReg), Pre_ProjODgradIdeal m →
    θ_run (Cert.ProjODgradIdeal.defs (F := Ideal)) (onTc (τ := Cert.ProjODgradIdeal.τ) (Cert.ProjODgradIdeal.main (F := Ideal))) ⟨m, fun _ => 0, g⟩ (fun r => (∀ c : Dev Cert.ProjODgradIdeal.nD,
      r.2.mem ((c.tc : Thread Cert.ProjODgradIdeal.nD Cert.ProjODgradIdeal.τ).loc Cert.ProjODgradIdeal.main_arg0) = m ((c.tc : Thread Cert.ProjODgradIdeal.nD Cert.ProjODgradIdeal.τ).loc Cert.ProjODgradIdeal.main_arg0)
      ∧ r.2.mem ((c.tc : Thread Cert.ProjODgradIdeal.nD Cert.ProjODgradIdeal.τ).loc Cert.ProjODgradIdeal.main_arg1) = m ((c.tc : Thread Cert.ProjODgradIdeal.nD Cert.ProjODgradIdeal.τ).loc Cert.ProjODgradIdeal.main_arg1))
      ∧ r.2.sem = fun _ => 0)

def quiescent_ProjODgradRefIdeal [hProjODgradRefIdeal : Cert.ProjODgradRefIdeal.Facts] : Prop :=
  ∀ (m : (ℓ : Loc Cert.ProjODgradRefIdeal.nD Cert.ProjODgradRefIdeal.τ Cert.ProjODgradRefIdeal.sig) → Buf (Elt Ideal) ℓ) (g : Dev Cert.ProjODgradRefIdeal.nD → PrngReg), Pre_ProjODgradRefIdeal m →
    θ_run (Cert.ProjODgradRefIdeal.defs (F := Ideal)) (onTc (τ := Cert.ProjODgradRefIdeal.τ) (Cert.ProjODgradRefIdeal.main (F := Ideal))) ⟨m, fun _ => 0, g⟩ (fun r => (∀ c : Dev Cert.ProjODgradRefIdeal.nD,
      r.2.mem ((c.tc : Thread Cert.ProjODgradRefIdeal.nD Cert.ProjODgradRefIdeal.τ).loc Cert.ProjODgradRefIdeal.main_arg0) = m ((c.tc : Thread Cert.ProjODgradRefIdeal.nD Cert.ProjODgradRefIdeal.τ).loc Cert.ProjODgradRefIdeal.main_arg0)
      ∧ r.2.mem ((c.tc : Thread Cert.ProjODgradRefIdeal.nD Cert.ProjODgradRefIdeal.τ).loc Cert.ProjODgradRefIdeal.main_arg1) = m ((c.tc : Thread Cert.ProjODgradRefIdeal.nD Cert.ProjODgradRefIdeal.τ).loc Cert.ProjODgradRefIdeal.main_arg1))
      ∧ r.2.sem = fun _ => 0)

def quiescent_ProjOWgrad [hProjOWgrad : Cert.ProjOWgrad.Facts] : Prop :=
  ∀ (m : (ℓ : Loc Cert.ProjOWgrad.nD Cert.ProjOWgrad.τ Cert.ProjOWgrad.sig) → Buf (Elt Bits) ℓ) (g : Dev Cert.ProjOWgrad.nD → PrngReg), Pre_ProjOWgrad m →
    θ_run (Cert.ProjOWgrad.defs (F := Bits)) (onTc (τ := Cert.ProjOWgrad.τ) (Cert.ProjOWgrad.main (F := Bits))) ⟨m, fun _ => 0, g⟩ (fun r => (∀ c : Dev Cert.ProjOWgrad.nD,
      r.2.mem ((c.tc : Thread Cert.ProjOWgrad.nD Cert.ProjOWgrad.τ).loc Cert.ProjOWgrad.main_arg0) = m ((c.tc : Thread Cert.ProjOWgrad.nD Cert.ProjOWgrad.τ).loc Cert.ProjOWgrad.main_arg0)
      ∧ r.2.mem ((c.tc : Thread Cert.ProjOWgrad.nD Cert.ProjOWgrad.τ).loc Cert.ProjOWgrad.main_arg1) = m ((c.tc : Thread Cert.ProjOWgrad.nD Cert.ProjOWgrad.τ).loc Cert.ProjOWgrad.main_arg1))
      ∧ r.2.sem = fun _ => 0)

def quiescent_ProjOWgradIdeal [hProjOWgradIdeal : Cert.ProjOWgradIdeal.Facts] : Prop :=
  ∀ (m : (ℓ : Loc Cert.ProjOWgradIdeal.nD Cert.ProjOWgradIdeal.τ Cert.ProjOWgradIdeal.sig) → Buf (Elt Ideal) ℓ) (g : Dev Cert.ProjOWgradIdeal.nD → PrngReg), Pre_ProjOWgradIdeal m →
    θ_run (Cert.ProjOWgradIdeal.defs (F := Ideal)) (onTc (τ := Cert.ProjOWgradIdeal.τ) (Cert.ProjOWgradIdeal.main (F := Ideal))) ⟨m, fun _ => 0, g⟩ (fun r => (∀ c : Dev Cert.ProjOWgradIdeal.nD,
      r.2.mem ((c.tc : Thread Cert.ProjOWgradIdeal.nD Cert.ProjOWgradIdeal.τ).loc Cert.ProjOWgradIdeal.main_arg0) = m ((c.tc : Thread Cert.ProjOWgradIdeal.nD Cert.ProjOWgradIdeal.τ).loc Cert.ProjOWgradIdeal.main_arg0)
      ∧ r.2.mem ((c.tc : Thread Cert.ProjOWgradIdeal.nD Cert.ProjOWgradIdeal.τ).loc Cert.ProjOWgradIdeal.main_arg1) = m ((c.tc : Thread Cert.ProjOWgradIdeal.nD Cert.ProjOWgradIdeal.τ).loc Cert.ProjOWgradIdeal.main_arg1))
      ∧ r.2.sem = fun _ => 0)

def quiescent_ProjOWgradRefIdeal [hProjOWgradRefIdeal : Cert.ProjOWgradRefIdeal.Facts] : Prop :=
  ∀ (m : (ℓ : Loc Cert.ProjOWgradRefIdeal.nD Cert.ProjOWgradRefIdeal.τ Cert.ProjOWgradRefIdeal.sig) → Buf (Elt Ideal) ℓ) (g : Dev Cert.ProjOWgradRefIdeal.nD → PrngReg), Pre_ProjOWgradRefIdeal m →
    θ_run (Cert.ProjOWgradRefIdeal.defs (F := Ideal)) (onTc (τ := Cert.ProjOWgradRefIdeal.τ) (Cert.ProjOWgradRefIdeal.main (F := Ideal))) ⟨m, fun _ => 0, g⟩ (fun r => (∀ c : Dev Cert.ProjOWgradRefIdeal.nD,
      r.2.mem ((c.tc : Thread Cert.ProjOWgradRefIdeal.nD Cert.ProjOWgradRefIdeal.τ).loc Cert.ProjOWgradRefIdeal.main_arg0) = m ((c.tc : Thread Cert.ProjOWgradRefIdeal.nD Cert.ProjOWgradRefIdeal.τ).loc Cert.ProjOWgradRefIdeal.main_arg0)
      ∧ r.2.mem ((c.tc : Thread Cert.ProjOWgradRefIdeal.nD Cert.ProjOWgradRefIdeal.τ).loc Cert.ProjOWgradRefIdeal.main_arg1) = m ((c.tc : Thread Cert.ProjOWgradRefIdeal.nD Cert.ProjOWgradRefIdeal.τ).loc Cert.ProjOWgradRefIdeal.main_arg1))
      ∧ r.2.sem = fun _ => 0)

def quiescent_ProjADgrad [hProjADgrad : Cert.ProjADgrad.Facts] : Prop :=
  ∀ (m : (ℓ : Loc Cert.ProjADgrad.nD Cert.ProjADgrad.τ Cert.ProjADgrad.sig) → Buf (Elt Bits) ℓ) (g : Dev Cert.ProjADgrad.nD → PrngReg), Pre_ProjADgrad m →
    θ_run (Cert.ProjADgrad.defs (F := Bits)) (onTc (τ := Cert.ProjADgrad.τ) (Cert.ProjADgrad.main (F := Bits))) ⟨m, fun _ => 0, g⟩ (fun r => (∀ c : Dev Cert.ProjADgrad.nD,
      r.2.mem ((c.tc : Thread Cert.ProjADgrad.nD Cert.ProjADgrad.τ).loc Cert.ProjADgrad.main_arg0) = m ((c.tc : Thread Cert.ProjADgrad.nD Cert.ProjADgrad.τ).loc Cert.ProjADgrad.main_arg0)
      ∧ r.2.mem ((c.tc : Thread Cert.ProjADgrad.nD Cert.ProjADgrad.τ).loc Cert.ProjADgrad.main_arg1) = m ((c.tc : Thread Cert.ProjADgrad.nD Cert.ProjADgrad.τ).loc Cert.ProjADgrad.main_arg1))
      ∧ r.2.sem = fun _ => 0)

def quiescent_ProjADgradIdeal [hProjADgradIdeal : Cert.ProjADgradIdeal.Facts] : Prop :=
  ∀ (m : (ℓ : Loc Cert.ProjADgradIdeal.nD Cert.ProjADgradIdeal.τ Cert.ProjADgradIdeal.sig) → Buf (Elt Ideal) ℓ) (g : Dev Cert.ProjADgradIdeal.nD → PrngReg), Pre_ProjADgradIdeal m →
    θ_run (Cert.ProjADgradIdeal.defs (F := Ideal)) (onTc (τ := Cert.ProjADgradIdeal.τ) (Cert.ProjADgradIdeal.main (F := Ideal))) ⟨m, fun _ => 0, g⟩ (fun r => (∀ c : Dev Cert.ProjADgradIdeal.nD,
      r.2.mem ((c.tc : Thread Cert.ProjADgradIdeal.nD Cert.ProjADgradIdeal.τ).loc Cert.ProjADgradIdeal.main_arg0) = m ((c.tc : Thread Cert.ProjADgradIdeal.nD Cert.ProjADgradIdeal.τ).loc Cert.ProjADgradIdeal.main_arg0)
      ∧ r.2.mem ((c.tc : Thread Cert.ProjADgradIdeal.nD Cert.ProjADgradIdeal.τ).loc Cert.ProjADgradIdeal.main_arg1) = m ((c.tc : Thread Cert.ProjADgradIdeal.nD Cert.ProjADgradIdeal.τ).loc Cert.ProjADgradIdeal.main_arg1))
      ∧ r.2.sem = fun _ => 0)

def quiescent_ProjADgradRefIdeal [hProjADgradRefIdeal : Cert.ProjADgradRefIdeal.Facts] : Prop :=
  ∀ (m : (ℓ : Loc Cert.ProjADgradRefIdeal.nD Cert.ProjADgradRefIdeal.τ Cert.ProjADgradRefIdeal.sig) → Buf (Elt Ideal) ℓ) (g : Dev Cert.ProjADgradRefIdeal.nD → PrngReg), Pre_ProjADgradRefIdeal m →
    θ_run (Cert.ProjADgradRefIdeal.defs (F := Ideal)) (onTc (τ := Cert.ProjADgradRefIdeal.τ) (Cert.ProjADgradRefIdeal.main (F := Ideal))) ⟨m, fun _ => 0, g⟩ (fun r => (∀ c : Dev Cert.ProjADgradRefIdeal.nD,
      r.2.mem ((c.tc : Thread Cert.ProjADgradRefIdeal.nD Cert.ProjADgradRefIdeal.τ).loc Cert.ProjADgradRefIdeal.main_arg0) = m ((c.tc : Thread Cert.ProjADgradRefIdeal.nD Cert.ProjADgradRefIdeal.τ).loc Cert.ProjADgradRefIdeal.main_arg0)
      ∧ r.2.mem ((c.tc : Thread Cert.ProjADgradRefIdeal.nD Cert.ProjADgradRefIdeal.τ).loc Cert.ProjADgradRefIdeal.main_arg1) = m ((c.tc : Thread Cert.ProjADgradRefIdeal.nD Cert.ProjADgradRefIdeal.τ).loc Cert.ProjADgradRefIdeal.main_arg1))
      ∧ r.2.sem = fun _ => 0)

def quiescent_ProjAWgrad [hProjAWgrad : Cert.ProjAWgrad.Facts] : Prop :=
  ∀ (m : (ℓ : Loc Cert.ProjAWgrad.nD Cert.ProjAWgrad.τ Cert.ProjAWgrad.sig) → Buf (Elt Bits) ℓ) (g : Dev Cert.ProjAWgrad.nD → PrngReg), Pre_ProjAWgrad m →
    θ_run (Cert.ProjAWgrad.defs (F := Bits)) (onTc (τ := Cert.ProjAWgrad.τ) (Cert.ProjAWgrad.main (F := Bits))) ⟨m, fun _ => 0, g⟩ (fun r => (∀ c : Dev Cert.ProjAWgrad.nD,
      r.2.mem ((c.tc : Thread Cert.ProjAWgrad.nD Cert.ProjAWgrad.τ).loc Cert.ProjAWgrad.main_arg0) = m ((c.tc : Thread Cert.ProjAWgrad.nD Cert.ProjAWgrad.τ).loc Cert.ProjAWgrad.main_arg0)
      ∧ r.2.mem ((c.tc : Thread Cert.ProjAWgrad.nD Cert.ProjAWgrad.τ).loc Cert.ProjAWgrad.main_arg1) = m ((c.tc : Thread Cert.ProjAWgrad.nD Cert.ProjAWgrad.τ).loc Cert.ProjAWgrad.main_arg1))
      ∧ r.2.sem = fun _ => 0)

def quiescent_ProjAWgradIdeal [hProjAWgradIdeal : Cert.ProjAWgradIdeal.Facts] : Prop :=
  ∀ (m : (ℓ : Loc Cert.ProjAWgradIdeal.nD Cert.ProjAWgradIdeal.τ Cert.ProjAWgradIdeal.sig) → Buf (Elt Ideal) ℓ) (g : Dev Cert.ProjAWgradIdeal.nD → PrngReg), Pre_ProjAWgradIdeal m →
    θ_run (Cert.ProjAWgradIdeal.defs (F := Ideal)) (onTc (τ := Cert.ProjAWgradIdeal.τ) (Cert.ProjAWgradIdeal.main (F := Ideal))) ⟨m, fun _ => 0, g⟩ (fun r => (∀ c : Dev Cert.ProjAWgradIdeal.nD,
      r.2.mem ((c.tc : Thread Cert.ProjAWgradIdeal.nD Cert.ProjAWgradIdeal.τ).loc Cert.ProjAWgradIdeal.main_arg0) = m ((c.tc : Thread Cert.ProjAWgradIdeal.nD Cert.ProjAWgradIdeal.τ).loc Cert.ProjAWgradIdeal.main_arg0)
      ∧ r.2.mem ((c.tc : Thread Cert.ProjAWgradIdeal.nD Cert.ProjAWgradIdeal.τ).loc Cert.ProjAWgradIdeal.main_arg1) = m ((c.tc : Thread Cert.ProjAWgradIdeal.nD Cert.ProjAWgradIdeal.τ).loc Cert.ProjAWgradIdeal.main_arg1))
      ∧ r.2.sem = fun _ => 0)

def quiescent_ProjAWgradRefIdeal [hProjAWgradRefIdeal : Cert.ProjAWgradRefIdeal.Facts] : Prop :=
  ∀ (m : (ℓ : Loc Cert.ProjAWgradRefIdeal.nD Cert.ProjAWgradRefIdeal.τ Cert.ProjAWgradRefIdeal.sig) → Buf (Elt Ideal) ℓ) (g : Dev Cert.ProjAWgradRefIdeal.nD → PrngReg), Pre_ProjAWgradRefIdeal m →
    θ_run (Cert.ProjAWgradRefIdeal.defs (F := Ideal)) (onTc (τ := Cert.ProjAWgradRefIdeal.τ) (Cert.ProjAWgradRefIdeal.main (F := Ideal))) ⟨m, fun _ => 0, g⟩ (fun r => (∀ c : Dev Cert.ProjAWgradRefIdeal.nD,
      r.2.mem ((c.tc : Thread Cert.ProjAWgradRefIdeal.nD Cert.ProjAWgradRefIdeal.τ).loc Cert.ProjAWgradRefIdeal.main_arg0) = m ((c.tc : Thread Cert.ProjAWgradRefIdeal.nD Cert.ProjAWgradRefIdeal.τ).loc Cert.ProjAWgradRefIdeal.main_arg0)
      ∧ r.2.mem ((c.tc : Thread Cert.ProjAWgradRefIdeal.nD Cert.ProjAWgradRefIdeal.τ).loc Cert.ProjAWgradRefIdeal.main_arg1) = m ((c.tc : Thread Cert.ProjAWgradRefIdeal.nD Cert.ProjAWgradRefIdeal.τ).loc Cert.ProjAWgradRefIdeal.main_arg1))
      ∧ r.2.sem = fun _ => 0)

def quiescent_ProjBDgrad [hProjBDgrad : Cert.ProjBDgrad.Facts] : Prop :=
  ∀ (m : (ℓ : Loc Cert.ProjBDgrad.nD Cert.ProjBDgrad.τ Cert.ProjBDgrad.sig) → Buf (Elt Bits) ℓ) (g : Dev Cert.ProjBDgrad.nD → PrngReg), Pre_ProjBDgrad m →
    θ_run (Cert.ProjBDgrad.defs (F := Bits)) (onTc (τ := Cert.ProjBDgrad.τ) (Cert.ProjBDgrad.main (F := Bits))) ⟨m, fun _ => 0, g⟩ (fun r => (∀ c : Dev Cert.ProjBDgrad.nD,
      r.2.mem ((c.tc : Thread Cert.ProjBDgrad.nD Cert.ProjBDgrad.τ).loc Cert.ProjBDgrad.main_arg0) = m ((c.tc : Thread Cert.ProjBDgrad.nD Cert.ProjBDgrad.τ).loc Cert.ProjBDgrad.main_arg0)
      ∧ r.2.mem ((c.tc : Thread Cert.ProjBDgrad.nD Cert.ProjBDgrad.τ).loc Cert.ProjBDgrad.main_arg1) = m ((c.tc : Thread Cert.ProjBDgrad.nD Cert.ProjBDgrad.τ).loc Cert.ProjBDgrad.main_arg1))
      ∧ r.2.sem = fun _ => 0)

def quiescent_ProjBDgradIdeal [hProjBDgradIdeal : Cert.ProjBDgradIdeal.Facts] : Prop :=
  ∀ (m : (ℓ : Loc Cert.ProjBDgradIdeal.nD Cert.ProjBDgradIdeal.τ Cert.ProjBDgradIdeal.sig) → Buf (Elt Ideal) ℓ) (g : Dev Cert.ProjBDgradIdeal.nD → PrngReg), Pre_ProjBDgradIdeal m →
    θ_run (Cert.ProjBDgradIdeal.defs (F := Ideal)) (onTc (τ := Cert.ProjBDgradIdeal.τ) (Cert.ProjBDgradIdeal.main (F := Ideal))) ⟨m, fun _ => 0, g⟩ (fun r => (∀ c : Dev Cert.ProjBDgradIdeal.nD,
      r.2.mem ((c.tc : Thread Cert.ProjBDgradIdeal.nD Cert.ProjBDgradIdeal.τ).loc Cert.ProjBDgradIdeal.main_arg0) = m ((c.tc : Thread Cert.ProjBDgradIdeal.nD Cert.ProjBDgradIdeal.τ).loc Cert.ProjBDgradIdeal.main_arg0)
      ∧ r.2.mem ((c.tc : Thread Cert.ProjBDgradIdeal.nD Cert.ProjBDgradIdeal.τ).loc Cert.ProjBDgradIdeal.main_arg1) = m ((c.tc : Thread Cert.ProjBDgradIdeal.nD Cert.ProjBDgradIdeal.τ).loc Cert.ProjBDgradIdeal.main_arg1))
      ∧ r.2.sem = fun _ => 0)

def quiescent_ProjBDgradRefIdeal [hProjBDgradRefIdeal : Cert.ProjBDgradRefIdeal.Facts] : Prop :=
  ∀ (m : (ℓ : Loc Cert.ProjBDgradRefIdeal.nD Cert.ProjBDgradRefIdeal.τ Cert.ProjBDgradRefIdeal.sig) → Buf (Elt Ideal) ℓ) (g : Dev Cert.ProjBDgradRefIdeal.nD → PrngReg), Pre_ProjBDgradRefIdeal m →
    θ_run (Cert.ProjBDgradRefIdeal.defs (F := Ideal)) (onTc (τ := Cert.ProjBDgradRefIdeal.τ) (Cert.ProjBDgradRefIdeal.main (F := Ideal))) ⟨m, fun _ => 0, g⟩ (fun r => (∀ c : Dev Cert.ProjBDgradRefIdeal.nD,
      r.2.mem ((c.tc : Thread Cert.ProjBDgradRefIdeal.nD Cert.ProjBDgradRefIdeal.τ).loc Cert.ProjBDgradRefIdeal.main_arg0) = m ((c.tc : Thread Cert.ProjBDgradRefIdeal.nD Cert.ProjBDgradRefIdeal.τ).loc Cert.ProjBDgradRefIdeal.main_arg0)
      ∧ r.2.mem ((c.tc : Thread Cert.ProjBDgradRefIdeal.nD Cert.ProjBDgradRefIdeal.τ).loc Cert.ProjBDgradRefIdeal.main_arg1) = m ((c.tc : Thread Cert.ProjBDgradRefIdeal.nD Cert.ProjBDgradRefIdeal.τ).loc Cert.ProjBDgradRefIdeal.main_arg1))
      ∧ r.2.sem = fun _ => 0)

def quiescent_ProjBWgrad [hProjBWgrad : Cert.ProjBWgrad.Facts] : Prop :=
  ∀ (m : (ℓ : Loc Cert.ProjBWgrad.nD Cert.ProjBWgrad.τ Cert.ProjBWgrad.sig) → Buf (Elt Bits) ℓ) (g : Dev Cert.ProjBWgrad.nD → PrngReg), Pre_ProjBWgrad m →
    θ_run (Cert.ProjBWgrad.defs (F := Bits)) (onTc (τ := Cert.ProjBWgrad.τ) (Cert.ProjBWgrad.main (F := Bits))) ⟨m, fun _ => 0, g⟩ (fun r => (∀ c : Dev Cert.ProjBWgrad.nD,
      r.2.mem ((c.tc : Thread Cert.ProjBWgrad.nD Cert.ProjBWgrad.τ).loc Cert.ProjBWgrad.main_arg0) = m ((c.tc : Thread Cert.ProjBWgrad.nD Cert.ProjBWgrad.τ).loc Cert.ProjBWgrad.main_arg0)
      ∧ r.2.mem ((c.tc : Thread Cert.ProjBWgrad.nD Cert.ProjBWgrad.τ).loc Cert.ProjBWgrad.main_arg1) = m ((c.tc : Thread Cert.ProjBWgrad.nD Cert.ProjBWgrad.τ).loc Cert.ProjBWgrad.main_arg1))
      ∧ r.2.sem = fun _ => 0)

def quiescent_ProjBWgradIdeal [hProjBWgradIdeal : Cert.ProjBWgradIdeal.Facts] : Prop :=
  ∀ (m : (ℓ : Loc Cert.ProjBWgradIdeal.nD Cert.ProjBWgradIdeal.τ Cert.ProjBWgradIdeal.sig) → Buf (Elt Ideal) ℓ) (g : Dev Cert.ProjBWgradIdeal.nD → PrngReg), Pre_ProjBWgradIdeal m →
    θ_run (Cert.ProjBWgradIdeal.defs (F := Ideal)) (onTc (τ := Cert.ProjBWgradIdeal.τ) (Cert.ProjBWgradIdeal.main (F := Ideal))) ⟨m, fun _ => 0, g⟩ (fun r => (∀ c : Dev Cert.ProjBWgradIdeal.nD,
      r.2.mem ((c.tc : Thread Cert.ProjBWgradIdeal.nD Cert.ProjBWgradIdeal.τ).loc Cert.ProjBWgradIdeal.main_arg0) = m ((c.tc : Thread Cert.ProjBWgradIdeal.nD Cert.ProjBWgradIdeal.τ).loc Cert.ProjBWgradIdeal.main_arg0)
      ∧ r.2.mem ((c.tc : Thread Cert.ProjBWgradIdeal.nD Cert.ProjBWgradIdeal.τ).loc Cert.ProjBWgradIdeal.main_arg1) = m ((c.tc : Thread Cert.ProjBWgradIdeal.nD Cert.ProjBWgradIdeal.τ).loc Cert.ProjBWgradIdeal.main_arg1))
      ∧ r.2.sem = fun _ => 0)

def quiescent_ProjBWgradRefIdeal [hProjBWgradRefIdeal : Cert.ProjBWgradRefIdeal.Facts] : Prop :=
  ∀ (m : (ℓ : Loc Cert.ProjBWgradRefIdeal.nD Cert.ProjBWgradRefIdeal.τ Cert.ProjBWgradRefIdeal.sig) → Buf (Elt Ideal) ℓ) (g : Dev Cert.ProjBWgradRefIdeal.nD → PrngReg), Pre_ProjBWgradRefIdeal m →
    θ_run (Cert.ProjBWgradRefIdeal.defs (F := Ideal)) (onTc (τ := Cert.ProjBWgradRefIdeal.τ) (Cert.ProjBWgradRefIdeal.main (F := Ideal))) ⟨m, fun _ => 0, g⟩ (fun r => (∀ c : Dev Cert.ProjBWgradRefIdeal.nD,
      r.2.mem ((c.tc : Thread Cert.ProjBWgradRefIdeal.nD Cert.ProjBWgradRefIdeal.τ).loc Cert.ProjBWgradRefIdeal.main_arg0) = m ((c.tc : Thread Cert.ProjBWgradRefIdeal.nD Cert.ProjBWgradRefIdeal.τ).loc Cert.ProjBWgradRefIdeal.main_arg0)
      ∧ r.2.mem ((c.tc : Thread Cert.ProjBWgradRefIdeal.nD Cert.ProjBWgradRefIdeal.τ).loc Cert.ProjBWgradRefIdeal.main_arg1) = m ((c.tc : Thread Cert.ProjBWgradRefIdeal.nD Cert.ProjBWgradRefIdeal.τ).loc Cert.ProjBWgradRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1)
      ∧ r.2.mem ((c.tc : Thread Cert.ProjQkv.nD Cert.ProjQkv.τ).loc Cert.ProjQkv.main_arg2) = m ((c.tc : Thread Cert.ProjQkv.nD Cert.ProjQkv.τ).loc Cert.ProjQkv.main_arg2))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
      ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1)
      ∧ r.2.mem ((c.tc : Thread Cert.ProjQkvRefIdeal.nD Cert.ProjQkvRefIdeal.τ).loc Cert.ProjQkvRefIdeal.main_arg2) = m ((c.tc : Thread Cert.ProjQkvRefIdeal.nD Cert.ProjQkvRefIdeal.τ).loc Cert.ProjQkvRefIdeal.main_arg2))
      ∧ r.2.sem = fun _ => 0)

def quiescent_ProjRest [hProjRest : Cert.ProjRest.Facts] : Prop :=
  ∀ (m : (ℓ : Loc Cert.ProjRest.nD Cert.ProjRest.τ Cert.ProjRest.sig) → Buf (Elt Bits) ℓ) (g : Dev Cert.ProjRest.nD → PrngReg), Pre_ProjRest m →
    θ_run (Cert.ProjRest.defs (F := Bits)) (onTc (τ := Cert.ProjRest.τ) (Cert.ProjRest.main (F := Bits))) ⟨m, fun _ => 0, g⟩ (fun r => (∀ c : Dev Cert.ProjRest.nD,
      r.2.mem ((c.tc : Thread Cert.ProjRest.nD Cert.ProjRest.τ).loc Cert.ProjRest.main_arg0) = m ((c.tc : Thread Cert.ProjRest.nD Cert.ProjRest.τ).loc Cert.ProjRest.main_arg0)
      ∧ r.2.mem ((c.tc : Thread Cert.ProjRest.nD Cert.ProjRest.τ).loc Cert.ProjRest.main_arg1) = m ((c.tc : Thread Cert.ProjRest.nD Cert.ProjRest.τ).loc Cert.ProjRest.main_arg1)
      ∧ r.2.mem ((c.tc : Thread Cert.ProjRest.nD Cert.ProjRest.τ).loc Cert.ProjRest.main_arg2) = m ((c.tc : Thread Cert.ProjRest.nD Cert.ProjRest.τ).loc Cert.ProjRest.main_arg2))
      ∧ r.2.sem = fun _ => 0)

def quiescent_ProjRestIdeal [hProjRestIdeal : Cert.ProjRestIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg), Pre_ProjRestIdeal m →
    θ_run (Cert.ProjRestIdeal.defs (F := Ideal)) (onTc (τ := Cert.ProjRestIdeal.τ) (Cert.ProjRestIdeal.main (F := Ideal))) ⟨m, fun _ => 0, g⟩ (fun r => (∀ c : Dev Cert.ProjRestIdeal.nD,
      r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
      ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
      ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2))
      ∧ r.2.sem = fun _ => 0)

def quiescent_ProjRestRefIdeal [hProjRestRefIdeal : Cert.ProjRestRefIdeal.Facts] : Prop :=
  ∀ (m : (ℓ : Loc Cert.ProjRestRefIdeal.nD Cert.ProjRestRefIdeal.τ Cert.ProjRestRefIdeal.sig) → Buf (Elt Ideal) ℓ) (g : Dev Cert.ProjRestRefIdeal.nD → PrngReg), Pre_ProjRestRefIdeal m →
    θ_run (Cert.ProjRestRefIdeal.defs (F := Ideal)) (onTc (τ := Cert.ProjRestRefIdeal.τ) (Cert.ProjRestRefIdeal.main (F := Ideal))) ⟨m, fun _ => 0, g⟩ (fun r => (∀ c : Dev Cert.ProjRestRefIdeal.nD,
      r.2.mem ((c.tc : Thread Cert.ProjRestRefIdeal.nD Cert.ProjRestRefIdeal.τ).loc Cert.ProjRestRefIdeal.main_arg0) = m ((c.tc : Thread Cert.ProjRestRefIdeal.nD Cert.ProjRestRefIdeal.τ).loc Cert.ProjRestRefIdeal.main_arg0)
      ∧ r.2.mem ((c.tc : Thread Cert.ProjRestRefIdeal.nD Cert.ProjRestRefIdeal.τ).loc Cert.ProjRestRefIdeal.main_arg1) = m ((c.tc : Thread Cert.ProjRestRefIdeal.nD Cert.ProjRestRefIdeal.τ).loc Cert.ProjRestRefIdeal.main_arg1)
      ∧ r.2.mem ((c.tc : Thread Cert.ProjRestRefIdeal.nD Cert.ProjRestRefIdeal.τ).loc Cert.ProjRestRefIdeal.main_arg2) = m ((c.tc : Thread Cert.ProjRestRefIdeal.nD Cert.ProjRestRefIdeal.τ).loc Cert.ProjRestRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_ProjO [hProjO : Cert.ProjO.Facts] : Prop :=
  ∀ (m : (ℓ : Loc Cert.ProjO.nD Cert.ProjO.τ Cert.ProjO.sig) → Buf (Elt Bits) ℓ) (g : Dev Cert.ProjO.nD → PrngReg), Pre_ProjO m →
    θ_run (Cert.ProjO.defs (F := Bits)) (onTc (τ := Cert.ProjO.τ) (Cert.ProjO.main (F := Bits))) ⟨m, fun _ => 0, g⟩ (fun r => (∀ c : Dev Cert.ProjO.nD,
      r.2.mem ((c.tc : Thread Cert.ProjO.nD Cert.ProjO.τ).loc Cert.ProjO.main_arg0) = m ((c.tc : Thread Cert.ProjO.nD Cert.ProjO.τ).loc Cert.ProjO.main_arg0)
      ∧ r.2.mem ((c.tc : Thread Cert.ProjO.nD Cert.ProjO.τ).loc Cert.ProjO.main_arg1) = m ((c.tc : Thread Cert.ProjO.nD Cert.ProjO.τ).loc Cert.ProjO.main_arg1)
      ∧ r.2.mem ((c.tc : Thread Cert.ProjO.nD Cert.ProjO.τ).loc Cert.ProjO.main_arg2) = m ((c.tc : Thread Cert.ProjO.nD Cert.ProjO.τ).loc Cert.ProjO.main_arg2))
      ∧ r.2.sem = fun _ => 0)

def quiescent_ProjOIdeal [hProjOIdeal : Cert.ProjOIdeal.Facts] : Prop :=
  ∀ (m : (ℓ : Loc Cert.ProjOIdeal.nD Cert.ProjOIdeal.τ Cert.ProjOIdeal.sig) → Buf (Elt Ideal) ℓ) (g : Dev Cert.ProjOIdeal.nD → PrngReg), Pre_ProjOIdeal m →
    θ_run (Cert.ProjOIdeal.defs (F := Ideal)) (onTc (τ := Cert.ProjOIdeal.τ) (Cert.ProjOIdeal.main (F := Ideal))) ⟨m, fun _ => 0, g⟩ (fun r => (∀ c : Dev Cert.ProjOIdeal.nD,
      r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
      ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
      ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2))
      ∧ r.2.sem = fun _ => 0)

def quiescent_ProjORefIdeal [hProjORefIdeal : Cert.ProjORefIdeal.Facts] : Prop :=
  ∀ (m : (ℓ : Loc Cert.ProjORefIdeal.nD Cert.ProjORefIdeal.τ Cert.ProjORefIdeal.sig) → Buf (Elt Ideal) ℓ) (g : Dev Cert.ProjORefIdeal.nD → PrngReg), Pre_ProjORefIdeal m →
    θ_run (Cert.ProjORefIdeal.defs (F := Ideal)) (onTc (τ := Cert.ProjORefIdeal.τ) (Cert.ProjORefIdeal.main (F := Ideal))) ⟨m, fun _ => 0, g⟩ (fun r => (∀ c : Dev Cert.ProjORefIdeal.nD,
      r.2.mem ((c.tc : Thread Cert.ProjORefIdeal.nD Cert.ProjORefIdeal.τ).loc Cert.ProjORefIdeal.main_arg0) = m ((c.tc : Thread Cert.ProjORefIdeal.nD Cert.ProjORefIdeal.τ).loc Cert.ProjORefIdeal.main_arg0)
      ∧ r.2.mem ((c.tc : Thread Cert.ProjORefIdeal.nD Cert.ProjORefIdeal.τ).loc Cert.ProjORefIdeal.main_arg1) = m ((c.tc : Thread Cert.ProjORefIdeal.nD Cert.ProjORefIdeal.τ).loc Cert.ProjORefIdeal.main_arg1)
      ∧ r.2.mem ((c.tc : Thread Cert.ProjORefIdeal.nD Cert.ProjORefIdeal.τ).loc Cert.ProjORefIdeal.main_arg2) = m ((c.tc : Thread Cert.ProjORefIdeal.nD Cert.ProjORefIdeal.τ).loc Cert.ProjORefIdeal.main_arg2))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1)
      ∧ r.2.mem ((c.tc : Thread Cert.GluProj.nD Cert.GluProj.τ).loc Cert.GluProj.main_arg2) = m ((c.tc : Thread Cert.GluProj.nD Cert.GluProj.τ).loc Cert.GluProj.main_arg2))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
      ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ r.2.sem = fun _ => 0)

def quiescent_GluProjRefIdeal [hGluProjRefIdeal : Cert.GluProjRefIdeal.Facts] : Prop :=
  ∀ (m : (ℓ : Loc Cert.GluProjRefIdeal.nD Cert.GluProjRefIdeal.τ Cert.GluProjRefIdeal.sig) → Buf (Elt Ideal) ℓ) (g : Dev Cert.GluProjRefIdeal.nD → PrngReg), Pre_GluProjRefIdeal m →
    θ_run (Cert.GluProjRefIdeal.defs (F := Ideal)) (onTc (τ := Cert.GluProjRefIdeal.τ) (Cert.GluProjRefIdeal.main (F := Ideal))) ⟨m, fun _ => 0, g⟩ (fun r => (∀ c : Dev Cert.GluProjRefIdeal.nD,
      r.2.mem ((c.tc : Thread Cert.GluProjRefIdeal.nD Cert.GluProjRefIdeal.τ).loc Cert.GluProjRefIdeal.main_arg0) = m ((c.tc : Thread Cert.GluProjRefIdeal.nD Cert.GluProjRefIdeal.τ).loc Cert.GluProjRefIdeal.main_arg0)
      ∧ r.2.mem ((c.tc : Thread Cert.GluProjRefIdeal.nD Cert.GluProjRefIdeal.τ).loc Cert.GluProjRefIdeal.main_arg1) = m ((c.tc : Thread Cert.GluProjRefIdeal.nD Cert.GluProjRefIdeal.τ).loc Cert.GluProjRefIdeal.main_arg1)
      ∧ r.2.mem ((c.tc : Thread Cert.GluProjRefIdeal.nD Cert.GluProjRefIdeal.τ).loc Cert.GluProjRefIdeal.main_arg2) = m ((c.tc : Thread Cert.GluProjRefIdeal.nD Cert.GluProjRefIdeal.τ).loc Cert.GluProjRefIdeal.main_arg2))
      ∧ r.2.sem = fun _ => 0)

def quiescent_GluWgrad [hGluWgrad : Cert.GluWgrad.Facts] : Prop :=
  ∀ (m : (ℓ : Loc Cert.GluWgrad.nD Cert.GluWgrad.τ Cert.GluWgrad.sig) → Buf (Elt Bits) ℓ) (g : Dev Cert.GluWgrad.nD → PrngReg), Pre_GluWgrad m →
    θ_run (Cert.GluWgrad.defs (F := Bits)) (onTc (τ := Cert.GluWgrad.τ) (Cert.GluWgrad.main (F := Bits))) ⟨m, fun _ => 0, g⟩ (fun r => (∀ c : Dev Cert.GluWgrad.nD,
      r.2.mem ((c.tc : Thread Cert.GluWgrad.nD Cert.GluWgrad.τ).loc Cert.GluWgrad.main_arg0) = m ((c.tc : Thread Cert.GluWgrad.nD Cert.GluWgrad.τ).loc Cert.GluWgrad.main_arg0)
      ∧ r.2.mem ((c.tc : Thread Cert.GluWgrad.nD Cert.GluWgrad.τ).loc Cert.GluWgrad.main_arg1) = m ((c.tc : Thread Cert.GluWgrad.nD Cert.GluWgrad.τ).loc Cert.GluWgrad.main_arg1))
      ∧ r.2.sem = fun _ => 0)

def quiescent_GluWgradIdeal [hGluWgradIdeal : Cert.GluWgradIdeal.Facts] : Prop :=
  ∀ (m : (ℓ : Loc Cert.GluWgradIdeal.nD Cert.GluWgradIdeal.τ Cert.GluWgradIdeal.sig) → Buf (Elt Ideal) ℓ) (g : Dev Cert.GluWgradIdeal.nD → PrngReg), Pre_GluWgradIdeal m →
    θ_run (Cert.GluWgradIdeal.defs (F := Ideal)) (onTc (τ := Cert.GluWgradIdeal.τ) (Cert.GluWgradIdeal.main (F := Ideal))) ⟨m, fun _ => 0, g⟩ (fun r => (∀ c : Dev Cert.GluWgradIdeal.nD,
      r.2.mem ((c.tc : Thread Cert.GluWgradIdeal.nD Cert.GluWgradIdeal.τ).loc Cert.GluWgradIdeal.main_arg0) = m ((c.tc : Thread Cert.GluWgradIdeal.nD Cert.GluWgradIdeal.τ).loc Cert.GluWgradIdeal.main_arg0)
      ∧ r.2.mem ((c.tc : Thread Cert.GluWgradIdeal.nD Cert.GluWgradIdeal.τ).loc Cert.GluWgradIdeal.main_arg1) = m ((c.tc : Thread Cert.GluWgradIdeal.nD Cert.GluWgradIdeal.τ).loc Cert.GluWgradIdeal.main_arg1))
      ∧ r.2.sem = fun _ => 0)

def quiescent_GluWgradRefIdeal [hGluWgradRefIdeal : Cert.GluWgradRefIdeal.Facts] : Prop :=
  ∀ (m : (ℓ : Loc Cert.GluWgradRefIdeal.nD Cert.GluWgradRefIdeal.τ Cert.GluWgradRefIdeal.sig) → Buf (Elt Ideal) ℓ) (g : Dev Cert.GluWgradRefIdeal.nD → PrngReg), Pre_GluWgradRefIdeal m →
    θ_run (Cert.GluWgradRefIdeal.defs (F := Ideal)) (onTc (τ := Cert.GluWgradRefIdeal.τ) (Cert.GluWgradRefIdeal.main (F := Ideal))) ⟨m, fun _ => 0, g⟩ (fun r => (∀ c : Dev Cert.GluWgradRefIdeal.nD,
      r.2.mem ((c.tc : Thread Cert.GluWgradRefIdeal.nD Cert.GluWgradRefIdeal.τ).loc Cert.GluWgradRefIdeal.main_arg0) = m ((c.tc : Thread Cert.GluWgradRefIdeal.nD Cert.GluWgradRefIdeal.τ).loc Cert.GluWgradRefIdeal.main_arg0)
      ∧ r.2.mem ((c.tc : Thread Cert.GluWgradRefIdeal.nD Cert.GluWgradRefIdeal.τ).loc Cert.GluWgradRefIdeal.main_arg1) = m ((c.tc : Thread Cert.GluWgradRefIdeal.nD Cert.GluWgradRefIdeal.τ).loc Cert.GluWgradRefIdeal.main_arg1))
      ∧ r.2.sem = fun _ => 0)

def quiescent_GluDgrad [hGluDgrad : Cert.GluDgrad.Facts] : Prop :=
  ∀ (m : (ℓ : Loc Cert.GluDgrad.nD Cert.GluDgrad.τ Cert.GluDgrad.sig) → Buf (Elt Bits) ℓ) (g : Dev Cert.GluDgrad.nD → PrngReg), Pre_GluDgrad m →
    θ_run (Cert.GluDgrad.defs (F := Bits)) (onTc (τ := Cert.GluDgrad.τ) (Cert.GluDgrad.main (F := Bits))) ⟨m, fun _ => 0, g⟩ (fun r => (∀ c : Dev Cert.GluDgrad.nD,
      r.2.mem ((c.tc : Thread Cert.GluDgrad.nD Cert.GluDgrad.τ).loc Cert.GluDgrad.main_arg0) = m ((c.tc : Thread Cert.GluDgrad.nD Cert.GluDgrad.τ).loc Cert.GluDgrad.main_arg0)
      ∧ r.2.mem ((c.tc : Thread Cert.GluDgrad.nD Cert.GluDgrad.τ).loc Cert.GluDgrad.main_arg1) = m ((c.tc : Thread Cert.GluDgrad.nD Cert.GluDgrad.τ).loc Cert.GluDgrad.main_arg1)
      ∧ r.2.mem ((c.tc : Thread Cert.GluDgrad.nD Cert.GluDgrad.τ).loc Cert.GluDgrad.main_arg2) = m ((c.tc : Thread Cert.GluDgrad.nD Cert.GluDgrad.τ).loc Cert.GluDgrad.main_arg2))
      ∧ r.2.sem = fun _ => 0)

def quiescent_GluDgradIdeal [hGluDgradIdeal : Cert.GluDgradIdeal.Facts] : Prop :=
  ∀ (m : (ℓ : Loc Cert.GluDgradIdeal.nD Cert.GluDgradIdeal.τ Cert.GluDgradIdeal.sig) → Buf (Elt Ideal) ℓ) (g : Dev Cert.GluDgradIdeal.nD → PrngReg), Pre_GluDgradIdeal m →
    θ_run (Cert.GluDgradIdeal.defs (F := Ideal)) (onTc (τ := Cert.GluDgradIdeal.τ) (Cert.GluDgradIdeal.main (F := Ideal))) ⟨m, fun _ => 0, g⟩ (fun r => (∀ c : Dev Cert.GluDgradIdeal.nD,
      r.2.mem ((c.tc : Thread Cert.GluDgradIdeal.nD Cert.GluDgradIdeal.τ).loc Cert.GluDgradIdeal.main_arg0) = m ((c.tc : Thread Cert.GluDgradIdeal.nD Cert.GluDgradIdeal.τ).loc Cert.GluDgradIdeal.main_arg0)
      ∧ r.2.mem ((c.tc : Thread Cert.GluDgradIdeal.nD Cert.GluDgradIdeal.τ).loc Cert.GluDgradIdeal.main_arg1) = m ((c.tc : Thread Cert.GluDgradIdeal.nD Cert.GluDgradIdeal.τ).loc Cert.GluDgradIdeal.main_arg1)
      ∧ r.2.mem ((c.tc : Thread Cert.GluDgradIdeal.nD Cert.GluDgradIdeal.τ).loc Cert.GluDgradIdeal.main_arg2) = m ((c.tc : Thread Cert.GluDgradIdeal.nD Cert.GluDgradIdeal.τ).loc Cert.GluDgradIdeal.main_arg2))
      ∧ r.2.sem = fun _ => 0)

def quiescent_GluDgradRefIdeal [hGluDgradRefIdeal : Cert.GluDgradRefIdeal.Facts] : Prop :=
  ∀ (m : (ℓ : Loc Cert.GluDgradRefIdeal.nD Cert.GluDgradRefIdeal.τ Cert.GluDgradRefIdeal.sig) → Buf (Elt Ideal) ℓ) (g : Dev Cert.GluDgradRefIdeal.nD → PrngReg), Pre_GluDgradRefIdeal m →
    θ_run (Cert.GluDgradRefIdeal.defs (F := Ideal)) (onTc (τ := Cert.GluDgradRefIdeal.τ) (Cert.GluDgradRefIdeal.main (F := Ideal))) ⟨m, fun _ => 0, g⟩ (fun r => (∀ c : Dev Cert.GluDgradRefIdeal.nD,
      r.2.mem ((c.tc : Thread Cert.GluDgradRefIdeal.nD Cert.GluDgradRefIdeal.τ).loc Cert.GluDgradRefIdeal.main_arg0) = m ((c.tc : Thread Cert.GluDgradRefIdeal.nD Cert.GluDgradRefIdeal.τ).loc Cert.GluDgradRefIdeal.main_arg0)
      ∧ r.2.mem ((c.tc : Thread Cert.GluDgradRefIdeal.nD Cert.GluDgradRefIdeal.τ).loc Cert.GluDgradRefIdeal.main_arg1) = m ((c.tc : Thread Cert.GluDgradRefIdeal.nD Cert.GluDgradRefIdeal.τ).loc Cert.GluDgradRefIdeal.main_arg1)
      ∧ r.2.mem ((c.tc : Thread Cert.GluDgradRefIdeal.nD Cert.GluDgradRefIdeal.τ).loc Cert.GluDgradRefIdeal.main_arg2) = m ((c.tc : Thread Cert.GluDgradRefIdeal.nD Cert.GluDgradRefIdeal.τ).loc Cert.GluDgradRefIdeal.main_arg2))
      ∧ r.2.sem = fun _ => 0)

def quiescent_BInGrad [hBInGrad : Cert.BInGrad.Facts] : Prop :=
  ∀ (m : (ℓ : Loc Cert.BInGrad.nD Cert.BInGrad.τ Cert.BInGrad.sig) → Buf (Elt Bits) ℓ) (g : Dev Cert.BInGrad.nD → PrngReg), Pre_BInGrad m →
    θ_run (Cert.BInGrad.defs (F := Bits)) (onTc (τ := Cert.BInGrad.τ) (Cert.BInGrad.main (F := Bits))) ⟨m, fun _ => 0, g⟩ (fun r => (∀ c : Dev Cert.BInGrad.nD,
      r.2.mem ((c.tc : Thread Cert.BInGrad.nD Cert.BInGrad.τ).loc Cert.BInGrad.main_arg0) = m ((c.tc : Thread Cert.BInGrad.nD Cert.BInGrad.τ).loc Cert.BInGrad.main_arg0))
      ∧ r.2.sem = fun _ => 0)

def quiescent_BInGradIdeal [hBInGradIdeal : Cert.BInGradIdeal.Facts] : Prop :=
  ∀ (m : (ℓ : Loc Cert.BInGradIdeal.nD Cert.BInGradIdeal.τ Cert.BInGradIdeal.sig) → Buf (Elt Ideal) ℓ) (g : Dev Cert.BInGradIdeal.nD → PrngReg), Pre_BInGradIdeal m →
    θ_run (Cert.BInGradIdeal.defs (F := Ideal)) (onTc (τ := Cert.BInGradIdeal.τ) (Cert.BInGradIdeal.main (F := Ideal))) ⟨m, fun _ => 0, g⟩ (fun r => (∀ c : Dev Cert.BInGradIdeal.nD,
      r.2.mem ((c.tc : Thread Cert.BInGradIdeal.nD Cert.BInGradIdeal.τ).loc Cert.BInGradIdeal.main_arg0) = m ((c.tc : Thread Cert.BInGradIdeal.nD Cert.BInGradIdeal.τ).loc Cert.BInGradIdeal.main_arg0))
      ∧ r.2.sem = fun _ => 0)

def quiescent_BInGradRefIdeal [hBInGradRefIdeal : Cert.BInGradRefIdeal.Facts] : Prop :=
  ∀ (m : (ℓ : Loc Cert.BInGradRefIdeal.nD Cert.BInGradRefIdeal.τ Cert.BInGradRefIdeal.sig) → Buf (Elt Ideal) ℓ) (g : Dev Cert.BInGradRefIdeal.nD → PrngReg), Pre_BInGradRefIdeal m →
    θ_run (Cert.BInGradRefIdeal.defs (F := Ideal)) (onTc (τ := Cert.BInGradRefIdeal.τ) (Cert.BInGradRefIdeal.main (F := Ideal))) ⟨m, fun _ => 0, g⟩ (fun r => (∀ c : Dev Cert.BInGradRefIdeal.nD,
      r.2.mem ((c.tc : Thread Cert.BInGradRefIdeal.nD Cert.BInGradRefIdeal.τ).loc Cert.BInGradRefIdeal.main_arg0) = m ((c.tc : Thread Cert.BInGradRefIdeal.nD Cert.BInGradRefIdeal.τ).loc Cert.BInGradRefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_ln_finite [hLnBwdIdeal : Cert.LnBwdIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_ln_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_ln_finite [hLnBwdRefIdeal : Cert.LnBwdRefIdeal.Facts] [hPre_ln_finite : Cert.Pre_ln_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_ln_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_SsmSkipGeluBwd [hSsmSkipGeluBwd : Cert.SsmSkipGeluBwd.Facts] : Prop :=
  ∀ (m : (ℓ : Loc Cert.SsmSkipGeluBwd.nD Cert.SsmSkipGeluBwd.τ Cert.SsmSkipGeluBwd.sig) → Buf (Elt Bits) ℓ) (g : Dev Cert.SsmSkipGeluBwd.nD → PrngReg), Pre_SsmSkipGeluBwd m →
    θ_run (Cert.SsmSkipGeluBwd.defs (F := Bits)) (onTc (τ := Cert.SsmSkipGeluBwd.τ) (Cert.SsmSkipGeluBwd.main (F := Bits))) ⟨m, fun _ => 0, g⟩ (fun r => (∀ c : Dev Cert.SsmSkipGeluBwd.nD,
      r.2.mem ((c.tc : Thread Cert.SsmSkipGeluBwd.nD Cert.SsmSkipGeluBwd.τ).loc Cert.SsmSkipGeluBwd.main_arg0) = m ((c.tc : Thread Cert.SsmSkipGeluBwd.nD Cert.SsmSkipGeluBwd.τ).loc Cert.SsmSkipGeluBwd.main_arg0)
      ∧ r.2.mem ((c.tc : Thread Cert.SsmSkipGeluBwd.nD Cert.SsmSkipGeluBwd.τ).loc Cert.SsmSkipGeluBwd.main_arg1) = m ((c.tc : Thread Cert.SsmSkipGeluBwd.nD Cert.SsmSkipGeluBwd.τ).loc Cert.SsmSkipGeluBwd.main_arg1)
      ∧ r.2.mem ((c.tc : Thread Cert.SsmSkipGeluBwd.nD Cert.SsmSkipGeluBwd.τ).loc Cert.SsmSkipGeluBwd.main_arg2) = m ((c.tc : Thread Cert.SsmSkipGeluBwd.nD Cert.SsmSkipGeluBwd.τ).loc Cert.SsmSkipGeluBwd.main_arg2)
      ∧ r.2.mem ((c.tc : Thread Cert.SsmSkipGeluBwd.nD Cert.SsmSkipGeluBwd.τ).loc Cert.SsmSkipGeluBwd.main_arg3) = m ((c.tc : Thread Cert.SsmSkipGeluBwd.nD Cert.SsmSkipGeluBwd.τ).loc Cert.SsmSkipGeluBwd.main_arg3))
      ∧ r.2.sem = fun _ => 0)

def quiescent_SsmSkipGeluBwdIdeal [hSsmSkipGeluBwdIdeal : Cert.SsmSkipGeluBwdIdeal.Facts] : Prop :=
  ∀ (m : (ℓ : Loc Cert.SsmSkipGeluBwdIdeal.nD Cert.SsmSkipGeluBwdIdeal.τ Cert.SsmSkipGeluBwdIdeal.sig) → Buf (Elt Ideal) ℓ) (g : Dev Cert.SsmSkipGeluBwdIdeal.nD → PrngReg), Pre_SsmSkipGeluBwdIdeal m →
    θ_run (Cert.SsmSkipGeluBwdIdeal.defs (F := Ideal)) (onTc (τ := Cert.SsmSkipGeluBwdIdeal.τ) (Cert.SsmSkipGeluBwdIdeal.main (F := Ideal))) ⟨m, fun _ => 0, g⟩ (fun r => (∀ c : Dev Cert.SsmSkipGeluBwdIdeal.nD,
      r.2.mem ((c.tc : Thread Cert.SsmSkipGeluBwdIdeal.nD Cert.SsmSkipGeluBwdIdeal.τ).loc Cert.SsmSkipGeluBwdIdeal.main_arg0) = m ((c.tc : Thread Cert.SsmSkipGeluBwdIdeal.nD Cert.SsmSkipGeluBwdIdeal.τ).loc Cert.SsmSkipGeluBwdIdeal.main_arg0)
      ∧ r.2.mem ((c.tc : Thread Cert.SsmSkipGeluBwdIdeal.nD Cert.SsmSkipGeluBwdIdeal.τ).loc Cert.SsmSkipGeluBwdIdeal.main_arg1) = m ((c.tc : Thread Cert.SsmSkipGeluBwdIdeal.nD Cert.SsmSkipGeluBwdIdeal.τ).loc Cert.SsmSkipGeluBwdIdeal.main_arg1)
      ∧ r.2.mem ((c.tc : Thread Cert.SsmSkipGeluBwdIdeal.nD Cert.SsmSkipGeluBwdIdeal.τ).loc Cert.SsmSkipGeluBwdIdeal.main_arg2) = m ((c.tc : Thread Cert.SsmSkipGeluBwdIdeal.nD Cert.SsmSkipGeluBwdIdeal.τ).loc Cert.SsmSkipGeluBwdIdeal.main_arg2)
      ∧ r.2.mem ((c.tc : Thread Cert.SsmSkipGeluBwdIdeal.nD Cert.SsmSkipGeluBwdIdeal.τ).loc Cert.SsmSkipGeluBwdIdeal.main_arg3) = m ((c.tc : Thread Cert.SsmSkipGeluBwdIdeal.nD Cert.SsmSkipGeluBwdIdeal.τ).loc Cert.SsmSkipGeluBwdIdeal.main_arg3))
      ∧ r.2.sem = fun _ => 0)

def quiescent_SsmSkipGeluBwdRefIdeal [hSsmSkipGeluBwdRefIdeal : Cert.SsmSkipGeluBwdRefIdeal.Facts] : Prop :=
  ∀ (m : (ℓ : Loc Cert.SsmSkipGeluBwdRefIdeal.nD Cert.SsmSkipGeluBwdRefIdeal.τ Cert.SsmSkipGeluBwdRefIdeal.sig) → Buf (Elt Ideal) ℓ) (g : Dev Cert.SsmSkipGeluBwdRefIdeal.nD → PrngReg), Pre_SsmSkipGeluBwdRefIdeal m →
    θ_run (Cert.SsmSkipGeluBwdRefIdeal.defs (F := Ideal)) (onTc (τ := Cert.SsmSkipGeluBwdRefIdeal.τ) (Cert.SsmSkipGeluBwdRefIdeal.main (F := Ideal))) ⟨m, fun _ => 0, g⟩ (fun r => (∀ c : Dev Cert.SsmSkipGeluBwdRefIdeal.nD,
      r.2.mem ((c.tc : Thread Cert.SsmSkipGeluBwdRefIdeal.nD Cert.SsmSkipGeluBwdRefIdeal.τ).loc Cert.SsmSkipGeluBwdRefIdeal.main_arg0) = m ((c.tc : Thread Cert.SsmSkipGeluBwdRefIdeal.nD Cert.SsmSkipGeluBwdRefIdeal.τ).loc Cert.SsmSkipGeluBwdRefIdeal.main_arg0)
      ∧ r.2.mem ((c.tc : Thread Cert.SsmSkipGeluBwdRefIdeal.nD Cert.SsmSkipGeluBwdRefIdeal.τ).loc Cert.SsmSkipGeluBwdRefIdeal.main_arg1) = m ((c.tc : Thread Cert.SsmSkipGeluBwdRefIdeal.nD Cert.SsmSkipGeluBwdRefIdeal.τ).loc Cert.SsmSkipGeluBwdRefIdeal.main_arg1)
      ∧ r.2.mem ((c.tc : Thread Cert.SsmSkipGeluBwdRefIdeal.nD Cert.SsmSkipGeluBwdRefIdeal.τ).loc Cert.SsmSkipGeluBwdRefIdeal.main_arg2) = m ((c.tc : Thread Cert.SsmSkipGeluBwdRefIdeal.nD Cert.SsmSkipGeluBwdRefIdeal.τ).loc Cert.SsmSkipGeluBwdRefIdeal.main_arg2)
      ∧ r.2.mem ((c.tc : Thread Cert.SsmSkipGeluBwdRefIdeal.nD Cert.SsmSkipGeluBwdRefIdeal.τ).loc Cert.SsmSkipGeluBwdRefIdeal.main_arg3) = m ((c.tc : Thread Cert.SsmSkipGeluBwdRefIdeal.nD Cert.SsmSkipGeluBwdRefIdeal.τ).loc Cert.SsmSkipGeluBwdRefIdeal.main_arg3))
      ∧ r.2.sem = fun _ => 0)

def quiescent_SsmOutDgrad [hSsmOutDgrad : Cert.SsmOutDgrad.Facts] : Prop :=
  ∀ (m : (ℓ : Loc Cert.SsmOutDgrad.nD Cert.SsmOutDgrad.τ Cert.SsmOutDgrad.sig) → Buf (Elt Bits) ℓ) (g : Dev Cert.SsmOutDgrad.nD → PrngReg), Pre_SsmOutDgrad m →
    θ_run (Cert.SsmOutDgrad.defs (F := Bits)) (onTc (τ := Cert.SsmOutDgrad.τ) (Cert.SsmOutDgrad.main (F := Bits))) ⟨m, fun _ => 0, g⟩ (fun r => (∀ c : Dev Cert.SsmOutDgrad.nD,
      r.2.mem ((c.tc : Thread Cert.SsmOutDgrad.nD Cert.SsmOutDgrad.τ).loc Cert.SsmOutDgrad.main_arg0) = m ((c.tc : Thread Cert.SsmOutDgrad.nD Cert.SsmOutDgrad.τ).loc Cert.SsmOutDgrad.main_arg0)
      ∧ r.2.mem ((c.tc : Thread Cert.SsmOutDgrad.nD Cert.SsmOutDgrad.τ).loc Cert.SsmOutDgrad.main_arg1) = m ((c.tc : Thread Cert.SsmOutDgrad.nD Cert.SsmOutDgrad.τ).loc Cert.SsmOutDgrad.main_arg1)
      ∧ r.2.mem ((c.tc : Thread Cert.SsmOutDgrad.nD Cert.SsmOutDgrad.τ).loc Cert.SsmOutDgrad.main_arg2) = m ((c.tc : Thread Cert.SsmOutDgrad.nD Cert.SsmOutDgrad.τ).loc Cert.SsmOutDgrad.main_arg2))
      ∧ r.2.sem = fun _ => 0)

def quiescent_SsmOutDgradIdeal [hSsmOutDgradIdeal : Cert.SsmOutDgradIdeal.Facts] : Prop :=
  ∀ (m : (ℓ : Loc Cert.SsmOutDgradIdeal.nD Cert.SsmOutDgradIdeal.τ Cert.SsmOutDgradIdeal.sig) → Buf (Elt Ideal) ℓ) (g : Dev Cert.SsmOutDgradIdeal.nD → PrngReg), Pre_SsmOutDgradIdeal m →
    θ_run (Cert.SsmOutDgradIdeal.defs (F := Ideal)) (onTc (τ := Cert.SsmOutDgradIdeal.τ) (Cert.SsmOutDgradIdeal.main (F := Ideal))) ⟨m, fun _ => 0, g⟩ (fun r => (∀ c : Dev Cert.SsmOutDgradIdeal.nD,
      r.2.mem ((c.tc : Thread Cert.SsmOutDgradIdeal.nD Cert.SsmOutDgradIdeal.τ).loc Cert.SsmOutDgradIdeal.main_arg0) = m ((c.tc : Thread Cert.SsmOutDgradIdeal.nD Cert.SsmOutDgradIdeal.τ).loc Cert.SsmOutDgradIdeal.main_arg0)
      ∧ r.2.mem ((c.tc : Thread Cert.SsmOutDgradIdeal.nD Cert.SsmOutDgradIdeal.τ).loc Cert.SsmOutDgradIdeal.main_arg1) = m ((c.tc : Thread Cert.SsmOutDgradIdeal.nD Cert.SsmOutDgradIdeal.τ).loc Cert.SsmOutDgradIdeal.main_arg1)
      ∧ r.2.mem ((c.tc : Thread Cert.SsmOutDgradIdeal.nD Cert.SsmOutDgradIdeal.τ).loc Cert.SsmOutDgradIdeal.main_arg2) = m ((c.tc : Thread Cert.SsmOutDgradIdeal.nD Cert.SsmOutDgradIdeal.τ).loc Cert.SsmOutDgradIdeal.main_arg2))
      ∧ r.2.sem = fun _ => 0)

def quiescent_SsmOutDgradRefIdeal [hSsmOutDgradRefIdeal : Cert.SsmOutDgradRefIdeal.Facts] : Prop :=
  ∀ (m : (ℓ : Loc Cert.SsmOutDgradRefIdeal.nD Cert.SsmOutDgradRefIdeal.τ Cert.SsmOutDgradRefIdeal.sig) → Buf (Elt Ideal) ℓ) (g : Dev Cert.SsmOutDgradRefIdeal.nD → PrngReg), Pre_SsmOutDgradRefIdeal m →
    θ_run (Cert.SsmOutDgradRefIdeal.defs (F := Ideal)) (onTc (τ := Cert.SsmOutDgradRefIdeal.τ) (Cert.SsmOutDgradRefIdeal.main (F := Ideal))) ⟨m, fun _ => 0, g⟩ (fun r => (∀ c : Dev Cert.SsmOutDgradRefIdeal.nD,
      r.2.mem ((c.tc : Thread Cert.SsmOutDgradRefIdeal.nD Cert.SsmOutDgradRefIdeal.τ).loc Cert.SsmOutDgradRefIdeal.main_arg0) = m ((c.tc : Thread Cert.SsmOutDgradRefIdeal.nD Cert.SsmOutDgradRefIdeal.τ).loc Cert.SsmOutDgradRefIdeal.main_arg0)
      ∧ r.2.mem ((c.tc : Thread Cert.SsmOutDgradRefIdeal.nD Cert.SsmOutDgradRefIdeal.τ).loc Cert.SsmOutDgradRefIdeal.main_arg1) = m ((c.tc : Thread Cert.SsmOutDgradRefIdeal.nD Cert.SsmOutDgradRefIdeal.τ).loc Cert.SsmOutDgradRefIdeal.main_arg1)
      ∧ r.2.mem ((c.tc : Thread Cert.SsmOutDgradRefIdeal.nD Cert.SsmOutDgradRefIdeal.τ).loc Cert.SsmOutDgradRefIdeal.main_arg2) = m ((c.tc : Thread Cert.SsmOutDgradRefIdeal.nD Cert.SsmOutDgradRefIdeal.τ).loc Cert.SsmOutDgradRefIdeal.main_arg2))
      ∧ r.2.sem = fun _ => 0)

def quiescent_SsmOutWgrad [hSsmOutWgrad : Cert.SsmOutWgrad.Facts] : Prop :=
  ∀ (m : (ℓ : Loc Cert.SsmOutWgrad.nD Cert.SsmOutWgrad.τ Cert.SsmOutWgrad.sig) → Buf (Elt Bits) ℓ) (g : Dev Cert.SsmOutWgrad.nD → PrngReg), Pre_SsmOutWgrad m →
    θ_run (Cert.SsmOutWgrad.defs (F := Bits)) (onTc (τ := Cert.SsmOutWgrad.τ) (Cert.SsmOutWgrad.main (F := Bits))) ⟨m, fun _ => 0, g⟩ (fun r => (∀ c : Dev Cert.SsmOutWgrad.nD,
      r.2.mem ((c.tc : Thread Cert.SsmOutWgrad.nD Cert.SsmOutWgrad.τ).loc Cert.SsmOutWgrad.main_arg0) = m ((c.tc : Thread Cert.SsmOutWgrad.nD Cert.SsmOutWgrad.τ).loc Cert.SsmOutWgrad.main_arg0)
      ∧ r.2.mem ((c.tc : Thread Cert.SsmOutWgrad.nD Cert.SsmOutWgrad.τ).loc Cert.SsmOutWgrad.main_arg1) = m ((c.tc : Thread Cert.SsmOutWgrad.nD Cert.SsmOutWgrad.τ).loc Cert.SsmOutWgrad.main_arg1))
      ∧ r.2.sem = fun _ => 0)

def quiescent_SsmOutWgradIdeal [hSsmOutWgradIdeal : Cert.SsmOutWgradIdeal.Facts] : Prop :=
  ∀ (m : (ℓ : Loc Cert.SsmOutWgradIdeal.nD Cert.SsmOutWgradIdeal.τ Cert.SsmOutWgradIdeal.sig) → Buf (Elt Ideal) ℓ) (g : Dev Cert.SsmOutWgradIdeal.nD → PrngReg), Pre_SsmOutWgradIdeal m →
    θ_run (Cert.SsmOutWgradIdeal.defs (F := Ideal)) (onTc (τ := Cert.SsmOutWgradIdeal.τ) (Cert.SsmOutWgradIdeal.main (F := Ideal))) ⟨m, fun _ => 0, g⟩ (fun r => (∀ c : Dev Cert.SsmOutWgradIdeal.nD,
      r.2.mem ((c.tc : Thread Cert.SsmOutWgradIdeal.nD Cert.SsmOutWgradIdeal.τ).loc Cert.SsmOutWgradIdeal.main_arg0) = m ((c.tc : Thread Cert.SsmOutWgradIdeal.nD Cert.SsmOutWgradIdeal.τ).loc Cert.SsmOutWgradIdeal.main_arg0)
      ∧ r.2.mem ((c.tc : Thread Cert.SsmOutWgradIdeal.nD Cert.SsmOutWgradIdeal.τ).loc Cert.SsmOutWgradIdeal.main_arg1) = m ((c.tc : Thread Cert.SsmOutWgradIdeal.nD Cert.SsmOutWgradIdeal.τ).loc Cert.SsmOutWgradIdeal.main_arg1))
      ∧ r.2.sem = fun _ => 0)

def quiescent_SsmOutWgradRefIdeal [hSsmOutWgradRefIdeal : Cert.SsmOutWgradRefIdeal.Facts] : Prop :=
  ∀ (m : (ℓ : Loc Cert.SsmOutWgradRefIdeal.nD Cert.SsmOutWgradRefIdeal.τ Cert.SsmOutWgradRefIdeal.sig) → Buf (Elt Ideal) ℓ) (g : Dev Cert.SsmOutWgradRefIdeal.nD → PrngReg), Pre_SsmOutWgradRefIdeal m →
    θ_run (Cert.SsmOutWgradRefIdeal.defs (F := Ideal)) (onTc (τ := Cert.SsmOutWgradRefIdeal.τ) (Cert.SsmOutWgradRefIdeal.main (F := Ideal))) ⟨m, fun _ => 0, g⟩ (fun r => (∀ c : Dev Cert.SsmOutWgradRefIdeal.nD,
      r.2.mem ((c.tc : Thread Cert.SsmOutWgradRefIdeal.nD Cert.SsmOutWgradRefIdeal.τ).loc Cert.SsmOutWgradRefIdeal.main_arg0) = m ((c.tc : Thread Cert.SsmOutWgradRefIdeal.nD Cert.SsmOutWgradRefIdeal.τ).loc Cert.SsmOutWgradRefIdeal.main_arg0)
      ∧ r.2.mem ((c.tc : Thread Cert.SsmOutWgradRefIdeal.nD Cert.SsmOutWgradRefIdeal.τ).loc Cert.SsmOutWgradRefIdeal.main_arg1) = m ((c.tc : Thread Cert.SsmOutWgradRefIdeal.nD Cert.SsmOutWgradRefIdeal.τ).loc Cert.SsmOutWgradRefIdeal.main_arg1))
      ∧ r.2.sem = fun _ => 0)

def quiescent_SsmInDgrad [hSsmInDgrad : Cert.SsmInDgrad.Facts] : Prop :=
  ∀ (m : (ℓ : Loc Cert.SsmInDgrad.nD Cert.SsmInDgrad.τ Cert.SsmInDgrad.sig) → Buf (Elt Bits) ℓ) (g : Dev Cert.SsmInDgrad.nD → PrngReg), Pre_SsmInDgrad m →
    θ_run (Cert.SsmInDgrad.defs (F := Bits)) (onTc (τ := Cert.SsmInDgrad.τ) (Cert.SsmInDgrad.main (F := Bits))) ⟨m, fun _ => 0, g⟩ (fun r => (∀ c : Dev Cert.SsmInDgrad.nD,
      r.2.mem ((c.tc : Thread Cert.SsmInDgrad.nD Cert.SsmInDgrad.τ).loc Cert.SsmInDgrad.main_arg0) = m ((c.tc : Thread Cert.SsmInDgrad.nD Cert.SsmInDgrad.τ).loc Cert.SsmInDgrad.main_arg0)
      ∧ r.2.mem ((c.tc : Thread Cert.SsmInDgrad.nD Cert.SsmInDgrad.τ).loc Cert.SsmInDgrad.main_arg1) = m ((c.tc : Thread Cert.SsmInDgrad.nD Cert.SsmInDgrad.τ).loc Cert.SsmInDgrad.main_arg1)
      ∧ r.2.mem ((c.tc : Thread Cert.SsmInDgrad.nD Cert.SsmInDgrad.τ).loc Cert.SsmInDgrad.main_arg2) = m ((c.tc : Thread Cert.SsmInDgrad.nD Cert.SsmInDgrad.τ).loc Cert.SsmInDgrad.main_arg2))
      ∧ r.2.sem = fun _ => 0)

def quiescent_SsmInDgradIdeal [hSsmInDgradIdeal : Cert.SsmInDgradIdeal.Facts] : Prop :=
  ∀ (m : (ℓ : Loc Cert.SsmInDgradIdeal.nD Cert.SsmInDgradIdeal.τ Cert.SsmInDgradIdeal.sig) → Buf (Elt Ideal) ℓ) (g : Dev Cert.SsmInDgradIdeal.nD → PrngReg), Pre_SsmInDgradIdeal m →
    θ_run (Cert.SsmInDgradIdeal.defs (F := Ideal)) (onTc (τ := Cert.SsmInDgradIdeal.τ) (Cert.SsmInDgradIdeal.main (F := Ideal))) ⟨m, fun _ => 0, g⟩ (fun r => (∀ c : Dev Cert.SsmInDgradIdeal.nD,
      r.2.mem ((c.tc : Thread Cert.SsmInDgradIdeal.nD Cert.SsmInDgradIdeal.τ).loc Cert.SsmInDgradIdeal.main_arg0) = m ((c.tc : Thread Cert.SsmInDgradIdeal.nD Cert.SsmInDgradIdeal.τ).loc Cert.SsmInDgradIdeal.main_arg0)
      ∧ r.2.mem ((c.tc : Thread Cert.SsmInDgradIdeal.nD Cert.SsmInDgradIdeal.τ).loc Cert.SsmInDgradIdeal.main_arg1) = m ((c.tc : Thread Cert.SsmInDgradIdeal.nD Cert.SsmInDgradIdeal.τ).loc Cert.SsmInDgradIdeal.main_arg1)
      ∧ r.2.mem ((c.tc : Thread Cert.SsmInDgradIdeal.nD Cert.SsmInDgradIdeal.τ).loc Cert.SsmInDgradIdeal.main_arg2) = m ((c.tc : Thread Cert.SsmInDgradIdeal.nD Cert.SsmInDgradIdeal.τ).loc Cert.SsmInDgradIdeal.main_arg2))
      ∧ r.2.sem = fun _ => 0)

def quiescent_SsmInDgradRefIdeal [hSsmInDgradRefIdeal : Cert.SsmInDgradRefIdeal.Facts] : Prop :=
  ∀ (m : (ℓ : Loc Cert.SsmInDgradRefIdeal.nD Cert.SsmInDgradRefIdeal.τ Cert.SsmInDgradRefIdeal.sig) → Buf (Elt Ideal) ℓ) (g : Dev Cert.SsmInDgradRefIdeal.nD → PrngReg), Pre_SsmInDgradRefIdeal m →
    θ_run (Cert.SsmInDgradRefIdeal.defs (F := Ideal)) (onTc (τ := Cert.SsmInDgradRefIdeal.τ) (Cert.SsmInDgradRefIdeal.main (F := Ideal))) ⟨m, fun _ => 0, g⟩ (fun r => (∀ c : Dev Cert.SsmInDgradRefIdeal.nD,
      r.2.mem ((c.tc : Thread Cert.SsmInDgradRefIdeal.nD Cert.SsmInDgradRefIdeal.τ).loc Cert.SsmInDgradRefIdeal.main_arg0) = m ((c.tc : Thread Cert.SsmInDgradRefIdeal.nD Cert.SsmInDgradRefIdeal.τ).loc Cert.SsmInDgradRefIdeal.main_arg0)
      ∧ r.2.mem ((c.tc : Thread Cert.SsmInDgradRefIdeal.nD Cert.SsmInDgradRefIdeal.τ).loc Cert.SsmInDgradRefIdeal.main_arg1) = m ((c.tc : Thread Cert.SsmInDgradRefIdeal.nD Cert.SsmInDgradRefIdeal.τ).loc Cert.SsmInDgradRefIdeal.main_arg1)
      ∧ r.2.mem ((c.tc : Thread Cert.SsmInDgradRefIdeal.nD Cert.SsmInDgradRefIdeal.τ).loc Cert.SsmInDgradRefIdeal.main_arg2) = m ((c.tc : Thread Cert.SsmInDgradRefIdeal.nD Cert.SsmInDgradRefIdeal.τ).loc Cert.SsmInDgradRefIdeal.main_arg2))
      ∧ r.2.sem = fun _ => 0)

def quiescent_SsmInWgrad [hSsmInWgrad : Cert.SsmInWgrad.Facts] : Prop :=
  ∀ (m : (ℓ : Loc Cert.SsmInWgrad.nD Cert.SsmInWgrad.τ Cert.SsmInWgrad.sig) → Buf (Elt Bits) ℓ) (g : Dev Cert.SsmInWgrad.nD → PrngReg), Pre_SsmInWgrad m →
    θ_run (Cert.SsmInWgrad.defs (F := Bits)) (onTc (τ := Cert.SsmInWgrad.τ) (Cert.SsmInWgrad.main (F := Bits))) ⟨m, fun _ => 0, g⟩ (fun r => (∀ c : Dev Cert.SsmInWgrad.nD,
      r.2.mem ((c.tc : Thread Cert.SsmInWgrad.nD Cert.SsmInWgrad.τ).loc Cert.SsmInWgrad.main_arg0) = m ((c.tc : Thread Cert.SsmInWgrad.nD Cert.SsmInWgrad.τ).loc Cert.SsmInWgrad.main_arg0)
      ∧ r.2.mem ((c.tc : Thread Cert.SsmInWgrad.nD Cert.SsmInWgrad.τ).loc Cert.SsmInWgrad.main_arg1) = m ((c.tc : Thread Cert.SsmInWgrad.nD Cert.SsmInWgrad.τ).loc Cert.SsmInWgrad.main_arg1))
      ∧ r.2.sem = fun _ => 0)

def quiescent_SsmInWgradIdeal [hSsmInWgradIdeal : Cert.SsmInWgradIdeal.Facts] : Prop :=
  ∀ (m : (ℓ : Loc Cert.SsmInWgradIdeal.nD Cert.SsmInWgradIdeal.τ Cert.SsmInWgradIdeal.sig) → Buf (Elt Ideal) ℓ) (g : Dev Cert.SsmInWgradIdeal.nD → PrngReg), Pre_SsmInWgradIdeal m →
    θ_run (Cert.SsmInWgradIdeal.defs (F := Ideal)) (onTc (τ := Cert.SsmInWgradIdeal.τ) (Cert.SsmInWgradIdeal.main (F := Ideal))) ⟨m, fun _ => 0, g⟩ (fun r => (∀ c : Dev Cert.SsmInWgradIdeal.nD,
      r.2.mem ((c.tc : Thread Cert.SsmInWgradIdeal.nD Cert.SsmInWgradIdeal.τ).loc Cert.SsmInWgradIdeal.main_arg0) = m ((c.tc : Thread Cert.SsmInWgradIdeal.nD Cert.SsmInWgradIdeal.τ).loc Cert.SsmInWgradIdeal.main_arg0)
      ∧ r.2.mem ((c.tc : Thread Cert.SsmInWgradIdeal.nD Cert.SsmInWgradIdeal.τ).loc Cert.SsmInWgradIdeal.main_arg1) = m ((c.tc : Thread Cert.SsmInWgradIdeal.nD Cert.SsmInWgradIdeal.τ).loc Cert.SsmInWgradIdeal.main_arg1))
      ∧ r.2.sem = fun _ => 0)

def quiescent_SsmInWgradRefIdeal [hSsmInWgradRefIdeal : Cert.SsmInWgradRefIdeal.Facts] : Prop :=
  ∀ (m : (ℓ : Loc Cert.SsmInWgradRefIdeal.nD Cert.SsmInWgradRefIdeal.τ Cert.SsmInWgradRefIdeal.sig) → Buf (Elt Ideal) ℓ) (g : Dev Cert.SsmInWgradRefIdeal.nD → PrngReg), Pre_SsmInWgradRefIdeal m →
    θ_run (Cert.SsmInWgradRefIdeal.defs (F := Ideal)) (onTc (τ := Cert.SsmInWgradRefIdeal.τ) (Cert.SsmInWgradRefIdeal.main (F := Ideal))) ⟨m, fun _ => 0, g⟩ (fun r => (∀ c : Dev Cert.SsmInWgradRefIdeal.nD,
      r.2.mem ((c.tc : Thread Cert.SsmInWgradRefIdeal.nD Cert.SsmInWgradRefIdeal.τ).loc Cert.SsmInWgradRefIdeal.main_arg0) = m ((c.tc : Thread Cert.SsmInWgradRefIdeal.nD Cert.SsmInWgradRefIdeal.τ).loc Cert.SsmInWgradRefIdeal.main_arg0)
      ∧ r.2.mem ((c.tc : Thread Cert.SsmInWgradRefIdeal.nD Cert.SsmInWgradRefIdeal.τ).loc Cert.SsmInWgradRefIdeal.main_arg1) = m ((c.tc : Thread Cert.SsmInWgradRefIdeal.nD Cert.SsmInWgradRefIdeal.τ).loc Cert.SsmInWgradRefIdeal.main_arg1))
      ∧ r.2.sem = fun _ => 0)

def quiescent_SsmDuc [hSsmDuc : Cert.SsmDuc.Facts] : Prop :=
  ∀ (m : (ℓ : Loc Cert.SsmDuc.nD Cert.SsmDuc.τ Cert.SsmDuc.sig) → Buf (Elt Bits) ℓ) (g : Dev Cert.SsmDuc.nD → PrngReg), Pre_SsmDuc m →
    θ_run (Cert.SsmDuc.defs (F := Bits)) (onTc (τ := Cert.SsmDuc.τ) (Cert.SsmDuc.main (F := Bits))) ⟨m, fun _ => 0, g⟩ (fun r => (∀ c : Dev Cert.SsmDuc.nD,
      r.2.mem ((c.tc : Thread Cert.SsmDuc.nD Cert.SsmDuc.τ).loc Cert.SsmDuc.main_arg0) = m ((c.tc : Thread Cert.SsmDuc.nD Cert.SsmDuc.τ).loc Cert.SsmDuc.main_arg0)
      ∧ r.2.mem ((c.tc : Thread Cert.SsmDuc.nD Cert.SsmDuc.τ).loc Cert.SsmDuc.main_arg1) = m ((c.tc : Thread Cert.SsmDuc.nD Cert.SsmDuc.τ).loc Cert.SsmDuc.main_arg1))
      ∧ r.2.sem = fun _ => 0)

def quiescent_SsmDucIdeal [hSsmDucIdeal : Cert.SsmDucIdeal.Facts] : Prop :=
  ∀ (m : (ℓ : Loc Cert.SsmDucIdeal.nD Cert.SsmDucIdeal.τ Cert.SsmDucIdeal.sig) → Buf (Elt Ideal) ℓ) (g : Dev Cert.SsmDucIdeal.nD → PrngReg), Pre_SsmDucIdeal m →
    θ_run (Cert.SsmDucIdeal.defs (F := Ideal)) (onTc (τ := Cert.SsmDucIdeal.τ) (Cert.SsmDucIdeal.main (F := Ideal))) ⟨m, fun _ => 0, g⟩ (fun r => (∀ c : Dev Cert.SsmDucIdeal.nD,
      r.2.mem ((c.tc : Thread Cert.SsmDucIdeal.nD Cert.SsmDucIdeal.τ).loc Cert.SsmDucIdeal.main_arg0) = m ((c.tc : Thread Cert.SsmDucIdeal.nD Cert.SsmDucIdeal.τ).loc Cert.SsmDucIdeal.main_arg0)
      ∧ r.2.mem ((c.tc : Thread Cert.SsmDucIdeal.nD Cert.SsmDucIdeal.τ).loc Cert.SsmDucIdeal.main_arg1) = m ((c.tc : Thread Cert.SsmDucIdeal.nD Cert.SsmDucIdeal.τ).loc Cert.SsmDucIdeal.main_arg1))
      ∧ r.2.sem = fun _ => 0)

def quiescent_SsmDucRefIdeal [hSsmDucRefIdeal : Cert.SsmDucRefIdeal.Facts] : Prop :=
  ∀ (m : (ℓ : Loc Cert.SsmDucRefIdeal.nD Cert.SsmDucRefIdeal.τ Cert.SsmDucRefIdeal.sig) → Buf (Elt Ideal) ℓ) (g : Dev Cert.SsmDucRefIdeal.nD → PrngReg), Pre_SsmDucRefIdeal m →
    θ_run (Cert.SsmDucRefIdeal.defs (F := Ideal)) (onTc (τ := Cert.SsmDucRefIdeal.τ) (Cert.SsmDucRefIdeal.main (F := Ideal))) ⟨m, fun _ => 0, g⟩ (fun r => (∀ c : Dev Cert.SsmDucRefIdeal.nD,
      r.2.mem ((c.tc : Thread Cert.SsmDucRefIdeal.nD Cert.SsmDucRefIdeal.τ).loc Cert.SsmDucRefIdeal.main_arg0) = m ((c.tc : Thread Cert.SsmDucRefIdeal.nD Cert.SsmDucRefIdeal.τ).loc Cert.SsmDucRefIdeal.main_arg0)
      ∧ r.2.mem ((c.tc : Thread Cert.SsmDucRefIdeal.nD Cert.SsmDucRefIdeal.τ).loc Cert.SsmDucRefIdeal.main_arg1) = m ((c.tc : Thread Cert.SsmDucRefIdeal.nD Cert.SsmDucRefIdeal.τ).loc Cert.SsmDucRefIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1)
      ∧ r.2.mem ((c.tc : Thread Cert.SsmIn.nD Cert.SsmIn.τ).loc Cert.SsmIn.main_arg2) = m ((c.tc : Thread Cert.SsmIn.nD Cert.SsmIn.τ).loc Cert.SsmIn.main_arg2))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
      ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1)
      ∧ r.2.mem ((c.tc : Thread Cert.SsmInRefIdeal.nD Cert.SsmInRefIdeal.τ).loc Cert.SsmInRefIdeal.main_arg2) = m ((c.tc : Thread Cert.SsmInRefIdeal.nD Cert.SsmInRefIdeal.τ).loc Cert.SsmInRefIdeal.main_arg2))
      ∧ r.2.sem = fun _ => 0)

def quiescent_SsmSkipGelu [hSsmSkipGelu : Cert.SsmSkipGelu.Facts] : Prop :=
  ∀ (m : (ℓ : Loc Cert.SsmSkipGelu.nD Cert.SsmSkipGelu.τ Cert.SsmSkipGelu.sig) → Buf (Elt Bits) ℓ) (g : Dev Cert.SsmSkipGelu.nD → PrngReg), Pre_SsmSkipGelu m →
    θ_run (Cert.SsmSkipGelu.defs (F := Bits)) (onTc (τ := Cert.SsmSkipGelu.τ) (Cert.SsmSkipGelu.main (F := Bits))) ⟨m, fun _ => 0, g⟩ (fun r => (∀ c : Dev Cert.SsmSkipGelu.nD,
      r.2.mem ((c.tc : Thread Cert.SsmSkipGelu.nD Cert.SsmSkipGelu.τ).loc Cert.SsmSkipGelu.main_arg0) = m ((c.tc : Thread Cert.SsmSkipGelu.nD Cert.SsmSkipGelu.τ).loc Cert.SsmSkipGelu.main_arg0)
      ∧ r.2.mem ((c.tc : Thread Cert.SsmSkipGelu.nD Cert.SsmSkipGelu.τ).loc Cert.SsmSkipGelu.main_arg1) = m ((c.tc : Thread Cert.SsmSkipGelu.nD Cert.SsmSkipGelu.τ).loc Cert.SsmSkipGelu.main_arg1)
      ∧ r.2.mem ((c.tc : Thread Cert.SsmSkipGelu.nD Cert.SsmSkipGelu.τ).loc Cert.SsmSkipGelu.main_arg2) = m ((c.tc : Thread Cert.SsmSkipGelu.nD Cert.SsmSkipGelu.τ).loc Cert.SsmSkipGelu.main_arg2))
      ∧ r.2.sem = fun _ => 0)

def quiescent_SsmSkipGeluIdeal [hSsmSkipGeluIdeal : Cert.SsmSkipGeluIdeal.Facts] : Prop :=
  ∀ (m : (ℓ : Loc Cert.SsmSkipGeluIdeal.nD Cert.SsmSkipGeluIdeal.τ Cert.SsmSkipGeluIdeal.sig) → Buf (Elt Ideal) ℓ) (g : Dev Cert.SsmSkipGeluIdeal.nD → PrngReg), Pre_SsmSkipGeluIdeal m →
    θ_run (Cert.SsmSkipGeluIdeal.defs (F := Ideal)) (onTc (τ := Cert.SsmSkipGeluIdeal.τ) (Cert.SsmSkipGeluIdeal.main (F := Ideal))) ⟨m, fun _ => 0, g⟩ (fun r => (∀ c : Dev Cert.SsmSkipGeluIdeal.nD,
      r.2.mem ((c.tc : Thread Cert.SsmSkipGeluIdeal.nD Cert.SsmSkipGeluIdeal.τ).loc Cert.SsmSkipGeluIdeal.main_arg0) = m ((c.tc : Thread Cert.SsmSkipGeluIdeal.nD Cert.SsmSkipGeluIdeal.τ).loc Cert.SsmSkipGeluIdeal.main_arg0)
      ∧ r.2.mem ((c.tc : Thread Cert.SsmSkipGeluIdeal.nD Cert.SsmSkipGeluIdeal.τ).loc Cert.SsmSkipGeluIdeal.main_arg1) = m ((c.tc : Thread Cert.SsmSkipGeluIdeal.nD Cert.SsmSkipGeluIdeal.τ).loc Cert.SsmSkipGeluIdeal.main_arg1)
      ∧ r.2.mem ((c.tc : Thread Cert.SsmSkipGeluIdeal.nD Cert.SsmSkipGeluIdeal.τ).loc Cert.SsmSkipGeluIdeal.main_arg2) = m ((c.tc : Thread Cert.SsmSkipGeluIdeal.nD Cert.SsmSkipGeluIdeal.τ).loc Cert.SsmSkipGeluIdeal.main_arg2))
      ∧ r.2.sem = fun _ => 0)

def quiescent_SsmSkipGeluRefIdeal [hSsmSkipGeluRefIdeal : Cert.SsmSkipGeluRefIdeal.Facts] : Prop :=
  ∀ (m : (ℓ : Loc Cert.SsmSkipGeluRefIdeal.nD Cert.SsmSkipGeluRefIdeal.τ Cert.SsmSkipGeluRefIdeal.sig) → Buf (Elt Ideal) ℓ) (g : Dev Cert.SsmSkipGeluRefIdeal.nD → PrngReg), Pre_SsmSkipGeluRefIdeal m →
    θ_run (Cert.SsmSkipGeluRefIdeal.defs (F := Ideal)) (onTc (τ := Cert.SsmSkipGeluRefIdeal.τ) (Cert.SsmSkipGeluRefIdeal.main (F := Ideal))) ⟨m, fun _ => 0, g⟩ (fun r => (∀ c : Dev Cert.SsmSkipGeluRefIdeal.nD,
      r.2.mem ((c.tc : Thread Cert.SsmSkipGeluRefIdeal.nD Cert.SsmSkipGeluRefIdeal.τ).loc Cert.SsmSkipGeluRefIdeal.main_arg0) = m ((c.tc : Thread Cert.SsmSkipGeluRefIdeal.nD Cert.SsmSkipGeluRefIdeal.τ).loc Cert.SsmSkipGeluRefIdeal.main_arg0)
      ∧ r.2.mem ((c.tc : Thread Cert.SsmSkipGeluRefIdeal.nD Cert.SsmSkipGeluRefIdeal.τ).loc Cert.SsmSkipGeluRefIdeal.main_arg1) = m ((c.tc : Thread Cert.SsmSkipGeluRefIdeal.nD Cert.SsmSkipGeluRefIdeal.τ).loc Cert.SsmSkipGeluRefIdeal.main_arg1)
      ∧ r.2.mem ((c.tc : Thread Cert.SsmSkipGeluRefIdeal.nD Cert.SsmSkipGeluRefIdeal.τ).loc Cert.SsmSkipGeluRefIdeal.main_arg2) = m ((c.tc : Thread Cert.SsmSkipGeluRefIdeal.nD Cert.SsmSkipGeluRefIdeal.τ).loc Cert.SsmSkipGeluRefIdeal.main_arg2))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_AdamwWIn [hAdamwWIn : Cert.AdamwWIn.Facts] : Prop :=
  ∀ (m : (ℓ : Loc Cert.AdamwWIn.nD Cert.AdamwWIn.τ Cert.AdamwWIn.sig) → Buf (Elt Bits) ℓ) (g : Dev Cert.AdamwWIn.nD → PrngReg), Pre_AdamwWIn m →
    θ_run (Cert.AdamwWIn.defs (F := Bits)) (onTc (τ := Cert.AdamwWIn.τ) (Cert.AdamwWIn.main (F := Bits))) ⟨m, fun _ => 0, g⟩ (fun r => (∀ c : Dev Cert.AdamwWIn.nD,
      r.2.mem ((c.tc : Thread Cert.AdamwWIn.nD Cert.AdamwWIn.τ).loc Cert.AdamwWIn.main_arg0) = m ((c.tc : Thread Cert.AdamwWIn.nD Cert.AdamwWIn.τ).loc Cert.AdamwWIn.main_arg0)
      ∧ r.2.mem ((c.tc : Thread Cert.AdamwWIn.nD Cert.AdamwWIn.τ).loc Cert.AdamwWIn.main_arg1) = m ((c.tc : Thread Cert.AdamwWIn.nD Cert.AdamwWIn.τ).loc Cert.AdamwWIn.main_arg1)
      ∧ r.2.mem ((c.tc : Thread Cert.AdamwWIn.nD Cert.AdamwWIn.τ).loc Cert.AdamwWIn.main_arg2) = m ((c.tc : Thread Cert.AdamwWIn.nD Cert.AdamwWIn.τ).loc Cert.AdamwWIn.main_arg2)
      ∧ r.2.mem ((c.tc : Thread Cert.AdamwWIn.nD Cert.AdamwWIn.τ).loc Cert.AdamwWIn.main_arg3) = m ((c.tc : Thread Cert.AdamwWIn.nD Cert.AdamwWIn.τ).loc Cert.AdamwWIn.main_arg3))
      ∧ r.2.sem = fun _ => 0)

def quiescent_AdamwWInIdeal [hAdamwWInIdeal : Cert.AdamwWInIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg), Pre_AdamwWInIdeal m →
    θ_run (Cert.AdamwWInIdeal.defs (F := Ideal)) (onTc (τ := Cert.AdamwWInIdeal.τ) (Cert.AdamwWInIdeal.main (F := Ideal))) ⟨m, fun _ => 0, g⟩ (fun r => (∀ c : Dev Cert.AdamwWInIdeal.nD,
      r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
      ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
      ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
      ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ r.2.sem = fun _ => 0)

def quiescent_AdamwWInRefIdeal [hAdamwWInRefIdeal : Cert.AdamwWInRefIdeal.Facts] : Prop :=
  ∀ (m : (ℓ : Loc Cert.AdamwWInRefIdeal.nD Cert.AdamwWInRefIdeal.τ Cert.AdamwWInRefIdeal.sig) → Buf (Elt Ideal) ℓ) (g : Dev Cert.AdamwWInRefIdeal.nD → PrngReg), Pre_AdamwWInRefIdeal m →
    θ_run (Cert.AdamwWInRefIdeal.defs (F := Ideal)) (onTc (τ := Cert.AdamwWInRefIdeal.τ) (Cert.AdamwWInRefIdeal.main (F := Ideal))) ⟨m, fun _ => 0, g⟩ (fun r => (∀ c : Dev Cert.AdamwWInRefIdeal.nD,
      r.2.mem ((c.tc : Thread Cert.AdamwWInRefIdeal.nD Cert.AdamwWInRefIdeal.τ).loc Cert.AdamwWInRefIdeal.main_arg0) = m ((c.tc : Thread Cert.AdamwWInRefIdeal.nD Cert.AdamwWInRefIdeal.τ).loc Cert.AdamwWInRefIdeal.main_arg0)
      ∧ r.2.mem ((c.tc : Thread Cert.AdamwWInRefIdeal.nD Cert.AdamwWInRefIdeal.τ).loc Cert.AdamwWInRefIdeal.main_arg1) = m ((c.tc : Thread Cert.AdamwWInRefIdeal.nD Cert.AdamwWInRefIdeal.τ).loc Cert.AdamwWInRefIdeal.main_arg1)
      ∧ r.2.mem ((c.tc : Thread Cert.AdamwWInRefIdeal.nD Cert.AdamwWInRefIdeal.τ).loc Cert.AdamwWInRefIdeal.main_arg2) = m ((c.tc : Thread Cert.AdamwWInRefIdeal.nD Cert.AdamwWInRefIdeal.τ).loc Cert.AdamwWInRefIdeal.main_arg2)
      ∧ r.2.mem ((c.tc : Thread Cert.AdamwWInRefIdeal.nD Cert.AdamwWInRefIdeal.τ).loc Cert.AdamwWInRefIdeal.main_arg3) = m ((c.tc : Thread Cert.AdamwWInRefIdeal.nD Cert.AdamwWInRefIdeal.τ).loc Cert.AdamwWInRefIdeal.main_arg3))
      ∧ r.2.sem = fun _ => 0)

def quiescent_AdamwWGlu [hAdamwWGlu : Cert.AdamwWGlu.Facts] : Prop :=
  ∀ (m : (ℓ : Loc Cert.AdamwWGlu.nD Cert.AdamwWGlu.τ Cert.AdamwWGlu.sig) → Buf (Elt Bits) ℓ) (g : Dev Cert.AdamwWGlu.nD → PrngReg), Pre_AdamwWGlu m →
    θ_run (Cert.AdamwWGlu.defs (F := Bits)) (onTc (τ := Cert.AdamwWGlu.τ) (Cert.AdamwWGlu.main (F := Bits))) ⟨m, fun _ => 0, g⟩ (fun r => (∀ c : Dev Cert.AdamwWGlu.nD,
      r.2.mem ((c.tc : Thread Cert.AdamwWGlu.nD Cert.AdamwWGlu.τ).loc Cert.AdamwWGlu.main_arg0) = m ((c.tc : Thread Cert.AdamwWGlu.nD Cert.AdamwWGlu.τ).loc Cert.AdamwWGlu.main_arg0)
      ∧ r.2.mem ((c.tc : Thread Cert.AdamwWGlu.nD Cert.AdamwWGlu.τ).loc Cert.AdamwWGlu.main_arg1) = m ((c.tc : Thread Cert.AdamwWGlu.nD Cert.AdamwWGlu.τ).loc Cert.AdamwWGlu.main_arg1)
      ∧ r.2.mem ((c.tc : Thread Cert.AdamwWGlu.nD Cert.AdamwWGlu.τ).loc Cert.AdamwWGlu.main_arg2) = m ((c.tc : Thread Cert.AdamwWGlu.nD Cert.AdamwWGlu.τ).loc Cert.AdamwWGlu.main_arg2)
      ∧ r.2.mem ((c.tc : Thread Cert.AdamwWGlu.nD Cert.AdamwWGlu.τ).loc Cert.AdamwWGlu.main_arg3) = m ((c.tc : Thread Cert.AdamwWGlu.nD Cert.AdamwWGlu.τ).loc Cert.AdamwWGlu.main_arg3))
      ∧ r.2.sem = fun _ => 0)

def quiescent_AdamwWGluIdeal [hAdamwWGluIdeal : Cert.AdamwWGluIdeal.Facts] : Prop :=
  ∀ (m : (ℓ : Loc Cert.AdamwWGluIdeal.nD Cert.AdamwWGluIdeal.τ Cert.AdamwWGluIdeal.sig) → Buf (Elt Ideal) ℓ) (g : Dev Cert.AdamwWGluIdeal.nD → PrngReg), Pre_AdamwWGluIdeal m →
    θ_run (Cert.AdamwWGluIdeal.defs (F := Ideal)) (onTc (τ := Cert.AdamwWGluIdeal.τ) (Cert.AdamwWGluIdeal.main (F := Ideal))) ⟨m, fun _ => 0, g⟩ (fun r => (∀ c : Dev Cert.AdamwWGluIdeal.nD,
      r.2.mem ((c.tc : Thread Cert.AdamwWGluIdeal.nD Cert.AdamwWGluIdeal.τ).loc Cert.AdamwWGluIdeal.main_arg0) = m ((c.tc : Thread Cert.AdamwWGluIdeal.nD Cert.AdamwWGluIdeal.τ).loc Cert.AdamwWGluIdeal.main_arg0)
      ∧ r.2.mem ((c.tc : Thread Cert.AdamwWGluIdeal.nD Cert.AdamwWGluIdeal.τ).loc Cert.AdamwWGluIdeal.main_arg1) = m ((c.tc : Thread Cert.AdamwWGluIdeal.nD Cert.AdamwWGluIdeal.τ).loc Cert.AdamwWGluIdeal.main_arg1)
      ∧ r.2.mem ((c.tc : Thread Cert.AdamwWGluIdeal.nD Cert.AdamwWGluIdeal.τ).loc Cert.AdamwWGluIdeal.main_arg2) = m ((c.tc : Thread Cert.AdamwWGluIdeal.nD Cert.AdamwWGluIdeal.τ).loc Cert.AdamwWGluIdeal.main_arg2)
      ∧ r.2.mem ((c.tc : Thread Cert.AdamwWGluIdeal.nD Cert.AdamwWGluIdeal.τ).loc Cert.AdamwWGluIdeal.main_arg3) = m ((c.tc : Thread Cert.AdamwWGluIdeal.nD Cert.AdamwWGluIdeal.τ).loc Cert.AdamwWGluIdeal.main_arg3))
      ∧ r.2.sem = fun _ => 0)

def quiescent_AdamwWGluRefIdeal [hAdamwWGluRefIdeal : Cert.AdamwWGluRefIdeal.Facts] : Prop :=
  ∀ (m : (ℓ : Loc Cert.AdamwWGluRefIdeal.nD Cert.AdamwWGluRefIdeal.τ Cert.AdamwWGluRefIdeal.sig) → Buf (Elt Ideal) ℓ) (g : Dev Cert.AdamwWGluRefIdeal.nD → PrngReg), Pre_AdamwWGluRefIdeal m →
    θ_run (Cert.AdamwWGluRefIdeal.defs (F := Ideal)) (onTc (τ := Cert.AdamwWGluRefIdeal.τ) (Cert.AdamwWGluRefIdeal.main (F := Ideal))) ⟨m, fun _ => 0, g⟩ (fun r => (∀ c : Dev Cert.AdamwWGluRefIdeal.nD,
      r.2.mem ((c.tc : Thread Cert.AdamwWGluRefIdeal.nD Cert.AdamwWGluRefIdeal.τ).loc Cert.AdamwWGluRefIdeal.main_arg0) = m ((c.tc : Thread Cert.AdamwWGluRefIdeal.nD Cert.AdamwWGluRefIdeal.τ).loc Cert.AdamwWGluRefIdeal.main_arg0)
      ∧ r.2.mem ((c.tc : Thread Cert.AdamwWGluRefIdeal.nD Cert.AdamwWGluRefIdeal.τ).loc Cert.AdamwWGluRefIdeal.main_arg1) = m ((c.tc : Thread Cert.AdamwWGluRefIdeal.nD Cert.AdamwWGluRefIdeal.τ).loc Cert.AdamwWGluRefIdeal.main_arg1)
      ∧ r.2.mem ((c.tc : Thread Cert.AdamwWGluRefIdeal.nD Cert.AdamwWGluRefIdeal.τ).loc Cert.AdamwWGluRefIdeal.main_arg2) = m ((c.tc : Thread Cert.AdamwWGluRefIdeal.nD Cert.AdamwWGluRefIdeal.τ).loc Cert.AdamwWGluRefIdeal.main_arg2)
      ∧ r.2.mem ((c.tc : Thread Cert.AdamwWGluRefIdeal.nD Cert.AdamwWGluRefIdeal.τ).loc Cert.AdamwWGluRefIdeal.main_arg3) = m ((c.tc : Thread Cert.AdamwWGluRefIdeal.nD Cert.AdamwWGluRefIdeal.τ).loc Cert.AdamwWGluRefIdeal.main_arg3))
      ∧ r.2.sem = fun _ => 0)

def quiescent_AdamwWPa [hAdamwWPa : Cert.AdamwWPa.Facts] : Prop :=
  ∀ (m : (ℓ : Loc Cert.AdamwWPa.nD Cert.AdamwWPa.τ Cert.AdamwWPa.sig) → Buf (Elt Bits) ℓ) (g : Dev Cert.AdamwWPa.nD → PrngReg), Pre_AdamwWPa m →
    θ_run (Cert.AdamwWPa.defs (F := Bits)) (onTc (τ := Cert.AdamwWPa.τ) (Cert.AdamwWPa.main (F := Bits))) ⟨m, fun _ => 0, g⟩ (fun r => (∀ c : Dev Cert.AdamwWPa.nD,
      r.2.mem ((c.tc : Thread Cert.AdamwWPa.nD Cert.AdamwWPa.τ).loc Cert.AdamwWPa.main_arg0) = m ((c.tc : Thread Cert.AdamwWPa.nD Cert.AdamwWPa.τ).loc Cert.AdamwWPa.main_arg0)
      ∧ r.2.mem ((c.tc : Thread Cert.AdamwWPa.nD Cert.AdamwWPa.τ).loc Cert.AdamwWPa.main_arg1) = m ((c.tc : Thread Cert.AdamwWPa.nD Cert.AdamwWPa.τ).loc Cert.AdamwWPa.main_arg1)
      ∧ r.2.mem ((c.tc : Thread Cert.AdamwWPa.nD Cert.AdamwWPa.τ).loc Cert.AdamwWPa.main_arg2) = m ((c.tc : Thread Cert.AdamwWPa.nD Cert.AdamwWPa.τ).loc Cert.AdamwWPa.main_arg2)
      ∧ r.2.mem ((c.tc : Thread Cert.AdamwWPa.nD Cert.AdamwWPa.τ).loc Cert.AdamwWPa.main_arg3) = m ((c.tc : Thread Cert.AdamwWPa.nD Cert.AdamwWPa.τ).loc Cert.AdamwWPa.main_arg3))
      ∧ r.2.sem = fun _ => 0)

def quiescent_AdamwWPaIdeal [hAdamwWPaIdeal : Cert.AdamwWPaIdeal.Facts] : Prop :=
  ∀ (m : (ℓ : Loc Cert.AdamwWPaIdeal.nD Cert.AdamwWPaIdeal.τ Cert.AdamwWPaIdeal.sig) → Buf (Elt Ideal) ℓ) (g : Dev Cert.AdamwWPaIdeal.nD → PrngReg), Pre_AdamwWPaIdeal m →
    θ_run (Cert.AdamwWPaIdeal.defs (F := Ideal)) (onTc (τ := Cert.AdamwWPaIdeal.τ) (Cert.AdamwWPaIdeal.main (F := Ideal))) ⟨m, fun _ => 0, g⟩ (fun r => (∀ c : Dev Cert.AdamwWPaIdeal.nD,
      r.2.mem ((c.tc : Thread Cert.AdamwWPaIdeal.nD Cert.AdamwWPaIdeal.τ).loc Cert.AdamwWPaIdeal.main_arg0) = m ((c.tc : Thread Cert.AdamwWPaIdeal.nD Cert.AdamwWPaIdeal.τ).loc Cert.AdamwWPaIdeal.main_arg0)
      ∧ r.2.mem ((c.tc : Thread Cert.AdamwWPaIdeal.nD Cert.AdamwWPaIdeal.τ).loc Cert.AdamwWPaIdeal.main_arg1) = m ((c.tc : Thread Cert.AdamwWPaIdeal.nD Cert.AdamwWPaIdeal.τ).loc Cert.AdamwWPaIdeal.main_arg1)
      ∧ r.2.mem ((c.tc : Thread Cert.AdamwWPaIdeal.nD Cert.AdamwWPaIdeal.τ).loc Cert.AdamwWPaIdeal.main_arg2) = m ((c.tc : Thread Cert.AdamwWPaIdeal.nD Cert.AdamwWPaIdeal.τ).loc Cert.AdamwWPaIdeal.main_arg2)
      ∧ r.2.mem ((c.tc : Thread Cert.AdamwWPaIdeal.nD Cert.AdamwWPaIdeal.τ).loc Cert.AdamwWPaIdeal.main_arg3) = m ((c.tc : Thread Cert.AdamwWPaIdeal.nD Cert.AdamwWPaIdeal.τ).loc Cert.AdamwWPaIdeal.main_arg3))
      ∧ r.2.sem = fun _ => 0)

def quiescent_AdamwWPaRefIdeal [hAdamwWPaRefIdeal : Cert.AdamwWPaRefIdeal.Facts] : Prop :=
  ∀ (m : (ℓ : Loc Cert.AdamwWPaRefIdeal.nD Cert.AdamwWPaRefIdeal.τ Cert.AdamwWPaRefIdeal.sig) → Buf (Elt Ideal) ℓ) (g : Dev Cert.AdamwWPaRefIdeal.nD → PrngReg), Pre_AdamwWPaRefIdeal m →
    θ_run (Cert.AdamwWPaRefIdeal.defs (F := Ideal)) (onTc (τ := Cert.AdamwWPaRefIdeal.τ) (Cert.AdamwWPaRefIdeal.main (F := Ideal))) ⟨m, fun _ => 0, g⟩ (fun r => (∀ c : Dev Cert.AdamwWPaRefIdeal.nD,
      r.2.mem ((c.tc : Thread Cert.AdamwWPaRefIdeal.nD Cert.AdamwWPaRefIdeal.τ).loc Cert.AdamwWPaRefIdeal.main_arg0) = m ((c.tc : Thread Cert.AdamwWPaRefIdeal.nD Cert.AdamwWPaRefIdeal.τ).loc Cert.AdamwWPaRefIdeal.main_arg0)
      ∧ r.2.mem ((c.tc : Thread Cert.AdamwWPaRefIdeal.nD Cert.AdamwWPaRefIdeal.τ).loc Cert.AdamwWPaRefIdeal.main_arg1) = m ((c.tc : Thread Cert.AdamwWPaRefIdeal.nD Cert.AdamwWPaRefIdeal.τ).loc Cert.AdamwWPaRefIdeal.main_arg1)
      ∧ r.2.mem ((c.tc : Thread Cert.AdamwWPaRefIdeal.nD Cert.AdamwWPaRefIdeal.τ).loc Cert.AdamwWPaRefIdeal.main_arg2) = m ((c.tc : Thread Cert.AdamwWPaRefIdeal.nD Cert.AdamwWPaRefIdeal.τ).loc Cert.AdamwWPaRefIdeal.main_arg2)
      ∧ r.2.mem ((c.tc : Thread Cert.AdamwWPaRefIdeal.nD Cert.AdamwWPaRefIdeal.τ).loc Cert.AdamwWPaRefIdeal.main_arg3) = m ((c.tc : Thread Cert.AdamwWPaRefIdeal.nD Cert.AdamwWPaRefIdeal.τ).loc Cert.AdamwWPaRefIdeal.main_arg3))
      ∧ r.2.sem = fun _ => 0)

def quiescent_AdamwWPb [hAdamwWPb : Cert.AdamwWPb.Facts] : Prop :=
  ∀ (m : (ℓ : Loc Cert.AdamwWPb.nD Cert.AdamwWPb.τ Cert.AdamwWPb.sig) → Buf (Elt Bits) ℓ) (g : Dev Cert.AdamwWPb.nD → PrngReg), Pre_AdamwWPb m →
    θ_run (Cert.AdamwWPb.defs (F := Bits)) (onTc (τ := Cert.AdamwWPb.τ) (Cert.AdamwWPb.main (F := Bits))) ⟨m, fun _ => 0, g⟩ (fun r => (∀ c : Dev Cert.AdamwWPb.nD,
      r.2.mem ((c.tc : Thread Cert.AdamwWPb.nD Cert.AdamwWPb.τ).loc Cert.AdamwWPb.main_arg0) = m ((c.tc : Thread Cert.AdamwWPb.nD Cert.AdamwWPb.τ).loc Cert.AdamwWPb.main_arg0)
      ∧ r.2.mem ((c.tc : Thread Cert.AdamwWPb.nD Cert.AdamwWPb.τ).loc Cert.AdamwWPb.main_arg1) = m ((c.tc : Thread Cert.AdamwWPb.nD Cert.AdamwWPb.τ).loc Cert.AdamwWPb.main_arg1)
      ∧ r.2.mem ((c.tc : Thread Cert.AdamwWPb.nD Cert.AdamwWPb.τ).loc Cert.AdamwWPb.main_arg2) = m ((c.tc : Thread Cert.AdamwWPb.nD Cert.AdamwWPb.τ).loc Cert.AdamwWPb.main_arg2)
      ∧ r.2.mem ((c.tc : Thread Cert.AdamwWPb.nD Cert.AdamwWPb.τ).loc Cert.AdamwWPb.main_arg3) = m ((c.tc : Thread Cert.AdamwWPb.nD Cert.AdamwWPb.τ).loc Cert.AdamwWPb.main_arg3))
      ∧ r.2.sem = fun _ => 0)

def quiescent_AdamwWPbIdeal [hAdamwWPbIdeal : Cert.AdamwWPbIdeal.Facts] : Prop :=
  ∀ (m : (ℓ : Loc Cert.AdamwWPbIdeal.nD Cert.AdamwWPbIdeal.τ Cert.AdamwWPbIdeal.sig) → Buf (Elt Ideal) ℓ) (g : Dev Cert.AdamwWPbIdeal.nD → PrngReg), Pre_AdamwWPbIdeal m →
    θ_run (Cert.AdamwWPbIdeal.defs (F := Ideal)) (onTc (τ := Cert.AdamwWPbIdeal.τ) (Cert.AdamwWPbIdeal.main (F := Ideal))) ⟨m, fun _ => 0, g⟩ (fun r => (∀ c : Dev Cert.AdamwWPbIdeal.nD,
      r.2.mem ((c.tc : Thread Cert.AdamwWPbIdeal.nD Cert.AdamwWPbIdeal.τ).loc Cert.AdamwWPbIdeal.main_arg0) = m ((c.tc : Thread Cert.AdamwWPbIdeal.nD Cert.AdamwWPbIdeal.τ).loc Cert.AdamwWPbIdeal.main_arg0)
      ∧ r.2.mem ((c.tc : Thread Cert.AdamwWPbIdeal.nD Cert.AdamwWPbIdeal.τ).loc Cert.AdamwWPbIdeal.main_arg1) = m ((c.tc : Thread Cert.AdamwWPbIdeal.nD Cert.AdamwWPbIdeal.τ).loc Cert.AdamwWPbIdeal.main_arg1)
      ∧ r.2.mem ((c.tc : Thread Cert.AdamwWPbIdeal.nD Cert.AdamwWPbIdeal.τ).loc Cert.AdamwWPbIdeal.main_arg2) = m ((c.tc : Thread Cert.AdamwWPbIdeal.nD Cert.AdamwWPbIdeal.τ).loc Cert.AdamwWPbIdeal.main_arg2)
      ∧ r.2.mem ((c.tc : Thread Cert.AdamwWPbIdeal.nD Cert.AdamwWPbIdeal.τ).loc Cert.AdamwWPbIdeal.main_arg3) = m ((c.tc : Thread Cert.AdamwWPbIdeal.nD Cert.AdamwWPbIdeal.τ).loc Cert.AdamwWPbIdeal.main_arg3))
      ∧ r.2.sem = fun _ => 0)

def quiescent_AdamwWPbRefIdeal [hAdamwWPbRefIdeal : Cert.AdamwWPbRefIdeal.Facts] : Prop :=
  ∀ (m : (ℓ : Loc Cert.AdamwWPbRefIdeal.nD Cert.AdamwWPbRefIdeal.τ Cert.AdamwWPbRefIdeal.sig) → Buf (Elt Ideal) ℓ) (g : Dev Cert.AdamwWPbRefIdeal.nD → PrngReg), Pre_AdamwWPbRefIdeal m →
    θ_run (Cert.AdamwWPbRefIdeal.defs (F := Ideal)) (onTc (τ := Cert.AdamwWPbRefIdeal.τ) (Cert.AdamwWPbRefIdeal.main (F := Ideal))) ⟨m, fun _ => 0, g⟩ (fun r => (∀ c : Dev Cert.AdamwWPbRefIdeal.nD,
      r.2.mem ((c.tc : Thread Cert.AdamwWPbRefIdeal.nD Cert.AdamwWPbRefIdeal.τ).loc Cert.AdamwWPbRefIdeal.main_arg0) = m ((c.tc : Thread Cert.AdamwWPbRefIdeal.nD Cert.AdamwWPbRefIdeal.τ).loc Cert.AdamwWPbRefIdeal.main_arg0)
      ∧ r.2.mem ((c.tc : Thread Cert.AdamwWPbRefIdeal.nD Cert.AdamwWPbRefIdeal.τ).loc Cert.AdamwWPbRefIdeal.main_arg1) = m ((c.tc : Thread Cert.AdamwWPbRefIdeal.nD Cert.AdamwWPbRefIdeal.τ).loc Cert.AdamwWPbRefIdeal.main_arg1)
      ∧ r.2.mem ((c.tc : Thread Cert.AdamwWPbRefIdeal.nD Cert.AdamwWPbRefIdeal.τ).loc Cert.AdamwWPbRefIdeal.main_arg2) = m ((c.tc : Thread Cert.AdamwWPbRefIdeal.nD Cert.AdamwWPbRefIdeal.τ).loc Cert.AdamwWPbRefIdeal.main_arg2)
      ∧ r.2.mem ((c.tc : Thread Cert.AdamwWPbRefIdeal.nD Cert.AdamwWPbRefIdeal.τ).loc Cert.AdamwWPbRefIdeal.main_arg3) = m ((c.tc : Thread Cert.AdamwWPbRefIdeal.nD Cert.AdamwWPbRefIdeal.τ).loc Cert.AdamwWPbRefIdeal.main_arg3))
      ∧ r.2.sem = fun _ => 0)

def quiescent_AdamwWO [hAdamwWO : Cert.AdamwWO.Facts] : Prop :=
  ∀ (m : (ℓ : Loc Cert.AdamwWO.nD Cert.AdamwWO.τ Cert.AdamwWO.sig) → Buf (Elt Bits) ℓ) (g : Dev Cert.AdamwWO.nD → PrngReg), Pre_AdamwWO m →
    θ_run (Cert.AdamwWO.defs (F := Bits)) (onTc (τ := Cert.AdamwWO.τ) (Cert.AdamwWO.main (F := Bits))) ⟨m, fun _ => 0, g⟩ (fun r => (∀ c : Dev Cert.AdamwWO.nD,
      r.2.mem ((c.tc : Thread Cert.AdamwWO.nD Cert.AdamwWO.τ).loc Cert.AdamwWO.main_arg0) = m ((c.tc : Thread Cert.AdamwWO.nD Cert.AdamwWO.τ).loc Cert.AdamwWO.main_arg0)
      ∧ r.2.mem ((c.tc : Thread Cert.AdamwWO.nD Cert.AdamwWO.τ).loc Cert.AdamwWO.main_arg1) = m ((c.tc : Thread Cert.AdamwWO.nD Cert.AdamwWO.τ).loc Cert.AdamwWO.main_arg1)
      ∧ r.2.mem ((c.tc : Thread Cert.AdamwWO.nD Cert.AdamwWO.τ).loc Cert.AdamwWO.main_arg2) = m ((c.tc : Thread Cert.AdamwWO.nD Cert.AdamwWO.τ).loc Cert.AdamwWO.main_arg2)
      ∧ r.2.mem ((c.tc : Thread Cert.AdamwWO.nD Cert.AdamwWO.τ).loc Cert.AdamwWO.main_arg3) = m ((c.tc : Thread Cert.AdamwWO.nD Cert.AdamwWO.τ).loc Cert.AdamwWO.main_arg3))
      ∧ r.2.sem = fun _ => 0)

def quiescent_AdamwWOIdeal [hAdamwWOIdeal : Cert.AdamwWOIdeal.Facts] : Prop :=
  ∀ (m : (ℓ : Loc Cert.AdamwWOIdeal.nD Cert.AdamwWOIdeal.τ Cert.AdamwWOIdeal.sig) → Buf (Elt Ideal) ℓ) (g : Dev Cert.AdamwWOIdeal.nD → PrngReg), Pre_AdamwWOIdeal m →
    θ_run (Cert.AdamwWOIdeal.defs (F := Ideal)) (onTc (τ := Cert.AdamwWOIdeal.τ) (Cert.AdamwWOIdeal.main (F := Ideal))) ⟨m, fun _ => 0, g⟩ (fun r => (∀ c : Dev Cert.AdamwWOIdeal.nD,
      r.2.mem ((c.tc : Thread Cert.AdamwWOIdeal.nD Cert.AdamwWOIdeal.τ).loc Cert.AdamwWOIdeal.main_arg0) = m ((c.tc : Thread Cert.AdamwWOIdeal.nD Cert.AdamwWOIdeal.τ).loc Cert.AdamwWOIdeal.main_arg0)
      ∧ r.2.mem ((c.tc : Thread Cert.AdamwWOIdeal.nD Cert.AdamwWOIdeal.τ).loc Cert.AdamwWOIdeal.main_arg1) = m ((c.tc : Thread Cert.AdamwWOIdeal.nD Cert.AdamwWOIdeal.τ).loc Cert.AdamwWOIdeal.main_arg1)
      ∧ r.2.mem ((c.tc : Thread Cert.AdamwWOIdeal.nD Cert.AdamwWOIdeal.τ).loc Cert.AdamwWOIdeal.main_arg2) = m ((c.tc : Thread Cert.AdamwWOIdeal.nD Cert.AdamwWOIdeal.τ).loc Cert.AdamwWOIdeal.main_arg2)
      ∧ r.2.mem ((c.tc : Thread Cert.AdamwWOIdeal.nD Cert.AdamwWOIdeal.τ).loc Cert.AdamwWOIdeal.main_arg3) = m ((c.tc : Thread Cert.AdamwWOIdeal.nD Cert.AdamwWOIdeal.τ).loc Cert.AdamwWOIdeal.main_arg3))
      ∧ r.2.sem = fun _ => 0)

def quiescent_AdamwWORefIdeal [hAdamwWORefIdeal : Cert.AdamwWORefIdeal.Facts] : Prop :=
  ∀ (m : (ℓ : Loc Cert.AdamwWORefIdeal.nD Cert.AdamwWORefIdeal.τ Cert.AdamwWORefIdeal.sig) → Buf (Elt Ideal) ℓ) (g : Dev Cert.AdamwWORefIdeal.nD → PrngReg), Pre_AdamwWORefIdeal m →
    θ_run (Cert.AdamwWORefIdeal.defs (F := Ideal)) (onTc (τ := Cert.AdamwWORefIdeal.τ) (Cert.AdamwWORefIdeal.main (F := Ideal))) ⟨m, fun _ => 0, g⟩ (fun r => (∀ c : Dev Cert.AdamwWORefIdeal.nD,
      r.2.mem ((c.tc : Thread Cert.AdamwWORefIdeal.nD Cert.AdamwWORefIdeal.τ).loc Cert.AdamwWORefIdeal.main_arg0) = m ((c.tc : Thread Cert.AdamwWORefIdeal.nD Cert.AdamwWORefIdeal.τ).loc Cert.AdamwWORefIdeal.main_arg0)
      ∧ r.2.mem ((c.tc : Thread Cert.AdamwWORefIdeal.nD Cert.AdamwWORefIdeal.τ).loc Cert.AdamwWORefIdeal.main_arg1) = m ((c.tc : Thread Cert.AdamwWORefIdeal.nD Cert.AdamwWORefIdeal.τ).loc Cert.AdamwWORefIdeal.main_arg1)
      ∧ r.2.mem ((c.tc : Thread Cert.AdamwWORefIdeal.nD Cert.AdamwWORefIdeal.τ).loc Cert.AdamwWORefIdeal.main_arg2) = m ((c.tc : Thread Cert.AdamwWORefIdeal.nD Cert.AdamwWORefIdeal.τ).loc Cert.AdamwWORefIdeal.main_arg2)
      ∧ r.2.mem ((c.tc : Thread Cert.AdamwWORefIdeal.nD Cert.AdamwWORefIdeal.τ).loc Cert.AdamwWORefIdeal.main_arg3) = m ((c.tc : Thread Cert.AdamwWORefIdeal.nD Cert.AdamwWORefIdeal.τ).loc Cert.AdamwWORefIdeal.main_arg3))
      ∧ r.2.sem = fun _ => 0)

def quiescent_AdamwWFfnIn [hAdamwWFfnIn : Cert.AdamwWFfnIn.Facts] : Prop :=
  ∀ (m : (ℓ : Loc Cert.AdamwWFfnIn.nD Cert.AdamwWFfnIn.τ Cert.AdamwWFfnIn.sig) → Buf (Elt Bits) ℓ) (g : Dev Cert.AdamwWFfnIn.nD → PrngReg), Pre_AdamwWFfnIn m →
    θ_run (Cert.AdamwWFfnIn.defs (F := Bits)) (onTc (τ := Cert.AdamwWFfnIn.τ) (Cert.AdamwWFfnIn.main (F := Bits))) ⟨m, fun _ => 0, g⟩ (fun r => (∀ c : Dev Cert.AdamwWFfnIn.nD,
      r.2.mem ((c.tc : Thread Cert.AdamwWFfnIn.nD Cert.AdamwWFfnIn.τ).loc Cert.AdamwWFfnIn.main_arg0) = m ((c.tc : Thread Cert.AdamwWFfnIn.nD Cert.AdamwWFfnIn.τ).loc Cert.AdamwWFfnIn.main_arg0)
      ∧ r.2.mem ((c.tc : Thread Cert.AdamwWFfnIn.nD Cert.AdamwWFfnIn.τ).loc Cert.AdamwWFfnIn.main_arg1) = m ((c.tc : Thread Cert.AdamwWFfnIn.nD Cert.AdamwWFfnIn.τ).loc Cert.AdamwWFfnIn.main_arg1)
      ∧ r.2.mem ((c.tc : Thread Cert.AdamwWFfnIn.nD Cert.AdamwWFfnIn.τ).loc Cert.AdamwWFfnIn.main_arg2) = m ((c.tc : Thread Cert.AdamwWFfnIn.nD Cert.AdamwWFfnIn.τ).loc Cert.AdamwWFfnIn.main_arg2)
      ∧ r.2.mem ((c.tc : Thread Cert.AdamwWFfnIn.nD Cert.AdamwWFfnIn.τ).loc Cert.AdamwWFfnIn.main_arg3) = m ((c.tc : Thread Cert.AdamwWFfnIn.nD Cert.AdamwWFfnIn.τ).loc Cert.AdamwWFfnIn.main_arg3))
      ∧ r.2.sem = fun _ => 0)

def quiescent_AdamwWFfnInIdeal [hAdamwWFfnInIdeal : Cert.AdamwWFfnInIdeal.Facts] : Prop :=
  ∀ (m : (ℓ : Loc Cert.AdamwWFfnInIdeal.nD Cert.AdamwWFfnInIdeal.τ Cert.AdamwWFfnInIdeal.sig) → Buf (Elt Ideal) ℓ) (g : Dev Cert.AdamwWFfnInIdeal.nD → PrngReg), Pre_AdamwWFfnInIdeal m →
    θ_run (Cert.AdamwWFfnInIdeal.defs (F := Ideal)) (onTc (τ := Cert.AdamwWFfnInIdeal.τ) (Cert.AdamwWFfnInIdeal.main (F := Ideal))) ⟨m, fun _ => 0, g⟩ (fun r => (∀ c : Dev Cert.AdamwWFfnInIdeal.nD,
      r.2.mem ((c.tc : Thread Cert.AdamwWFfnInIdeal.nD Cert.AdamwWFfnInIdeal.τ).loc Cert.AdamwWFfnInIdeal.main_arg0) = m ((c.tc : Thread Cert.AdamwWFfnInIdeal.nD Cert.AdamwWFfnInIdeal.τ).loc Cert.AdamwWFfnInIdeal.main_arg0)
      ∧ r.2.mem ((c.tc : Thread Cert.AdamwWFfnInIdeal.nD Cert.AdamwWFfnInIdeal.τ).loc Cert.AdamwWFfnInIdeal.main_arg1) = m ((c.tc : Thread Cert.AdamwWFfnInIdeal.nD Cert.AdamwWFfnInIdeal.τ).loc Cert.AdamwWFfnInIdeal.main_arg1)
      ∧ r.2.mem ((c.tc : Thread Cert.AdamwWFfnInIdeal.nD Cert.AdamwWFfnInIdeal.τ).loc Cert.AdamwWFfnInIdeal.main_arg2) = m ((c.tc : Thread Cert.AdamwWFfnInIdeal.nD Cert.AdamwWFfnInIdeal.τ).loc Cert.AdamwWFfnInIdeal.main_arg2)
      ∧ r.2.mem ((c.tc : Thread Cert.AdamwWFfnInIdeal.nD Cert.AdamwWFfnInIdeal.τ).loc Cert.AdamwWFfnInIdeal.main_arg3) = m ((c.tc : Thread Cert.AdamwWFfnInIdeal.nD Cert.AdamwWFfnInIdeal.τ).loc Cert.AdamwWFfnInIdeal.main_arg3))
      ∧ r.2.sem = fun _ => 0)

def quiescent_AdamwWFfnInRefIdeal [hAdamwWFfnInRefIdeal : Cert.AdamwWFfnInRefIdeal.Facts] : Prop :=
  ∀ (m : (ℓ : Loc Cert.AdamwWFfnInRefIdeal.nD Cert.AdamwWFfnInRefIdeal.τ Cert.AdamwWFfnInRefIdeal.sig) → Buf (Elt Ideal) ℓ) (g : Dev Cert.AdamwWFfnInRefIdeal.nD → PrngReg), Pre_AdamwWFfnInRefIdeal m →
    θ_run (Cert.AdamwWFfnInRefIdeal.defs (F := Ideal)) (onTc (τ := Cert.AdamwWFfnInRefIdeal.τ) (Cert.AdamwWFfnInRefIdeal.main (F := Ideal))) ⟨m, fun _ => 0, g⟩ (fun r => (∀ c : Dev Cert.AdamwWFfnInRefIdeal.nD,
      r.2.mem ((c.tc : Thread Cert.AdamwWFfnInRefIdeal.nD Cert.AdamwWFfnInRefIdeal.τ).loc Cert.AdamwWFfnInRefIdeal.main_arg0) = m ((c.tc : Thread Cert.AdamwWFfnInRefIdeal.nD Cert.AdamwWFfnInRefIdeal.τ).loc Cert.AdamwWFfnInRefIdeal.main_arg0)
      ∧ r.2.mem ((c.tc : Thread Cert.AdamwWFfnInRefIdeal.nD Cert.AdamwWFfnInRefIdeal.τ).loc Cert.AdamwWFfnInRefIdeal.main_arg1) = m ((c.tc : Thread Cert.AdamwWFfnInRefIdeal.nD Cert.AdamwWFfnInRefIdeal.τ).loc Cert.AdamwWFfnInRefIdeal.main_arg1)
      ∧ r.2.mem ((c.tc : Thread Cert.AdamwWFfnInRefIdeal.nD Cert.AdamwWFfnInRefIdeal.τ).loc Cert.AdamwWFfnInRefIdeal.main_arg2) = m ((c.tc : Thread Cert.AdamwWFfnInRefIdeal.nD Cert.AdamwWFfnInRefIdeal.τ).loc Cert.AdamwWFfnInRefIdeal.main_arg2)
      ∧ r.2.mem ((c.tc : Thread Cert.AdamwWFfnInRefIdeal.nD Cert.AdamwWFfnInRefIdeal.τ).loc Cert.AdamwWFfnInRefIdeal.main_arg3) = m ((c.tc : Thread Cert.AdamwWFfnInRefIdeal.nD Cert.AdamwWFfnInRefIdeal.τ).loc Cert.AdamwWFfnInRefIdeal.main_arg3))
      ∧ r.2.sem = fun _ => 0)

def quiescent_AdamwWFfnOut [hAdamwWFfnOut : Cert.AdamwWFfnOut.Facts] : Prop :=
  ∀ (m : (ℓ : Loc Cert.AdamwWFfnOut.nD Cert.AdamwWFfnOut.τ Cert.AdamwWFfnOut.sig) → Buf (Elt Bits) ℓ) (g : Dev Cert.AdamwWFfnOut.nD → PrngReg), Pre_AdamwWFfnOut m →
    θ_run (Cert.AdamwWFfnOut.defs (F := Bits)) (onTc (τ := Cert.AdamwWFfnOut.τ) (Cert.AdamwWFfnOut.main (F := Bits))) ⟨m, fun _ => 0, g⟩ (fun r => (∀ c : Dev Cert.AdamwWFfnOut.nD,
      r.2.mem ((c.tc : Thread Cert.AdamwWFfnOut.nD Cert.AdamwWFfnOut.τ).loc Cert.AdamwWFfnOut.main_arg0) = m ((c.tc : Thread Cert.AdamwWFfnOut.nD Cert.AdamwWFfnOut.τ).loc Cert.AdamwWFfnOut.main_arg0)
      ∧ r.2.mem ((c.tc : Thread Cert.AdamwWFfnOut.nD Cert.AdamwWFfnOut.τ).loc Cert.AdamwWFfnOut.main_arg1) = m ((c.tc : Thread Cert.AdamwWFfnOut.nD Cert.AdamwWFfnOut.τ).loc Cert.AdamwWFfnOut.main_arg1)
      ∧ r.2.mem ((c.tc : Thread Cert.AdamwWFfnOut.nD Cert.AdamwWFfnOut.τ).loc Cert.AdamwWFfnOut.main_arg2) = m ((c.tc : Thread Cert.AdamwWFfnOut.nD Cert.AdamwWFfnOut.τ).loc Cert.AdamwWFfnOut.main_arg2)
      ∧ r.2.mem ((c.tc : Thread Cert.AdamwWFfnOut.nD Cert.AdamwWFfnOut.τ).loc Cert.AdamwWFfnOut.main_arg3) = m ((c.tc : Thread Cert.AdamwWFfnOut.nD Cert.AdamwWFfnOut.τ).loc Cert.AdamwWFfnOut.main_arg3))
      ∧ r.2.sem = fun _ => 0)

def quiescent_AdamwWFfnOutIdeal [hAdamwWFfnOutIdeal : Cert.AdamwWFfnOutIdeal.Facts] : Prop :=
  ∀ (m : (ℓ : Loc Cert.AdamwWFfnOutIdeal.nD Cert.AdamwWFfnOutIdeal.τ Cert.AdamwWFfnOutIdeal.sig) → Buf (Elt Ideal) ℓ) (g : Dev Cert.AdamwWFfnOutIdeal.nD → PrngReg), Pre_AdamwWFfnOutIdeal m →
    θ_run (Cert.AdamwWFfnOutIdeal.defs (F := Ideal)) (onTc (τ := Cert.AdamwWFfnOutIdeal.τ) (Cert.AdamwWFfnOutIdeal.main (F := Ideal))) ⟨m, fun _ => 0, g⟩ (fun r => (∀ c : Dev Cert.AdamwWFfnOutIdeal.nD,
      r.2.mem ((c.tc : Thread Cert.AdamwWFfnOutIdeal.nD Cert.AdamwWFfnOutIdeal.τ).loc Cert.AdamwWFfnOutIdeal.main_arg0) = m ((c.tc : Thread Cert.AdamwWFfnOutIdeal.nD Cert.AdamwWFfnOutIdeal.τ).loc Cert.AdamwWFfnOutIdeal.main_arg0)
      ∧ r.2.mem ((c.tc : Thread Cert.AdamwWFfnOutIdeal.nD Cert.AdamwWFfnOutIdeal.τ).loc Cert.AdamwWFfnOutIdeal.main_arg1) = m ((c.tc : Thread Cert.AdamwWFfnOutIdeal.nD Cert.AdamwWFfnOutIdeal.τ).loc Cert.AdamwWFfnOutIdeal.main_arg1)
      ∧ r.2.mem ((c.tc : Thread Cert.AdamwWFfnOutIdeal.nD Cert.AdamwWFfnOutIdeal.τ).loc Cert.AdamwWFfnOutIdeal.main_arg2) = m ((c.tc : Thread Cert.AdamwWFfnOutIdeal.nD Cert.AdamwWFfnOutIdeal.τ).loc Cert.AdamwWFfnOutIdeal.main_arg2)
      ∧ r.2.mem ((c.tc : Thread Cert.AdamwWFfnOutIdeal.nD Cert.AdamwWFfnOutIdeal.τ).loc Cert.AdamwWFfnOutIdeal.main_arg3) = m ((c.tc : Thread Cert.AdamwWFfnOutIdeal.nD Cert.AdamwWFfnOutIdeal.τ).loc Cert.AdamwWFfnOutIdeal.main_arg3))
      ∧ r.2.sem = fun _ => 0)

def quiescent_AdamwWFfnOutRefIdeal [hAdamwWFfnOutRefIdeal : Cert.AdamwWFfnOutRefIdeal.Facts] : Prop :=
  ∀ (m : (ℓ : Loc Cert.AdamwWFfnOutRefIdeal.nD Cert.AdamwWFfnOutRefIdeal.τ Cert.AdamwWFfnOutRefIdeal.sig) → Buf (Elt Ideal) ℓ) (g : Dev Cert.AdamwWFfnOutRefIdeal.nD → PrngReg), Pre_AdamwWFfnOutRefIdeal m →
    θ_run (Cert.AdamwWFfnOutRefIdeal.defs (F := Ideal)) (onTc (τ := Cert.AdamwWFfnOutRefIdeal.τ) (Cert.AdamwWFfnOutRefIdeal.main (F := Ideal))) ⟨m, fun _ => 0, g⟩ (fun r => (∀ c : Dev Cert.AdamwWFfnOutRefIdeal.nD,
      r.2.mem ((c.tc : Thread Cert.AdamwWFfnOutRefIdeal.nD Cert.AdamwWFfnOutRefIdeal.τ).loc Cert.AdamwWFfnOutRefIdeal.main_arg0) = m ((c.tc : Thread Cert.AdamwWFfnOutRefIdeal.nD Cert.AdamwWFfnOutRefIdeal.τ).loc Cert.AdamwWFfnOutRefIdeal.main_arg0)
      ∧ r.2.mem ((c.tc : Thread Cert.AdamwWFfnOutRefIdeal.nD Cert.AdamwWFfnOutRefIdeal.τ).loc Cert.AdamwWFfnOutRefIdeal.main_arg1) = m ((c.tc : Thread Cert.AdamwWFfnOutRefIdeal.nD Cert.AdamwWFfnOutRefIdeal.τ).loc Cert.AdamwWFfnOutRefIdeal.main_arg1)
      ∧ r.2.mem ((c.tc : Thread Cert.AdamwWFfnOutRefIdeal.nD Cert.AdamwWFfnOutRefIdeal.τ).loc Cert.AdamwWFfnOutRefIdeal.main_arg2) = m ((c.tc : Thread Cert.AdamwWFfnOutRefIdeal.nD Cert.AdamwWFfnOutRefIdeal.τ).loc Cert.AdamwWFfnOutRefIdeal.main_arg2)
      ∧ r.2.mem ((c.tc : Thread Cert.AdamwWFfnOutRefIdeal.nD Cert.AdamwWFfnOutRefIdeal.τ).loc Cert.AdamwWFfnOutRefIdeal.main_arg3) = m ((c.tc : Thread Cert.AdamwWFfnOutRefIdeal.nD Cert.AdamwWFfnOutRefIdeal.τ).loc Cert.AdamwWFfnOutRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ r.2.sem = fun _ => 0)

def quiescent_SsmOutIdeal_pre_out_finite [hSsmOutIdeal : Cert.SsmOutIdeal.Facts] [hPre_out_finite : Cert.Pre_out_finite.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal_out_finite m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2))
      ∧ r.2.sem = fun _ => 0)

def quiescent_SsmOutRefIdeal_pre_out_finite [hSsmOutRefIdeal : Cert.SsmOutRefIdeal.Facts] [hPre_out_finite : Cert.Pre_out_finite.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal_out_finite m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2))
      ∧ r.2.sem = fun _ => 0)

def quiescent_SsmParams [hSsmParams : Cert.SsmParams.Facts] : Prop :=
  ∀ (m : (ℓ : Loc Cert.SsmParams.nD Cert.SsmParams.τ Cert.SsmParams.sig) → Buf (Elt Bits) ℓ) (g : Dev Cert.SsmParams.nD → PrngReg), Pre_SsmParams m →
    θ_run (Cert.SsmParams.defs (F := Bits)) (onTc (τ := Cert.SsmParams.τ) (Cert.SsmParams.main (F := Bits))) ⟨m, fun _ => 0, g⟩ (fun r => (∀ c : Dev Cert.SsmParams.nD,
      r.2.mem ((c.tc : Thread Cert.SsmParams.nD Cert.SsmParams.τ).loc Cert.SsmParams.main_arg0) = m ((c.tc : Thread Cert.SsmParams.nD Cert.SsmParams.τ).loc Cert.SsmParams.main_arg0)
      ∧ r.2.mem ((c.tc : Thread Cert.SsmParams.nD Cert.SsmParams.τ).loc Cert.SsmParams.main_arg1) = m ((c.tc : Thread Cert.SsmParams.nD Cert.SsmParams.τ).loc Cert.SsmParams.main_arg1)
      ∧ r.2.mem ((c.tc : Thread Cert.SsmParams.nD Cert.SsmParams.τ).loc Cert.SsmParams.main_arg2) = m ((c.tc : Thread Cert.SsmParams.nD Cert.SsmParams.τ).loc Cert.SsmParams.main_arg2)
      ∧ r.2.mem ((c.tc : Thread Cert.SsmParams.nD Cert.SsmParams.τ).loc Cert.SsmParams.main_arg3) = m ((c.tc : Thread Cert.SsmParams.nD Cert.SsmParams.τ).loc Cert.SsmParams.main_arg3)
      ∧ r.2.mem ((c.tc : Thread Cert.SsmParams.nD Cert.SsmParams.τ).loc Cert.SsmParams.main_arg4) = m ((c.tc : Thread Cert.SsmParams.nD Cert.SsmParams.τ).loc Cert.SsmParams.main_arg4))
      ∧ r.2.sem = fun _ => 0)

def quiescent_SsmParamsIdeal [hSsmParamsIdeal : Cert.SsmParamsIdeal.Facts] : Prop :=
  ∀ (m : (ℓ : Loc Cert.SsmParamsIdeal.nD Cert.SsmParamsIdeal.τ Cert.SsmParamsIdeal.sig) → Buf (Elt Ideal) ℓ) (g : Dev Cert.SsmParamsIdeal.nD → PrngReg), Pre_SsmParamsIdeal m →
    θ_run (Cert.SsmParamsIdeal.defs (F := Ideal)) (onTc (τ := Cert.SsmParamsIdeal.τ) (Cert.SsmParamsIdeal.main (F := Ideal))) ⟨m, fun _ => 0, g⟩ (fun r => (∀ c : Dev Cert.SsmParamsIdeal.nD,
      r.2.mem ((c.tc : Thread Cert.SsmParamsIdeal.nD Cert.SsmParamsIdeal.τ).loc Cert.SsmParamsIdeal.main_arg0) = m ((c.tc : Thread Cert.SsmParamsIdeal.nD Cert.SsmParamsIdeal.τ).loc Cert.SsmParamsIdeal.main_arg0)
      ∧ r.2.mem ((c.tc : Thread Cert.SsmParamsIdeal.nD Cert.SsmParamsIdeal.τ).loc Cert.SsmParamsIdeal.main_arg1) = m ((c.tc : Thread Cert.SsmParamsIdeal.nD Cert.SsmParamsIdeal.τ).loc Cert.SsmParamsIdeal.main_arg1)
      ∧ r.2.mem ((c.tc : Thread Cert.SsmParamsIdeal.nD Cert.SsmParamsIdeal.τ).loc Cert.SsmParamsIdeal.main_arg2) = m ((c.tc : Thread Cert.SsmParamsIdeal.nD Cert.SsmParamsIdeal.τ).loc Cert.SsmParamsIdeal.main_arg2)
      ∧ r.2.mem ((c.tc : Thread Cert.SsmParamsIdeal.nD Cert.SsmParamsIdeal.τ).loc Cert.SsmParamsIdeal.main_arg3) = m ((c.tc : Thread Cert.SsmParamsIdeal.nD Cert.SsmParamsIdeal.τ).loc Cert.SsmParamsIdeal.main_arg3)
      ∧ r.2.mem ((c.tc : Thread Cert.SsmParamsIdeal.nD Cert.SsmParamsIdeal.τ).loc Cert.SsmParamsIdeal.main_arg4) = m ((c.tc : Thread Cert.SsmParamsIdeal.nD Cert.SsmParamsIdeal.τ).loc Cert.SsmParamsIdeal.main_arg4))
      ∧ r.2.sem = fun _ => 0)

def quiescent_SsmParamsRefIdeal [hSsmParamsRefIdeal : Cert.SsmParamsRefIdeal.Facts] : Prop :=
  ∀ (m : (ℓ : Loc Cert.SsmParamsRefIdeal.nD Cert.SsmParamsRefIdeal.τ Cert.SsmParamsRefIdeal.sig) → Buf (Elt Ideal) ℓ) (g : Dev Cert.SsmParamsRefIdeal.nD → PrngReg), Pre_SsmParamsRefIdeal m →
    θ_run (Cert.SsmParamsRefIdeal.defs (F := Ideal)) (onTc (τ := Cert.SsmParamsRefIdeal.τ) (Cert.SsmParamsRefIdeal.main (F := Ideal))) ⟨m, fun _ => 0, g⟩ (fun r => (∀ c : Dev Cert.SsmParamsRefIdeal.nD,
      r.2.mem ((c.tc : Thread Cert.SsmParamsRefIdeal.nD Cert.SsmParamsRefIdeal.τ).loc Cert.SsmParamsRefIdeal.main_arg0) = m ((c.tc : Thread Cert.SsmParamsRefIdeal.nD Cert.SsmParamsRefIdeal.τ).loc Cert.SsmParamsRefIdeal.main_arg0)
      ∧ r.2.mem ((c.tc : Thread Cert.SsmParamsRefIdeal.nD Cert.SsmParamsRefIdeal.τ).loc Cert.SsmParamsRefIdeal.main_arg1) = m ((c.tc : Thread Cert.SsmParamsRefIdeal.nD Cert.SsmParamsRefIdeal.τ).loc Cert.SsmParamsRefIdeal.main_arg1)
      ∧ r.2.mem ((c.tc : Thread Cert.SsmParamsRefIdeal.nD Cert.SsmParamsRefIdeal.τ).loc Cert.SsmParamsRefIdeal.main_arg2) = m ((c.tc : Thread Cert.SsmParamsRefIdeal.nD Cert.SsmParamsRefIdeal.τ).loc Cert.SsmParamsRefIdeal.main_arg2)
      ∧ r.2.mem ((c.tc : Thread Cert.SsmParamsRefIdeal.nD Cert.SsmParamsRefIdeal.τ).loc Cert.SsmParamsRefIdeal.main_arg3) = m ((c.tc : Thread Cert.SsmParamsRefIdeal.nD Cert.SsmParamsRefIdeal.τ).loc Cert.SsmParamsRefIdeal.main_arg3)
      ∧ r.2.mem ((c.tc : Thread Cert.SsmParamsRefIdeal.nD Cert.SsmParamsRefIdeal.τ).loc Cert.SsmParamsRefIdeal.main_arg4) = m ((c.tc : Thread Cert.SsmParamsRefIdeal.nD Cert.SsmParamsRefIdeal.τ).loc Cert.SsmParamsRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_v129) = v4 c
          ∧ r.2.mem ((c.tc : Thread Cert.ReferenceIdeal.nD Cert.ReferenceIdeal.τ).loc Cert.ReferenceIdeal.main_v130) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_ProjInDgrad_ProjInDgradIdeal : Prop :=
  True

def algebraic_ProjInDgradIdeal_ProjInDgradRefIdeal [hProjInDgradIdeal : Cert.ProjInDgradIdeal.Facts] [hProjInDgradRefIdeal : Cert.ProjInDgradRefIdeal.Facts] : Prop :=
  ∀ (m : (ℓ : Loc Cert.ProjInDgradIdeal.nD Cert.ProjInDgradIdeal.τ Cert.ProjInDgradIdeal.sig) → Buf (Elt Ideal) ℓ) (g : Dev Cert.ProjInDgradIdeal.nD → PrngReg)
    (m' : (ℓ : Loc Cert.ProjInDgradRefIdeal.nD Cert.ProjInDgradRefIdeal.τ Cert.ProjInDgradRefIdeal.sig) → Buf (Elt Ideal) ℓ) (g' : Dev Cert.ProjInDgradRefIdeal.nD → PrngReg), Pre_ProjInDgradIdeal m →
    (∀ c : Dev Cert.ProjInDgradIdeal.nD,
      m' ((c.tc : Thread Cert.ProjInDgradRefIdeal.nD Cert.ProjInDgradRefIdeal.τ).loc Cert.ProjInDgradRefIdeal.main_arg0) = m ((c.tc : Thread Cert.ProjInDgradIdeal.nD Cert.ProjInDgradIdeal.τ).loc Cert.ProjInDgradIdeal.main_arg0)
      ∧ m' ((c.tc : Thread Cert.ProjInDgradRefIdeal.nD Cert.ProjInDgradRefIdeal.τ).loc Cert.ProjInDgradRefIdeal.main_arg1) = m ((c.tc : Thread Cert.ProjInDgradIdeal.nD Cert.ProjInDgradIdeal.τ).loc Cert.ProjInDgradIdeal.main_arg1)
      ∧ m' ((c.tc : Thread Cert.ProjInDgradRefIdeal.nD Cert.ProjInDgradRefIdeal.τ).loc Cert.ProjInDgradRefIdeal.main_arg2) = m ((c.tc : Thread Cert.ProjInDgradIdeal.nD Cert.ProjInDgradIdeal.τ).loc Cert.ProjInDgradIdeal.main_arg2)) →
    ∃ (v0 : (c : Dev Cert.ProjInDgradIdeal.nD) → Buf (Elt Ideal) ((c.tc : Thread Cert.ProjInDgradIdeal.nD Cert.ProjInDgradIdeal.τ).loc Cert.ProjInDgradIdeal.main_v1)),
      θ_run (Cert.ProjInDgradIdeal.defs (F := Ideal)) (onTc (τ := Cert.ProjInDgradIdeal.τ) (Cert.ProjInDgradIdeal.main (F := Ideal))) ⟨m, fun _ => 0, g⟩ (fun r => ∀ c : Dev Cert.ProjInDgradIdeal.nD,
          r.2.mem ((c.tc : Thread Cert.ProjInDgradIdeal.nD Cert.ProjInDgradIdeal.τ).loc Cert.ProjInDgradIdeal.main_v1) = v0 c
          ∧ r.2.mem ((c.tc : Thread Cert.ProjInDgradIdeal.nD Cert.ProjInDgradIdeal.τ).loc Cert.ProjInDgradIdeal.main_arg0) = m ((c.tc : Thread Cert.ProjInDgradIdeal.nD Cert.ProjInDgradIdeal.τ).loc Cert.ProjInDgradIdeal.main_arg0)
          ∧ r.2.mem ((c.tc : Thread Cert.ProjInDgradIdeal.nD Cert.ProjInDgradIdeal.τ).loc Cert.ProjInDgradIdeal.main_arg1) = m ((c.tc : Thread Cert.ProjInDgradIdeal.nD Cert.ProjInDgradIdeal.τ).loc Cert.ProjInDgradIdeal.main_arg1)
          ∧ r.2.mem ((c.tc : Thread Cert.ProjInDgradIdeal.nD Cert.ProjInDgradIdeal.τ).loc Cert.ProjInDgradIdeal.main_arg2) = m ((c.tc : Thread Cert.ProjInDgradIdeal.nD Cert.ProjInDgradIdeal.τ).loc Cert.ProjInDgradIdeal.main_arg2))
      ∧ θ_run (Cert.ProjInDgradRefIdeal.defs (F := Ideal)) (onTc (τ := Cert.ProjInDgradRefIdeal.τ) (Cert.ProjInDgradRefIdeal.main (F := Ideal))) ⟨m', fun _ => 0, g'⟩ (fun r => ∀ c : Dev Cert.ProjInDgradRefIdeal.nD,
          r.2.mem ((c.tc : Thread Cert.ProjInDgradRefIdeal.nD Cert.ProjInDgradRefIdeal.τ).loc Cert.ProjInDgradRefIdeal.main_v8) = v0 c
          ∧ r.2.mem ((c.tc : Thread Cert.ProjInDgradRefIdeal.nD Cert.ProjInDgradRefIdeal.τ).loc Cert.ProjInDgradRefIdeal.main_arg0) = m' ((c.tc : Thread Cert.ProjInDgradRefIdeal.nD Cert.ProjInDgradRefIdeal.τ).loc Cert.ProjInDgradRefIdeal.main_arg0)
          ∧ r.2.mem ((c.tc : Thread Cert.ProjInDgradRefIdeal.nD Cert.ProjInDgradRefIdeal.τ).loc Cert.ProjInDgradRefIdeal.main_arg1) = m' ((c.tc : Thread Cert.ProjInDgradRefIdeal.nD Cert.ProjInDgradRefIdeal.τ).loc Cert.ProjInDgradRefIdeal.main_arg1)
          ∧ r.2.mem ((c.tc : Thread Cert.ProjInDgradRefIdeal.nD Cert.ProjInDgradRefIdeal.τ).loc Cert.ProjInDgradRefIdeal.main_arg2) = m' ((c.tc : Thread Cert.ProjInDgradRefIdeal.nD Cert.ProjInDgradRefIdeal.τ).loc Cert.ProjInDgradRefIdeal.main_arg2))

def preserves_FfnOutWgrad_FfnOutWgradIdeal : Prop :=
  True

def algebraic_FfnOutWgradIdeal_FfnOutWgradRefIdeal [hFfnOutWgradIdeal : Cert.FfnOutWgradIdeal.Facts] [hFfnOutWgradRefIdeal : Cert.FfnOutWgradRefIdeal.Facts] : Prop :=
  ∀ (m : (ℓ : Loc Cert.FfnOutWgradIdeal.nD Cert.FfnOutWgradIdeal.τ Cert.FfnOutWgradIdeal.sig) → Buf (Elt Ideal) ℓ) (g : Dev Cert.FfnOutWgradIdeal.nD → PrngReg)
    (m' : (ℓ : Loc Cert.FfnOutWgradRefIdeal.nD Cert.FfnOutWgradRefIdeal.τ Cert.FfnOutWgradRefIdeal.sig) → Buf (Elt Ideal) ℓ) (g' : Dev Cert.FfnOutWgradRefIdeal.nD → PrngReg), Pre_FfnOutWgradIdeal m →
    (∀ c : Dev Cert.FfnOutWgradIdeal.nD,
      m' ((c.tc : Thread Cert.FfnOutWgradRefIdeal.nD Cert.FfnOutWgradRefIdeal.τ).loc Cert.FfnOutWgradRefIdeal.main_arg0) = m ((c.tc : Thread Cert.FfnOutWgradIdeal.nD Cert.FfnOutWgradIdeal.τ).loc Cert.FfnOutWgradIdeal.main_arg0)
      ∧ m' ((c.tc : Thread Cert.FfnOutWgradRefIdeal.nD Cert.FfnOutWgradRefIdeal.τ).loc Cert.FfnOutWgradRefIdeal.main_arg1) = m ((c.tc : Thread Cert.FfnOutWgradIdeal.nD Cert.FfnOutWgradIdeal.τ).loc Cert.FfnOutWgradIdeal.main_arg1)) →
    ∃ (v0 : (c : Dev Cert.FfnOutWgradIdeal.nD) → Buf (Elt Ideal) ((c.tc : Thread Cert.FfnOutWgradIdeal.nD Cert.FfnOutWgradIdeal.τ).loc Cert.FfnOutWgradIdeal.main_v0)),
      θ_run (Cert.FfnOutWgradIdeal.defs (F := Ideal)) (onTc (τ := Cert.FfnOutWgradIdeal.τ) (Cert.FfnOutWgradIdeal.main (F := Ideal))) ⟨m, fun _ => 0, g⟩ (fun r => ∀ c : Dev Cert.FfnOutWgradIdeal.nD,
          r.2.mem ((c.tc : Thread Cert.FfnOutWgradIdeal.nD Cert.FfnOutWgradIdeal.τ).loc Cert.FfnOutWgradIdeal.main_v0) = v0 c
          ∧ r.2.mem ((c.tc : Thread Cert.FfnOutWgradIdeal.nD Cert.FfnOutWgradIdeal.τ).loc Cert.FfnOutWgradIdeal.main_arg0) = m ((c.tc : Thread Cert.FfnOutWgradIdeal.nD Cert.FfnOutWgradIdeal.τ).loc Cert.FfnOutWgradIdeal.main_arg0)
          ∧ r.2.mem ((c.tc : Thread Cert.FfnOutWgradIdeal.nD Cert.FfnOutWgradIdeal.τ).loc Cert.FfnOutWgradIdeal.main_arg1) = m ((c.tc : Thread Cert.FfnOutWgradIdeal.nD Cert.FfnOutWgradIdeal.τ).loc Cert.FfnOutWgradIdeal.main_arg1))
      ∧ θ_run (Cert.FfnOutWgradRefIdeal.defs (F := Ideal)) (onTc (τ := Cert.FfnOutWgradRefIdeal.τ) (Cert.FfnOutWgradRefIdeal.main (F := Ideal))) ⟨m', fun _ => 0, g'⟩ (fun r => ∀ c : Dev Cert.FfnOutWgradRefIdeal.nD,
          r.2.mem ((c.tc : Thread Cert.FfnOutWgradRefIdeal.nD Cert.FfnOutWgradRefIdeal.τ).loc Cert.FfnOutWgradRefIdeal.main_v5) = v0 c
          ∧ r.2.mem ((c.tc : Thread Cert.FfnOutWgradRefIdeal.nD Cert.FfnOutWgradRefIdeal.τ).loc Cert.FfnOutWgradRefIdeal.main_arg0) = m' ((c.tc : Thread Cert.FfnOutWgradRefIdeal.nD Cert.FfnOutWgradRefIdeal.τ).loc Cert.FfnOutWgradRefIdeal.main_arg0)
          ∧ r.2.mem ((c.tc : Thread Cert.FfnOutWgradRefIdeal.nD Cert.FfnOutWgradRefIdeal.τ).loc Cert.FfnOutWgradRefIdeal.main_arg1) = m' ((c.tc : Thread Cert.FfnOutWgradRefIdeal.nD Cert.FfnOutWgradRefIdeal.τ).loc Cert.FfnOutWgradRefIdeal.main_arg1))

def preserves_FfnOutDgrad_FfnOutDgradIdeal : Prop :=
  True

def algebraic_FfnOutDgradIdeal_FfnOutDgradRefIdeal [hFfnOutDgradIdeal : Cert.FfnOutDgradIdeal.Facts] [hFfnOutDgradRefIdeal : Cert.FfnOutDgradRefIdeal.Facts] : Prop :=
  ∀ (m : (ℓ : Loc Cert.FfnOutDgradIdeal.nD Cert.FfnOutDgradIdeal.τ Cert.FfnOutDgradIdeal.sig) → Buf (Elt Ideal) ℓ) (g : Dev Cert.FfnOutDgradIdeal.nD → PrngReg)
    (m' : (ℓ : Loc Cert.FfnOutDgradRefIdeal.nD Cert.FfnOutDgradRefIdeal.τ Cert.FfnOutDgradRefIdeal.sig) → Buf (Elt Ideal) ℓ) (g' : Dev Cert.FfnOutDgradRefIdeal.nD → PrngReg), Pre_FfnOutDgradIdeal m →
    (∀ c : Dev Cert.FfnOutDgradIdeal.nD,
      m' ((c.tc : Thread Cert.FfnOutDgradRefIdeal.nD Cert.FfnOutDgradRefIdeal.τ).loc Cert.FfnOutDgradRefIdeal.main_arg0) = m ((c.tc : Thread Cert.FfnOutDgradIdeal.nD Cert.FfnOutDgradIdeal.τ).loc Cert.FfnOutDgradIdeal.main_arg0)
      ∧ m' ((c.tc : Thread Cert.FfnOutDgradRefIdeal.nD Cert.FfnOutDgradRefIdeal.τ).loc Cert.FfnOutDgradRefIdeal.main_arg1) = m ((c.tc : Thread Cert.FfnOutDgradIdeal.nD Cert.FfnOutDgradIdeal.τ).loc Cert.FfnOutDgradIdeal.main_arg1)) →
    ∃ (v0 : (c : Dev Cert.FfnOutDgradIdeal.nD) → Buf (Elt Ideal) ((c.tc : Thread Cert.FfnOutDgradIdeal.nD Cert.FfnOutDgradIdeal.τ).loc Cert.FfnOutDgradIdeal.main_v1)),
      θ_run (Cert.FfnOutDgradIdeal.defs (F := Ideal)) (onTc (τ := Cert.FfnOutDgradIdeal.τ) (Cert.FfnOutDgradIdeal.main (F := Ideal))) ⟨m, fun _ => 0, g⟩ (fun r => ∀ c : Dev Cert.FfnOutDgradIdeal.nD,
          r.2.mem ((c.tc : Thread Cert.FfnOutDgradIdeal.nD Cert.FfnOutDgradIdeal.τ).loc Cert.FfnOutDgradIdeal.main_v1) = v0 c
          ∧ r.2.mem ((c.tc : Thread Cert.FfnOutDgradIdeal.nD Cert.FfnOutDgradIdeal.τ).loc Cert.FfnOutDgradIdeal.main_arg0) = m ((c.tc : Thread Cert.FfnOutDgradIdeal.nD Cert.FfnOutDgradIdeal.τ).loc Cert.FfnOutDgradIdeal.main_arg0)
          ∧ r.2.mem ((c.tc : Thread Cert.FfnOutDgradIdeal.nD Cert.FfnOutDgradIdeal.τ).loc Cert.FfnOutDgradIdeal.main_arg1) = m ((c.tc : Thread Cert.FfnOutDgradIdeal.nD Cert.FfnOutDgradIdeal.τ).loc Cert.FfnOutDgradIdeal.main_arg1))
      ∧ θ_run (Cert.FfnOutDgradRefIdeal.defs (F := Ideal)) (onTc (τ := Cert.FfnOutDgradRefIdeal.τ) (Cert.FfnOutDgradRefIdeal.main (F := Ideal))) ⟨m', fun _ => 0, g'⟩ (fun r => ∀ c : Dev Cert.FfnOutDgradRefIdeal.nD,
          r.2.mem ((c.tc : Thread Cert.FfnOutDgradRefIdeal.nD Cert.FfnOutDgradRefIdeal.τ).loc Cert.FfnOutDgradRefIdeal.main_v3) = v0 c
          ∧ r.2.mem ((c.tc : Thread Cert.FfnOutDgradRefIdeal.nD Cert.FfnOutDgradRefIdeal.τ).loc Cert.FfnOutDgradRefIdeal.main_arg0) = m' ((c.tc : Thread Cert.FfnOutDgradRefIdeal.nD Cert.FfnOutDgradRefIdeal.τ).loc Cert.FfnOutDgradRefIdeal.main_arg0)
          ∧ r.2.mem ((c.tc : Thread Cert.FfnOutDgradRefIdeal.nD Cert.FfnOutDgradRefIdeal.τ).loc Cert.FfnOutDgradRefIdeal.main_arg1) = m' ((c.tc : Thread Cert.FfnOutDgradRefIdeal.nD Cert.FfnOutDgradRefIdeal.τ).loc Cert.FfnOutDgradRefIdeal.main_arg1))

def preserves_ProjInWgrad_ProjInWgradIdeal : Prop :=
  True

def algebraic_ProjInWgradIdeal_ProjInWgradRefIdeal [hProjInWgradIdeal : Cert.ProjInWgradIdeal.Facts] [hProjInWgradRefIdeal : Cert.ProjInWgradRefIdeal.Facts] : Prop :=
  ∀ (m : (ℓ : Loc Cert.ProjInWgradIdeal.nD Cert.ProjInWgradIdeal.τ Cert.ProjInWgradIdeal.sig) → Buf (Elt Ideal) ℓ) (g : Dev Cert.ProjInWgradIdeal.nD → PrngReg)
    (m' : (ℓ : Loc Cert.ProjInWgradRefIdeal.nD Cert.ProjInWgradRefIdeal.τ Cert.ProjInWgradRefIdeal.sig) → Buf (Elt Ideal) ℓ) (g' : Dev Cert.ProjInWgradRefIdeal.nD → PrngReg), Pre_ProjInWgradIdeal m →
    (∀ c : Dev Cert.ProjInWgradIdeal.nD,
      m' ((c.tc : Thread Cert.ProjInWgradRefIdeal.nD Cert.ProjInWgradRefIdeal.τ).loc Cert.ProjInWgradRefIdeal.main_arg0) = m ((c.tc : Thread Cert.ProjInWgradIdeal.nD Cert.ProjInWgradIdeal.τ).loc Cert.ProjInWgradIdeal.main_arg0)
      ∧ m' ((c.tc : Thread Cert.ProjInWgradRefIdeal.nD Cert.ProjInWgradRefIdeal.τ).loc Cert.ProjInWgradRefIdeal.main_arg1) = m ((c.tc : Thread Cert.ProjInWgradIdeal.nD Cert.ProjInWgradIdeal.τ).loc Cert.ProjInWgradIdeal.main_arg1)) →
    ∃ (v0 : (c : Dev Cert.ProjInWgradIdeal.nD) → Buf (Elt Ideal) ((c.tc : Thread Cert.ProjInWgradIdeal.nD Cert.ProjInWgradIdeal.τ).loc Cert.ProjInWgradIdeal.main_v0)),
      θ_run (Cert.ProjInWgradIdeal.defs (F := Ideal)) (onTc (τ := Cert.ProjInWgradIdeal.τ) (Cert.ProjInWgradIdeal.main (F := Ideal))) ⟨m, fun _ => 0, g⟩ (fun r => ∀ c : Dev Cert.ProjInWgradIdeal.nD,
          r.2.mem ((c.tc : Thread Cert.ProjInWgradIdeal.nD Cert.ProjInWgradIdeal.τ).loc Cert.ProjInWgradIdeal.main_v0) = v0 c
          ∧ r.2.mem ((c.tc : Thread Cert.ProjInWgradIdeal.nD Cert.ProjInWgradIdeal.τ).loc Cert.ProjInWgradIdeal.main_arg0) = m ((c.tc : Thread Cert.ProjInWgradIdeal.nD Cert.ProjInWgradIdeal.τ).loc Cert.ProjInWgradIdeal.main_arg0)
          ∧ r.2.mem ((c.tc : Thread Cert.ProjInWgradIdeal.nD Cert.ProjInWgradIdeal.τ).loc Cert.ProjInWgradIdeal.main_arg1) = m ((c.tc : Thread Cert.ProjInWgradIdeal.nD Cert.ProjInWgradIdeal.τ).loc Cert.ProjInWgradIdeal.main_arg1))
      ∧ θ_run (Cert.ProjInWgradRefIdeal.defs (F := Ideal)) (onTc (τ := Cert.ProjInWgradRefIdeal.τ) (Cert.ProjInWgradRefIdeal.main (F := Ideal))) ⟨m', fun _ => 0, g'⟩ (fun r => ∀ c : Dev Cert.ProjInWgradRefIdeal.nD,
          r.2.mem ((c.tc : Thread Cert.ProjInWgradRefIdeal.nD Cert.ProjInWgradRefIdeal.τ).loc Cert.ProjInWgradRefIdeal.main_v5) = v0 c
          ∧ r.2.mem ((c.tc : Thread Cert.ProjInWgradRefIdeal.nD Cert.ProjInWgradRefIdeal.τ).loc Cert.ProjInWgradRefIdeal.main_arg0) = m' ((c.tc : Thread Cert.ProjInWgradRefIdeal.nD Cert.ProjInWgradRefIdeal.τ).loc Cert.ProjInWgradRefIdeal.main_arg0)
          ∧ r.2.mem ((c.tc : Thread Cert.ProjInWgradRefIdeal.nD Cert.ProjInWgradRefIdeal.τ).loc Cert.ProjInWgradRefIdeal.main_arg1) = m' ((c.tc : Thread Cert.ProjInWgradRefIdeal.nD Cert.ProjInWgradRefIdeal.τ).loc Cert.ProjInWgradRefIdeal.main_arg1))

def preserves_FfnInDgrad_FfnInDgradIdeal : Prop :=
  True

def algebraic_FfnInDgradIdeal_FfnInDgradRefIdeal [hFfnInDgradIdeal : Cert.FfnInDgradIdeal.Facts] [hFfnInDgradRefIdeal : Cert.FfnInDgradRefIdeal.Facts] : Prop :=
  ∀ (m : (ℓ : Loc Cert.FfnInDgradIdeal.nD Cert.FfnInDgradIdeal.τ Cert.FfnInDgradIdeal.sig) → Buf (Elt Ideal) ℓ) (g : Dev Cert.FfnInDgradIdeal.nD → PrngReg)
    (m' : (ℓ : Loc Cert.FfnInDgradRefIdeal.nD Cert.FfnInDgradRefIdeal.τ Cert.FfnInDgradRefIdeal.sig) → Buf (Elt Ideal) ℓ) (g' : Dev Cert.FfnInDgradRefIdeal.nD → PrngReg), Pre_FfnInDgradIdeal m →
    (∀ c : Dev Cert.FfnInDgradIdeal.nD,
      m' ((c.tc : Thread Cert.FfnInDgradRefIdeal.nD Cert.FfnInDgradRefIdeal.τ).loc Cert.FfnInDgradRefIdeal.main_arg0) = m ((c.tc : Thread Cert.FfnInDgradIdeal.nD Cert.FfnInDgradIdeal.τ).loc Cert.FfnInDgradIdeal.main_arg0)
      ∧ m' ((c.tc : Thread Cert.FfnInDgradRefIdeal.nD Cert.FfnInDgradRefIdeal.τ).loc Cert.FfnInDgradRefIdeal.main_arg1) = m ((c.tc : Thread Cert.FfnInDgradIdeal.nD Cert.FfnInDgradIdeal.τ).loc Cert.FfnInDgradIdeal.main_arg1)
      ∧ m' ((c.tc : Thread Cert.FfnInDgradRefIdeal.nD Cert.FfnInDgradRefIdeal.τ).loc Cert.FfnInDgradRefIdeal.main_arg2) = m ((c.tc : Thread Cert.FfnInDgradIdeal.nD Cert.FfnInDgradIdeal.τ).loc Cert.FfnInDgradIdeal.main_arg2)) →
    ∃ (v0 : (c : Dev Cert.FfnInDgradIdeal.nD) → Buf (Elt Ideal) ((c.tc : Thread Cert.FfnInDgradIdeal.nD Cert.FfnInDgradIdeal.τ).loc Cert.FfnInDgradIdeal.main_v1)),
      θ_run (Cert.FfnInDgradIdeal.defs (F := Ideal)) (onTc (τ := Cert.FfnInDgradIdeal.τ) (Cert.FfnInDgradIdeal.main (F := Ideal))) ⟨m, fun _ => 0, g⟩ (fun r => ∀ c : Dev Cert.FfnInDgradIdeal.nD,
          r.2.mem ((c.tc : Thread Cert.FfnInDgradIdeal.nD Cert.FfnInDgradIdeal.τ).loc Cert.FfnInDgradIdeal.main_v1) = v0 c
          ∧ r.2.mem ((c.tc : Thread Cert.FfnInDgradIdeal.nD Cert.FfnInDgradIdeal.τ).loc Cert.FfnInDgradIdeal.main_arg0) = m ((c.tc : Thread Cert.FfnInDgradIdeal.nD Cert.FfnInDgradIdeal.τ).loc Cert.FfnInDgradIdeal.main_arg0)
          ∧ r.2.mem ((c.tc : Thread Cert.FfnInDgradIdeal.nD Cert.FfnInDgradIdeal.τ).loc Cert.FfnInDgradIdeal.main_arg1) = m ((c.tc : Thread Cert.FfnInDgradIdeal.nD Cert.FfnInDgradIdeal.τ).loc Cert.FfnInDgradIdeal.main_arg1)
          ∧ r.2.mem ((c.tc : Thread Cert.FfnInDgradIdeal.nD Cert.FfnInDgradIdeal.τ).loc Cert.FfnInDgradIdeal.main_arg2) = m ((c.tc : Thread Cert.FfnInDgradIdeal.nD Cert.FfnInDgradIdeal.τ).loc Cert.FfnInDgradIdeal.main_arg2))
      ∧ θ_run (Cert.FfnInDgradRefIdeal.defs (F := Ideal)) (onTc (τ := Cert.FfnInDgradRefIdeal.τ) (Cert.FfnInDgradRefIdeal.main (F := Ideal))) ⟨m', fun _ => 0, g'⟩ (fun r => ∀ c : Dev Cert.FfnInDgradRefIdeal.nD,
          r.2.mem ((c.tc : Thread Cert.FfnInDgradRefIdeal.nD Cert.FfnInDgradRefIdeal.τ).loc Cert.FfnInDgradRefIdeal.main_v10) = v0 c
          ∧ r.2.mem ((c.tc : Thread Cert.FfnInDgradRefIdeal.nD Cert.FfnInDgradRefIdeal.τ).loc Cert.FfnInDgradRefIdeal.main_arg0) = m' ((c.tc : Thread Cert.FfnInDgradRefIdeal.nD Cert.FfnInDgradRefIdeal.τ).loc Cert.FfnInDgradRefIdeal.main_arg0)
          ∧ r.2.mem ((c.tc : Thread Cert.FfnInDgradRefIdeal.nD Cert.FfnInDgradRefIdeal.τ).loc Cert.FfnInDgradRefIdeal.main_arg1) = m' ((c.tc : Thread Cert.FfnInDgradRefIdeal.nD Cert.FfnInDgradRefIdeal.τ).loc Cert.FfnInDgradRefIdeal.main_arg1)
          ∧ r.2.mem ((c.tc : Thread Cert.FfnInDgradRefIdeal.nD Cert.FfnInDgradRefIdeal.τ).loc Cert.FfnInDgradRefIdeal.main_arg2) = m' ((c.tc : Thread Cert.FfnInDgradRefIdeal.nD Cert.FfnInDgradRefIdeal.τ).loc Cert.FfnInDgradRefIdeal.main_arg2))

def preserves_FfnInWgrad_FfnInWgradIdeal : Prop :=
  True

def algebraic_FfnInWgradIdeal_FfnInWgradRefIdeal [hFfnInWgradIdeal : Cert.FfnInWgradIdeal.Facts] [hFfnInWgradRefIdeal : Cert.FfnInWgradRefIdeal.Facts] : Prop :=
  ∀ (m : (ℓ : Loc Cert.FfnInWgradIdeal.nD Cert.FfnInWgradIdeal.τ Cert.FfnInWgradIdeal.sig) → Buf (Elt Ideal) ℓ) (g : Dev Cert.FfnInWgradIdeal.nD → PrngReg)
    (m' : (ℓ : Loc Cert.FfnInWgradRefIdeal.nD Cert.FfnInWgradRefIdeal.τ Cert.FfnInWgradRefIdeal.sig) → Buf (Elt Ideal) ℓ) (g' : Dev Cert.FfnInWgradRefIdeal.nD → PrngReg), Pre_FfnInWgradIdeal m →
    (∀ c : Dev Cert.FfnInWgradIdeal.nD,
      m' ((c.tc : Thread Cert.FfnInWgradRefIdeal.nD Cert.FfnInWgradRefIdeal.τ).loc Cert.FfnInWgradRefIdeal.main_arg0) = m ((c.tc : Thread Cert.FfnInWgradIdeal.nD Cert.FfnInWgradIdeal.τ).loc Cert.FfnInWgradIdeal.main_arg0)
      ∧ m' ((c.tc : Thread Cert.FfnInWgradRefIdeal.nD Cert.FfnInWgradRefIdeal.τ).loc Cert.FfnInWgradRefIdeal.main_arg1) = m ((c.tc : Thread Cert.FfnInWgradIdeal.nD Cert.FfnInWgradIdeal.τ).loc Cert.FfnInWgradIdeal.main_arg1)) →
    ∃ (v0 : (c : Dev Cert.FfnInWgradIdeal.nD) → Buf (Elt Ideal) ((c.tc : Thread Cert.FfnInWgradIdeal.nD Cert.FfnInWgradIdeal.τ).loc Cert.FfnInWgradIdeal.main_v0)),
      θ_run (Cert.FfnInWgradIdeal.defs (F := Ideal)) (onTc (τ := Cert.FfnInWgradIdeal.τ) (Cert.FfnInWgradIdeal.main (F := Ideal))) ⟨m, fun _ => 0, g⟩ (fun r => ∀ c : Dev Cert.FfnInWgradIdeal.nD,
          r.2.mem ((c.tc : Thread Cert.FfnInWgradIdeal.nD Cert.FfnInWgradIdeal.τ).loc Cert.FfnInWgradIdeal.main_v0) = v0 c
          ∧ r.2.mem ((c.tc : Thread Cert.FfnInWgradIdeal.nD Cert.FfnInWgradIdeal.τ).loc Cert.FfnInWgradIdeal.main_arg0) = m ((c.tc : Thread Cert.FfnInWgradIdeal.nD Cert.FfnInWgradIdeal.τ).loc Cert.FfnInWgradIdeal.main_arg0)
          ∧ r.2.mem ((c.tc : Thread Cert.FfnInWgradIdeal.nD Cert.FfnInWgradIdeal.τ).loc Cert.FfnInWgradIdeal.main_arg1) = m ((c.tc : Thread Cert.FfnInWgradIdeal.nD Cert.FfnInWgradIdeal.τ).loc Cert.FfnInWgradIdeal.main_arg1))
      ∧ θ_run (Cert.FfnInWgradRefIdeal.defs (F := Ideal)) (onTc (τ := Cert.FfnInWgradRefIdeal.τ) (Cert.FfnInWgradRefIdeal.main (F := Ideal))) ⟨m', fun _ => 0, g'⟩ (fun r => ∀ c : Dev Cert.FfnInWgradRefIdeal.nD,
          r.2.mem ((c.tc : Thread Cert.FfnInWgradRefIdeal.nD Cert.FfnInWgradRefIdeal.τ).loc Cert.FfnInWgradRefIdeal.main_v9) = v0 c
          ∧ r.2.mem ((c.tc : Thread Cert.FfnInWgradRefIdeal.nD Cert.FfnInWgradRefIdeal.τ).loc Cert.FfnInWgradRefIdeal.main_arg0) = m' ((c.tc : Thread Cert.FfnInWgradRefIdeal.nD Cert.FfnInWgradRefIdeal.τ).loc Cert.FfnInWgradRefIdeal.main_arg0)
          ∧ r.2.mem ((c.tc : Thread Cert.FfnInWgradRefIdeal.nD Cert.FfnInWgradRefIdeal.τ).loc Cert.FfnInWgradRefIdeal.main_arg1) = m' ((c.tc : Thread Cert.FfnInWgradRefIdeal.nD Cert.FfnInWgradRefIdeal.τ).loc Cert.FfnInWgradRefIdeal.main_arg1))

def preserves_ProjODgrad_ProjODgradIdeal : Prop :=
  True

def algebraic_ProjODgradIdeal_ProjODgradRefIdeal [hProjODgradIdeal : Cert.ProjODgradIdeal.Facts] [hProjODgradRefIdeal : Cert.ProjODgradRefIdeal.Facts] : Prop :=
  ∀ (m : (ℓ : Loc Cert.ProjODgradIdeal.nD Cert.ProjODgradIdeal.τ Cert.ProjODgradIdeal.sig) → Buf (Elt Ideal) ℓ) (g : Dev Cert.ProjODgradIdeal.nD → PrngReg)
    (m' : (ℓ : Loc Cert.ProjODgradRefIdeal.nD Cert.ProjODgradRefIdeal.τ Cert.ProjODgradRefIdeal.sig) → Buf (Elt Ideal) ℓ) (g' : Dev Cert.ProjODgradRefIdeal.nD → PrngReg), Pre_ProjODgradIdeal m →
    (∀ c : Dev Cert.ProjODgradIdeal.nD,
      m' ((c.tc : Thread Cert.ProjODgradRefIdeal.nD Cert.ProjODgradRefIdeal.τ).loc Cert.ProjODgradRefIdeal.main_arg0) = m ((c.tc : Thread Cert.ProjODgradIdeal.nD Cert.ProjODgradIdeal.τ).loc Cert.ProjODgradIdeal.main_arg0)
      ∧ m' ((c.tc : Thread Cert.ProjODgradRefIdeal.nD Cert.ProjODgradRefIdeal.τ).loc Cert.ProjODgradRefIdeal.main_arg1) = m ((c.tc : Thread Cert.ProjODgradIdeal.nD Cert.ProjODgradIdeal.τ).loc Cert.ProjODgradIdeal.main_arg1)) →
    ∃ (v0 : (c : Dev Cert.ProjODgradIdeal.nD) → Buf (Elt Ideal) ((c.tc : Thread Cert.ProjODgradIdeal.nD Cert.ProjODgradIdeal.τ).loc Cert.ProjODgradIdeal.main_v1)),
      θ_run (Cert.ProjODgradIdeal.defs (F := Ideal)) (onTc (τ := Cert.ProjODgradIdeal.τ) (Cert.ProjODgradIdeal.main (F := Ideal))) ⟨m, fun _ => 0, g⟩ (fun r => ∀ c : Dev Cert.ProjODgradIdeal.nD,
          r.2.mem ((c.tc : Thread Cert.ProjODgradIdeal.nD Cert.ProjODgradIdeal.τ).loc Cert.ProjODgradIdeal.main_v1) = v0 c
          ∧ r.2.mem ((c.tc : Thread Cert.ProjODgradIdeal.nD Cert.ProjODgradIdeal.τ).loc Cert.ProjODgradIdeal.main_arg0) = m ((c.tc : Thread Cert.ProjODgradIdeal.nD Cert.ProjODgradIdeal.τ).loc Cert.ProjODgradIdeal.main_arg0)
          ∧ r.2.mem ((c.tc : Thread Cert.ProjODgradIdeal.nD Cert.ProjODgradIdeal.τ).loc Cert.ProjODgradIdeal.main_arg1) = m ((c.tc : Thread Cert.ProjODgradIdeal.nD Cert.ProjODgradIdeal.τ).loc Cert.ProjODgradIdeal.main_arg1))
      ∧ θ_run (Cert.ProjODgradRefIdeal.defs (F := Ideal)) (onTc (τ := Cert.ProjODgradRefIdeal.τ) (Cert.ProjODgradRefIdeal.main (F := Ideal))) ⟨m', fun _ => 0, g'⟩ (fun r => ∀ c : Dev Cert.ProjODgradRefIdeal.nD,
          r.2.mem ((c.tc : Thread Cert.ProjODgradRefIdeal.nD Cert.ProjODgradRefIdeal.τ).loc Cert.ProjODgradRefIdeal.main_v2) = v0 c
          ∧ r.2.mem ((c.tc : Thread Cert.ProjODgradRefIdeal.nD Cert.ProjODgradRefIdeal.τ).loc Cert.ProjODgradRefIdeal.main_arg0) = m' ((c.tc : Thread Cert.ProjODgradRefIdeal.nD Cert.ProjODgradRefIdeal.τ).loc Cert.ProjODgradRefIdeal.main_arg0)
          ∧ r.2.mem ((c.tc : Thread Cert.ProjODgradRefIdeal.nD Cert.ProjODgradRefIdeal.τ).loc Cert.ProjODgradRefIdeal.main_arg1) = m' ((c.tc : Thread Cert.ProjODgradRefIdeal.nD Cert.ProjODgradRefIdeal.τ).loc Cert.ProjODgradRefIdeal.main_arg1))

def preserves_ProjOWgrad_ProjOWgradIdeal : Prop :=
  True

def algebraic_ProjOWgradIdeal_ProjOWgradRefIdeal [hProjOWgradIdeal : Cert.ProjOWgradIdeal.Facts] [hProjOWgradRefIdeal : Cert.ProjOWgradRefIdeal.Facts] : Prop :=
  ∀ (m : (ℓ : Loc Cert.ProjOWgradIdeal.nD Cert.ProjOWgradIdeal.τ Cert.ProjOWgradIdeal.sig) → Buf (Elt Ideal) ℓ) (g : Dev Cert.ProjOWgradIdeal.nD → PrngReg)
    (m' : (ℓ : Loc Cert.ProjOWgradRefIdeal.nD Cert.ProjOWgradRefIdeal.τ Cert.ProjOWgradRefIdeal.sig) → Buf (Elt Ideal) ℓ) (g' : Dev Cert.ProjOWgradRefIdeal.nD → PrngReg), Pre_ProjOWgradIdeal m →
    (∀ c : Dev Cert.ProjOWgradIdeal.nD,
      m' ((c.tc : Thread Cert.ProjOWgradRefIdeal.nD Cert.ProjOWgradRefIdeal.τ).loc Cert.ProjOWgradRefIdeal.main_arg0) = m ((c.tc : Thread Cert.ProjOWgradIdeal.nD Cert.ProjOWgradIdeal.τ).loc Cert.ProjOWgradIdeal.main_arg0)
      ∧ m' ((c.tc : Thread Cert.ProjOWgradRefIdeal.nD Cert.ProjOWgradRefIdeal.τ).loc Cert.ProjOWgradRefIdeal.main_arg1) = m ((c.tc : Thread Cert.ProjOWgradIdeal.nD Cert.ProjOWgradIdeal.τ).loc Cert.ProjOWgradIdeal.main_arg1)) →
    ∃ (v0 : (c : Dev Cert.ProjOWgradIdeal.nD) → Buf (Elt Ideal) ((c.tc : Thread Cert.ProjOWgradIdeal.nD Cert.ProjOWgradIdeal.τ).loc Cert.ProjOWgradIdeal.main_v0)),
      θ_run (Cert.ProjOWgradIdeal.defs (F := Ideal)) (onTc (τ := Cert.ProjOWgradIdeal.τ) (Cert.ProjOWgradIdeal.main (F := Ideal))) ⟨m, fun _ => 0, g⟩ (fun r => ∀ c : Dev Cert.ProjOWgradIdeal.nD,
          r.2.mem ((c.tc : Thread Cert.ProjOWgradIdeal.nD Cert.ProjOWgradIdeal.τ).loc Cert.ProjOWgradIdeal.main_v0) = v0 c
          ∧ r.2.mem ((c.tc : Thread Cert.ProjOWgradIdeal.nD Cert.ProjOWgradIdeal.τ).loc Cert.ProjOWgradIdeal.main_arg0) = m ((c.tc : Thread Cert.ProjOWgradIdeal.nD Cert.ProjOWgradIdeal.τ).loc Cert.ProjOWgradIdeal.main_arg0)
          ∧ r.2.mem ((c.tc : Thread Cert.ProjOWgradIdeal.nD Cert.ProjOWgradIdeal.τ).loc Cert.ProjOWgradIdeal.main_arg1) = m ((c.tc : Thread Cert.ProjOWgradIdeal.nD Cert.ProjOWgradIdeal.τ).loc Cert.ProjOWgradIdeal.main_arg1))
      ∧ θ_run (Cert.ProjOWgradRefIdeal.defs (F := Ideal)) (onTc (τ := Cert.ProjOWgradRefIdeal.τ) (Cert.ProjOWgradRefIdeal.main (F := Ideal))) ⟨m', fun _ => 0, g'⟩ (fun r => ∀ c : Dev Cert.ProjOWgradRefIdeal.nD,
          r.2.mem ((c.tc : Thread Cert.ProjOWgradRefIdeal.nD Cert.ProjOWgradRefIdeal.τ).loc Cert.ProjOWgradRefIdeal.main_v5) = v0 c
          ∧ r.2.mem ((c.tc : Thread Cert.ProjOWgradRefIdeal.nD Cert.ProjOWgradRefIdeal.τ).loc Cert.ProjOWgradRefIdeal.main_arg0) = m' ((c.tc : Thread Cert.ProjOWgradRefIdeal.nD Cert.ProjOWgradRefIdeal.τ).loc Cert.ProjOWgradRefIdeal.main_arg0)
          ∧ r.2.mem ((c.tc : Thread Cert.ProjOWgradRefIdeal.nD Cert.ProjOWgradRefIdeal.τ).loc Cert.ProjOWgradRefIdeal.main_arg1) = m' ((c.tc : Thread Cert.ProjOWgradRefIdeal.nD Cert.ProjOWgradRefIdeal.τ).loc Cert.ProjOWgradRefIdeal.main_arg1))

def preserves_ProjADgrad_ProjADgradIdeal : Prop :=
  True

def algebraic_ProjADgradIdeal_ProjADgradRefIdeal [hProjADgradIdeal : Cert.ProjADgradIdeal.Facts] [hProjADgradRefIdeal : Cert.ProjADgradRefIdeal.Facts] : Prop :=
  ∀ (m : (ℓ : Loc Cert.ProjADgradIdeal.nD Cert.ProjADgradIdeal.τ Cert.ProjADgradIdeal.sig) → Buf (Elt Ideal) ℓ) (g : Dev Cert.ProjADgradIdeal.nD → PrngReg)
    (m' : (ℓ : Loc Cert.ProjADgradRefIdeal.nD Cert.ProjADgradRefIdeal.τ Cert.ProjADgradRefIdeal.sig) → Buf (Elt Ideal) ℓ) (g' : Dev Cert.ProjADgradRefIdeal.nD → PrngReg), Pre_ProjADgradIdeal m →
    (∀ c : Dev Cert.ProjADgradIdeal.nD,
      m' ((c.tc : Thread Cert.ProjADgradRefIdeal.nD Cert.ProjADgradRefIdeal.τ).loc Cert.ProjADgradRefIdeal.main_arg0) = m ((c.tc : Thread Cert.ProjADgradIdeal.nD Cert.ProjADgradIdeal.τ).loc Cert.ProjADgradIdeal.main_arg0)
      ∧ m' ((c.tc : Thread Cert.ProjADgradRefIdeal.nD Cert.ProjADgradRefIdeal.τ).loc Cert.ProjADgradRefIdeal.main_arg1) = m ((c.tc : Thread Cert.ProjADgradIdeal.nD Cert.ProjADgradIdeal.τ).loc Cert.ProjADgradIdeal.main_arg1)) →
    ∃ (v0 : (c : Dev Cert.ProjADgradIdeal.nD) → Buf (Elt Ideal) ((c.tc : Thread Cert.ProjADgradIdeal.nD Cert.ProjADgradIdeal.τ).loc Cert.ProjADgradIdeal.main_v1)),
      θ_run (Cert.ProjADgradIdeal.defs (F := Ideal)) (onTc (τ := Cert.ProjADgradIdeal.τ) (Cert.ProjADgradIdeal.main (F := Ideal))) ⟨m, fun _ => 0, g⟩ (fun r => ∀ c : Dev Cert.ProjADgradIdeal.nD,
          r.2.mem ((c.tc : Thread Cert.ProjADgradIdeal.nD Cert.ProjADgradIdeal.τ).loc Cert.ProjADgradIdeal.main_v1) = v0 c
          ∧ r.2.mem ((c.tc : Thread Cert.ProjADgradIdeal.nD Cert.ProjADgradIdeal.τ).loc Cert.ProjADgradIdeal.main_arg0) = m ((c.tc : Thread Cert.ProjADgradIdeal.nD Cert.ProjADgradIdeal.τ).loc Cert.ProjADgradIdeal.main_arg0)
          ∧ r.2.mem ((c.tc : Thread Cert.ProjADgradIdeal.nD Cert.ProjADgradIdeal.τ).loc Cert.ProjADgradIdeal.main_arg1) = m ((c.tc : Thread Cert.ProjADgradIdeal.nD Cert.ProjADgradIdeal.τ).loc Cert.ProjADgradIdeal.main_arg1))
      ∧ θ_run (Cert.ProjADgradRefIdeal.defs (F := Ideal)) (onTc (τ := Cert.ProjADgradRefIdeal.τ) (Cert.ProjADgradRefIdeal.main (F := Ideal))) ⟨m', fun _ => 0, g'⟩ (fun r => ∀ c : Dev Cert.ProjADgradRefIdeal.nD,
          r.2.mem ((c.tc : Thread Cert.ProjADgradRefIdeal.nD Cert.ProjADgradRefIdeal.τ).loc Cert.ProjADgradRefIdeal.main_v5) = v0 c
          ∧ r.2.mem ((c.tc : Thread Cert.ProjADgradRefIdeal.nD Cert.ProjADgradRefIdeal.τ).loc Cert.ProjADgradRefIdeal.main_arg0) = m' ((c.tc : Thread Cert.ProjADgradRefIdeal.nD Cert.ProjADgradRefIdeal.τ).loc Cert.ProjADgradRefIdeal.main_arg0)
          ∧ r.2.mem ((c.tc : Thread Cert.ProjADgradRefIdeal.nD Cert.ProjADgradRefIdeal.τ).loc Cert.ProjADgradRefIdeal.main_arg1) = m' ((c.tc : Thread Cert.ProjADgradRefIdeal.nD Cert.ProjADgradRefIdeal.τ).loc Cert.ProjADgradRefIdeal.main_arg1))

def preserves_ProjAWgrad_ProjAWgradIdeal : Prop :=
  True

def algebraic_ProjAWgradIdeal_ProjAWgradRefIdeal [hProjAWgradIdeal : Cert.ProjAWgradIdeal.Facts] [hProjAWgradRefIdeal : Cert.ProjAWgradRefIdeal.Facts] : Prop :=
  ∀ (m : (ℓ : Loc Cert.ProjAWgradIdeal.nD Cert.ProjAWgradIdeal.τ Cert.ProjAWgradIdeal.sig) → Buf (Elt Ideal) ℓ) (g : Dev Cert.ProjAWgradIdeal.nD → PrngReg)
    (m' : (ℓ : Loc Cert.ProjAWgradRefIdeal.nD Cert.ProjAWgradRefIdeal.τ Cert.ProjAWgradRefIdeal.sig) → Buf (Elt Ideal) ℓ) (g' : Dev Cert.ProjAWgradRefIdeal.nD → PrngReg), Pre_ProjAWgradIdeal m →
    (∀ c : Dev Cert.ProjAWgradIdeal.nD,
      m' ((c.tc : Thread Cert.ProjAWgradRefIdeal.nD Cert.ProjAWgradRefIdeal.τ).loc Cert.ProjAWgradRefIdeal.main_arg0) = m ((c.tc : Thread Cert.ProjAWgradIdeal.nD Cert.ProjAWgradIdeal.τ).loc Cert.ProjAWgradIdeal.main_arg0)
      ∧ m' ((c.tc : Thread Cert.ProjAWgradRefIdeal.nD Cert.ProjAWgradRefIdeal.τ).loc Cert.ProjAWgradRefIdeal.main_arg1) = m ((c.tc : Thread Cert.ProjAWgradIdeal.nD Cert.ProjAWgradIdeal.τ).loc Cert.ProjAWgradIdeal.main_arg1)) →
    ∃ (v0 : (c : Dev Cert.ProjAWgradIdeal.nD) → Buf (Elt Ideal) ((c.tc : Thread Cert.ProjAWgradIdeal.nD Cert.ProjAWgradIdeal.τ).loc Cert.ProjAWgradIdeal.main_v0)),
      θ_run (Cert.ProjAWgradIdeal.defs (F := Ideal)) (onTc (τ := Cert.ProjAWgradIdeal.τ) (Cert.ProjAWgradIdeal.main (F := Ideal))) ⟨m, fun _ => 0, g⟩ (fun r => ∀ c : Dev Cert.ProjAWgradIdeal.nD,
          r.2.mem ((c.tc : Thread Cert.ProjAWgradIdeal.nD Cert.ProjAWgradIdeal.τ).loc Cert.ProjAWgradIdeal.main_v0) = v0 c
          ∧ r.2.mem ((c.tc : Thread Cert.ProjAWgradIdeal.nD Cert.ProjAWgradIdeal.τ).loc Cert.ProjAWgradIdeal.main_arg0) = m ((c.tc : Thread Cert.ProjAWgradIdeal.nD Cert.ProjAWgradIdeal.τ).loc Cert.ProjAWgradIdeal.main_arg0)
          ∧ r.2.mem ((c.tc : Thread Cert.ProjAWgradIdeal.nD Cert.ProjAWgradIdeal.τ).loc Cert.ProjAWgradIdeal.main_arg1) = m ((c.tc : Thread Cert.ProjAWgradIdeal.nD Cert.ProjAWgradIdeal.τ).loc Cert.ProjAWgradIdeal.main_arg1))
      ∧ θ_run (Cert.ProjAWgradRefIdeal.defs (F := Ideal)) (onTc (τ := Cert.ProjAWgradRefIdeal.τ) (Cert.ProjAWgradRefIdeal.main (F := Ideal))) ⟨m', fun _ => 0, g'⟩ (fun r => ∀ c : Dev Cert.ProjAWgradRefIdeal.nD,
          r.2.mem ((c.tc : Thread Cert.ProjAWgradRefIdeal.nD Cert.ProjAWgradRefIdeal.τ).loc Cert.ProjAWgradRefIdeal.main_v9) = v0 c
          ∧ r.2.mem ((c.tc : Thread Cert.ProjAWgradRefIdeal.nD Cert.ProjAWgradRefIdeal.τ).loc Cert.ProjAWgradRefIdeal.main_arg0) = m' ((c.tc : Thread Cert.ProjAWgradRefIdeal.nD Cert.ProjAWgradRefIdeal.τ).loc Cert.ProjAWgradRefIdeal.main_arg0)
          ∧ r.2.mem ((c.tc : Thread Cert.ProjAWgradRefIdeal.nD Cert.ProjAWgradRefIdeal.τ).loc Cert.ProjAWgradRefIdeal.main_arg1) = m' ((c.tc : Thread Cert.ProjAWgradRefIdeal.nD Cert.ProjAWgradRefIdeal.τ).loc Cert.ProjAWgradRefIdeal.main_arg1))

def preserves_ProjBDgrad_ProjBDgradIdeal : Prop :=
  True

def algebraic_ProjBDgradIdeal_ProjBDgradRefIdeal [hProjBDgradIdeal : Cert.ProjBDgradIdeal.Facts] [hProjBDgradRefIdeal : Cert.ProjBDgradRefIdeal.Facts] : Prop :=
  ∀ (m : (ℓ : Loc Cert.ProjBDgradIdeal.nD Cert.ProjBDgradIdeal.τ Cert.ProjBDgradIdeal.sig) → Buf (Elt Ideal) ℓ) (g : Dev Cert.ProjBDgradIdeal.nD → PrngReg)
    (m' : (ℓ : Loc Cert.ProjBDgradRefIdeal.nD Cert.ProjBDgradRefIdeal.τ Cert.ProjBDgradRefIdeal.sig) → Buf (Elt Ideal) ℓ) (g' : Dev Cert.ProjBDgradRefIdeal.nD → PrngReg), Pre_ProjBDgradIdeal m →
    (∀ c : Dev Cert.ProjBDgradIdeal.nD,
      m' ((c.tc : Thread Cert.ProjBDgradRefIdeal.nD Cert.ProjBDgradRefIdeal.τ).loc Cert.ProjBDgradRefIdeal.main_arg0) = m ((c.tc : Thread Cert.ProjBDgradIdeal.nD Cert.ProjBDgradIdeal.τ).loc Cert.ProjBDgradIdeal.main_arg0)
      ∧ m' ((c.tc : Thread Cert.ProjBDgradRefIdeal.nD Cert.ProjBDgradRefIdeal.τ).loc Cert.ProjBDgradRefIdeal.main_arg1) = m ((c.tc : Thread Cert.ProjBDgradIdeal.nD Cert.ProjBDgradIdeal.τ).loc Cert.ProjBDgradIdeal.main_arg1)) →
    ∃ (v0 : (c : Dev Cert.ProjBDgradIdeal.nD) → Buf (Elt Ideal) ((c.tc : Thread Cert.ProjBDgradIdeal.nD Cert.ProjBDgradIdeal.τ).loc Cert.ProjBDgradIdeal.main_v1)),
      θ_run (Cert.ProjBDgradIdeal.defs (F := Ideal)) (onTc (τ := Cert.ProjBDgradIdeal.τ) (Cert.ProjBDgradIdeal.main (F := Ideal))) ⟨m, fun _ => 0, g⟩ (fun r => ∀ c : Dev Cert.ProjBDgradIdeal.nD,
          r.2.mem ((c.tc : Thread Cert.ProjBDgradIdeal.nD Cert.ProjBDgradIdeal.τ).loc Cert.ProjBDgradIdeal.main_v1) = v0 c
          ∧ r.2.mem ((c.tc : Thread Cert.ProjBDgradIdeal.nD Cert.ProjBDgradIdeal.τ).loc Cert.ProjBDgradIdeal.main_arg0) = m ((c.tc : Thread Cert.ProjBDgradIdeal.nD Cert.ProjBDgradIdeal.τ).loc Cert.ProjBDgradIdeal.main_arg0)
          ∧ r.2.mem ((c.tc : Thread Cert.ProjBDgradIdeal.nD Cert.ProjBDgradIdeal.τ).loc Cert.ProjBDgradIdeal.main_arg1) = m ((c.tc : Thread Cert.ProjBDgradIdeal.nD Cert.ProjBDgradIdeal.τ).loc Cert.ProjBDgradIdeal.main_arg1))
      ∧ θ_run (Cert.ProjBDgradRefIdeal.defs (F := Ideal)) (onTc (τ := Cert.ProjBDgradRefIdeal.τ) (Cert.ProjBDgradRefIdeal.main (F := Ideal))) ⟨m', fun _ => 0, g'⟩ (fun r => ∀ c : Dev Cert.ProjBDgradRefIdeal.nD,
          r.2.mem ((c.tc : Thread Cert.ProjBDgradRefIdeal.nD Cert.ProjBDgradRefIdeal.τ).loc Cert.ProjBDgradRefIdeal.main_v5) = v0 c
          ∧ r.2.mem ((c.tc : Thread Cert.ProjBDgradRefIdeal.nD Cert.ProjBDgradRefIdeal.τ).loc Cert.ProjBDgradRefIdeal.main_arg0) = m' ((c.tc : Thread Cert.ProjBDgradRefIdeal.nD Cert.ProjBDgradRefIdeal.τ).loc Cert.ProjBDgradRefIdeal.main_arg0)
          ∧ r.2.mem ((c.tc : Thread Cert.ProjBDgradRefIdeal.nD Cert.ProjBDgradRefIdeal.τ).loc Cert.ProjBDgradRefIdeal.main_arg1) = m' ((c.tc : Thread Cert.ProjBDgradRefIdeal.nD Cert.ProjBDgradRefIdeal.τ).loc Cert.ProjBDgradRefIdeal.main_arg1))

def preserves_ProjBWgrad_ProjBWgradIdeal : Prop :=
  True

def algebraic_ProjBWgradIdeal_ProjBWgradRefIdeal [hProjBWgradIdeal : Cert.ProjBWgradIdeal.Facts] [hProjBWgradRefIdeal : Cert.ProjBWgradRefIdeal.Facts] : Prop :=
  ∀ (m : (ℓ : Loc Cert.ProjBWgradIdeal.nD Cert.ProjBWgradIdeal.τ Cert.ProjBWgradIdeal.sig) → Buf (Elt Ideal) ℓ) (g : Dev Cert.ProjBWgradIdeal.nD → PrngReg)
    (m' : (ℓ : Loc Cert.ProjBWgradRefIdeal.nD Cert.ProjBWgradRefIdeal.τ Cert.ProjBWgradRefIdeal.sig) → Buf (Elt Ideal) ℓ) (g' : Dev Cert.ProjBWgradRefIdeal.nD → PrngReg), Pre_ProjBWgradIdeal m →
    (∀ c : Dev Cert.ProjBWgradIdeal.nD,
      m' ((c.tc : Thread Cert.ProjBWgradRefIdeal.nD Cert.ProjBWgradRefIdeal.τ).loc Cert.ProjBWgradRefIdeal.main_arg0) = m ((c.tc : Thread Cert.ProjBWgradIdeal.nD Cert.ProjBWgradIdeal.τ).loc Cert.ProjBWgradIdeal.main_arg0)
      ∧ m' ((c.tc : Thread Cert.ProjBWgradRefIdeal.nD Cert.ProjBWgradRefIdeal.τ).loc Cert.ProjBWgradRefIdeal.main_arg1) = m ((c.tc : Thread Cert.ProjBWgradIdeal.nD Cert.ProjBWgradIdeal.τ).loc Cert.ProjBWgradIdeal.main_arg1)) →
    ∃ (v0 : (c : Dev Cert.ProjBWgradIdeal.nD) → Buf (Elt Ideal) ((c.tc : Thread Cert.ProjBWgradIdeal.nD Cert.ProjBWgradIdeal.τ).loc Cert.ProjBWgradIdeal.main_v0)),
      θ_run (Cert.ProjBWgradIdeal.defs (F := Ideal)) (onTc (τ := Cert.ProjBWgradIdeal.τ) (Cert.ProjBWgradIdeal.main (F := Ideal))) ⟨m, fun _ => 0, g⟩ (fun r => ∀ c : Dev Cert.ProjBWgradIdeal.nD,
          r.2.mem ((c.tc : Thread Cert.ProjBWgradIdeal.nD Cert.ProjBWgradIdeal.τ).loc Cert.ProjBWgradIdeal.main_v0) = v0 c
          ∧ r.2.mem ((c.tc : Thread Cert.ProjBWgradIdeal.nD Cert.ProjBWgradIdeal.τ).loc Cert.ProjBWgradIdeal.main_arg0) = m ((c.tc : Thread Cert.ProjBWgradIdeal.nD Cert.ProjBWgradIdeal.τ).loc Cert.ProjBWgradIdeal.main_arg0)
          ∧ r.2.mem ((c.tc : Thread Cert.ProjBWgradIdeal.nD Cert.ProjBWgradIdeal.τ).loc Cert.ProjBWgradIdeal.main_arg1) = m ((c.tc : Thread Cert.ProjBWgradIdeal.nD Cert.ProjBWgradIdeal.τ).loc Cert.ProjBWgradIdeal.main_arg1))
      ∧ θ_run (Cert.ProjBWgradRefIdeal.defs (F := Ideal)) (onTc (τ := Cert.ProjBWgradRefIdeal.τ) (Cert.ProjBWgradRefIdeal.main (F := Ideal))) ⟨m', fun _ => 0, g'⟩ (fun r => ∀ c : Dev Cert.ProjBWgradRefIdeal.nD,
          r.2.mem ((c.tc : Thread Cert.ProjBWgradRefIdeal.nD Cert.ProjBWgradRefIdeal.τ).loc Cert.ProjBWgradRefIdeal.main_v10) = v0 c
          ∧ r.2.mem ((c.tc : Thread Cert.ProjBWgradRefIdeal.nD Cert.ProjBWgradRefIdeal.τ).loc Cert.ProjBWgradRefIdeal.main_arg0) = m' ((c.tc : Thread Cert.ProjBWgradRefIdeal.nD Cert.ProjBWgradRefIdeal.τ).loc Cert.ProjBWgradRefIdeal.main_arg0)
          ∧ r.2.mem ((c.tc : Thread Cert.ProjBWgradRefIdeal.nD Cert.ProjBWgradRefIdeal.τ).loc Cert.ProjBWgradRefIdeal.main_arg1) = m' ((c.tc : Thread Cert.ProjBWgradRefIdeal.nD Cert.ProjBWgradRefIdeal.τ).loc Cert.ProjBWgradRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)
      ∧ m' ((c.tc : Thread Cert.ProjQkvRefIdeal.nD Cert.ProjQkvRefIdeal.τ).loc Cert.ProjQkvRefIdeal.main_arg2) = m ((c.tc : Thread Cert.ProjQkvIdeal.nD Cert.ProjQkvIdeal.τ).loc Cert.ProjQkvIdeal.main_arg2)) →
    ∃ (v0 : (c : Dev Cert.ProjQkvIdeal.nD) → Buf (Elt Ideal) ((c.tc : Thread Cert.ProjQkvIdeal.nD Cert.ProjQkvIdeal.τ).loc Cert.ProjQkvIdeal.main_v2)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v2) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
          ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v6) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1)
          ∧ r.2.mem ((c.tc : Thread Cert.ProjQkvRefIdeal.nD Cert.ProjQkvRefIdeal.τ).loc Cert.ProjQkvRefIdeal.main_arg2) = m' ((c.tc : Thread Cert.ProjQkvRefIdeal.nD Cert.ProjQkvRefIdeal.τ).loc Cert.ProjQkvRefIdeal.main_arg2))

def preserves_ProjRest_ProjRestIdeal : Prop :=
  True

def algebraic_ProjRestIdeal_ProjRestRefIdeal [hProjRestIdeal : Cert.ProjRestIdeal.Facts] [hProjRestRefIdeal : Cert.ProjRestRefIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg)
    (m' : (ℓ : Loc Cert.ProjRestRefIdeal.nD Cert.ProjRestRefIdeal.τ Cert.ProjRestRefIdeal.sig) → Buf (Elt Ideal) ℓ) (g' : Dev Cert.ProjRestRefIdeal.nD → PrngReg), Pre_ProjRestIdeal m →
    (∀ c : Dev Cert.ProjRestIdeal.nD,
      m' ((c.tc : Thread Cert.ProjRestRefIdeal.nD Cert.ProjRestRefIdeal.τ).loc Cert.ProjRestRefIdeal.main_arg0) = m ((c.tc : Thread Cert.ProjRestIdeal.nD Cert.ProjRestIdeal.τ).loc Cert.ProjRestIdeal.main_arg0)
      ∧ m' ((c.tc : Thread Cert.ProjRestRefIdeal.nD Cert.ProjRestRefIdeal.τ).loc Cert.ProjRestRefIdeal.main_arg1) = m ((c.tc : Thread Cert.ProjRestIdeal.nD Cert.ProjRestIdeal.τ).loc Cert.ProjRestIdeal.main_arg1)
      ∧ m' ((c.tc : Thread Cert.ProjRestRefIdeal.nD Cert.ProjRestRefIdeal.τ).loc Cert.ProjRestRefIdeal.main_arg2) = m ((c.tc : Thread Cert.ProjRestIdeal.nD Cert.ProjRestIdeal.τ).loc Cert.ProjRestIdeal.main_arg2)) →
    ∃ (v0 : (c : Dev Cert.ProjRestIdeal.nD) → Buf (Elt Ideal) ((c.tc : Thread Cert.ProjRestIdeal.nD Cert.ProjRestIdeal.τ).loc Cert.ProjRestIdeal.main_v2)),
      θ_run (Cert.ProjRestIdeal.defs (F := Ideal)) (onTc (τ := Cert.ProjRestIdeal.τ) (Cert.ProjRestIdeal.main (F := Ideal))) ⟨m, fun _ => 0, g⟩ (fun r => ∀ c : Dev Cert.ProjRestIdeal.nD,
          r.2.mem ((c.tc : Thread Cert.ProjRestIdeal.nD Cert.ProjRestIdeal.τ).loc Cert.ProjRestIdeal.main_v2) = v0 c
          ∧ r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
          ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
          ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2))
      ∧ θ_run (Cert.ProjRestRefIdeal.defs (F := Ideal)) (onTc (τ := Cert.ProjRestRefIdeal.τ) (Cert.ProjRestRefIdeal.main (F := Ideal))) ⟨m', fun _ => 0, g'⟩ (fun r => ∀ c : Dev Cert.ProjRestRefIdeal.nD,
          r.2.mem ((c.tc : Thread Cert.ProjRestRefIdeal.nD Cert.ProjRestRefIdeal.τ).loc Cert.ProjRestRefIdeal.main_v5) = v0 c
          ∧ r.2.mem ((c.tc : Thread Cert.ProjRestRefIdeal.nD Cert.ProjRestRefIdeal.τ).loc Cert.ProjRestRefIdeal.main_arg0) = m' ((c.tc : Thread Cert.ProjRestRefIdeal.nD Cert.ProjRestRefIdeal.τ).loc Cert.ProjRestRefIdeal.main_arg0)
          ∧ r.2.mem ((c.tc : Thread Cert.ProjRestRefIdeal.nD Cert.ProjRestRefIdeal.τ).loc Cert.ProjRestRefIdeal.main_arg1) = m' ((c.tc : Thread Cert.ProjRestRefIdeal.nD Cert.ProjRestRefIdeal.τ).loc Cert.ProjRestRefIdeal.main_arg1)
          ∧ r.2.mem ((c.tc : Thread Cert.ProjRestRefIdeal.nD Cert.ProjRestRefIdeal.τ).loc Cert.ProjRestRefIdeal.main_arg2) = m' ((c.tc : Thread Cert.ProjRestRefIdeal.nD Cert.ProjRestRefIdeal.τ).loc Cert.ProjRestRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v1) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v2) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v4) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_ProjO_ProjOIdeal : Prop :=
  True

def algebraic_ProjOIdeal_ProjORefIdeal [hProjOIdeal : Cert.ProjOIdeal.Facts] [hProjORefIdeal : Cert.ProjORefIdeal.Facts] : Prop :=
  ∀ (m : (ℓ : Loc Cert.ProjOIdeal.nD Cert.ProjOIdeal.τ Cert.ProjOIdeal.sig) → Buf (Elt Ideal) ℓ) (g : Dev Cert.ProjOIdeal.nD → PrngReg)
    (m' : (ℓ : Loc Cert.ProjORefIdeal.nD Cert.ProjORefIdeal.τ Cert.ProjORefIdeal.sig) → Buf (Elt Ideal) ℓ) (g' : Dev Cert.ProjORefIdeal.nD → PrngReg), Pre_ProjOIdeal m →
    (∀ c : Dev Cert.ProjOIdeal.nD,
      m' ((c.tc : Thread Cert.ProjORefIdeal.nD Cert.ProjORefIdeal.τ).loc Cert.ProjORefIdeal.main_arg0) = m ((c.tc : Thread Cert.ProjOIdeal.nD Cert.ProjOIdeal.τ).loc Cert.ProjOIdeal.main_arg0)
      ∧ m' ((c.tc : Thread Cert.ProjORefIdeal.nD Cert.ProjORefIdeal.τ).loc Cert.ProjORefIdeal.main_arg1) = m ((c.tc : Thread Cert.ProjOIdeal.nD Cert.ProjOIdeal.τ).loc Cert.ProjOIdeal.main_arg1)
      ∧ m' ((c.tc : Thread Cert.ProjORefIdeal.nD Cert.ProjORefIdeal.τ).loc Cert.ProjORefIdeal.main_arg2) = m ((c.tc : Thread Cert.ProjOIdeal.nD Cert.ProjOIdeal.τ).loc Cert.ProjOIdeal.main_arg2)) →
    ∃ (v0 : (c : Dev Cert.ProjOIdeal.nD) → Buf (Elt Ideal) ((c.tc : Thread Cert.ProjOIdeal.nD Cert.ProjOIdeal.τ).loc Cert.ProjOIdeal.main_v1)),
      θ_run (Cert.ProjOIdeal.defs (F := Ideal)) (onTc (τ := Cert.ProjOIdeal.τ) (Cert.ProjOIdeal.main (F := Ideal))) ⟨m, fun _ => 0, g⟩ (fun r => ∀ c : Dev Cert.ProjOIdeal.nD,
          r.2.mem ((c.tc : Thread Cert.ProjOIdeal.nD Cert.ProjOIdeal.τ).loc Cert.ProjOIdeal.main_v1) = v0 c
          ∧ r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
          ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
          ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2))
      ∧ θ_run (Cert.ProjORefIdeal.defs (F := Ideal)) (onTc (τ := Cert.ProjORefIdeal.τ) (Cert.ProjORefIdeal.main (F := Ideal))) ⟨m', fun _ => 0, g'⟩ (fun r => ∀ c : Dev Cert.ProjORefIdeal.nD,
          r.2.mem ((c.tc : Thread Cert.ProjORefIdeal.nD Cert.ProjORefIdeal.τ).loc Cert.ProjORefIdeal.main_v4) = v0 c
          ∧ r.2.mem ((c.tc : Thread Cert.ProjORefIdeal.nD Cert.ProjORefIdeal.τ).loc Cert.ProjORefIdeal.main_arg0) = m' ((c.tc : Thread Cert.ProjORefIdeal.nD Cert.ProjORefIdeal.τ).loc Cert.ProjORefIdeal.main_arg0)
          ∧ r.2.mem ((c.tc : Thread Cert.ProjORefIdeal.nD Cert.ProjORefIdeal.τ).loc Cert.ProjORefIdeal.main_arg1) = m' ((c.tc : Thread Cert.ProjORefIdeal.nD Cert.ProjORefIdeal.τ).loc Cert.ProjORefIdeal.main_arg1)
          ∧ r.2.mem ((c.tc : Thread Cert.ProjORefIdeal.nD Cert.ProjORefIdeal.τ).loc Cert.ProjORefIdeal.main_arg2) = m' ((c.tc : Thread Cert.ProjORefIdeal.nD Cert.ProjORefIdeal.τ).loc Cert.ProjORefIdeal.main_arg2))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v1)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v1) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v2) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v1)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v1) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v3) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v43) = v0 c
          ∧ r.2.mem ((c.tc : Thread Cert.MergeBwdRefIdeal.nD Cert.MergeBwdRefIdeal.τ).loc Cert.MergeBwdRefIdeal.main_v44) = v1 c
          ∧ r.2.mem ((c.tc : Thread Cert.MergeBwdRefIdeal.nD Cert.MergeBwdRefIdeal.τ).loc Cert.MergeBwdRefIdeal.main_v45) = v2 c
          ∧ r.2.mem ((c.tc : Thread Cert.MergeBwdRefIdeal.nD Cert.MergeBwdRefIdeal.τ).loc Cert.MergeBwdRefIdeal.main_v46) = v3 c
          ∧ r.2.mem ((c.tc : Thread Cert.MergeBwdRefIdeal.nD Cert.MergeBwdRefIdeal.τ).loc Cert.MergeBwdRefIdeal.main_v47) = v4 c
          ∧ r.2.mem ((c.tc : Thread Cert.MergeBwdRefIdeal.nD Cert.MergeBwdRefIdeal.τ).loc Cert.MergeBwdRefIdeal.main_v48) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v10) = v0 c
          ∧ r.2.mem ((c.tc : Thread Cert.SwigluBwdRefIdeal.nD Cert.SwigluBwdRefIdeal.τ).loc Cert.SwigluBwdRefIdeal.main_v11) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)) →
    ∃ (v0 : (c : Dev Cert.GluBwdIdeal.nD) → Buf (Elt Ideal) ((c.tc : Thread Cert.GluBwdIdeal.nD Cert.GluBwdIdeal.τ).loc Cert.GluBwdIdeal.main_v0_0)) (v1 : (c : Dev Cert.GluBwdIdeal.nD) → Buf (Elt Ideal) ((c.tc : Thread Cert.GluBwdIdeal.nD Cert.GluBwdIdeal.τ).loc Cert.GluBwdIdeal.main_v0_1)) (v2 : (c : Dev Cert.GluBwdIdeal.nD) → Buf (Elt Ideal) ((c.tc : Thread Cert.GluBwdIdeal.nD Cert.GluBwdIdeal.τ).loc Cert.GluBwdIdeal.main_v0_2)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0_0) = v0 c
          ∧ r.2.mem ((c.tc : Thread Cert.GluBwdIdeal.nD Cert.GluBwdIdeal.τ).loc Cert.GluBwdIdeal.main_v0_1) = v1 c
          ∧ r.2.mem ((c.tc : Thread Cert.GluBwdIdeal.nD Cert.GluBwdIdeal.τ).loc Cert.GluBwdIdeal.main_v0_2) = v2 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v15) = v0 c
          ∧ r.2.mem ((c.tc : Thread Cert.GluBwdRefIdeal.nD Cert.GluBwdRefIdeal.τ).loc Cert.GluBwdRefIdeal.main_v20) = v1 c
          ∧ r.2.mem ((c.tc : Thread Cert.GluBwdRefIdeal.nD Cert.GluBwdRefIdeal.τ).loc Cert.GluBwdRefIdeal.main_v21) = v2 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2))

def preserves_GluProj_GluProjIdeal : Prop :=
  True

def algebraic_GluProjIdeal_GluProjRefIdeal [hGluProjIdeal : Cert.GluProjIdeal.Facts] [hGluProjRefIdeal : Cert.GluProjRefIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjRefIdeal.nD Cert.GluProjRefIdeal.τ Cert.GluProjRefIdeal.sig) → Buf (Elt Ideal) ℓ) (g' : Dev Cert.GluProjRefIdeal.nD → PrngReg), Pre_GluProjIdeal m →
    (∀ c : Dev Cert.GluProjIdeal.nD,
      m' ((c.tc : Thread Cert.GluProjRefIdeal.nD Cert.GluProjRefIdeal.τ).loc Cert.GluProjRefIdeal.main_arg0) = m ((c.tc : Thread Cert.GluProjIdeal.nD Cert.GluProjIdeal.τ).loc Cert.GluProjIdeal.main_arg0)
      ∧ m' ((c.tc : Thread Cert.GluProjRefIdeal.nD Cert.GluProjRefIdeal.τ).loc Cert.GluProjRefIdeal.main_arg1) = m ((c.tc : Thread Cert.GluProjIdeal.nD Cert.GluProjIdeal.τ).loc Cert.GluProjIdeal.main_arg1)
      ∧ m' ((c.tc : Thread Cert.GluProjRefIdeal.nD Cert.GluProjRefIdeal.τ).loc Cert.GluProjRefIdeal.main_arg2) = m ((c.tc : Thread Cert.GluProjIdeal.nD Cert.GluProjIdeal.τ).loc Cert.GluProjIdeal.main_arg2)) →
    ∃ (v0 : (c : Dev Cert.GluProjIdeal.nD) → Buf (Elt Ideal) ((c.tc : Thread Cert.GluProjIdeal.nD Cert.GluProjIdeal.τ).loc Cert.GluProjIdeal.main_v2)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v2) = v0 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1)
          ∧ r.2.mem ((c.tc : Thread Cert.GluProjIdeal.nD Cert.GluProjIdeal.τ).loc Cert.GluProjIdeal.main_arg2) = m ((c.tc : Thread Cert.GluProjIdeal.nD Cert.GluProjIdeal.τ).loc Cert.GluProjIdeal.main_arg2))
      ∧ θ_run (Cert.GluProjRefIdeal.defs (F := Ideal)) (onTc (τ := Cert.GluProjRefIdeal.τ) (Cert.GluProjRefIdeal.main (F := Ideal))) ⟨m', fun _ => 0, g'⟩ (fun r => ∀ c : Dev Cert.GluProjRefIdeal.nD,
          r.2.mem ((c.tc : Thread Cert.GluProjRefIdeal.nD Cert.GluProjRefIdeal.τ).loc Cert.GluProjRefIdeal.main_v3) = v0 c
          ∧ r.2.mem ((c.tc : Thread Cert.GluProjRefIdeal.nD Cert.GluProjRefIdeal.τ).loc Cert.GluProjRefIdeal.main_arg0) = m' ((c.tc : Thread Cert.GluProjRefIdeal.nD Cert.GluProjRefIdeal.τ).loc Cert.GluProjRefIdeal.main_arg0)
          ∧ r.2.mem ((c.tc : Thread Cert.GluProjRefIdeal.nD Cert.GluProjRefIdeal.τ).loc Cert.GluProjRefIdeal.main_arg1) = m' ((c.tc : Thread Cert.GluProjRefIdeal.nD Cert.GluProjRefIdeal.τ).loc Cert.GluProjRefIdeal.main_arg1)
          ∧ r.2.mem ((c.tc : Thread Cert.GluProjRefIdeal.nD Cert.GluProjRefIdeal.τ).loc Cert.GluProjRefIdeal.main_arg2) = m' ((c.tc : Thread Cert.GluProjRefIdeal.nD Cert.GluProjRefIdeal.τ).loc Cert.GluProjRefIdeal.main_arg2))

def preserves_GluWgrad_GluWgradIdeal : Prop :=
  True

def algebraic_GluWgradIdeal_GluWgradRefIdeal [hGluWgradIdeal : Cert.GluWgradIdeal.Facts] [hGluWgradRefIdeal : Cert.GluWgradRefIdeal.Facts] : Prop :=
  ∀ (m : (ℓ : Loc Cert.GluWgradIdeal.nD Cert.GluWgradIdeal.τ Cert.GluWgradIdeal.sig) → Buf (Elt Ideal) ℓ) (g : Dev Cert.GluWgradIdeal.nD → PrngReg)
    (m' : (ℓ : Loc Cert.GluWgradRefIdeal.nD Cert.GluWgradRefIdeal.τ Cert.GluWgradRefIdeal.sig) → Buf (Elt Ideal) ℓ) (g' : Dev Cert.GluWgradRefIdeal.nD → PrngReg), Pre_GluWgradIdeal m →
    (∀ c : Dev Cert.GluWgradIdeal.nD,
      m' ((c.tc : Thread Cert.GluWgradRefIdeal.nD Cert.GluWgradRefIdeal.τ).loc Cert.GluWgradRefIdeal.main_arg0) = m ((c.tc : Thread Cert.GluWgradIdeal.nD Cert.GluWgradIdeal.τ).loc Cert.GluWgradIdeal.main_arg0)
      ∧ m' ((c.tc : Thread Cert.GluWgradRefIdeal.nD Cert.GluWgradRefIdeal.τ).loc Cert.GluWgradRefIdeal.main_arg1) = m ((c.tc : Thread Cert.GluWgradIdeal.nD Cert.GluWgradIdeal.τ).loc Cert.GluWgradIdeal.main_arg1)) →
    ∃ (v0 : (c : Dev Cert.GluWgradIdeal.nD) → Buf (Elt Ideal) ((c.tc : Thread Cert.GluWgradIdeal.nD Cert.GluWgradIdeal.τ).loc Cert.GluWgradIdeal.main_v0)),
      θ_run (Cert.GluWgradIdeal.defs (F := Ideal)) (onTc (τ := Cert.GluWgradIdeal.τ) (Cert.GluWgradIdeal.main (F := Ideal))) ⟨m, fun _ => 0, g⟩ (fun r => ∀ c : Dev Cert.GluWgradIdeal.nD,
          r.2.mem ((c.tc : Thread Cert.GluWgradIdeal.nD Cert.GluWgradIdeal.τ).loc Cert.GluWgradIdeal.main_v0) = v0 c
          ∧ r.2.mem ((c.tc : Thread Cert.GluWgradIdeal.nD Cert.GluWgradIdeal.τ).loc Cert.GluWgradIdeal.main_arg0) = m ((c.tc : Thread Cert.GluWgradIdeal.nD Cert.GluWgradIdeal.τ).loc Cert.GluWgradIdeal.main_arg0)
          ∧ r.2.mem ((c.tc : Thread Cert.GluWgradIdeal.nD Cert.GluWgradIdeal.τ).loc Cert.GluWgradIdeal.main_arg1) = m ((c.tc : Thread Cert.GluWgradIdeal.nD Cert.GluWgradIdeal.τ).loc Cert.GluWgradIdeal.main_arg1))
      ∧ θ_run (Cert.GluWgradRefIdeal.defs (F := Ideal)) (onTc (τ := Cert.GluWgradRefIdeal.τ) (Cert.GluWgradRefIdeal.main (F := Ideal))) ⟨m', fun _ => 0, g'⟩ (fun r => ∀ c : Dev Cert.GluWgradRefIdeal.nD,
          r.2.mem ((c.tc : Thread Cert.GluWgradRefIdeal.nD Cert.GluWgradRefIdeal.τ).loc Cert.GluWgradRefIdeal.main_v5) = v0 c
          ∧ r.2.mem ((c.tc : Thread Cert.GluWgradRefIdeal.nD Cert.GluWgradRefIdeal.τ).loc Cert.GluWgradRefIdeal.main_arg0) = m' ((c.tc : Thread Cert.GluWgradRefIdeal.nD Cert.GluWgradRefIdeal.τ).loc Cert.GluWgradRefIdeal.main_arg0)
          ∧ r.2.mem ((c.tc : Thread Cert.GluWgradRefIdeal.nD Cert.GluWgradRefIdeal.τ).loc Cert.GluWgradRefIdeal.main_arg1) = m' ((c.tc : Thread Cert.GluWgradRefIdeal.nD Cert.GluWgradRefIdeal.τ).loc Cert.GluWgradRefIdeal.main_arg1))

def preserves_GluDgrad_GluDgradIdeal : Prop :=
  True

def algebraic_GluDgradIdeal_GluDgradRefIdeal [hGluDgradIdeal : Cert.GluDgradIdeal.Facts] [hGluDgradRefIdeal : Cert.GluDgradRefIdeal.Facts] : Prop :=
  ∀ (m : (ℓ : Loc Cert.GluDgradIdeal.nD Cert.GluDgradIdeal.τ Cert.GluDgradIdeal.sig) → Buf (Elt Ideal) ℓ) (g : Dev Cert.GluDgradIdeal.nD → PrngReg)
    (m' : (ℓ : Loc Cert.GluDgradRefIdeal.nD Cert.GluDgradRefIdeal.τ Cert.GluDgradRefIdeal.sig) → Buf (Elt Ideal) ℓ) (g' : Dev Cert.GluDgradRefIdeal.nD → PrngReg), Pre_GluDgradIdeal m →
    (∀ c : Dev Cert.GluDgradIdeal.nD,
      m' ((c.tc : Thread Cert.GluDgradRefIdeal.nD Cert.GluDgradRefIdeal.τ).loc Cert.GluDgradRefIdeal.main_arg0) = m ((c.tc : Thread Cert.GluDgradIdeal.nD Cert.GluDgradIdeal.τ).loc Cert.GluDgradIdeal.main_arg0)
      ∧ m' ((c.tc : Thread Cert.GluDgradRefIdeal.nD Cert.GluDgradRefIdeal.τ).loc Cert.GluDgradRefIdeal.main_arg1) = m ((c.tc : Thread Cert.GluDgradIdeal.nD Cert.GluDgradIdeal.τ).loc Cert.GluDgradIdeal.main_arg1)
      ∧ m' ((c.tc : Thread Cert.GluDgradRefIdeal.nD Cert.GluDgradRefIdeal.τ).loc Cert.GluDgradRefIdeal.main_arg2) = m ((c.tc : Thread Cert.GluDgradIdeal.nD Cert.GluDgradIdeal.τ).loc Cert.GluDgradIdeal.main_arg2)) →
    ∃ (v0 : (c : Dev Cert.GluDgradIdeal.nD) → Buf (Elt Ideal) ((c.tc : Thread Cert.GluDgradIdeal.nD Cert.GluDgradIdeal.τ).loc Cert.GluDgradIdeal.main_v1)),
      θ_run (Cert.GluDgradIdeal.defs (F := Ideal)) (onTc (τ := Cert.GluDgradIdeal.τ) (Cert.GluDgradIdeal.main (F := Ideal))) ⟨m, fun _ => 0, g⟩ (fun r => ∀ c : Dev Cert.GluDgradIdeal.nD,
          r.2.mem ((c.tc : Thread Cert.GluDgradIdeal.nD Cert.GluDgradIdeal.τ).loc Cert.GluDgradIdeal.main_v1) = v0 c
          ∧ r.2.mem ((c.tc : Thread Cert.GluDgradIdeal.nD Cert.GluDgradIdeal.τ).loc Cert.GluDgradIdeal.main_arg0) = m ((c.tc : Thread Cert.GluDgradIdeal.nD Cert.GluDgradIdeal.τ).loc Cert.GluDgradIdeal.main_arg0)
          ∧ r.2.mem ((c.tc : Thread Cert.GluDgradIdeal.nD Cert.GluDgradIdeal.τ).loc Cert.GluDgradIdeal.main_arg1) = m ((c.tc : Thread Cert.GluDgradIdeal.nD Cert.GluDgradIdeal.τ).loc Cert.GluDgradIdeal.main_arg1)
          ∧ r.2.mem ((c.tc : Thread Cert.GluDgradIdeal.nD Cert.GluDgradIdeal.τ).loc Cert.GluDgradIdeal.main_arg2) = m ((c.tc : Thread Cert.GluDgradIdeal.nD Cert.GluDgradIdeal.τ).loc Cert.GluDgradIdeal.main_arg2))
      ∧ θ_run (Cert.GluDgradRefIdeal.defs (F := Ideal)) (onTc (τ := Cert.GluDgradRefIdeal.τ) (Cert.GluDgradRefIdeal.main (F := Ideal))) ⟨m', fun _ => 0, g'⟩ (fun r => ∀ c : Dev Cert.GluDgradRefIdeal.nD,
          r.2.mem ((c.tc : Thread Cert.GluDgradRefIdeal.nD Cert.GluDgradRefIdeal.τ).loc Cert.GluDgradRefIdeal.main_v4) = v0 c
          ∧ r.2.mem ((c.tc : Thread Cert.GluDgradRefIdeal.nD Cert.GluDgradRefIdeal.τ).loc Cert.GluDgradRefIdeal.main_arg0) = m' ((c.tc : Thread Cert.GluDgradRefIdeal.nD Cert.GluDgradRefIdeal.τ).loc Cert.GluDgradRefIdeal.main_arg0)
          ∧ r.2.mem ((c.tc : Thread Cert.GluDgradRefIdeal.nD Cert.GluDgradRefIdeal.τ).loc Cert.GluDgradRefIdeal.main_arg1) = m' ((c.tc : Thread Cert.GluDgradRefIdeal.nD Cert.GluDgradRefIdeal.τ).loc Cert.GluDgradRefIdeal.main_arg1)
          ∧ r.2.mem ((c.tc : Thread Cert.GluDgradRefIdeal.nD Cert.GluDgradRefIdeal.τ).loc Cert.GluDgradRefIdeal.main_arg2) = m' ((c.tc : Thread Cert.GluDgradRefIdeal.nD Cert.GluDgradRefIdeal.τ).loc Cert.GluDgradRefIdeal.main_arg2))

def preserves_BInGrad_BInGradIdeal : Prop :=
  True

def algebraic_BInGradIdeal_BInGradRefIdeal [hBInGradIdeal : Cert.BInGradIdeal.Facts] [hBInGradRefIdeal : Cert.BInGradRefIdeal.Facts] : Prop :=
  ∀ (m : (ℓ : Loc Cert.BInGradIdeal.nD Cert.BInGradIdeal.τ Cert.BInGradIdeal.sig) → Buf (Elt Ideal) ℓ) (g : Dev Cert.BInGradIdeal.nD → PrngReg)
    (m' : (ℓ : Loc Cert.BInGradRefIdeal.nD Cert.BInGradRefIdeal.τ Cert.BInGradRefIdeal.sig) → Buf (Elt Ideal) ℓ) (g' : Dev Cert.BInGradRefIdeal.nD → PrngReg), Pre_BInGradIdeal m →
    (∀ c : Dev Cert.BInGradIdeal.nD,
      m' ((c.tc : Thread Cert.BInGradRefIdeal.nD Cert.BInGradRefIdeal.τ).loc Cert.BInGradRefIdeal.main_arg0) = m ((c.tc : Thread Cert.BInGradIdeal.nD Cert.BInGradIdeal.τ).loc Cert.BInGradIdeal.main_arg0)) →
    ∃ (v0 : (c : Dev Cert.BInGradIdeal.nD) → Buf (Elt Ideal) ((c.tc : Thread Cert.BInGradIdeal.nD Cert.BInGradIdeal.τ).loc Cert.BInGradIdeal.main_v0)),
      θ_run (Cert.BInGradIdeal.defs (F := Ideal)) (onTc (τ := Cert.BInGradIdeal.τ) (Cert.BInGradIdeal.main (F := Ideal))) ⟨m, fun _ => 0, g⟩ (fun r => ∀ c : Dev Cert.BInGradIdeal.nD,
          r.2.mem ((c.tc : Thread Cert.BInGradIdeal.nD Cert.BInGradIdeal.τ).loc Cert.BInGradIdeal.main_v0) = v0 c
          ∧ r.2.mem ((c.tc : Thread Cert.BInGradIdeal.nD Cert.BInGradIdeal.τ).loc Cert.BInGradIdeal.main_arg0) = m ((c.tc : Thread Cert.BInGradIdeal.nD Cert.BInGradIdeal.τ).loc Cert.BInGradIdeal.main_arg0))
      ∧ θ_run (Cert.BInGradRefIdeal.defs (F := Ideal)) (onTc (τ := Cert.BInGradRefIdeal.τ) (Cert.BInGradRefIdeal.main (F := Ideal))) ⟨m', fun _ => 0, g'⟩ (fun r => ∀ c : Dev Cert.BInGradRefIdeal.nD,
          r.2.mem ((c.tc : Thread Cert.BInGradRefIdeal.nD Cert.BInGradRefIdeal.τ).loc Cert.BInGradRefIdeal.main_v9) = v0 c
          ∧ r.2.mem ((c.tc : Thread Cert.BInGradRefIdeal.nD Cert.BInGradRefIdeal.τ).loc Cert.BInGradRefIdeal.main_arg0) = m' ((c.tc : Thread Cert.BInGradRefIdeal.nD Cert.BInGradRefIdeal.τ).loc Cert.BInGradRefIdeal.main_arg0))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v7) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_LnBwd_LnBwdIdeal : Prop :=
  True

def algebraic_LnBwdIdeal_LnBwdRefIdeal_pre_ln_finite [hLnBwdIdeal : Cert.LnBwdIdeal.Facts] [hLnBwdRefIdeal : Cert.LnBwdRefIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_ln_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v2_0)) (v1 : (c : Dev Cert.LnBwdIdeal.nD) → Buf (Elt Ideal) ((c.tc : Thread Cert.LnBwdIdeal.nD Cert.LnBwdIdeal.τ).loc Cert.LnBwdIdeal.main_v2_1)) (v2 : (c : Dev Cert.LnBwdIdeal.nD) → Buf (Elt Ideal) ((c.tc : Thread Cert.LnBwdIdeal.nD Cert.LnBwdIdeal.τ).loc Cert.LnBwdIdeal.main_v2_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v2_0) = v0 c
          ∧ r.2.mem ((c.tc : Thread Cert.LnBwdIdeal.nD Cert.LnBwdIdeal.τ).loc Cert.LnBwdIdeal.main_v2_1) = v1 c
          ∧ r.2.mem ((c.tc : Thread Cert.LnBwdIdeal.nD Cert.LnBwdIdeal.τ).loc Cert.LnBwdIdeal.main_v2_2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v62) = v0 c
          ∧ r.2.mem ((c.tc : Thread Cert.LnBwdRefIdeal.nD Cert.LnBwdRefIdeal.τ).loc Cert.LnBwdRefIdeal.main_v63) = v1 c
          ∧ r.2.mem ((c.tc : Thread Cert.LnBwdRefIdeal.nD Cert.LnBwdRefIdeal.τ).loc Cert.LnBwdRefIdeal.main_v64) = v2 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_SsmSkipGeluBwd_SsmSkipGeluBwdIdeal : Prop :=
  True

def algebraic_SsmSkipGeluBwdIdeal_SsmSkipGeluBwdRefIdeal [hSsmSkipGeluBwdIdeal : Cert.SsmSkipGeluBwdIdeal.Facts] [hSsmSkipGeluBwdRefIdeal : Cert.SsmSkipGeluBwdRefIdeal.Facts] : Prop :=
  ∀ (m : (ℓ : Loc Cert.SsmSkipGeluBwdIdeal.nD Cert.SsmSkipGeluBwdIdeal.τ Cert.SsmSkipGeluBwdIdeal.sig) → Buf (Elt Ideal) ℓ) (g : Dev Cert.SsmSkipGeluBwdIdeal.nD → PrngReg)
    (m' : (ℓ : Loc Cert.SsmSkipGeluBwdRefIdeal.nD Cert.SsmSkipGeluBwdRefIdeal.τ Cert.SsmSkipGeluBwdRefIdeal.sig) → Buf (Elt Ideal) ℓ) (g' : Dev Cert.SsmSkipGeluBwdRefIdeal.nD → PrngReg), Pre_SsmSkipGeluBwdIdeal m →
    (∀ c : Dev Cert.SsmSkipGeluBwdIdeal.nD,
      m' ((c.tc : Thread Cert.SsmSkipGeluBwdRefIdeal.nD Cert.SsmSkipGeluBwdRefIdeal.τ).loc Cert.SsmSkipGeluBwdRefIdeal.main_arg0) = m ((c.tc : Thread Cert.SsmSkipGeluBwdIdeal.nD Cert.SsmSkipGeluBwdIdeal.τ).loc Cert.SsmSkipGeluBwdIdeal.main_arg0)
      ∧ m' ((c.tc : Thread Cert.SsmSkipGeluBwdRefIdeal.nD Cert.SsmSkipGeluBwdRefIdeal.τ).loc Cert.SsmSkipGeluBwdRefIdeal.main_arg1) = m ((c.tc : Thread Cert.SsmSkipGeluBwdIdeal.nD Cert.SsmSkipGeluBwdIdeal.τ).loc Cert.SsmSkipGeluBwdIdeal.main_arg1)
      ∧ m' ((c.tc : Thread Cert.SsmSkipGeluBwdRefIdeal.nD Cert.SsmSkipGeluBwdRefIdeal.τ).loc Cert.SsmSkipGeluBwdRefIdeal.main_arg2) = m ((c.tc : Thread Cert.SsmSkipGeluBwdIdeal.nD Cert.SsmSkipGeluBwdIdeal.τ).loc Cert.SsmSkipGeluBwdIdeal.main_arg2)
      ∧ m' ((c.tc : Thread Cert.SsmSkipGeluBwdRefIdeal.nD Cert.SsmSkipGeluBwdRefIdeal.τ).loc Cert.SsmSkipGeluBwdRefIdeal.main_arg3) = m ((c.tc : Thread Cert.SsmSkipGeluBwdIdeal.nD Cert.SsmSkipGeluBwdIdeal.τ).loc Cert.SsmSkipGeluBwdIdeal.main_arg3)) →
    ∃ (v0 : (c : Dev Cert.SsmSkipGeluBwdIdeal.nD) → Buf (Elt Ideal) ((c.tc : Thread Cert.SsmSkipGeluBwdIdeal.nD Cert.SsmSkipGeluBwdIdeal.τ).loc Cert.SsmSkipGeluBwdIdeal.main_v1_0)) (v1 : (c : Dev Cert.SsmSkipGeluBwdIdeal.nD) → Buf (Elt Ideal) ((c.tc : Thread Cert.SsmSkipGeluBwdIdeal.nD Cert.SsmSkipGeluBwdIdeal.τ).loc Cert.SsmSkipGeluBwdIdeal.main_v1_1)) (v2 : (c : Dev Cert.SsmSkipGeluBwdIdeal.nD) → Buf (Elt Ideal) ((c.tc : Thread Cert.SsmSkipGeluBwdIdeal.nD Cert.SsmSkipGeluBwdIdeal.τ).loc Cert.SsmSkipGeluBwdIdeal.main_v1_2)),
      θ_run (Cert.SsmSkipGeluBwdIdeal.defs (F := Ideal)) (onTc (τ := Cert.SsmSkipGeluBwdIdeal.τ) (Cert.SsmSkipGeluBwdIdeal.main (F := Ideal))) ⟨m, fun _ => 0, g⟩ (fun r => ∀ c : Dev Cert.SsmSkipGeluBwdIdeal.nD,
          r.2.mem ((c.tc : Thread Cert.SsmSkipGeluBwdIdeal.nD Cert.SsmSkipGeluBwdIdeal.τ).loc Cert.SsmSkipGeluBwdIdeal.main_v1_0) = v0 c
          ∧ r.2.mem ((c.tc : Thread Cert.SsmSkipGeluBwdIdeal.nD Cert.SsmSkipGeluBwdIdeal.τ).loc Cert.SsmSkipGeluBwdIdeal.main_v1_1) = v1 c
          ∧ r.2.mem ((c.tc : Thread Cert.SsmSkipGeluBwdIdeal.nD Cert.SsmSkipGeluBwdIdeal.τ).loc Cert.SsmSkipGeluBwdIdeal.main_v1_2) = v2 c
          ∧ r.2.mem ((c.tc : Thread Cert.SsmSkipGeluBwdIdeal.nD Cert.SsmSkipGeluBwdIdeal.τ).loc Cert.SsmSkipGeluBwdIdeal.main_arg0) = m ((c.tc : Thread Cert.SsmSkipGeluBwdIdeal.nD Cert.SsmSkipGeluBwdIdeal.τ).loc Cert.SsmSkipGeluBwdIdeal.main_arg0)
          ∧ r.2.mem ((c.tc : Thread Cert.SsmSkipGeluBwdIdeal.nD Cert.SsmSkipGeluBwdIdeal.τ).loc Cert.SsmSkipGeluBwdIdeal.main_arg1) = m ((c.tc : Thread Cert.SsmSkipGeluBwdIdeal.nD Cert.SsmSkipGeluBwdIdeal.τ).loc Cert.SsmSkipGeluBwdIdeal.main_arg1)
          ∧ r.2.mem ((c.tc : Thread Cert.SsmSkipGeluBwdIdeal.nD Cert.SsmSkipGeluBwdIdeal.τ).loc Cert.SsmSkipGeluBwdIdeal.main_arg2) = m ((c.tc : Thread Cert.SsmSkipGeluBwdIdeal.nD Cert.SsmSkipGeluBwdIdeal.τ).loc Cert.SsmSkipGeluBwdIdeal.main_arg2)
          ∧ r.2.mem ((c.tc : Thread Cert.SsmSkipGeluBwdIdeal.nD Cert.SsmSkipGeluBwdIdeal.τ).loc Cert.SsmSkipGeluBwdIdeal.main_arg3) = m ((c.tc : Thread Cert.SsmSkipGeluBwdIdeal.nD Cert.SsmSkipGeluBwdIdeal.τ).loc Cert.SsmSkipGeluBwdIdeal.main_arg3))
      ∧ θ_run (Cert.SsmSkipGeluBwdRefIdeal.defs (F := Ideal)) (onTc (τ := Cert.SsmSkipGeluBwdRefIdeal.τ) (Cert.SsmSkipGeluBwdRefIdeal.main (F := Ideal))) ⟨m', fun _ => 0, g'⟩ (fun r => ∀ c : Dev Cert.SsmSkipGeluBwdRefIdeal.nD,
          r.2.mem ((c.tc : Thread Cert.SsmSkipGeluBwdRefIdeal.nD Cert.SsmSkipGeluBwdRefIdeal.τ).loc Cert.SsmSkipGeluBwdRefIdeal.main_v37) = v0 c
          ∧ r.2.mem ((c.tc : Thread Cert.SsmSkipGeluBwdRefIdeal.nD Cert.SsmSkipGeluBwdRefIdeal.τ).loc Cert.SsmSkipGeluBwdRefIdeal.main_v39) = v1 c
          ∧ r.2.mem ((c.tc : Thread Cert.SsmSkipGeluBwdRefIdeal.nD Cert.SsmSkipGeluBwdRefIdeal.τ).loc Cert.SsmSkipGeluBwdRefIdeal.main_v44) = v2 c
          ∧ r.2.mem ((c.tc : Thread Cert.SsmSkipGeluBwdRefIdeal.nD Cert.SsmSkipGeluBwdRefIdeal.τ).loc Cert.SsmSkipGeluBwdRefIdeal.main_arg0) = m' ((c.tc : Thread Cert.SsmSkipGeluBwdRefIdeal.nD Cert.SsmSkipGeluBwdRefIdeal.τ).loc Cert.SsmSkipGeluBwdRefIdeal.main_arg0)
          ∧ r.2.mem ((c.tc : Thread Cert.SsmSkipGeluBwdRefIdeal.nD Cert.SsmSkipGeluBwdRefIdeal.τ).loc Cert.SsmSkipGeluBwdRefIdeal.main_arg1) = m' ((c.tc : Thread Cert.SsmSkipGeluBwdRefIdeal.nD Cert.SsmSkipGeluBwdRefIdeal.τ).loc Cert.SsmSkipGeluBwdRefIdeal.main_arg1)
          ∧ r.2.mem ((c.tc : Thread Cert.SsmSkipGeluBwdRefIdeal.nD Cert.SsmSkipGeluBwdRefIdeal.τ).loc Cert.SsmSkipGeluBwdRefIdeal.main_arg2) = m' ((c.tc : Thread Cert.SsmSkipGeluBwdRefIdeal.nD Cert.SsmSkipGeluBwdRefIdeal.τ).loc Cert.SsmSkipGeluBwdRefIdeal.main_arg2)
          ∧ r.2.mem ((c.tc : Thread Cert.SsmSkipGeluBwdRefIdeal.nD Cert.SsmSkipGeluBwdRefIdeal.τ).loc Cert.SsmSkipGeluBwdRefIdeal.main_arg3) = m' ((c.tc : Thread Cert.SsmSkipGeluBwdRefIdeal.nD Cert.SsmSkipGeluBwdRefIdeal.τ).loc Cert.SsmSkipGeluBwdRefIdeal.main_arg3))

def preserves_SsmOutDgrad_SsmOutDgradIdeal : Prop :=
  True

def algebraic_SsmOutDgradIdeal_SsmOutDgradRefIdeal [hSsmOutDgradIdeal : Cert.SsmOutDgradIdeal.Facts] [hSsmOutDgradRefIdeal : Cert.SsmOutDgradRefIdeal.Facts] : Prop :=
  ∀ (m : (ℓ : Loc Cert.SsmOutDgradIdeal.nD Cert.SsmOutDgradIdeal.τ Cert.SsmOutDgradIdeal.sig) → Buf (Elt Ideal) ℓ) (g : Dev Cert.SsmOutDgradIdeal.nD → PrngReg)
    (m' : (ℓ : Loc Cert.SsmOutDgradRefIdeal.nD Cert.SsmOutDgradRefIdeal.τ Cert.SsmOutDgradRefIdeal.sig) → Buf (Elt Ideal) ℓ) (g' : Dev Cert.SsmOutDgradRefIdeal.nD → PrngReg), Pre_SsmOutDgradIdeal m →
    (∀ c : Dev Cert.SsmOutDgradIdeal.nD,
      m' ((c.tc : Thread Cert.SsmOutDgradRefIdeal.nD Cert.SsmOutDgradRefIdeal.τ).loc Cert.SsmOutDgradRefIdeal.main_arg0) = m ((c.tc : Thread Cert.SsmOutDgradIdeal.nD Cert.SsmOutDgradIdeal.τ).loc Cert.SsmOutDgradIdeal.main_arg0)
      ∧ m' ((c.tc : Thread Cert.SsmOutDgradRefIdeal.nD Cert.SsmOutDgradRefIdeal.τ).loc Cert.SsmOutDgradRefIdeal.main_arg1) = m ((c.tc : Thread Cert.SsmOutDgradIdeal.nD Cert.SsmOutDgradIdeal.τ).loc Cert.SsmOutDgradIdeal.main_arg1)
      ∧ m' ((c.tc : Thread Cert.SsmOutDgradRefIdeal.nD Cert.SsmOutDgradRefIdeal.τ).loc Cert.SsmOutDgradRefIdeal.main_arg2) = m ((c.tc : Thread Cert.SsmOutDgradIdeal.nD Cert.SsmOutDgradIdeal.τ).loc Cert.SsmOutDgradIdeal.main_arg2)) →
    ∃ (v0 : (c : Dev Cert.SsmOutDgradIdeal.nD) → Buf (Elt Ideal) ((c.tc : Thread Cert.SsmOutDgradIdeal.nD Cert.SsmOutDgradIdeal.τ).loc Cert.SsmOutDgradIdeal.main_v34)),
      θ_run (Cert.SsmOutDgradIdeal.defs (F := Ideal)) (onTc (τ := Cert.SsmOutDgradIdeal.τ) (Cert.SsmOutDgradIdeal.main (F := Ideal))) ⟨m, fun _ => 0, g⟩ (fun r => ∀ c : Dev Cert.SsmOutDgradIdeal.nD,
          r.2.mem ((c.tc : Thread Cert.SsmOutDgradIdeal.nD Cert.SsmOutDgradIdeal.τ).loc Cert.SsmOutDgradIdeal.main_v34) = v0 c
          ∧ r.2.mem ((c.tc : Thread Cert.SsmOutDgradIdeal.nD Cert.SsmOutDgradIdeal.τ).loc Cert.SsmOutDgradIdeal.main_arg0) = m ((c.tc : Thread Cert.SsmOutDgradIdeal.nD Cert.SsmOutDgradIdeal.τ).loc Cert.SsmOutDgradIdeal.main_arg0)
          ∧ r.2.mem ((c.tc : Thread Cert.SsmOutDgradIdeal.nD Cert.SsmOutDgradIdeal.τ).loc Cert.SsmOutDgradIdeal.main_arg1) = m ((c.tc : Thread Cert.SsmOutDgradIdeal.nD Cert.SsmOutDgradIdeal.τ).loc Cert.SsmOutDgradIdeal.main_arg1)
          ∧ r.2.mem ((c.tc : Thread Cert.SsmOutDgradIdeal.nD Cert.SsmOutDgradIdeal.τ).loc Cert.SsmOutDgradIdeal.main_arg2) = m ((c.tc : Thread Cert.SsmOutDgradIdeal.nD Cert.SsmOutDgradIdeal.τ).loc Cert.SsmOutDgradIdeal.main_arg2))
      ∧ θ_run (Cert.SsmOutDgradRefIdeal.defs (F := Ideal)) (onTc (τ := Cert.SsmOutDgradRefIdeal.τ) (Cert.SsmOutDgradRefIdeal.main (F := Ideal))) ⟨m', fun _ => 0, g'⟩ (fun r => ∀ c : Dev Cert.SsmOutDgradRefIdeal.nD,
          r.2.mem ((c.tc : Thread Cert.SsmOutDgradRefIdeal.nD Cert.SsmOutDgradRefIdeal.τ).loc Cert.SsmOutDgradRefIdeal.main_v18) = v0 c
          ∧ r.2.mem ((c.tc : Thread Cert.SsmOutDgradRefIdeal.nD Cert.SsmOutDgradRefIdeal.τ).loc Cert.SsmOutDgradRefIdeal.main_arg0) = m' ((c.tc : Thread Cert.SsmOutDgradRefIdeal.nD Cert.SsmOutDgradRefIdeal.τ).loc Cert.SsmOutDgradRefIdeal.main_arg0)
          ∧ r.2.mem ((c.tc : Thread Cert.SsmOutDgradRefIdeal.nD Cert.SsmOutDgradRefIdeal.τ).loc Cert.SsmOutDgradRefIdeal.main_arg1) = m' ((c.tc : Thread Cert.SsmOutDgradRefIdeal.nD Cert.SsmOutDgradRefIdeal.τ).loc Cert.SsmOutDgradRefIdeal.main_arg1)
          ∧ r.2.mem ((c.tc : Thread Cert.SsmOutDgradRefIdeal.nD Cert.SsmOutDgradRefIdeal.τ).loc Cert.SsmOutDgradRefIdeal.main_arg2) = m' ((c.tc : Thread Cert.SsmOutDgradRefIdeal.nD Cert.SsmOutDgradRefIdeal.τ).loc Cert.SsmOutDgradRefIdeal.main_arg2))

def preserves_SsmOutWgrad_SsmOutWgradIdeal : Prop :=
  True

def algebraic_SsmOutWgradIdeal_SsmOutWgradRefIdeal [hSsmOutWgradIdeal : Cert.SsmOutWgradIdeal.Facts] [hSsmOutWgradRefIdeal : Cert.SsmOutWgradRefIdeal.Facts] : Prop :=
  ∀ (m : (ℓ : Loc Cert.SsmOutWgradIdeal.nD Cert.SsmOutWgradIdeal.τ Cert.SsmOutWgradIdeal.sig) → Buf (Elt Ideal) ℓ) (g : Dev Cert.SsmOutWgradIdeal.nD → PrngReg)
    (m' : (ℓ : Loc Cert.SsmOutWgradRefIdeal.nD Cert.SsmOutWgradRefIdeal.τ Cert.SsmOutWgradRefIdeal.sig) → Buf (Elt Ideal) ℓ) (g' : Dev Cert.SsmOutWgradRefIdeal.nD → PrngReg), Pre_SsmOutWgradIdeal m →
    (∀ c : Dev Cert.SsmOutWgradIdeal.nD,
      m' ((c.tc : Thread Cert.SsmOutWgradRefIdeal.nD Cert.SsmOutWgradRefIdeal.τ).loc Cert.SsmOutWgradRefIdeal.main_arg0) = m ((c.tc : Thread Cert.SsmOutWgradIdeal.nD Cert.SsmOutWgradIdeal.τ).loc Cert.SsmOutWgradIdeal.main_arg0)
      ∧ m' ((c.tc : Thread Cert.SsmOutWgradRefIdeal.nD Cert.SsmOutWgradRefIdeal.τ).loc Cert.SsmOutWgradRefIdeal.main_arg1) = m ((c.tc : Thread Cert.SsmOutWgradIdeal.nD Cert.SsmOutWgradIdeal.τ).loc Cert.SsmOutWgradIdeal.main_arg1)) →
    ∃ (v0 : (c : Dev Cert.SsmOutWgradIdeal.nD) → Buf (Elt Ideal) ((c.tc : Thread Cert.SsmOutWgradIdeal.nD Cert.SsmOutWgradIdeal.τ).loc Cert.SsmOutWgradIdeal.main_v0)),
      θ_run (Cert.SsmOutWgradIdeal.defs (F := Ideal)) (onTc (τ := Cert.SsmOutWgradIdeal.τ) (Cert.SsmOutWgradIdeal.main (F := Ideal))) ⟨m, fun _ => 0, g⟩ (fun r => ∀ c : Dev Cert.SsmOutWgradIdeal.nD,
          r.2.mem ((c.tc : Thread Cert.SsmOutWgradIdeal.nD Cert.SsmOutWgradIdeal.τ).loc Cert.SsmOutWgradIdeal.main_v0) = v0 c
          ∧ r.2.mem ((c.tc : Thread Cert.SsmOutWgradIdeal.nD Cert.SsmOutWgradIdeal.τ).loc Cert.SsmOutWgradIdeal.main_arg0) = m ((c.tc : Thread Cert.SsmOutWgradIdeal.nD Cert.SsmOutWgradIdeal.τ).loc Cert.SsmOutWgradIdeal.main_arg0)
          ∧ r.2.mem ((c.tc : Thread Cert.SsmOutWgradIdeal.nD Cert.SsmOutWgradIdeal.τ).loc Cert.SsmOutWgradIdeal.main_arg1) = m ((c.tc : Thread Cert.SsmOutWgradIdeal.nD Cert.SsmOutWgradIdeal.τ).loc Cert.SsmOutWgradIdeal.main_arg1))
      ∧ θ_run (Cert.SsmOutWgradRefIdeal.defs (F := Ideal)) (onTc (τ := Cert.SsmOutWgradRefIdeal.τ) (Cert.SsmOutWgradRefIdeal.main (F := Ideal))) ⟨m', fun _ => 0, g'⟩ (fun r => ∀ c : Dev Cert.SsmOutWgradRefIdeal.nD,
          r.2.mem ((c.tc : Thread Cert.SsmOutWgradRefIdeal.nD Cert.SsmOutWgradRefIdeal.τ).loc Cert.SsmOutWgradRefIdeal.main_v8) = v0 c
          ∧ r.2.mem ((c.tc : Thread Cert.SsmOutWgradRefIdeal.nD Cert.SsmOutWgradRefIdeal.τ).loc Cert.SsmOutWgradRefIdeal.main_arg0) = m' ((c.tc : Thread Cert.SsmOutWgradRefIdeal.nD Cert.SsmOutWgradRefIdeal.τ).loc Cert.SsmOutWgradRefIdeal.main_arg0)
          ∧ r.2.mem ((c.tc : Thread Cert.SsmOutWgradRefIdeal.nD Cert.SsmOutWgradRefIdeal.τ).loc Cert.SsmOutWgradRefIdeal.main_arg1) = m' ((c.tc : Thread Cert.SsmOutWgradRefIdeal.nD Cert.SsmOutWgradRefIdeal.τ).loc Cert.SsmOutWgradRefIdeal.main_arg1))

def preserves_SsmInDgrad_SsmInDgradIdeal : Prop :=
  True

def algebraic_SsmInDgradIdeal_SsmInDgradRefIdeal [hSsmInDgradIdeal : Cert.SsmInDgradIdeal.Facts] [hSsmInDgradRefIdeal : Cert.SsmInDgradRefIdeal.Facts] : Prop :=
  ∀ (m : (ℓ : Loc Cert.SsmInDgradIdeal.nD Cert.SsmInDgradIdeal.τ Cert.SsmInDgradIdeal.sig) → Buf (Elt Ideal) ℓ) (g : Dev Cert.SsmInDgradIdeal.nD → PrngReg)
    (m' : (ℓ : Loc Cert.SsmInDgradRefIdeal.nD Cert.SsmInDgradRefIdeal.τ Cert.SsmInDgradRefIdeal.sig) → Buf (Elt Ideal) ℓ) (g' : Dev Cert.SsmInDgradRefIdeal.nD → PrngReg), Pre_SsmInDgradIdeal m →
    (∀ c : Dev Cert.SsmInDgradIdeal.nD,
      m' ((c.tc : Thread Cert.SsmInDgradRefIdeal.nD Cert.SsmInDgradRefIdeal.τ).loc Cert.SsmInDgradRefIdeal.main_arg0) = m ((c.tc : Thread Cert.SsmInDgradIdeal.nD Cert.SsmInDgradIdeal.τ).loc Cert.SsmInDgradIdeal.main_arg0)
      ∧ m' ((c.tc : Thread Cert.SsmInDgradRefIdeal.nD Cert.SsmInDgradRefIdeal.τ).loc Cert.SsmInDgradRefIdeal.main_arg1) = m ((c.tc : Thread Cert.SsmInDgradIdeal.nD Cert.SsmInDgradIdeal.τ).loc Cert.SsmInDgradIdeal.main_arg1)
      ∧ m' ((c.tc : Thread Cert.SsmInDgradRefIdeal.nD Cert.SsmInDgradRefIdeal.τ).loc Cert.SsmInDgradRefIdeal.main_arg2) = m ((c.tc : Thread Cert.SsmInDgradIdeal.nD Cert.SsmInDgradIdeal.τ).loc Cert.SsmInDgradIdeal.main_arg2)) →
    ∃ (v0 : (c : Dev Cert.SsmInDgradIdeal.nD) → Buf (Elt Ideal) ((c.tc : Thread Cert.SsmInDgradIdeal.nD Cert.SsmInDgradIdeal.τ).loc Cert.SsmInDgradIdeal.main_v29)),
      θ_run (Cert.SsmInDgradIdeal.defs (F := Ideal)) (onTc (τ := Cert.SsmInDgradIdeal.τ) (Cert.SsmInDgradIdeal.main (F := Ideal))) ⟨m, fun _ => 0, g⟩ (fun r => ∀ c : Dev Cert.SsmInDgradIdeal.nD,
          r.2.mem ((c.tc : Thread Cert.SsmInDgradIdeal.nD Cert.SsmInDgradIdeal.τ).loc Cert.SsmInDgradIdeal.main_v29) = v0 c
          ∧ r.2.mem ((c.tc : Thread Cert.SsmInDgradIdeal.nD Cert.SsmInDgradIdeal.τ).loc Cert.SsmInDgradIdeal.main_arg0) = m ((c.tc : Thread Cert.SsmInDgradIdeal.nD Cert.SsmInDgradIdeal.τ).loc Cert.SsmInDgradIdeal.main_arg0)
          ∧ r.2.mem ((c.tc : Thread Cert.SsmInDgradIdeal.nD Cert.SsmInDgradIdeal.τ).loc Cert.SsmInDgradIdeal.main_arg1) = m ((c.tc : Thread Cert.SsmInDgradIdeal.nD Cert.SsmInDgradIdeal.τ).loc Cert.SsmInDgradIdeal.main_arg1)
          ∧ r.2.mem ((c.tc : Thread Cert.SsmInDgradIdeal.nD Cert.SsmInDgradIdeal.τ).loc Cert.SsmInDgradIdeal.main_arg2) = m ((c.tc : Thread Cert.SsmInDgradIdeal.nD Cert.SsmInDgradIdeal.τ).loc Cert.SsmInDgradIdeal.main_arg2))
      ∧ θ_run (Cert.SsmInDgradRefIdeal.defs (F := Ideal)) (onTc (τ := Cert.SsmInDgradRefIdeal.τ) (Cert.SsmInDgradRefIdeal.main (F := Ideal))) ⟨m', fun _ => 0, g'⟩ (fun r => ∀ c : Dev Cert.SsmInDgradRefIdeal.nD,
          r.2.mem ((c.tc : Thread Cert.SsmInDgradRefIdeal.nD Cert.SsmInDgradRefIdeal.τ).loc Cert.SsmInDgradRefIdeal.main_v20) = v0 c
          ∧ r.2.mem ((c.tc : Thread Cert.SsmInDgradRefIdeal.nD Cert.SsmInDgradRefIdeal.τ).loc Cert.SsmInDgradRefIdeal.main_arg0) = m' ((c.tc : Thread Cert.SsmInDgradRefIdeal.nD Cert.SsmInDgradRefIdeal.τ).loc Cert.SsmInDgradRefIdeal.main_arg0)
          ∧ r.2.mem ((c.tc : Thread Cert.SsmInDgradRefIdeal.nD Cert.SsmInDgradRefIdeal.τ).loc Cert.SsmInDgradRefIdeal.main_arg1) = m' ((c.tc : Thread Cert.SsmInDgradRefIdeal.nD Cert.SsmInDgradRefIdeal.τ).loc Cert.SsmInDgradRefIdeal.main_arg1)
          ∧ r.2.mem ((c.tc : Thread Cert.SsmInDgradRefIdeal.nD Cert.SsmInDgradRefIdeal.τ).loc Cert.SsmInDgradRefIdeal.main_arg2) = m' ((c.tc : Thread Cert.SsmInDgradRefIdeal.nD Cert.SsmInDgradRefIdeal.τ).loc Cert.SsmInDgradRefIdeal.main_arg2))

def preserves_SsmInWgrad_SsmInWgradIdeal : Prop :=
  True

def algebraic_SsmInWgradIdeal_SsmInWgradRefIdeal [hSsmInWgradIdeal : Cert.SsmInWgradIdeal.Facts] [hSsmInWgradRefIdeal : Cert.SsmInWgradRefIdeal.Facts] : Prop :=
  ∀ (m : (ℓ : Loc Cert.SsmInWgradIdeal.nD Cert.SsmInWgradIdeal.τ Cert.SsmInWgradIdeal.sig) → Buf (Elt Ideal) ℓ) (g : Dev Cert.SsmInWgradIdeal.nD → PrngReg)
    (m' : (ℓ : Loc Cert.SsmInWgradRefIdeal.nD Cert.SsmInWgradRefIdeal.τ Cert.SsmInWgradRefIdeal.sig) → Buf (Elt Ideal) ℓ) (g' : Dev Cert.SsmInWgradRefIdeal.nD → PrngReg), Pre_SsmInWgradIdeal m →
    (∀ c : Dev Cert.SsmInWgradIdeal.nD,
      m' ((c.tc : Thread Cert.SsmInWgradRefIdeal.nD Cert.SsmInWgradRefIdeal.τ).loc Cert.SsmInWgradRefIdeal.main_arg0) = m ((c.tc : Thread Cert.SsmInWgradIdeal.nD Cert.SsmInWgradIdeal.τ).loc Cert.SsmInWgradIdeal.main_arg0)
      ∧ m' ((c.tc : Thread Cert.SsmInWgradRefIdeal.nD Cert.SsmInWgradRefIdeal.τ).loc Cert.SsmInWgradRefIdeal.main_arg1) = m ((c.tc : Thread Cert.SsmInWgradIdeal.nD Cert.SsmInWgradIdeal.τ).loc Cert.SsmInWgradIdeal.main_arg1)) →
    ∃ (v0 : (c : Dev Cert.SsmInWgradIdeal.nD) → Buf (Elt Ideal) ((c.tc : Thread Cert.SsmInWgradIdeal.nD Cert.SsmInWgradIdeal.τ).loc Cert.SsmInWgradIdeal.main_v0)),
      θ_run (Cert.SsmInWgradIdeal.defs (F := Ideal)) (onTc (τ := Cert.SsmInWgradIdeal.τ) (Cert.SsmInWgradIdeal.main (F := Ideal))) ⟨m, fun _ => 0, g⟩ (fun r => ∀ c : Dev Cert.SsmInWgradIdeal.nD,
          r.2.mem ((c.tc : Thread Cert.SsmInWgradIdeal.nD Cert.SsmInWgradIdeal.τ).loc Cert.SsmInWgradIdeal.main_v0) = v0 c
          ∧ r.2.mem ((c.tc : Thread Cert.SsmInWgradIdeal.nD Cert.SsmInWgradIdeal.τ).loc Cert.SsmInWgradIdeal.main_arg0) = m ((c.tc : Thread Cert.SsmInWgradIdeal.nD Cert.SsmInWgradIdeal.τ).loc Cert.SsmInWgradIdeal.main_arg0)
          ∧ r.2.mem ((c.tc : Thread Cert.SsmInWgradIdeal.nD Cert.SsmInWgradIdeal.τ).loc Cert.SsmInWgradIdeal.main_arg1) = m ((c.tc : Thread Cert.SsmInWgradIdeal.nD Cert.SsmInWgradIdeal.τ).loc Cert.SsmInWgradIdeal.main_arg1))
      ∧ θ_run (Cert.SsmInWgradRefIdeal.defs (F := Ideal)) (onTc (τ := Cert.SsmInWgradRefIdeal.τ) (Cert.SsmInWgradRefIdeal.main (F := Ideal))) ⟨m', fun _ => 0, g'⟩ (fun r => ∀ c : Dev Cert.SsmInWgradRefIdeal.nD,
          r.2.mem ((c.tc : Thread Cert.SsmInWgradRefIdeal.nD Cert.SsmInWgradRefIdeal.τ).loc Cert.SsmInWgradRefIdeal.main_v9) = v0 c
          ∧ r.2.mem ((c.tc : Thread Cert.SsmInWgradRefIdeal.nD Cert.SsmInWgradRefIdeal.τ).loc Cert.SsmInWgradRefIdeal.main_arg0) = m' ((c.tc : Thread Cert.SsmInWgradRefIdeal.nD Cert.SsmInWgradRefIdeal.τ).loc Cert.SsmInWgradRefIdeal.main_arg0)
          ∧ r.2.mem ((c.tc : Thread Cert.SsmInWgradRefIdeal.nD Cert.SsmInWgradRefIdeal.τ).loc Cert.SsmInWgradRefIdeal.main_arg1) = m' ((c.tc : Thread Cert.SsmInWgradRefIdeal.nD Cert.SsmInWgradRefIdeal.τ).loc Cert.SsmInWgradRefIdeal.main_arg1))

def preserves_SsmDuc_SsmDucIdeal : Prop :=
  True

def algebraic_SsmDucIdeal_SsmDucRefIdeal [hSsmDucIdeal : Cert.SsmDucIdeal.Facts] [hSsmDucRefIdeal : Cert.SsmDucRefIdeal.Facts] : Prop :=
  ∀ (m : (ℓ : Loc Cert.SsmDucIdeal.nD Cert.SsmDucIdeal.τ Cert.SsmDucIdeal.sig) → Buf (Elt Ideal) ℓ) (g : Dev Cert.SsmDucIdeal.nD → PrngReg)
    (m' : (ℓ : Loc Cert.SsmDucRefIdeal.nD Cert.SsmDucRefIdeal.τ Cert.SsmDucRefIdeal.sig) → Buf (Elt Ideal) ℓ) (g' : Dev Cert.SsmDucRefIdeal.nD → PrngReg), Pre_SsmDucIdeal m →
    (∀ c : Dev Cert.SsmDucIdeal.nD,
      m' ((c.tc : Thread Cert.SsmDucRefIdeal.nD Cert.SsmDucRefIdeal.τ).loc Cert.SsmDucRefIdeal.main_arg0) = m ((c.tc : Thread Cert.SsmDucIdeal.nD Cert.SsmDucIdeal.τ).loc Cert.SsmDucIdeal.main_arg0)
      ∧ m' ((c.tc : Thread Cert.SsmDucRefIdeal.nD Cert.SsmDucRefIdeal.τ).loc Cert.SsmDucRefIdeal.main_arg1) = m ((c.tc : Thread Cert.SsmDucIdeal.nD Cert.SsmDucIdeal.τ).loc Cert.SsmDucIdeal.main_arg1)) →
    ∃ (v0 : (c : Dev Cert.SsmDucIdeal.nD) → Buf (Elt Ideal) ((c.tc : Thread Cert.SsmDucIdeal.nD Cert.SsmDucIdeal.τ).loc Cert.SsmDucIdeal.main_v0)),
      θ_run (Cert.SsmDucIdeal.defs (F := Ideal)) (onTc (τ := Cert.SsmDucIdeal.τ) (Cert.SsmDucIdeal.main (F := Ideal))) ⟨m, fun _ => 0, g⟩ (fun r => ∀ c : Dev Cert.SsmDucIdeal.nD,
          r.2.mem ((c.tc : Thread Cert.SsmDucIdeal.nD Cert.SsmDucIdeal.τ).loc Cert.SsmDucIdeal.main_v0) = v0 c
          ∧ r.2.mem ((c.tc : Thread Cert.SsmDucIdeal.nD Cert.SsmDucIdeal.τ).loc Cert.SsmDucIdeal.main_arg0) = m ((c.tc : Thread Cert.SsmDucIdeal.nD Cert.SsmDucIdeal.τ).loc Cert.SsmDucIdeal.main_arg0)
          ∧ r.2.mem ((c.tc : Thread Cert.SsmDucIdeal.nD Cert.SsmDucIdeal.τ).loc Cert.SsmDucIdeal.main_arg1) = m ((c.tc : Thread Cert.SsmDucIdeal.nD Cert.SsmDucIdeal.τ).loc Cert.SsmDucIdeal.main_arg1))
      ∧ θ_run (Cert.SsmDucRefIdeal.defs (F := Ideal)) (onTc (τ := Cert.SsmDucRefIdeal.τ) (Cert.SsmDucRefIdeal.main (F := Ideal))) ⟨m', fun _ => 0, g'⟩ (fun r => ∀ c : Dev Cert.SsmDucRefIdeal.nD,
          r.2.mem ((c.tc : Thread Cert.SsmDucRefIdeal.nD Cert.SsmDucRefIdeal.τ).loc Cert.SsmDucRefIdeal.main_v2) = v0 c
          ∧ r.2.mem ((c.tc : Thread Cert.SsmDucRefIdeal.nD Cert.SsmDucRefIdeal.τ).loc Cert.SsmDucRefIdeal.main_arg0) = m' ((c.tc : Thread Cert.SsmDucRefIdeal.nD Cert.SsmDucRefIdeal.τ).loc Cert.SsmDucRefIdeal.main_arg0)
          ∧ r.2.mem ((c.tc : Thread Cert.SsmDucRefIdeal.nD Cert.SsmDucRefIdeal.τ).loc Cert.SsmDucRefIdeal.main_arg1) = m' ((c.tc : Thread Cert.SsmDucRefIdeal.nD Cert.SsmDucRefIdeal.τ).loc Cert.SsmDucRefIdeal.main_arg1))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)
      ∧ m' ((c.tc : Thread Cert.SsmInRefIdeal.nD Cert.SsmInRefIdeal.τ).loc Cert.SsmInRefIdeal.main_arg2) = m ((c.tc : Thread Cert.SsmInIdeal.nD Cert.SsmInIdeal.τ).loc Cert.SsmInIdeal.main_arg2)) →
    ∃ (v0 : (c : Dev Cert.SsmInIdeal.nD) → Buf (Elt Ideal) ((c.tc : Thread Cert.SsmInIdeal.nD Cert.SsmInIdeal.τ).loc Cert.SsmInIdeal.main_v29)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v29) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
          ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v11) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1)
          ∧ r.2.mem ((c.tc : Thread Cert.SsmInRefIdeal.nD Cert.SsmInRefIdeal.τ).loc Cert.SsmInRefIdeal.main_arg2) = m' ((c.tc : Thread Cert.SsmInRefIdeal.nD Cert.SsmInRefIdeal.τ).loc Cert.SsmInRefIdeal.main_arg2))

def preserves_SsmSkipGelu_SsmSkipGeluIdeal : Prop :=
  True

def algebraic_SsmSkipGeluIdeal_SsmSkipGeluRefIdeal [hSsmSkipGeluIdeal : Cert.SsmSkipGeluIdeal.Facts] [hSsmSkipGeluRefIdeal : Cert.SsmSkipGeluRefIdeal.Facts] : Prop :=
  ∀ (m : (ℓ : Loc Cert.SsmSkipGeluIdeal.nD Cert.SsmSkipGeluIdeal.τ Cert.SsmSkipGeluIdeal.sig) → Buf (Elt Ideal) ℓ) (g : Dev Cert.SsmSkipGeluIdeal.nD → PrngReg)
    (m' : (ℓ : Loc Cert.SsmSkipGeluRefIdeal.nD Cert.SsmSkipGeluRefIdeal.τ Cert.SsmSkipGeluRefIdeal.sig) → Buf (Elt Ideal) ℓ) (g' : Dev Cert.SsmSkipGeluRefIdeal.nD → PrngReg), Pre_SsmSkipGeluIdeal m →
    (∀ c : Dev Cert.SsmSkipGeluIdeal.nD,
      m' ((c.tc : Thread Cert.SsmSkipGeluRefIdeal.nD Cert.SsmSkipGeluRefIdeal.τ).loc Cert.SsmSkipGeluRefIdeal.main_arg0) = m ((c.tc : Thread Cert.SsmSkipGeluIdeal.nD Cert.SsmSkipGeluIdeal.τ).loc Cert.SsmSkipGeluIdeal.main_arg0)
      ∧ m' ((c.tc : Thread Cert.SsmSkipGeluRefIdeal.nD Cert.SsmSkipGeluRefIdeal.τ).loc Cert.SsmSkipGeluRefIdeal.main_arg1) = m ((c.tc : Thread Cert.SsmSkipGeluIdeal.nD Cert.SsmSkipGeluIdeal.τ).loc Cert.SsmSkipGeluIdeal.main_arg1)
      ∧ m' ((c.tc : Thread Cert.SsmSkipGeluRefIdeal.nD Cert.SsmSkipGeluRefIdeal.τ).loc Cert.SsmSkipGeluRefIdeal.main_arg2) = m ((c.tc : Thread Cert.SsmSkipGeluIdeal.nD Cert.SsmSkipGeluIdeal.τ).loc Cert.SsmSkipGeluIdeal.main_arg2)) →
    ∃ (v0 : (c : Dev Cert.SsmSkipGeluIdeal.nD) → Buf (Elt Ideal) ((c.tc : Thread Cert.SsmSkipGeluIdeal.nD Cert.SsmSkipGeluIdeal.τ).loc Cert.SsmSkipGeluIdeal.main_v1)),
      θ_run (Cert.SsmSkipGeluIdeal.defs (F := Ideal)) (onTc (τ := Cert.SsmSkipGeluIdeal.τ) (Cert.SsmSkipGeluIdeal.main (F := Ideal))) ⟨m, fun _ => 0, g⟩ (fun r => ∀ c : Dev Cert.SsmSkipGeluIdeal.nD,
          r.2.mem ((c.tc : Thread Cert.SsmSkipGeluIdeal.nD Cert.SsmSkipGeluIdeal.τ).loc Cert.SsmSkipGeluIdeal.main_v1) = v0 c
          ∧ r.2.mem ((c.tc : Thread Cert.SsmSkipGeluIdeal.nD Cert.SsmSkipGeluIdeal.τ).loc Cert.SsmSkipGeluIdeal.main_arg0) = m ((c.tc : Thread Cert.SsmSkipGeluIdeal.nD Cert.SsmSkipGeluIdeal.τ).loc Cert.SsmSkipGeluIdeal.main_arg0)
          ∧ r.2.mem ((c.tc : Thread Cert.SsmSkipGeluIdeal.nD Cert.SsmSkipGeluIdeal.τ).loc Cert.SsmSkipGeluIdeal.main_arg1) = m ((c.tc : Thread Cert.SsmSkipGeluIdeal.nD Cert.SsmSkipGeluIdeal.τ).loc Cert.SsmSkipGeluIdeal.main_arg1)
          ∧ r.2.mem ((c.tc : Thread Cert.SsmSkipGeluIdeal.nD Cert.SsmSkipGeluIdeal.τ).loc Cert.SsmSkipGeluIdeal.main_arg2) = m ((c.tc : Thread Cert.SsmSkipGeluIdeal.nD Cert.SsmSkipGeluIdeal.τ).loc Cert.SsmSkipGeluIdeal.main_arg2))
      ∧ θ_run (Cert.SsmSkipGeluRefIdeal.defs (F := Ideal)) (onTc (τ := Cert.SsmSkipGeluRefIdeal.τ) (Cert.SsmSkipGeluRefIdeal.main (F := Ideal))) ⟨m', fun _ => 0, g'⟩ (fun r => ∀ c : Dev Cert.SsmSkipGeluRefIdeal.nD,
          r.2.mem ((c.tc : Thread Cert.SsmSkipGeluRefIdeal.nD Cert.SsmSkipGeluRefIdeal.τ).loc Cert.SsmSkipGeluRefIdeal.main_v17) = v0 c
          ∧ r.2.mem ((c.tc : Thread Cert.SsmSkipGeluRefIdeal.nD Cert.SsmSkipGeluRefIdeal.τ).loc Cert.SsmSkipGeluRefIdeal.main_arg0) = m' ((c.tc : Thread Cert.SsmSkipGeluRefIdeal.nD Cert.SsmSkipGeluRefIdeal.τ).loc Cert.SsmSkipGeluRefIdeal.main_arg0)
          ∧ r.2.mem ((c.tc : Thread Cert.SsmSkipGeluRefIdeal.nD Cert.SsmSkipGeluRefIdeal.τ).loc Cert.SsmSkipGeluRefIdeal.main_arg1) = m' ((c.tc : Thread Cert.SsmSkipGeluRefIdeal.nD Cert.SsmSkipGeluRefIdeal.τ).loc Cert.SsmSkipGeluRefIdeal.main_arg1)
          ∧ r.2.mem ((c.tc : Thread Cert.SsmSkipGeluRefIdeal.nD Cert.SsmSkipGeluRefIdeal.τ).loc Cert.SsmSkipGeluRefIdeal.main_arg2) = m' ((c.tc : Thread Cert.SsmSkipGeluRefIdeal.nD Cert.SsmSkipGeluRefIdeal.τ).loc Cert.SsmSkipGeluRefIdeal.main_arg2))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)) →
    ∃ (v0 : (c : Dev Cert.LnIdeal.nD) → Buf (Elt Ideal) ((c.tc : Thread Cert.LnIdeal.nD Cert.LnIdeal.τ).loc Cert.LnIdeal.main_v2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2) = v0 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v23) = v0 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v18) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_AdamwWIn_AdamwWInIdeal : Prop :=
  True

def algebraic_AdamwWInIdeal_AdamwWInRefIdeal [hAdamwWInIdeal : Cert.AdamwWInIdeal.Facts] [hAdamwWInRefIdeal : Cert.AdamwWInRefIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg)
    (m' : (ℓ : Loc Cert.AdamwWInRefIdeal.nD Cert.AdamwWInRefIdeal.τ Cert.AdamwWInRefIdeal.sig) → Buf (Elt Ideal) ℓ) (g' : Dev Cert.AdamwWInRefIdeal.nD → PrngReg), Pre_AdamwWInIdeal m →
    (∀ c : Dev Cert.AdamwWInIdeal.nD,
      m' ((c.tc : Thread Cert.AdamwWInRefIdeal.nD Cert.AdamwWInRefIdeal.τ).loc Cert.AdamwWInRefIdeal.main_arg0) = m ((c.tc : Thread Cert.AdamwWInIdeal.nD Cert.AdamwWInIdeal.τ).loc Cert.AdamwWInIdeal.main_arg0)
      ∧ m' ((c.tc : Thread Cert.AdamwWInRefIdeal.nD Cert.AdamwWInRefIdeal.τ).loc Cert.AdamwWInRefIdeal.main_arg1) = m ((c.tc : Thread Cert.AdamwWInIdeal.nD Cert.AdamwWInIdeal.τ).loc Cert.AdamwWInIdeal.main_arg1)
      ∧ m' ((c.tc : Thread Cert.AdamwWInRefIdeal.nD Cert.AdamwWInRefIdeal.τ).loc Cert.AdamwWInRefIdeal.main_arg2) = m ((c.tc : Thread Cert.AdamwWInIdeal.nD Cert.AdamwWInIdeal.τ).loc Cert.AdamwWInIdeal.main_arg2)
      ∧ m' ((c.tc : Thread Cert.AdamwWInRefIdeal.nD Cert.AdamwWInRefIdeal.τ).loc Cert.AdamwWInRefIdeal.main_arg3) = m ((c.tc : Thread Cert.AdamwWInIdeal.nD Cert.AdamwWInIdeal.τ).loc Cert.AdamwWInIdeal.main_arg3)) →
    ∃ (v0 : (c : Dev Cert.AdamwWInIdeal.nD) → Buf (Elt Ideal) ((c.tc : Thread Cert.AdamwWInIdeal.nD Cert.AdamwWInIdeal.τ).loc Cert.AdamwWInIdeal.main_v5_0)) (v1 : (c : Dev Cert.AdamwWInIdeal.nD) → Buf (Elt Ideal) ((c.tc : Thread Cert.AdamwWInIdeal.nD Cert.AdamwWInIdeal.τ).loc Cert.AdamwWInIdeal.main_v5_1)) (v2 : (c : Dev Cert.AdamwWInIdeal.nD) → Buf (Elt Ideal) ((c.tc : Thread Cert.AdamwWInIdeal.nD Cert.AdamwWInIdeal.τ).loc Cert.AdamwWInIdeal.main_v5_2)),
      θ_run (Cert.AdamwWInIdeal.defs (F := Ideal)) (onTc (τ := Cert.AdamwWInIdeal.τ) (Cert.AdamwWInIdeal.main (F := Ideal))) ⟨m, fun _ => 0, g⟩ (fun r => ∀ c : Dev Cert.AdamwWInIdeal.nD,
          r.2.mem ((c.tc : Thread Cert.AdamwWInIdeal.nD Cert.AdamwWInIdeal.τ).loc Cert.AdamwWInIdeal.main_v5_0) = v0 c
          ∧ r.2.mem ((c.tc : Thread Cert.AdamwWInIdeal.nD Cert.AdamwWInIdeal.τ).loc Cert.AdamwWInIdeal.main_v5_1) = v1 c
          ∧ r.2.mem ((c.tc : Thread Cert.AdamwWInIdeal.nD Cert.AdamwWInIdeal.τ).loc Cert.AdamwWInIdeal.main_v5_2) = v2 c
          ∧ r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
          ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
          ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
          ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ θ_run (Cert.AdamwWInRefIdeal.defs (F := Ideal)) (onTc (τ := Cert.AdamwWInRefIdeal.τ) (Cert.AdamwWInRefIdeal.main (F := Ideal))) ⟨m', fun _ => 0, g'⟩ (fun r => ∀ c : Dev Cert.AdamwWInRefIdeal.nD,
          r.2.mem ((c.tc : Thread Cert.AdamwWInRefIdeal.nD Cert.AdamwWInRefIdeal.τ).loc Cert.AdamwWInRefIdeal.main_v24) = v0 c
          ∧ r.2.mem ((c.tc : Thread Cert.AdamwWInRefIdeal.nD Cert.AdamwWInRefIdeal.τ).loc Cert.AdamwWInRefIdeal.main_v25) = v1 c
          ∧ r.2.mem ((c.tc : Thread Cert.AdamwWInRefIdeal.nD Cert.AdamwWInRefIdeal.τ).loc Cert.AdamwWInRefIdeal.main_v26) = v2 c
          ∧ r.2.mem ((c.tc : Thread Cert.AdamwWInRefIdeal.nD Cert.AdamwWInRefIdeal.τ).loc Cert.AdamwWInRefIdeal.main_arg0) = m' ((c.tc : Thread Cert.AdamwWInRefIdeal.nD Cert.AdamwWInRefIdeal.τ).loc Cert.AdamwWInRefIdeal.main_arg0)
          ∧ r.2.mem ((c.tc : Thread Cert.AdamwWInRefIdeal.nD Cert.AdamwWInRefIdeal.τ).loc Cert.AdamwWInRefIdeal.main_arg1) = m' ((c.tc : Thread Cert.AdamwWInRefIdeal.nD Cert.AdamwWInRefIdeal.τ).loc Cert.AdamwWInRefIdeal.main_arg1)
          ∧ r.2.mem ((c.tc : Thread Cert.AdamwWInRefIdeal.nD Cert.AdamwWInRefIdeal.τ).loc Cert.AdamwWInRefIdeal.main_arg2) = m' ((c.tc : Thread Cert.AdamwWInRefIdeal.nD Cert.AdamwWInRefIdeal.τ).loc Cert.AdamwWInRefIdeal.main_arg2)
          ∧ r.2.mem ((c.tc : Thread Cert.AdamwWInRefIdeal.nD Cert.AdamwWInRefIdeal.τ).loc Cert.AdamwWInRefIdeal.main_arg3) = m' ((c.tc : Thread Cert.AdamwWInRefIdeal.nD Cert.AdamwWInRefIdeal.τ).loc Cert.AdamwWInRefIdeal.main_arg3))

def preserves_AdamwWGlu_AdamwWGluIdeal : Prop :=
  True

def algebraic_AdamwWGluIdeal_AdamwWGluRefIdeal [hAdamwWGluIdeal : Cert.AdamwWGluIdeal.Facts] [hAdamwWGluRefIdeal : Cert.AdamwWGluRefIdeal.Facts] : Prop :=
  ∀ (m : (ℓ : Loc Cert.AdamwWGluIdeal.nD Cert.AdamwWGluIdeal.τ Cert.AdamwWGluIdeal.sig) → Buf (Elt Ideal) ℓ) (g : Dev Cert.AdamwWGluIdeal.nD → PrngReg)
    (m' : (ℓ : Loc Cert.AdamwWGluRefIdeal.nD Cert.AdamwWGluRefIdeal.τ Cert.AdamwWGluRefIdeal.sig) → Buf (Elt Ideal) ℓ) (g' : Dev Cert.AdamwWGluRefIdeal.nD → PrngReg), Pre_AdamwWGluIdeal m →
    (∀ c : Dev Cert.AdamwWGluIdeal.nD,
      m' ((c.tc : Thread Cert.AdamwWGluRefIdeal.nD Cert.AdamwWGluRefIdeal.τ).loc Cert.AdamwWGluRefIdeal.main_arg0) = m ((c.tc : Thread Cert.AdamwWGluIdeal.nD Cert.AdamwWGluIdeal.τ).loc Cert.AdamwWGluIdeal.main_arg0)
      ∧ m' ((c.tc : Thread Cert.AdamwWGluRefIdeal.nD Cert.AdamwWGluRefIdeal.τ).loc Cert.AdamwWGluRefIdeal.main_arg1) = m ((c.tc : Thread Cert.AdamwWGluIdeal.nD Cert.AdamwWGluIdeal.τ).loc Cert.AdamwWGluIdeal.main_arg1)
      ∧ m' ((c.tc : Thread Cert.AdamwWGluRefIdeal.nD Cert.AdamwWGluRefIdeal.τ).loc Cert.AdamwWGluRefIdeal.main_arg2) = m ((c.tc : Thread Cert.AdamwWGluIdeal.nD Cert.AdamwWGluIdeal.τ).loc Cert.AdamwWGluIdeal.main_arg2)
      ∧ m' ((c.tc : Thread Cert.AdamwWGluRefIdeal.nD Cert.AdamwWGluRefIdeal.τ).loc Cert.AdamwWGluRefIdeal.main_arg3) = m ((c.tc : Thread Cert.AdamwWGluIdeal.nD Cert.AdamwWGluIdeal.τ).loc Cert.AdamwWGluIdeal.main_arg3)) →
    ∃ (v0 : (c : Dev Cert.AdamwWGluIdeal.nD) → Buf (Elt Ideal) ((c.tc : Thread Cert.AdamwWGluIdeal.nD Cert.AdamwWGluIdeal.τ).loc Cert.AdamwWGluIdeal.main_v5_0)) (v1 : (c : Dev Cert.AdamwWGluIdeal.nD) → Buf (Elt Ideal) ((c.tc : Thread Cert.AdamwWGluIdeal.nD Cert.AdamwWGluIdeal.τ).loc Cert.AdamwWGluIdeal.main_v5_1)) (v2 : (c : Dev Cert.AdamwWGluIdeal.nD) → Buf (Elt Ideal) ((c.tc : Thread Cert.AdamwWGluIdeal.nD Cert.AdamwWGluIdeal.τ).loc Cert.AdamwWGluIdeal.main_v5_2)),
      θ_run (Cert.AdamwWGluIdeal.defs (F := Ideal)) (onTc (τ := Cert.AdamwWGluIdeal.τ) (Cert.AdamwWGluIdeal.main (F := Ideal))) ⟨m, fun _ => 0, g⟩ (fun r => ∀ c : Dev Cert.AdamwWGluIdeal.nD,
          r.2.mem ((c.tc : Thread Cert.AdamwWGluIdeal.nD Cert.AdamwWGluIdeal.τ).loc Cert.AdamwWGluIdeal.main_v5_0) = v0 c
          ∧ r.2.mem ((c.tc : Thread Cert.AdamwWGluIdeal.nD Cert.AdamwWGluIdeal.τ).loc Cert.AdamwWGluIdeal.main_v5_1) = v1 c
          ∧ r.2.mem ((c.tc : Thread Cert.AdamwWGluIdeal.nD Cert.AdamwWGluIdeal.τ).loc Cert.AdamwWGluIdeal.main_v5_2) = v2 c
          ∧ r.2.mem ((c.tc : Thread Cert.AdamwWGluIdeal.nD Cert.AdamwWGluIdeal.τ).loc Cert.AdamwWGluIdeal.main_arg0) = m ((c.tc : Thread Cert.AdamwWGluIdeal.nD Cert.AdamwWGluIdeal.τ).loc Cert.AdamwWGluIdeal.main_arg0)
          ∧ r.2.mem ((c.tc : Thread Cert.AdamwWGluIdeal.nD Cert.AdamwWGluIdeal.τ).loc Cert.AdamwWGluIdeal.main_arg1) = m ((c.tc : Thread Cert.AdamwWGluIdeal.nD Cert.AdamwWGluIdeal.τ).loc Cert.AdamwWGluIdeal.main_arg1)
          ∧ r.2.mem ((c.tc : Thread Cert.AdamwWGluIdeal.nD Cert.AdamwWGluIdeal.τ).loc Cert.AdamwWGluIdeal.main_arg2) = m ((c.tc : Thread Cert.AdamwWGluIdeal.nD Cert.AdamwWGluIdeal.τ).loc Cert.AdamwWGluIdeal.main_arg2)
          ∧ r.2.mem ((c.tc : Thread Cert.AdamwWGluIdeal.nD Cert.AdamwWGluIdeal.τ).loc Cert.AdamwWGluIdeal.main_arg3) = m ((c.tc : Thread Cert.AdamwWGluIdeal.nD Cert.AdamwWGluIdeal.τ).loc Cert.AdamwWGluIdeal.main_arg3))
      ∧ θ_run (Cert.AdamwWGluRefIdeal.defs (F := Ideal)) (onTc (τ := Cert.AdamwWGluRefIdeal.τ) (Cert.AdamwWGluRefIdeal.main (F := Ideal))) ⟨m', fun _ => 0, g'⟩ (fun r => ∀ c : Dev Cert.AdamwWGluRefIdeal.nD,
          r.2.mem ((c.tc : Thread Cert.AdamwWGluRefIdeal.nD Cert.AdamwWGluRefIdeal.τ).loc Cert.AdamwWGluRefIdeal.main_v24) = v0 c
          ∧ r.2.mem ((c.tc : Thread Cert.AdamwWGluRefIdeal.nD Cert.AdamwWGluRefIdeal.τ).loc Cert.AdamwWGluRefIdeal.main_v25) = v1 c
          ∧ r.2.mem ((c.tc : Thread Cert.AdamwWGluRefIdeal.nD Cert.AdamwWGluRefIdeal.τ).loc Cert.AdamwWGluRefIdeal.main_v26) = v2 c
          ∧ r.2.mem ((c.tc : Thread Cert.AdamwWGluRefIdeal.nD Cert.AdamwWGluRefIdeal.τ).loc Cert.AdamwWGluRefIdeal.main_arg0) = m' ((c.tc : Thread Cert.AdamwWGluRefIdeal.nD Cert.AdamwWGluRefIdeal.τ).loc Cert.AdamwWGluRefIdeal.main_arg0)
          ∧ r.2.mem ((c.tc : Thread Cert.AdamwWGluRefIdeal.nD Cert.AdamwWGluRefIdeal.τ).loc Cert.AdamwWGluRefIdeal.main_arg1) = m' ((c.tc : Thread Cert.AdamwWGluRefIdeal.nD Cert.AdamwWGluRefIdeal.τ).loc Cert.AdamwWGluRefIdeal.main_arg1)
          ∧ r.2.mem ((c.tc : Thread Cert.AdamwWGluRefIdeal.nD Cert.AdamwWGluRefIdeal.τ).loc Cert.AdamwWGluRefIdeal.main_arg2) = m' ((c.tc : Thread Cert.AdamwWGluRefIdeal.nD Cert.AdamwWGluRefIdeal.τ).loc Cert.AdamwWGluRefIdeal.main_arg2)
          ∧ r.2.mem ((c.tc : Thread Cert.AdamwWGluRefIdeal.nD Cert.AdamwWGluRefIdeal.τ).loc Cert.AdamwWGluRefIdeal.main_arg3) = m' ((c.tc : Thread Cert.AdamwWGluRefIdeal.nD Cert.AdamwWGluRefIdeal.τ).loc Cert.AdamwWGluRefIdeal.main_arg3))

def preserves_AdamwWPa_AdamwWPaIdeal : Prop :=
  True

def algebraic_AdamwWPaIdeal_AdamwWPaRefIdeal [hAdamwWPaIdeal : Cert.AdamwWPaIdeal.Facts] [hAdamwWPaRefIdeal : Cert.AdamwWPaRefIdeal.Facts] : Prop :=
  ∀ (m : (ℓ : Loc Cert.AdamwWPaIdeal.nD Cert.AdamwWPaIdeal.τ Cert.AdamwWPaIdeal.sig) → Buf (Elt Ideal) ℓ) (g : Dev Cert.AdamwWPaIdeal.nD → PrngReg)
    (m' : (ℓ : Loc Cert.AdamwWPaRefIdeal.nD Cert.AdamwWPaRefIdeal.τ Cert.AdamwWPaRefIdeal.sig) → Buf (Elt Ideal) ℓ) (g' : Dev Cert.AdamwWPaRefIdeal.nD → PrngReg), Pre_AdamwWPaIdeal m →
    (∀ c : Dev Cert.AdamwWPaIdeal.nD,
      m' ((c.tc : Thread Cert.AdamwWPaRefIdeal.nD Cert.AdamwWPaRefIdeal.τ).loc Cert.AdamwWPaRefIdeal.main_arg0) = m ((c.tc : Thread Cert.AdamwWPaIdeal.nD Cert.AdamwWPaIdeal.τ).loc Cert.AdamwWPaIdeal.main_arg0)
      ∧ m' ((c.tc : Thread Cert.AdamwWPaRefIdeal.nD Cert.AdamwWPaRefIdeal.τ).loc Cert.AdamwWPaRefIdeal.main_arg1) = m ((c.tc : Thread Cert.AdamwWPaIdeal.nD Cert.AdamwWPaIdeal.τ).loc Cert.AdamwWPaIdeal.main_arg1)
      ∧ m' ((c.tc : Thread Cert.AdamwWPaRefIdeal.nD Cert.AdamwWPaRefIdeal.τ).loc Cert.AdamwWPaRefIdeal.main_arg2) = m ((c.tc : Thread Cert.AdamwWPaIdeal.nD Cert.AdamwWPaIdeal.τ).loc Cert.AdamwWPaIdeal.main_arg2)
      ∧ m' ((c.tc : Thread Cert.AdamwWPaRefIdeal.nD Cert.AdamwWPaRefIdeal.τ).loc Cert.AdamwWPaRefIdeal.main_arg3) = m ((c.tc : Thread Cert.AdamwWPaIdeal.nD Cert.AdamwWPaIdeal.τ).loc Cert.AdamwWPaIdeal.main_arg3)) →
    ∃ (v0 : (c : Dev Cert.AdamwWPaIdeal.nD) → Buf (Elt Ideal) ((c.tc : Thread Cert.AdamwWPaIdeal.nD Cert.AdamwWPaIdeal.τ).loc Cert.AdamwWPaIdeal.main_v5_0)) (v1 : (c : Dev Cert.AdamwWPaIdeal.nD) → Buf (Elt Ideal) ((c.tc : Thread Cert.AdamwWPaIdeal.nD Cert.AdamwWPaIdeal.τ).loc Cert.AdamwWPaIdeal.main_v5_1)) (v2 : (c : Dev Cert.AdamwWPaIdeal.nD) → Buf (Elt Ideal) ((c.tc : Thread Cert.AdamwWPaIdeal.nD Cert.AdamwWPaIdeal.τ).loc Cert.AdamwWPaIdeal.main_v5_2)),
      θ_run (Cert.AdamwWPaIdeal.defs (F := Ideal)) (onTc (τ := Cert.AdamwWPaIdeal.τ) (Cert.AdamwWPaIdeal.main (F := Ideal))) ⟨m, fun _ => 0, g⟩ (fun r => ∀ c : Dev Cert.AdamwWPaIdeal.nD,
          r.2.mem ((c.tc : Thread Cert.AdamwWPaIdeal.nD Cert.AdamwWPaIdeal.τ).loc Cert.AdamwWPaIdeal.main_v5_0) = v0 c
          ∧ r.2.mem ((c.tc : Thread Cert.AdamwWPaIdeal.nD Cert.AdamwWPaIdeal.τ).loc Cert.AdamwWPaIdeal.main_v5_1) = v1 c
          ∧ r.2.mem ((c.tc : Thread Cert.AdamwWPaIdeal.nD Cert.AdamwWPaIdeal.τ).loc Cert.AdamwWPaIdeal.main_v5_2) = v2 c
          ∧ r.2.mem ((c.tc : Thread Cert.AdamwWPaIdeal.nD Cert.AdamwWPaIdeal.τ).loc Cert.AdamwWPaIdeal.main_arg0) = m ((c.tc : Thread Cert.AdamwWPaIdeal.nD Cert.AdamwWPaIdeal.τ).loc Cert.AdamwWPaIdeal.main_arg0)
          ∧ r.2.mem ((c.tc : Thread Cert.AdamwWPaIdeal.nD Cert.AdamwWPaIdeal.τ).loc Cert.AdamwWPaIdeal.main_arg1) = m ((c.tc : Thread Cert.AdamwWPaIdeal.nD Cert.AdamwWPaIdeal.τ).loc Cert.AdamwWPaIdeal.main_arg1)
          ∧ r.2.mem ((c.tc : Thread Cert.AdamwWPaIdeal.nD Cert.AdamwWPaIdeal.τ).loc Cert.AdamwWPaIdeal.main_arg2) = m ((c.tc : Thread Cert.AdamwWPaIdeal.nD Cert.AdamwWPaIdeal.τ).loc Cert.AdamwWPaIdeal.main_arg2)
          ∧ r.2.mem ((c.tc : Thread Cert.AdamwWPaIdeal.nD Cert.AdamwWPaIdeal.τ).loc Cert.AdamwWPaIdeal.main_arg3) = m ((c.tc : Thread Cert.AdamwWPaIdeal.nD Cert.AdamwWPaIdeal.τ).loc Cert.AdamwWPaIdeal.main_arg3))
      ∧ θ_run (Cert.AdamwWPaRefIdeal.defs (F := Ideal)) (onTc (τ := Cert.AdamwWPaRefIdeal.τ) (Cert.AdamwWPaRefIdeal.main (F := Ideal))) ⟨m', fun _ => 0, g'⟩ (fun r => ∀ c : Dev Cert.AdamwWPaRefIdeal.nD,
          r.2.mem ((c.tc : Thread Cert.AdamwWPaRefIdeal.nD Cert.AdamwWPaRefIdeal.τ).loc Cert.AdamwWPaRefIdeal.main_v24) = v0 c
          ∧ r.2.mem ((c.tc : Thread Cert.AdamwWPaRefIdeal.nD Cert.AdamwWPaRefIdeal.τ).loc Cert.AdamwWPaRefIdeal.main_v25) = v1 c
          ∧ r.2.mem ((c.tc : Thread Cert.AdamwWPaRefIdeal.nD Cert.AdamwWPaRefIdeal.τ).loc Cert.AdamwWPaRefIdeal.main_v26) = v2 c
          ∧ r.2.mem ((c.tc : Thread Cert.AdamwWPaRefIdeal.nD Cert.AdamwWPaRefIdeal.τ).loc Cert.AdamwWPaRefIdeal.main_arg0) = m' ((c.tc : Thread Cert.AdamwWPaRefIdeal.nD Cert.AdamwWPaRefIdeal.τ).loc Cert.AdamwWPaRefIdeal.main_arg0)
          ∧ r.2.mem ((c.tc : Thread Cert.AdamwWPaRefIdeal.nD Cert.AdamwWPaRefIdeal.τ).loc Cert.AdamwWPaRefIdeal.main_arg1) = m' ((c.tc : Thread Cert.AdamwWPaRefIdeal.nD Cert.AdamwWPaRefIdeal.τ).loc Cert.AdamwWPaRefIdeal.main_arg1)
          ∧ r.2.mem ((c.tc : Thread Cert.AdamwWPaRefIdeal.nD Cert.AdamwWPaRefIdeal.τ).loc Cert.AdamwWPaRefIdeal.main_arg2) = m' ((c.tc : Thread Cert.AdamwWPaRefIdeal.nD Cert.AdamwWPaRefIdeal.τ).loc Cert.AdamwWPaRefIdeal.main_arg2)
          ∧ r.2.mem ((c.tc : Thread Cert.AdamwWPaRefIdeal.nD Cert.AdamwWPaRefIdeal.τ).loc Cert.AdamwWPaRefIdeal.main_arg3) = m' ((c.tc : Thread Cert.AdamwWPaRefIdeal.nD Cert.AdamwWPaRefIdeal.τ).loc Cert.AdamwWPaRefIdeal.main_arg3))

def preserves_AdamwWPb_AdamwWPbIdeal : Prop :=
  True

def algebraic_AdamwWPbIdeal_AdamwWPbRefIdeal [hAdamwWPbIdeal : Cert.AdamwWPbIdeal.Facts] [hAdamwWPbRefIdeal : Cert.AdamwWPbRefIdeal.Facts] : Prop :=
  ∀ (m : (ℓ : Loc Cert.AdamwWPbIdeal.nD Cert.AdamwWPbIdeal.τ Cert.AdamwWPbIdeal.sig) → Buf (Elt Ideal) ℓ) (g : Dev Cert.AdamwWPbIdeal.nD → PrngReg)
    (m' : (ℓ : Loc Cert.AdamwWPbRefIdeal.nD Cert.AdamwWPbRefIdeal.τ Cert.AdamwWPbRefIdeal.sig) → Buf (Elt Ideal) ℓ) (g' : Dev Cert.AdamwWPbRefIdeal.nD → PrngReg), Pre_AdamwWPbIdeal m →
    (∀ c : Dev Cert.AdamwWPbIdeal.nD,
      m' ((c.tc : Thread Cert.AdamwWPbRefIdeal.nD Cert.AdamwWPbRefIdeal.τ).loc Cert.AdamwWPbRefIdeal.main_arg0) = m ((c.tc : Thread Cert.AdamwWPbIdeal.nD Cert.AdamwWPbIdeal.τ).loc Cert.AdamwWPbIdeal.main_arg0)
      ∧ m' ((c.tc : Thread Cert.AdamwWPbRefIdeal.nD Cert.AdamwWPbRefIdeal.τ).loc Cert.AdamwWPbRefIdeal.main_arg1) = m ((c.tc : Thread Cert.AdamwWPbIdeal.nD Cert.AdamwWPbIdeal.τ).loc Cert.AdamwWPbIdeal.main_arg1)
      ∧ m' ((c.tc : Thread Cert.AdamwWPbRefIdeal.nD Cert.AdamwWPbRefIdeal.τ).loc Cert.AdamwWPbRefIdeal.main_arg2) = m ((c.tc : Thread Cert.AdamwWPbIdeal.nD Cert.AdamwWPbIdeal.τ).loc Cert.AdamwWPbIdeal.main_arg2)
      ∧ m' ((c.tc : Thread Cert.AdamwWPbRefIdeal.nD Cert.AdamwWPbRefIdeal.τ).loc Cert.AdamwWPbRefIdeal.main_arg3) = m ((c.tc : Thread Cert.AdamwWPbIdeal.nD Cert.AdamwWPbIdeal.τ).loc Cert.AdamwWPbIdeal.main_arg3)) →
    ∃ (v0 : (c : Dev Cert.AdamwWPbIdeal.nD) → Buf (Elt Ideal) ((c.tc : Thread Cert.AdamwWPbIdeal.nD Cert.AdamwWPbIdeal.τ).loc Cert.AdamwWPbIdeal.main_v5_0)) (v1 : (c : Dev Cert.AdamwWPbIdeal.nD) → Buf (Elt Ideal) ((c.tc : Thread Cert.AdamwWPbIdeal.nD Cert.AdamwWPbIdeal.τ).loc Cert.AdamwWPbIdeal.main_v5_1)) (v2 : (c : Dev Cert.AdamwWPbIdeal.nD) → Buf (Elt Ideal) ((c.tc : Thread Cert.AdamwWPbIdeal.nD Cert.AdamwWPbIdeal.τ).loc Cert.AdamwWPbIdeal.main_v5_2)),
      θ_run (Cert.AdamwWPbIdeal.defs (F := Ideal)) (onTc (τ := Cert.AdamwWPbIdeal.τ) (Cert.AdamwWPbIdeal.main (F := Ideal))) ⟨m, fun _ => 0, g⟩ (fun r => ∀ c : Dev Cert.AdamwWPbIdeal.nD,
          r.2.mem ((c.tc : Thread Cert.AdamwWPbIdeal.nD Cert.AdamwWPbIdeal.τ).loc Cert.AdamwWPbIdeal.main_v5_0) = v0 c
          ∧ r.2.mem ((c.tc : Thread Cert.AdamwWPbIdeal.nD Cert.AdamwWPbIdeal.τ).loc Cert.AdamwWPbIdeal.main_v5_1) = v1 c
          ∧ r.2.mem ((c.tc : Thread Cert.AdamwWPbIdeal.nD Cert.AdamwWPbIdeal.τ).loc Cert.AdamwWPbIdeal.main_v5_2) = v2 c
          ∧ r.2.mem ((c.tc : Thread Cert.AdamwWPbIdeal.nD Cert.AdamwWPbIdeal.τ).loc Cert.AdamwWPbIdeal.main_arg0) = m ((c.tc : Thread Cert.AdamwWPbIdeal.nD Cert.AdamwWPbIdeal.τ).loc Cert.AdamwWPbIdeal.main_arg0)
          ∧ r.2.mem ((c.tc : Thread Cert.AdamwWPbIdeal.nD Cert.AdamwWPbIdeal.τ).loc Cert.AdamwWPbIdeal.main_arg1) = m ((c.tc : Thread Cert.AdamwWPbIdeal.nD Cert.AdamwWPbIdeal.τ).loc Cert.AdamwWPbIdeal.main_arg1)
          ∧ r.2.mem ((c.tc : Thread Cert.AdamwWPbIdeal.nD Cert.AdamwWPbIdeal.τ).loc Cert.AdamwWPbIdeal.main_arg2) = m ((c.tc : Thread Cert.AdamwWPbIdeal.nD Cert.AdamwWPbIdeal.τ).loc Cert.AdamwWPbIdeal.main_arg2)
          ∧ r.2.mem ((c.tc : Thread Cert.AdamwWPbIdeal.nD Cert.AdamwWPbIdeal.τ).loc Cert.AdamwWPbIdeal.main_arg3) = m ((c.tc : Thread Cert.AdamwWPbIdeal.nD Cert.AdamwWPbIdeal.τ).loc Cert.AdamwWPbIdeal.main_arg3))
      ∧ θ_run (Cert.AdamwWPbRefIdeal.defs (F := Ideal)) (onTc (τ := Cert.AdamwWPbRefIdeal.τ) (Cert.AdamwWPbRefIdeal.main (F := Ideal))) ⟨m', fun _ => 0, g'⟩ (fun r => ∀ c : Dev Cert.AdamwWPbRefIdeal.nD,
          r.2.mem ((c.tc : Thread Cert.AdamwWPbRefIdeal.nD Cert.AdamwWPbRefIdeal.τ).loc Cert.AdamwWPbRefIdeal.main_v24) = v0 c
          ∧ r.2.mem ((c.tc : Thread Cert.AdamwWPbRefIdeal.nD Cert.AdamwWPbRefIdeal.τ).loc Cert.AdamwWPbRefIdeal.main_v25) = v1 c
          ∧ r.2.mem ((c.tc : Thread Cert.AdamwWPbRefIdeal.nD Cert.AdamwWPbRefIdeal.τ).loc Cert.AdamwWPbRefIdeal.main_v26) = v2 c
          ∧ r.2.mem ((c.tc : Thread Cert.AdamwWPbRefIdeal.nD Cert.AdamwWPbRefIdeal.τ).loc Cert.AdamwWPbRefIdeal.main_arg0) = m' ((c.tc : Thread Cert.AdamwWPbRefIdeal.nD Cert.AdamwWPbRefIdeal.τ).loc Cert.AdamwWPbRefIdeal.main_arg0)
          ∧ r.2.mem ((c.tc : Thread Cert.AdamwWPbRefIdeal.nD Cert.AdamwWPbRefIdeal.τ).loc Cert.AdamwWPbRefIdeal.main_arg1) = m' ((c.tc : Thread Cert.AdamwWPbRefIdeal.nD Cert.AdamwWPbRefIdeal.τ).loc Cert.AdamwWPbRefIdeal.main_arg1)
          ∧ r.2.mem ((c.tc : Thread Cert.AdamwWPbRefIdeal.nD Cert.AdamwWPbRefIdeal.τ).loc Cert.AdamwWPbRefIdeal.main_arg2) = m' ((c.tc : Thread Cert.AdamwWPbRefIdeal.nD Cert.AdamwWPbRefIdeal.τ).loc Cert.AdamwWPbRefIdeal.main_arg2)
          ∧ r.2.mem ((c.tc : Thread Cert.AdamwWPbRefIdeal.nD Cert.AdamwWPbRefIdeal.τ).loc Cert.AdamwWPbRefIdeal.main_arg3) = m' ((c.tc : Thread Cert.AdamwWPbRefIdeal.nD Cert.AdamwWPbRefIdeal.τ).loc Cert.AdamwWPbRefIdeal.main_arg3))

def preserves_AdamwWO_AdamwWOIdeal : Prop :=
  True

def algebraic_AdamwWOIdeal_AdamwWORefIdeal [hAdamwWOIdeal : Cert.AdamwWOIdeal.Facts] [hAdamwWORefIdeal : Cert.AdamwWORefIdeal.Facts] : Prop :=
  ∀ (m : (ℓ : Loc Cert.AdamwWOIdeal.nD Cert.AdamwWOIdeal.τ Cert.AdamwWOIdeal.sig) → Buf (Elt Ideal) ℓ) (g : Dev Cert.AdamwWOIdeal.nD → PrngReg)
    (m' : (ℓ : Loc Cert.AdamwWORefIdeal.nD Cert.AdamwWORefIdeal.τ Cert.AdamwWORefIdeal.sig) → Buf (Elt Ideal) ℓ) (g' : Dev Cert.AdamwWORefIdeal.nD → PrngReg), Pre_AdamwWOIdeal m →
    (∀ c : Dev Cert.AdamwWOIdeal.nD,
      m' ((c.tc : Thread Cert.AdamwWORefIdeal.nD Cert.AdamwWORefIdeal.τ).loc Cert.AdamwWORefIdeal.main_arg0) = m ((c.tc : Thread Cert.AdamwWOIdeal.nD Cert.AdamwWOIdeal.τ).loc Cert.AdamwWOIdeal.main_arg0)
      ∧ m' ((c.tc : Thread Cert.AdamwWORefIdeal.nD Cert.AdamwWORefIdeal.τ).loc Cert.AdamwWORefIdeal.main_arg1) = m ((c.tc : Thread Cert.AdamwWOIdeal.nD Cert.AdamwWOIdeal.τ).loc Cert.AdamwWOIdeal.main_arg1)
      ∧ m' ((c.tc : Thread Cert.AdamwWORefIdeal.nD Cert.AdamwWORefIdeal.τ).loc Cert.AdamwWORefIdeal.main_arg2) = m ((c.tc : Thread Cert.AdamwWOIdeal.nD Cert.AdamwWOIdeal.τ).loc Cert.AdamwWOIdeal.main_arg2)
      ∧ m' ((c.tc : Thread Cert.AdamwWORefIdeal.nD Cert.AdamwWORefIdeal.τ).loc Cert.AdamwWORefIdeal.main_arg3) = m ((c.tc : Thread Cert.AdamwWOIdeal.nD Cert.AdamwWOIdeal.τ).loc Cert.AdamwWOIdeal.main_arg3)) →
    ∃ (v0 : (c : Dev Cert.AdamwWOIdeal.nD) → Buf (Elt Ideal) ((c.tc : Thread Cert.AdamwWOIdeal.nD Cert.AdamwWOIdeal.τ).loc Cert.AdamwWOIdeal.main_v5_0)) (v1 : (c : Dev Cert.AdamwWOIdeal.nD) → Buf (Elt Ideal) ((c.tc : Thread Cert.AdamwWOIdeal.nD Cert.AdamwWOIdeal.τ).loc Cert.AdamwWOIdeal.main_v5_1)) (v2 : (c : Dev Cert.AdamwWOIdeal.nD) → Buf (Elt Ideal) ((c.tc : Thread Cert.AdamwWOIdeal.nD Cert.AdamwWOIdeal.τ).loc Cert.AdamwWOIdeal.main_v5_2)),
      θ_run (Cert.AdamwWOIdeal.defs (F := Ideal)) (onTc (τ := Cert.AdamwWOIdeal.τ) (Cert.AdamwWOIdeal.main (F := Ideal))) ⟨m, fun _ => 0, g⟩ (fun r => ∀ c : Dev Cert.AdamwWOIdeal.nD,
          r.2.mem ((c.tc : Thread Cert.AdamwWOIdeal.nD Cert.AdamwWOIdeal.τ).loc Cert.AdamwWOIdeal.main_v5_0) = v0 c
          ∧ r.2.mem ((c.tc : Thread Cert.AdamwWOIdeal.nD Cert.AdamwWOIdeal.τ).loc Cert.AdamwWOIdeal.main_v5_1) = v1 c
          ∧ r.2.mem ((c.tc : Thread Cert.AdamwWOIdeal.nD Cert.AdamwWOIdeal.τ).loc Cert.AdamwWOIdeal.main_v5_2) = v2 c
          ∧ r.2.mem ((c.tc : Thread Cert.AdamwWOIdeal.nD Cert.AdamwWOIdeal.τ).loc Cert.AdamwWOIdeal.main_arg0) = m ((c.tc : Thread Cert.AdamwWOIdeal.nD Cert.AdamwWOIdeal.τ).loc Cert.AdamwWOIdeal.main_arg0)
          ∧ r.2.mem ((c.tc : Thread Cert.AdamwWOIdeal.nD Cert.AdamwWOIdeal.τ).loc Cert.AdamwWOIdeal.main_arg1) = m ((c.tc : Thread Cert.AdamwWOIdeal.nD Cert.AdamwWOIdeal.τ).loc Cert.AdamwWOIdeal.main_arg1)
          ∧ r.2.mem ((c.tc : Thread Cert.AdamwWOIdeal.nD Cert.AdamwWOIdeal.τ).loc Cert.AdamwWOIdeal.main_arg2) = m ((c.tc : Thread Cert.AdamwWOIdeal.nD Cert.AdamwWOIdeal.τ).loc Cert.AdamwWOIdeal.main_arg2)
          ∧ r.2.mem ((c.tc : Thread Cert.AdamwWOIdeal.nD Cert.AdamwWOIdeal.τ).loc Cert.AdamwWOIdeal.main_arg3) = m ((c.tc : Thread Cert.AdamwWOIdeal.nD Cert.AdamwWOIdeal.τ).loc Cert.AdamwWOIdeal.main_arg3))
      ∧ θ_run (Cert.AdamwWORefIdeal.defs (F := Ideal)) (onTc (τ := Cert.AdamwWORefIdeal.τ) (Cert.AdamwWORefIdeal.main (F := Ideal))) ⟨m', fun _ => 0, g'⟩ (fun r => ∀ c : Dev Cert.AdamwWORefIdeal.nD,
          r.2.mem ((c.tc : Thread Cert.AdamwWORefIdeal.nD Cert.AdamwWORefIdeal.τ).loc Cert.AdamwWORefIdeal.main_v24) = v0 c
          ∧ r.2.mem ((c.tc : Thread Cert.AdamwWORefIdeal.nD Cert.AdamwWORefIdeal.τ).loc Cert.AdamwWORefIdeal.main_v25) = v1 c
          ∧ r.2.mem ((c.tc : Thread Cert.AdamwWORefIdeal.nD Cert.AdamwWORefIdeal.τ).loc Cert.AdamwWORefIdeal.main_v26) = v2 c
          ∧ r.2.mem ((c.tc : Thread Cert.AdamwWORefIdeal.nD Cert.AdamwWORefIdeal.τ).loc Cert.AdamwWORefIdeal.main_arg0) = m' ((c.tc : Thread Cert.AdamwWORefIdeal.nD Cert.AdamwWORefIdeal.τ).loc Cert.AdamwWORefIdeal.main_arg0)
          ∧ r.2.mem ((c.tc : Thread Cert.AdamwWORefIdeal.nD Cert.AdamwWORefIdeal.τ).loc Cert.AdamwWORefIdeal.main_arg1) = m' ((c.tc : Thread Cert.AdamwWORefIdeal.nD Cert.AdamwWORefIdeal.τ).loc Cert.AdamwWORefIdeal.main_arg1)
          ∧ r.2.mem ((c.tc : Thread Cert.AdamwWORefIdeal.nD Cert.AdamwWORefIdeal.τ).loc Cert.AdamwWORefIdeal.main_arg2) = m' ((c.tc : Thread Cert.AdamwWORefIdeal.nD Cert.AdamwWORefIdeal.τ).loc Cert.AdamwWORefIdeal.main_arg2)
          ∧ r.2.mem ((c.tc : Thread Cert.AdamwWORefIdeal.nD Cert.AdamwWORefIdeal.τ).loc Cert.AdamwWORefIdeal.main_arg3) = m' ((c.tc : Thread Cert.AdamwWORefIdeal.nD Cert.AdamwWORefIdeal.τ).loc Cert.AdamwWORefIdeal.main_arg3))

def preserves_AdamwWFfnIn_AdamwWFfnInIdeal : Prop :=
  True

def algebraic_AdamwWFfnInIdeal_AdamwWFfnInRefIdeal [hAdamwWFfnInIdeal : Cert.AdamwWFfnInIdeal.Facts] [hAdamwWFfnInRefIdeal : Cert.AdamwWFfnInRefIdeal.Facts] : Prop :=
  ∀ (m : (ℓ : Loc Cert.AdamwWFfnInIdeal.nD Cert.AdamwWFfnInIdeal.τ Cert.AdamwWFfnInIdeal.sig) → Buf (Elt Ideal) ℓ) (g : Dev Cert.AdamwWFfnInIdeal.nD → PrngReg)
    (m' : (ℓ : Loc Cert.AdamwWFfnInRefIdeal.nD Cert.AdamwWFfnInRefIdeal.τ Cert.AdamwWFfnInRefIdeal.sig) → Buf (Elt Ideal) ℓ) (g' : Dev Cert.AdamwWFfnInRefIdeal.nD → PrngReg), Pre_AdamwWFfnInIdeal m →
    (∀ c : Dev Cert.AdamwWFfnInIdeal.nD,
      m' ((c.tc : Thread Cert.AdamwWFfnInRefIdeal.nD Cert.AdamwWFfnInRefIdeal.τ).loc Cert.AdamwWFfnInRefIdeal.main_arg0) = m ((c.tc : Thread Cert.AdamwWFfnInIdeal.nD Cert.AdamwWFfnInIdeal.τ).loc Cert.AdamwWFfnInIdeal.main_arg0)
      ∧ m' ((c.tc : Thread Cert.AdamwWFfnInRefIdeal.nD Cert.AdamwWFfnInRefIdeal.τ).loc Cert.AdamwWFfnInRefIdeal.main_arg1) = m ((c.tc : Thread Cert.AdamwWFfnInIdeal.nD Cert.AdamwWFfnInIdeal.τ).loc Cert.AdamwWFfnInIdeal.main_arg1)
      ∧ m' ((c.tc : Thread Cert.AdamwWFfnInRefIdeal.nD Cert.AdamwWFfnInRefIdeal.τ).loc Cert.AdamwWFfnInRefIdeal.main_arg2) = m ((c.tc : Thread Cert.AdamwWFfnInIdeal.nD Cert.AdamwWFfnInIdeal.τ).loc Cert.AdamwWFfnInIdeal.main_arg2)
      ∧ m' ((c.tc : Thread Cert.AdamwWFfnInRefIdeal.nD Cert.AdamwWFfnInRefIdeal.τ).loc Cert.AdamwWFfnInRefIdeal.main_arg3) = m ((c.tc : Thread Cert.AdamwWFfnInIdeal.nD Cert.AdamwWFfnInIdeal.τ).loc Cert.AdamwWFfnInIdeal.main_arg3)) →
    ∃ (v0 : (c : Dev Cert.AdamwWFfnInIdeal.nD) → Buf (Elt Ideal) ((c.tc : Thread Cert.AdamwWFfnInIdeal.nD Cert.AdamwWFfnInIdeal.τ).loc Cert.AdamwWFfnInIdeal.main_v5_0)) (v1 : (c : Dev Cert.AdamwWFfnInIdeal.nD) → Buf (Elt Ideal) ((c.tc : Thread Cert.AdamwWFfnInIdeal.nD Cert.AdamwWFfnInIdeal.τ).loc Cert.AdamwWFfnInIdeal.main_v5_1)) (v2 : (c : Dev Cert.AdamwWFfnInIdeal.nD) → Buf (Elt Ideal) ((c.tc : Thread Cert.AdamwWFfnInIdeal.nD Cert.AdamwWFfnInIdeal.τ).loc Cert.AdamwWFfnInIdeal.main_v5_2)),
      θ_run (Cert.AdamwWFfnInIdeal.defs (F := Ideal)) (onTc (τ := Cert.AdamwWFfnInIdeal.τ) (Cert.AdamwWFfnInIdeal.main (F := Ideal))) ⟨m, fun _ => 0, g⟩ (fun r => ∀ c : Dev Cert.AdamwWFfnInIdeal.nD,
          r.2.mem ((c.tc : Thread Cert.AdamwWFfnInIdeal.nD Cert.AdamwWFfnInIdeal.τ).loc Cert.AdamwWFfnInIdeal.main_v5_0) = v0 c
          ∧ r.2.mem ((c.tc : Thread Cert.AdamwWFfnInIdeal.nD Cert.AdamwWFfnInIdeal.τ).loc Cert.AdamwWFfnInIdeal.main_v5_1) = v1 c
          ∧ r.2.mem ((c.tc : Thread Cert.AdamwWFfnInIdeal.nD Cert.AdamwWFfnInIdeal.τ).loc Cert.AdamwWFfnInIdeal.main_v5_2) = v2 c
          ∧ r.2.mem ((c.tc : Thread Cert.AdamwWFfnInIdeal.nD Cert.AdamwWFfnInIdeal.τ).loc Cert.AdamwWFfnInIdeal.main_arg0) = m ((c.tc : Thread Cert.AdamwWFfnInIdeal.nD Cert.AdamwWFfnInIdeal.τ).loc Cert.AdamwWFfnInIdeal.main_arg0)
          ∧ r.2.mem ((c.tc : Thread Cert.AdamwWFfnInIdeal.nD Cert.AdamwWFfnInIdeal.τ).loc Cert.AdamwWFfnInIdeal.main_arg1) = m ((c.tc : Thread Cert.AdamwWFfnInIdeal.nD Cert.AdamwWFfnInIdeal.τ).loc Cert.AdamwWFfnInIdeal.main_arg1)
          ∧ r.2.mem ((c.tc : Thread Cert.AdamwWFfnInIdeal.nD Cert.AdamwWFfnInIdeal.τ).loc Cert.AdamwWFfnInIdeal.main_arg2) = m ((c.tc : Thread Cert.AdamwWFfnInIdeal.nD Cert.AdamwWFfnInIdeal.τ).loc Cert.AdamwWFfnInIdeal.main_arg2)
          ∧ r.2.mem ((c.tc : Thread Cert.AdamwWFfnInIdeal.nD Cert.AdamwWFfnInIdeal.τ).loc Cert.AdamwWFfnInIdeal.main_arg3) = m ((c.tc : Thread Cert.AdamwWFfnInIdeal.nD Cert.AdamwWFfnInIdeal.τ).loc Cert.AdamwWFfnInIdeal.main_arg3))
      ∧ θ_run (Cert.AdamwWFfnInRefIdeal.defs (F := Ideal)) (onTc (τ := Cert.AdamwWFfnInRefIdeal.τ) (Cert.AdamwWFfnInRefIdeal.main (F := Ideal))) ⟨m', fun _ => 0, g'⟩ (fun r => ∀ c : Dev Cert.AdamwWFfnInRefIdeal.nD,
          r.2.mem ((c.tc : Thread Cert.AdamwWFfnInRefIdeal.nD Cert.AdamwWFfnInRefIdeal.τ).loc Cert.AdamwWFfnInRefIdeal.main_v24) = v0 c
          ∧ r.2.mem ((c.tc : Thread Cert.AdamwWFfnInRefIdeal.nD Cert.AdamwWFfnInRefIdeal.τ).loc Cert.AdamwWFfnInRefIdeal.main_v25) = v1 c
          ∧ r.2.mem ((c.tc : Thread Cert.AdamwWFfnInRefIdeal.nD Cert.AdamwWFfnInRefIdeal.τ).loc Cert.AdamwWFfnInRefIdeal.main_v26) = v2 c
          ∧ r.2.mem ((c.tc : Thread Cert.AdamwWFfnInRefIdeal.nD Cert.AdamwWFfnInRefIdeal.τ).loc Cert.AdamwWFfnInRefIdeal.main_arg0) = m' ((c.tc : Thread Cert.AdamwWFfnInRefIdeal.nD Cert.AdamwWFfnInRefIdeal.τ).loc Cert.AdamwWFfnInRefIdeal.main_arg0)
          ∧ r.2.mem ((c.tc : Thread Cert.AdamwWFfnInRefIdeal.nD Cert.AdamwWFfnInRefIdeal.τ).loc Cert.AdamwWFfnInRefIdeal.main_arg1) = m' ((c.tc : Thread Cert.AdamwWFfnInRefIdeal.nD Cert.AdamwWFfnInRefIdeal.τ).loc Cert.AdamwWFfnInRefIdeal.main_arg1)
          ∧ r.2.mem ((c.tc : Thread Cert.AdamwWFfnInRefIdeal.nD Cert.AdamwWFfnInRefIdeal.τ).loc Cert.AdamwWFfnInRefIdeal.main_arg2) = m' ((c.tc : Thread Cert.AdamwWFfnInRefIdeal.nD Cert.AdamwWFfnInRefIdeal.τ).loc Cert.AdamwWFfnInRefIdeal.main_arg2)
          ∧ r.2.mem ((c.tc : Thread Cert.AdamwWFfnInRefIdeal.nD Cert.AdamwWFfnInRefIdeal.τ).loc Cert.AdamwWFfnInRefIdeal.main_arg3) = m' ((c.tc : Thread Cert.AdamwWFfnInRefIdeal.nD Cert.AdamwWFfnInRefIdeal.τ).loc Cert.AdamwWFfnInRefIdeal.main_arg3))

def preserves_AdamwWFfnOut_AdamwWFfnOutIdeal : Prop :=
  True

def algebraic_AdamwWFfnOutIdeal_AdamwWFfnOutRefIdeal [hAdamwWFfnOutIdeal : Cert.AdamwWFfnOutIdeal.Facts] [hAdamwWFfnOutRefIdeal : Cert.AdamwWFfnOutRefIdeal.Facts] : Prop :=
  ∀ (m : (ℓ : Loc Cert.AdamwWFfnOutIdeal.nD Cert.AdamwWFfnOutIdeal.τ Cert.AdamwWFfnOutIdeal.sig) → Buf (Elt Ideal) ℓ) (g : Dev Cert.AdamwWFfnOutIdeal.nD → PrngReg)
    (m' : (ℓ : Loc Cert.AdamwWFfnOutRefIdeal.nD Cert.AdamwWFfnOutRefIdeal.τ Cert.AdamwWFfnOutRefIdeal.sig) → Buf (Elt Ideal) ℓ) (g' : Dev Cert.AdamwWFfnOutRefIdeal.nD → PrngReg), Pre_AdamwWFfnOutIdeal m →
    (∀ c : Dev Cert.AdamwWFfnOutIdeal.nD,
      m' ((c.tc : Thread Cert.AdamwWFfnOutRefIdeal.nD Cert.AdamwWFfnOutRefIdeal.τ).loc Cert.AdamwWFfnOutRefIdeal.main_arg0) = m ((c.tc : Thread Cert.AdamwWFfnOutIdeal.nD Cert.AdamwWFfnOutIdeal.τ).loc Cert.AdamwWFfnOutIdeal.main_arg0)
      ∧ m' ((c.tc : Thread Cert.AdamwWFfnOutRefIdeal.nD Cert.AdamwWFfnOutRefIdeal.τ).loc Cert.AdamwWFfnOutRefIdeal.main_arg1) = m ((c.tc : Thread Cert.AdamwWFfnOutIdeal.nD Cert.AdamwWFfnOutIdeal.τ).loc Cert.AdamwWFfnOutIdeal.main_arg1)
      ∧ m' ((c.tc : Thread Cert.AdamwWFfnOutRefIdeal.nD Cert.AdamwWFfnOutRefIdeal.τ).loc Cert.AdamwWFfnOutRefIdeal.main_arg2) = m ((c.tc : Thread Cert.AdamwWFfnOutIdeal.nD Cert.AdamwWFfnOutIdeal.τ).loc Cert.AdamwWFfnOutIdeal.main_arg2)
      ∧ m' ((c.tc : Thread Cert.AdamwWFfnOutRefIdeal.nD Cert.AdamwWFfnOutRefIdeal.τ).loc Cert.AdamwWFfnOutRefIdeal.main_arg3) = m ((c.tc : Thread Cert.AdamwWFfnOutIdeal.nD Cert.AdamwWFfnOutIdeal.τ).loc Cert.AdamwWFfnOutIdeal.main_arg3)) →
    ∃ (v0 : (c : Dev Cert.AdamwWFfnOutIdeal.nD) → Buf (Elt Ideal) ((c.tc : Thread Cert.AdamwWFfnOutIdeal.nD Cert.AdamwWFfnOutIdeal.τ).loc Cert.AdamwWFfnOutIdeal.main_v5_0)) (v1 : (c : Dev Cert.AdamwWFfnOutIdeal.nD) → Buf (Elt Ideal) ((c.tc : Thread Cert.AdamwWFfnOutIdeal.nD Cert.AdamwWFfnOutIdeal.τ).loc Cert.AdamwWFfnOutIdeal.main_v5_1)) (v2 : (c : Dev Cert.AdamwWFfnOutIdeal.nD) → Buf (Elt Ideal) ((c.tc : Thread Cert.AdamwWFfnOutIdeal.nD Cert.AdamwWFfnOutIdeal.τ).loc Cert.AdamwWFfnOutIdeal.main_v5_2)),
      θ_run (Cert.AdamwWFfnOutIdeal.defs (F := Ideal)) (onTc (τ := Cert.AdamwWFfnOutIdeal.τ) (Cert.AdamwWFfnOutIdeal.main (F := Ideal))) ⟨m, fun _ => 0, g⟩ (fun r => ∀ c : Dev Cert.AdamwWFfnOutIdeal.nD,
          r.2.mem ((c.tc : Thread Cert.AdamwWFfnOutIdeal.nD Cert.AdamwWFfnOutIdeal.τ).loc Cert.AdamwWFfnOutIdeal.main_v5_0) = v0 c
          ∧ r.2.mem ((c.tc : Thread Cert.AdamwWFfnOutIdeal.nD Cert.AdamwWFfnOutIdeal.τ).loc Cert.AdamwWFfnOutIdeal.main_v5_1) = v1 c
          ∧ r.2.mem ((c.tc : Thread Cert.AdamwWFfnOutIdeal.nD Cert.AdamwWFfnOutIdeal.τ).loc Cert.AdamwWFfnOutIdeal.main_v5_2) = v2 c
          ∧ r.2.mem ((c.tc : Thread Cert.AdamwWFfnOutIdeal.nD Cert.AdamwWFfnOutIdeal.τ).loc Cert.AdamwWFfnOutIdeal.main_arg0) = m ((c.tc : Thread Cert.AdamwWFfnOutIdeal.nD Cert.AdamwWFfnOutIdeal.τ).loc Cert.AdamwWFfnOutIdeal.main_arg0)
          ∧ r.2.mem ((c.tc : Thread Cert.AdamwWFfnOutIdeal.nD Cert.AdamwWFfnOutIdeal.τ).loc Cert.AdamwWFfnOutIdeal.main_arg1) = m ((c.tc : Thread Cert.AdamwWFfnOutIdeal.nD Cert.AdamwWFfnOutIdeal.τ).loc Cert.AdamwWFfnOutIdeal.main_arg1)
          ∧ r.2.mem ((c.tc : Thread Cert.AdamwWFfnOutIdeal.nD Cert.AdamwWFfnOutIdeal.τ).loc Cert.AdamwWFfnOutIdeal.main_arg2) = m ((c.tc : Thread Cert.AdamwWFfnOutIdeal.nD Cert.AdamwWFfnOutIdeal.τ).loc Cert.AdamwWFfnOutIdeal.main_arg2)
          ∧ r.2.mem ((c.tc : Thread Cert.AdamwWFfnOutIdeal.nD Cert.AdamwWFfnOutIdeal.τ).loc Cert.AdamwWFfnOutIdeal.main_arg3) = m ((c.tc : Thread Cert.AdamwWFfnOutIdeal.nD Cert.AdamwWFfnOutIdeal.τ).loc Cert.AdamwWFfnOutIdeal.main_arg3))
      ∧ θ_run (Cert.AdamwWFfnOutRefIdeal.defs (F := Ideal)) (onTc (τ := Cert.AdamwWFfnOutRefIdeal.τ) (Cert.AdamwWFfnOutRefIdeal.main (F := Ideal))) ⟨m', fun _ => 0, g'⟩ (fun r => ∀ c : Dev Cert.AdamwWFfnOutRefIdeal.nD,
          r.2.mem ((c.tc : Thread Cert.AdamwWFfnOutRefIdeal.nD Cert.AdamwWFfnOutRefIdeal.τ).loc Cert.AdamwWFfnOutRefIdeal.main_v24) = v0 c
          ∧ r.2.mem ((c.tc : Thread Cert.AdamwWFfnOutRefIdeal.nD Cert.AdamwWFfnOutRefIdeal.τ).loc Cert.AdamwWFfnOutRefIdeal.main_v25) = v1 c
          ∧ r.2.mem ((c.tc : Thread Cert.AdamwWFfnOutRefIdeal.nD Cert.AdamwWFfnOutRefIdeal.τ).loc Cert.AdamwWFfnOutRefIdeal.main_v26) = v2 c
          ∧ r.2.mem ((c.tc : Thread Cert.AdamwWFfnOutRefIdeal.nD Cert.AdamwWFfnOutRefIdeal.τ).loc Cert.AdamwWFfnOutRefIdeal.main_arg0) = m' ((c.tc : Thread Cert.AdamwWFfnOutRefIdeal.nD Cert.AdamwWFfnOutRefIdeal.τ).loc Cert.AdamwWFfnOutRefIdeal.main_arg0)
          ∧ r.2.mem ((c.tc : Thread Cert.AdamwWFfnOutRefIdeal.nD Cert.AdamwWFfnOutRefIdeal.τ).loc Cert.AdamwWFfnOutRefIdeal.main_arg1) = m' ((c.tc : Thread Cert.AdamwWFfnOutRefIdeal.nD Cert.AdamwWFfnOutRefIdeal.τ).loc Cert.AdamwWFfnOutRefIdeal.main_arg1)
          ∧ r.2.mem ((c.tc : Thread Cert.AdamwWFfnOutRefIdeal.nD Cert.AdamwWFfnOutRefIdeal.τ).loc Cert.AdamwWFfnOutRefIdeal.main_arg2) = m' ((c.tc : Thread Cert.AdamwWFfnOutRefIdeal.nD Cert.AdamwWFfnOutRefIdeal.τ).loc Cert.AdamwWFfnOutRefIdeal.main_arg2)
          ∧ r.2.mem ((c.tc : Thread Cert.AdamwWFfnOutRefIdeal.nD Cert.AdamwWFfnOutRefIdeal.τ).loc Cert.AdamwWFfnOutRefIdeal.main_arg3) = m' ((c.tc : Thread Cert.AdamwWFfnOutRefIdeal.nD Cert.AdamwWFfnOutRefIdeal.τ).loc Cert.AdamwWFfnOutRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v5)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v5) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v51) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_SsmOut_SsmOutIdeal : Prop :=
  True

def algebraic_SsmOutIdeal_SsmOutRefIdeal_pre_out_finite [hSsmOutIdeal : Cert.SsmOutIdeal.Facts] [hSsmOutRefIdeal : Cert.SsmOutRefIdeal.Facts] [hPre_out_finite : Cert.Pre_out_finite.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal_out_finite m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)) →
    ∃ (v0 : (c : Dev Cert.SsmOutIdeal.nD) → Buf (Elt Ideal) ((c.tc : Thread Cert.SsmOutIdeal.nD Cert.SsmOutIdeal.τ).loc Cert.SsmOutIdeal.main_v34)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v34) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v10) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2))

def preserves_SsmParams_SsmParamsIdeal : Prop :=
  True

def algebraic_SsmParamsIdeal_SsmParamsRefIdeal [hSsmParamsIdeal : Cert.SsmParamsIdeal.Facts] [hSsmParamsRefIdeal : Cert.SsmParamsRefIdeal.Facts] : Prop :=
  ∀ (m : (ℓ : Loc Cert.SsmParamsIdeal.nD Cert.SsmParamsIdeal.τ Cert.SsmParamsIdeal.sig) → Buf (Elt Ideal) ℓ) (g : Dev Cert.SsmParamsIdeal.nD → PrngReg)
    (m' : (ℓ : Loc Cert.SsmParamsRefIdeal.nD Cert.SsmParamsRefIdeal.τ Cert.SsmParamsRefIdeal.sig) → Buf (Elt Ideal) ℓ) (g' : Dev Cert.SsmParamsRefIdeal.nD → PrngReg), Pre_SsmParamsIdeal m →
    (∀ c : Dev Cert.SsmParamsIdeal.nD,
      m' ((c.tc : Thread Cert.SsmParamsRefIdeal.nD Cert.SsmParamsRefIdeal.τ).loc Cert.SsmParamsRefIdeal.main_arg0) = m ((c.tc : Thread Cert.SsmParamsIdeal.nD Cert.SsmParamsIdeal.τ).loc Cert.SsmParamsIdeal.main_arg0)
      ∧ m' ((c.tc : Thread Cert.SsmParamsRefIdeal.nD Cert.SsmParamsRefIdeal.τ).loc Cert.SsmParamsRefIdeal.main_arg1) = m ((c.tc : Thread Cert.SsmParamsIdeal.nD Cert.SsmParamsIdeal.τ).loc Cert.SsmParamsIdeal.main_arg1)
      ∧ m' ((c.tc : Thread Cert.SsmParamsRefIdeal.nD Cert.SsmParamsRefIdeal.τ).loc Cert.SsmParamsRefIdeal.main_arg2) = m ((c.tc : Thread Cert.SsmParamsIdeal.nD Cert.SsmParamsIdeal.τ).loc Cert.SsmParamsIdeal.main_arg2)
      ∧ m' ((c.tc : Thread Cert.SsmParamsRefIdeal.nD Cert.SsmParamsRefIdeal.τ).loc Cert.SsmParamsRefIdeal.main_arg3) = m ((c.tc : Thread Cert.SsmParamsIdeal.nD Cert.SsmParamsIdeal.τ).loc Cert.SsmParamsIdeal.main_arg3)
      ∧ m' ((c.tc : Thread Cert.SsmParamsRefIdeal.nD Cert.SsmParamsRefIdeal.τ).loc Cert.SsmParamsRefIdeal.main_arg4) = m ((c.tc : Thread Cert.SsmParamsIdeal.nD Cert.SsmParamsIdeal.τ).loc Cert.SsmParamsIdeal.main_arg4)) →
    ∃ (v0 : (c : Dev Cert.SsmParamsIdeal.nD) → Buf (Elt Ideal) ((c.tc : Thread Cert.SsmParamsIdeal.nD Cert.SsmParamsIdeal.τ).loc Cert.SsmParamsIdeal.main_v11_0)) (v1 : (c : Dev Cert.SsmParamsIdeal.nD) → Buf (Elt Ideal) ((c.tc : Thread Cert.SsmParamsIdeal.nD Cert.SsmParamsIdeal.τ).loc Cert.SsmParamsIdeal.main_v11_1)) (v2 : (c : Dev Cert.SsmParamsIdeal.nD) → Buf (Elt Ideal) ((c.tc : Thread Cert.SsmParamsIdeal.nD Cert.SsmParamsIdeal.τ).loc Cert.SsmParamsIdeal.main_v11_2)) (v3 : (c : Dev Cert.SsmParamsIdeal.nD) → Buf (Elt Ideal) ((c.tc : Thread Cert.SsmParamsIdeal.nD Cert.SsmParamsIdeal.τ).loc Cert.SsmParamsIdeal.main_v11_3)),
      θ_run (Cert.SsmParamsIdeal.defs (F := Ideal)) (onTc (τ := Cert.SsmParamsIdeal.τ) (Cert.SsmParamsIdeal.main (F := Ideal))) ⟨m, fun _ => 0, g⟩ (fun r => ∀ c : Dev Cert.SsmParamsIdeal.nD,
          r.2.mem ((c.tc : Thread Cert.SsmParamsIdeal.nD Cert.SsmParamsIdeal.τ).loc Cert.SsmParamsIdeal.main_v11_0) = v0 c
          ∧ r.2.mem ((c.tc : Thread Cert.SsmParamsIdeal.nD Cert.SsmParamsIdeal.τ).loc Cert.SsmParamsIdeal.main_v11_1) = v1 c
          ∧ r.2.mem ((c.tc : Thread Cert.SsmParamsIdeal.nD Cert.SsmParamsIdeal.τ).loc Cert.SsmParamsIdeal.main_v11_2) = v2 c
          ∧ r.2.mem ((c.tc : Thread Cert.SsmParamsIdeal.nD Cert.SsmParamsIdeal.τ).loc Cert.SsmParamsIdeal.main_v11_3) = v3 c
          ∧ r.2.mem ((c.tc : Thread Cert.SsmParamsIdeal.nD Cert.SsmParamsIdeal.τ).loc Cert.SsmParamsIdeal.main_arg0) = m ((c.tc : Thread Cert.SsmParamsIdeal.nD Cert.SsmParamsIdeal.τ).loc Cert.SsmParamsIdeal.main_arg0)
          ∧ r.2.mem ((c.tc : Thread Cert.SsmParamsIdeal.nD Cert.SsmParamsIdeal.τ).loc Cert.SsmParamsIdeal.main_arg1) = m ((c.tc : Thread Cert.SsmParamsIdeal.nD Cert.SsmParamsIdeal.τ).loc Cert.SsmParamsIdeal.main_arg1)
          ∧ r.2.mem ((c.tc : Thread Cert.SsmParamsIdeal.nD Cert.SsmParamsIdeal.τ).loc Cert.SsmParamsIdeal.main_arg2) = m ((c.tc : Thread Cert.SsmParamsIdeal.nD Cert.SsmParamsIdeal.τ).loc Cert.SsmParamsIdeal.main_arg2)
          ∧ r.2.mem ((c.tc : Thread Cert.SsmParamsIdeal.nD Cert.SsmParamsIdeal.τ).loc Cert.SsmParamsIdeal.main_arg3) = m ((c.tc : Thread Cert.SsmParamsIdeal.nD Cert.SsmParamsIdeal.τ).loc Cert.SsmParamsIdeal.main_arg3)
          ∧ r.2.mem ((c.tc : Thread Cert.SsmParamsIdeal.nD Cert.SsmParamsIdeal.τ).loc Cert.SsmParamsIdeal.main_arg4) = m ((c.tc : Thread Cert.SsmParamsIdeal.nD Cert.SsmParamsIdeal.τ).loc Cert.SsmParamsIdeal.main_arg4))
      ∧ θ_run (Cert.SsmParamsRefIdeal.defs (F := Ideal)) (onTc (τ := Cert.SsmParamsRefIdeal.τ) (Cert.SsmParamsRefIdeal.main (F := Ideal))) ⟨m', fun _ => 0, g'⟩ (fun r => ∀ c : Dev Cert.SsmParamsRefIdeal.nD,
          r.2.mem ((c.tc : Thread Cert.SsmParamsRefIdeal.nD Cert.SsmParamsRefIdeal.τ).loc Cert.SsmParamsRefIdeal.main_v8) = v0 c
          ∧ r.2.mem ((c.tc : Thread Cert.SsmParamsRefIdeal.nD Cert.SsmParamsRefIdeal.τ).loc Cert.SsmParamsRefIdeal.main_v12) = v1 c
          ∧ r.2.mem ((c.tc : Thread Cert.SsmParamsRefIdeal.nD Cert.SsmParamsRefIdeal.τ).loc Cert.SsmParamsRefIdeal.main_v43) = v2 c
          ∧ r.2.mem ((c.tc : Thread Cert.SsmParamsRefIdeal.nD Cert.SsmParamsRefIdeal.τ).loc Cert.SsmParamsRefIdeal.main_v45) = v3 c
          ∧ r.2.mem ((c.tc : Thread Cert.SsmParamsRefIdeal.nD Cert.SsmParamsRefIdeal.τ).loc Cert.SsmParamsRefIdeal.main_arg0) = m' ((c.tc : Thread Cert.SsmParamsRefIdeal.nD Cert.SsmParamsRefIdeal.τ).loc Cert.SsmParamsRefIdeal.main_arg0)
          ∧ r.2.mem ((c.tc : Thread Cert.SsmParamsRefIdeal.nD Cert.SsmParamsRefIdeal.τ).loc Cert.SsmParamsRefIdeal.main_arg1) = m' ((c.tc : Thread Cert.SsmParamsRefIdeal.nD Cert.SsmParamsRefIdeal.τ).loc Cert.SsmParamsRefIdeal.main_arg1)
          ∧ r.2.mem ((c.tc : Thread Cert.SsmParamsRefIdeal.nD Cert.SsmParamsRefIdeal.τ).loc Cert.SsmParamsRefIdeal.main_arg2) = m' ((c.tc : Thread Cert.SsmParamsRefIdeal.nD Cert.SsmParamsRefIdeal.τ).loc Cert.SsmParamsRefIdeal.main_arg2)
          ∧ r.2.mem ((c.tc : Thread Cert.SsmParamsRefIdeal.nD Cert.SsmParamsRefIdeal.τ).loc Cert.SsmParamsRefIdeal.main_arg3) = m' ((c.tc : Thread Cert.SsmParamsRefIdeal.nD Cert.SsmParamsRefIdeal.τ).loc Cert.SsmParamsRefIdeal.main_arg3)
          ∧ r.2.mem ((c.tc : Thread Cert.SsmParamsRefIdeal.nD Cert.SsmParamsRefIdeal.τ).loc Cert.SsmParamsRefIdeal.main_arg4) = m' ((c.tc : Thread Cert.SsmParamsRefIdeal.nD Cert.SsmParamsRefIdeal.τ).loc Cert.SsmParamsRefIdeal.main_arg4))

def preserves_AttnFwd_AttnFwdIdeal : Prop :=
  IdealRules.named_const.Statement Cert.AttnFwdIdeal.κ "mask" .f32 0xF149F2CA#32 ⊥

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v20_0)) (v1 : (c : Dev Cert.AttnFwdIdeal.nD) → Buf (Elt Ideal) ((c.tc : Thread Cert.AttnFwdIdeal.nD Cert.AttnFwdIdeal.τ).loc Cert.AttnFwdIdeal.main_v20_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v20_0) = v0 c
          ∧ r.2.mem ((c.tc : Thread Cert.AttnFwdIdeal.nD Cert.AttnFwdIdeal.τ).loc Cert.AttnFwdIdeal.main_v20_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v264) = v0 c
          ∧ r.2.mem ((c.tc : Thread Cert.AttnFwdRefIdeal.nD Cert.AttnFwdRefIdeal.τ).loc Cert.AttnFwdRefIdeal.main_v268) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def Claim : Prop :=
  ∃ (hKernel : Cert.Kernel.Facts) (hKernelIdeal : Cert.KernelIdeal.Facts) (hReferenceIdeal : Cert.ReferenceIdeal.Facts) (hProjInDgrad : Cert.ProjInDgrad.Facts) (hProjInDgradIdeal : Cert.ProjInDgradIdeal.Facts) (hProjInDgradRefIdeal : Cert.ProjInDgradRefIdeal.Facts) (hFfnOutWgrad : Cert.FfnOutWgrad.Facts) (hFfnOutWgradIdeal : Cert.FfnOutWgradIdeal.Facts) (hFfnOutWgradRefIdeal : Cert.FfnOutWgradRefIdeal.Facts) (hFfnOutDgrad : Cert.FfnOutDgrad.Facts) (hFfnOutDgradIdeal : Cert.FfnOutDgradIdeal.Facts) (hFfnOutDgradRefIdeal : Cert.FfnOutDgradRefIdeal.Facts) (hProjInWgrad : Cert.ProjInWgrad.Facts) (hProjInWgradIdeal : Cert.ProjInWgradIdeal.Facts) (hProjInWgradRefIdeal : Cert.ProjInWgradRefIdeal.Facts) (hFfnInDgrad : Cert.FfnInDgrad.Facts) (hFfnInDgradIdeal : Cert.FfnInDgradIdeal.Facts) (hFfnInDgradRefIdeal : Cert.FfnInDgradRefIdeal.Facts) (hFfnInWgrad : Cert.FfnInWgrad.Facts) (hFfnInWgradIdeal : Cert.FfnInWgradIdeal.Facts) (hFfnInWgradRefIdeal : Cert.FfnInWgradRefIdeal.Facts) (hProjODgrad : Cert.ProjODgrad.Facts) (hProjODgradIdeal : Cert.ProjODgradIdeal.Facts) (hProjODgradRefIdeal : Cert.ProjODgradRefIdeal.Facts) (hProjOWgrad : Cert.ProjOWgrad.Facts) (hProjOWgradIdeal : Cert.ProjOWgradIdeal.Facts) (hProjOWgradRefIdeal : Cert.ProjOWgradRefIdeal.Facts) (hProjADgrad : Cert.ProjADgrad.Facts) (hProjADgradIdeal : Cert.ProjADgradIdeal.Facts) (hProjADgradRefIdeal : Cert.ProjADgradRefIdeal.Facts) (hProjAWgrad : Cert.ProjAWgrad.Facts) (hProjAWgradIdeal : Cert.ProjAWgradIdeal.Facts) (hProjAWgradRefIdeal : Cert.ProjAWgradRefIdeal.Facts) (hProjBDgrad : Cert.ProjBDgrad.Facts) (hProjBDgradIdeal : Cert.ProjBDgradIdeal.Facts) (hProjBDgradRefIdeal : Cert.ProjBDgradRefIdeal.Facts) (hProjBWgrad : Cert.ProjBWgrad.Facts) (hProjBWgradIdeal : Cert.ProjBWgradIdeal.Facts) (hProjBWgradRefIdeal : Cert.ProjBWgradRefIdeal.Facts) (hProjQkv : Cert.ProjQkv.Facts) (hProjQkvIdeal : Cert.ProjQkvIdeal.Facts) (hProjQkvRefIdeal : Cert.ProjQkvRefIdeal.Facts) (hProjRest : Cert.ProjRest.Facts) (hProjRestIdeal : Cert.ProjRestIdeal.Facts) (hProjRestRefIdeal : Cert.ProjRestRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hProjO : Cert.ProjO.Facts) (hProjOIdeal : Cert.ProjOIdeal.Facts) (hProjORefIdeal : Cert.ProjORefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hMergeBwd : Cert.MergeBwd.Facts) (hMergeBwdIdeal : Cert.MergeBwdIdeal.Facts) (hMergeBwdRefIdeal : Cert.MergeBwdRefIdeal.Facts) (hSwigluBwd : Cert.SwigluBwd.Facts) (hSwigluBwdIdeal : Cert.SwigluBwdIdeal.Facts) (hSwigluBwdRefIdeal : Cert.SwigluBwdRefIdeal.Facts) (hGluBwd : Cert.GluBwd.Facts) (hGluBwdIdeal : Cert.GluBwdIdeal.Facts) (hGluBwdRefIdeal : Cert.GluBwdRefIdeal.Facts) (hGluProj : Cert.GluProj.Facts) (hGluProjIdeal : Cert.GluProjIdeal.Facts) (hGluProjRefIdeal : Cert.GluProjRefIdeal.Facts) (hGluWgrad : Cert.GluWgrad.Facts) (hGluWgradIdeal : Cert.GluWgradIdeal.Facts) (hGluWgradRefIdeal : Cert.GluWgradRefIdeal.Facts) (hGluDgrad : Cert.GluDgrad.Facts) (hGluDgradIdeal : Cert.GluDgradIdeal.Facts) (hGluDgradRefIdeal : Cert.GluDgradRefIdeal.Facts) (hBInGrad : Cert.BInGrad.Facts) (hBInGradIdeal : Cert.BInGradIdeal.Facts) (hBInGradRefIdeal : Cert.BInGradRefIdeal.Facts) (hMerge : Cert.Merge.Facts) (hMergeIdeal : Cert.MergeIdeal.Facts) (hMergeRefIdeal : Cert.MergeRefIdeal.Facts) (hSwiglu : Cert.Swiglu.Facts) (hSwigluIdeal : Cert.SwigluIdeal.Facts) (hSwigluRefIdeal : Cert.SwigluRefIdeal.Facts) (hGlu : Cert.Glu.Facts) (hGluIdeal : Cert.GluIdeal.Facts) (hGluRefIdeal : Cert.GluRefIdeal.Facts) (hLnBwd : Cert.LnBwd.Facts) (hLnBwdIdeal : Cert.LnBwdIdeal.Facts) (hLnBwdRefIdeal : Cert.LnBwdRefIdeal.Facts) (hSsmSkipGeluBwd : Cert.SsmSkipGeluBwd.Facts) (hSsmSkipGeluBwdIdeal : Cert.SsmSkipGeluBwdIdeal.Facts) (hSsmSkipGeluBwdRefIdeal : Cert.SsmSkipGeluBwdRefIdeal.Facts) (hSsmOutDgrad : Cert.SsmOutDgrad.Facts) (hSsmOutDgradIdeal : Cert.SsmOutDgradIdeal.Facts) (hSsmOutDgradRefIdeal : Cert.SsmOutDgradRefIdeal.Facts) (hSsmOutWgrad : Cert.SsmOutWgrad.Facts) (hSsmOutWgradIdeal : Cert.SsmOutWgradIdeal.Facts) (hSsmOutWgradRefIdeal : Cert.SsmOutWgradRefIdeal.Facts) (hSsmInDgrad : Cert.SsmInDgrad.Facts) (hSsmInDgradIdeal : Cert.SsmInDgradIdeal.Facts) (hSsmInDgradRefIdeal : Cert.SsmInDgradRefIdeal.Facts) (hSsmInWgrad : Cert.SsmInWgrad.Facts) (hSsmInWgradIdeal : Cert.SsmInWgradIdeal.Facts) (hSsmInWgradRefIdeal : Cert.SsmInWgradRefIdeal.Facts) (hSsmDuc : Cert.SsmDuc.Facts) (hSsmDucIdeal : Cert.SsmDucIdeal.Facts) (hSsmDucRefIdeal : Cert.SsmDucRefIdeal.Facts) (hSsmIn : Cert.SsmIn.Facts) (hSsmInIdeal : Cert.SsmInIdeal.Facts) (hSsmInRefIdeal : Cert.SsmInRefIdeal.Facts) (hSsmSkipGelu : Cert.SsmSkipGelu.Facts) (hSsmSkipGeluIdeal : Cert.SsmSkipGeluIdeal.Facts) (hSsmSkipGeluRefIdeal : Cert.SsmSkipGeluRefIdeal.Facts) (hLn : Cert.Ln.Facts) (hLnIdeal : Cert.LnIdeal.Facts) (hLnRefIdeal : Cert.LnRefIdeal.Facts) (hLossHead : Cert.LossHead.Facts) (hLossHeadIdeal : Cert.LossHeadIdeal.Facts) (hLossHeadRefIdeal : Cert.LossHeadRefIdeal.Facts) (hAdamwWIn : Cert.AdamwWIn.Facts) (hAdamwWInIdeal : Cert.AdamwWInIdeal.Facts) (hAdamwWInRefIdeal : Cert.AdamwWInRefIdeal.Facts) (hAdamwWGlu : Cert.AdamwWGlu.Facts) (hAdamwWGluIdeal : Cert.AdamwWGluIdeal.Facts) (hAdamwWGluRefIdeal : Cert.AdamwWGluRefIdeal.Facts) (hAdamwWPa : Cert.AdamwWPa.Facts) (hAdamwWPaIdeal : Cert.AdamwWPaIdeal.Facts) (hAdamwWPaRefIdeal : Cert.AdamwWPaRefIdeal.Facts) (hAdamwWPb : Cert.AdamwWPb.Facts) (hAdamwWPbIdeal : Cert.AdamwWPbIdeal.Facts) (hAdamwWPbRefIdeal : Cert.AdamwWPbRefIdeal.Facts) (hAdamwWO : Cert.AdamwWO.Facts) (hAdamwWOIdeal : Cert.AdamwWOIdeal.Facts) (hAdamwWORefIdeal : Cert.AdamwWORefIdeal.Facts) (hAdamwWFfnIn : Cert.AdamwWFfnIn.Facts) (hAdamwWFfnInIdeal : Cert.AdamwWFfnInIdeal.Facts) (hAdamwWFfnInRefIdeal : Cert.AdamwWFfnInRefIdeal.Facts) (hAdamwWFfnOut : Cert.AdamwWFfnOut.Facts) (hAdamwWFfnOutIdeal : Cert.AdamwWFfnOutIdeal.Facts) (hAdamwWFfnOutRefIdeal : Cert.AdamwWFfnOutRefIdeal.Facts) (hAdamwSmall : Cert.AdamwSmall.Facts) (hAdamwSmallIdeal : Cert.AdamwSmallIdeal.Facts) (hAdamwSmallRefIdeal : Cert.AdamwSmallRefIdeal.Facts) (hSguFwd : Cert.SguFwd.Facts) (hSguFwdIdeal : Cert.SguFwdIdeal.Facts) (hSguFwdRefIdeal : Cert.SguFwdRefIdeal.Facts) (hSsmOut : Cert.SsmOut.Facts) (hSsmOutIdeal : Cert.SsmOutIdeal.Facts) (hSsmOutRefIdeal : Cert.SsmOutRefIdeal.Facts) (hSsmParams : Cert.SsmParams.Facts) (hSsmParamsIdeal : Cert.SsmParamsIdeal.Facts) (hSsmParamsRefIdeal : Cert.SsmParamsRefIdeal.Facts) (hAttnFwd : Cert.AttnFwd.Facts) (hAttnFwdIdeal : Cert.AttnFwdIdeal.Facts) (hAttnFwdRefIdeal : Cert.AttnFwdRefIdeal.Facts) (hPre_finite : Cert.Pre_finite.Facts) (hPre_ln_finite : Cert.Pre_ln_finite.Facts) (hPre_out_finite : Cert.Pre_out_finite.Facts),
    quiescent_Kernel (hKernel := hKernel) (hPre_finite := hPre_finite)
    ∧ quiescent_Kernel_pre_none (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal) (hPre_finite := hPre_finite)
    ∧ quiescent_ProjInDgrad (hProjInDgrad := hProjInDgrad)
    ∧ quiescent_ProjInDgradIdeal (hProjInDgradIdeal := hProjInDgradIdeal)
    ∧ quiescent_ProjInDgradRefIdeal (hProjInDgradRefIdeal := hProjInDgradRefIdeal)
    ∧ quiescent_FfnOutWgrad (hFfnOutWgrad := hFfnOutWgrad)
    ∧ quiescent_FfnOutWgradIdeal (hFfnOutWgradIdeal := hFfnOutWgradIdeal)
    ∧ quiescent_FfnOutWgradRefIdeal (hFfnOutWgradRefIdeal := hFfnOutWgradRefIdeal)
    ∧ quiescent_FfnOutDgrad (hFfnOutDgrad := hFfnOutDgrad)
    ∧ quiescent_FfnOutDgradIdeal (hFfnOutDgradIdeal := hFfnOutDgradIdeal)
    ∧ quiescent_FfnOutDgradRefIdeal (hFfnOutDgradRefIdeal := hFfnOutDgradRefIdeal)
    ∧ quiescent_ProjInWgrad (hProjInWgrad := hProjInWgrad)
    ∧ quiescent_ProjInWgradIdeal (hProjInWgradIdeal := hProjInWgradIdeal)
    ∧ quiescent_ProjInWgradRefIdeal (hProjInWgradRefIdeal := hProjInWgradRefIdeal)
    ∧ quiescent_FfnInDgrad (hFfnInDgrad := hFfnInDgrad)
    ∧ quiescent_FfnInDgradIdeal (hFfnInDgradIdeal := hFfnInDgradIdeal)
    ∧ quiescent_FfnInDgradRefIdeal (hFfnInDgradRefIdeal := hFfnInDgradRefIdeal)
    ∧ quiescent_FfnInWgrad (hFfnInWgrad := hFfnInWgrad)
    ∧ quiescent_FfnInWgradIdeal (hFfnInWgradIdeal := hFfnInWgradIdeal)
    ∧ quiescent_FfnInWgradRefIdeal (hFfnInWgradRefIdeal := hFfnInWgradRefIdeal)
    ∧ quiescent_ProjODgrad (hProjODgrad := hProjODgrad)
    ∧ quiescent_ProjODgradIdeal (hProjODgradIdeal := hProjODgradIdeal)
    ∧ quiescent_ProjODgradRefIdeal (hProjODgradRefIdeal := hProjODgradRefIdeal)
    ∧ quiescent_ProjOWgrad (hProjOWgrad := hProjOWgrad)
    ∧ quiescent_ProjOWgradIdeal (hProjOWgradIdeal := hProjOWgradIdeal)
    ∧ quiescent_ProjOWgradRefIdeal (hProjOWgradRefIdeal := hProjOWgradRefIdeal)
    ∧ quiescent_ProjADgrad (hProjADgrad := hProjADgrad)
    ∧ quiescent_ProjADgradIdeal (hProjADgradIdeal := hProjADgradIdeal)
    ∧ quiescent_ProjADgradRefIdeal (hProjADgradRefIdeal := hProjADgradRefIdeal)
    ∧ quiescent_ProjAWgrad (hProjAWgrad := hProjAWgrad)
    ∧ quiescent_ProjAWgradIdeal (hProjAWgradIdeal := hProjAWgradIdeal)
    ∧ quiescent_ProjAWgradRefIdeal (hProjAWgradRefIdeal := hProjAWgradRefIdeal)
    ∧ quiescent_ProjBDgrad (hProjBDgrad := hProjBDgrad)
    ∧ quiescent_ProjBDgradIdeal (hProjBDgradIdeal := hProjBDgradIdeal)
    ∧ quiescent_ProjBDgradRefIdeal (hProjBDgradRefIdeal := hProjBDgradRefIdeal)
    ∧ quiescent_ProjBWgrad (hProjBWgrad := hProjBWgrad)
    ∧ quiescent_ProjBWgradIdeal (hProjBWgradIdeal := hProjBWgradIdeal)
    ∧ quiescent_ProjBWgradRefIdeal (hProjBWgradRefIdeal := hProjBWgradRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjRest (hProjRest := hProjRest)
    ∧ quiescent_ProjRestIdeal (hProjRestIdeal := hProjRestIdeal)
    ∧ quiescent_ProjRestRefIdeal (hProjRestRefIdeal := hProjRestRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_ProjO (hProjO := hProjO)
    ∧ quiescent_ProjOIdeal (hProjOIdeal := hProjOIdeal)
    ∧ quiescent_ProjORefIdeal (hProjORefIdeal := hProjORefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_GluProj (hGluProj := hGluProj)
    ∧ quiescent_GluProjIdeal (hGluProjIdeal := hGluProjIdeal)
    ∧ quiescent_GluProjRefIdeal (hGluProjRefIdeal := hGluProjRefIdeal)
    ∧ quiescent_GluWgrad (hGluWgrad := hGluWgrad)
    ∧ quiescent_GluWgradIdeal (hGluWgradIdeal := hGluWgradIdeal)
    ∧ quiescent_GluWgradRefIdeal (hGluWgradRefIdeal := hGluWgradRefIdeal)
    ∧ quiescent_GluDgrad (hGluDgrad := hGluDgrad)
    ∧ quiescent_GluDgradIdeal (hGluDgradIdeal := hGluDgradIdeal)
    ∧ quiescent_GluDgradRefIdeal (hGluDgradRefIdeal := hGluDgradRefIdeal)
    ∧ quiescent_BInGrad (hBInGrad := hBInGrad)
    ∧ quiescent_BInGradIdeal (hBInGradIdeal := hBInGradIdeal)
    ∧ quiescent_BInGradRefIdeal (hBInGradRefIdeal := hBInGradRefIdeal)
    ∧ quiescent_Merge (hMerge := hMerge)
    ∧ quiescent_MergeIdeal (hMergeIdeal := hMergeIdeal)
    ∧ quiescent_MergeRefIdeal (hMergeRefIdeal := hMergeRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Glu (hGlu := hGlu)
    ∧ quiescent_GluIdeal (hGluIdeal := hGluIdeal)
    ∧ quiescent_GluRefIdeal (hGluRefIdeal := hGluRefIdeal)
    ∧ quiescent_LnBwd (hLnBwd := hLnBwd)
    ∧ quiescent_LnBwdIdeal (hLnBwdIdeal := hLnBwdIdeal)
    ∧ quiescent_LnBwdIdeal_pre_ln_finite (hLnBwdIdeal := hLnBwdIdeal) (hPre_ln_finite := hPre_ln_finite)
    ∧ quiescent_LnBwdRefIdeal (hLnBwdRefIdeal := hLnBwdRefIdeal)
    ∧ quiescent_LnBwdRefIdeal_pre_ln_finite (hLnBwdRefIdeal := hLnBwdRefIdeal) (hPre_ln_finite := hPre_ln_finite)
    ∧ quiescent_SsmSkipGeluBwd (hSsmSkipGeluBwd := hSsmSkipGeluBwd)
    ∧ quiescent_SsmSkipGeluBwdIdeal (hSsmSkipGeluBwdIdeal := hSsmSkipGeluBwdIdeal)
    ∧ quiescent_SsmSkipGeluBwdRefIdeal (hSsmSkipGeluBwdRefIdeal := hSsmSkipGeluBwdRefIdeal)
    ∧ quiescent_SsmOutDgrad (hSsmOutDgrad := hSsmOutDgrad)
    ∧ quiescent_SsmOutDgradIdeal (hSsmOutDgradIdeal := hSsmOutDgradIdeal)
    ∧ quiescent_SsmOutDgradRefIdeal (hSsmOutDgradRefIdeal := hSsmOutDgradRefIdeal)
    ∧ quiescent_SsmOutWgrad (hSsmOutWgrad := hSsmOutWgrad)
    ∧ quiescent_SsmOutWgradIdeal (hSsmOutWgradIdeal := hSsmOutWgradIdeal)
    ∧ quiescent_SsmOutWgradRefIdeal (hSsmOutWgradRefIdeal := hSsmOutWgradRefIdeal)
    ∧ quiescent_SsmInDgrad (hSsmInDgrad := hSsmInDgrad)
    ∧ quiescent_SsmInDgradIdeal (hSsmInDgradIdeal := hSsmInDgradIdeal)
    ∧ quiescent_SsmInDgradRefIdeal (hSsmInDgradRefIdeal := hSsmInDgradRefIdeal)
    ∧ quiescent_SsmInWgrad (hSsmInWgrad := hSsmInWgrad)
    ∧ quiescent_SsmInWgradIdeal (hSsmInWgradIdeal := hSsmInWgradIdeal)
    ∧ quiescent_SsmInWgradRefIdeal (hSsmInWgradRefIdeal := hSsmInWgradRefIdeal)
    ∧ quiescent_SsmDuc (hSsmDuc := hSsmDuc)
    ∧ quiescent_SsmDucIdeal (hSsmDucIdeal := hSsmDucIdeal)
    ∧ quiescent_SsmDucRefIdeal (hSsmDucRefIdeal := hSsmDucRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_SsmSkipGelu (hSsmSkipGelu := hSsmSkipGelu)
    ∧ quiescent_SsmSkipGeluIdeal (hSsmSkipGeluIdeal := hSsmSkipGeluIdeal)
    ∧ quiescent_SsmSkipGeluRefIdeal (hSsmSkipGeluRefIdeal := hSsmSkipGeluRefIdeal)
    ∧ quiescent_Ln (hLn := hLn)
    ∧ quiescent_LnIdeal (hLnIdeal := hLnIdeal)
    ∧ quiescent_LnRefIdeal (hLnRefIdeal := hLnRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamwWIn (hAdamwWIn := hAdamwWIn)
    ∧ quiescent_AdamwWInIdeal (hAdamwWInIdeal := hAdamwWInIdeal)
    ∧ quiescent_AdamwWInRefIdeal (hAdamwWInRefIdeal := hAdamwWInRefIdeal)
    ∧ quiescent_AdamwWGlu (hAdamwWGlu := hAdamwWGlu)
    ∧ quiescent_AdamwWGluIdeal (hAdamwWGluIdeal := hAdamwWGluIdeal)
    ∧ quiescent_AdamwWGluRefIdeal (hAdamwWGluRefIdeal := hAdamwWGluRefIdeal)
    ∧ quiescent_AdamwWPa (hAdamwWPa := hAdamwWPa)
    ∧ quiescent_AdamwWPaIdeal (hAdamwWPaIdeal := hAdamwWPaIdeal)
    ∧ quiescent_AdamwWPaRefIdeal (hAdamwWPaRefIdeal := hAdamwWPaRefIdeal)
    ∧ quiescent_AdamwWPb (hAdamwWPb := hAdamwWPb)
    ∧ quiescent_AdamwWPbIdeal (hAdamwWPbIdeal := hAdamwWPbIdeal)
    ∧ quiescent_AdamwWPbRefIdeal (hAdamwWPbRefIdeal := hAdamwWPbRefIdeal)
    ∧ quiescent_AdamwWO (hAdamwWO := hAdamwWO)
    ∧ quiescent_AdamwWOIdeal (hAdamwWOIdeal := hAdamwWOIdeal)
    ∧ quiescent_AdamwWORefIdeal (hAdamwWORefIdeal := hAdamwWORefIdeal)
    ∧ quiescent_AdamwWFfnIn (hAdamwWFfnIn := hAdamwWFfnIn)
    ∧ quiescent_AdamwWFfnInIdeal (hAdamwWFfnInIdeal := hAdamwWFfnInIdeal)
    ∧ quiescent_AdamwWFfnInRefIdeal (hAdamwWFfnInRefIdeal := hAdamwWFfnInRefIdeal)
    ∧ quiescent_AdamwWFfnOut (hAdamwWFfnOut := hAdamwWFfnOut)
    ∧ quiescent_AdamwWFfnOutIdeal (hAdamwWFfnOutIdeal := hAdamwWFfnOutIdeal)
    ∧ quiescent_AdamwWFfnOutRefIdeal (hAdamwWFfnOutRefIdeal := hAdamwWFfnOutRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_SsmOut (hSsmOut := hSsmOut)
    ∧ quiescent_SsmOutIdeal (hSsmOutIdeal := hSsmOutIdeal)
    ∧ quiescent_SsmOutIdeal_pre_out_finite (hSsmOutIdeal := hSsmOutIdeal) (hPre_out_finite := hPre_out_finite)
    ∧ quiescent_SsmOutRefIdeal (hSsmOutRefIdeal := hSsmOutRefIdeal)
    ∧ quiescent_SsmOutRefIdeal_pre_out_finite (hSsmOutRefIdeal := hSsmOutRefIdeal) (hPre_out_finite := hPre_out_finite)
    ∧ quiescent_SsmParams (hSsmParams := hSsmParams)
    ∧ quiescent_SsmParamsIdeal (hSsmParamsIdeal := hSsmParamsIdeal)
    ∧ quiescent_SsmParamsRefIdeal (hSsmParamsRefIdeal := hSsmParamsRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ preserves_Kernel_KernelIdeal
    ∧ algebraic_KernelIdeal_ReferenceIdeal (hKernelIdeal := hKernelIdeal) (hReferenceIdeal := hReferenceIdeal) (hPre_finite := hPre_finite)
    ∧ preserves_ProjInDgrad_ProjInDgradIdeal
    ∧ algebraic_ProjInDgradIdeal_ProjInDgradRefIdeal (hProjInDgradIdeal := hProjInDgradIdeal) (hProjInDgradRefIdeal := hProjInDgradRefIdeal)
    ∧ preserves_FfnOutWgrad_FfnOutWgradIdeal
    ∧ algebraic_FfnOutWgradIdeal_FfnOutWgradRefIdeal (hFfnOutWgradIdeal := hFfnOutWgradIdeal) (hFfnOutWgradRefIdeal := hFfnOutWgradRefIdeal)
    ∧ preserves_FfnOutDgrad_FfnOutDgradIdeal
    ∧ algebraic_FfnOutDgradIdeal_FfnOutDgradRefIdeal (hFfnOutDgradIdeal := hFfnOutDgradIdeal) (hFfnOutDgradRefIdeal := hFfnOutDgradRefIdeal)
    ∧ preserves_ProjInWgrad_ProjInWgradIdeal
    ∧ algebraic_ProjInWgradIdeal_ProjInWgradRefIdeal (hProjInWgradIdeal := hProjInWgradIdeal) (hProjInWgradRefIdeal := hProjInWgradRefIdeal)
    ∧ preserves_FfnInDgrad_FfnInDgradIdeal
    ∧ algebraic_FfnInDgradIdeal_FfnInDgradRefIdeal (hFfnInDgradIdeal := hFfnInDgradIdeal) (hFfnInDgradRefIdeal := hFfnInDgradRefIdeal)
    ∧ preserves_FfnInWgrad_FfnInWgradIdeal
    ∧ algebraic_FfnInWgradIdeal_FfnInWgradRefIdeal (hFfnInWgradIdeal := hFfnInWgradIdeal) (hFfnInWgradRefIdeal := hFfnInWgradRefIdeal)
    ∧ preserves_ProjODgrad_ProjODgradIdeal
    ∧ algebraic_ProjODgradIdeal_ProjODgradRefIdeal (hProjODgradIdeal := hProjODgradIdeal) (hProjODgradRefIdeal := hProjODgradRefIdeal)
    ∧ preserves_ProjOWgrad_ProjOWgradIdeal
    ∧ algebraic_ProjOWgradIdeal_ProjOWgradRefIdeal (hProjOWgradIdeal := hProjOWgradIdeal) (hProjOWgradRefIdeal := hProjOWgradRefIdeal)
    ∧ preserves_ProjADgrad_ProjADgradIdeal
    ∧ algebraic_ProjADgradIdeal_ProjADgradRefIdeal (hProjADgradIdeal := hProjADgradIdeal) (hProjADgradRefIdeal := hProjADgradRefIdeal)
    ∧ preserves_ProjAWgrad_ProjAWgradIdeal
    ∧ algebraic_ProjAWgradIdeal_ProjAWgradRefIdeal (hProjAWgradIdeal := hProjAWgradIdeal) (hProjAWgradRefIdeal := hProjAWgradRefIdeal)
    ∧ preserves_ProjBDgrad_ProjBDgradIdeal
    ∧ algebraic_ProjBDgradIdeal_ProjBDgradRefIdeal (hProjBDgradIdeal := hProjBDgradIdeal) (hProjBDgradRefIdeal := hProjBDgradRefIdeal)
    ∧ preserves_ProjBWgrad_ProjBWgradIdeal
    ∧ algebraic_ProjBWgradIdeal_ProjBWgradRefIdeal (hProjBWgradIdeal := hProjBWgradIdeal) (hProjBWgradRefIdeal := hProjBWgradRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjRest_ProjRestIdeal
    ∧ algebraic_ProjRestIdeal_ProjRestRefIdeal (hProjRestIdeal := hProjRestIdeal) (hProjRestRefIdeal := hProjRestRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_ProjO_ProjOIdeal
    ∧ algebraic_ProjOIdeal_ProjORefIdeal (hProjOIdeal := hProjOIdeal) (hProjORefIdeal := hProjORefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_GluBwd_GluBwdIdeal
    ∧ algebraic_GluBwdIdeal_GluBwdRefIdeal (hGluBwdIdeal := hGluBwdIdeal) (hGluBwdRefIdeal := hGluBwdRefIdeal)
    ∧ preserves_GluProj_GluProjIdeal
    ∧ algebraic_GluProjIdeal_GluProjRefIdeal (hGluProjIdeal := hGluProjIdeal) (hGluProjRefIdeal := hGluProjRefIdeal)
    ∧ preserves_GluWgrad_GluWgradIdeal
    ∧ algebraic_GluWgradIdeal_GluWgradRefIdeal (hGluWgradIdeal := hGluWgradIdeal) (hGluWgradRefIdeal := hGluWgradRefIdeal)
    ∧ preserves_GluDgrad_GluDgradIdeal
    ∧ algebraic_GluDgradIdeal_GluDgradRefIdeal (hGluDgradIdeal := hGluDgradIdeal) (hGluDgradRefIdeal := hGluDgradRefIdeal)
    ∧ preserves_BInGrad_BInGradIdeal
    ∧ algebraic_BInGradIdeal_BInGradRefIdeal (hBInGradIdeal := hBInGradIdeal) (hBInGradRefIdeal := hBInGradRefIdeal)
    ∧ preserves_Merge_MergeIdeal
    ∧ algebraic_MergeIdeal_MergeRefIdeal (hMergeIdeal := hMergeIdeal) (hMergeRefIdeal := hMergeRefIdeal)
    ∧ preserves_Swiglu_SwigluIdeal
    ∧ algebraic_SwigluIdeal_SwigluRefIdeal (hSwigluIdeal := hSwigluIdeal) (hSwigluRefIdeal := hSwigluRefIdeal)
    ∧ preserves_Glu_GluIdeal
    ∧ algebraic_GluIdeal_GluRefIdeal (hGluIdeal := hGluIdeal) (hGluRefIdeal := hGluRefIdeal)
    ∧ preserves_LnBwd_LnBwdIdeal
    ∧ algebraic_LnBwdIdeal_LnBwdRefIdeal_pre_ln_finite (hLnBwdIdeal := hLnBwdIdeal) (hLnBwdRefIdeal := hLnBwdRefIdeal) (hPre_ln_finite := hPre_ln_finite)
    ∧ preserves_SsmSkipGeluBwd_SsmSkipGeluBwdIdeal
    ∧ algebraic_SsmSkipGeluBwdIdeal_SsmSkipGeluBwdRefIdeal (hSsmSkipGeluBwdIdeal := hSsmSkipGeluBwdIdeal) (hSsmSkipGeluBwdRefIdeal := hSsmSkipGeluBwdRefIdeal)
    ∧ preserves_SsmOutDgrad_SsmOutDgradIdeal
    ∧ algebraic_SsmOutDgradIdeal_SsmOutDgradRefIdeal (hSsmOutDgradIdeal := hSsmOutDgradIdeal) (hSsmOutDgradRefIdeal := hSsmOutDgradRefIdeal)
    ∧ preserves_SsmOutWgrad_SsmOutWgradIdeal
    ∧ algebraic_SsmOutWgradIdeal_SsmOutWgradRefIdeal (hSsmOutWgradIdeal := hSsmOutWgradIdeal) (hSsmOutWgradRefIdeal := hSsmOutWgradRefIdeal)
    ∧ preserves_SsmInDgrad_SsmInDgradIdeal
    ∧ algebraic_SsmInDgradIdeal_SsmInDgradRefIdeal (hSsmInDgradIdeal := hSsmInDgradIdeal) (hSsmInDgradRefIdeal := hSsmInDgradRefIdeal)
    ∧ preserves_SsmInWgrad_SsmInWgradIdeal
    ∧ algebraic_SsmInWgradIdeal_SsmInWgradRefIdeal (hSsmInWgradIdeal := hSsmInWgradIdeal) (hSsmInWgradRefIdeal := hSsmInWgradRefIdeal)
    ∧ preserves_SsmDuc_SsmDucIdeal
    ∧ algebraic_SsmDucIdeal_SsmDucRefIdeal (hSsmDucIdeal := hSsmDucIdeal) (hSsmDucRefIdeal := hSsmDucRefIdeal)
    ∧ preserves_SsmIn_SsmInIdeal
    ∧ algebraic_SsmInIdeal_SsmInRefIdeal (hSsmInIdeal := hSsmInIdeal) (hSsmInRefIdeal := hSsmInRefIdeal)
    ∧ preserves_SsmSkipGelu_SsmSkipGeluIdeal
    ∧ algebraic_SsmSkipGeluIdeal_SsmSkipGeluRefIdeal (hSsmSkipGeluIdeal := hSsmSkipGeluIdeal) (hSsmSkipGeluRefIdeal := hSsmSkipGeluRefIdeal)
    ∧ preserves_Ln_LnIdeal
    ∧ algebraic_LnIdeal_LnRefIdeal (hLnIdeal := hLnIdeal) (hLnRefIdeal := hLnRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamwWIn_AdamwWInIdeal
    ∧ algebraic_AdamwWInIdeal_AdamwWInRefIdeal (hAdamwWInIdeal := hAdamwWInIdeal) (hAdamwWInRefIdeal := hAdamwWInRefIdeal)
    ∧ preserves_AdamwWGlu_AdamwWGluIdeal
    ∧ algebraic_AdamwWGluIdeal_AdamwWGluRefIdeal (hAdamwWGluIdeal := hAdamwWGluIdeal) (hAdamwWGluRefIdeal := hAdamwWGluRefIdeal)
    ∧ preserves_AdamwWPa_AdamwWPaIdeal
    ∧ algebraic_AdamwWPaIdeal_AdamwWPaRefIdeal (hAdamwWPaIdeal := hAdamwWPaIdeal) (hAdamwWPaRefIdeal := hAdamwWPaRefIdeal)
    ∧ preserves_AdamwWPb_AdamwWPbIdeal
    ∧ algebraic_AdamwWPbIdeal_AdamwWPbRefIdeal (hAdamwWPbIdeal := hAdamwWPbIdeal) (hAdamwWPbRefIdeal := hAdamwWPbRefIdeal)
    ∧ preserves_AdamwWO_AdamwWOIdeal
    ∧ algebraic_AdamwWOIdeal_AdamwWORefIdeal (hAdamwWOIdeal := hAdamwWOIdeal) (hAdamwWORefIdeal := hAdamwWORefIdeal)
    ∧ preserves_AdamwWFfnIn_AdamwWFfnInIdeal
    ∧ algebraic_AdamwWFfnInIdeal_AdamwWFfnInRefIdeal (hAdamwWFfnInIdeal := hAdamwWFfnInIdeal) (hAdamwWFfnInRefIdeal := hAdamwWFfnInRefIdeal)
    ∧ preserves_AdamwWFfnOut_AdamwWFfnOutIdeal
    ∧ algebraic_AdamwWFfnOutIdeal_AdamwWFfnOutRefIdeal (hAdamwWFfnOutIdeal := hAdamwWFfnOutIdeal) (hAdamwWFfnOutRefIdeal := hAdamwWFfnOutRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_SguFwd_SguFwdIdeal
    ∧ algebraic_SguFwdIdeal_SguFwdRefIdeal (hSguFwdIdeal := hSguFwdIdeal) (hSguFwdRefIdeal := hSguFwdRefIdeal)
    ∧ preserves_SsmOut_SsmOutIdeal
    ∧ algebraic_SsmOutIdeal_SsmOutRefIdeal_pre_out_finite (hSsmOutIdeal := hSsmOutIdeal) (hSsmOutRefIdeal := hSsmOutRefIdeal) (hPre_out_finite := hPre_out_finite)
    ∧ preserves_SsmParams_SsmParamsIdeal
    ∧ algebraic_SsmParamsIdeal_SsmParamsRefIdeal (hSsmParamsIdeal := hSsmParamsIdeal) (hSsmParamsRefIdeal := hSsmParamsRefIdeal)
    ∧ preserves_AttnFwd_AttnFwdIdeal
    ∧ algebraic_AttnFwdIdeal_AttnFwdRefIdeal (hAttnFwdIdeal := hAttnFwdIdeal) (hAttnFwdRefIdeal := hAttnFwdRefIdeal)
-- ==== Pre_finite.lean ====
abbrev S4096x8448 : Shape := ⟨2, ![4096, 8448]⟩
abbrev S768 : Shape := ⟨1, ![768]⟩
abbrev S6x128x128 : Shape := ⟨3, ![6, 128, 128]⟩
abbrev S6x128 : Shape := ⟨2, ![6, 128]⟩
abbrev S4096x768 : Shape := ⟨2, ![4096, 768]⟩
abbrev S_ : Shape := ⟨0, ![]⟩

class Facts : Prop where
  bcast_S_S4096x8448 : S_.BroadcastsInDim S4096x8448 (![] : Fin 0 → Fin S4096x8448.rank)
  reducesTo_S4096x8448_S_d0_1 : S4096x8448.ReducesTo [0, 1] S_
  h_S_ : 0 < S_.numel
  bcast_S_S768 : S_.BroadcastsInDim S768 (![] : Fin 0 → Fin S768.rank)
  reducesTo_S768_S_d0 : S768.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S4096x768 : S_.BroadcastsInDim S4096x768 (![] : Fin 0 → Fin S4096x768.rank)
  reducesTo_S4096x768_S_d0_1 : S4096x768.ReducesTo [0, 1] S_

variable [Facts]

def fn_part1 {F : FTy → Type} [FloatOps F] (main_arg4 : FVec F S6x128 .f32) (main_arg5 : FVec F S4096x768 .f32) (main_v13 : IVec S_ 1) (main_v16 : IVec S6x128x128 1) : IVec S_ 1 :=
  let main_c_5 : IVec S_ 1 := constantI S_ 1 1#1
  let main_v17 : IVec S_ 1 := (fun x v => Host.reduce IntOp.andi x v reducesTo_S6x128x128_S_d0_1_2 h_S_) main_v16 main_c_5
  let main_v18 : IVec S_ 1 := andi main_v13 main_v17
  let main_v19 : FVec F S6x128 .f32 := Host.absf main_arg4
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S4096x768 .f32 := Host.absf main_arg5
  let main_cst_8 : FVec F S_ .f32 := constant S_ .f32 0x7F800000#32
  let main_v25 : FVec F S4096x768 .f32 := broadcastInDim S4096x768 ![] bcast_S_S4096x768 main_cst_8
  let main_v26 : IVec S4096x768 1 := cmpf .olt main_v24 main_v25
  let main_c_9 : IVec S_ 1 := constantI S_ 1 1#1
  let main_v27 : IVec S_ 1 := (fun x v => Host.reduce IntOp.andi x v reducesTo_S4096x768_S_d0_1 h_S_) main_v26 main_c_9
  let main_v28 : IVec S_ 1 := andi main_v23 main_v27
  main_v28

def fn {F : FTy → Type} [FloatOps F] (main_arg0 : FVec F S4096x8448 .f32) (main_arg1 : FVec F S768 .f32) (main_arg2 : FVec F S768 .f32) (main_arg3 : FVec F S6x128x128 .f32) (main_arg4 : FVec F S6x128 .f32) (main_arg5 : FVec F S4096x768 .f32) : IVec S_ 1 :=
  let main_v0 : FVec F S4096x8448 .f32 := Host.absf main_arg0
  let main_cst : FVec F S_ .f32 := constant S_ .f32 0x7F800000#32
  let main_v1 : FVec F S4096x8448 .f32 := broadcastInDim S4096x8448 ![] bcast_S_S4096x8448 main_cst
  let main_v2 : IVec S4096x8448 1 := cmpf .olt main_v0 main_v1
  let main_c : IVec S_ 1 := constantI S_ 1 1#1
  let main_v3 : IVec S_ 1 := (fun x v => Host.reduce IntOp.andi x v reducesTo_S4096x8448_S_d0_1 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S6x128x128 .f32 := Host.absf main_arg3
  let main_cst_4 : FVec F S_ .f32 := constant S_ .f32 0x7F800000#32
  let main_v15 : FVec F S6x128x128 .f32 := broadcastInDim S6x128x128 ![] bcast_S_S6x128x128 main_cst_4
  let main_v16 : IVec S6x128x128 1 := cmpf .olt main_v14 main_v15
  fn_part1 (F := F) main_arg4 main_arg5 main_v13 main_v16
-- ==== Pre_ln_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S4096x2048 .f32) (main_arg2 : FVec F S2048 .f32) (main_arg3 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Pre_out_finite.lean ====
abbrev S2x4096x3072 : Shape := ⟨3, ![2, 4096, 3072]⟩
abbrev S48x16x64 : Shape := ⟨3, ![48, 16, 64]⟩
abbrev S_ : Shape := ⟨0, ![]⟩

class Facts : Prop where
  bcast_S_S2x4096x3072 : S_.BroadcastsInDim S2x4096x3072 (![] : Fin 0 → Fin S2x4096x3072.rank)
  reducesTo_S2x4096x3072_S_d0_1_2 : S2x4096x3072.ReducesTo [0, 1, 2] S_
  h_S_ : 0 < S_.numel
  bcast_S_S48x16x64 : S_.BroadcastsInDim S48x16x64 (![] : Fin 0 → Fin S48x16x64.rank)
  reducesTo_S48x16x64_S_d0_1_2 : S48x16x64.ReducesTo [0, 1, 2] S_

variable [Facts]

def fn {F : FTy → Type} [FloatOps F] (main_arg0 : FVec F S2x4096x3072 .f32) (main_arg1 : FVec F S48x16x64 .f32) (main_arg2 : FVec F S48x16x64 .f32) : IVec S_ 1 :=
  let main_v0 : FVec F S2x4096x3072 .f32 := Host.absf main_arg0
  let main_cst : FVec F S_ .f32 := constant S_ .f32 0x7F800000#32
  let main_v1 : FVec F S2x4096x3072 .f32 := broadcastInDim S2x4096x3072 ![] bcast_S_S2x4096x3072 main_cst
  let main_v2 : IVec S2x4096x3072 1 := cmpf .olt main_v0 main_v1
  let main_c : IVec S_ 1 := constantI S_ 1 1#1
  let main_v3 : IVec S_ 1 := (fun x v => Host.reduce IntOp.andi x v reducesTo_S2x4096x3072_S_d0_1_2 h_S_) main_v2 main_c
  let main_v4 : FVec F S48x16x64 .f32 := Host.absf main_arg1
  let main_cst_0 : FVec F S_ .f32 := constant S_ .f32 0x7F800000#32
  let main_v5 : FVec F S48x16x64 .f32 := broadcastInDim S48x16x64 ![] bcast_S_S48x16x64 main_cst_0
  let main_v6 : IVec S48x16x64 1 := cmpf .olt main_v4 main_v5
  let main_c_1 : IVec S_ 1 := constantI S_ 1 1#1
  let main_v7 : IVec S_ 1 := (fun x v => Host.reduce IntOp.andi x v reducesTo_S48x16x64_S_d0_1_2 h_S_) main_v6 main_c_1
  let main_v8 : IVec S_ 1 := andi main_v3 main_v7
  let main_v9 : FVec F S48x16x64 .f32 := Host.absf main_arg2
  let main_cst_2 : FVec F S_ .f32 := constant S_ .f32 0x7F800000#32
  let main_v10 : FVec F S48x16x64 .f32 := broadcastInDim S48x16x64 ![] bcast_S_S48x16x64 main_cst_2
  let main_v11 : IVec S48x16x64 1 := cmpf .olt main_v9 main_v10
  let main_c_3 : IVec S_ 1 := constantI S_ 1 1#1
  let main_v12 : IVec S_ 1 := (fun x v => Host.reduce IntOp.andi x v reducesTo_S48x16x64_S_d0_1_2 h_S_) main_v11 main_c_3
  let main_v13 : IVec S_ 1 := andi main_v8 main_v12
  main_v13
-- ==== Kernel.lean ====
abbrev S4096x8448 : Shape := ⟨2, ![4096, 8448]⟩
abbrev S768 : Shape := ⟨1, ![768]⟩
abbrev S6x128x128 : Shape := ⟨3, ![6, 128, 128]⟩
abbrev S6x128 : Shape := ⟨2, ![6, 128]⟩
abbrev S4096x768 : Shape := ⟨2, ![4096, 768]⟩
abbrev S1x768 : Shape := ⟨2, ![1, 768]⟩
abbrev S128x128 : Shape := ⟨2, ![128, 128]⟩
abbrev S_ : Shape := ⟨0, ![]⟩
abbrev S6x128x1 : Shape := ⟨3, ![6, 128, 1]⟩
abbrev S128x768 : Shape := ⟨2, ![128, 768]⟩
abbrev S128 : Shape := ⟨1, ![128]⟩
abbrev S128x1 : Shape := ⟨2, ![128, 1]⟩
abbrev S1x128x128 : Shape := ⟨3, ![1, 128, 128]⟩
abbrev S1x128x1 : Shape := ⟨3, ![1, 128, 1]⟩

abbrev nBuf : Space → Nat
  | .hbm => 26
  | .vmem => 18
  | .smem => 0
  | _ => 0

abbrev bufTy : (tb : Table) → Fin (tcTables nBuf tb) → BufTy
  | .hbm, ⟨0, _⟩ => ⟨S4096x8448, .f32⟩
  | .hbm, ⟨1, _⟩ => ⟨S768, .f32⟩
  | .hbm, ⟨2, _⟩ => ⟨S768, .f32⟩
  | .hbm, ⟨3, _⟩ => ⟨S6x128x128, .f32⟩
  | .hbm, ⟨4, _⟩ => ⟨S6x128, .f32⟩
  | .hbm, ⟨5, _⟩ => ⟨S4096x768, .f32⟩
  | .hbm, ⟨6, _⟩ => ⟨S1x768, .f32⟩
  | .hbm, ⟨7, _⟩ => ⟨S1x768, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S6x128x128, .i1⟩
  | .hbm, ⟨15, _⟩ => ⟨S_, .f32⟩
  | .hbm, ⟨16, _⟩ => ⟨S6x128x128, .f32⟩
  | .hbm, ⟨17, _⟩ => ⟨S6x128x128, .f32⟩
  | .hbm, ⟨18, _⟩ => ⟨S6x128x128, .bf16⟩
  | .hbm, ⟨19, _⟩ => ⟨S6x128x1, .f32⟩
  | .hbm, ⟨20, _⟩ => ⟨S4096x768, .bf16⟩
  | .hbm, ⟨21, _⟩ => ⟨S4096x768, .bf16⟩
  | .hbm, ⟨22, _⟩ => ⟨S6x128x128, .f32⟩
  | .hbm, ⟨23, _⟩ => ⟨S6x128x1, .f32⟩
  | .hbm, ⟨24, _⟩ => ⟨S1x768, .f32⟩
  | .hbm, ⟨25, _⟩ => ⟨S1x768, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S1x768, .f32⟩
  | .local _ .vmem, ⟨5, _⟩ => ⟨S1x768, .f32⟩
  | .local _ .vmem, ⟨6, _⟩ => ⟨S6x128x128, .bf16⟩
  | .local _ .vmem, ⟨7, _⟩ => ⟨S6x128x1, .f32⟩
  | .local _ .vmem, ⟨8, _⟩ => ⟨S128x768, .f32⟩
  | .local _ .vmem, ⟨9, _⟩ => ⟨S128x768, .f32⟩
  | .local _ .vmem, ⟨10, _⟩ => ⟨S128x768, .bf16⟩
  | .local _ .vmem, ⟨11, _⟩ => ⟨S128x768, .bf16⟩
  | .local _ .vmem, ⟨12, _⟩ => ⟨S128x768, .bf16⟩
  | .local _ .vmem, ⟨13, _⟩ => ⟨S128x768, .bf16⟩
  | .local _ .vmem, ⟨14, _⟩ => ⟨S6x128x128, .f32⟩
  | .local _ .vmem, ⟨15, _⟩ => ⟨S6x128x1, .f32⟩
  | .local _ .vmem, ⟨16, _⟩ => ⟨S1x768, .f32⟩
  | .local _ .vmem, ⟨17, _⟩ => ⟨S1x768, .f32⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_cst : Ref sig .tc := ⟨.hbm, 15, rfl⟩
abbrev main_call0_v6 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v5_3 : Ref sig .tc := ⟨.hbm, 23, rfl⟩
abbrev main_v5_4 : Ref sig .tc := ⟨.hbm, 24, rfl⟩
abbrev main_v5_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v86 : BitVec 32 := Scalar.extui v65
  let c0_i32_39 : BitVec 32 := 0#32
  let v87 : BitVec 1 := Scalar.cmpi .ne v86 c0_i32_39
  v87

def k0_cond2 (i : grid0.Coords) : BitVec 1 :=
  let arg0 : BitVec 32 := BitVec.ofNat 32 (i 0).val
  let c0_i32 : BitVec 32 := 0#32
  let v65 : BitVec 1 := Scalar.cmpi .eq arg0 c0_i32
  let v_true : BitVec 1 := 1#1
  let v88 : BitVec 1 := Scalar.xori v65 v_true
  let v89 : BitVec 32 := Scalar.extui v88
  let c0_i32_40 : BitVec 32 := 0#32
  let v90 : BitVec 1 := Scalar.cmpi .ne v89 c0_i32_40
  v90

def k0_cond3 (i : grid0.Coords) : BitVec 1 :=
  let arg0 : BitVec 32 := BitVec.ofNat 32 (i 0).val
  let c0_i32 : BitVec 32 := 0#32
  let v65 : BitVec 1 := Scalar.cmpi .eq arg0 c0_i32
  let v111 : BitVec 32 := Scalar.extui v65
  let c0_i32_54 : BitVec 32 := 0#32
  let v112 : BitVec 1 := Scalar.cmpi .ne v111 c0_i32_54
  v112

def k0_cond4 (i : grid0.Coords) : BitVec 1 :=
  let arg0 : BitVec 32 := BitVec.ofNat 32 (i 0).val
  let c0_i32 : BitVec 32 := 0#32
  let v65 : BitVec 1 := Scalar.cmpi .eq arg0 c0_i32
  let true_55 : BitVec 1 := 1#1
  let v113 : BitVec 1 := Scalar.xori v65 true_55
  let v114 : BitVec 32 := Scalar.extui v113
  let c0_i32_56 : BitVec 32 := 0#32
  let v115 : BitVec 1 := Scalar.cmpi .ne v114 c0_i32_56
  v115

def k0_cond5 (i : grid0.Coords) : BitVec 1 :=
  let arg0 : BitVec 32 := BitVec.ofNat 32 (i 0).val
  let c0_i32 : BitVec 32 := 0#32
  let v65 : BitVec 1 := Scalar.cmpi .eq arg0 c0_i32
  let v136 : BitVec 32 := Scalar.extui v65
  let c0_i32_70 : BitVec 32 := 0#32
  let v137 : BitVec 1 := Scalar.cmpi .ne v136 c0_i32_70
  v137

def k0_cond6 (i : grid0.Coords) : BitVec 1 :=
  let arg0 : BitVec 32 := BitVec.ofNat 32 (i 0).val
  let c0_i32 : BitVec 32 := 0#32
  let v65 : BitVec 1 := Scalar.cmpi .eq arg0 c0_i32
  let true_71 : BitVec 1 := 1#1
  let v138 : BitVec 1 := Scalar.xori v65 true_71
  let v139 : BitVec 32 := Scalar.extui v138
  let c0_i32_72 : BitVec 32 := 0#32
  let v140 : BitVec 1 := Scalar.cmpi .ne v139 c0_i32_72
  v140

def k0_cond7 (i : grid0.Coords) : BitVec 1 :=
  let arg0 : BitVec 32 := BitVec.ofNat 32 (i 0).val
  let c0_i32 : BitVec 32 := 0#32
  let v65 : BitVec 1 := Scalar.cmpi .eq arg0 c0_i32
  let v161 : BitVec 32 := Scalar.extui v65
  let c0_i32_86 : BitVec 32 := 0#32
  let v162 : BitVec 1 := Scalar.cmpi .ne v161 c0_i32_86
  v162

def k0_cond8 (i : grid0.Coords) : BitVec 1 :=
  let arg0 : BitVec 32 := BitVec.ofNat 32 (i 0).val
  let c0_i32 : BitVec 32 := 0#32
  let v65 : BitVec 1 := Scalar.cmpi .eq arg0 c0_i32
  let true_87 : BitVec 1 := 1#1
  let v163 : BitVec 1 := Scalar.xori v65 true_87
  let v164 : BitVec 32 := Scalar.extui v163
  let c0_i32_88 : BitVec 32 := 0#32
  let v165 : BitVec 1 := Scalar.cmpi .ne v164 c0_i32_88
  v165

def k0_cond9 (i : grid0.Coords) : BitVec 1 :=
  let arg0 : BitVec 32 := BitVec.ofNat 32 (i 0).val
  let c0_i32 : BitVec 32 := 0#32
  let v65 : BitVec 1 := Scalar.cmpi .eq arg0 c0_i32
  let v186 : BitVec 32 := Scalar.extui v65
  let c0_i32_102 : BitVec 32 := 0#32
  let v187 : BitVec 1 := Scalar.cmpi .ne v186 c0_i32_102
  v187

def k0_cond10 (i : grid0.Coords) : BitVec 1 :=
  let arg0 : BitVec 32 := BitVec.ofNat 32 (i 0).val
  let c0_i32 : BitVec 32 := 0#32
  let v65 : BitVec 1 := Scalar.cmpi .eq arg0 c0_i32
  let true_103 : BitVec 1 := 1#1
  let v188 : BitVec 1 := Scalar.xori v65 true_103
  let v189 : BitVec 32 := Scalar.extui v188
  let c0_i32_104 : BitVec 32 := 0#32
  let v190 : BitVec 1 := Scalar.cmpi .ne v189 c0_i32_104
  v190

def k0_cond11 (i : grid0.Coords) : BitVec 1 :=
  let arg0 : BitVec 32 := BitVec.ofNat 32 (i 0).val
  let c0_i32 : BitVec 32 := 0#32
  let v65 : BitVec 1 := Scalar.cmpi .eq arg0 c0_i32
  let v211 : BitVec 32 := Scalar.extui v65
  let c0_i32_118 : BitVec 32 := 0#32
  let v212 : BitVec 1 := Scalar.cmpi .ne v211 c0_i32_118
  v212

def k0_cond12 (i : grid0.Coords) : BitVec 1 :=
  let arg0 : BitVec 32 := BitVec.ofNat 32 (i 0).val
  let c0_i32 : BitVec 32 := 0#32
  let v65 : BitVec 1 := Scalar.cmpi .eq arg0 c0_i32
  let true_119 : BitVec 1 := 1#1
  let v213 : BitVec 1 := Scalar.xori v65 true_119
  let v214 : BitVec 32 := Scalar.extui v213
  let c0_i32_120 : BitVec 32 := 0#32
  let v215 : BitVec 1 := Scalar.cmpi .ne v214 c0_i32_120
  v215

def k0_cond13 (i : grid0.Coords) : BitVec 1 :=
  let arg0 : BitVec 32 := BitVec.ofNat 32 (i 0).val
  let c0_i32 : BitVec 32 := 0#32
  let v65 : BitVec 1 := Scalar.cmpi .eq arg0 c0_i32
  let v288 : BitVec 32 := Scalar.extui v65
  let c0_i32_140 : BitVec 32 := 0#32
  let v289 : BitVec 1 := Scalar.cmpi .ne v288 c0_i32_140
  v289

def k0_cond14 (i : grid0.Coords) : BitVec 1 :=
  let arg0 : BitVec 32 := BitVec.ofNat 32 (i 0).val
  let c0_i32 : BitVec 32 := 0#32
  let v65 : BitVec 1 := Scalar.cmpi .eq arg0 c0_i32
  let true_141 : BitVec 1 := 1#1
  let v290 : BitVec 1 := Scalar.xori v65 true_141
  let v291 : BitVec 32 := Scalar.extui v290
  let c0_i32_142 : BitVec 32 := 0#32
  let v292 : BitVec 1 := Scalar.cmpi .ne v291 c0_i32_142
  v292

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S6x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x8448 : Shape := ⟨2, ![4096, 8448]⟩
abbrev S768 : Shape := ⟨1, ![768]⟩
abbrev S6x128x128 : Shape := ⟨3, ![6, 128, 128]⟩
abbrev S6x128 : Shape := ⟨2, ![6, 128]⟩
abbrev S4096x768 : Shape := ⟨2, ![4096, 768]⟩
abbrev S4096x1536 : Shape := ⟨2, ![4096, 1536]⟩
abbrev S128x128 : Shape := ⟨2, ![128, 128]⟩
abbrev S_ : Shape := ⟨0, ![]⟩
abbrev S4096 : Shape := ⟨1, ![4096]⟩
abbrev S4096x1 : Shape := ⟨2, ![4096, 1]⟩
abbrev S1x768 : Shape := ⟨2, ![1, 768]⟩
abbrev S32x128x6x128 : Shape := ⟨4, ![32, 128, 6, 128]⟩
abbrev S6x32x128x128 : Shape := ⟨4, ![6, 32, 128, 128]⟩
abbrev S128x6 : Shape := ⟨2, ![128, 6]⟩
abbrev S128x6x1 : Shape := ⟨3, ![128, 6, 1]⟩
abbrev S1x128x6x1 : Shape := ⟨4, ![1, 128, 6, 1]⟩
abbrev S6x128x1 : Shape := ⟨3, ![6, 128, 1]⟩

abbrev nBuf : Space → Nat
  | .hbm => 177
  | .vmem => 0
  | .smem => 0
  | _ => 0

abbrev hbmTy0_0 (i : Nat) : BufTy := match i % 128 with
  | 0 => ⟨S4096x8448, .f32⟩
  | 1 => ⟨S768, .f32⟩
  | 2 => ⟨S768, .f32⟩
  | 3 => ⟨S6x128x128, .f32⟩
  | 4 => ⟨S6x128, .f32⟩
  | 5 => ⟨S4096x768, .f32⟩
  | 6 => ⟨S4096x1536, .f32⟩
  | 7 => ⟨S128x128, .i32⟩
  | 8 => ⟨S_, .i32⟩
  | 9 => ⟨S128x128, .i32⟩
  | 10 => ⟨S128x128, .i32⟩
  | 11 => ⟨S128x128, .i32⟩
  | 12 => ⟨S128x128, .i1⟩
  | 13 => ⟨S6x128x128, .i1⟩
  | 14 => ⟨S_, .f32⟩
  | 15 => ⟨S6x128x128, .f32⟩
  | 16 => ⟨S6x128x128, .f32⟩
  | 17 => ⟨S4096x1536, .f32⟩
  | 18 => ⟨S4096x1536, .f32⟩
  | 19 => ⟨S4096x1536, .f32⟩
  | 20 => ⟨S_, .f32⟩
  | 21 => ⟨S4096x1536, .f32⟩
  | 22 => ⟨S4096x1536, .f32⟩
  | 23 => ⟨S_, .f32⟩
  | 24 => ⟨S4096x1536, .f32⟩
  | 25 => ⟨S4096x1536, .f32⟩
  | 26 => ⟨S4096x1536, .f32⟩
  | 27 => ⟨S_, .f32⟩
  | 28 => ⟨S4096x1536, .f32⟩
  | 29 => ⟨S4096x1536, .f32⟩
  | 30 => ⟨S4096x1536, .f32⟩
  | 31 => ⟨S_, .f32⟩
  | 32 => ⟨S4096x1536, .f32⟩
  | 33 => ⟨S4096x1536, .f32⟩
  | 34 => ⟨S_, .f32⟩
  | 35 => ⟨S4096x1536, .f32⟩
  | 36 => ⟨S4096x1536, .f32⟩
  | 37 => ⟨S4096x1536, .f32⟩
  | 38 => ⟨S_, .f32⟩
  | 39 => ⟨S4096x1536, .f32⟩
  | 40 => ⟨S4096x1536, .f32⟩
  | 41 => ⟨S_, .f32⟩
  | 42 => ⟨S4096x1536, .f32⟩
  | 43 => ⟨S4096x1536, .f32⟩
  | 44 => ⟨S4096x1536, .f32⟩
  | 45 => ⟨S4096x768, .f32⟩
  | 46 => ⟨S4096x768, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x768, .f32⟩
  | 54 => ⟨S4096x768, .f32⟩
  | 55 => ⟨S4096x768, .f32⟩
  | 56 => ⟨S_, .f32⟩
  | 57 => ⟨S4096x768, .f32⟩
  | 58 => ⟨S4096x768, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S4096x768, .f32⟩
  | 66 => ⟨S4096x768, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x768, .f32⟩
  | 76 => ⟨S4096x768, .f32⟩
  | 77 => ⟨S1x768, .f32⟩
  | 78 => ⟨S4096x768, .f32⟩
  | 79 => ⟨S4096x768, .f32⟩
  | 80 => ⟨S1x768, .f32⟩
  | 81 => ⟨S4096x768, .f32⟩
  | 82 => ⟨S4096x768, .f32⟩
  | 83 => ⟨S32x128x6x128, .f32⟩
  | 84 => ⟨S6x32x128x128, .f32⟩
  | 85 => ⟨S32x128x6x128, .f32⟩
  | 86 => ⟨S128x6, .f32⟩
  | 87 => ⟨S128x6x1, .f32⟩
  | 88 => ⟨S1x128x6x1, .f32⟩
  | 89 => ⟨S32x128x6x128, .f32⟩
  | 90 => ⟨S32x128x6x128, .f32⟩
  | 91 => ⟨S4096x768, .f32⟩
  | 92 => ⟨S4096x768, .f32⟩
  | 93 => ⟨S4096x768, .f32⟩
  | 94 => ⟨S4096x768, .f32⟩
  | 95 => ⟨S32x128x6x128, .f32⟩
  | 96 => ⟨S_, .f32⟩
  | 97 => ⟨S128x6, .f32⟩
  | 98 => ⟨S1x128x6x1, .f32⟩
  | 99 => ⟨S_, .f32⟩
  | 100 => ⟨S128x6, .f32⟩
  | 101 => ⟨S128x6x1, .f32⟩
  | 102 => ⟨S_, .f32⟩
  | 103 => ⟨S128x6, .f32⟩
  | 104 => ⟨S6x128, .f32⟩
  | 105 => ⟨S6x32x128x128, .f32⟩
  | 106 => ⟨S6x128x128, .f32⟩
  | 107 => ⟨S6x32x128x128, .f32⟩
  | 108 => ⟨S32x128x6x128, .f32⟩
  | 109 => ⟨S4096x768, .f32⟩
  | 110 => ⟨S_, .f32⟩
  | 111 => ⟨S768, .f32⟩
  | 112 => ⟨S1x768, .f32⟩
  | 113 => ⟨S_, .f32⟩
  | 114 => ⟨S768, .f32⟩
  | 115 => ⟨S4096x768, .f32⟩
  | 116 => ⟨S_, .f32⟩
  | 117 => ⟨S768, .f32⟩
  | 118 => ⟨S1x768, .f32⟩
  | 119 => ⟨S4096x768, .f32⟩
  | 120 => ⟨S4096x768, .f32⟩
  | 121 => ⟨S_, .f32⟩
  | 122 => ⟨S768, .f32⟩
  | 123 => ⟨S4096x768, .f32⟩
  | 124 => ⟨S_, .f32⟩
  | 125 => ⟨S4096, .f32⟩
  | 126 => ⟨S4096x1, .f32⟩
  | 127 => ⟨S4096x768, .f32⟩
  | _ => ⟨S4096x8448, .f32⟩

abbrev hbmTy0_1 (i : Nat) : BufTy := match i % 128 with
  | 0 => ⟨S4096x768, .f32⟩
  | 1 => ⟨S4096x1, .f32⟩
  | 2 => ⟨S4096x768, .f32⟩
  | 3 => ⟨S_, .f32⟩
  | 4 => ⟨S4096, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x768, .f32⟩
  | 12 => ⟨S4096x768, .f32⟩
  | 13 => ⟨S4096x768, .f32⟩
  | 14 => ⟨S_, .f32⟩
  | 15 => ⟨S4096, .f32⟩
  | 16 => ⟨S4096x1, .f32⟩
  | 17 => ⟨S4096x768, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096, .f32⟩
  | 24 => ⟨S4096x768, .f32⟩
  | 25 => ⟨S4096x768, .f32⟩
  | 26 => ⟨S4096x1536, .f32⟩
  | 27 => ⟨S4096x1536, .f32⟩
  | 28 => ⟨S4096x1536, .f32⟩
  | 29 => ⟨S_, .f32⟩
  | 30 => ⟨S4096x1536, .f32⟩
  | 31 => ⟨S4096x1536, .f32⟩
  | 32 => ⟨S4096x1536, .f32⟩
  | 33 => ⟨S_, .f32⟩
  | 34 => ⟨S4096x1536, .f32⟩
  | 35 => ⟨S4096x1536, .f32⟩
  | 36 => ⟨S4096x1536, .f32⟩
  | 37 => ⟨S_, .f32⟩
  | 38 => ⟨S4096x1536, .f32⟩
  | 39 => ⟨S4096x1536, .f32⟩
  | 40 => ⟨S4096x1536, .f32⟩
  | 41 => ⟨S4096x1536, .f32⟩
  | 42 => ⟨S4096x768, .f32⟩
  | 43 => ⟨S4096x768, .f32⟩
  | 44 => ⟨S4096x768, .bf16⟩
  | 45 => ⟨S4096x768, .bf16⟩
  | 46 => ⟨S6x128x1, .f32⟩
  | 47 => ⟨S1x768, .f32⟩
  | 48 => ⟨S1x768, .f32⟩
  | _ => ⟨S4096x8448, .f32⟩

abbrev hbmTy (i : Nat) : BufTy := match i / 128 with
  | 0 => hbmTy0_0 i
  | 1 => hbmTy0_1 i
  | _ => ⟨S4096x8448, .f32⟩

abbrev bufTy : (tb : Table) → Fin (tcTables nBuf tb) → BufTy
  | .hbm, ⟨i, _⟩ => hbmTy i
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_cst : Ref sig .tc := ⟨.hbm, 14, rfl⟩
abbrev main_call0_v6 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_cst_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_cst_17 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_cst_20 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_21 : Ref sig .tc := ⟨.hbm, 131, rfl⟩
abbrev main_v94 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_cst_23 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_24 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_25 : Ref sig .tc := ⟨.hbm, 147, rfl⟩
abbrev main_v106 : Ref sig .tc := ⟨.hbm, 148, rfl⟩
abbrev main_v107 : Ref sig .tc := ⟨.hbm, 149, rfl⟩
abbrev main_cst_26 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_27 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_28 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_29 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩

abbrev nD : Nat := 1
abbrev τ : Topo := Topo.v7x

variable {F : FTy → Type} [FloatOps F]
-- ==== ProjInDgrad.lean ====
abbrev S4096x13056 : Shape := ⟨2, ![4096, 13056]⟩
abbrev S2048x13056 : Shape := ⟨2, ![2048, 13056]⟩
abbrev S4096x2048 : Shape := ⟨2, ![4096, 2048]⟩
abbrev S512x768 : Shape := ⟨2, ![512, 768]⟩
abbrev S2048x768 : Shape := ⟨2, ![2048, 768]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x13056, .bf16⟩
  | .hbm, ⟨1, _⟩ => ⟨S2048x13056, .f32⟩
  | .hbm, ⟨2, _⟩ => ⟨S4096x2048, .f32⟩
  | .hbm, ⟨3, _⟩ => ⟨S2048x13056, .bf16⟩
  | .hbm, ⟨4, _⟩ => ⟨S4096x2048, .f32⟩
  | .local _ .vmem, ⟨0, _⟩ => ⟨S512x768, .bf16⟩
  | .local _ .vmem, ⟨1, _⟩ => ⟨S512x768, .bf16⟩
  | .local _ .vmem, ⟨2, _⟩ => ⟨S2048x768, .bf16⟩
  | .local _ .vmem, ⟨3, _⟩ => ⟨S2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 17], ![false, false, false]⟩

def k0_cond3 (i : grid0.Coords) : BitVec 1 :=
  let arg2 : BitVec 32 := BitVec.ofNat 32 (i 2).val
  let c16_i32 : BitVec 32 := 16#32
  let v10 : BitVec 1 := Scalar.cmpi .eq arg2 c16_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjInDgradRefIdeal.lean ====
abbrev S4096x13056 : Shape := ⟨2, ![4096, 13056]⟩
abbrev S2048x13056 : Shape := ⟨2, ![2048, 13056]⟩
abbrev S4096x2048 : Shape := ⟨2, ![4096, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x13056, .bf16⟩
  | .hbm, ⟨1, _⟩ => ⟨S2048x13056, .f32⟩
  | .hbm, ⟨2, _⟩ => ⟨S4096x2048, .f32⟩
  | .hbm, ⟨3, _⟩ => ⟨S4096x13056, .f32⟩
  | .hbm, ⟨4, _⟩ => ⟨S_, .f32⟩
  | .hbm, ⟨5, _⟩ => ⟨S4096x2048, .f32⟩
  | .hbm, ⟨6, _⟩ => ⟨S4096x13056, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x13056, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== FfnOutWgrad.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutWgradRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOutDgrad.lean ====
abbrev S4096x2048 : Shape := ⟨2, ![4096, 2048]⟩
abbrev S5632x2048 : Shape := ⟨2, ![5632, 2048]⟩
abbrev S4096x5632 : Shape := ⟨2, ![4096, 5632]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S5632x2048, .bf16⟩
  | .hbm, ⟨3, _⟩ => ⟨S4096x5632, .bf16⟩
  | .local _ .vmem, ⟨0, _⟩ => ⟨S512x2048, .f32⟩
  | .local _ .vmem, ⟨1, _⟩ => ⟨S512x2048, .f32⟩
  | .local _ .vmem, ⟨2, _⟩ => ⟨S1408x2048, .bf16⟩
  | .local _ .vmem, ⟨3, _⟩ => ⟨S1408x2048, .bf16⟩
  | .local _ .vmem, ⟨4, _⟩ => ⟨S512x1408, .bf16⟩
  | .local _ .vmem, ⟨5, _⟩ => ⟨S512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDgradRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | .hbm, ⟨6, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjInWgrad.lean ====
abbrev S4096x2048 : Shape := ⟨2, ![4096, 2048]⟩
abbrev S4096x13056 : Shape := ⟨2, ![4096, 13056]⟩
abbrev S2048x13056 : Shape := ⟨2, ![2048, 13056]⟩
abbrev S1024x2048 : Shape := ⟨2, ![1024, 2048]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x13056, .bf16⟩
  | .hbm, ⟨2, _⟩ => ⟨S2048x13056, .bf16⟩
  | .local _ .vmem, ⟨0, _⟩ => ⟨S1024x2048, .f32⟩
  | .local _ .vmem, ⟨1, _⟩ => ⟨S1024x2048, .f32⟩
  | .local _ .vmem, ⟨2, _⟩ => ⟨S1024x768, .bf16⟩
  | .local _ .vmem, ⟨3, _⟩ => ⟨S1024x768, .bf16⟩
  | .local _ .vmem, ⟨4, _⟩ => ⟨S2048x768, .bf16⟩
  | .local _ .vmem, ⟨5, _⟩ => ⟨S2048x768, .bf16⟩
  | .local _ .vmem, ⟨6, _⟩ => ⟨S2048x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 17, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInWgradRefIdeal.lean ====
abbrev S4096x2048 : Shape := ⟨2, ![4096, 2048]⟩
abbrev S4096x13056 : Shape := ⟨2, ![4096, 13056]⟩
abbrev S_ : Shape := ⟨0, ![]⟩
abbrev S2048x13056 : Shape := ⟨2, ![2048, 13056]⟩
abbrev S13056x2048 : Shape := ⟨2, ![13056, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x13056, .bf16⟩
  | .hbm, ⟨2, _⟩ => ⟨S4096x13056, .f32⟩
  | .hbm, ⟨3, _⟩ => ⟨S_, .f32⟩
  | .hbm, ⟨4, _⟩ => ⟨S2048x13056, .f32⟩
  | .hbm, ⟨5, _⟩ => ⟨S4096x13056, .f32⟩
  | .hbm, ⟨6, _⟩ => ⟨S13056x2048, .f32⟩
  | .hbm, ⟨7, _⟩ => ⟨S2048x13056, .f32⟩
  | .hbm, ⟨8, _⟩ => ⟨S2048x13056, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDgrad.lean ====
abbrev S4096x11264 : Shape := ⟨2, ![4096, 11264]⟩
abbrev S4x2048x2816 : Shape := ⟨3, ![4, 2048, 2816]⟩
abbrev S4096x2048 : Shape := ⟨2, ![4096, 2048]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 5
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .f32⟩
  | .hbm, ⟨2, _⟩ => ⟨S4096x2048, .f32⟩
  | .hbm, ⟨3, _⟩ => ⟨S4x2048x2816, .bf16⟩
  | .hbm, ⟨4, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInDgradRefIdeal.lean ====
abbrev S4096x11264 : Shape := ⟨2, ![4096, 11264]⟩
abbrev S4x2048x2816 : Shape := ⟨3, ![4, 2048, 2816]⟩
abbrev S4096x2048 : Shape := ⟨2, ![4096, 2048]⟩
abbrev S_ : Shape := ⟨0, ![]⟩
abbrev S2048x4x2816 : Shape := ⟨3, ![2048, 4, 2816]⟩
abbrev S2048x11264 : Shape := ⟨2, ![2048, 11264]⟩

abbrev nBuf : Space → Nat
  | .hbm => 17
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .f32⟩
  | .hbm, ⟨2, _⟩ => ⟨S4096x2048, .f32⟩
  | .hbm, ⟨3, _⟩ => ⟨S4096x11264, .f32⟩
  | .hbm, ⟨4, _⟩ => ⟨S_, .f32⟩
  | .hbm, ⟨5, _⟩ => ⟨S4096x2048, .f32⟩
  | .hbm, ⟨6, _⟩ => ⟨S2048x4x2816, .f32⟩
  | .hbm, ⟨7, _⟩ => ⟨S2048x11264, .f32⟩
  | .hbm, ⟨8, _⟩ => ⟨S4096x11264, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== FfnInWgrad.lean ====
abbrev S4096x2048 : Shape := ⟨2, ![4096, 2048]⟩
abbrev S4096x11264 : Shape := ⟨2, ![4096, 11264]⟩
abbrev S4x2048x2816 : Shape := ⟨3, ![4, 2048, 2816]⟩
abbrev S1024x2048 : Shape := ⟨2, ![1024, 2048]⟩
abbrev S1024x1408 : Shape := ⟨2, ![1024, 1408]⟩
abbrev S1x2048x1408 : Shape := ⟨3, ![1, 2048, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x11264, .bf16⟩
  | .hbm, ⟨2, _⟩ => ⟨S4x2048x2816, .bf16⟩
  | .local _ .vmem, ⟨0, _⟩ => ⟨S1024x2048, .f32⟩
  | .local _ .vmem, ⟨1, _⟩ => ⟨S1024x2048, .f32⟩
  | .local _ .vmem, ⟨2, _⟩ => ⟨S1024x1408, .bf16⟩
  | .local _ .vmem, ⟨3, _⟩ => ⟨S1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInWgradRefIdeal.lean ====
abbrev S4096x2048 : Shape := ⟨2, ![4096, 2048]⟩
abbrev S4096x11264 : Shape := ⟨2, ![4096, 11264]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S11264x2048 : Shape := ⟨2, ![11264, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .bf16⟩
  | .hbm, ⟨2, _⟩ => ⟨S4096x11264, .f32⟩
  | .hbm, ⟨3, _⟩ => ⟨S_, .f32⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S4096x11264, .f32⟩
  | .hbm, ⟨8, _⟩ => ⟨S11264x2048, .f32⟩
  | .hbm, ⟨9, _⟩ => ⟨S2048x11264, .f32⟩
  | .hbm, ⟨10, _⟩ => ⟨S2048x4x2816, .f32⟩
  | .hbm, ⟨11, _⟩ => ⟨S4x2048x2816, .f32⟩
  | .hbm, ⟨12, _⟩ => ⟨S4x2048x2816, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ProjODgrad.lean ====
abbrev S4096x2048 : Shape := ⟨2, ![4096, 2048]⟩
abbrev S2048x2048 : Shape := ⟨2, ![2048, 2048]⟩
abbrev S512x512 : Shape := ⟨2, ![512, 512]⟩
abbrev S2048x512 : Shape := ⟨2, ![2048, 512]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S512x512, .f32⟩
  | .local _ .vmem, ⟨1, _⟩ => ⟨S512x512, .f32⟩
  | .local _ .vmem, ⟨2, _⟩ => ⟨S2048x512, .bf16⟩
  | .local _ .vmem, ⟨3, _⟩ => ⟨S2048x512, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjODgradRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjOWgrad.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOWgradRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjADgrad.lean ====
abbrev S4096x2048 : Shape := ⟨2, ![4096, 2048]⟩
abbrev S4x512x512 : Shape := ⟨3, ![4, 512, 512]⟩
abbrev S4096x512 : Shape := ⟨2, ![4096, 512]⟩
abbrev S512x512 : Shape := ⟨2, ![512, 512]⟩
abbrev S1x512x512 : Shape := ⟨3, ![1, 512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .f32⟩
  | .hbm, ⟨2, _⟩ => ⟨S4x512x512, .bf16⟩
  | .hbm, ⟨3, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjADgradRefIdeal.lean ====
abbrev S4096x2048 : Shape := ⟨2, ![4096, 2048]⟩
abbrev S4x512x512 : Shape := ⟨3, ![4, 512, 512]⟩
abbrev S_ : Shape := ⟨0, ![]⟩
abbrev S4096x512 : Shape := ⟨2, ![4096, 512]⟩
abbrev S512x4x512 : Shape := ⟨3, ![512, 4, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .f32⟩
  | .hbm, ⟨2, _⟩ => ⟨S4096x2048, .f32⟩
  | .hbm, ⟨3, _⟩ => ⟨S_, .f32⟩
  | .hbm, ⟨4, _⟩ => ⟨S4096x512, .f32⟩
  | .hbm, ⟨5, _⟩ => ⟨S512x4x512, .f32⟩
  | .hbm, ⟨6, _⟩ => ⟨S512x2048, .f32⟩
  | .hbm, ⟨7, _⟩ => ⟨S4096x2048, .f32⟩
  | .hbm, ⟨8, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjAWgrad.lean ====
abbrev S4096x512 : Shape := ⟨2, ![4096, 512]⟩
abbrev S4096x2048 : Shape := ⟨2, ![4096, 2048]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S4x512x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAWgradRefIdeal.lean ====
abbrev S4096x512 : Shape := ⟨2, ![4096, 512]⟩
abbrev S4096x2048 : Shape := ⟨2, ![4096, 2048]⟩
abbrev S_ : Shape := ⟨0, ![]⟩
abbrev S4x512x512 : Shape := ⟨3, ![4, 512, 512]⟩
abbrev S512x4x512 : Shape := ⟨3, ![512, 4, 512]⟩
abbrev S512x2048 : Shape := ⟨2, ![512, 2048]⟩
abbrev S2048x512 : Shape := ⟨2, ![2048, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4x512x512, .f32⟩
  | .hbm, ⟨5, _⟩ => ⟨S512x4x512, .f32⟩
  | .hbm, ⟨6, _⟩ => ⟨S512x2048, .f32⟩
  | .hbm, ⟨7, _⟩ => ⟨S4096x2048, .f32⟩
  | .hbm, ⟨8, _⟩ => ⟨S2048x512, .f32⟩
  | .hbm, ⟨9, _⟩ => ⟨S512x2048, .f32⟩
  | .hbm, ⟨10, _⟩ => ⟨S512x4x512, .f32⟩
  | .hbm, ⟨11, _⟩ => ⟨S4x512x512, .f32⟩
  | .hbm, ⟨12, _⟩ => ⟨S4x512x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ProjBDgrad.lean ====
abbrev S4096x2048 : Shape := ⟨2, ![4096, 2048]⟩
abbrev S4x768x512 : Shape := ⟨3, ![4, 768, 512]⟩
abbrev S4096x768 : Shape := ⟨2, ![4096, 768]⟩
abbrev S512x512 : Shape := ⟨2, ![512, 512]⟩
abbrev S1x768x512 : Shape := ⟨3, ![1, 768, 512]⟩
abbrev S512x768 : Shape := ⟨2, ![512, 768]⟩
abbrev S768x512 : Shape := ⟨2, ![768, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x768x512, .f32⟩
  | .hbm, ⟨2, _⟩ => ⟨S4x768x512, .bf16⟩
  | .hbm, ⟨3, _⟩ => ⟨S4096x768, .f32⟩
  | .local _ .vmem, ⟨0, _⟩ => ⟨S512x512, .bf16⟩
  | .local _ .vmem, ⟨1, _⟩ => ⟨S512x512, .bf16⟩
  | .local _ .vmem, ⟨2, _⟩ => ⟨S1x768x512, .bf16⟩
  | .local _ .vmem, ⟨3, _⟩ => ⟨S1x768x512, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBDgradRefIdeal.lean ====
abbrev S4096x2048 : Shape := ⟨2, ![4096, 2048]⟩
abbrev S4x768x512 : Shape := ⟨3, ![4, 768, 512]⟩
abbrev S_ : Shape := ⟨0, ![]⟩
abbrev S4096x768 : Shape := ⟨2, ![4096, 768]⟩
abbrev S768x4x512 : Shape := ⟨3, ![768, 4, 512]⟩
abbrev S768x2048 : Shape := ⟨2, ![768, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x768x512, .f32⟩
  | .hbm, ⟨2, _⟩ => ⟨S4096x2048, .f32⟩
  | .hbm, ⟨3, _⟩ => ⟨S_, .f32⟩
  | .hbm, ⟨4, _⟩ => ⟨S4096x768, .f32⟩
  | .hbm, ⟨5, _⟩ => ⟨S768x4x512, .f32⟩
  | .hbm, ⟨6, _⟩ => ⟨S768x2048, .f32⟩
  | .hbm, ⟨7, _⟩ => ⟨S4096x2048, .f32⟩
  | .hbm, ⟨8, _⟩ => ⟨S4096x768, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjBWgrad.lean ====
abbrev S4096x768 : Shape := ⟨2, ![4096, 768]⟩
abbrev S4096x2048 : Shape := ⟨2, ![4096, 2048]⟩
abbrev S4x768x512 : Shape := ⟨3, ![4, 768, 512]⟩
abbrev S1024x768 : Shape := ⟨2, ![1024, 768]⟩
abbrev S1024x512 : Shape := ⟨2, ![1024, 512]⟩
abbrev S1x768x512 : Shape := ⟨3, ![1, 768, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x768, .bf16⟩
  | .hbm, ⟨1, _⟩ => ⟨S4096x2048, .bf16⟩
  | .hbm, ⟨2, _⟩ => ⟨S4x768x512, .bf16⟩
  | .local _ .vmem, ⟨0, _⟩ => ⟨S1024x768, .bf16⟩
  | .local _ .vmem, ⟨1, _⟩ => ⟨S1024x768, .bf16⟩
  | .local _ .vmem, ⟨2, _⟩ => ⟨S1024x512, .bf16⟩
  | .local _ .vmem, ⟨3, _⟩ => ⟨S1024x512, .bf16⟩
  | .local _ .vmem, ⟨4, _⟩ => ⟨S1x768x512, .bf16⟩
  | .local _ .vmem, ⟨5, _⟩ => ⟨S1x768x512, .bf16⟩
  | .local _ .vmem, ⟨6, _⟩ => ⟨S768x512, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBWgradRefIdeal.lean ====
abbrev S4096x768 : Shape := ⟨2, ![4096, 768]⟩
abbrev S4096x2048 : Shape := ⟨2, ![4096, 2048]⟩
abbrev S_ : Shape := ⟨0, ![]⟩
abbrev S4x768x512 : Shape := ⟨3, ![4, 768, 512]⟩
abbrev S768x4x512 : Shape := ⟨3, ![768, 4, 512]⟩
abbrev S768x2048 : Shape := ⟨2, ![768, 2048]⟩
abbrev S2048x768 : Shape := ⟨2, ![2048, 768]⟩

abbrev nBuf : Space → Nat
  | .hbm => 14
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4x768x512, .f32⟩
  | .hbm, ⟨5, _⟩ => ⟨S4096x768, .f32⟩
  | .hbm, ⟨6, _⟩ => ⟨S768x4x512, .f32⟩
  | .hbm, ⟨7, _⟩ => ⟨S768x2048, .f32⟩
  | .hbm, ⟨8, _⟩ => ⟨S4096x2048, .f32⟩
  | .hbm, ⟨9, _⟩ => ⟨S2048x768, .f32⟩
  | .hbm, ⟨10, _⟩ => ⟨S768x2048, .f32⟩
  | .hbm, ⟨11, _⟩ => ⟨S768x4x512, .f32⟩
  | .hbm, ⟨12, _⟩ => ⟨S4x768x512, .f32⟩
  | .hbm, ⟨13, _⟩ => ⟨S4x768x512, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== ProjQkv.lean ====
abbrev S4096x2048 : Shape := ⟨2, ![4096, 2048]⟩
abbrev S2048x13056 : Shape := ⟨2, ![2048, 13056]⟩
abbrev S13056 : Shape := ⟨1, ![13056]⟩
abbrev S1x13056 : Shape := ⟨2, ![1, 13056]⟩
abbrev S4096x4608 : Shape := ⟨2, ![4096, 4608]⟩
abbrev S1024x2048 : Shape := ⟨2, ![1024, 2048]⟩
abbrev S2048x768 : Shape := ⟨2, ![2048, 768]⟩
abbrev S1x768 : Shape := ⟨2, ![1, 768]⟩
abbrev S1024x768 : Shape := ⟨2, ![1024, 768]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x13056, .f32⟩
  | .hbm, ⟨2, _⟩ => ⟨S13056, .f32⟩
  | .hbm, ⟨3, _⟩ => ⟨S2048x13056, .bf16⟩
  | .hbm, ⟨4, _⟩ => ⟨S1x13056, .f32⟩
  | .hbm, ⟨5, _⟩ => ⟨S4096x4608, .bf16⟩
  | .local _ .vmem, ⟨0, _⟩ => ⟨S1024x2048, .f32⟩
  | .local _ .vmem, ⟨1, _⟩ => ⟨S1024x2048, .f32⟩
  | .local _ .vmem, ⟨2, _⟩ => ⟨S2048x768, .bf16⟩
  | .local _ .vmem, ⟨3, _⟩ => ⟨S2048x768, .bf16⟩
  | .local _ .vmem, ⟨4, _⟩ => ⟨S1x768, .f32⟩
  | .local _ .vmem, ⟨5, _⟩ => ⟨S1x768, .f32⟩
  | .local _ .vmem, ⟨6, _⟩ => ⟨S1024x768, .bf16⟩
  | .local _ .vmem, ⟨7, _⟩ => ⟨S1024x768, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjQkvRefIdeal.lean ====
abbrev S4096x2048 : Shape := ⟨2, ![4096, 2048]⟩
abbrev S2048x13056 : Shape := ⟨2, ![2048, 13056]⟩
abbrev S13056 : Shape := ⟨1, ![13056]⟩
abbrev S2048x4608 : Shape := ⟨2, ![2048, 4608]⟩
abbrev S4096x4608 : Shape := ⟨2, ![4096, 4608]⟩
abbrev S4608 : Shape := ⟨1, ![4608]⟩
abbrev S1x4608 : Shape := ⟨2, ![1, 4608]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x13056, .f32⟩
  | .hbm, ⟨2, _⟩ => ⟨S13056, .f32⟩
  | .hbm, ⟨3, _⟩ => ⟨S2048x4608, .f32⟩
  | .hbm, ⟨4, _⟩ => ⟨S4096x4608, .f32⟩
  | .hbm, ⟨5, _⟩ => ⟨S4608, .f32⟩
  | .hbm, ⟨6, _⟩ => ⟨S1x4608, .f32⟩
  | .hbm, ⟨7, _⟩ => ⟨S4096x4608, .f32⟩
  | .hbm, ⟨8, _⟩ => ⟨S4096x4608, .f32⟩
  | .hbm, ⟨9, _⟩ => ⟨S4096x4608, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjRest.lean ====
abbrev S4096x2048 : Shape := ⟨2, ![4096, 2048]⟩
abbrev S2048x13056 : Shape := ⟨2, ![2048, 13056]⟩
abbrev S13056 : Shape := ⟨1, ![13056]⟩
abbrev S1x13056 : Shape := ⟨2, ![1, 13056]⟩
abbrev S4096x8448 : Shape := ⟨2, ![4096, 8448]⟩
abbrev S1024x2048 : Shape := ⟨2, ![1024, 2048]⟩
abbrev S2048x768 : Shape := ⟨2, ![2048, 768]⟩
abbrev S1x768 : Shape := ⟨2, ![1, 768]⟩
abbrev S1024x768 : Shape := ⟨2, ![1024, 768]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x13056, .f32⟩
  | .hbm, ⟨2, _⟩ => ⟨S13056, .f32⟩
  | .hbm, ⟨3, _⟩ => ⟨S2048x13056, .bf16⟩
  | .hbm, ⟨4, _⟩ => ⟨S1x13056, .f32⟩
  | .hbm, ⟨5, _⟩ => ⟨S4096x8448, .f32⟩
  | .local _ .vmem, ⟨0, _⟩ => ⟨S1024x2048, .f32⟩
  | .local _ .vmem, ⟨1, _⟩ => ⟨S1024x2048, .f32⟩
  | .local _ .vmem, ⟨2, _⟩ => ⟨S2048x768, .bf16⟩
  | .local _ .vmem, ⟨3, _⟩ => ⟨S2048x768, .bf16⟩
  | .local _ .vmem, ⟨4, _⟩ => ⟨S1x768, .f32⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjRestRefIdeal.lean ====
abbrev S4096x2048 : Shape := ⟨2, ![4096, 2048]⟩
abbrev S2048x13056 : Shape := ⟨2, ![2048, 13056]⟩
abbrev S13056 : Shape := ⟨1, ![13056]⟩
abbrev S2048x8448 : Shape := ⟨2, ![2048, 8448]⟩
abbrev S4096x8448 : Shape := ⟨2, ![4096, 8448]⟩
abbrev S8448 : Shape := ⟨1, ![8448]⟩
abbrev S1x8448 : Shape := ⟨2, ![1, 8448]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x13056, .f32⟩
  | .hbm, ⟨2, _⟩ => ⟨S13056, .f32⟩
  | .hbm, ⟨3, _⟩ => ⟨S2048x8448, .f32⟩
  | .hbm, ⟨4, _⟩ => ⟨S4096x8448, .f32⟩
  | .hbm, ⟨5, _⟩ => ⟨S8448, .f32⟩
  | .hbm, ⟨6, _⟩ => ⟨S1x8448, .f32⟩
  | .hbm, ⟨7, _⟩ => ⟨S4096x8448, .f32⟩
  | .hbm, ⟨8, _⟩ => ⟨S4096x8448, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnIn.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4x2048x2816, .f32⟩
  | .hbm, ⟨2, _⟩ => ⟨S4x2048x2816, .bf16⟩
  | .hbm, ⟨3, _⟩ => ⟨S4096x11264, .f32⟩
  | .local _ .vmem, ⟨0, _⟩ => ⟨S1024x2048, .f32⟩
  | .local _ .vmem, ⟨1, _⟩ => ⟨S1024x2048, .f32⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x2816, .f32⟩
  | .hbm, ⟨2, _⟩ => ⟨S2048x4x2816, .f32⟩
  | .hbm, ⟨3, _⟩ => ⟨S2048x11264, .f32⟩
  | .hbm, ⟨4, _⟩ => ⟨S4096x11264, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnOut.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S5632x2048, .bf16⟩
  | .hbm, ⟨4, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x5632, .f32⟩
  | .hbm, ⟨7, _⟩ => ⟨S4096x2048, .f32⟩
  | .hbm, ⟨8, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ProjO.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjORefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ProjA.lean ====
abbrev S4096x512 : Shape := ⟨2, ![4096, 512]⟩
abbrev S4x512x512 : Shape := ⟨3, ![4, 512, 512]⟩
abbrev S4096x2048 : Shape := ⟨2, ![4096, 2048]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4x512x512, .f32⟩
  | .hbm, ⟨2, _⟩ => ⟨S4x512x512, .bf16⟩
  | .hbm, ⟨3, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S4096x512 : Shape := ⟨2, ![4096, 512]⟩
abbrev S4x512x512 : Shape := ⟨3, ![4, 512, 512]⟩
abbrev S512x4x512 : Shape := ⟨3, ![512, 4, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x512x512, .f32⟩
  | .hbm, ⟨2, _⟩ => ⟨S512x4x512, .f32⟩
  | .hbm, ⟨3, _⟩ => ⟨S512x2048, .f32⟩
  | .hbm, ⟨4, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjB.lean ====
abbrev S4096x768 : Shape := ⟨2, ![4096, 768]⟩
abbrev S4x768x512 : Shape := ⟨3, ![4, 768, 512]⟩
abbrev S4096x2048 : Shape := ⟨2, ![4096, 2048]⟩
abbrev S1024x768 : Shape := ⟨2, ![1024, 768]⟩
abbrev S1x768x512 : Shape := ⟨3, ![1, 768, 512]⟩
abbrev S1024x512 : Shape := ⟨2, ![1024, 512]⟩
abbrev S768x512 : Shape := ⟨2, ![768, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x768, .bf16⟩
  | .hbm, ⟨1, _⟩ => ⟨S4x768x512, .f32⟩
  | .hbm, ⟨2, _⟩ => ⟨S4x768x512, .bf16⟩
  | .hbm, ⟨3, _⟩ => ⟨S4096x2048, .f32⟩
  | .local _ .vmem, ⟨0, _⟩ => ⟨S1024x768, .bf16⟩
  | .local _ .vmem, ⟨1, _⟩ => ⟨S1024x768, .bf16⟩
  | .local _ .vmem, ⟨2, _⟩ => ⟨S1x768x512, .bf16⟩
  | .local _ .vmem, ⟨3, _⟩ => ⟨S1x768x512, .bf16⟩
  | .local _ .vmem, ⟨4, _⟩ => ⟨S1024x512, .f32⟩
  | .local _ .vmem, ⟨5, _⟩ => ⟨S1024x512, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBRefIdeal.lean ====
abbrev S4096x768 : Shape := ⟨2, ![4096, 768]⟩
abbrev S4x768x512 : Shape := ⟨3, ![4, 768, 512]⟩
abbrev S768x4x512 : Shape := ⟨3, ![768, 4, 512]⟩
abbrev S768x2048 : Shape := ⟨2, ![768, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4x768x512, .f32⟩
  | .hbm, ⟨2, _⟩ => ⟨S4096x768, .f32⟩
  | .hbm, ⟨3, _⟩ => ⟨S768x4x512, .f32⟩
  | .hbm, ⟨4, _⟩ => ⟨S768x2048, .f32⟩
  | .hbm, ⟨5, _⟩ => ⟨S4096x2048, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MergeBwd.lean ====
abbrev S4096x2048 : Shape := ⟨2, ![4096, 2048]⟩
abbrev S4096x8448 : Shape := ⟨2, ![4096, 8448]⟩
abbrev S1024x256 : Shape := ⟨2, ![1024, 256]⟩

abbrev nBuf : Space → Nat
  | .hbm => 11
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x8448, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S4096x2048, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeBwdRefIdeal.lean ====
abbrev S4096x2048 : Shape := ⟨2, ![4096, 2048]⟩
abbrev S4096x8448 : Shape := ⟨2, ![4096, 8448]⟩
abbrev S4096x6144 : Shape := ⟨2, ![4096, 6144]⟩
abbrev S4096x3x2048 : Shape := ⟨3, ![4096, 3, 2048]⟩
abbrev S_ : Shape := ⟨0, ![]⟩
abbrev S4096x1x2048 : Shape := ⟨3, ![4096, 1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8448, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x6144, .f32⟩
  | .hbm, ⟨6, _⟩ => ⟨S4096x3x2048, .f32⟩
  | .hbm, ⟨7, _⟩ => ⟨S4096x3x2048, .f32⟩
  | .hbm, ⟨8, _⟩ => ⟨S4096x3x2048, .f32⟩
  | .hbm, ⟨9, _⟩ => ⟨S_, .f32⟩
  | .hbm, ⟨10, _⟩ => ⟨S4096x3x2048, .f32⟩
  | .hbm, ⟨11, _⟩ => ⟨S4096x3x2048, .f32⟩
  | .hbm, ⟨12, _⟩ => ⟨S_, .f32⟩
  | .hbm, ⟨13, _⟩ => ⟨S4096x3x2048, .f32⟩
  | .hbm, ⟨14, _⟩ => ⟨S4096x3x2048, .f32⟩
  | .hbm, ⟨15, _⟩ => ⟨S_, .f32⟩
  | .hbm, ⟨16, _⟩ => ⟨S4096x3x2048, .f32⟩
  | .hbm, ⟨17, _⟩ => ⟨S4096x3x2048, .f32⟩
  | .hbm, ⟨18, _⟩ => ⟨S4096x3x2048, .f32⟩
  | .hbm, ⟨19, _⟩ => ⟨S4096x1x2048, .f32⟩
  | .hbm, ⟨20, _⟩ => ⟨S4096x2048, .f32⟩
  | .hbm, ⟨21, _⟩ => ⟨S4096x2048, .f32⟩
  | .hbm, ⟨22, _⟩ => ⟨S4096x1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x1x2048, .f32⟩
  | .hbm, ⟨35, _⟩ => ⟨S_, .f32⟩
  | .hbm, ⟨36, _⟩ => ⟨S4096x3x2048, .f32⟩
  | .hbm, ⟨37, _⟩ => ⟨S4096x2048, .f32⟩
  | .hbm, ⟨38, _⟩ => ⟨S4096x2048, .f32⟩
  | .hbm, ⟨39, _⟩ => ⟨S4096x1x2048, .f32⟩
  | .hbm, ⟨40, _⟩ => ⟨S_, .f32⟩
  | .hbm, ⟨41, _⟩ => ⟨S4096x3x2048, .f32⟩
  | .hbm, ⟨42, _⟩ => ⟨S4096x3x2048, .f32⟩
  | .hbm, ⟨43, _⟩ => ⟨S4096x2048, .f32⟩
  | .hbm, ⟨44, _⟩ => ⟨S4096x2048, .f32⟩
  | .hbm, ⟨45, _⟩ => ⟨S4096x1x2048, .f32⟩
  | .hbm, ⟨46, _⟩ => ⟨S_, .f32⟩
  | .hbm, ⟨47, _⟩ => ⟨S4096x3x2048, .f32⟩
  | .hbm, ⟨48, _⟩ => ⟨S4096x3x2048, .f32⟩
  | .hbm, ⟨49, _⟩ => ⟨S4096x3x2048, .f32⟩
  | .hbm, ⟨50, _⟩ => ⟨S4096x6144, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .bf16⟩
  | .hbm, ⟨55, _⟩ => ⟨S4096x2048, .bf16⟩
  | .hbm, ⟨56, _⟩ => ⟨S4096x2048, .bf16⟩
  | .hbm, ⟨57, _⟩ => ⟨S4096x2048, .bf16⟩
  | .hbm, ⟨58, _⟩ => ⟨S4096x2048, .bf16⟩
  | .hbm, ⟨59, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== SwigluBwd.lean ====
abbrev S4096x5632 : Shape := ⟨2, ![4096, 5632]⟩
abbrev S4096x11264 : Shape := ⟨2, ![4096, 11264]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4096x11264, .f32⟩
  | .hbm, ⟨2, _⟩ => ⟨S4096x5632, .bf16⟩
  | .hbm, ⟨3, _⟩ => ⟨S4096x5632, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBwdRefIdeal.lean ====
abbrev S4096x5632 : Shape := ⟨2, ![4096, 5632]⟩
abbrev S4096x11264 : Shape := ⟨2, ![4096, 11264]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x11264, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x11264, .f32⟩
  | .hbm, ⟨26, _⟩ => ⟨S4096x11264, .bf16⟩
  | .hbm, ⟨27, _⟩ => ⟨S4096x5632, .bf16⟩
  | .hbm, ⟨28, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩

abbrev nD : Nat := 1
abbrev τ : Topo := Topo.v7x

variable {F : FTy → Type} [FloatOps F]
-- ==== GluBwd.lean ====
abbrev S4096x768 : Shape := ⟨2, ![4096, 768]⟩
abbrev S1x768 : Shape := ⟨2, ![1, 768]⟩
abbrev S256x768 : Shape := ⟨2, ![256, 768]⟩
abbrev S768 : Shape := ⟨1, ![768]⟩

abbrev nBuf : Space → Nat
  | .hbm => 6
  | .vmem => 11
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .bf16⟩
  | .hbm, ⟨5, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .bf16⟩
  | .local _ .vmem, ⟨9, _⟩ => ⟨S256x768, .bf16⟩
  | .local _ .vmem, ⟨10, _⟩ => ⟨S1x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_10 : BitVec 32 := 0#32
  let v17 : BitVec 1 := Scalar.cmpi .ne v16 c0_i32_10
  v17

def k0_cond2 (i : grid0.Coords) : BitVec 1 :=
  let arg1 : BitVec 32 := BitVec.ofNat 32 (i 1).val
  let c0_i32_11 : BitVec 32 := 0#32
  let v18 : BitVec 1 := Scalar.cmpi .sgt arg1 c0_i32_11
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== GluBwdRefIdeal.lean ====
abbrev S4096x768 : Shape := ⟨2, ![4096, 768]⟩
abbrev S_ : Shape := ⟨0, ![]⟩
abbrev S768 : Shape := ⟨1, ![768]⟩
abbrev S1x768 : Shape := ⟨2, ![1, 768]⟩

abbrev nBuf : Space → Nat
  | .hbm => 31
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S_, .f32⟩
  | .hbm, ⟨4, _⟩ => ⟨S768, .f32⟩
  | .hbm, ⟨5, _⟩ => ⟨S1x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S_, .f32⟩
  | .hbm, ⟨11, _⟩ => ⟨S4096x768, .f32⟩
  | .hbm, ⟨12, _⟩ => ⟨S4096x768, .f32⟩
  | .hbm, ⟨13, _⟩ => ⟨S_, .f32⟩
  | .hbm, ⟨14, _⟩ => ⟨S4096x768, .f32⟩
  | .hbm, ⟨15, _⟩ => ⟨S4096x768, .f32⟩
  | .hbm, ⟨16, _⟩ => ⟨S_, .f32⟩
  | .hbm, ⟨17, _⟩ => ⟨S4096x768, .f32⟩
  | .hbm, ⟨18, _⟩ => ⟨S4096x768, .f32⟩
  | .hbm, ⟨19, _⟩ => ⟨S4096x768, .f32⟩
  | .hbm, ⟨20, _⟩ => ⟨S4096x768, .f32⟩
  | .hbm, ⟨21, _⟩ => ⟨S4096x768, .f32⟩
  | .hbm, ⟨22, _⟩ => ⟨S4096x768, .f32⟩
  | .hbm, ⟨23, _⟩ => ⟨S4096x768, .f32⟩
  | .hbm, ⟨24, _⟩ => ⟨S_, .f32⟩
  | .hbm, ⟨25, _⟩ => ⟨S768, .f32⟩
  | .hbm, ⟨26, _⟩ => ⟨S1x768, .f32⟩
  | .hbm, ⟨27, _⟩ => ⟨S_, .f32⟩
  | .hbm, ⟨28, _⟩ => ⟨S768, .f32⟩
  | .hbm, ⟨29, _⟩ => ⟨S4096x768, .bf16⟩
  | .hbm, ⟨30, _⟩ => ⟨S1x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== GluProj.lean ====
abbrev S4096x768 : Shape := ⟨2, ![4096, 768]⟩
abbrev S768x768 : Shape := ⟨2, ![768, 768]⟩
abbrev S768 : Shape := ⟨1, ![768]⟩
abbrev S1x768 : Shape := ⟨2, ![1, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S768x768, .f32⟩
  | .hbm, ⟨2, _⟩ => ⟨S768, .f32⟩
  | .hbm, ⟨3, _⟩ => ⟨S768x768, .bf16⟩
  | .hbm, ⟨4, _⟩ => ⟨S1x768, .f32⟩
  | .hbm, ⟨5, _⟩ => ⟨S4096x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S1x768, .f32⟩
  | .local _ .vmem, ⟨4, _⟩ => ⟨S1024x768, .f32⟩
  | .local _ .vmem, ⟨5, _⟩ => ⟨S1024x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GluProjRefIdeal.lean ====
abbrev S4096x768 : Shape := ⟨2, ![4096, 768]⟩
abbrev S768x768 : Shape := ⟨2, ![768, 768]⟩
abbrev S768 : Shape := ⟨1, ![768]⟩
abbrev S1x768 : Shape := ⟨2, ![1, 768]⟩

abbrev nBuf : Space → Nat
  | .hbm => 7
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x768, .f32⟩
  | .hbm, ⟨2, _⟩ => ⟨S768, .f32⟩
  | .hbm, ⟨3, _⟩ => ⟨S4096x768, .f32⟩
  | .hbm, ⟨4, _⟩ => ⟨S1x768, .f32⟩
  | .hbm, ⟨5, _⟩ => ⟨S4096x768, .f32⟩
  | .hbm, ⟨6, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluWgrad.lean ====
abbrev S4096x768 : Shape := ⟨2, ![4096, 768]⟩
abbrev S768x768 : Shape := ⟨2, ![768, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S4096x768, .bf16⟩
  | .hbm, ⟨2, _⟩ => ⟨S768x768, .bf16⟩
  | .local _ .vmem, ⟨0, _⟩ => ⟨S1024x768, .f32⟩
  | .local _ .vmem, ⟨1, _⟩ => ⟨S1024x768, .f32⟩
  | .local _ .vmem, ⟨2, _⟩ => ⟨S1024x768, .bf16⟩
  | .local _ .vmem, ⟨3, _⟩ => ⟨S1024x768, .bf16⟩
  | .local _ .vmem, ⟨4, _⟩ => ⟨S768x768, .bf16⟩
  | .local _ .vmem, ⟨5, _⟩ => ⟨S768x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluWgradRefIdeal.lean ====
abbrev S4096x768 : Shape := ⟨2, ![4096, 768]⟩
abbrev S_ : Shape := ⟨0, ![]⟩
abbrev S768x768 : Shape := ⟨2, ![768, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .bf16⟩
  | .hbm, ⟨2, _⟩ => ⟨S4096x768, .f32⟩
  | .hbm, ⟨3, _⟩ => ⟨S_, .f32⟩
  | .hbm, ⟨4, _⟩ => ⟨S768x768, .f32⟩
  | .hbm, ⟨5, _⟩ => ⟨S4096x768, .f32⟩
  | .hbm, ⟨6, _⟩ => ⟨S768x768, .f32⟩
  | .hbm, ⟨7, _⟩ => ⟨S768x768, .f32⟩
  | .hbm, ⟨8, _⟩ => ⟨S768x768, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GluDgrad.lean ====
abbrev S4096x768 : Shape := ⟨2, ![4096, 768]⟩
abbrev S768x768 : Shape := ⟨2, ![768, 768]⟩
abbrev S512x384 : Shape := ⟨2, ![512, 384]⟩
abbrev S768x384 : Shape := ⟨2, ![768, 384]⟩
abbrev S512x768 : Shape := ⟨2, ![512, 768]⟩

abbrev nBuf : Space → Nat
  | .hbm => 5
  | .vmem => 9
  | .smem => 0
  | _ => 0

abbrev bufTy : (tb : Table) → Fin (tcTables nBuf tb) → BufTy
  | .hbm, ⟨0, _⟩ => ⟨S4096x768, .bf16⟩
  | .hbm, ⟨1, _⟩ => ⟨S768x768, .f32⟩
  | .hbm, ⟨2, _⟩ => ⟨S4096x768, .f32⟩
  | .hbm, ⟨3, _⟩ => ⟨S768x768, .bf16⟩
  | .hbm, ⟨4, _⟩ => ⟨S4096x768, .f32⟩
  | .local _ .vmem, ⟨0, _⟩ => ⟨S512x384, .bf16⟩
  | .local _ .vmem, ⟨1, _⟩ => ⟨S512x384, .bf16⟩
  | .local _ .vmem, ⟨2, _⟩ => ⟨S768x384, .bf16⟩
  | .local _ .vmem, ⟨3, _⟩ => ⟨S768x384, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GluDgradRefIdeal.lean ====
abbrev S4096x768 : Shape := ⟨2, ![4096, 768]⟩
abbrev S768x768 : Shape := ⟨2, ![768, 768]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== BInGrad.lean ====
abbrev S4096x13056 : Shape := ⟨2, ![4096, 13056]⟩
abbrev S1x13056 : Shape := ⟨2, ![1, 13056]⟩
abbrev S512x768 : Shape := ⟨2, ![512, 768]⟩
abbrev S1x768 : Shape := ⟨2, ![1, 768]⟩
abbrev S768 : Shape := ⟨1, ![768]⟩

abbrev nBuf : Space → Nat
  | .hbm => 2
  | .vmem => 4
  | .smem => 0
  | _ => 0

abbrev bufTy : (tb : Table) → Fin (tcTables nBuf tb) → BufTy
  | .hbm, ⟨0, _⟩ => ⟨S4096x13056, .bf16⟩
  | .hbm, ⟨1, _⟩ => ⟨S1x13056, .f32⟩
  | .local _ .vmem, ⟨0, _⟩ => ⟨S512x768, .bf16⟩
  | .local _ .vmem, ⟨1, _⟩ => ⟨S512x768, .bf16⟩
  | .local _ .vmem, ⟨2, _⟩ => ⟨S1x768, .f32⟩
  | .local _ .vmem, ⟨3, _⟩ => ⟨S1x768, .f32⟩
  | _, _ => ⟨S4096x13056, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_1 : BitVec 32 := 0#32
  let v6 : BitVec 1 := Scalar.cmpi .ne v5 c0_i32_1
  v6

def k0_cond2 (i : grid0.Coords) : BitVec 1 :=
  let arg1 : BitVec 32 := BitVec.ofNat 32 (i 1).val
  let c0_i32_2 : BitVec 32 := 0#32
  let v7 : BitVec 1 := Scalar.cmpi .sgt arg1 c0_i32_2
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== BInGradRefIdeal.lean ====
abbrev S4096x13056 : Shape := ⟨2, ![4096, 13056]⟩
abbrev S_ : Shape := ⟨0, ![]⟩
abbrev S13056 : Shape := ⟨1, ![13056]⟩
abbrev S1x13056 : Shape := ⟨2, ![1, 13056]⟩

abbrev nBuf : Space → Nat
  | .hbm => 15
  | .vmem => 0
  | .smem => 0
  | _ => 0

abbrev bufTy : (tb : Table) → Fin (tcTables nBuf tb) → BufTy
  | .hbm, ⟨0, _⟩ => ⟨S4096x13056, .bf16⟩
  | .hbm, ⟨1, _⟩ => ⟨S_, .f32⟩
  | .hbm, ⟨2, _⟩ => ⟨S13056, .f32⟩
  | .hbm, ⟨3, _⟩ => ⟨S_, .f32⟩
  | .hbm, ⟨4, _⟩ => ⟨S4096x13056, .f32⟩
  | .hbm, ⟨5, _⟩ => ⟨S1x13056, .f32⟩
  | .hbm, ⟨6, _⟩ => ⟨S4096x13056, .f32⟩
  | .hbm, ⟨7, _⟩ => ⟨S4096x13056, .f32⟩
  | .hbm, ⟨8, _⟩ => ⟨S4096x13056, .f32⟩
  | .hbm, ⟨9, _⟩ => ⟨S_, .f32⟩
  | .hbm, ⟨10, _⟩ => ⟨S13056, .f32⟩
  | .hbm, ⟨11, _⟩ => ⟨S1x13056, .f32⟩
  | .hbm, ⟨12, _⟩ => ⟨S_, .f32⟩
  | .hbm, ⟨13, _⟩ => ⟨S13056, .f32⟩
  | .hbm, ⟨14, _⟩ => ⟨S1x13056, .f32⟩
  | _, _ => ⟨S4096x13056, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Merge.lean ====
abbrev S4096x8448 : Shape := ⟨2, ![4096, 8448]⟩
abbrev S4096x2048 : Shape := ⟨2, ![4096, 2048]⟩
abbrev S1024x256 : Shape := ⟨2, ![1024, 256]⟩

abbrev nBuf : Space → Nat
  | .hbm => 5
  | .vmem => 14
  | .smem => 0
  | _ => 0

abbrev bufTy : (tb : Table) → Fin (tcTables nBuf tb) → BufTy
  | .hbm, ⟨0, _⟩ => ⟨S4096x8448, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S4096x8448 : Shape := ⟨2, ![4096, 8448]⟩
abbrev S4096x2048 : Shape := ⟨2, ![4096, 2048]⟩
abbrev S4096x6144 : Shape := ⟨2, ![4096, 6144]⟩
abbrev S4096x3x2048 : Shape := ⟨3, ![4096, 3, 2048]⟩
abbrev S_ : Shape := ⟨0, ![]⟩
abbrev S4096x1x2048 : Shape := ⟨3, ![4096, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x8448, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x6144, .f32⟩
  | .hbm, ⟨5, _⟩ => ⟨S4096x3x2048, .f32⟩
  | .hbm, ⟨6, _⟩ => ⟨S4096x3x2048, .f32⟩
  | .hbm, ⟨7, _⟩ => ⟨S4096x3x2048, .f32⟩
  | .hbm, ⟨8, _⟩ => ⟨S_, .f32⟩
  | .hbm, ⟨9, _⟩ => ⟨S4096x3x2048, .f32⟩
  | .hbm, ⟨10, _⟩ => ⟨S4096x3x2048, .f32⟩
  | .hbm, ⟨11, _⟩ => ⟨S_, .f32⟩
  | .hbm, ⟨12, _⟩ => ⟨S4096x3x2048, .f32⟩
  | .hbm, ⟨13, _⟩ => ⟨S4096x3x2048, .f32⟩
  | .hbm, ⟨14, _⟩ => ⟨S4096x1x2048, .f32⟩
  | .hbm, ⟨15, _⟩ => ⟨S4096x2048, .f32⟩
  | .hbm, ⟨16, _⟩ => ⟨S4096x2048, .f32⟩
  | .hbm, ⟨17, _⟩ => ⟨S4096x1x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Swiglu.lean ====
abbrev S4096x11264 : Shape := ⟨2, ![4096, 11264]⟩
abbrev S4096x5632 : Shape := ⟨2, ![4096, 5632]⟩
abbrev S1024x512 : Shape := ⟨2, ![1024, 512]⟩

abbrev nBuf : Space → Nat
  | .hbm => 2
  | .vmem => 6
  | .smem => 0
  | _ => 0

abbrev bufTy : (tb : Table) → Fin (tcTables nBuf tb) → BufTy
  | .hbm, ⟨0, _⟩ => ⟨S4096x11264, .f32⟩
  | .hbm, ⟨1, _⟩ => ⟨S4096x5632, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluRefIdeal.lean ====
abbrev S4096x11264 : Shape := ⟨2, ![4096, 11264]⟩
abbrev S4096x5632 : Shape := ⟨2, ![4096, 5632]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S_, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Glu.lean ====
abbrev S4096x768 : Shape := ⟨2, ![4096, 768]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .bf16⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .bf16⟩
  | .local _ .vmem, ⟨5, _⟩ => ⟨S256x768, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GluRefIdeal.lean ====
abbrev S4096x768 : Shape := ⟨2, ![4096, 768]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== LnBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v57 : BitVec 1 := Scalar.cmpi .eq arg1 c0_i32
  let v58 : BitVec 32 := Scalar.extui v57
  let c0_i32_21 : BitVec 32 := 0#32
  let v59 : BitVec 1 := Scalar.cmpi .ne v58 c0_i32_21
  v59

def k0_cond2 (i : grid0.Coords) : BitVec 1 :=
  let arg1 : BitVec 32 := BitVec.ofNat 32 (i 1).val
  let c0_i32_22 : BitVec 32 := 0#32
  let v60 : BitVec 1 := Scalar.cmpi .sgt arg1 c0_i32_22
  let v61 : BitVec 32 := Scalar.extui v60
  let c0_i32_23 : BitVec 32 := 0#32
  let v62 : BitVec 1 := Scalar.cmpi .ne v61 c0_i32_23
  v62

def k0_cond3 (i : grid0.Coords) : BitVec 1 :=
  let arg1 : BitVec 32 := BitVec.ofNat 32 (i 1).val
  let c0_i32_24 : BitVec 32 := 0#32
  let v63 : BitVec 1 := Scalar.cmpi .eq arg1 c0_i32_24
  let v64 : BitVec 32 := Scalar.extui v63
  let c0_i32_25 : BitVec 32 := 0#32
  let v65 : BitVec 1 := Scalar.cmpi .ne v64 c0_i32_25
  v65

def k0_cond4 (i : grid0.Coords) : BitVec 1 :=
  let arg1 : BitVec 32 := BitVec.ofNat 32 (i 1).val
  let c0_i32_26 : BitVec 32 := 0#32
  let v66 : BitVec 1 := Scalar.cmpi .sgt arg1 c0_i32_26
  let v67 : BitVec 32 := Scalar.extui v66
  let c0_i32_27 : BitVec 32 := 0#32
  let v68 : BitVec 1 := Scalar.cmpi .ne v67 c0_i32_27
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== LnBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S4096x2048, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x2048, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x2048, .f32⟩
  | .hbm, ⟨84, _⟩ => ⟨S4096x2048, .f32⟩
  | .hbm, ⟨85, _⟩ => ⟨S1x2048, .f32⟩
  | .hbm, ⟨86, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== SsmSkipGeluBwd.lean ====
abbrev S4096x768 : Shape := ⟨2, ![4096, 768]⟩
abbrev S4096x8448 : Shape := ⟨2, ![4096, 8448]⟩
abbrev S768 : Shape := ⟨1, ![768]⟩
abbrev S1x768 : Shape := ⟨2, ![1, 768]⟩
abbrev S256x768 : Shape := ⟨2, ![256, 768]⟩

abbrev nBuf : Space → Nat
  | .hbm => 8
  | .vmem => 12
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x8448, .f32⟩
  | .hbm, ⟨3, _⟩ => ⟨S768, .f32⟩
  | .hbm, ⟨4, _⟩ => ⟨S1x768, .f32⟩
  | .hbm, ⟨5, _⟩ => ⟨S4096x768, .f32⟩
  | .hbm, ⟨6, _⟩ => ⟨S4096x768, .f32⟩
  | .hbm, ⟨7, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S1x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_20 : BitVec 32 := 0#32
  let v51 : BitVec 1 := Scalar.cmpi .ne v50 c0_i32_20
  v51

def k0_cond2 (i : grid0.Coords) : BitVec 1 :=
  let arg1 : BitVec 32 := BitVec.ofNat 32 (i 1).val
  let c0_i32_21 : BitVec 32 := 0#32
  let v52 : BitVec 1 := Scalar.cmpi .sgt arg1 c0_i32_21
  let v53 : BitVec 32 := Scalar.extui v52
  let c0_i32_22 : BitVec 32 := 0#32
  let v54 : BitVec 1 := Scalar.cmpi .ne v53 c0_i32_22
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== SsmSkipGeluBwdRefIdeal.lean ====
abbrev S4096x768 : Shape := ⟨2, ![4096, 768]⟩
abbrev S4096x8448 : Shape := ⟨2, ![4096, 8448]⟩
abbrev S768 : Shape := ⟨1, ![768]⟩
abbrev S1x768 : Shape := ⟨2, ![1, 768]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x8448, .f32⟩
  | .hbm, ⟨3, _⟩ => ⟨S768, .f32⟩
  | .hbm, ⟨4, _⟩ => ⟨S4096x768, .f32⟩
  | .hbm, ⟨5, _⟩ => ⟨S1x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S_, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S4096x768, .f32⟩
  | .hbm, ⟨23, _⟩ => ⟨S_, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S_, .f32⟩
  | .hbm, ⟨34, _⟩ => ⟨S4096x768, .f32⟩
  | .hbm, ⟨35, _⟩ => ⟨S4096x768, .f32⟩
  | .hbm, ⟨36, _⟩ => ⟨S4096x768, .f32⟩
  | .hbm, ⟨37, _⟩ => ⟨S4096x768, .f32⟩
  | .hbm, ⟨38, _⟩ => ⟨S4096x768, .f32⟩
  | .hbm, ⟨39, _⟩ => ⟨S_, .f32⟩
  | .hbm, ⟨40, _⟩ => ⟨S4096x768, .f32⟩
  | .hbm, ⟨41, _⟩ => ⟨S4096x768, .f32⟩
  | .hbm, ⟨42, _⟩ => ⟨S4096x768, .f32⟩
  | .hbm, ⟨43, _⟩ => ⟨S_, .f32⟩
  | .hbm, ⟨44, _⟩ => ⟨S4096x768, .f32⟩
  | .hbm, ⟨45, _⟩ => ⟨S4096x768, .f32⟩
  | .hbm, ⟨46, _⟩ => ⟨S4096x768, .f32⟩
  | .hbm, ⟨47, _⟩ => ⟨S_, .f32⟩
  | .hbm, ⟨48, _⟩ => ⟨S4096x768, .f32⟩
  | .hbm, ⟨49, _⟩ => ⟨S4096x768, .f32⟩
  | .hbm, ⟨50, _⟩ => ⟨S4096x768, .f32⟩
  | .hbm, ⟨51, _⟩ => ⟨S4096x768, .f32⟩
  | .hbm, ⟨52, _⟩ => ⟨S4096x768, .f32⟩
  | .hbm, ⟨53, _⟩ => ⟨S4096x768, .f32⟩
  | .hbm, ⟨54, _⟩ => ⟨S4096x768, .f32⟩
  | .hbm, ⟨55, _⟩ => ⟨S_, .f32⟩
  | .hbm, ⟨56, _⟩ => ⟨S768, .f32⟩
  | .hbm, ⟨57, _⟩ => ⟨S1x768, .f32⟩
  | .hbm, ⟨58, _⟩ => ⟨S_, .f32⟩
  | .hbm, ⟨59, _⟩ => ⟨S768, .f32⟩
  | .hbm, ⟨60, _⟩ => ⟨S1x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== SsmOutDgrad.lean ====
abbrev S4096x768 : Shape := ⟨2, ![4096, 768]⟩
abbrev S48x16x64 : Shape := ⟨3, ![48, 16, 64]⟩
abbrev S768x64 : Shape := ⟨2, ![768, 64]⟩
abbrev S6x8x16x64 : Shape := ⟨4, ![6, 8, 16, 64]⟩
abbrev S8x8 : Shape := ⟨2, ![8, 8]⟩
abbrev S_ : Shape := ⟨0, ![]⟩
abbrev S6x8x16x1x64 : Shape := ⟨5, ![6, 8, 16, 1, 64]⟩
abbrev S1x8x1x8x1 : Shape := ⟨5, ![1, 8, 1, 8, 1]⟩
abbrev S6x8x16x8x64 : Shape := ⟨5, ![6, 8, 16, 8, 64]⟩
abbrev S6x128x512 : Shape := ⟨3, ![6, 128, 512]⟩
abbrev S6x512x128 : Shape := ⟨3, ![6, 512, 128]⟩
abbrev S1x6x512x128 : Shape := ⟨4, ![1, 6, 512, 128]⟩
abbrev S2x6x512x128 : Shape := ⟨4, ![2, 6, 512, 128]⟩
abbrev S2x4096x3072 : Shape := ⟨3, ![2, 4096, 3072]⟩
abbrev S2048x128 : Shape := ⟨2, ![2048, 128]⟩
abbrev S1x1x512x128 : Shape := ⟨4, ![1, 1, 512, 128]⟩
abbrev S1x2048x512 : Shape := ⟨3, ![1, 2048, 512]⟩
abbrev S512x128 : Shape := ⟨2, ![512, 128]⟩
abbrev S2048x512 : Shape := ⟨2, ![2048, 512]⟩

abbrev nBuf : Space → Nat
  | .hbm => 40
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S48x16x64, .f32⟩
  | .hbm, ⟨2, _⟩ => ⟨S48x16x64, .f32⟩
  | .hbm, ⟨3, _⟩ => ⟨S768x64, .f32⟩
  | .hbm, ⟨4, _⟩ => ⟨S6x8x16x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S6x8x16x1x64, .f32⟩
  | .hbm, ⟨13, _⟩ => ⟨S1x8x1x8x1, .f32⟩
  | .hbm, ⟨14, _⟩ => ⟨S6x8x16x8x64, .f32⟩
  | .hbm, ⟨15, _⟩ => ⟨S6x8x16x8x64, .f32⟩
  | .hbm, ⟨16, _⟩ => ⟨S6x8x16x8x64, .f32⟩
  | .hbm, ⟨17, _⟩ => ⟨S6x128x512, .f32⟩
  | .hbm, ⟨18, _⟩ => ⟨S6x512x128, .f32⟩
  | .hbm, ⟨19, _⟩ => ⟨S768x64, .f32⟩
  | .hbm, ⟨20, _⟩ => ⟨S6x8x16x64, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S6x8x16x1x64, .f32⟩
  | .hbm, ⟨29, _⟩ => ⟨S1x8x1x8x1, .f32⟩
  | .hbm, ⟨30, _⟩ => ⟨S6x8x16x8x64, .f32⟩
  | .hbm, ⟨31, _⟩ => ⟨S6x8x16x8x64, .f32⟩
  | .hbm, ⟨32, _⟩ => ⟨S6x8x16x8x64, .f32⟩
  | .hbm, ⟨33, _⟩ => ⟨S6x128x512, .f32⟩
  | .hbm, ⟨34, _⟩ => ⟨S6x512x128, .f32⟩
  | .hbm, ⟨35, _⟩ => ⟨S6x512x128, .f32⟩
  | .hbm, ⟨36, _⟩ => ⟨S1x6x512x128, .f32⟩
  | .hbm, ⟨37, _⟩ => ⟨S1x6x512x128, .f32⟩
  | .hbm, ⟨38, _⟩ => ⟨S2x6x512x128, .f32⟩
  | .hbm, ⟨39, _⟩ => ⟨S2x4096x3072, .f32⟩
  | .local _ .vmem, ⟨0, _⟩ => ⟨S2048x128, .f32⟩
  | .local _ .vmem, ⟨1, _⟩ => ⟨S2048x128, .f32⟩
  | .local _ .vmem, ⟨2, _⟩ => ⟨S1x1x512x128, .f32⟩
  | .local _ .vmem, ⟨3, _⟩ => ⟨S1x1x512x128, .f32⟩
  | .local _ .vmem, ⟨4, _⟩ => ⟨S1x2048x512, .f32⟩
  | .local _ .vmem, ⟨5, _⟩ => ⟨S1x2048x512, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDgradRefIdeal.lean ====
abbrev S4096x768 : Shape := ⟨2, ![4096, 768]⟩
abbrev S48x16x64 : Shape := ⟨3, ![48, 16, 64]⟩
abbrev S_ : Shape := ⟨0, ![]⟩
abbrev S4096x48x64 : Shape := ⟨3, ![4096, 48, 64]⟩
abbrev S48x16x4096 : Shape := ⟨3, ![48, 16, 4096]⟩
abbrev S4096x48x16 : Shape := ⟨3, ![4096, 48, 16]⟩
abbrev S48x4096x64 : Shape := ⟨3, ![48, 4096, 64]⟩
abbrev S1x4096x48x64 : Shape := ⟨4, ![1, 4096, 48, 64]⟩
abbrev S2x4096x48x64 : Shape := ⟨4, ![2, 4096, 48, 64]⟩
abbrev S2x4096x3072 : Shape := ⟨3, ![2, 4096, 3072]⟩

abbrev nBuf : Space → Nat
  | .hbm => 23
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S48x16x64, .f32⟩
  | .hbm, ⟨2, _⟩ => ⟨S48x16x64, .f32⟩
  | .hbm, ⟨3, _⟩ => ⟨S_, .f32⟩
  | .hbm, ⟨4, _⟩ => ⟨S4096x48x64, .f32⟩
  | .hbm, ⟨5, _⟩ => ⟨S48x16x4096, .f32⟩
  | .hbm, ⟨6, _⟩ => ⟨S4096x48x16, .f32⟩
  | .hbm, ⟨7, _⟩ => ⟨S48x16x4096, .f32⟩
  | .hbm, ⟨8, _⟩ => ⟨S4096x48x16, .f32⟩
  | .hbm, ⟨9, _⟩ => ⟨S4096x48x16, .f32⟩
  | .hbm, ⟨10, _⟩ => ⟨S4096x768, .f32⟩
  | .hbm, ⟨11, _⟩ => ⟨S4096x48x16, .f32⟩
  | .hbm, ⟨12, _⟩ => ⟨S4096x48x16, .f32⟩
  | .hbm, ⟨13, _⟩ => ⟨S48x16x4096, .f32⟩
  | .hbm, ⟨14, _⟩ => ⟨S48x4096x64, .f32⟩
  | .hbm, ⟨15, _⟩ => ⟨S4096x48x64, .f32⟩
  | .hbm, ⟨16, _⟩ => ⟨S48x16x4096, .f32⟩
  | .hbm, ⟨17, _⟩ => ⟨S48x4096x64, .f32⟩
  | .hbm, ⟨18, _⟩ => ⟨S4096x48x64, .f32⟩
  | .hbm, ⟨19, _⟩ => ⟨S1x4096x48x64, .f32⟩
  | .hbm, ⟨20, _⟩ => ⟨S1x4096x48x64, .f32⟩
  | .hbm, ⟨21, _⟩ => ⟨S2x4096x48x64, .f32⟩
  | .hbm, ⟨22, _⟩ => ⟨S2x4096x3072, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== SsmOutWgrad.lean ====
abbrev S2x4096x3072 : Shape := ⟨3, ![2, 4096, 3072]⟩
abbrev S4096x768 : Shape := ⟨2, ![4096, 768]⟩
abbrev S2x6x512x128 : Shape := ⟨4, ![2, 6, 512, 128]⟩
abbrev S1x2048x512 : Shape := ⟨3, ![1, 2048, 512]⟩
abbrev S2048x128 : Shape := ⟨2, ![2048, 128]⟩
abbrev S1x1x512x128 : Shape := ⟨4, ![1, 1, 512, 128]⟩
abbrev S512x128 : Shape := ⟨2, ![512, 128]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x3072, .f32⟩
  | .hbm, ⟨1, _⟩ => ⟨S4096x768, .f32⟩
  | .hbm, ⟨2, _⟩ => ⟨S2x6x512x128, .f32⟩
  | .local _ .vmem, ⟨0, _⟩ => ⟨S1x2048x512, .f32⟩
  | .local _ .vmem, ⟨1, _⟩ => ⟨S1x2048x512, .f32⟩
  | .local _ .vmem, ⟨2, _⟩ => ⟨S2048x128, .f32⟩
  | .local _ .vmem, ⟨3, _⟩ => ⟨S2048x128, .f32⟩
  | .local _ .vmem, ⟨4, _⟩ => ⟨S1x1x512x128, .f32⟩
  | .local _ .vmem, ⟨5, _⟩ => ⟨S1x1x512x128, .f32⟩
  | .local _ .vmem, ⟨6, _⟩ => ⟨S512x128, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutWgradRefIdeal.lean ====
abbrev S2x4096x3072 : Shape := ⟨3, ![2, 4096, 3072]⟩
abbrev S4096x768 : Shape := ⟨2, ![4096, 768]⟩
abbrev S_ : Shape := ⟨0, ![]⟩
abbrev S2x6x512x128 : Shape := ⟨4, ![2, 6, 512, 128]⟩
abbrev S2x4096x6x512 : Shape := ⟨4, ![2, 4096, 6, 512]⟩
abbrev S6x128x4096 : Shape := ⟨3, ![6, 128, 4096]⟩
abbrev S4096x6x128 : Shape := ⟨3, ![4096, 6, 128]⟩
abbrev S6x128x2x512 : Shape := ⟨4, ![6, 128, 2, 512]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x3072, .f32⟩
  | .hbm, ⟨1, _⟩ => ⟨S4096x768, .f32⟩
  | .hbm, ⟨2, _⟩ => ⟨S_, .f32⟩
  | .hbm, ⟨3, _⟩ => ⟨S2x6x512x128, .f32⟩
  | .hbm, ⟨4, _⟩ => ⟨S2x4096x6x512, .f32⟩
  | .hbm, ⟨5, _⟩ => ⟨S6x128x4096, .f32⟩
  | .hbm, ⟨6, _⟩ => ⟨S4096x6x128, .f32⟩
  | .hbm, ⟨7, _⟩ => ⟨S4096x768, .f32⟩
  | .hbm, ⟨8, _⟩ => ⟨S4096x6x128, .f32⟩
  | .hbm, ⟨9, _⟩ => ⟨S6x128x4096, .f32⟩
  | .hbm, ⟨10, _⟩ => ⟨S6x128x2x512, .f32⟩
  | .hbm, ⟨11, _⟩ => ⟨S2x6x512x128, .f32⟩
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SsmInDgrad.lean ====
abbrev S2x4096x3072 : Shape := ⟨3, ![2, 4096, 3072]⟩
abbrev S768x64 : Shape := ⟨2, ![768, 64]⟩
abbrev S6x8x16x64 : Shape := ⟨4, ![6, 8, 16, 64]⟩
abbrev S8x8 : Shape := ⟨2, ![8, 8]⟩
abbrev S_ : Shape := ⟨0, ![]⟩
abbrev S6x8x16x1x64 : Shape := ⟨5, ![6, 8, 16, 1, 64]⟩
abbrev S1x8x1x8x1 : Shape := ⟨5, ![1, 8, 1, 8, 1]⟩
abbrev S6x8x16x8x64 : Shape := ⟨5, ![6, 8, 16, 8, 64]⟩
abbrev S6x128x512 : Shape := ⟨3, ![6, 128, 512]⟩
abbrev S1x6x128x512 : Shape := ⟨4, ![1, 6, 128, 512]⟩
abbrev S2x6x128x512 : Shape := ⟨4, ![2, 6, 128, 512]⟩
abbrev S4096x768 : Shape := ⟨2, ![4096, 768]⟩
abbrev S1x2048x512 : Shape := ⟨3, ![1, 2048, 512]⟩
abbrev S1x1x128x512 : Shape := ⟨4, ![1, 1, 128, 512]⟩
abbrev S2048x128 : Shape := ⟨2, ![2048, 128]⟩
abbrev S2048x512 : Shape := ⟨2, ![2048, 512]⟩
abbrev S128x512 : Shape := ⟨2, ![128, 512]⟩

abbrev nBuf : Space → Nat
  | .hbm => 35
  | .vmem => 7
  | .smem => 0
  | _ => 0

abbrev bufTy : (tb : Table) → Fin (tcTables nBuf tb) → BufTy
  | .hbm, ⟨0, _⟩ => ⟨S2x4096x3072, .f32⟩
  | .hbm, ⟨1, _⟩ => ⟨S768x64, .f32⟩
  | .hbm, ⟨2, _⟩ => ⟨S768x64, .f32⟩
  | .hbm, ⟨3, _⟩ => ⟨S6x8x16x64, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S6x8x16x1x64, .f32⟩
  | .hbm, ⟨12, _⟩ => ⟨S1x8x1x8x1, .f32⟩
  | .hbm, ⟨13, _⟩ => ⟨S6x8x16x8x64, .f32⟩
  | .hbm, ⟨14, _⟩ => ⟨S6x8x16x8x64, .f32⟩
  | .hbm, ⟨15, _⟩ => ⟨S6x8x16x8x64, .f32⟩
  | .hbm, ⟨16, _⟩ => ⟨S6x128x512, .f32⟩
  | .hbm, ⟨17, _⟩ => ⟨S6x8x16x64, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S6x8x16x1x64, .f32⟩
  | .hbm, ⟨26, _⟩ => ⟨S1x8x1x8x1, .f32⟩
  | .hbm, ⟨27, _⟩ => ⟨S6x8x16x8x64, .f32⟩
  | .hbm, ⟨28, _⟩ => ⟨S6x8x16x8x64, .f32⟩
  | .hbm, ⟨29, _⟩ => ⟨S6x8x16x8x64, .f32⟩
  | .hbm, ⟨30, _⟩ => ⟨S6x128x512, .f32⟩
  | .hbm, ⟨31, _⟩ => ⟨S1x6x128x512, .f32⟩
  | .hbm, ⟨32, _⟩ => ⟨S1x6x128x512, .f32⟩
  | .hbm, ⟨33, _⟩ => ⟨S2x6x128x512, .f32⟩
  | .hbm, ⟨34, _⟩ => ⟨S4096x768, .f32⟩
  | .local _ .vmem, ⟨0, _⟩ => ⟨S1x2048x512, .f32⟩
  | .local _ .vmem, ⟨1, _⟩ => ⟨S1x2048x512, .f32⟩
  | .local _ .vmem, ⟨2, _⟩ => ⟨S1x1x128x512, .f32⟩
  | .local _ .vmem, ⟨3, _⟩ => ⟨S1x1x128x512, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDgradRefIdeal.lean ====
abbrev S2x4096x3072 : Shape := ⟨3, ![2, 4096, 3072]⟩
abbrev S768x64 : Shape := ⟨2, ![768, 64]⟩
abbrev S2x4096x48x64 : Shape := ⟨4, ![2, 4096, 48, 64]⟩
abbrev S1x4096x48x64 : Shape := ⟨4, ![1, 4096, 48, 64]⟩
abbrev S4096x48x64 : Shape := ⟨3, ![4096, 48, 64]⟩
abbrev S_ : Shape := ⟨0, ![]⟩
abbrev S4096x768 : Shape := ⟨2, ![4096, 768]⟩
abbrev S4096x48x16 : Shape := ⟨3, ![4096, 48, 16]⟩
abbrev S48x16x64 : Shape := ⟨3, ![48, 16, 64]⟩
abbrev S48x64x4096 : Shape := ⟨3, ![48, 64, 4096]⟩
abbrev S48x4096x16 : Shape := ⟨3, ![48, 4096, 16]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x3072, .f32⟩
  | .hbm, ⟨1, _⟩ => ⟨S768x64, .f32⟩
  | .hbm, ⟨2, _⟩ => ⟨S768x64, .f32⟩
  | .hbm, ⟨3, _⟩ => ⟨S2x4096x48x64, .f32⟩
  | .hbm, ⟨4, _⟩ => ⟨S1x4096x48x64, .f32⟩
  | .hbm, ⟨5, _⟩ => ⟨S4096x48x64, .f32⟩
  | .hbm, ⟨6, _⟩ => ⟨S1x4096x48x64, .f32⟩
  | .hbm, ⟨7, _⟩ => ⟨S4096x48x64, .f32⟩
  | .hbm, ⟨8, _⟩ => ⟨S_, .f32⟩
  | .hbm, ⟨9, _⟩ => ⟨S4096x768, .f32⟩
  | .hbm, ⟨10, _⟩ => ⟨S4096x48x16, .f32⟩
  | .hbm, ⟨11, _⟩ => ⟨S48x16x64, .f32⟩
  | .hbm, ⟨12, _⟩ => ⟨S48x64x4096, .f32⟩
  | .hbm, ⟨13, _⟩ => ⟨S4096x48x64, .f32⟩
  | .hbm, ⟨14, _⟩ => ⟨S48x16x64, .f32⟩
  | .hbm, ⟨15, _⟩ => ⟨S48x64x4096, .f32⟩
  | .hbm, ⟨16, _⟩ => ⟨S4096x48x64, .f32⟩
  | .hbm, ⟨17, _⟩ => ⟨S48x64x4096, .f32⟩
  | .hbm, ⟨18, _⟩ => ⟨S48x4096x16, .f32⟩
  | .hbm, ⟨19, _⟩ => ⟨S4096x48x16, .f32⟩
  | .hbm, ⟨20, _⟩ => ⟨S48x64x4096, .f32⟩
  | .hbm, ⟨21, _⟩ => ⟨S48x4096x16, .f32⟩
  | .hbm, ⟨22, _⟩ => ⟨S4096x48x16, .f32⟩
  | .hbm, ⟨23, _⟩ => ⟨S4096x48x16, .f32⟩
  | .hbm, ⟨24, _⟩ => ⟨S4096x768, .f32⟩
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== SsmInWgrad.lean ====
abbrev S4096x8448 : Shape := ⟨2, ![4096, 8448]⟩
abbrev S2x4096x3072 : Shape := ⟨3, ![2, 4096, 3072]⟩
abbrev S2x6x128x512 : Shape := ⟨4, ![2, 6, 128, 512]⟩
abbrev S2048x128 : Shape := ⟨2, ![2048, 128]⟩
abbrev S1x2048x512 : Shape := ⟨3, ![1, 2048, 512]⟩
abbrev S1x1x128x512 : Shape := ⟨4, ![1, 1, 128, 512]⟩
abbrev S128x512 : Shape := ⟨2, ![128, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x8448, .f32⟩
  | .hbm, ⟨1, _⟩ => ⟨S2x4096x3072, .f32⟩
  | .hbm, ⟨2, _⟩ => ⟨S2x6x128x512, .f32⟩
  | .local _ .vmem, ⟨0, _⟩ => ⟨S2048x128, .f32⟩
  | .local _ .vmem, ⟨1, _⟩ => ⟨S2048x128, .f32⟩
  | .local _ .vmem, ⟨2, _⟩ => ⟨S1x2048x512, .f32⟩
  | .local _ .vmem, ⟨3, _⟩ => ⟨S1x2048x512, .f32⟩
  | .local _ .vmem, ⟨4, _⟩ => ⟨S1x1x128x512, .f32⟩
  | .local _ .vmem, ⟨5, _⟩ => ⟨S1x1x128x512, .f32⟩
  | .local _ .vmem, ⟨6, _⟩ => ⟨S128x512, .f32⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInWgradRefIdeal.lean ====
abbrev S4096x8448 : Shape := ⟨2, ![4096, 8448]⟩
abbrev S2x4096x3072 : Shape := ⟨3, ![2, 4096, 3072]⟩
abbrev S_ : Shape := ⟨0, ![]⟩
abbrev S2x6x128x512 : Shape := ⟨4, ![2, 6, 128, 512]⟩
abbrev S4096x768 : Shape := ⟨2, ![4096, 768]⟩
abbrev S4096x6x128 : Shape := ⟨3, ![4096, 6, 128]⟩
abbrev S6x2x512x4096 : Shape := ⟨4, ![6, 2, 512, 4096]⟩
abbrev S2x4096x6x512 : Shape := ⟨4, ![2, 4096, 6, 512]⟩
abbrev S6x2x512x128 : Shape := ⟨4, ![6, 2, 512, 128]⟩

abbrev nBuf : Space → Nat
  | .hbm => 13
  | .vmem => 0
  | .smem => 0
  | _ => 0

abbrev bufTy : (tb : Table) → Fin (tcTables nBuf tb) → BufTy
  | .hbm, ⟨0, _⟩ => ⟨S4096x8448, .f32⟩
  | .hbm, ⟨1, _⟩ => ⟨S2x4096x3072, .f32⟩
  | .hbm, ⟨2, _⟩ => ⟨S_, .f32⟩
  | .hbm, ⟨3, _⟩ => ⟨S2x6x128x512, .f32⟩
  | .hbm, ⟨4, _⟩ => ⟨S4096x768, .f32⟩
  | .hbm, ⟨5, _⟩ => ⟨S4096x6x128, .f32⟩
  | .hbm, ⟨6, _⟩ => ⟨S6x2x512x4096, .f32⟩
  | .hbm, ⟨7, _⟩ => ⟨S2x4096x6x512, .f32⟩
  | .hbm, ⟨8, _⟩ => ⟨S2x4096x3072, .f32⟩
  | .hbm, ⟨9, _⟩ => ⟨S2x4096x6x512, .f32⟩
  | .hbm, ⟨10, _⟩ => ⟨S6x2x512x4096, .f32⟩
  | .hbm, ⟨11, _⟩ => ⟨S6x2x512x128, .f32⟩
  | .hbm, ⟨12, _⟩ => ⟨S2x6x128x512, .f32⟩
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== SsmDuc.lean ====
abbrev S4096x768 : Shape := ⟨2, ![4096, 768]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .bf16⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .bf16⟩
  | .local _ .vmem, ⟨5, _⟩ => ⟨S256x768, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmDucRefIdeal.lean ====
abbrev S4096x768 : Shape := ⟨2, ![4096, 768]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S_, .f32⟩
  | .hbm, ⟨3, _⟩ => ⟨S4096x768, .f32⟩
  | .hbm, ⟨4, _⟩ => ⟨S4096x768, .f32⟩
  | .hbm, ⟨5, _⟩ => ⟨S4096x768, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsmIn.lean ====
abbrev S4096x8448 : Shape := ⟨2, ![4096, 8448]⟩
abbrev S768x64 : Shape := ⟨2, ![768, 64]⟩
abbrev S6x8x16x64 : Shape := ⟨4, ![6, 8, 16, 64]⟩
abbrev S8x8 : Shape := ⟨2, ![8, 8]⟩
abbrev S_ : Shape := ⟨0, ![]⟩
abbrev S6x8x16x1x64 : Shape := ⟨5, ![6, 8, 16, 1, 64]⟩
abbrev S1x8x1x8x1 : Shape := ⟨5, ![1, 8, 1, 8, 1]⟩
abbrev S6x8x16x8x64 : Shape := ⟨5, ![6, 8, 16, 8, 64]⟩
abbrev S6x128x512 : Shape := ⟨3, ![6, 128, 512]⟩
abbrev S1x6x128x512 : Shape := ⟨4, ![1, 6, 128, 512]⟩
abbrev S2x6x128x512 : Shape := ⟨4, ![2, 6, 128, 512]⟩
abbrev S2x4096x3072 : Shape := ⟨3, ![2, 4096, 3072]⟩
abbrev S2048x128 : Shape := ⟨2, ![2048, 128]⟩
abbrev S1x1x128x512 : Shape := ⟨4, ![1, 1, 128, 512]⟩
abbrev S1x2048x512 : Shape := ⟨3, ![1, 2048, 512]⟩
abbrev S128x512 : Shape := ⟨2, ![128, 512]⟩
abbrev S2048x512 : Shape := ⟨2, ![2048, 512]⟩

abbrev nBuf : Space → Nat
  | .hbm => 35
  | .vmem => 6
  | .smem => 0
  | _ => 0

abbrev bufTy : (tb : Table) → Fin (tcTables nBuf tb) → BufTy
  | .hbm, ⟨0, _⟩ => ⟨S4096x8448, .f32⟩
  | .hbm, ⟨1, _⟩ => ⟨S768x64, .f32⟩
  | .hbm, ⟨2, _⟩ => ⟨S768x64, .f32⟩
  | .hbm, ⟨3, _⟩ => ⟨S6x8x16x64, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S6x8x16x1x64, .f32⟩
  | .hbm, ⟨12, _⟩ => ⟨S1x8x1x8x1, .f32⟩
  | .hbm, ⟨13, _⟩ => ⟨S6x8x16x8x64, .f32⟩
  | .hbm, ⟨14, _⟩ => ⟨S6x8x16x8x64, .f32⟩
  | .hbm, ⟨15, _⟩ => ⟨S6x8x16x8x64, .f32⟩
  | .hbm, ⟨16, _⟩ => ⟨S6x128x512, .f32⟩
  | .hbm, ⟨17, _⟩ => ⟨S6x8x16x64, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S6x8x16x1x64, .f32⟩
  | .hbm, ⟨26, _⟩ => ⟨S1x8x1x8x1, .f32⟩
  | .hbm, ⟨27, _⟩ => ⟨S6x8x16x8x64, .f32⟩
  | .hbm, ⟨28, _⟩ => ⟨S6x8x16x8x64, .f32⟩
  | .hbm, ⟨29, _⟩ => ⟨S6x8x16x8x64, .f32⟩
  | .hbm, ⟨30, _⟩ => ⟨S6x128x512, .f32⟩
  | .hbm, ⟨31, _⟩ => ⟨S1x6x128x512, .f32⟩
  | .hbm, ⟨32, _⟩ => ⟨S1x6x128x512, .f32⟩
  | .hbm, ⟨33, _⟩ => ⟨S2x6x128x512, .f32⟩
  | .hbm, ⟨34, _⟩ => ⟨S2x4096x3072, .f32⟩
  | .local _ .vmem, ⟨0, _⟩ => ⟨S2048x128, .f32⟩
  | .local _ .vmem, ⟨1, _⟩ => ⟨S2048x128, .f32⟩
  | .local _ .vmem, ⟨2, _⟩ => ⟨S1x1x128x512, .f32⟩
  | .local _ .vmem, ⟨3, _⟩ => ⟨S1x1x128x512, .f32⟩
  | .local _ .vmem, ⟨4, _⟩ => ⟨S1x2048x512, .f32⟩
  | .local _ .vmem, ⟨5, _⟩ => ⟨S1x2048x512, .f32⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c12_i32 : BitVec 32 := 12#32
  let v10 : BitVec 32 := Scalar.addi c12_i32 v9
  let c0_i32_3 : BitVec 32 := 0#32
  ![arg0.toNat, v10.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInRefIdeal.lean ====
abbrev S4096x8448 : Shape := ⟨2, ![4096, 8448]⟩
abbrev S768x64 : Shape := ⟨2, ![768, 64]⟩
abbrev S4096x768 : Shape := ⟨2, ![4096, 768]⟩
abbrev S4096x48x16 : Shape := ⟨3, ![4096, 48, 16]⟩
abbrev S48x16x64 : Shape := ⟨3, ![48, 16, 64]⟩
abbrev S48x64x4096 : Shape := ⟨3, ![48, 64, 4096]⟩
abbrev S4096x48x64 : Shape := ⟨3, ![4096, 48, 64]⟩
abbrev S1x4096x48x64 : Shape := ⟨4, ![1, 4096, 48, 64]⟩
abbrev S2x4096x48x64 : Shape := ⟨4, ![2, 4096, 48, 64]⟩
abbrev S2x4096x3072 : Shape := ⟨3, ![2, 4096, 3072]⟩

abbrev nBuf : Space → Nat
  | .hbm => 15
  | .vmem => 0
  | .smem => 0
  | _ => 0

abbrev bufTy : (tb : Table) → Fin (tcTables nBuf tb) → BufTy
  | .hbm, ⟨0, _⟩ => ⟨S4096x8448, .f32⟩
  | .hbm, ⟨1, _⟩ => ⟨S768x64, .f32⟩
  | .hbm, ⟨2, _⟩ => ⟨S768x64, .f32⟩
  | .hbm, ⟨3, _⟩ => ⟨S4096x768, .f32⟩
  | .hbm, ⟨4, _⟩ => ⟨S4096x48x16, .f32⟩
  | .hbm, ⟨5, _⟩ => ⟨S48x16x64, .f32⟩
  | .hbm, ⟨6, _⟩ => ⟨S48x64x4096, .f32⟩
  | .hbm, ⟨7, _⟩ => ⟨S4096x48x64, .f32⟩
  | .hbm, ⟨8, _⟩ => ⟨S48x16x64, .f32⟩
  | .hbm, ⟨9, _⟩ => ⟨S48x64x4096, .f32⟩
  | .hbm, ⟨10, _⟩ => ⟨S4096x48x64, .f32⟩
  | .hbm, ⟨11, _⟩ => ⟨S1x4096x48x64, .f32⟩
  | .hbm, ⟨12, _⟩ => ⟨S1x4096x48x64, .f32⟩
  | .hbm, ⟨13, _⟩ => ⟨S2x4096x48x64, .f32⟩
  | .hbm, ⟨14, _⟩ => ⟨S2x4096x3072, .f32⟩
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== SsmSkipGelu.lean ====
abbrev S4096x768 : Shape := ⟨2, ![4096, 768]⟩
abbrev S4096x8448 : Shape := ⟨2, ![4096, 8448]⟩
abbrev S768 : Shape := ⟨1, ![768]⟩
abbrev S1x768 : Shape := ⟨2, ![1, 768]⟩
abbrev S256x768 : Shape := ⟨2, ![256, 768]⟩

abbrev nBuf : Space → Nat
  | .hbm => 5
  | .vmem => 7
  | .smem => 0
  | _ => 0

abbrev bufTy : (tb : Table) → Fin (tcTables nBuf tb) → BufTy
  | .hbm, ⟨0, _⟩ => ⟨S4096x768, .f32⟩
  | .hbm, ⟨1, _⟩ => ⟨S4096x8448, .f32⟩
  | .hbm, ⟨2, _⟩ => ⟨S768, .f32⟩
  | .hbm, ⟨3, _⟩ => ⟨S1x768, .f32⟩
  | .hbm, ⟨4, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x768, .f32⟩
  | .local _ .vmem, ⟨5, _⟩ => ⟨S256x768, .f32⟩
  | .local _ .vmem, ⟨6, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsmSkipGeluRefIdeal.lean ====
abbrev S4096x768 : Shape := ⟨2, ![4096, 768]⟩
abbrev S4096x8448 : Shape := ⟨2, ![4096, 8448]⟩
abbrev S768 : Shape := ⟨1, ![768]⟩
abbrev S1x768 : Shape := ⟨2, ![1, 768]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x8448, .f32⟩
  | .hbm, ⟨2, _⟩ => ⟨S768, .f32⟩
  | .hbm, ⟨3, _⟩ => ⟨S4096x768, .f32⟩
  | .hbm, ⟨4, _⟩ => ⟨S1x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S_, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S_, .f32⟩
  | .hbm, ⟨15, _⟩ => ⟨S4096x768, .f32⟩
  | .hbm, ⟨16, _⟩ => ⟨S4096x768, .f32⟩
  | .hbm, ⟨17, _⟩ => ⟨S4096x768, .f32⟩
  | .hbm, ⟨18, _⟩ => ⟨S_, .f32⟩
  | .hbm, ⟨19, _⟩ => ⟨S4096x768, .f32⟩
  | .hbm, ⟨20, _⟩ => ⟨S4096x768, .f32⟩
  | .hbm, ⟨21, _⟩ => ⟨S_, .f32⟩
  | .hbm, ⟨22, _⟩ => ⟨S4096x768, .f32⟩
  | .hbm, ⟨23, _⟩ => ⟨S4096x768, .f32⟩
  | .hbm, ⟨24, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Ln.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LnRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_6 : BitVec 32 := 0#32
  let v11 : BitVec 1 := Scalar.cmpi .ne v10 c0_i32_6
  v11

def k0_cond2 (i : grid0.Coords) : BitVec 1 :=
  let arg1 : BitVec 32 := BitVec.ofNat 32 (i 1).val
  let c0_i32_7 : BitVec 32 := 0#32
  let v12 : BitVec 1 := Scalar.cmpi .sgt arg1 c0_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== LossHeadRefIdeal.lean ====
abbrev S4096x2048 : Shape := ⟨2, ![4096, 2048]⟩
abbrev S_ : Shape := ⟨0, ![]⟩
abbrev S4096 : Shape := ⟨1, ![4096]⟩
abbrev S2048 : Shape := ⟨1, ![2048]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== AdamwWIn.lean ====
abbrev S4x2048x3264 : Shape := ⟨3, ![4, 2048, 3264]⟩
abbrev S8192x3264 : Shape := ⟨2, ![8192, 3264]⟩
abbrev S128x3264 : Shape := ⟨2, ![128, 3264]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x3264, .f32⟩
  | .hbm, ⟨1, _⟩ => ⟨S4x2048x3264, .f32⟩
  | .hbm, ⟨2, _⟩ => ⟨S4x2048x3264, .f32⟩
  | .hbm, ⟨3, _⟩ => ⟨S4x2048x3264, .f32⟩
  | .hbm, ⟨4, _⟩ => ⟨S8192x3264, .f32⟩
  | .hbm, ⟨5, _⟩ => ⟨S8192x3264, .f32⟩
  | .hbm, ⟨6, _⟩ => ⟨S8192x3264, .f32⟩
  | .hbm, ⟨7, _⟩ => ⟨S8192x3264, .f32⟩
  | .hbm, ⟨8, _⟩ => ⟨S8192x3264, .f32⟩
  | .hbm, ⟨9, _⟩ => ⟨S8192x3264, .f32⟩
  | .hbm, ⟨10, _⟩ => ⟨S8192x3264, .f32⟩
  | .hbm, ⟨11, _⟩ => ⟨S8192x3264, .f32⟩
  | .local _ .vmem, ⟨0, _⟩ => ⟨S128x3264, .f32⟩
  | .local _ .vmem, ⟨1, _⟩ => ⟨S128x3264, .f32⟩
  | .local _ .vmem, ⟨2, _⟩ => ⟨S128x3264, .f32⟩
  | .local _ .vmem, ⟨3, _⟩ => ⟨S128x3264, .f32⟩
  | .local _ .vmem, ⟨4, _⟩ => ⟨S128x3264, .f32⟩
  | .local _ .vmem, ⟨5, _⟩ => ⟨S128x3264, .f32⟩
  | .local _ .vmem, ⟨6, _⟩ => ⟨S128x3264, .f32⟩
  | .local _ .vmem, ⟨7, _⟩ => ⟨S128x3264, .f32⟩
  | .local _ .vmem, ⟨8, _⟩ => ⟨S128x3264, .f32⟩
  | .local _ .vmem, ⟨9, _⟩ => ⟨S128x3264, .f32⟩
  | .local _ .vmem, ⟨10, _⟩ => ⟨S128x3264, .f32⟩
  | .local _ .vmem, ⟨11, _⟩ => ⟨S128x3264, .f32⟩
  | .local _ .vmem, ⟨12, _⟩ => ⟨S128x3264, .f32⟩
  | .local _ .vmem, ⟨13, _⟩ => ⟨S128x3264, .f32⟩
  | _, _ => ⟨S4x2048x3264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x3264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x3264 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x3264 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x3264 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x3264 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x3264 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x3264 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwWInRefIdeal.lean ====
abbrev S4x2048x3264 : Shape := ⟨3, ![4, 2048, 3264]⟩
abbrev S_ : Shape := ⟨0, ![]⟩
abbrev S8192x3264 : Shape := ⟨2, ![8192, 3264]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x3264, .f32⟩
  | .hbm, ⟨1, _⟩ => ⟨S4x2048x3264, .f32⟩
  | .hbm, ⟨2, _⟩ => ⟨S4x2048x3264, .f32⟩
  | .hbm, ⟨3, _⟩ => ⟨S4x2048x3264, .f32⟩
  | .hbm, ⟨4, _⟩ => ⟨S_, .f32⟩
  | .hbm, ⟨5, _⟩ => ⟨S4x2048x3264, .f32⟩
  | .hbm, ⟨6, _⟩ => ⟨S4x2048x3264, .f32⟩
  | .hbm, ⟨7, _⟩ => ⟨S_, .f32⟩
  | .hbm, ⟨8, _⟩ => ⟨S4x2048x3264, .f32⟩
  | .hbm, ⟨9, _⟩ => ⟨S4x2048x3264, .f32⟩
  | .hbm, ⟨10, _⟩ => ⟨S4x2048x3264, .f32⟩
  | .hbm, ⟨11, _⟩ => ⟨S_, .f32⟩
  | .hbm, ⟨12, _⟩ => ⟨S4x2048x3264, .f32⟩
  | .hbm, ⟨13, _⟩ => ⟨S4x2048x3264, .f32⟩
  | .hbm, ⟨14, _⟩ => ⟨S4x2048x3264, .f32⟩
  | .hbm, ⟨15, _⟩ => ⟨S_, .f32⟩
  | .hbm, ⟨16, _⟩ => ⟨S4x2048x3264, .f32⟩
  | .hbm, ⟨17, _⟩ => ⟨S4x2048x3264, .f32⟩
  | .hbm, ⟨18, _⟩ => ⟨S4x2048x3264, .f32⟩
  | .hbm, ⟨19, _⟩ => ⟨S_, .f32⟩
  | .hbm, ⟨20, _⟩ => ⟨S4x2048x3264, .f32⟩
  | .hbm, ⟨21, _⟩ => ⟨S4x2048x3264, .f32⟩
  | .hbm, ⟨22, _⟩ => ⟨S_, .f32⟩
  | .hbm, ⟨23, _⟩ => ⟨S4x2048x3264, .f32⟩
  | .hbm, ⟨24, _⟩ => ⟨S4x2048x3264, .f32⟩
  | .hbm, ⟨25, _⟩ => ⟨S4x2048x3264, .f32⟩
  | .hbm, ⟨26, _⟩ => ⟨S_, .f32⟩
  | .hbm, ⟨27, _⟩ => ⟨S4x2048x3264, .f32⟩
  | .hbm, ⟨28, _⟩ => ⟨S4x2048x3264, .f32⟩
  | .hbm, ⟨29, _⟩ => ⟨S4x2048x3264, .f32⟩
  | .hbm, ⟨30, _⟩ => ⟨S_, .f32⟩
  | .hbm, ⟨31, _⟩ => ⟨S4x2048x3264, .f32⟩
  | .hbm, ⟨32, _⟩ => ⟨S4x2048x3264, .f32⟩
  | .hbm, ⟨33, _⟩ => ⟨S4x2048x3264, .f32⟩
  | .hbm, ⟨34, _⟩ => ⟨S_, .f32⟩
  | .hbm, ⟨35, _⟩ => ⟨S4x2048x3264, .f32⟩
  | .hbm, ⟨36, _⟩ => ⟨S4x2048x3264, .f32⟩
  | .hbm, ⟨37, _⟩ => ⟨S8192x3264, .f32⟩
  | .hbm, ⟨38, _⟩ => ⟨S8192x3264, .f32⟩
  | .hbm, ⟨39, _⟩ => ⟨S8192x3264, .f32⟩
  | _, _ => ⟨S4x2048x3264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwWGlu.lean ====
abbrev S4x192x768 : Shape := ⟨3, ![4, 192, 768]⟩
abbrev S768x768 : Shape := ⟨2, ![768, 768]⟩
abbrev S384x768 : Shape := ⟨2, ![384, 768]⟩

abbrev nBuf : Space → Nat
  | .hbm => 12
  | .vmem => 14
  | .smem => 0
  | _ => 0

abbrev bufTy : (tb : Table) → Fin (tcTables nBuf tb) → BufTy
  | .hbm, ⟨0, _⟩ => ⟨S4x192x768, .f32⟩
  | .hbm, ⟨1, _⟩ => ⟨S4x192x768, .f32⟩
  | .hbm, ⟨2, _⟩ => ⟨S4x192x768, .f32⟩
  | .hbm, ⟨3, _⟩ => ⟨S4x192x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S768x768, .f32⟩
  | .hbm, ⟨9, _⟩ => ⟨S768x768, .f32⟩
  | .hbm, ⟨10, _⟩ => ⟨S768x768, .f32⟩
  | .hbm, ⟨11, _⟩ => ⟨S768x768, .f32⟩
  | .local _ .vmem, ⟨0, _⟩ => ⟨S384x768, .f32⟩
  | .local _ .vmem, ⟨1, _⟩ => ⟨S384x768, .f32⟩
  | .local _ .vmem, ⟨2, _⟩ => ⟨S384x768, .f32⟩
  | .local _ .vmem, ⟨3, _⟩ => ⟨S384x768, .f32⟩
  | .local _ .vmem, ⟨4, _⟩ => ⟨S384x768, .f32⟩
  | .local _ .vmem, ⟨5, _⟩ => ⟨S384x768, .f32⟩
  | .local _ .vmem, ⟨6, _⟩ => ⟨S384x768, .f32⟩
  | .local _ .vmem, ⟨7, _⟩ => ⟨S384x768, .f32⟩
  | .local _ .vmem, ⟨8, _⟩ => ⟨S384x768, .f32⟩
  | .local _ .vmem, ⟨9, _⟩ => ⟨S384x768, .f32⟩
  | .local _ .vmem, ⟨10, _⟩ => ⟨S384x768, .f32⟩
  | .local _ .vmem, ⟨11, _⟩ => ⟨S384x768, .f32⟩
  | .local _ .vmem, ⟨12, _⟩ => ⟨S384x768, .f32⟩
  | .local _ .vmem, ⟨13, _⟩ => ⟨S384x768, .f32⟩
  | _, _ => ⟨S4x192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S384x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwWGluRefIdeal.lean ====
abbrev S4x192x768 : Shape := ⟨3, ![4, 192, 768]⟩
abbrev S_ : Shape := ⟨0, ![]⟩
abbrev S768x768 : Shape := ⟨2, ![768, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x192x768, .f32⟩
  | .hbm, ⟨1, _⟩ => ⟨S4x192x768, .f32⟩
  | .hbm, ⟨2, _⟩ => ⟨S4x192x768, .f32⟩
  | .hbm, ⟨3, _⟩ => ⟨S4x192x768, .f32⟩
  | .hbm, ⟨4, _⟩ => ⟨S_, .f32⟩
  | .hbm, ⟨5, _⟩ => ⟨S4x192x768, .f32⟩
  | .hbm, ⟨6, _⟩ => ⟨S4x192x768, .f32⟩
  | .hbm, ⟨7, _⟩ => ⟨S_, .f32⟩
  | .hbm, ⟨8, _⟩ => ⟨S4x192x768, .f32⟩
  | .hbm, ⟨9, _⟩ => ⟨S4x192x768, .f32⟩
  | .hbm, ⟨10, _⟩ => ⟨S4x192x768, .f32⟩
  | .hbm, ⟨11, _⟩ => ⟨S_, .f32⟩
  | .hbm, ⟨12, _⟩ => ⟨S4x192x768, .f32⟩
  | .hbm, ⟨13, _⟩ => ⟨S4x192x768, .f32⟩
  | .hbm, ⟨14, _⟩ => ⟨S4x192x768, .f32⟩
  | .hbm, ⟨15, _⟩ => ⟨S_, .f32⟩
  | .hbm, ⟨16, _⟩ => ⟨S4x192x768, .f32⟩
  | .hbm, ⟨17, _⟩ => ⟨S4x192x768, .f32⟩
  | .hbm, ⟨18, _⟩ => ⟨S4x192x768, .f32⟩
  | .hbm, ⟨19, _⟩ => ⟨S_, .f32⟩
  | .hbm, ⟨20, _⟩ => ⟨S4x192x768, .f32⟩
  | .hbm, ⟨21, _⟩ => ⟨S4x192x768, .f32⟩
  | .hbm, ⟨22, _⟩ => ⟨S_, .f32⟩
  | .hbm, ⟨23, _⟩ => ⟨S4x192x768, .f32⟩
  | .hbm, ⟨24, _⟩ => ⟨S4x192x768, .f32⟩
  | .hbm, ⟨25, _⟩ => ⟨S4x192x768, .f32⟩
  | .hbm, ⟨26, _⟩ => ⟨S_, .f32⟩
  | .hbm, ⟨27, _⟩ => ⟨S4x192x768, .f32⟩
  | .hbm, ⟨28, _⟩ => ⟨S4x192x768, .f32⟩
  | .hbm, ⟨29, _⟩ => ⟨S4x192x768, .f32⟩
  | .hbm, ⟨30, _⟩ => ⟨S_, .f32⟩
  | .hbm, ⟨31, _⟩ => ⟨S4x192x768, .f32⟩
  | .hbm, ⟨32, _⟩ => ⟨S4x192x768, .f32⟩
  | .hbm, ⟨33, _⟩ => ⟨S4x192x768, .f32⟩
  | .hbm, ⟨34, _⟩ => ⟨S_, .f32⟩
  | .hbm, ⟨35, _⟩ => ⟨S4x192x768, .f32⟩
  | .hbm, ⟨36, _⟩ => ⟨S4x192x768, .f32⟩
  | .hbm, ⟨37, _⟩ => ⟨S768x768, .f32⟩
  | .hbm, ⟨38, _⟩ => ⟨S768x768, .f32⟩
  | .hbm, ⟨39, _⟩ => ⟨S768x768, .f32⟩
  | _, _ => ⟨S4x192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwWPa.lean ====
abbrev S4x512x512 : Shape := ⟨3, ![4, 512, 512]⟩
abbrev S2048x512 : Shape := ⟨2, ![2048, 512]⟩
abbrev S1024x512 : Shape := ⟨2, ![1024, 512]⟩

abbrev nBuf : Space → Nat
  | .hbm => 12
  | .vmem => 14
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwWPaRefIdeal.lean ====
abbrev S4x512x512 : Shape := ⟨3, ![4, 512, 512]⟩
abbrev S_ : Shape := ⟨0, ![]⟩
abbrev S2048x512 : Shape := ⟨2, ![2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S_, .f32⟩
  | .hbm, ⟨5, _⟩ => ⟨S4x512x512, .f32⟩
  | .hbm, ⟨6, _⟩ => ⟨S4x512x512, .f32⟩
  | .hbm, ⟨7, _⟩ => ⟨S_, .f32⟩
  | .hbm, ⟨8, _⟩ => ⟨S4x512x512, .f32⟩
  | .hbm, ⟨9, _⟩ => ⟨S4x512x512, .f32⟩
  | .hbm, ⟨10, _⟩ => ⟨S4x512x512, .f32⟩
  | .hbm, ⟨11, _⟩ => ⟨S_, .f32⟩
  | .hbm, ⟨12, _⟩ => ⟨S4x512x512, .f32⟩
  | .hbm, ⟨13, _⟩ => ⟨S4x512x512, .f32⟩
  | .hbm, ⟨14, _⟩ => ⟨S4x512x512, .f32⟩
  | .hbm, ⟨15, _⟩ => ⟨S_, .f32⟩
  | .hbm, ⟨16, _⟩ => ⟨S4x512x512, .f32⟩
  | .hbm, ⟨17, _⟩ => ⟨S4x512x512, .f32⟩
  | .hbm, ⟨18, _⟩ => ⟨S4x512x512, .f32⟩
  | .hbm, ⟨19, _⟩ => ⟨S_, .f32⟩
  | .hbm, ⟨20, _⟩ => ⟨S4x512x512, .f32⟩
  | .hbm, ⟨21, _⟩ => ⟨S4x512x512, .f32⟩
  | .hbm, ⟨22, _⟩ => ⟨S_, .f32⟩
  | .hbm, ⟨23, _⟩ => ⟨S4x512x512, .f32⟩
  | .hbm, ⟨24, _⟩ => ⟨S4x512x512, .f32⟩
  | .hbm, ⟨25, _⟩ => ⟨S4x512x512, .f32⟩
  | .hbm, ⟨26, _⟩ => ⟨S_, .f32⟩
  | .hbm, ⟨27, _⟩ => ⟨S4x512x512, .f32⟩
  | .hbm, ⟨28, _⟩ => ⟨S4x512x512, .f32⟩
  | .hbm, ⟨29, _⟩ => ⟨S4x512x512, .f32⟩
  | .hbm, ⟨30, _⟩ => ⟨S_, .f32⟩
  | .hbm, ⟨31, _⟩ => ⟨S4x512x512, .f32⟩
  | .hbm, ⟨32, _⟩ => ⟨S4x512x512, .f32⟩
  | .hbm, ⟨33, _⟩ => ⟨S4x512x512, .f32⟩
  | .hbm, ⟨34, _⟩ => ⟨S_, .f32⟩
  | .hbm, ⟨35, _⟩ => ⟨S4x512x512, .f32⟩
  | .hbm, ⟨36, _⟩ => ⟨S4x512x512, .f32⟩
  | .hbm, ⟨37, _⟩ => ⟨S2048x512, .f32⟩
  | .hbm, ⟨38, _⟩ => ⟨S2048x512, .f32⟩
  | .hbm, ⟨39, _⟩ => ⟨S2048x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwWPb.lean ====
abbrev S4x768x512 : Shape := ⟨3, ![4, 768, 512]⟩
abbrev S3072x512 : Shape := ⟨2, ![3072, 512]⟩
abbrev S1024x512 : Shape := ⟨2, ![1024, 512]⟩

abbrev nBuf : Space → Nat
  | .hbm => 12
  | .vmem => 14
  | .smem => 0
  | _ => 0

abbrev bufTy : (tb : Table) → Fin (tcTables nBuf tb) → BufTy
  | .hbm, ⟨0, _⟩ => ⟨S4x768x512, .f32⟩
  | .hbm, ⟨1, _⟩ => ⟨S4x768x512, .f32⟩
  | .hbm, ⟨2, _⟩ => ⟨S4x768x512, .f32⟩
  | .hbm, ⟨3, _⟩ => ⟨S4x768x512, .f32⟩
  | .hbm, ⟨4, _⟩ => ⟨S3072x512, .f32⟩
  | .hbm, ⟨5, _⟩ => ⟨S3072x512, .f32⟩
  | .hbm, ⟨6, _⟩ => ⟨S3072x512, .f32⟩
  | .hbm, ⟨7, _⟩ => ⟨S3072x512, .f32⟩
  | .hbm, ⟨8, _⟩ => ⟨S3072x512, .f32⟩
  | .hbm, ⟨9, _⟩ => ⟨S3072x512, .f32⟩
  | .hbm, ⟨10, _⟩ => ⟨S3072x512, .f32⟩
  | .hbm, ⟨11, _⟩ => ⟨S3072x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4x768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwWPbRefIdeal.lean ====
abbrev S4x768x512 : Shape := ⟨3, ![4, 768, 512]⟩
abbrev S_ : Shape := ⟨0, ![]⟩
abbrev S3072x512 : Shape := ⟨2, ![3072, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x768x512, .f32⟩
  | .hbm, ⟨1, _⟩ => ⟨S4x768x512, .f32⟩
  | .hbm, ⟨2, _⟩ => ⟨S4x768x512, .f32⟩
  | .hbm, ⟨3, _⟩ => ⟨S4x768x512, .f32⟩
  | .hbm, ⟨4, _⟩ => ⟨S_, .f32⟩
  | .hbm, ⟨5, _⟩ => ⟨S4x768x512, .f32⟩
  | .hbm, ⟨6, _⟩ => ⟨S4x768x512, .f32⟩
  | .hbm, ⟨7, _⟩ => ⟨S_, .f32⟩
  | .hbm, ⟨8, _⟩ => ⟨S4x768x512, .f32⟩
  | .hbm, ⟨9, _⟩ => ⟨S4x768x512, .f32⟩
  | .hbm, ⟨10, _⟩ => ⟨S4x768x512, .f32⟩
  | .hbm, ⟨11, _⟩ => ⟨S_, .f32⟩
  | .hbm, ⟨12, _⟩ => ⟨S4x768x512, .f32⟩
  | .hbm, ⟨13, _⟩ => ⟨S4x768x512, .f32⟩
  | .hbm, ⟨14, _⟩ => ⟨S4x768x512, .f32⟩
  | .hbm, ⟨15, _⟩ => ⟨S_, .f32⟩
  | .hbm, ⟨16, _⟩ => ⟨S4x768x512, .f32⟩
  | .hbm, ⟨17, _⟩ => ⟨S4x768x512, .f32⟩
  | .hbm, ⟨18, _⟩ => ⟨S4x768x512, .f32⟩
  | .hbm, ⟨19, _⟩ => ⟨S_, .f32⟩
  | .hbm, ⟨20, _⟩ => ⟨S4x768x512, .f32⟩
  | .hbm, ⟨21, _⟩ => ⟨S4x768x512, .f32⟩
  | .hbm, ⟨22, _⟩ => ⟨S_, .f32⟩
  | .hbm, ⟨23, _⟩ => ⟨S4x768x512, .f32⟩
  | .hbm, ⟨24, _⟩ => ⟨S4x768x512, .f32⟩
  | .hbm, ⟨25, _⟩ => ⟨S4x768x512, .f32⟩
  | .hbm, ⟨26, _⟩ => ⟨S_, .f32⟩
  | .hbm, ⟨27, _⟩ => ⟨S4x768x512, .f32⟩
  | .hbm, ⟨28, _⟩ => ⟨S4x768x512, .f32⟩
  | .hbm, ⟨29, _⟩ => ⟨S4x768x512, .f32⟩
  | .hbm, ⟨30, _⟩ => ⟨S_, .f32⟩
  | .hbm, ⟨31, _⟩ => ⟨S4x768x512, .f32⟩
  | .hbm, ⟨32, _⟩ => ⟨S4x768x512, .f32⟩
  | .hbm, ⟨33, _⟩ => ⟨S4x768x512, .f32⟩
  | .hbm, ⟨34, _⟩ => ⟨S_, .f32⟩
  | .hbm, ⟨35, _⟩ => ⟨S4x768x512, .f32⟩
  | .hbm, ⟨36, _⟩ => ⟨S4x768x512, .f32⟩
  | .hbm, ⟨37, _⟩ => ⟨S3072x512, .f32⟩
  | .hbm, ⟨38, _⟩ => ⟨S3072x512, .f32⟩
  | .hbm, ⟨39, _⟩ => ⟨S3072x512, .f32⟩
  | _, _ => ⟨S4x768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwWO.lean ====
abbrev S4x512x2048 : Shape := ⟨3, ![4, 512, 2048]⟩
abbrev S2048x2048 : Shape := ⟨2, ![2048, 2048]⟩
abbrev S256x2048 : Shape := ⟨2, ![256, 2048]⟩

abbrev nBuf : Space → Nat
  | .hbm => 12
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwWORefIdeal.lean ====
abbrev S4x512x2048 : Shape := ⟨3, ![4, 512, 2048]⟩
abbrev S_ : Shape := ⟨0, ![]⟩
abbrev S2048x2048 : Shape := ⟨2, ![2048, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | .hbm, ⟨37, _⟩ => ⟨S2048x2048, .f32⟩
  | .hbm, ⟨38, _⟩ => ⟨S2048x2048, .f32⟩
  | .hbm, ⟨39, _⟩ => ⟨S2048x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwWFfnIn.lean ====
abbrev S4x2048x2816 : Shape := ⟨3, ![4, 2048, 2816]⟩
abbrev S8192x2816 : Shape := ⟨2, ![8192, 2816]⟩
abbrev S128x2816 : Shape := ⟨2, ![128, 2816]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwWFfnInRefIdeal.lean ====
abbrev S4x2048x2816 : Shape := ⟨3, ![4, 2048, 2816]⟩
abbrev S_ : Shape := ⟨0, ![]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S_, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S4x2048x2816, .f32⟩
  | .hbm, ⟨11, _⟩ => ⟨S_, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S_, .f32⟩
  | .hbm, ⟨20, _⟩ => ⟨S4x2048x2816, .f32⟩
  | .hbm, ⟨21, _⟩ => ⟨S4x2048x2816, .f32⟩
  | .hbm, ⟨22, _⟩ => ⟨S_, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S_, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S_, .f32⟩
  | .hbm, ⟨35, _⟩ => ⟨S4x2048x2816, .f32⟩
  | .hbm, ⟨36, _⟩ => ⟨S4x2048x2816, .f32⟩
  | .hbm, ⟨37, _⟩ => ⟨S8192x2816, .f32⟩
  | .hbm, ⟨38, _⟩ => ⟨S8192x2816, .f32⟩
  | .hbm, ⟨39, _⟩ => ⟨S8192x2816, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwWFfnOut.lean ====
abbrev S4x1408x2048 : Shape := ⟨3, ![4, 1408, 2048]⟩
abbrev S5632x2048 : Shape := ⟨2, ![5632, 2048]⟩
abbrev S256x2048 : Shape := ⟨2, ![256, 2048]⟩

abbrev nBuf : Space → Nat
  | .hbm => 12
  | .vmem => 14
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S5632x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwWFfnOutRefIdeal.lean ====
abbrev S4x1408x2048 : Shape := ⟨3, ![4, 1408, 2048]⟩
abbrev S_ : Shape := ⟨0, ![]⟩
abbrev S5632x2048 : Shape := ⟨2, ![5632, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S_, .f32⟩
  | .hbm, ⟨5, _⟩ => ⟨S4x1408x2048, .f32⟩
  | .hbm, ⟨6, _⟩ => ⟨S4x1408x2048, .f32⟩
  | .hbm, ⟨7, _⟩ => ⟨S_, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S_, .f32⟩
  | .hbm, ⟨12, _⟩ => ⟨S4x1408x2048, .f32⟩
  | .hbm, ⟨13, _⟩ => ⟨S4x1408x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S4x1408x2048, .f32⟩
  | .hbm, ⟨19, _⟩ => ⟨S_, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S4x1408x2048, .f32⟩
  | .hbm, ⟨34, _⟩ => ⟨S_, .f32⟩
  | .hbm, ⟨35, _⟩ => ⟨S4x1408x2048, .f32⟩
  | .hbm, ⟨36, _⟩ => ⟨S4x1408x2048, .f32⟩
  | .hbm, ⟨37, _⟩ => ⟨S5632x2048, .f32⟩
  | .hbm, ⟨38, _⟩ => ⟨S5632x2048, .f32⟩
  | .hbm, ⟨39, _⟩ => ⟨S5632x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwSmall.lean ====
abbrev S10200x128 : Shape := ⟨2, ![10200, 128]⟩

abbrev nBuf : Space → Nat
  | .hbm => 7
  | .vmem => 7
  | .smem => 0
  | _ => 0

abbrev bufTy : (tb : Table) → Fin (tcTables nBuf tb) → BufTy
  | .hbm, ⟨0, _⟩ => ⟨S10200x128, .f32⟩
  | .hbm, ⟨1, _⟩ => ⟨S10200x128, .f32⟩
  | .hbm, ⟨2, _⟩ => ⟨S10200x128, .f32⟩
  | .hbm, ⟨3, _⟩ => ⟨S10200x128, .f32⟩
  | .hbm, ⟨4, _⟩ => ⟨S10200x128, .f32⟩
  | .hbm, ⟨5, _⟩ => ⟨S10200x128, .f32⟩
  | .hbm, ⟨6, _⟩ => ⟨S10200x128, .f32⟩
  | .local _ .vmem, ⟨0, _⟩ => ⟨S10200x128, .f32⟩
  | .local _ .vmem, ⟨1, _⟩ => ⟨S10200x128, .f32⟩
  | .local _ .vmem, ⟨2, _⟩ => ⟨S10200x128, .f32⟩
  | .local _ .vmem, ⟨3, _⟩ => ⟨S10200x128, .f32⟩
  | .local _ .vmem, ⟨4, _⟩ => ⟨S10200x128, .f32⟩
  | .local _ .vmem, ⟨5, _⟩ => ⟨S10200x128, .f32⟩
  | .local _ .vmem, ⟨6, _⟩ => ⟨S10200x128, .f32⟩
  | _, _ => ⟨S10200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S10200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S10200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S10200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S10200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S10200x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S10200x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S10200x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamwSmallRefIdeal.lean ====
abbrev S10200x128 : Shape := ⟨2, ![10200, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S10200x128, .f32⟩
  | .hbm, ⟨1, _⟩ => ⟨S10200x128, .f32⟩
  | .hbm, ⟨2, _⟩ => ⟨S10200x128, .f32⟩
  | .hbm, ⟨3, _⟩ => ⟨S10200x128, .f32⟩
  | .hbm, ⟨4, _⟩ => ⟨S_, .f32⟩
  | .hbm, ⟨5, _⟩ => ⟨S10200x128, .f32⟩
  | .hbm, ⟨6, _⟩ => ⟨S10200x128, .f32⟩
  | .hbm, ⟨7, _⟩ => ⟨S_, .f32⟩
  | .hbm, ⟨8, _⟩ => ⟨S10200x128, .f32⟩
  | .hbm, ⟨9, _⟩ => ⟨S10200x128, .f32⟩
  | .hbm, ⟨10, _⟩ => ⟨S10200x128, .f32⟩
  | .hbm, ⟨11, _⟩ => ⟨S_, .f32⟩
  | .hbm, ⟨12, _⟩ => ⟨S10200x128, .f32⟩
  | .hbm, ⟨13, _⟩ => ⟨S10200x128, .f32⟩
  | .hbm, ⟨14, _⟩ => ⟨S10200x128, .f32⟩
  | .hbm, ⟨15, _⟩ => ⟨S_, .f32⟩
  | .hbm, ⟨16, _⟩ => ⟨S10200x128, .f32⟩
  | .hbm, ⟨17, _⟩ => ⟨S10200x128, .f32⟩
  | .hbm, ⟨18, _⟩ => ⟨S10200x128, .f32⟩
  | .hbm, ⟨19, _⟩ => ⟨S_, .f32⟩
  | .hbm, ⟨20, _⟩ => ⟨S10200x128, .f32⟩
  | .hbm, ⟨21, _⟩ => ⟨S10200x128, .f32⟩
  | .hbm, ⟨22, _⟩ => ⟨S_, .f32⟩
  | .hbm, ⟨23, _⟩ => ⟨S10200x128, .f32⟩
  | .hbm, ⟨24, _⟩ => ⟨S10200x128, .f32⟩
  | .hbm, ⟨25, _⟩ => ⟨S10200x128, .f32⟩
  | .hbm, ⟨26, _⟩ => ⟨S_, .f32⟩
  | .hbm, ⟨27, _⟩ => ⟨S10200x128, .f32⟩
  | .hbm, ⟨28, _⟩ => ⟨S10200x128, .f32⟩
  | .hbm, ⟨29, _⟩ => ⟨S10200x128, .f32⟩
  | .hbm, ⟨30, _⟩ => ⟨S_, .f32⟩
  | .hbm, ⟨31, _⟩ => ⟨S10200x128, .f32⟩
  | .hbm, ⟨32, _⟩ => ⟨S10200x128, .f32⟩
  | .hbm, ⟨33, _⟩ => ⟨S10200x128, .f32⟩
  | .hbm, ⟨34, _⟩ => ⟨S_, .f32⟩
  | .hbm, ⟨35, _⟩ => ⟨S10200x128, .f32⟩
  | .hbm, ⟨36, _⟩ => ⟨S10200x128, .f32⟩
  | _, _ => ⟨S10200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SguFwd.lean ====
abbrev S4096x8448 : Shape := ⟨2, ![4096, 8448]⟩
abbrev S768 : Shape := ⟨1, ![768]⟩
abbrev S6x128x128 : Shape := ⟨3, ![6, 128, 128]⟩
abbrev S6x128 : Shape := ⟨2, ![6, 128]⟩
abbrev S1x768 : Shape := ⟨2, ![1, 768]⟩
abbrev S128x128 : Shape := ⟨2, ![128, 128]⟩
abbrev S_ : Shape := ⟨0, ![]⟩
abbrev S6x128x1 : Shape := ⟨3, ![6, 128, 1]⟩
abbrev S4096x768 : Shape := ⟨2, ![4096, 768]⟩
abbrev S128x768 : Shape := ⟨2, ![128, 768]⟩
abbrev S128 : Shape := ⟨1, ![128]⟩
abbrev S128x1 : Shape := ⟨2, ![128, 1]⟩
abbrev S1x128x128 : Shape := ⟨3, ![1, 128, 128]⟩
abbrev S1x128x1 : Shape := ⟨3, ![1, 128, 1]⟩

abbrev nBuf : Space → Nat
  | .hbm => 20
  | .vmem => 10
  | .smem => 0
  | _ => 0

abbrev bufTy : (tb : Table) → Fin (tcTables nBuf tb) → BufTy
  | .hbm, ⟨0, _⟩ => ⟨S4096x8448, .f32⟩
  | .hbm, ⟨1, _⟩ => ⟨S768, .f32⟩
  | .hbm, ⟨2, _⟩ => ⟨S768, .f32⟩
  | .hbm, ⟨3, _⟩ => ⟨S6x128x128, .f32⟩
  | .hbm, ⟨4, _⟩ => ⟨S6x128, .f32⟩
  | .hbm, ⟨5, _⟩ => ⟨S1x768, .f32⟩
  | .hbm, ⟨6, _⟩ => ⟨S1x768, .f32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S6x128x128, .i1⟩
  | .hbm, ⟨14, _⟩ => ⟨S_, .f32⟩
  | .hbm, ⟨15, _⟩ => ⟨S6x128x128, .f32⟩
  | .hbm, ⟨16, _⟩ => ⟨S6x128x128, .f32⟩
  | .hbm, ⟨17, _⟩ => ⟨S6x128x128, .bf16⟩
  | .hbm, ⟨18, _⟩ => ⟨S6x128x1, .f32⟩
  | .hbm, ⟨19, _⟩ => ⟨S4096x768, .bf16⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S1x768, .f32⟩
  | .local _ .vmem, ⟨5, _⟩ => ⟨S1x768, .f32⟩
  | .local _ .vmem, ⟨6, _⟩ => ⟨S6x128x128, .bf16⟩
  | .local _ .vmem, ⟨7, _⟩ => ⟨S6x128x1, .f32⟩
  | .local _ .vmem, ⟨8, _⟩ => ⟨S128x768, .bf16⟩
  | .local _ .vmem, ⟨9, _⟩ => ⟨S128x768, .bf16⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_cst : Ref sig .tc := ⟨.hbm, 14, rfl⟩
abbrev main_call0_v6 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdRefIdeal.lean ====
abbrev S4096x8448 : Shape := ⟨2, ![4096, 8448]⟩
abbrev S768 : Shape := ⟨1, ![768]⟩
abbrev S6x128x128 : Shape := ⟨3, ![6, 128, 128]⟩
abbrev S6x128 : Shape := ⟨2, ![6, 128]⟩
abbrev S128x128 : Shape := ⟨2, ![128, 128]⟩
abbrev S_ : Shape := ⟨0, ![]⟩
abbrev S4096x1536 : Shape := ⟨2, ![4096, 1536]⟩
abbrev S4096x768 : Shape := ⟨2, ![4096, 768]⟩
abbrev S4096 : Shape := ⟨1, ![4096]⟩
abbrev S4096x1 : Shape := ⟨2, ![4096, 1]⟩
abbrev S1x768 : Shape := ⟨2, ![1, 768]⟩
abbrev S32x128x6x128 : Shape := ⟨4, ![32, 128, 6, 128]⟩
abbrev S6x32x128x128 : Shape := ⟨4, ![6, 32, 128, 128]⟩
abbrev S128x6 : Shape := ⟨2, ![128, 6]⟩
abbrev S128x6x1 : Shape := ⟨3, ![128, 6, 1]⟩
abbrev S1x128x6x1 : Shape := ⟨4, ![1, 128, 6, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096x8448, .f32⟩
  | .hbm, ⟨1, _⟩ => ⟨S768, .f32⟩
  | .hbm, ⟨2, _⟩ => ⟨S768, .f32⟩
  | .hbm, ⟨3, _⟩ => ⟨S6x128x128, .f32⟩
  | .hbm, ⟨4, _⟩ => ⟨S6x128, .f32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S6x128x128, .i1⟩
  | .hbm, ⟨12, _⟩ => ⟨S_, .f32⟩
  | .hbm, ⟨13, _⟩ => ⟨S6x128x128, .f32⟩
  | .hbm, ⟨14, _⟩ => ⟨S6x128x128, .f32⟩
  | .hbm, ⟨15, _⟩ => ⟨S4096x1536, .f32⟩
  | .hbm, ⟨16, _⟩ => ⟨S4096x1536, .f32⟩
  | .hbm, ⟨17, _⟩ => ⟨S4096x1536, .f32⟩
  | .hbm, ⟨18, _⟩ => ⟨S_, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S_, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S4096x768, .f32⟩
  | .hbm, ⟨34, _⟩ => ⟨S4096x768, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x768, .f32⟩
  | .hbm, ⟨42, _⟩ => ⟨S4096x768, .f32⟩
  | .hbm, ⟨43, _⟩ => ⟨S4096x768, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x768, .f32⟩
  | .hbm, ⟨51, _⟩ => ⟨S4096x768, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x768, .f32⟩
  | .hbm, ⟨57, _⟩ => ⟨S4096x768, .f32⟩
  | .hbm, ⟨58, _⟩ => ⟨S1x768, .f32⟩
  | .hbm, ⟨59, _⟩ => ⟨S4096x768, .f32⟩
  | .hbm, ⟨60, _⟩ => ⟨S4096x768, .f32⟩
  | .hbm, ⟨61, _⟩ => ⟨S1x768, .f32⟩
  | .hbm, ⟨62, _⟩ => ⟨S4096x768, .f32⟩
  | .hbm, ⟨63, _⟩ => ⟨S4096x768, .f32⟩
  | .hbm, ⟨64, _⟩ => ⟨S32x128x6x128, .f32⟩
  | .hbm, ⟨65, _⟩ => ⟨S6x32x128x128, .f32⟩
  | .hbm, ⟨66, _⟩ => ⟨S32x128x6x128, .f32⟩
  | .hbm, ⟨67, _⟩ => ⟨S128x6, .f32⟩
  | .hbm, ⟨68, _⟩ => ⟨S128x6x1, .f32⟩
  | .hbm, ⟨69, _⟩ => ⟨S1x128x6x1, .f32⟩
  | .hbm, ⟨70, _⟩ => ⟨S32x128x6x128, .f32⟩
  | .hbm, ⟨71, _⟩ => ⟨S32x128x6x128, .f32⟩
  | .hbm, ⟨72, _⟩ => ⟨S4096x768, .f32⟩
  | .hbm, ⟨73, _⟩ => ⟨S4096x768, .f32⟩
  | .hbm, ⟨74, _⟩ => ⟨S4096x768, .bf16⟩
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst : Ref sig .tc := ⟨.hbm, 12, rfl⟩
abbrev main_call0_v6 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== SsmOut.lean ====
abbrev S2x4096x3072 : Shape := ⟨3, ![2, 4096, 3072]⟩
abbrev S48x16x64 : Shape := ⟨3, ![48, 16, 64]⟩
abbrev S768x64 : Shape := ⟨2, ![768, 64]⟩
abbrev S6x8x16x64 : Shape := ⟨4, ![6, 8, 16, 64]⟩
abbrev S8x8 : Shape := ⟨2, ![8, 8]⟩
abbrev S_ : Shape := ⟨0, ![]⟩
abbrev S6x8x16x1x64 : Shape := ⟨5, ![6, 8, 16, 1, 64]⟩
abbrev S1x8x1x8x1 : Shape := ⟨5, ![1, 8, 1, 8, 1]⟩
abbrev S6x8x16x8x64 : Shape := ⟨5, ![6, 8, 16, 8, 64]⟩
abbrev S6x128x512 : Shape := ⟨3, ![6, 128, 512]⟩
abbrev S6x512x128 : Shape := ⟨3, ![6, 512, 128]⟩
abbrev S1x6x512x128 : Shape := ⟨4, ![1, 6, 512, 128]⟩
abbrev S2x6x512x128 : Shape := ⟨4, ![2, 6, 512, 128]⟩
abbrev S4096x768 : Shape := ⟨2, ![4096, 768]⟩
abbrev S1x2048x512 : Shape := ⟨3, ![1, 2048, 512]⟩
abbrev S1x1x512x128 : Shape := ⟨4, ![1, 1, 512, 128]⟩
abbrev S2048x128 : Shape := ⟨2, ![2048, 128]⟩
abbrev S2048x512 : Shape := ⟨2, ![2048, 512]⟩
abbrev S512x128 : Shape := ⟨2, ![512, 128]⟩

abbrev nBuf : Space → Nat
  | .hbm => 40
  | .vmem => 7
  | .smem => 0
  | _ => 0

abbrev bufTy : (tb : Table) → Fin (tcTables nBuf tb) → BufTy
  | .hbm, ⟨0, _⟩ => ⟨S2x4096x3072, .f32⟩
  | .hbm, ⟨1, _⟩ => ⟨S48x16x64, .f32⟩
  | .hbm, ⟨2, _⟩ => ⟨S48x16x64, .f32⟩
  | .hbm, ⟨3, _⟩ => ⟨S768x64, .f32⟩
  | .hbm, ⟨4, _⟩ => ⟨S6x8x16x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S6x8x16x1x64, .f32⟩
  | .hbm, ⟨13, _⟩ => ⟨S1x8x1x8x1, .f32⟩
  | .hbm, ⟨14, _⟩ => ⟨S6x8x16x8x64, .f32⟩
  | .hbm, ⟨15, _⟩ => ⟨S6x8x16x8x64, .f32⟩
  | .hbm, ⟨16, _⟩ => ⟨S6x8x16x8x64, .f32⟩
  | .hbm, ⟨17, _⟩ => ⟨S6x128x512, .f32⟩
  | .hbm, ⟨18, _⟩ => ⟨S6x512x128, .f32⟩
  | .hbm, ⟨19, _⟩ => ⟨S768x64, .f32⟩
  | .hbm, ⟨20, _⟩ => ⟨S6x8x16x64, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S6x8x16x1x64, .f32⟩
  | .hbm, ⟨29, _⟩ => ⟨S1x8x1x8x1, .f32⟩
  | .hbm, ⟨30, _⟩ => ⟨S6x8x16x8x64, .f32⟩
  | .hbm, ⟨31, _⟩ => ⟨S6x8x16x8x64, .f32⟩
  | .hbm, ⟨32, _⟩ => ⟨S6x8x16x8x64, .f32⟩
  | .hbm, ⟨33, _⟩ => ⟨S6x128x512, .f32⟩
  | .hbm, ⟨34, _⟩ => ⟨S6x512x128, .f32⟩
  | .hbm, ⟨35, _⟩ => ⟨S6x512x128, .f32⟩
  | .hbm, ⟨36, _⟩ => ⟨S1x6x512x128, .f32⟩
  | .hbm, ⟨37, _⟩ => ⟨S1x6x512x128, .f32⟩
  | .hbm, ⟨38, _⟩ => ⟨S2x6x512x128, .f32⟩
  | .hbm, ⟨39, _⟩ => ⟨S4096x768, .f32⟩
  | .local _ .vmem, ⟨0, _⟩ => ⟨S1x2048x512, .f32⟩
  | .local _ .vmem, ⟨1, _⟩ => ⟨S1x2048x512, .f32⟩
  | .local _ .vmem, ⟨2, _⟩ => ⟨S1x1x512x128, .f32⟩
  | .local _ .vmem, ⟨3, _⟩ => ⟨S1x1x512x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutRefIdeal.lean ====
abbrev S2x4096x3072 : Shape := ⟨3, ![2, 4096, 3072]⟩
abbrev S48x16x64 : Shape := ⟨3, ![48, 16, 64]⟩
abbrev S2x4096x48x64 : Shape := ⟨4, ![2, 4096, 48, 64]⟩
abbrev S1x4096x48x64 : Shape := ⟨4, ![1, 4096, 48, 64]⟩
abbrev S4096x48x64 : Shape := ⟨3, ![4096, 48, 64]⟩
abbrev S48x16x4096 : Shape := ⟨3, ![48, 16, 4096]⟩
abbrev S4096x48x16 : Shape := ⟨3, ![4096, 48, 16]⟩
abbrev S4096x768 : Shape := ⟨2, ![4096, 768]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x3072, .f32⟩
  | .hbm, ⟨1, _⟩ => ⟨S48x16x64, .f32⟩
  | .hbm, ⟨2, _⟩ => ⟨S48x16x64, .f32⟩
  | .hbm, ⟨3, _⟩ => ⟨S2x4096x48x64, .f32⟩
  | .hbm, ⟨4, _⟩ => ⟨S1x4096x48x64, .f32⟩
  | .hbm, ⟨5, _⟩ => ⟨S4096x48x64, .f32⟩
  | .hbm, ⟨6, _⟩ => ⟨S48x16x4096, .f32⟩
  | .hbm, ⟨7, _⟩ => ⟨S4096x48x16, .f32⟩
  | .hbm, ⟨8, _⟩ => ⟨S1x4096x48x64, .f32⟩
  | .hbm, ⟨9, _⟩ => ⟨S4096x48x64, .f32⟩
  | .hbm, ⟨10, _⟩ => ⟨S48x16x4096, .f32⟩
  | .hbm, ⟨11, _⟩ => ⟨S4096x48x16, .f32⟩
  | .hbm, ⟨12, _⟩ => ⟨S4096x48x16, .f32⟩
  | .hbm, ⟨13, _⟩ => ⟨S4096x768, .f32⟩
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== SsmParams.lean ====
abbrev S48x64 : Shape := ⟨2, ![48, 64]⟩
abbrev S48 : Shape := ⟨1, ![48]⟩
abbrev S48x64x16 : Shape := ⟨3, ![48, 64, 16]⟩
abbrev S48x1 : Shape := ⟨2, ![48, 1]⟩
abbrev S48x16x64 : Shape := ⟨3, ![48, 16, 64]⟩
abbrev S768x64 : Shape := ⟨2, ![768, 64]⟩
abbrev S48x16x1 : Shape := ⟨3, ![48, 16, 1]⟩
abbrev S768x1 : Shape := ⟨2, ![768, 1]⟩

abbrev nBuf : Space → Nat
  | .hbm => 20
  | .vmem => 12
  | .smem => 0
  | _ => 0

abbrev bufTy : (tb : Table) → Fin (tcTables nBuf tb) → BufTy
  | .hbm, ⟨0, _⟩ => ⟨S48x64, .f32⟩
  | .hbm, ⟨1, _⟩ => ⟨S48x64, .f32⟩
  | .hbm, ⟨2, _⟩ => ⟨S48, .f32⟩
  | .hbm, ⟨3, _⟩ => ⟨S48x64x16, .f32⟩
  | .hbm, ⟨4, _⟩ => ⟨S48x64x16, .f32⟩
  | .hbm, ⟨5, _⟩ => ⟨S48x1, .f32⟩
  | .hbm, ⟨6, _⟩ => ⟨S48x16x64, .f32⟩
  | .hbm, ⟨7, _⟩ => ⟨S768x64, .f32⟩
  | .hbm, ⟨8, _⟩ => ⟨S48x16x64, .f32⟩
  | .hbm, ⟨9, _⟩ => ⟨S768x64, .f32⟩
  | .hbm, ⟨10, _⟩ => ⟨S48x16x64, .f32⟩
  | .hbm, ⟨11, _⟩ => ⟨S768x64, .f32⟩
  | .hbm, ⟨12, _⟩ => ⟨S48x16x64, .f32⟩
  | .hbm, ⟨13, _⟩ => ⟨S768x64, .f32⟩
  | .hbm, ⟨14, _⟩ => ⟨S48x16x1, .f32⟩
  | .hbm, ⟨15, _⟩ => ⟨S768x1, .f32⟩
  | .hbm, ⟨16, _⟩ => ⟨S48x64, .f32⟩
  | .hbm, ⟨17, _⟩ => ⟨S48x64, .f32⟩
  | .hbm, ⟨18, _⟩ => ⟨S768x64, .f32⟩
  | .hbm, ⟨19, _⟩ => ⟨S768x64, .f32⟩
  | .local _ .vmem, ⟨0, _⟩ => ⟨S48x64, .f32⟩
  | .local _ .vmem, ⟨1, _⟩ => ⟨S48x64, .f32⟩
  | .local _ .vmem, ⟨2, _⟩ => ⟨S48x1, .f32⟩
  | .local _ .vmem, ⟨3, _⟩ => ⟨S768x64, .f32⟩
  | .local _ .vmem, ⟨4, _⟩ => ⟨S768x64, .f32⟩
  | .local _ .vmem, ⟨5, _⟩ => ⟨S768x1, .f32⟩
  | .local _ .vmem, ⟨6, _⟩ => ⟨S768x64, .f32⟩
  | .local _ .vmem, ⟨7, _⟩ => ⟨S768x64, .f32⟩
  | .local _ .vmem, ⟨8, _⟩ => ⟨S48x64, .f32⟩
  | .local _ .vmem, ⟨9, _⟩ => ⟨S48x64, .f32⟩
  | .local _ .vmem, ⟨10, _⟩ => ⟨S768x64, .f32⟩
  | .local _ .vmem, ⟨11, _⟩ => ⟨S768x64, .f32⟩
  | _, _ => ⟨S48x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S48x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S768x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== SsmParamsRefIdeal.lean ====
abbrev S48x64 : Shape := ⟨2, ![48, 64]⟩
abbrev S48 : Shape := ⟨1, ![48]⟩
abbrev S48x64x16 : Shape := ⟨3, ![48, 64, 16]⟩
abbrev S48x1 : Shape := ⟨2, ![48, 1]⟩
abbrev S_ : Shape := ⟨0, ![]⟩
abbrev S48x64x1 : Shape := ⟨3, ![48, 64, 1]⟩
abbrev S48x16x64 : Shape := ⟨3, ![48, 16, 64]⟩
abbrev S768x64 : Shape := ⟨2, ![768, 64]⟩

abbrev nBuf : Space → Nat
  | .hbm => 53
  | .vmem => 0
  | .smem => 0
  | _ => 0

abbrev bufTy : (tb : Table) → Fin (tcTables nBuf tb) → BufTy
  | .hbm, ⟨0, _⟩ => ⟨S48x64, .f32⟩
  | .hbm, ⟨1, _⟩ => ⟨S48x64, .f32⟩
  | .hbm, ⟨2, _⟩ => ⟨S48, .f32⟩
  | .hbm, ⟨3, _⟩ => ⟨S48x64x16, .f32⟩
  | .hbm, ⟨4, _⟩ => ⟨S48x64x16, .f32⟩
  | .hbm, ⟨5, _⟩ => ⟨S48, .f32⟩
  | .hbm, ⟨6, _⟩ => ⟨S48x1, .f32⟩
  | .hbm, ⟨7, _⟩ => ⟨S48x64, .f32⟩
  | .hbm, ⟨8, _⟩ => ⟨S48x64, .f32⟩
  | .hbm, ⟨9, _⟩ => ⟨S48x64, .f32⟩
  | .hbm, ⟨10, _⟩ => ⟨S48x64, .f32⟩
  | .hbm, ⟨11, _⟩ => ⟨S48x64, .f32⟩
  | .hbm, ⟨12, _⟩ => ⟨S48x64, .f32⟩
  | .hbm, ⟨13, _⟩ => ⟨S48x64, .f32⟩
  | .hbm, ⟨14, _⟩ => ⟨S48x64, .f32⟩
  | .hbm, ⟨15, _⟩ => ⟨S48x64, .f32⟩
  | .hbm, ⟨16, _⟩ => ⟨S48x64, .f32⟩
  | .hbm, ⟨17, _⟩ => ⟨S48x64, .f32⟩
  | .hbm, ⟨18, _⟩ => ⟨S48x64, .f32⟩
  | .hbm, ⟨19, _⟩ => ⟨S48x64, .f32⟩
  | .hbm, ⟨20, _⟩ => ⟨S48x64, .f32⟩
  | .hbm, ⟨21, _⟩ => ⟨S_, .f32⟩
  | .hbm, ⟨22, _⟩ => ⟨S48x64, .f32⟩
  | .hbm, ⟨23, _⟩ => ⟨S48x64, .f32⟩
  | .hbm, ⟨24, _⟩ => ⟨S48x64, .f32⟩
  | .hbm, ⟨25, _⟩ => ⟨S48x64, .f32⟩
  | .hbm, ⟨26, _⟩ => ⟨S48x64, .f32⟩
  | .hbm, ⟨27, _⟩ => ⟨S48x64, .f32⟩
  | .hbm, ⟨28, _⟩ => ⟨S48x64, .f32⟩
  | .hbm, ⟨29, _⟩ => ⟨S_, .f32⟩
  | .hbm, ⟨30, _⟩ => ⟨S48x64, .f32⟩
  | .hbm, ⟨31, _⟩ => ⟨S48x64, .f32⟩
  | .hbm, ⟨32, _⟩ => ⟨S48x64, .f32⟩
  | .hbm, ⟨33, _⟩ => ⟨S48x64, .f32⟩
  | .hbm, ⟨34, _⟩ => ⟨S48x64, .f32⟩
  | .hbm, ⟨35, _⟩ => ⟨S48x64x1, .f32⟩
  | .hbm, ⟨36, _⟩ => ⟨S48x64x16, .f32⟩
  | .hbm, ⟨37, _⟩ => ⟨S48x64x16, .f32⟩
  | .hbm, ⟨38, _⟩ => ⟨S48x64x1, .f32⟩
  | .hbm, ⟨39, _⟩ => ⟨S48x64x16, .f32⟩
  | .hbm, ⟨40, _⟩ => ⟨S48x64x16, .f32⟩
  | .hbm, ⟨41, _⟩ => ⟨S48x64x16, .f32⟩
  | .hbm, ⟨42, _⟩ => ⟨S48x64x1, .f32⟩
  | .hbm, ⟨43, _⟩ => ⟨S48x64x16, .f32⟩
  | .hbm, ⟨44, _⟩ => ⟨S48x64x16, .f32⟩
  | .hbm, ⟨45, _⟩ => ⟨S48x64x1, .f32⟩
  | .hbm, ⟨46, _⟩ => ⟨S48x64x16, .f32⟩
  | .hbm, ⟨47, _⟩ => ⟨S48x64x16, .f32⟩
  | .hbm, ⟨48, _⟩ => ⟨S48x64x16, .f32⟩
  | .hbm, ⟨49, _⟩ => ⟨S48x16x64, .f32⟩
  | .hbm, ⟨50, _⟩ => ⟨S768x64, .f32⟩
  | .hbm, ⟨51, _⟩ => ⟨S48x16x64, .f32⟩
  | .hbm, ⟨52, _⟩ => ⟨S768x64, .f32⟩
  | _, _ => ⟨S48x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== AttnFwd.lean ====
abbrev S4096x4608 : Shape := ⟨2, ![4096, 4608]⟩
abbrev S3x8x128x256 : Shape := ⟨4, ![3, 8, 128, 256]⟩
abbrev S4096x3x3x8x64 : Shape := ⟨5, ![4096, 3, 3, 8, 64]⟩
abbrev S4096x3x1x8x64 : Shape := ⟨5, ![4096, 3, 1, 8, 64]⟩
abbrev S4096x3x8x64 : Shape := ⟨4, ![4096, 3, 8, 64]⟩
abbrev S4096x1x3x8x64 : Shape := ⟨5, ![4096, 1, 3, 8, 64]⟩
abbrev S3x8x1x4096x64 : Shape := ⟨5, ![3, 8, 1, 4096, 64]⟩
abbrev S3x8x4096x64 : Shape := ⟨4, ![3, 8, 4096, 64]⟩
abbrev S1024x4x3x8x64 : Shape := ⟨5, ![1024, 4, 3, 8, 64]⟩
abbrev S3x8x4x1024x64 : Shape := ⟨5, ![3, 8, 4, 1024, 64]⟩
abbrev S256x16x3x8x64 : Shape := ⟨5, ![256, 16, 3, 8, 64]⟩
abbrev S3x8x16x256x64 : Shape := ⟨5, ![3, 8, 16, 256, 64]⟩
abbrev S1x3x8x4096x64 : Shape := ⟨5, ![1, 3, 8, 4096, 64]⟩
abbrev S3x3x8x4096x64 : Shape := ⟨5, ![3, 3, 8, 4096, 64]⟩
abbrev S1x1x8x128x64 : Shape := ⟨5, ![1, 1, 8, 128, 64]⟩
abbrev S1x8x128x256 : Shape := ⟨4, ![1, 8, 128, 256]⟩
abbrev S1x8x128x64 : Shape := ⟨4, ![1, 8, 128, 64]⟩
abbrev S128x128 : Shape := ⟨2, ![128, 128]⟩
abbrev S1x1x1x128x64 : Shape := ⟨5, ![1, 1, 1, 128, 64]⟩
abbrev S128x64 : Shape := ⟨2, ![128, 64]⟩
abbrev S1x1x128x256 : Shape := ⟨4, ![1, 1, 128, 256]⟩
abbrev S128x256 : Shape := ⟨2, ![128, 256]⟩
abbrev S128 : Shape := ⟨1, ![128]⟩
abbrev S128x1 : Shape := ⟨2, ![128, 1]⟩
abbrev S1x1x128x64 : Shape := ⟨4, ![1, 1, 128, 64]⟩

abbrev nBuf : Space → Nat
  | .hbm => 24
  | .vmem => 16
  | .smem => 0
  | _ => 0

abbrev bufTy : (tb : Table) → Fin (tcTables nBuf tb) → BufTy
  | .hbm, ⟨0, _⟩ => ⟨S4096x4608, .bf16⟩
  | .hbm, ⟨1, _⟩ => ⟨S3x8x128x256, .f32⟩
  | .hbm, ⟨2, _⟩ => ⟨S4096x3x3x8x64, .bf16⟩
  | .hbm, ⟨3, _⟩ => ⟨S4096x3x1x8x64, .bf16⟩
  | .hbm, ⟨4, _⟩ => ⟨S4096x3x8x64, .bf16⟩
  | .hbm, ⟨5, _⟩ => ⟨S4096x1x3x8x64, .bf16⟩
  | .hbm, ⟨6, _⟩ => ⟨S3x8x1x4096x64, .bf16⟩
  | .hbm, ⟨7, _⟩ => ⟨S3x8x4096x64, .bf16⟩
  | .hbm, ⟨8, _⟩ => ⟨S4096x3x1x8x64, .bf16⟩
  | .hbm, ⟨9, _⟩ => ⟨S4096x3x8x64, .bf16⟩
  | .hbm, ⟨10, _⟩ => ⟨S1024x4x3x8x64, .bf16⟩
  | .hbm, ⟨11, _⟩ => ⟨S3x8x4x1024x64, .bf16⟩
  | .hbm, ⟨12, _⟩ => ⟨S3x8x4096x64, .bf16⟩
  | .hbm, ⟨13, _⟩ => ⟨S4096x3x1x8x64, .bf16⟩
  | .hbm, ⟨14, _⟩ => ⟨S4096x3x8x64, .bf16⟩
  | .hbm, ⟨15, _⟩ => ⟨S256x16x3x8x64, .bf16⟩
  | .hbm, ⟨16, _⟩ => ⟨S3x8x16x256x64, .bf16⟩
  | .hbm, ⟨17, _⟩ => ⟨S3x8x4096x64, .bf16⟩
  | .hbm, ⟨18, _⟩ => ⟨S1x3x8x4096x64, .bf16⟩
  | .hbm, ⟨19, _⟩ => ⟨S1x3x8x4096x64, .bf16⟩
  | .hbm, ⟨20, _⟩ => ⟨S1x3x8x4096x64, .bf16⟩
  | .hbm, ⟨21, _⟩ => ⟨S3x3x8x4096x64, .bf16⟩
  | .hbm, ⟨22, _⟩ => ⟨S3x8x4096x64, .f32⟩
  | .hbm, ⟨23, _⟩ => ⟨S3x8x4096x64, .f32⟩
  | .local _ .vmem, ⟨0, _⟩ => ⟨S1x1x8x128x64, .bf16⟩
  | .local _ .vmem, ⟨1, _⟩ => ⟨S1x1x8x128x64, .bf16⟩
  | .local _ .vmem, ⟨2, _⟩ => ⟨S1x1x8x128x64, .bf16⟩
  | .local _ .vmem, ⟨3, _⟩ => ⟨S1x1x8x128x64, .bf16⟩
  | .local _ .vmem, ⟨4, _⟩ => ⟨S1x1x8x128x64, .bf16⟩
  | .local _ .vmem, ⟨5, _⟩ => ⟨S1x1x8x128x64, .bf16⟩
  | .local _ .vmem, ⟨6, _⟩ => ⟨S1x1x8x128x64, .bf16⟩
  | .local _ .vmem, ⟨7, _⟩ => ⟨S1x1x8x128x64, .bf16⟩
  | .local _ .vmem, ⟨8, _⟩ => ⟨S1x1x8x128x64, .bf16⟩
  | .local _ .vmem, ⟨9, _⟩ => ⟨S1x1x8x128x64, .bf16⟩
  | .local _ .vmem, ⟨10, _⟩ => ⟨S1x8x128x256, .f32⟩
  | .local _ .vmem, ⟨11, _⟩ => ⟨S1x8x128x256, .f32⟩
  | .local _ .vmem, ⟨12, _⟩ => ⟨S1x8x128x64, .f32⟩
  | .local _ .vmem, ⟨13, _⟩ => ⟨S1x8x128x64, .f32⟩
  | .local _ .vmem, ⟨14, _⟩ => ⟨S1x8x128x64, .f32⟩
  | .local _ .vmem, ⟨15, _⟩ => ⟨S1x8x128x64, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20_0 : Ref sig .tc := ⟨.hbm, 22, rfl⟩
abbrev main_v20_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 32], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  let c0_i32_3 : BitVec 32 := 0#32
  ![arg0.toNat, c1_i32_0.toNat, c0_i32_1.toNat, v1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, arg1.toNat, c0_i32_0.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  let c0_i32_2 : BitVec 32 := 0#32
  ![arg0.toNat, c2_i32.toNat, c0_i32_0.toNat, v1.toNat, c0_i32_1.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S4096x4608 : Shape := ⟨2, ![4096, 4608]⟩
abbrev S3x8x128x256 : Shape := ⟨4, ![3, 8, 128, 256]⟩
abbrev S4096x1536 : Shape := ⟨2, ![4096, 1536]⟩
abbrev S4096x24x64 : Shape := ⟨3, ![4096, 24, 64]⟩
abbrev S4096x8x64 : Shape := ⟨3, ![4096, 8, 64]⟩
abbrev S1x8x128x256 : Shape := ⟨4, ![1, 8, 128, 256]⟩
abbrev S8x128x256 : Shape := ⟨3, ![8, 128, 256]⟩
abbrev S4096x1x8x64 : Shape := ⟨4, ![4096, 1, 8, 64]⟩
abbrev S1x4096x8x64 : Shape := ⟨4, ![1, 4096, 8, 64]⟩
abbrev S1x32x128x8x64 : Shape := ⟨5, ![1, 32, 128, 8, 64]⟩
abbrev S_ : Shape := ⟨0, ![]⟩
abbrev S1x128x8x64 : Shape := ⟨4, ![1, 128, 8, 64]⟩
abbrev S1x4224x8x64 : Shape := ⟨4, ![1, 4224, 8, 64]⟩
abbrev S1x33x128x8x64 : Shape := ⟨5, ![1, 33, 128, 8, 64]⟩
abbrev S1x32x256x8x64 : Shape := ⟨5, ![1, 32, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x8x128x256 : Shape := ⟨5, ![1, 32, 8, 128, 256]⟩
abbrev S32x1x128x256 : Shape := ⟨4, ![32, 1, 128, 256]⟩
abbrev S1x1x8x128x256 : Shape := ⟨5, ![1, 1, 8, 128, 256]⟩
abbrev S1x32x8x128 : Shape := ⟨4, ![1, 32, 8, 128]⟩
abbrev S1x32x8x128x1 : Shape := ⟨5, ![1, 32, 8, 128, 1]⟩
abbrev S1x32x8x64x128 : Shape := ⟨5, ![1, 32, 8, 64, 128]⟩
abbrev S1x32x128x8x1 : Shape := ⟨5, ![1, 32, 128, 8, 1]⟩
abbrev S8x4096x64 : Shape := ⟨3, ![8, 4096, 64]⟩
abbrev S4096x8x1 : Shape := ⟨3, ![4096, 8, 1]⟩
abbrev S8x4096x1 : Shape := ⟨3, ![8, 4096, 1]⟩
abbrev S1024x4x8x64 : Shape := ⟨4, ![1024, 4, 8, 64]⟩
abbrev S4x1024x8x64 : Shape := ⟨4, ![4, 1024, 8, 64]⟩
abbrev S4x8x128x8x64 : Shape := ⟨5, ![4, 8, 128, 8, 64]⟩
abbrev S4x128x8x64 : Shape := ⟨4, ![4, 128, 8, 64]⟩
abbrev S4x1152x8x64 : Shape := ⟨4, ![4, 1152, 8, 64]⟩
abbrev S4x9x128x8x64 : Shape := ⟨5, ![4, 9, 128, 8, 64]⟩
abbrev S4x8x256x8x64 : Shape := ⟨5, ![4, 8, 256, 8, 64]⟩
abbrev S8 : Shape := ⟨1, ![8]⟩
abbrev S8x1 : Shape := ⟨2, ![8, 1]⟩
abbrev S8x256 : Shape := ⟨2, ![8, 256]⟩
abbrev S8x1x256 : Shape := ⟨3, ![8, 1, 256]⟩
abbrev S4x8x8x128x256 : Shape := ⟨5, ![4, 8, 8, 128, 256]⟩
abbrev S8x1x128x256 : Shape := ⟨4, ![8, 1, 128, 256]⟩
abbrev S4x8x8x128 : Shape := ⟨4, ![4, 8, 8, 128]⟩
abbrev S4x8x8x128x1 : Shape := ⟨5, ![4, 8, 8, 128, 1]⟩
abbrev S4x8x8x64x128 : Shape := ⟨5, ![4, 8, 8, 64, 128]⟩
abbrev S4x8x128x8x1 : Shape := ⟨5, ![4, 8, 128, 8, 1]⟩
abbrev S256x16x8x64 : Shape := ⟨4, ![256, 16, 8, 64]⟩
abbrev S16x256x8x64 : Shape := ⟨4, ![16, 256, 8, 64]⟩
abbrev S16x2x128x8x64 : Shape := ⟨5, ![16, 2, 128, 8, 64]⟩
abbrev S16x128x8x64 : Shape := ⟨4, ![16, 128, 8, 64]⟩
abbrev S16x384x8x64 : Shape := ⟨4, ![16, 384, 8, 64]⟩
abbrev S16x3x128x8x64 : Shape := ⟨5, ![16, 3, 128, 8, 64]⟩
abbrev S16x2x256x8x64 : Shape := ⟨5, ![16, 2, 256, 8, 64]⟩
abbrev S2 : Shape := ⟨1, ![2]⟩
abbrev S2x1 : Shape := ⟨2, ![2, 1]⟩
abbrev S2x256 : Shape := ⟨2, ![2, 256]⟩
abbrev S2x1x256 : Shape := ⟨3, ![2, 1, 256]⟩
abbrev S2x128x256 : Shape := ⟨3, ![2, 128, 256]⟩
abbrev S16x2x8x128x256 : Shape := ⟨5, ![16, 2, 8, 128, 256]⟩
abbrev S2x1x128x256 : Shape := ⟨4, ![2, 1, 128, 256]⟩
abbrev S16x2x8x128 : Shape := ⟨4, ![16, 2, 8, 128]⟩
abbrev S16x2x8x128x1 : Shape := ⟨5, ![16, 2, 8, 128, 1]⟩
abbrev S16x2x8x64x128 : Shape := ⟨5, ![16, 2, 8, 64, 128]⟩
abbrev S16x2x128x8x1 : Shape := ⟨5, ![16, 2, 128, 8, 1]⟩
abbrev S1x8x4096x64 : Shape := ⟨4, ![1, 8, 4096, 64]⟩
abbrev S3x8x4096x64 : Shape := ⟨4, ![3, 8, 4096, 64]⟩

abbrev nBuf : Space → Nat
  | .hbm => 316
  | .vmem => 0
  | .smem => 0
  | _ => 0

abbrev hbmTy0_0 (i : Nat) : BufTy := match i % 128 with
  | 0 => ⟨S4096x4608, .bf16⟩
  | 1 => ⟨S3x8x128x256, .f32⟩
  | 2 => ⟨S4096x1536, .bf16⟩
  | 3 => ⟨S4096x1536, .bf16⟩
  | 4 => ⟨S4096x1536, .bf16⟩
  | 5 => ⟨S4096x1536, .f32⟩
  | 6 => ⟨S4096x24x64, .f32⟩
  | 7 => ⟨S4096x1536, .f32⟩
  | 8 => ⟨S4096x24x64, .f32⟩
  | 9 => ⟨S4096x1536, .f32⟩
  | 10 => ⟨S4096x24x64, .f32⟩
  | 11 => ⟨S4096x8x64, .f32⟩
  | 12 => ⟨S4096x8x64, .f32⟩
  | 13 => ⟨S4096x8x64, .f32⟩
  | 14 => ⟨S1x8x128x256, .f32⟩
  | 15 => ⟨S8x128x256, .f32⟩
  | 16 => ⟨S4096x1x8x64, .f32⟩
  | 17 => ⟨S1x4096x8x64, .f32⟩
  | 18 => ⟨S1x32x128x8x64, .f32⟩
  | 19 => ⟨S4096x1x8x64, .f32⟩
  | 20 => ⟨S1x4096x8x64, .f32⟩
  | 21 => ⟨S_, .f32⟩
  | 22 => ⟨S1x128x8x64, .f32⟩
  | 23 => ⟨S1x4224x8x64, .f32⟩
  | 24 => ⟨S1x33x128x8x64, .f32⟩
  | 25 => ⟨S1x32x128x8x64, .f32⟩
  | 26 => ⟨S1x32x128x8x64, .f32⟩
  | 27 => ⟨S1x32x256x8x64, .f32⟩
  | 28 => ⟨S4096x1x8x64, .f32⟩
  | 29 => ⟨S1x4096x8x64, .f32⟩
  | 30 => ⟨S_, .f32⟩
  | 31 => ⟨S1x128x8x64, .f32⟩
  | 32 => ⟨S1x4224x8x64, .f32⟩
  | 33 => ⟨S1x33x128x8x64, .f32⟩
  | 34 => ⟨S1x32x128x8x64, .f32⟩
  | 35 => ⟨S1x32x128x8x64, .f32⟩
  | 36 => ⟨S1x32x256x8x64, .f32⟩
  | 37 => ⟨S128, .i32⟩
  | 38 => ⟨S128x1, .i32⟩
  | 39 => ⟨S256, .i32⟩
  | 40 => ⟨S1x256, .i32⟩
  | 41 => ⟨S_, .i32⟩
  | 42 => ⟨S128x1, .i32⟩
  | 43 => ⟨S128x1, .i32⟩
  | 44 => ⟨S128x256, .i32⟩
  | 45 => ⟨S128x256, .i32⟩
  | 46 => ⟨S128x256, .i32⟩
  | 47 => ⟨S32, .i32⟩
  | 48 => ⟨S32x1, .i32⟩
  | 49 => ⟨S_, .i32⟩
  | 50 => ⟨S32x1, .i32⟩
  | 51 => ⟨S32x1, .i32⟩
  | 52 => ⟨S_, .i32⟩
  | 53 => ⟨S32x1, .i32⟩
  | 54 => ⟨S32x1, .i32⟩
  | 55 => ⟨S256, .i32⟩
  | 56 => ⟨S1x256, .i32⟩
  | 57 => ⟨S32x256, .i32⟩
  | 58 => ⟨S32x256, .i32⟩
  | 59 => ⟨S32x256, .i32⟩
  | 60 => ⟨S_, .i32⟩
  | 61 => ⟨S128x256, .i32⟩
  | 62 => ⟨S128x256, .i1⟩
  | 63 => ⟨S_, .i32⟩
  | 64 => ⟨S128x256, .i32⟩
  | 65 => ⟨S128x256, .i1⟩
  | 66 => ⟨S128x256, .i1⟩
  | 67 => ⟨S1x128x256, .i1⟩
  | 68 => ⟨S_, .i32⟩
  | 69 => ⟨S32x256, .i32⟩
  | 70 => ⟨S32x256, .i1⟩
  | 71 => ⟨S32x1x256, .i1⟩
  | 72 => ⟨S32x128x256, .i1⟩
  | 73 => ⟨S32x128x256, .i1⟩
  | 74 => ⟨S32x128x256, .i1⟩
  | 75 => ⟨S1x32x8x128x256, .f32⟩
  | 76 => ⟨S32x1x128x256, .i1⟩
  | 77 => ⟨S_, .f32⟩
  | 78 => ⟨S1x32x8x128x256, .f32⟩
  | 79 => ⟨S1x32x8x128x256, .f32⟩
  | 80 => ⟨S1x1x8x128x256, .f32⟩
  | 81 => ⟨S1x32x8x128x256, .f32⟩
  | 82 => ⟨S1x32x8x128x256, .f32⟩
  | 83 => ⟨S_, .f32⟩
  | 84 => ⟨S_, .f32⟩
  | 85 => ⟨S1x32x8x128x256, .i1⟩
  | 86 => ⟨S1x32x8x128x256, .f32⟩
  | 87 => ⟨S1x32x8x128x256, .f32⟩
  | 88 => ⟨S_, .f32⟩
  | 89 => ⟨S1x32x8x128, .f32⟩
  | 90 => ⟨S1x32x8x128x1, .f32⟩
  | 91 => ⟨S1x32x8x128x256, .f32⟩
  | 92 => ⟨S1x32x8x128x256, .f32⟩
  | 93 => ⟨S1x32x8x128x256, .f32⟩
  | 94 => ⟨S_, .f32⟩
  | 95 => ⟨S1x32x8x128, .f32⟩
  | 96 => ⟨S1x32x8x128x1, .f32⟩
  | 97 => ⟨S1x32x8x64x128, .f32⟩
  | 98 => ⟨S1x32x128x8x64, .f32⟩
  | 99 => ⟨S1x32x128x8x1, .f32⟩
  | 100 => ⟨S1x32x128x8x64, .f32⟩
  | 101 => ⟨S1x32x128x8x64, .f32⟩
  | 102 => ⟨S1x32x8x128x1, .f32⟩
  | 103 => ⟨S1x32x8x128x1, .f32⟩
  | 104 => ⟨S1x32x128x8x1, .f32⟩
  | 105 => ⟨S4096x8x64, .f32⟩
  | 106 => ⟨S8x4096x64, .f32⟩
  | 107 => ⟨S4096x8x1, .f32⟩
  | 108 => ⟨S8x4096x1, .f32⟩
  | 109 => ⟨S8x4096x64, .f32⟩
  | 110 => ⟨S4096x8x64, .f32⟩
  | 111 => ⟨S4096x8x64, .f32⟩
  | 112 => ⟨S4096x8x64, .f32⟩
  | 113 => ⟨S1x8x128x256, .f32⟩
  | 114 => ⟨S8x128x256, .f32⟩
  | 115 => ⟨S1024x4x8x64, .f32⟩
  | 116 => ⟨S4x1024x8x64, .f32⟩
  | 117 => ⟨S4x8x128x8x64, .f32⟩
  | 118 => ⟨S1024x4x8x64, .f32⟩
  | 119 => ⟨S4x1024x8x64, .f32⟩
  | 120 => ⟨S_, .f32⟩
  | 121 => ⟨S4x128x8x64, .f32⟩
  | 122 => ⟨S4x1152x8x64, .f32⟩
  | 123 => ⟨S4x9x128x8x64, .f32⟩
  | 124 => ⟨S4x8x128x8x64, .f32⟩
  | 125 => ⟨S4x8x128x8x64, .f32⟩
  | 126 => ⟨S4x8x256x8x64, .f32⟩
  | 127 => ⟨S1024x4x8x64, .f32⟩
  | _ => ⟨S4096x4608, .bf16⟩

abbrev hbmTy0_1 (i : Nat) : BufTy := match i % 128 with
  | 0 => ⟨S4x1024x8x64, .f32⟩
  | 1 => ⟨S_, .f32⟩
  | 2 => ⟨S4x128x8x64, .f32⟩
  | 3 => ⟨S4x1152x8x64, .f32⟩
  | 4 => ⟨S4x9x128x8x64, .f32⟩
  | 5 => ⟨S4x8x128x8x64, .f32⟩
  | 6 => ⟨S4x8x128x8x64, .f32⟩
  | 7 => ⟨S4x8x256x8x64, .f32⟩
  | 8 => ⟨S128, .i32⟩
  | 9 => ⟨S128x1, .i32⟩
  | 10 => ⟨S256, .i32⟩
  | 11 => ⟨S1x256, .i32⟩
  | 12 => ⟨S_, .i32⟩
  | 13 => ⟨S128x1, .i32⟩
  | 14 => ⟨S128x1, .i32⟩
  | 15 => ⟨S128x256, .i32⟩
  | 16 => ⟨S128x256, .i32⟩
  | 17 => ⟨S128x256, .i32⟩
  | 18 => ⟨S8, .i32⟩
  | 19 => ⟨S8x1, .i32⟩
  | 20 => ⟨S_, .i32⟩
  | 21 => ⟨S8x1, .i32⟩
  | 22 => ⟨S8x1, .i32⟩
  | 23 => ⟨S_, .i32⟩
  | 24 => ⟨S8x1, .i32⟩
  | 25 => ⟨S8x1, .i32⟩
  | 26 => ⟨S256, .i32⟩
  | 27 => ⟨S1x256, .i32⟩
  | 28 => ⟨S8x256, .i32⟩
  | 29 => ⟨S8x256, .i32⟩
  | 30 => ⟨S8x256, .i32⟩
  | 31 => ⟨S_, .i32⟩
  | 32 => ⟨S128x256, .i32⟩
  | 33 => ⟨S128x256, .i1⟩
  | 34 => ⟨S_, .i32⟩
  | 35 => ⟨S128x256, .i32⟩
  | 36 => ⟨S128x256, .i1⟩
  | 37 => ⟨S128x256, .i1⟩
  | 38 => ⟨S1x128x256, .i1⟩
  | 39 => ⟨S_, .i32⟩
  | 40 => ⟨S8x256, .i32⟩
  | 41 => ⟨S8x256, .i1⟩
  | 42 => ⟨S8x1x256, .i1⟩
  | 43 => ⟨S8x128x256, .i1⟩
  | 44 => ⟨S8x128x256, .i1⟩
  | 45 => ⟨S8x128x256, .i1⟩
  | 46 => ⟨S4x8x8x128x256, .f32⟩
  | 47 => ⟨S8x1x128x256, .i1⟩
  | 48 => ⟨S_, .f32⟩
  | 49 => ⟨S4x8x8x128x256, .f32⟩
  | 50 => ⟨S4x8x8x128x256, .f32⟩
  | 51 => ⟨S1x1x8x128x256, .f32⟩
  | 52 => ⟨S4x8x8x128x256, .f32⟩
  | 53 => ⟨S4x8x8x128x256, .f32⟩
  | 54 => ⟨S_, .f32⟩
  | 55 => ⟨S_, .f32⟩
  | 56 => ⟨S4x8x8x128x256, .i1⟩
  | 57 => ⟨S4x8x8x128x256, .f32⟩
  | 58 => ⟨S4x8x8x128x256, .f32⟩
  | 59 => ⟨S_, .f32⟩
  | 60 => ⟨S4x8x8x128, .f32⟩
  | 61 => ⟨S4x8x8x128x1, .f32⟩
  | 62 => ⟨S4x8x8x128x256, .f32⟩
  | 63 => ⟨S4x8x8x128x256, .f32⟩
  | 64 => ⟨S4x8x8x128x256, .f32⟩
  | 65 => ⟨S_, .f32⟩
  | 66 => ⟨S4x8x8x128, .f32⟩
  | 67 => ⟨S4x8x8x128x1, .f32⟩
  | 68 => ⟨S4x8x8x64x128, .f32⟩
  | 69 => ⟨S4x8x128x8x64, .f32⟩
  | 70 => ⟨S4x8x128x8x1, .f32⟩
  | 71 => ⟨S4x8x128x8x64, .f32⟩
  | 72 => ⟨S4x8x128x8x64, .f32⟩
  | 73 => ⟨S4x8x8x128x1, .f32⟩
  | 74 => ⟨S4x8x8x128x1, .f32⟩
  | 75 => ⟨S4x8x128x8x1, .f32⟩
  | 76 => ⟨S4096x8x64, .f32⟩
  | 77 => ⟨S8x4096x64, .f32⟩
  | 78 => ⟨S4096x8x1, .f32⟩
  | 79 => ⟨S8x4096x1, .f32⟩
  | 80 => ⟨S8x4096x64, .f32⟩
  | 81 => ⟨S4096x8x64, .f32⟩
  | 82 => ⟨S4096x8x64, .f32⟩
  | 83 => ⟨S4096x8x64, .f32⟩
  | 84 => ⟨S1x8x128x256, .f32⟩
  | 85 => ⟨S8x128x256, .f32⟩
  | 86 => ⟨S256x16x8x64, .f32⟩
  | 87 => ⟨S16x256x8x64, .f32⟩
  | 88 => ⟨S16x2x128x8x64, .f32⟩
  | 89 => ⟨S256x16x8x64, .f32⟩
  | 90 => ⟨S16x256x8x64, .f32⟩
  | 91 => ⟨S_, .f32⟩
  | 92 => ⟨S16x128x8x64, .f32⟩
  | 93 => ⟨S16x384x8x64, .f32⟩
  | 94 => ⟨S16x3x128x8x64, .f32⟩
  | 95 => ⟨S16x2x128x8x64, .f32⟩
  | 96 => ⟨S16x2x128x8x64, .f32⟩
  | 97 => ⟨S16x2x256x8x64, .f32⟩
  | 98 => ⟨S256x16x8x64, .f32⟩
  | 99 => ⟨S16x256x8x64, .f32⟩
  | 100 => ⟨S_, .f32⟩
  | 101 => ⟨S16x128x8x64, .f32⟩
  | 102 => ⟨S16x384x8x64, .f32⟩
  | 103 => ⟨S16x3x128x8x64, .f32⟩
  | 104 => ⟨S16x2x128x8x64, .f32⟩
  | 105 => ⟨S16x2x128x8x64, .f32⟩
  | 106 => ⟨S16x2x256x8x64, .f32⟩
  | 107 => ⟨S128, .i32⟩
  | 108 => ⟨S128x1, .i32⟩
  | 109 => ⟨S256, .i32⟩
  | 110 => ⟨S1x256, .i32⟩
  | 111 => ⟨S_, .i32⟩
  | 112 => ⟨S128x1, .i32⟩
  | 113 => ⟨S128x1, .i32⟩
  | 114 => ⟨S128x256, .i32⟩
  | 115 => ⟨S128x256, .i32⟩
  | 116 => ⟨S128x256, .i32⟩
  | 117 => ⟨S2, .i32⟩
  | 118 => ⟨S2x1, .i32⟩
  | 119 => ⟨S_, .i32⟩
  | 120 => ⟨S2x1, .i32⟩
  | 121 => ⟨S2x1, .i32⟩
  | 122 => ⟨S_, .i32⟩
  | 123 => ⟨S2x1, .i32⟩
  | 124 => ⟨S2x1, .i32⟩
  | 125 => ⟨S256, .i32⟩
  | 126 => ⟨S1x256, .i32⟩
  | 127 => ⟨S2x256, .i32⟩
  | _ => ⟨S4096x4608, .bf16⟩

abbrev hbmTy0_2 (i : Nat) : BufTy := match i % 128 with
  | 0 => ⟨S2x256, .i32⟩
  | 1 => ⟨S2x256, .i32⟩
  | 2 => ⟨S_, .i32⟩
  | 3 => ⟨S128x256, .i32⟩
  | 4 => ⟨S128x256, .i1⟩
  | 5 => ⟨S_, .i32⟩
  | 6 => ⟨S128x256, .i32⟩
  | 7 => ⟨S128x256, .i1⟩
  | 8 => ⟨S128x256, .i1⟩
  | 9 => ⟨S1x128x256, .i1⟩
  | 10 => ⟨S_, .i32⟩
  | 11 => ⟨S2x256, .i32⟩
  | 12 => ⟨S2x256, .i1⟩
  | 13 => ⟨S2x1x256, .i1⟩
  | 14 => ⟨S2x128x256, .i1⟩
  | 15 => ⟨S2x128x256, .i1⟩
  | 16 => ⟨S2x128x256, .i1⟩
  | 17 => ⟨S16x2x8x128x256, .f32⟩
  | 18 => ⟨S2x1x128x256, .i1⟩
  | 19 => ⟨S_, .f32⟩
  | 20 => ⟨S16x2x8x128x256, .f32⟩
  | 21 => ⟨S16x2x8x128x256, .f32⟩
  | 22 => ⟨S1x1x8x128x256, .f32⟩
  | 23 => ⟨S16x2x8x128x256, .f32⟩
  | 24 => ⟨S16x2x8x128x256, .f32⟩
  | 25 => ⟨S_, .f32⟩
  | 26 => ⟨S_, .f32⟩
  | 27 => ⟨S16x2x8x128x256, .i1⟩
  | 28 => ⟨S16x2x8x128x256, .f32⟩
  | 29 => ⟨S16x2x8x128x256, .f32⟩
  | 30 => ⟨S_, .f32⟩
  | 31 => ⟨S16x2x8x128, .f32⟩
  | 32 => ⟨S16x2x8x128x1, .f32⟩
  | 33 => ⟨S16x2x8x128x256, .f32⟩
  | 34 => ⟨S16x2x8x128x256, .f32⟩
  | 35 => ⟨S16x2x8x128x256, .f32⟩
  | 36 => ⟨S_, .f32⟩
  | 37 => ⟨S16x2x8x128, .f32⟩
  | 38 => ⟨S16x2x8x128x1, .f32⟩
  | 39 => ⟨S16x2x8x64x128, .f32⟩
  | 40 => ⟨S16x2x128x8x64, .f32⟩
  | 41 => ⟨S16x2x128x8x1, .f32⟩
  | 42 => ⟨S16x2x128x8x64, .f32⟩
  | 43 => ⟨S16x2x128x8x64, .f32⟩
  | 44 => ⟨S16x2x8x128x1, .f32⟩
  | 45 => ⟨S16x2x8x128x1, .f32⟩
  | 46 => ⟨S16x2x128x8x1, .f32⟩
  | 47 => ⟨S4096x8x64, .f32⟩
  | 48 => ⟨S8x4096x64, .f32⟩
  | 49 => ⟨S4096x8x1, .f32⟩
  | 50 => ⟨S8x4096x1, .f32⟩
  | 51 => ⟨S8x4096x64, .f32⟩
  | 52 => ⟨S1x8x4096x64, .f32⟩
  | 53 => ⟨S1x8x4096x64, .f32⟩
  | 54 => ⟨S1x8x4096x64, .f32⟩
  | 55 => ⟨S3x8x4096x64, .f32⟩
  | 56 => ⟨S1x8x4096x64, .f32⟩
  | 57 => ⟨S1x8x4096x64, .f32⟩
  | 58 => ⟨S1x8x4096x64, .f32⟩
  | 59 => ⟨S3x8x4096x64, .f32⟩
  | _ => ⟨S4096x4608, .bf16⟩

abbrev hbmTy (i : Nat) : BufTy := match i / 128 with
  | 0 => hbmTy0_0 i
  | 1 => hbmTy0_1 i
  | 2 => hbmTy0_2 i
  | _ => ⟨S4096x4608, .bf16⟩

abbrev bufTy : (tb : Table) → Fin (tcTables nBuf tb) → BufTy
  | .hbm, ⟨i, _⟩ => hbmTy i
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_c : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_c_1 : Ref sig .tc := ⟨.hbm, 49, rfl⟩
abbrev main_v44 : Ref sig .tc := ⟨.hbm, 50, rfl⟩
abbrev main_v45 : Ref sig .tc := ⟨.hbm, 51, rfl⟩
abbrev main_c_2 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_c_3 : Ref sig .tc := ⟨.hbm, 60, rfl⟩
abbrev main_v53 : Ref sig .tc := ⟨.hbm, 61, rfl⟩
abbrev main_v54 : Ref sig .tc := ⟨.hbm, 62, rfl⟩
abbrev main_c_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_c_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_6 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_7 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_9 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_10 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_11 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_c_12 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_c_13 : Ref sig .tc := ⟨.hbm, 148, rfl⟩
abbrev main_v128 : Ref sig .tc := ⟨.hbm, 149, rfl⟩
abbrev main_v129 : Ref sig .tc := ⟨.hbm, 150, rfl⟩
abbrev main_c_14 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_c_15 : Ref sig .tc := ⟨.hbm, 159, rfl⟩
abbrev main_v137 : Ref sig .tc := ⟨.hbm, 160, rfl⟩
abbrev main_v138 : Ref sig .tc := ⟨.hbm, 161, rfl⟩
abbrev main_c_16 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_c_17 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_cst_18 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_cst_19 : Ref sig .tc := ⟨.hbm, 182, rfl⟩
abbrev main_call1_v0 : Ref sig .tc := ⟨.hbm, 183, rfl⟩
abbrev main_call1_v1 : Ref sig .tc := ⟨.hbm, 184, rfl⟩
abbrev main_call1_v2 : Ref sig .tc := ⟨.hbm, 185, rfl⟩
abbrev main_v156 : Ref sig .tc := ⟨.hbm, 186, rfl⟩
abbrev main_cst_20 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_21 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_cst_22 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_cst_23 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_c_24 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_c_25 : Ref sig .tc := ⟨.hbm, 247, rfl⟩
abbrev main_v212 : Ref sig .tc := ⟨.hbm, 248, rfl⟩
abbrev main_v213 : Ref sig .tc := ⟨.hbm, 249, rfl⟩
abbrev main_c_26 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_c_27 : Ref sig .tc := ⟨.hbm, 258, rfl⟩
abbrev main_v221 : Ref sig .tc := ⟨.hbm, 259, rfl⟩
abbrev main_v222 : Ref sig .tc := ⟨.hbm, 260, rfl⟩
abbrev main_c_28 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_c_29 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_cst_30 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_cst_31 : Ref sig .tc := ⟨.hbm, 281, rfl⟩
abbrev main_call2_v0 : Ref sig .tc := ⟨.hbm, 282, rfl⟩
abbrev main_call2_v1 : Ref sig .tc := ⟨.hbm, 283, rfl⟩
abbrev main_call2_v2 : Ref sig .tc := ⟨.hbm, 284, rfl⟩
abbrev main_v240 : Ref sig .tc := ⟨.hbm, 285, rfl⟩
abbrev main_cst_32 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_cst_33 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩

abbrev nD : Nat := 1
abbrev τ : Topo := Topo.v7x

variable {F : FTy → Type} [FloatOps F]
-- ==== Proof.Kit.lean ====
/- What every claim's module needs: the statements, and the library's parts on pipelines, claims and quiescence. -/
module

public import proofs.«01_k».proof.Defs
public import Idealize.ShloMosaic.Lib.Pipeline.ValueKit
public import Idealize.ShloMosaic.Lib.Claim
public import Idealize.ShloMosaic.Lib.Quiescent
-- ==== Proof.Products.Blocked.lean ====
/- A product accumulated over blocks of its contracted axis is the whole product. -/
module

public import Idealize.ShloMosaic.Lib.ValueIdxCore
public import Mathlib.Data.EReal.Basic
public import Mathlib.Algebra.BigOperators.Fin
public import Mathlib.Logic.Equiv.Fin.Basic

@[expose] public section

namespace Cert.Products

/-- The place `q` of block `s`, when `K` places are cut into `n` blocks of `l`. -/
def place {K n l : ℕ} (h : K = n * l) (s : Fin n) (q : Fin l) : Fin K :=
  ⟨l * s + q, by
    subst h
    calc l * (s : ℕ) + q < l * s + l := Nat.add_lt_add_left q.2 _
      _ = (s + 1) * l := by ring
      _ ≤ n * l := Nat.mul_le_mul_right _ s.2⟩

/-- Summing block by block is summing. -/
theorem sum_place {K n l : ℕ} (h : K = n * l) (f : Fin K → EReal) : ∑ s, ∑ q, f (place h s q) = ∑ k, f k := by
  subst h
  rw [← Fintype.sum_prod_type', ← Equiv.sum_comp finProdFinEquiv]
  refine Finset.sum_congr rfl fun x _ => congrArg f (Fin.ext ?_)
  simp [place, finProdFinEquiv, add_comm]

/-- The block of the contracted axis that point `t` adds, when the grid visits all `n` of them in turn. -/
def turn {n : ℕ} (hn : 0 < n) (t : ℕ) : Fin n := ⟨t % n, Nat.mod_lt _ hn⟩

/-- An accumulator that starts anew every `n` points, each point adding its block's terms, holds the whole sum at the last of
    the `n`. -/
theorem accumulated {N K n l : ℕ} (hn : 0 < n) (h : K = n * l) (S : (t : ℕ) → t < N → EReal) (f : Fin K → EReal) (r : ℕ)
    (first : ∀ t ht, t / n = r → t % n = 0 → S t ht = ∑ q, f (place h (turn hn t) q))
    (next : ∀ t ht, t / n = r → t % n ≠ 0 →
      S t ht = S (t - 1) (lt_of_le_of_lt (Nat.sub_le t 1) ht) + ∑ q, f (place h (turn hn t) q))
    (t : ℕ) (ht : t < N) (hr : t / n = r) (hl : t % n = n - 1) : S t ht = ∑ k, f k := by
  have key : ∀ (j : ℕ) (hj : j < n) (hb : n * r + j < N), S (n * r + j) hb
      = ∑ s : Fin (j + 1), ∑ q, f (place h ⟨s, lt_of_lt_of_le s.2 hj⟩ q) := by
    intro j
    induction j with
    | zero =>
      intro hj hb
      have e := first _ hb (by rw [Nat.mul_add_div hn]; simp) (by simp)
      rw [e, Fin.sum_univ_one]
      refine Finset.sum_congr rfl fun q _ => congrArg (fun s => f (place h s q)) (Fin.ext ?_)
      simp [turn]
    | succ j ih =>
      intro hj hb
      have hm : (n * r + (j + 1)) % n = j + 1 := by rw [Nat.mul_add_mod, Nat.mod_eq_of_lt hj]
      have e := next _ hb (by rw [Nat.mul_add_div hn, Nat.div_eq_of_lt hj, add_zero]) (by rw [hm]; omega)
      rw [e, Fin.sum_univ_castSucc]
      refine congrArg₂ (· + ·) (ih (by omega) (by omega)) ?_
      refine Finset.sum_congr rfl fun q _ => congrArg (fun s => f (place h s q)) (Fin.ext ?_)
      simpa [turn] using hm
  obtain rfl : t = n * r + (n - 1) := by rw [← hr, ← hl]; exact (Nat.div_add_mod t n).symm
  have hs : n - 1 + 1 = n := by omega
  rw [key (n - 1) (by omega) ht, ← sum_place h f]
  refine Fintype.sum_equiv (finCongr hs) _ _ fun s => ?_
  rfl

/-- The same for a product of a row and a column, each read block by block: where the points of run `r` read the blocks of `x`
    and `w` in turn, the accumulator ends at their product. -/
theorem accumulated_product {N K n l : ℕ} (hn : 0 < n) (h : K = n * l) (S : (t : ℕ) → t < N → EReal)
    (a b : (t : ℕ) → t < N → Fin l → EReal) (x w : Fin K → EReal) (r : ℕ)
    (first : ∀ t ht, t % n = 0 → S t ht = ∑ q, a t ht q * b t ht q)
    (next : ∀ t ht, t % n ≠ 0 → S t ht = S (t - 1) (lt_of_le_of_lt (Nat.sub_le t 1) ht) + ∑ q, a t ht q * b t ht q)
    (left : ∀ t ht, t / n = r → ∀ q, a t ht q = x (place h (turn hn t) q))
    (right : ∀ t ht, t / n = r → ∀ q, b t ht q = w (place h (turn hn t) q))
    (t : ℕ) (ht : t < N) (hr : t / n = r) (hl : t % n = n - 1) : S t ht = ∑ k, x k * w k := by
  refine accumulated hn h S (fun k => x k * w k) r (fun t ht e e0 => ?_) (fun t ht e e0 => ?_) t ht hr hl
  · simp only [first t ht e0, left t ht e, right t ht e]
  · simp only [next t ht e0, left t ht e, right t ht e]

open Idealize.ShloMosaic Idealize.ShloMosaic.ValueIdx in
/-- The entry in row `j` and column `k` of a matrix kept in `n` shards of `l` columns each. -/
def columns {K n a l : ℕ} (hl : 0 < l) (h : K = n * l) (w : (⟨3, ![n, a, l]⟩ : Shape).Idx → EReal) (j : Fin a) (k : Fin K) :
    EReal :=
  w (ix3 (⟨k / l, Nat.div_lt_of_lt_mul (by rw [Nat.mul_comm, ← h]; exact k.2)⟩ : Fin n) j (⟨k % l, Nat.mod_lt _ hl⟩ : Fin l))

open Idealize.ShloMosaic Idealize.ShloMosaic.ValueIdx in
/-- Two matrices with the same entries are equal. -/
theorem ext2 {a b : ℕ} {α : Type*} {f g : (⟨2, ![a, b]⟩ : Shape).Idx → α} (h : ∀ i j, f (ix2 i j) = g (ix2 i j)) : f = g :=
  funext fun y => by rw [eq_ix2 y]; exact h _ _

open Idealize.ShloMosaic Idealize.ShloMosaic.ValueIdx in
/-- The same for arrays of three axes. -/
theorem ext3 {a b c : ℕ} {α : Type*} {f g : (⟨3, ![a, b, c]⟩ : Shape).Idx → α} (h : ∀ i j k, f (ix3 i j k) = g (ix3 i j k)) :
    f = g :=
  funext fun y => by rw [eq_ix3 y]; exact h _ _ _

end Cert.Products
-- ==== Proof.Products.ProjInDgrad.lean ====
/- The gradient of a layer's input through its input projection: the kernel's product over seventeen blocks of columns, with
   the residual's share added last, is the reference's. -/
module

public import proofs.«01_k».proof.Proof.Kit
public import proofs.«01_k».proof.Proof.Gen.ProjInDgradIdeal.Value
public import proofs.«01_k».proof.Proof.Gen.ProjInDgradRefIdeal.Read
public import proofs.«01_k».proof.Proof.Products.Blocked

@[expose] public section

set_option maxRecDepth 16384

noncomputable section

namespace Cert.Products.ProjInDgrad

open Idealize.ShloMosaic Idealize.ShloMosaic.TcCoe Idealize.SL.Sem Cert.ProjInDgradIdeal Cert.ProjInDgradIdeal.Gen

variable (m : (ℓ : Loc nD τ sig) → Buf (Elt Ideal) ℓ) (c : Dev nD) (t : Fin cfg0.N)

/-- The blocks of point `t`. -/
abbrev B0 : FVec Ideal S512x768 .bf16 := iblk m c 0 t
abbrev B1 : FVec Ideal S2048x768 .bf16 := iblk m c 1 t
abbrev B2 : FVec Ideal S512x2048 .f32 := iblk m c 2 t

/-- What point `t` adds to the accumulator: the product of its two blocks. -/
def part (p : Fin 512) (q : Fin 2048) : EReal := ∑ k : Fin 768, B0 m c t (ix2 p k) * B1 m c t (ix2 q k)

theorem first (h : t.val % 17 = 0) (p : Fin 512) (q : Fin 2048) :
    (outsAt0 m c t.val t.isLt).2 (ix2 p q) = part m c t p q := by
  rw [outsAt0_A m c t h (by omega) (by omega)]
  frame_out
  unfold part
  simp only [k0_pay2]
  pointwise [k0_pay1]

theorem next (h : ¬ t.val % 17 = 0) (p : Fin 512) (q : Fin 2048) :
    (outsAt0 m c t.val t.isLt).2 (ix2 p q)
      = (outsAt0 m c (t.val - 1) (lt_of_le_of_lt (Nat.sub_le _ _) t.isLt)).2 (ix2 p q) + part m c t p q := by
  by_cases h' : t.val % 17 = 16
  on_goal 1 => rw [outsAt0_C m c t h (by omega) h']
  on_goal 2 => rw [outsAt0_B m c t h (by omega) h']
  all_goals
    frame_out
    unfold part
    simp only [k0_pay3]
    pointwise [k0_pay1]
    exact congrArg₂ (· + ·) (congrFun (Memref.IsWhole.read_unread (Memref.isWhole_whole cc0_scratch0) _) _) rfl

theorem written (h : t.val % 17 = 16) (p : Fin 512) (q : Fin 2048) :
    (outsAt0 m c t.val t.isLt).1 (ix2 p q)
      = (outsAt0 m c t.val t.isLt).2 (ix2 p q) + Ideal.ofBits .f32 0x3FD744FD#32 * B2 m c t (ix2 p q) := by
  rw [outsAt0_C m c t (by omega) (by omega) h]
  frame_out
  simp only [k0_pay4]
  pointwise [k0_pay3]

theorem idx0 : ∀ t : Fin grid0.N, win0_0.index t = ![t.val / 17, t.val % 17] := by decide +kernel
theorem idx1 : ∀ t : Fin grid0.N, win0_1.index t = ![0, t.val % 17] := by decide +kernel
theorem idx2 : ∀ t : Fin grid0.N, win0_2.index t = ![t.val / 17, 0] := by decide +kernel

/-- The arguments, at their places. -/
def dproj : FVec Ideal S4096x13056 .bf16 := m ((c : Thread nD τ).loc main_arg0)
def wIn : FVec Ideal S2048x13056 .f32 := m ((c : Thread nD τ).loc main_arg1)
def dh1 : FVec Ideal S4096x2048 .f32 := m ((c : Thread nD τ).loc main_arg2)

theorem V_v0 : V m c main_v0 = wIn m c := by
  unfold V
  simp only [hostOps0]
  after_results
  rfl

theorem block0 (i : Fin 4096) (p : Fin 512) (k : Fin 768) (hi : t.val / 17 = i / 512) (hp : p.val = i % 512) :
    B0 m c t (ix2 p k) = dproj m c (ix2 i (place (n := 17) (K := 13056) rfl (turn (by decide) t) k)) := by
  unfold B0 iblk
  rw [show V m c (Pipeline.arrRef spec0 0) = dproj m c from V_main_arg0 m c]
  refine congrArg (dproj m c) (funext fun a => Fin.ext ?_)
  blk_simp [idx0 t]
  fin_cases a <;> simp [place, turn] <;> omega

theorem block1 (j : Fin 2048) (k : Fin 768) :
    B1 m c t (ix2 j k) = wIn m c (ix2 j (place (n := 17) (K := 13056) rfl (turn (by decide) t) k)) := by
  unfold B1 iblk
  rw [show V m c (Pipeline.arrRef spec0 1) = wIn m c from V_v0 m c]
  refine congrArg (wIn m c) (funext fun a => Fin.ext ?_)
  blk_simp [idx1 t]
  fin_cases a <;> simp [place, turn] <;> omega

theorem block2 (i : Fin 4096) (p : Fin 512) (j : Fin 2048) (hi : t.val / 17 = i / 512) (hp : p.val = i % 512) :
    B2 m c t (ix2 p j) = dh1 m c (ix2 i j) := by
  unfold B2 iblk
  rw [show V m c (Pipeline.arrRef spec0 2) = dh1 m c from V_main_arg2 m c]
  refine congrArg (dh1 m c) (funext fun a => Fin.ext ?_)
  blk_simp [idx2 t]
  fin_cases a <;> simp <;> omega

/-- The kernel's result, at a place. -/
theorem result (i : Fin 4096) (j : Fin 2048) : Cert.ProjInDgradIdeal.Value.G3 m c (ix2 i j)
    = (∑ k : Fin 13056, dproj m c (ix2 i k) * wIn m c (ix2 j k)) + Ideal.ofBits .f32 0x3FD744FD#32 * dh1 m c (ix2 i j) := by
  have hi := i.2
  have hj := j.2
  have hN : cfg0.N = 136 := N_0
  have ht : 17 * (i.val / 512) + 16 < cfg0.N := by omega
  have hb : Cert.ProjInDgradIdeal.Value.pt3Of (ix2 i j) = 17 * (i.val / 512) + 16 := by
    show 17 * (1 * (i.val / 512 - 0) + 1 * (j.val / 2048 - 0)) + 16 = _
    omega
  have hl : Cert.ProjInDgradIdeal.Value.loc3Of (ix2 i j) = ix2 (⟨i.val % 512, by omega⟩ : Fin 512) j := by
    funext a
    match a with
    | ⟨0, _⟩ => rfl
    | ⟨1, _⟩ => exact Fin.ext (Nat.mod_eq_of_lt j.2)
  unfold Cert.ProjInDgradIdeal.Value.G3
  have hp : Cert.ProjInDgradIdeal.Value.pt3Of (ix2 i j) < cfg0.N := by rw [hb]; exact ht
  rw [dif_pos hp, ← Cert.ProjInDgradIdeal.Value.outsAt0_sweep m c _ hp, hl]
  simp only [hb]
  have d : (17 * (i.val / 512) + 16) / 17 = i.val / 512 := by omega
  refine (written m c ⟨_, ht⟩ (by show (17 * (i.val / 512) + 16) % 17 = 16; omega) _ _).trans (congrArg₂ (· + ·) ?_ ?_)
  · refine accumulated (n := 17) (by decide) (show 13056 = 17 * 768 from rfl)
      (fun t h => (outsAt0 m c t h).2 (ix2 (⟨i.val % 512, by omega⟩ : Fin 512) j))
      (fun k => dproj m c (ix2 i k) * wIn m c (ix2 j k)) (i.val / 512) ?_ ?_ _ ht d (by omega)
    · intro t h hr h0
      refine (first m c ⟨t, h⟩ h0 _ _).trans (Finset.sum_congr rfl fun k _ => ?_)
      rw [block0 m c ⟨t, h⟩ i _ k hr rfl, block1]
    · intro t h hr h0
      refine (next m c ⟨t, h⟩ h0 _ _).trans (congrArg₂ (· + ·) rfl (Finset.sum_congr rfl fun k _ => ?_))
      rw [block0 m c ⟨t, h⟩ i _ k hr rfl, block1]
  · rw [block2 m c ⟨_, ht⟩ i _ j d rfl]

/-- The reference's result, at a place. -/
theorem reference (x : FVec Ideal S4096x13056 .bf16) (w : FVec Ideal S2048x13056 .f32) (d : FVec Ideal S4096x2048 .f32)
    (i : Fin 4096) (j : Fin 2048) : Cert.ProjInDgradRefIdeal.Read.val_main_v8 (F := Ideal) x w d (ix2 i j)
    = (∑ k : Fin 13056, x (ix2 i k) * w (ix2 j k)) + Ideal.ofBits .f32 0x3FD744FD#32 * d (ix2 i j) := by
  rw [add_comm, Cert.ProjInDgradRefIdeal.Read.val_main_v8_apply, Cert.ProjInDgradRefIdeal.Read.val_main_v7_apply]
  refine congrArg₂ (· + ·) rfl (Finset.sum_congr rfl fun k _ => ?_)
  refine congrArg₂ (fun a b => x a * w b) (funext fun a => ?_) (funext fun a => ?_) <;> fin_cases a <;> rfl

attribute [local instance] Cert.ProjInDgradIdeal.Gen.facts Cert.ProjInDgradRefIdeal.Gen.facts

theorem frame_ri : Cert.quiescent_ProjInDgradRefIdeal := fun m ρ _ =>
  (θ_run Cert.ProjInDgradRefIdeal.defs _ _).mono
    (fun r h => ⟨fun c => (h c).2, sem_eq_zero_of_no_sems (by decide) r.2⟩)
    (Cert.ProjInDgradRefIdeal.Value.run m ρ)

theorem value : Cert.algebraic_ProjInDgradIdeal_ProjInDgradRefIdeal := by
  intro m g m' g' _ ha
  refine ⟨fun c => Cert.ProjInDgradRefIdeal.Read.val_main_v8 (F := Ideal) (dproj m c) (wIn m c) (dh1 m c), ?_, ?_⟩
  · refine (θ_run Cert.ProjInDgradIdeal.defs _ _).mono (fun r h c => ?_) (Cert.ProjInDgradIdeal.Value.run m g)
    refine ⟨(h c).1.trans (ext2 fun i j => ?_), (h c).2⟩
    exact (result m c i j).trans (reference _ _ _ i j).symm
  · refine (θ_run Cert.ProjInDgradRefIdeal.defs _ _).mono (fun r h c => ?_) (Cert.ProjInDgradRefIdeal.Value.run m' g')
    obtain ⟨a0, a1, a2⟩ := ha c
    refine ⟨(h c).1.trans ?_, (h c).2⟩
    rw [Cert.ProjInDgradRefIdeal.Read.val_main_v8_eq, a0, a1, a2]
    rfl

end Cert.Products.ProjInDgrad
-- ==== Proof.Products.FfnOutWgrad.lean ====
/- The gradient of the feed-forward block's output weights: the kernel's product, accumulated over four blocks of tokens, is the
   reference's. -/
module

public import proofs.«01_k».proof.Proof.Kit
public import proofs.«01_k».proof.Proof.Gen.FfnOutWgradIdeal.Value
public import proofs.«01_k».proof.Proof.Gen.FfnOutWgradRefIdeal.Read
public import proofs.«01_k».proof.Proof.Products.Blocked

@[expose] public section

set_option maxRecDepth 16384

noncomputable section

namespace Cert.Products.FfnOutWgrad

open Idealize.ShloMosaic Idealize.ShloMosaic.TcCoe Idealize.SL.Sem Cert.FfnOutWgradIdeal Cert.FfnOutWgradIdeal.Gen

variable (m : (ℓ : Loc nD τ sig) → Buf (Elt Ideal) ℓ) (c : Dev nD) (t : Fin cfg0.N)

/-- The blocks of point `t`. -/
abbrev B0 : FVec Ideal S1024x1408 .bf16 := iblk m c 0 t
abbrev B1 : FVec Ideal S1024x1024 .f32 := iblk m c 1 t

/-- The arguments, at their places. -/
def prod : FVec Ideal S4096x5632 .bf16 := m ((c : Thread nD τ).loc main_arg0)
def d : FVec Ideal S4096x2048 .f32 := m ((c : Thread nD τ).loc main_arg1)

theorem first (h : t.val % 4 = 0) (p : Fin 1408) (q : Fin 1024) : (outsAt0 m c t.val t.isLt).2 (ix2 p q)
    = ∑ k : Fin 1024, B0 m c t (ix2 k p) * B1 m c t (ix2 k q) := by
  rw [outsAt0_A m c t h (by omega) (by omega)]
  frame_out
  simp only [k0_pay2]
  pointwise [k0_pay1]

theorem next (h : ¬ t.val % 4 = 0) (p : Fin 1408) (q : Fin 1024) : (outsAt0 m c t.val t.isLt).2 (ix2 p q)
    = (outsAt0 m c (t.val - 1) (lt_of_le_of_lt (Nat.sub_le _ _) t.isLt)).2 (ix2 p q)
      + ∑ k : Fin 1024, B0 m c t (ix2 k p) * B1 m c t (ix2 k q) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (p : Fin 1408) (q : Fin 1024) :
    (outsAt0 m c t.val t.isLt).1 (ix2 p q) = (outsAt0 m c t.val t.isLt).2 (ix2 p q) := by
  rw [outsAt0_C m c t (by omega) (by omega) h]
  frame_out
  simp only [k0_pay4]
  pointwise [k0_pay3]

theorem idx0 : ∀ t : Fin grid0.N, win0_0.index t = ![t.val % 4, t.val / 8] := by decide +kernel
theorem idx1 : ∀ t : Fin grid0.N, win0_1.index t = ![t.val % 4, t.val / 4 % 2] := by decide +kernel

theorem block0 (i : Fin 5632) (p : Fin 1408) (k : Fin 1024) (hi : t.val / 8 = i / 1408) (hp : p.val = i % 1408) :
    B0 m c t (ix2 k p) = prod m c (ix2 (place (n := 4) (K := 4096) rfl (turn (by decide) t) k) i) := by
  unfold B0 iblk
  rw [show V m c (Pipeline.arrRef spec0 0) = prod m c from V_main_arg0 m c]
  refine congrArg (prod m c) (funext fun a => Fin.ext ?_)
  blk_simp [idx0 t]
  fin_cases a <;> simp [place, turn] <;> omega

theorem block1 (j : Fin 2048) (q : Fin 1024) (k : Fin 1024) (hj : t.val / 4 % 2 = j / 1024) (hq : q.val = j % 1024) :
    B1 m c t (ix2 k q) = d m c (ix2 (place (n := 4) (K := 4096) rfl (turn (by decide) t) k) j) := by
  unfold B1 iblk
  rw [show V m c (Pipeline.arrRef spec0 1) = d m c from V_main_arg1 m c]
  refine congrArg (d m c) (funext fun a => Fin.ext ?_)
  blk_simp [idx1 t]
  fin_cases a <;> simp [place, turn] <;> omega

/-- The kernel's result, at a place. -/
theorem result (i : Fin 5632) (j : Fin 2048) : Cert.FfnOutWgradIdeal.Value.G2 m c (ix2 i j)
    = ∑ k : Fin 4096, prod m c (ix2 k i) * d m c (ix2 k j) := by
  have hi := i.2
  have hj := j.2
  have hN : cfg0.N = 32 := N_0
  have hb : Cert.FfnOutWgradIdeal.Value.pt2Of (ix2 i j) = 4 * (2 * (i.val / 1408) + j.val / 1024) + 3 := by
    show 4 * (2 * (i.val / 1408 - 0) + 1 * (j.val / 1024 - 0)) + 3 = _
    omega
  have hp : Cert.FfnOutWgradIdeal.Value.pt2Of (ix2 i j) < cfg0.N := by omega
  have hl : Cert.FfnOutWgradIdeal.Value.loc2Of (ix2 i j)
      = ix2 (⟨i.val % 1408, by omega⟩ : Fin 1408) (⟨j.val % 1024, by omega⟩ : Fin 1024) := by
    funext a
    match a with
    | ⟨0, _⟩ => rfl
    | ⟨1, _⟩ => rfl
  unfold Cert.FfnOutWgradIdeal.Value.G2
  rw [dif_pos hp, ← Cert.FfnOutWgradIdeal.Value.outsAt0_sweep m c _ hp, hl]
  refine (written m c ⟨_, hp⟩ (by show Cert.FfnOutWgradIdeal.Value.pt2Of (ix2 i j) % 4 = 3; omega) _ _).trans ?_
  exact accumulated_product (n := 4) (by decide) (show 4096 = 4 * 1024 from rfl)
    (fun t h => (outsAt0 m c t h).2 (ix2 (⟨i.val % 1408, by omega⟩ : Fin 1408) (⟨j.val % 1024, by omega⟩ : Fin 1024)))
    (fun t h k => B0 m c ⟨t, h⟩ (ix2 k (⟨i.val % 1408, by omega⟩ : Fin 1408)))
    (fun t h k => B1 m c ⟨t, h⟩ (ix2 k (⟨j.val % 1024, by omega⟩ : Fin 1024)))
    (fun k => prod m c (ix2 k i)) (fun k => d m c (ix2 k j)) (2 * (i.val / 1408) + j.val / 1024)
    (fun t h h0 => first m c ⟨t, h⟩ h0 _ _) (fun t h h0 => next m c ⟨t, h⟩ h0 _ _)
    (fun t h hr k => block0 m c ⟨t, h⟩ i _ k (by show t / 8 = _; omega) rfl)
    (fun t h hr k => block1 m c ⟨t, h⟩ j _ k (by show t / 4 % 2 = _; omega) rfl)
    _ hp (by omega) (by omega)

/-- The reference's result, at a place. -/
theorem reference (x : FVec Ideal S4096x5632 .bf16) (d : FVec Ideal S4096x2048 .f32) (i : Fin 5632) (j : Fin 2048) :
    Cert.FfnOutWgradRefIdeal.Read.val_main_v5 (F := Ideal) x d (ix2 i j) = ∑ k : Fin 4096, x (ix2 k i) * d (ix2 k j) := by
  rw [Cert.FfnOutWgradRefIdeal.Read.val_main_v5_apply, Cert.FfnOutWgradRefIdeal.Read.val_main_v4_apply]
  refine (Cert.FfnOutWgradRefIdeal.Read.val_main_v3_apply x d _).trans (Finset.sum_congr rfl fun k _ => ?_)
  rw [mul_comm]
  refine congrArg₂ (fun a b => x a * d b) (funext fun a => ?_) (funext fun a => ?_) <;> fin_cases a <;> rfl

attribute [local instance] Cert.FfnOutWgradIdeal.Gen.facts Cert.FfnOutWgradRefIdeal.Gen.facts

theorem frame_ri : Cert.quiescent_FfnOutWgradRefIdeal := fun m ρ _ =>
  (θ_run Cert.FfnOutWgradRefIdeal.defs _ _).mono
    (fun r h => ⟨fun c => (h c).2, sem_eq_zero_of_no_sems (by decide) r.2⟩)
    (Cert.FfnOutWgradRefIdeal.Value.run m ρ)

theorem value : Cert.algebraic_FfnOutWgradIdeal_FfnOutWgradRefIdeal := by
  intro m g m' g' _ ha
  refine ⟨fun c => Cert.FfnOutWgradRefIdeal.Read.val_main_v5 (F := Ideal) (prod m c) (d m c), ?_, ?_⟩
  · refine (θ_run Cert.FfnOutWgradIdeal.defs _ _).mono (fun r h c => ?_) (Cert.FfnOutWgradIdeal.Value.run m g)
    refine ⟨(h c).1.trans (ext2 fun i j => ?_), (h c).2⟩
    exact (result m c i j).trans (reference _ _ i j).symm
  · refine (θ_run Cert.FfnOutWgradRefIdeal.defs _ _).mono (fun r h c => ?_) (Cert.FfnOutWgradRefIdeal.Value.run m' g')
    obtain ⟨a0, a1⟩ := ha c
    refine ⟨(h c).1.trans ?_, (h c).2⟩
    rw [Cert.FfnOutWgradRefIdeal.Read.val_main_v5_eq, a0, a1]
    rfl

end Cert.Products.FfnOutWgrad
-- ==== Proof.Products.FfnOutDgrad.lean ====
/- The gradient of the gated product the feed-forward block's output weights meet: each point of the kernel's grid writes one block
   of the product, whole. -/
module

public import proofs.«01_k».proof.Proof.Kit
public import proofs.«01_k».proof.Proof.Gen.FfnOutDgradIdeal.Value
public import proofs.«01_k».proof.Proof.Gen.FfnOutDgradRefIdeal.Read
public import proofs.«01_k».proof.Proof.Products.Blocked

@[expose] public section

set_option maxRecDepth 16384

noncomputable section

namespace Cert.Products.FfnOutDgrad

open Idealize.ShloMosaic Idealize.ShloMosaic.TcCoe Idealize.SL.Sem Cert.FfnOutDgradIdeal Cert.FfnOutDgradIdeal.Gen

variable (m : (ℓ : Loc nD τ sig) → Buf (Elt Ideal) ℓ) (c : Dev nD) (t : Fin cfg0.N)

/-- The blocks of point `t`. -/
abbrev B0 : FVec Ideal S512x2048 .f32 := iblk m c 0 t
abbrev B1 : FVec Ideal S1408x2048 .bf16 := iblk m c 1 t

/-- The arguments, at their places. -/
def d : FVec Ideal S4096x2048 .f32 := m ((c : Thread nD τ).loc main_arg0)
def wOut : FVec Ideal S5632x2048 .f32 := m ((c : Thread nD τ).loc main_arg1)

theorem written (y : S512x1408.Idx) : out0_2 (iblk m c 0 t) (iblk m c 1 t) y
    = ∑ k : Fin 2048, B0 m c t (ix2 (y 0) k) * B1 m c t (ix2 (y 1) k) := by
  rw [ValueIdx.eq_ix2 y]
  frame_out
  pointwise [k0_pay1]

theorem idx0 : ∀ t : Fin grid0.N, win0_0.index t = ![t.val / 4, 0] := by decide +kernel
theorem idx1 : ∀ t : Fin grid0.N, win0_1.index t = ![t.val % 4, 0] := by decide +kernel
theorem idx2 : ∀ t : Fin grid0.N, win0_2.index t = ![t.val / 4, t.val % 4] := by decide +kernel

/-- Where the block written at point `t` lies. -/
theorem place2 (y : S512x1408.Idx) : ((win0_2.blk t).view.emb y 0).val = t.val / 4 * 512 + (y 0).val
    ∧ ((win0_2.blk t).view.emb y 1).val = t.val % 4 * 1408 + (y 1).val := by
  constructor
  · show win0_2.index t (0 : Fin 2) * 512 + 1 * (y 0).val = _
    rw [idx2 t, one_mul]; rfl
  · show win0_2.index t (1 : Fin 2) * 1408 + 1 * (y 1).val = _
    rw [idx2 t, one_mul]; rfl

theorem V_v0 : V m c main_v0 = wOut m c := by
  unfold V
  simp only [hostOps0]
  after_results
  rfl

theorem block0 (i : Fin 4096) (p : Fin 512) (k : Fin 2048) (hi : i.val = t.val / 4 * 512 + p) :
    B0 m c t (ix2 p k) = d m c (ix2 i k) := by
  unfold B0 iblk
  rw [show V m c (Pipeline.arrRef spec0 0) = d m c from V_main_arg0 m c]
  refine congrArg (d m c) (funext fun a => Fin.ext ?_)
  blk_simp [idx0 t]
  fin_cases a <;> simp <;> omega

theorem block1 (j : Fin 5632) (q : Fin 1408) (k : Fin 2048) (hj : j.val = t.val % 4 * 1408 + q) :
    B1 m c t (ix2 q k) = wOut m c (ix2 j k) := by
  unfold B1 iblk
  rw [show V m c (Pipeline.arrRef spec0 1) = wOut m c from V_v0 m c]
  refine congrArg (wOut m c) (funext fun a => Fin.ext ?_)
  blk_simp [idx1 t]
  fin_cases a <;> simp <;> omega

/-- The reference's result, at a place. -/
theorem reference (d : FVec Ideal S4096x2048 .f32) (w : FVec Ideal S5632x2048 .f32) (i : S4096x5632.Idx) :
    Cert.FfnOutDgradRefIdeal.Read.val_main_v3 (F := Ideal) d w i = ∑ k : Fin 2048, d (ix2 (i 0) k) * w (ix2 (i 1) k) := by
  rw [Cert.FfnOutDgradRefIdeal.Read.val_main_v3_apply]
  refine (Cert.FfnOutDgradRefIdeal.Read.val_main_v2_apply d w i).trans (Finset.sum_congr rfl fun k _ => ?_)
  refine congrArg₂ (fun a b => d a * w b) (funext fun a => ?_) (funext fun a => ?_) <;> fin_cases a <;> rfl

/-- The kernel's result is the reference's. -/
theorem result : (dats m 0 c).arrAt 2 cfg0.N
    = Cert.FfnOutDgradRefIdeal.Read.val_main_v3 (F := Ideal) (d m c) (wOut m c) := by
  refine (dats m 0 c).arrAt_eq_of_covers 2 _ (by decide +kernel) fun t hf y => ?_
  blk_simp
  rw [after0_2]
  refine (written m c t y).trans (Eq.trans (Finset.sum_congr rfl fun k _ => ?_) (reference _ _ _).symm)
  rw [block0 m c t _ (y 0) k (place2 t y).1, block1 m c t _ (y 1) k (place2 t y).2]

attribute [local instance] Cert.FfnOutDgradIdeal.Gen.facts Cert.FfnOutDgradRefIdeal.Gen.facts

theorem frame_ri : Cert.quiescent_FfnOutDgradRefIdeal := fun m ρ _ =>
  (θ_run Cert.FfnOutDgradRefIdeal.defs _ _).mono
    (fun r h => ⟨fun c => (h c).2, sem_eq_zero_of_no_sems (by decide) r.2⟩)
    (Cert.FfnOutDgradRefIdeal.Value.run m ρ)

theorem value : Cert.algebraic_FfnOutDgradIdeal_FfnOutDgradRefIdeal := by
  intro m g m' g' _ ha
  refine ⟨fun c => Cert.FfnOutDgradRefIdeal.Read.val_main_v3 (F := Ideal) (d m c) (wOut m c), ?_, ?_⟩
  · exact (θ_run Cert.FfnOutDgradIdeal.defs _ _).mono (fun r h c => ⟨(h c).1.trans (result m c), (h c).2⟩)
      (Cert.FfnOutDgradIdeal.Value.run_blocks m g)
  · refine (θ_run Cert.FfnOutDgradRefIdeal.defs _ _).mono (fun r h c => ?_) (Cert.FfnOutDgradRefIdeal.Value.run m' g')
    obtain ⟨a0, a1⟩ := ha c
    refine ⟨(h c).1.trans ?_, (h c).2⟩
    rw [Cert.FfnOutDgradRefIdeal.Read.val_main_v3_eq, a0, a1]
    rfl

end Cert.Products.FfnOutDgrad
-- ==== Proof.Products.ProjInWgrad.lean ====
/- The gradient of a layer's input projection: the kernel's product, accumulated over four blocks of tokens, is the reference's. -/
module

public import proofs.«01_k».proof.Proof.Kit
public import proofs.«01_k».proof.Proof.Gen.ProjInWgradIdeal.Value
public import proofs.«01_k».proof.Proof.Gen.ProjInWgradRefIdeal.Read
public import proofs.«01_k».proof.Proof.Products.Blocked

@[expose] public section

set_option maxRecDepth 16384

noncomputable section

namespace Cert.Products.ProjInWgrad

open Idealize.ShloMosaic Idealize.ShloMosaic.TcCoe Idealize.SL.Sem Cert.ProjInWgradIdeal Cert.ProjInWgradIdeal.Gen

variable (m : (ℓ : Loc nD τ sig) → Buf (Elt Ideal) ℓ) (c : Dev nD) (t : Fin cfg0.N)

/-- The blocks of point `t`. -/
abbrev B0 : FVec Ideal S1024x2048 .f32 := iblk m c 0 t
abbrev B1 : FVec Ideal S1024x768 .bf16 := iblk m c 1 t

/-- The arguments, at their places. -/
def h : FVec Ideal S4096x2048 .f32 := m ((c : Thread nD τ).loc main_arg0)
def dproj : FVec Ideal S4096x13056 .bf16 := m ((c : Thread nD τ).loc main_arg1)

theorem first (h : t.val % 4 = 0) (p : Fin 2048) (q : Fin 768) : (outsAt0 m c t.val t.isLt).2 (ix2 p q)
    = ∑ k : Fin 1024, B0 m c t (ix2 k p) * B1 m c t (ix2 k q) := by
  rw [outsAt0_A m c t h (by omega) (by omega)]
  frame_out
  simp only [k0_pay2]
  pointwise [k0_pay1]

theorem next (h : ¬ t.val % 4 = 0) (p : Fin 2048) (q : Fin 768) : (outsAt0 m c t.val t.isLt).2 (ix2 p q)
    = (outsAt0 m c (t.val - 1) (lt_of_le_of_lt (Nat.sub_le _ _) t.isLt)).2 (ix2 p q)
      + ∑ k : Fin 1024, B0 m c t (ix2 k p) * B1 m c t (ix2 k q) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (p : Fin 2048) (q : Fin 768) :
    (outsAt0 m c t.val t.isLt).1 (ix2 p q) = (outsAt0 m c t.val t.isLt).2 (ix2 p q) := by
  rw [outsAt0_C m c t (by omega) (by omega) h]
  frame_out
  simp only [k0_pay4]
  pointwise [k0_pay3]

theorem idx0 : ∀ t : Fin grid0.N, win0_0.index t = ![t.val % 4, 0] := by decide +kernel
theorem idx1 : ∀ t : Fin grid0.N, win0_1.index t = ![t.val % 4, t.val / 4] := by decide +kernel

theorem block0 (i : Fin 2048) (k : Fin 1024) :
    B0 m c t (ix2 k i) = h m c (ix2 (place (n := 4) (K := 4096) rfl (turn (by decide) t) k) i) := by
  unfold B0 iblk
  rw [show V m c (Pipeline.arrRef spec0 0) = h m c from V_main_arg0 m c]
  refine congrArg (h m c) (funext fun a => Fin.ext ?_)
  blk_simp [idx0 t]
  fin_cases a <;> simp [place, turn] <;> omega

theorem block1 (j : Fin 13056) (q : Fin 768) (k : Fin 1024) (hj : t.val / 4 = j / 768) (hq : q.val = j % 768) :
    B1 m c t (ix2 k q) = dproj m c (ix2 (place (n := 4) (K := 4096) rfl (turn (by decide) t) k) j) := by
  unfold B1 iblk
  rw [show V m c (Pipeline.arrRef spec0 1) = dproj m c from V_main_arg1 m c]
  refine congrArg (dproj m c) (funext fun a => Fin.ext ?_)
  blk_simp [idx1 t]
  fin_cases a <;> simp [place, turn] <;> omega

/-- The kernel's result, at a place. -/
theorem result (i : Fin 2048) (j : Fin 13056) : Cert.ProjInWgradIdeal.Value.G2 m c (ix2 i j)
    = ∑ k : Fin 4096, h m c (ix2 k i) * dproj m c (ix2 k j) := by
  have hi := i.2
  have hj := j.2
  have hN : cfg0.N = 68 := N_0
  have hb : Cert.ProjInWgradIdeal.Value.pt2Of (ix2 i j) = 4 * (j.val / 768) + 3 := by
    show 4 * (17 * (i.val / 2048 - 0) + 1 * (j.val / 768 - 0)) + 3 = _
    omega
  have hp : Cert.ProjInWgradIdeal.Value.pt2Of (ix2 i j) < cfg0.N := by omega
  have hl : Cert.ProjInWgradIdeal.Value.loc2Of (ix2 i j) = ix2 i (⟨j.val % 768, by omega⟩ : Fin 768) := by
    funext a
    match a with
    | ⟨0, _⟩ => exact Fin.ext (Nat.mod_eq_of_lt i.2)
    | ⟨1, _⟩ => rfl
  unfold Cert.ProjInWgradIdeal.Value.G2
  rw [dif_pos hp, ← Cert.ProjInWgradIdeal.Value.outsAt0_sweep m c _ hp, hl]
  refine (written m c ⟨_, hp⟩ (by show Cert.ProjInWgradIdeal.Value.pt2Of (ix2 i j) % 4 = 3; omega) _ _).trans ?_
  exact accumulated_product (n := 4) (by decide) (show 4096 = 4 * 1024 from rfl)
    (fun t h => (outsAt0 m c t h).2 (ix2 i (⟨j.val % 768, by omega⟩ : Fin 768)))
    (fun t h k => B0 m c ⟨t, h⟩ (ix2 k i)) (fun t h k => B1 m c ⟨t, h⟩ (ix2 k (⟨j.val % 768, by omega⟩ : Fin 768)))
    (fun k => h m c (ix2 k i)) (fun k => dproj m c (ix2 k j)) (j.val / 768)
    (fun t h h0 => first m c ⟨t, h⟩ h0 _ _) (fun t h h0 => next m c ⟨t, h⟩ h0 _ _)
    (fun t h hr k => block0 m c ⟨t, h⟩ i k) (fun t h hr k => block1 m c ⟨t, h⟩ j _ k hr rfl) _ hp (by omega) (by omega)

/-- The reference's result, at a place. -/
theorem reference (x : FVec Ideal S4096x2048 .f32) (d : FVec Ideal S4096x13056 .bf16) (i : Fin 2048) (j : Fin 13056) :
    Cert.ProjInWgradRefIdeal.Read.val_main_v5 (F := Ideal) x d (ix2 i j) = ∑ k : Fin 4096, x (ix2 k i) * d (ix2 k j) := by
  rw [Cert.ProjInWgradRefIdeal.Read.val_main_v5_apply, Cert.ProjInWgradRefIdeal.Read.val_main_v4_apply]
  refine (Cert.ProjInWgradRefIdeal.Read.val_main_v3_apply x d _).trans (Finset.sum_congr rfl fun k _ => ?_)
  rw [mul_comm]
  refine congrArg₂ (fun a b => x a * d b) (funext fun a => ?_) (funext fun a => ?_) <;> fin_cases a <;> rfl

attribute [local instance] Cert.ProjInWgradIdeal.Gen.facts Cert.ProjInWgradRefIdeal.Gen.facts

theorem frame_ri : Cert.quiescent_ProjInWgradRefIdeal := fun m ρ _ =>
  (θ_run Cert.ProjInWgradRefIdeal.defs _ _).mono
    (fun r h => ⟨fun c => (h c).2, sem_eq_zero_of_no_sems (by decide) r.2⟩)
    (Cert.ProjInWgradRefIdeal.Value.run m ρ)

theorem value : Cert.algebraic_ProjInWgradIdeal_ProjInWgradRefIdeal := by
  intro m g m' g' _ ha
  refine ⟨fun c => Cert.ProjInWgradRefIdeal.Read.val_main_v5 (F := Ideal) (h m c) (dproj m c), ?_, ?_⟩
  · refine (θ_run Cert.ProjInWgradIdeal.defs _ _).mono (fun r h c => ?_) (Cert.ProjInWgradIdeal.Value.run m g)
    refine ⟨(h c).1.trans (ext2 fun i j => ?_), (h c).2⟩
    exact (result m c i j).trans (reference _ _ i j).symm
  · refine (θ_run Cert.ProjInWgradRefIdeal.defs _ _).mono (fun r h c => ?_) (Cert.ProjInWgradRefIdeal.Value.run m' g')
    obtain ⟨a0, a1⟩ := ha c
    refine ⟨(h c).1.trans ?_, (h c).2⟩
    rw [Cert.ProjInWgradRefIdeal.Read.val_main_v5_eq, a0, a1]
    rfl

end Cert.Products.ProjInWgrad
-- ==== Proof.Products.FfnInDgrad.lean ====
/- The gradient of the feed-forward block's input through its weights, kept in four shards: the kernel's product over eight blocks
   of columns, with the residual's share added last, is the reference's. -/
module

public import proofs.«01_k».proof.Proof.Kit
public import proofs.«01_k».proof.Proof.Gen.FfnInDgradIdeal.Value
public import proofs.«01_k».proof.Proof.Gen.FfnInDgradRefIdeal.Read
public import proofs.«01_k».proof.Proof.Products.Blocked

@[expose] public section

set_option maxRecDepth 16384

noncomputable section

namespace Cert.Products.FfnInDgrad

open Idealize.ShloMosaic Idealize.ShloMosaic.TcCoe Idealize.SL.Sem Cert.FfnInDgradIdeal Cert.FfnInDgradIdeal.Gen

variable (m : (ℓ : Loc nD τ sig) → Buf (Elt Ideal) ℓ) (c : Dev nD) (t : Fin cfg0.N)

/-- The blocks of point `t`. -/
abbrev B0 : FVec Ideal S512x1408 .bf16 := iblk m c 0 t
abbrev B1 : FVec Ideal S1x2048x1408 .bf16 := iblk m c 1 t
abbrev B2 : FVec Ideal S512x2048 .f32 := iblk m c 2 t

/-- The arguments, at their places. -/
def dgu : FVec Ideal S4096x11264 .bf16 := m ((c : Thread nD τ).loc main_arg0)
def w : FVec Ideal S4x2048x2816 .f32 := m ((c : Thread nD τ).loc main_arg1)
def dh : FVec Ideal S4096x2048 .f32 := m ((c : Thread nD τ).loc main_arg2)

theorem first (h : t.val % 8 = 0) (p : Fin 512) (q : Fin 2048) : (outsAt0 m c t.val t.isLt).2 (ix2 p q)
    = ∑ k : Fin 1408, B0 m c t (ix2 p k) * B1 m c t (ix3 0 q k) := by
  rw [outsAt0_A m c t h (by omega) (by omega)]
  frame_out
  simp only [k0_pay2]
  pointwise [k0_pay1]

theorem next (h : ¬ t.val % 8 = 0) (p : Fin 512) (q : Fin 2048) : (outsAt0 m c t.val t.isLt).2 (ix2 p q)
    = (outsAt0 m c (t.val - 1) (lt_of_le_of_lt (Nat.sub_le _ _) t.isLt)).2 (ix2 p q)
      + ∑ k : Fin 1408, B0 m c t (ix2 p k) * B1 m c t (ix3 0 q k) := by
  by_cases h' : t.val % 8 = 7
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 8 = 7) (p : Fin 512) (q : Fin 2048) :
    (outsAt0 m c t.val t.isLt).1 (ix2 p q) = (outsAt0 m c t.val t.isLt).2 (ix2 p q) + Ideal.ofBits .f32 0x3FD744FD#32 * B2 m c t (ix2 p q) := by
  rw [outsAt0_C m c t (by omega) (by omega) h]
  frame_out
  simp only [k0_pay4]
  pointwise [k0_pay3]

theorem idx0 : ∀ t : Fin grid0.N, win0_0.index t = ![t.val / 8, t.val % 8] := by decide +kernel
theorem idx1 : ∀ t : Fin grid0.N, win0_1.index t = ![t.val % 8 / 2, 0, t.val % 8 % 2] := by decide +kernel
theorem idx2 : ∀ t : Fin grid0.N, win0_2.index t = ![t.val / 8, 0] := by decide +kernel

theorem V_v0 : V m c main_v0 = w m c := by
  unfold V
  simp only [hostOps0]
  after_results
  rfl

theorem block0 (i : Fin 4096) (p : Fin 512) (k : Fin 1408) (hi : t.val / 8 = i / 512) (hp : p.val = i % 512) :
    B0 m c t (ix2 p k) = dgu m c (ix2 i (place (n := 8) (K := 11264) rfl (turn (by decide) t) k)) := by
  unfold B0 iblk
  rw [show V m c (Pipeline.arrRef spec0 0) = dgu m c from V_main_arg0 m c]
  refine congrArg (dgu m c) (funext fun a => Fin.ext ?_)
  blk_simp [idx0 t]
  fin_cases a <;> simp [place, turn] <;> omega

theorem block1 (j : Fin 2048) (k : Fin 1408) :
    B1 m c t (ix3 0 j k) = columns (n := 4) (l := 2816) (by decide) (show 11264 = 4 * 2816 from rfl) (w m c) j (place (n := 8) (K := 11264) rfl (turn (by decide) t) k) := by
  unfold B1 iblk columns
  rw [show V m c (Pipeline.arrRef spec0 1) = w m c from V_v0 m c]
  refine congrArg (w m c) (funext fun a => Fin.ext ?_)
  blk_simp [idx1 t]
  fin_cases a <;> simp [place, turn] <;> omega

theorem block2 (i : Fin 4096) (p : Fin 512) (j : Fin 2048) (hi : t.val / 8 = i / 512) (hp : p.val = i % 512) :
    B2 m c t (ix2 p j) = dh m c (ix2 i j) := by
  unfold B2 iblk
  rw [show V m c (Pipeline.arrRef spec0 2) = dh m c from V_main_arg2 m c]
  refine congrArg (dh m c) (funext fun a => Fin.ext ?_)
  blk_simp [idx2 t]
  fin_cases a <;> simp <;> omega

/-- The kernel's result, at a place. -/
theorem result (i : Fin 4096) (j : Fin 2048) : Cert.FfnInDgradIdeal.Value.G3 m c (ix2 i j)
    = (∑ k : Fin 11264, dgu m c (ix2 i k) * columns (n := 4) (l := 2816) (by decide) (show 11264 = 4 * 2816 from rfl) (w m c) j k)
      + Ideal.ofBits .f32 0x3FD744FD#32 * dh m c (ix2 i j) := by
  have hi := i.2
  have hj := j.2
  have hN : cfg0.N = 64 := N_0
  have hb : Cert.FfnInDgradIdeal.Value.pt3Of (ix2 i j) = 8 * (i.val / 512) + 7 := by
    show 8 * (1 * (i.val / 512 - 0) + 1 * (j.val / 2048 - 0)) + 7 = _
    omega
  have hp : Cert.FfnInDgradIdeal.Value.pt3Of (ix2 i j) < cfg0.N := by omega
  have hl : Cert.FfnInDgradIdeal.Value.loc3Of (ix2 i j) = ix2 (⟨i.val % 512, by omega⟩ : Fin 512) j := by
    funext a
    match a with
    | ⟨0, _⟩ => rfl
    | ⟨1, _⟩ => exact Fin.ext (Nat.mod_eq_of_lt j.2)
  unfold Cert.FfnInDgradIdeal.Value.G3
  rw [dif_pos hp, ← Cert.FfnInDgradIdeal.Value.outsAt0_sweep m c _ hp, hl]
  refine (written m c ⟨_, hp⟩ (by show Cert.FfnInDgradIdeal.Value.pt3Of (ix2 i j) % 8 = 7; omega) _ _).trans (congrArg₂ (· + ·) ?_ ?_)
  · exact accumulated_product (n := 8) (by decide) (show 11264 = 8 * 1408 from rfl)
      (fun t h => (outsAt0 m c t h).2 (ix2 (⟨i.val % 512, by omega⟩ : Fin 512) j))
      (fun t h k => B0 m c ⟨t, h⟩ (ix2 (⟨i.val % 512, by omega⟩ : Fin 512) k)) (fun t h k => B1 m c ⟨t, h⟩ (ix3 0 j k))
      (fun k => dgu m c (ix2 i k)) (fun k => columns (n := 4) (l := 2816) (by decide) (show 11264 = 4 * 2816 from rfl) (w m c) j k) (i.val / 512)
      (fun t h h0 => first m c ⟨t, h⟩ h0 _ _) (fun t h h0 => next m c ⟨t, h⟩ h0 _ _)
      (fun t h hr k => block0 m c ⟨t, h⟩ i _ k hr rfl) (fun t h hr k => block1 m c ⟨t, h⟩ j k) _ hp (by omega) (by omega)
  · rw [block2 m c ⟨_, hp⟩ i _ j (by show Cert.FfnInDgradIdeal.Value.pt3Of (ix2 i j) / 8 = _; omega) rfl]

/-- The reference's result, at a place. -/
theorem reference (x : FVec Ideal S4096x11264 .bf16) (w : FVec Ideal S4x2048x2816 .f32) (d : FVec Ideal S4096x2048 .f32) (i : Fin 4096) (j : Fin 2048) :
    Cert.FfnInDgradRefIdeal.Read.val_main_v10 (F := Ideal) x w d (ix2 i j) = (∑ k : Fin 11264, x (ix2 i k) * columns (n := 4) (l := 2816) (by decide) (show 11264 = 4 * 2816 from rfl) w j k)
      + Ideal.ofBits .f32 0x3FD744FD#32 * d (ix2 i j) := by
  rw [add_comm, Cert.FfnInDgradRefIdeal.Read.val_main_v10_apply, Cert.FfnInDgradRefIdeal.Read.val_main_v9_apply]
  refine congrArg₂ (· + ·) rfl (Finset.sum_congr rfl fun k _ => ?_)
  have hj := j.2
  have hk := k.2
  rw [Cert.FfnInDgradRefIdeal.Read.val_main_v3_apply, Cert.FfnInDgradRefIdeal.Read.val_main_v2_apply]
  unfold columns
  refine congrArg₂ (fun a b => x a * w b) (funext fun a => ?_) (funext fun a => ?_) <;> fin_cases a <;> first | rfl | refine Fin.ext ?_
  · show (j.val * 11264 + k.val) / 2816 % 4 = k.val / 2816
    omega
  · show (j.val * 11264 + k.val) / 11264 = j.val
    omega
  · show (j.val * 11264 + k.val) % 2816 = k.val % 2816
    omega

attribute [local instance] Cert.FfnInDgradIdeal.Gen.facts Cert.FfnInDgradRefIdeal.Gen.facts

theorem frame_ri : Cert.quiescent_FfnInDgradRefIdeal := fun m ρ _ =>
  (θ_run Cert.FfnInDgradRefIdeal.defs _ _).mono
    (fun r h => ⟨fun c => (h c).2, sem_eq_zero_of_no_sems (by decide) r.2⟩)
    (Cert.FfnInDgradRefIdeal.Value.run m ρ)

theorem value : Cert.algebraic_FfnInDgradIdeal_FfnInDgradRefIdeal := by
  intro m g m' g' _ ha
  refine ⟨fun c => Cert.FfnInDgradRefIdeal.Read.val_main_v10 (F := Ideal) (dgu m c) (w m c) (dh m c), ?_, ?_⟩
  · refine (θ_run Cert.FfnInDgradIdeal.defs _ _).mono (fun r h c => ?_) (Cert.FfnInDgradIdeal.Value.run m g)
    refine ⟨(h c).1.trans (ext2 fun i j => ?_), (h c).2⟩
    exact (result m c i j).trans (reference _ _ _ i j).symm
  · refine (θ_run Cert.FfnInDgradRefIdeal.defs _ _).mono (fun r h c => ?_) (Cert.FfnInDgradRefIdeal.Value.run m' g')
    obtain ⟨a0, a1, a2⟩ := ha c
    refine ⟨(h c).1.trans ?_, (h c).2⟩
    rw [Cert.FfnInDgradRefIdeal.Read.val_main_v10_eq, a0, a1, a2]
    rfl

end Cert.Products.FfnInDgrad
-- ==== Proof.Products.FfnInWgrad.lean ====
/- The gradient of the feed-forward block's input weights, in the four shards they are kept in: the kernel's product, accumulated
   over four blocks of tokens, is the reference's. -/
module

public import proofs.«01_k».proof.Proof.Kit
public import proofs.«01_k».proof.Proof.Gen.FfnInWgradIdeal.Value
public import proofs.«01_k».proof.Proof.Gen.FfnInWgradRefIdeal.Read
public import proofs.«01_k».proof.Proof.Products.Blocked

@[expose] public section

set_option maxRecDepth 16384

noncomputable section

namespace Cert.Products.FfnInWgrad

open Idealize.ShloMosaic Idealize.ShloMosaic.TcCoe Idealize.SL.Sem Cert.FfnInWgradIdeal Cert.FfnInWgradIdeal.Gen

variable (m : (ℓ : Loc nD τ sig) → Buf (Elt Ideal) ℓ) (c : Dev nD) (t : Fin cfg0.N)

/-- The blocks of point `t`. -/
abbrev B0 : FVec Ideal S1024x2048 .f32 := iblk m c 0 t
abbrev B1 : FVec Ideal S1024x1408 .bf16 := iblk m c 1 t

/-- The arguments, at their places. -/
def h : FVec Ideal S4096x2048 .f32 := m ((c : Thread nD τ).loc main_arg0)
def d : FVec Ideal S4096x11264 .bf16 := m ((c : Thread nD τ).loc main_arg1)

theorem first (h : t.val % 4 = 0) (p : Fin 2048) (q : Fin 1408) : (outsAt0 m c t.val t.isLt).2 (ix2 p q)
    = ∑ k : Fin 1024, B0 m c t (ix2 k p) * B1 m c t (ix2 k q) := by
  rw [outsAt0_A m c t h (by omega) (by omega)]
  frame_out
  simp only [k0_pay2]
  pointwise [k0_pay1]

theorem next (h : ¬ t.val % 4 = 0) (p : Fin 2048) (q : Fin 1408) : (outsAt0 m c t.val t.isLt).2 (ix2 p q)
    = (outsAt0 m c (t.val - 1) (lt_of_le_of_lt (Nat.sub_le _ _) t.isLt)).2 (ix2 p q)
      + ∑ k : Fin 1024, B0 m c t (ix2 k p) * B1 m c t (ix2 k q) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (z : Fin 1) (p : Fin 2048) (q : Fin 1408) :
    (outsAt0 m c t.val t.isLt).1 (ix3 z p q) = (outsAt0 m c t.val t.isLt).2 (ix2 p q) := by
  rw [outsAt0_C m c t (by omega) (by omega) h]
  frame_out
  simp only [k0_pay4]
  pointwise [k0_pay3]

theorem idx0 : ∀ t : Fin grid0.N, win0_0.index t = ![t.val % 4, 0] := by decide +kernel
theorem idx1 : ∀ t : Fin grid0.N, win0_1.index t = ![t.val % 4, t.val / 4] := by decide +kernel

theorem block0 (i : Fin 2048) (k : Fin 1024) :
    B0 m c t (ix2 k i) = h m c (ix2 (place (n := 4) (K := 4096) rfl (turn (by decide) t) k) i) := by
  unfold B0 iblk
  rw [show V m c (Pipeline.arrRef spec0 0) = h m c from V_main_arg0 m c]
  refine congrArg (h m c) (funext fun a => Fin.ext ?_)
  blk_simp [idx0 t]
  fin_cases a <;> simp [place, turn] <;> omega

theorem block1 (s : Fin 4) (j : Fin 2816) (q : Fin 1408) (k : Fin 1024) (hj : t.val / 4 = 2 * s + j / 1408) (hq : q.val = j % 1408) :
    B1 m c t (ix2 k q) = d m c (ix2 (place (n := 4) (K := 4096) rfl (turn (by decide) t) k) (place (n := 4) (K := 11264) rfl s j)) := by
  unfold B1 iblk
  rw [show V m c (Pipeline.arrRef spec0 1) = d m c from V_main_arg1 m c]
  refine congrArg (d m c) (funext fun a => Fin.ext ?_)
  blk_simp [idx1 t]
  fin_cases a <;> simp [place, turn] <;> omega

/-- The kernel's result, at a place. -/
theorem result (s : Fin 4) (i : Fin 2048) (j : Fin 2816) : Cert.FfnInWgradIdeal.Value.G2 m c (ix3 s i j)
    = ∑ k : Fin 4096, h m c (ix2 k i) * d m c (ix2 k (place (n := 4) (K := 11264) rfl s j)) := by
  have hs := s.2
  have hi := i.2
  have hj := j.2
  have hN : cfg0.N = 32 := N_0
  have hb : Cert.FfnInWgradIdeal.Value.pt2Of (ix3 s i j) = 4 * (2 * s.val + j.val / 1408) + 3 := by
    show 4 * (2 * (s.val / 1 - 0) + 2 * (i.val / 2048 - 0) + 1 * (j.val / 1408 - 0)) + 3 = _
    omega
  have hp : Cert.FfnInWgradIdeal.Value.pt2Of (ix3 s i j) < cfg0.N := by omega
  have hl : Cert.FfnInWgradIdeal.Value.loc2Of (ix3 s i j) = ix3 (0 : Fin 1) i (⟨j.val % 1408, by omega⟩ : Fin 1408) := by
    funext a
    match a with
    | ⟨0, _⟩ => exact Fin.ext (Nat.mod_one _)
    | ⟨1, _⟩ => exact Fin.ext (Nat.mod_eq_of_lt i.2)
    | ⟨2, _⟩ => rfl
  unfold Cert.FfnInWgradIdeal.Value.G2
  rw [dif_pos hp, ← Cert.FfnInWgradIdeal.Value.outsAt0_sweep m c _ hp, hl]
  refine (written m c ⟨_, hp⟩ (by show Cert.FfnInWgradIdeal.Value.pt2Of (ix3 s i j) % 4 = 3; omega) _ _ _).trans ?_
  exact accumulated_product (n := 4) (by decide) (show 4096 = 4 * 1024 from rfl)
    (fun t h => (outsAt0 m c t h).2 (ix2 i (⟨j.val % 1408, by omega⟩ : Fin 1408)))
    (fun t h k => B0 m c ⟨t, h⟩ (ix2 k i)) (fun t h k => B1 m c ⟨t, h⟩ (ix2 k (⟨j.val % 1408, by omega⟩ : Fin 1408)))
    (fun k => h m c (ix2 k i)) (fun k => d m c (ix2 k (place (n := 4) (K := 11264) rfl s j))) (2 * s.val + j.val / 1408)
    (fun t h h0 => first m c ⟨t, h⟩ h0 _ _) (fun t h h0 => next m c ⟨t, h⟩ h0 _ _)
    (fun t h hr k => block0 m c ⟨t, h⟩ i k) (fun t h hr k => block1 m c ⟨t, h⟩ s j _ k hr rfl) _ hp (by omega) (by omega)

/-- The reference's result, at a place. -/
theorem reference (x : FVec Ideal S4096x2048 .f32) (d : FVec Ideal S4096x11264 .bf16) (s : Fin 4) (i : Fin 2048) (j : Fin 2816) :
    Cert.FfnInWgradRefIdeal.Read.val_main_v9 (F := Ideal) x d (ix3 s i j)
      = ∑ k : Fin 4096, x (ix2 k i) * d (ix2 k (place (n := 4) (K := 11264) rfl s j)) := by
  have hs := s.2
  have hj := j.2
  rw [Cert.FfnInWgradRefIdeal.Read.val_main_v9_apply, Cert.FfnInWgradRefIdeal.Read.val_main_v8_apply,
    Cert.FfnInWgradRefIdeal.Read.val_main_v7_apply, Cert.FfnInWgradRefIdeal.Read.val_main_v6_apply]
  refine (Cert.FfnInWgradRefIdeal.Read.val_main_v5_apply x d _).trans (Finset.sum_congr rfl fun k _ => ?_)
  rw [mul_comm]
  refine congrArg₂ (fun a b => x a * d b) (funext fun a => ?_) (funext fun a => ?_) <;> fin_cases a <;> first | rfl | refine Fin.ext ?_
  · show ((i.val * 4 + s.val) * 2816 + j.val) / 11264 = i.val
    omega
  · show ((i.val * 4 + s.val) * 2816 + j.val) % 11264 = 2816 * s.val + j.val
    omega

attribute [local instance] Cert.FfnInWgradIdeal.Gen.facts Cert.FfnInWgradRefIdeal.Gen.facts

theorem frame_ri : Cert.quiescent_FfnInWgradRefIdeal := fun m ρ _ =>
  (θ_run Cert.FfnInWgradRefIdeal.defs _ _).mono
    (fun r h => ⟨fun c => (h c).2, sem_eq_zero_of_no_sems (by decide) r.2⟩)
    (Cert.FfnInWgradRefIdeal.Value.run m ρ)

theorem value : Cert.algebraic_FfnInWgradIdeal_FfnInWgradRefIdeal := by
  intro m g m' g' _ ha
  refine ⟨fun c => Cert.FfnInWgradRefIdeal.Read.val_main_v9 (F := Ideal) (h m c) (d m c), ?_, ?_⟩
  · refine (θ_run Cert.FfnInWgradIdeal.defs _ _).mono (fun r h c => ?_) (Cert.FfnInWgradIdeal.Value.run m g)
    refine ⟨(h c).1.trans (ext3 fun s i j => ?_), (h c).2⟩
    exact (result m c s i j).trans (reference _ _ s i j).symm
  · refine (θ_run Cert.FfnInWgradRefIdeal.defs _ _).mono (fun r h c => ?_) (Cert.FfnInWgradRefIdeal.Value.run m' g')
    obtain ⟨a0, a1⟩ := ha c
    refine ⟨(h c).1.trans ?_, (h c).2⟩
    rw [Cert.FfnInWgradRefIdeal.Read.val_main_v9_eq, a0, a1]
    rfl

end Cert.Products.FfnInWgrad
-- ==== Proof.Products.ProjODgrad.lean ====
/- The gradient of the attention block's result through its output weights: the kernel's product, accumulated over four blocks of
   columns, is the reference's. -/
module

public import proofs.«01_k».proof.Proof.Kit
public import proofs.«01_k».proof.Proof.Gen.ProjODgradIdeal.Value
public import proofs.«01_k».proof.Proof.Gen.ProjODgradRefIdeal.Read
public import proofs.«01_k».proof.Proof.Products.Blocked

@[expose] public section

set_option maxRecDepth 16384

noncomputable section

namespace Cert.Products.ProjODgrad

open Idealize.ShloMosaic Idealize.ShloMosaic.TcCoe Idealize.SL.Sem Cert.ProjODgradIdeal Cert.ProjODgradIdeal.Gen

variable (m : (ℓ : Loc nD τ sig) → Buf (Elt Ideal) ℓ) (c : Dev nD) (t : Fin cfg0.N)

/-- The blocks of point `t`. -/
abbrev B0 : FVec Ideal S512x512 .f32 := iblk m c 0 t
abbrev B1 : FVec Ideal S2048x512 .bf16 := iblk m c 1 t

/-- The arguments, at their places. -/
def d : FVec Ideal S4096x2048 .f32 := m ((c : Thread nD τ).loc main_arg0)
def w : FVec Ideal S2048x2048 .f32 := m ((c : Thread nD τ).loc main_arg1)

theorem first (h : t.val % 4 = 0) (p : Fin 512) (q : Fin 2048) : (outsAt0 m c t.val t.isLt).2 (ix2 p q)
    = ∑ k : Fin 512, B0 m c t (ix2 p k) * B1 m c t (ix2 q k) := by
  rw [outsAt0_A m c t h (by omega) (by omega)]
  frame_out
  simp only [k0_pay2]
  pointwise [k0_pay1]

theorem next (h : ¬ t.val % 4 = 0) (p : Fin 512) (q : Fin 2048) : (outsAt0 m c t.val t.isLt).2 (ix2 p q)
    = (outsAt0 m c (t.val - 1) (lt_of_le_of_lt (Nat.sub_le _ _) t.isLt)).2 (ix2 p q)
      + ∑ k : Fin 512, B0 m c t (ix2 p k) * B1 m c t (ix2 q k) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (p : Fin 512) (q : Fin 2048) :
    (outsAt0 m c t.val t.isLt).1 (ix2 p q) = (outsAt0 m c t.val t.isLt).2 (ix2 p q) := by
  rw [outsAt0_C m c t (by omega) (by omega) h]
  frame_out

theorem idx0 : ∀ t : Fin grid0.N, win0_0.index t = ![t.val / 4, t.val % 4] := by decide +kernel
theorem idx1 : ∀ t : Fin grid0.N, win0_1.index t = ![0, t.val % 4] := by decide +kernel

theorem V_v0 : V m c main_v0 = w m c := by
  unfold V
  simp only [hostOps0]
  after_results
  rfl

theorem block0 (i : Fin 4096) (p : Fin 512) (k : Fin 512) (hi : t.val / 4 = i / 512) (hp : p.val = i % 512) :
    B0 m c t (ix2 p k) = d m c (ix2 i (place (n := 4) (K := 2048) rfl (turn (by decide) t) k)) := by
  unfold B0 iblk
  rw [show V m c (Pipeline.arrRef spec0 0) = d m c from V_main_arg0 m c]
  refine congrArg (d m c) (funext fun a => Fin.ext ?_)
  blk_simp [idx0 t]
  fin_cases a <;> simp [place, turn] <;> omega

theorem block1 (j : Fin 2048) (k : Fin 512) :
    B1 m c t (ix2 j k) = w m c (ix2 j (place (n := 4) (K := 2048) rfl (turn (by decide) t) k)) := by
  unfold B1 iblk
  rw [show V m c (Pipeline.arrRef spec0 1) = w m c from V_v0 m c]
  refine congrArg (w m c) (funext fun a => Fin.ext ?_)
  blk_simp [idx1 t]
  fin_cases a <;> simp [place, turn] <;> omega

/-- The kernel's result, at a place. -/
theorem result (i : Fin 4096) (j : Fin 2048) : Cert.ProjODgradIdeal.Value.G2 m c (ix2 i j)
    = ∑ k : Fin 2048, d m c (ix2 i k) * w m c (ix2 j k) := by
  have hi := i.2
  have hj := j.2
  have hN : cfg0.N = 32 := N_0
  have hb : Cert.ProjODgradIdeal.Value.pt2Of (ix2 i j) = 4 * (i.val / 512) + 3 := by
    show 4 * (1 * (i.val / 512 - 0) + 1 * (j.val / 2048 - 0)) + 3 = _
    omega
  have hp : Cert.ProjODgradIdeal.Value.pt2Of (ix2 i j) < cfg0.N := by omega
  have hl : Cert.ProjODgradIdeal.Value.loc2Of (ix2 i j) = ix2 (⟨i.val % 512, by omega⟩ : Fin 512) j := by
    funext a
    match a with
    | ⟨0, _⟩ => rfl
    | ⟨1, _⟩ => exact Fin.ext (Nat.mod_eq_of_lt j.2)
  unfold Cert.ProjODgradIdeal.Value.G2
  rw [dif_pos hp, ← Cert.ProjODgradIdeal.Value.outsAt0_sweep m c _ hp, hl]
  refine (written m c ⟨_, hp⟩ (by show Cert.ProjODgradIdeal.Value.pt2Of (ix2 i j) % 4 = 3; omega) _ _).trans ?_
  exact accumulated_product (n := 4) (by decide) (show 2048 = 4 * 512 from rfl)
    (fun t h => (outsAt0 m c t h).2 (ix2 (⟨i.val % 512, by omega⟩ : Fin 512) j))
    (fun t h k => B0 m c ⟨t, h⟩ (ix2 (⟨i.val % 512, by omega⟩ : Fin 512) k)) (fun t h k => B1 m c ⟨t, h⟩ (ix2 j k))
    (fun k => d m c (ix2 i k)) (fun k => w m c (ix2 j k)) (i.val / 512)
    (fun t h h0 => first m c ⟨t, h⟩ h0 _ _) (fun t h h0 => next m c ⟨t, h⟩ h0 _ _)
    (fun t h hr k => block0 m c ⟨t, h⟩ i _ k hr rfl) (fun t h hr k => block1 m c ⟨t, h⟩ j k) _ hp (by omega) (by omega)

/-- The reference's result, at a place. -/
theorem reference (x : FVec Ideal S4096x2048 .f32) (w : FVec Ideal S2048x2048 .f32) (i : Fin 4096) (j : Fin 2048) :
    Cert.ProjODgradRefIdeal.Read.val_main_v2 (F := Ideal) x w (ix2 i j) = ∑ k : Fin 2048, x (ix2 i k) * w (ix2 j k) := by
  refine (Cert.ProjODgradRefIdeal.Read.val_main_v2_apply x w _).trans (Finset.sum_congr rfl fun k _ => ?_)
  refine congrArg₂ (fun a b => x a * w b) (funext fun a => ?_) (funext fun a => ?_) <;> fin_cases a <;> rfl

attribute [local instance] Cert.ProjODgradIdeal.Gen.facts Cert.ProjODgradRefIdeal.Gen.facts

theorem frame_ri : Cert.quiescent_ProjODgradRefIdeal := fun m ρ _ =>
  (θ_run Cert.ProjODgradRefIdeal.defs _ _).mono
    (fun r h => ⟨fun c => (h c).2, sem_eq_zero_of_no_sems (by decide) r.2⟩)
    (Cert.ProjODgradRefIdeal.Value.run m ρ)

theorem value : Cert.algebraic_ProjODgradIdeal_ProjODgradRefIdeal := by
  intro m g m' g' _ ha
  refine ⟨fun c => Cert.ProjODgradRefIdeal.Read.val_main_v2 (F := Ideal) (d m c) (w m c), ?_, ?_⟩
  · refine (θ_run Cert.ProjODgradIdeal.defs _ _).mono (fun r h c => ?_) (Cert.ProjODgradIdeal.Value.run m g)
    refine ⟨(h c).1.trans (ext2 fun i j => ?_), (h c).2⟩
    exact (result m c i j).trans (reference _ _ i j).symm
  · refine (θ_run Cert.ProjODgradRefIdeal.defs _ _).mono (fun r h c => ?_) (Cert.ProjODgradRefIdeal.Value.run m' g')
    obtain ⟨a0, a1⟩ := ha c
    refine ⟨(h c).1.trans ?_, (h c).2⟩
    rw [Cert.ProjODgradRefIdeal.Read.val_main_v2_eq, a0, a1]
    rfl

end Cert.Products.ProjODgrad
-- ==== Proof.Products.ProjOWgrad.lean ====
/- The gradient of the attention block's output weights: the kernel's product, accumulated over four blocks of tokens, is the
   reference's. -/
module

public import proofs.«01_k».proof.Proof.Kit
public import proofs.«01_k».proof.Proof.Gen.ProjOWgradIdeal.Value
public import proofs.«01_k».proof.Proof.Gen.ProjOWgradRefIdeal.Read
public import proofs.«01_k».proof.Proof.Products.Blocked

@[expose] public section

set_option maxRecDepth 16384

noncomputable section

namespace Cert.Products.ProjOWgrad

open Idealize.ShloMosaic Idealize.ShloMosaic.TcCoe Idealize.SL.Sem Cert.ProjOWgradIdeal Cert.ProjOWgradIdeal.Gen

variable (m : (ℓ : Loc nD τ sig) → Buf (Elt Ideal) ℓ) (c : Dev nD) (t : Fin cfg0.N)

/-- The blocks of point `t`. -/
abbrev B0 : FVec Ideal S1024x2048 .bf16 := iblk m c 0 t
abbrev B1 : FVec Ideal S1024x1024 .f32 := iblk m c 1 t

/-- The arguments, at their places. -/
def ctx : FVec Ideal S4096x2048 .bf16 := m ((c : Thread nD τ).loc main_arg0)
def d : FVec Ideal S4096x2048 .f32 := m ((c : Thread nD τ).loc main_arg1)

theorem first (h : t.val % 4 = 0) (p : Fin 2048) (q : Fin 1024) : (outsAt0 m c t.val t.isLt).2 (ix2 p q)
    = ∑ k : Fin 1024, B0 m c t (ix2 k p) * B1 m c t (ix2 k q) := by
  rw [outsAt0_A m c t h (by omega) (by omega)]
  frame_out
  simp only [k0_pay2]
  pointwise [k0_pay1]

theorem next (h : ¬ t.val % 4 = 0) (p : Fin 2048) (q : Fin 1024) : (outsAt0 m c t.val t.isLt).2 (ix2 p q)
    = (outsAt0 m c (t.val - 1) (lt_of_le_of_lt (Nat.sub_le _ _) t.isLt)).2 (ix2 p q)
      + ∑ k : Fin 1024, B0 m c t (ix2 k p) * B1 m c t (ix2 k q) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (p : Fin 2048) (q : Fin 1024) :
    (outsAt0 m c t.val t.isLt).1 (ix2 p q) = (outsAt0 m c t.val t.isLt).2 (ix2 p q) := by
  rw [outsAt0_C m c t (by omega) (by omega) h]
  frame_out
  simp only [k0_pay4]
  pointwise [k0_pay3]

theorem idx0 : ∀ t : Fin grid0.N, win0_0.index t = ![t.val % 4, 0] := by decide +kernel
theorem idx1 : ∀ t : Fin grid0.N, win0_1.index t = ![t.val % 4, t.val / 4] := by decide +kernel

theorem block0 (i : Fin 2048) (k : Fin 1024) :
    B0 m c t (ix2 k i) = ctx m c (ix2 (place (n := 4) (K := 4096) rfl (turn (by decide) t) k) i) := by
  unfold B0 iblk
  rw [show V m c (Pipeline.arrRef spec0 0) = ctx m c from V_main_arg0 m c]
  refine congrArg (ctx m c) (funext fun a => Fin.ext ?_)
  blk_simp [idx0 t]
  fin_cases a <;> simp [place, turn] <;> omega

theorem block1 (j : Fin 2048) (q : Fin 1024) (k : Fin 1024) (hj : t.val / 4 = j / 1024) (hq : q.val = j % 1024) :
    B1 m c t (ix2 k q) = d m c (ix2 (place (n := 4) (K := 4096) rfl (turn (by decide) t) k) j) := by
  unfold B1 iblk
  rw [show V m c (Pipeline.arrRef spec0 1) = d m c from V_main_arg1 m c]
  refine congrArg (d m c) (funext fun a => Fin.ext ?_)
  blk_simp [idx1 t]
  fin_cases a <;> simp [place, turn] <;> omega

/-- The kernel's result, at a place. -/
theorem result (i : Fin 2048) (j : Fin 2048) : Cert.ProjOWgradIdeal.Value.G2 m c (ix2 i j)
    = ∑ k : Fin 4096, ctx m c (ix2 k i) * d m c (ix2 k j) := by
  have hi := i.2
  have hj := j.2
  have hN : cfg0.N = 8 := N_0
  have hb : Cert.ProjOWgradIdeal.Value.pt2Of (ix2 i j) = 4 * (j.val / 1024) + 3 := by
    show 4 * (2 * (i.val / 2048 - 0) + 1 * (j.val / 1024 - 0)) + 3 = _
    omega
  have hp : Cert.ProjOWgradIdeal.Value.pt2Of (ix2 i j) < cfg0.N := by omega
  have hl : Cert.ProjOWgradIdeal.Value.loc2Of (ix2 i j) = ix2 i (⟨j.val % 1024, by omega⟩ : Fin 1024) := by
    funext a
    match a with
    | ⟨0, _⟩ => exact Fin.ext (Nat.mod_eq_of_lt i.2)
    | ⟨1, _⟩ => rfl
  unfold Cert.ProjOWgradIdeal.Value.G2
  rw [dif_pos hp, ← Cert.ProjOWgradIdeal.Value.outsAt0_sweep m c _ hp, hl]
  refine (written m c ⟨_, hp⟩ (by show Cert.ProjOWgradIdeal.Value.pt2Of (ix2 i j) % 4 = 3; omega) _ _).trans ?_
  exact accumulated_product (n := 4) (by decide) (show 4096 = 4 * 1024 from rfl)
    (fun t h => (outsAt0 m c t h).2 (ix2 i (⟨j.val % 1024, by omega⟩ : Fin 1024)))
    (fun t h k => B0 m c ⟨t, h⟩ (ix2 k i)) (fun t h k => B1 m c ⟨t, h⟩ (ix2 k (⟨j.val % 1024, by omega⟩ : Fin 1024)))
    (fun k => ctx m c (ix2 k i)) (fun k => d m c (ix2 k j)) (j.val / 1024)
    (fun t h h0 => first m c ⟨t, h⟩ h0 _ _) (fun t h h0 => next m c ⟨t, h⟩ h0 _ _)
    (fun t h hr k => block0 m c ⟨t, h⟩ i k) (fun t h hr k => block1 m c ⟨t, h⟩ j _ k hr rfl) _ hp (by omega) (by omega)

/-- The reference's result, at a place. -/
theorem reference (x : FVec Ideal S4096x2048 .bf16) (d : FVec Ideal S4096x2048 .f32) (i : Fin 2048) (j : Fin 2048) :
    Cert.ProjOWgradRefIdeal.Read.val_main_v5 (F := Ideal) x d (ix2 i j) = ∑ k : Fin 4096, x (ix2 k i) * d (ix2 k j) := by
  rw [Cert.ProjOWgradRefIdeal.Read.val_main_v5_apply, Cert.ProjOWgradRefIdeal.Read.val_main_v4_apply]
  refine (Cert.ProjOWgradRefIdeal.Read.val_main_v3_apply x d _).trans (Finset.sum_congr rfl fun k _ => ?_)
  rw [mul_comm]
  refine congrArg₂ (fun a b => x a * d b) (funext fun a => ?_) (funext fun a => ?_) <;> fin_cases a <;> rfl

attribute [local instance] Cert.ProjOWgradIdeal.Gen.facts Cert.ProjOWgradRefIdeal.Gen.facts

theorem frame_ri : Cert.quiescent_ProjOWgradRefIdeal := fun m ρ _ =>
  (θ_run Cert.ProjOWgradRefIdeal.defs _ _).mono
    (fun r h => ⟨fun c => (h c).2, sem_eq_zero_of_no_sems (by decide) r.2⟩)
    (Cert.ProjOWgradRefIdeal.Value.run m ρ)

theorem value : Cert.algebraic_ProjOWgradIdeal_ProjOWgradRefIdeal := by
  intro m g m' g' _ ha
  refine ⟨fun c => Cert.ProjOWgradRefIdeal.Read.val_main_v5 (F := Ideal) (ctx m c) (d m c), ?_, ?_⟩
  · refine (θ_run Cert.ProjOWgradIdeal.defs _ _).mono (fun r h c => ?_) (Cert.ProjOWgradIdeal.Value.run m g)
    refine ⟨(h c).1.trans (ext2 fun i j => ?_), (h c).2⟩
    exact (result m c i j).trans (reference _ _ i j).symm
  · refine (θ_run Cert.ProjOWgradRefIdeal.defs _ _).mono (fun r h c => ?_) (Cert.ProjOWgradRefIdeal.Value.run m' g')
    obtain ⟨a0, a1⟩ := ha c
    refine ⟨(h c).1.trans ?_, (h c).2⟩
    rw [Cert.ProjOWgradRefIdeal.Read.val_main_v5_eq, a0, a1]
    rfl

end Cert.Products.ProjOWgrad
-- ==== Proof.Products.ProjADgrad.lean ====
/- The gradient of a branch's input through its weights, kept in four shards: the kernel's product, accumulated shard by shard, is
   the reference's. -/
module

public import proofs.«01_k».proof.Proof.Kit
public import proofs.«01_k».proof.Proof.Gen.ProjADgradIdeal.Value
public import proofs.«01_k».proof.Proof.Gen.ProjADgradRefIdeal.Read
public import proofs.«01_k».proof.Proof.Products.Blocked

@[expose] public section

set_option maxRecDepth 16384

noncomputable section

namespace Cert.Products.ProjADgrad

open Idealize.ShloMosaic Idealize.ShloMosaic.TcCoe Idealize.SL.Sem Cert.ProjADgradIdeal Cert.ProjADgradIdeal.Gen

variable (m : (ℓ : Loc nD τ sig) → Buf (Elt Ideal) ℓ) (c : Dev nD) (t : Fin cfg0.N)

/-- The blocks of point `t`. -/
abbrev B0 : FVec Ideal S512x512 .bf16 := iblk m c 0 t
abbrev B1 : FVec Ideal S1x512x512 .bf16 := iblk m c 1 t

/-- The arguments, at their places. -/
def d : FVec Ideal S4096x2048 .bf16 := m ((c : Thread nD τ).loc main_arg0)
def w : FVec Ideal S4x512x512 .f32 := m ((c : Thread nD τ).loc main_arg1)

theorem first (h : t.val % 4 = 0) (p : Fin 512) (q : Fin 512) : (outsAt0 m c t.val t.isLt).2 (ix2 p q)
    = ∑ k : Fin 512, B0 m c t (ix2 p k) * B1 m c t (ix3 0 q k) := by
  rw [outsAt0_A m c t h (by omega) (by omega)]
  frame_out
  simp only [k0_pay2]
  pointwise [k0_pay1]

theorem next (h : ¬ t.val % 4 = 0) (p : Fin 512) (q : Fin 512) : (outsAt0 m c t.val t.isLt).2 (ix2 p q)
    = (outsAt0 m c (t.val - 1) (lt_of_le_of_lt (Nat.sub_le _ _) t.isLt)).2 (ix2 p q)
      + ∑ k : Fin 512, B0 m c t (ix2 p k) * B1 m c t (ix3 0 q k) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (p : Fin 512) (q : Fin 512) :
    (outsAt0 m c t.val t.isLt).1 (ix2 p q) = (outsAt0 m c t.val t.isLt).2 (ix2 p q) := by
  rw [outsAt0_C m c t (by omega) (by omega) h]
  frame_out

theorem idx0 : ∀ t : Fin grid0.N, win0_0.index t = ![t.val / 4, t.val % 4] := by decide +kernel
theorem idx1 : ∀ t : Fin grid0.N, win0_1.index t = ![t.val % 4, 0, 0] := by decide +kernel

theorem V_v0 : V m c main_v0 = w m c := by
  unfold V
  simp only [hostOps0]
  after_results
  rfl

theorem block0 (i : Fin 4096) (p : Fin 512) (k : Fin 512) (hi : t.val / 4 = i / 512) (hp : p.val = i % 512) :
    B0 m c t (ix2 p k) = d m c (ix2 i (place (n := 4) (K := 2048) rfl (turn (by decide) t) k)) := by
  unfold B0 iblk
  rw [show V m c (Pipeline.arrRef spec0 0) = d m c from V_main_arg0 m c]
  refine congrArg (d m c) (funext fun a => Fin.ext ?_)
  blk_simp [idx0 t]
  fin_cases a <;> simp [place, turn] <;> omega

theorem block1 (j : Fin 512) (k : Fin 512) :
    B1 m c t (ix3 0 j k) = columns (n := 4) (l := 512) (by decide) (show 2048 = 4 * 512 from rfl) (w m c) j (place (n := 4) (K := 2048) rfl (turn (by decide) t) k) := by
  unfold B1 iblk columns
  rw [show V m c (Pipeline.arrRef spec0 1) = w m c from V_v0 m c]
  refine congrArg (w m c) (funext fun a => Fin.ext ?_)
  blk_simp [idx1 t]
  fin_cases a <;> simp [place, turn] <;> omega

/-- The kernel's result, at a place. -/
theorem result (i : Fin 4096) (j : Fin 512) : Cert.ProjADgradIdeal.Value.G2 m c (ix2 i j)
    = ∑ k : Fin 2048, d m c (ix2 i k) * columns (n := 4) (l := 512) (by decide) (show 2048 = 4 * 512 from rfl) (w m c) j k := by
  have hi := i.2
  have hj := j.2
  have hN : cfg0.N = 32 := N_0
  have hb : Cert.ProjADgradIdeal.Value.pt2Of (ix2 i j) = 4 * (i.val / 512) + 3 := by
    show 4 * (1 * (i.val / 512 - 0) + 1 * (j.val / 512 - 0)) + 3 = _
    omega
  have hp : Cert.ProjADgradIdeal.Value.pt2Of (ix2 i j) < cfg0.N := by omega
  have hl : Cert.ProjADgradIdeal.Value.loc2Of (ix2 i j) = ix2 (⟨i.val % 512, by omega⟩ : Fin 512) j := by
    funext a
    match a with
    | ⟨0, _⟩ => rfl
    | ⟨1, _⟩ => exact Fin.ext (Nat.mod_eq_of_lt j.2)
  unfold Cert.ProjADgradIdeal.Value.G2
  rw [dif_pos hp, ← Cert.ProjADgradIdeal.Value.outsAt0_sweep m c _ hp, hl]
  refine (written m c ⟨_, hp⟩ (by show Cert.ProjADgradIdeal.Value.pt2Of (ix2 i j) % 4 = 3; omega) _ _).trans ?_
  exact accumulated_product (n := 4) (by decide) (show 2048 = 4 * 512 from rfl)
    (fun t h => (outsAt0 m c t h).2 (ix2 (⟨i.val % 512, by omega⟩ : Fin 512) j))
    (fun t h k => B0 m c ⟨t, h⟩ (ix2 (⟨i.val % 512, by omega⟩ : Fin 512) k)) (fun t h k => B1 m c ⟨t, h⟩ (ix3 0 j k))
    (fun k => d m c (ix2 i k)) (fun k => columns (n := 4) (l := 512) (by decide) (show 2048 = 4 * 512 from rfl) (w m c) j k) (i.val / 512)
    (fun t h h0 => first m c ⟨t, h⟩ h0 _ _) (fun t h h0 => next m c ⟨t, h⟩ h0 _ _)
    (fun t h hr k => block0 m c ⟨t, h⟩ i _ k hr rfl) (fun t h hr k => block1 m c ⟨t, h⟩ j k) _ hp (by omega) (by omega)

/-- The reference's result, at a place. -/
theorem reference (x : FVec Ideal S4096x2048 .bf16) (w : FVec Ideal S4x512x512 .f32) (i : Fin 4096) (j : Fin 512) :
    Cert.ProjADgradRefIdeal.Read.val_main_v5 (F := Ideal) x w (ix2 i j) = ∑ k : Fin 2048, x (ix2 i k) * columns (n := 4) (l := 512) (by decide) (show 2048 = 4 * 512 from rfl) w j k := by
  refine (Cert.ProjADgradRefIdeal.Read.val_main_v5_apply x w _).trans (Finset.sum_congr rfl fun k _ => ?_)
  have hj := j.2
  have hk := k.2
  rw [Cert.ProjADgradRefIdeal.Read.val_main_v3_apply, Cert.ProjADgradRefIdeal.Read.val_main_v2_apply]
  unfold columns
  refine congrArg₂ (fun a b => x a * w b) (funext fun a => ?_) (funext fun a => ?_) <;> fin_cases a <;> first | rfl | refine Fin.ext ?_
  · show (j.val * 2048 + k.val) / 512 % 4 = k.val / 512
    omega
  · show (j.val * 2048 + k.val) / 2048 = j.val
    omega
  · show (j.val * 2048 + k.val) % 512 = k.val % 512
    omega

attribute [local instance] Cert.ProjADgradIdeal.Gen.facts Cert.ProjADgradRefIdeal.Gen.facts

theorem frame_ri : Cert.quiescent_ProjADgradRefIdeal := fun m ρ _ =>
  (θ_run Cert.ProjADgradRefIdeal.defs _ _).mono
    (fun r h => ⟨fun c => (h c).2, sem_eq_zero_of_no_sems (by decide) r.2⟩)
    (Cert.ProjADgradRefIdeal.Value.run m ρ)

theorem value : Cert.algebraic_ProjADgradIdeal_ProjADgradRefIdeal := by
  intro m g m' g' _ ha
  refine ⟨fun c => Cert.ProjADgradRefIdeal.Read.val_main_v5 (F := Ideal) (d m c) (w m c), ?_, ?_⟩
  · refine (θ_run Cert.ProjADgradIdeal.defs _ _).mono (fun r h c => ?_) (Cert.ProjADgradIdeal.Value.run m g)
    refine ⟨(h c).1.trans (ext2 fun i j => ?_), (h c).2⟩
    exact (result m c i j).trans (reference _ _ i j).symm
  · refine (θ_run Cert.ProjADgradRefIdeal.defs _ _).mono (fun r h c => ?_) (Cert.ProjADgradRefIdeal.Value.run m' g')
    obtain ⟨a0, a1⟩ := ha c
    refine ⟨(h c).1.trans ?_, (h c).2⟩
    rw [Cert.ProjADgradRefIdeal.Read.val_main_v5_eq, a0, a1]
    rfl

end Cert.Products.ProjADgrad
-- ==== Proof.Products.ProjAWgrad.lean ====
/- The gradient of a branch's weights, in the four shards they are kept in: the kernel's product, accumulated over four blocks of
   tokens, is the reference's. -/
module

public import proofs.«01_k».proof.Proof.Kit
public import proofs.«01_k».proof.Proof.Gen.ProjAWgradIdeal.Value
public import proofs.«01_k».proof.Proof.Gen.ProjAWgradRefIdeal.Read
public import proofs.«01_k».proof.Proof.Products.Blocked

@[expose] public section

set_option maxRecDepth 16384

noncomputable section

namespace Cert.Products.ProjAWgrad

open Idealize.ShloMosaic Idealize.ShloMosaic.TcCoe Idealize.SL.Sem Cert.ProjAWgradIdeal Cert.ProjAWgradIdeal.Gen

variable (m : (ℓ : Loc nD τ sig) → Buf (Elt Ideal) ℓ) (c : Dev nD) (t : Fin cfg0.N)

/-- The blocks of point `t`. -/
abbrev B0 : FVec Ideal S1024x512 .f32 := iblk m c 0 t
abbrev B1 : FVec Ideal S1024x512 .bf16 := iblk m c 1 t

/-- The arguments, at their places. -/
def x : FVec Ideal S4096x512 .f32 := m ((c : Thread nD τ).loc main_arg0)
def d : FVec Ideal S4096x2048 .bf16 := m ((c : Thread nD τ).loc main_arg1)

theorem first (h : t.val % 4 = 0) (p : Fin 512) (q : Fin 512) : (outsAt0 m c t.val t.isLt).2 (ix2 p q)
    = ∑ k : Fin 1024, B0 m c t (ix2 k p) * B1 m c t (ix2 k q) := by
  rw [outsAt0_A m c t h (by omega) (by omega)]
  frame_out
  simp only [k0_pay2]
  pointwise [k0_pay1]

theorem next (h : ¬ t.val % 4 = 0) (p : Fin 512) (q : Fin 512) : (outsAt0 m c t.val t.isLt).2 (ix2 p q)
    = (outsAt0 m c (t.val - 1) (lt_of_le_of_lt (Nat.sub_le _ _) t.isLt)).2 (ix2 p q)
      + ∑ k : Fin 1024, B0 m c t (ix2 k p) * B1 m c t (ix2 k q) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (z : Fin 1) (p : Fin 512) (q : Fin 512) :
    (outsAt0 m c t.val t.isLt).1 (ix3 z p q) = (outsAt0 m c t.val t.isLt).2 (ix2 p q) := by
  rw [outsAt0_C m c t (by omega) (by omega) h]
  frame_out
  simp only [k0_pay4]
  pointwise [k0_pay3]

theorem idx0 : ∀ t : Fin grid0.N, win0_0.index t = ![t.val % 4, 0] := by decide +kernel
theorem idx1 : ∀ t : Fin grid0.N, win0_1.index t = ![t.val % 4, t.val / 4] := by decide +kernel

theorem block0 (i : Fin 512) (k : Fin 1024) :
    B0 m c t (ix2 k i) = x m c (ix2 (place (n := 4) (K := 4096) rfl (turn (by decide) t) k) i) := by
  unfold B0 iblk
  rw [show V m c (Pipeline.arrRef spec0 0) = x m c from V_main_arg0 m c]
  refine congrArg (x m c) (funext fun a => Fin.ext ?_)
  blk_simp [idx0 t]
  fin_cases a <;> simp [place, turn] <;> omega

theorem block1 (s : Fin 4) (j : Fin 512) (q : Fin 512) (k : Fin 1024) (hj : t.val / 4 = 1 * s + j / 512) (hq : q.val = j % 512) :
    B1 m c t (ix2 k q) = d m c (ix2 (place (n := 4) (K := 4096) rfl (turn (by decide) t) k) (place (n := 4) (K := 2048) rfl s j)) := by
  unfold B1 iblk
  rw [show V m c (Pipeline.arrRef spec0 1) = d m c from V_main_arg1 m c]
  refine congrArg (d m c) (funext fun a => Fin.ext ?_)
  blk_simp [idx1 t]
  fin_cases a <;> simp [place, turn] <;> omega

/-- The kernel's result, at a place. -/
theorem result (s : Fin 4) (i : Fin 512) (j : Fin 512) : Cert.ProjAWgradIdeal.Value.G2 m c (ix3 s i j)
    = ∑ k : Fin 4096, x m c (ix2 k i) * d m c (ix2 k (place (n := 4) (K := 2048) rfl s j)) := by
  have hs := s.2
  have hi := i.2
  have hj := j.2
  have hN : cfg0.N = 16 := N_0
  have hb : Cert.ProjAWgradIdeal.Value.pt2Of (ix3 s i j) = 4 * (1 * s.val + j.val / 512) + 3 := by
    show 4 * (1 * (s.val / 1 - 0) + 1 * (i.val / 512 - 0) + 1 * (j.val / 512 - 0)) + 3 = _
    omega
  have hp : Cert.ProjAWgradIdeal.Value.pt2Of (ix3 s i j) < cfg0.N := by omega
  have hl : Cert.ProjAWgradIdeal.Value.loc2Of (ix3 s i j) = ix3 (0 : Fin 1) i (⟨j.val % 512, by omega⟩ : Fin 512) := by
    funext a
    match a with
    | ⟨0, _⟩ => exact Fin.ext (Nat.mod_one _)
    | ⟨1, _⟩ => exact Fin.ext (Nat.mod_eq_of_lt i.2)
    | ⟨2, _⟩ => rfl
  unfold Cert.ProjAWgradIdeal.Value.G2
  rw [dif_pos hp, ← Cert.ProjAWgradIdeal.Value.outsAt0_sweep m c _ hp, hl]
  refine (written m c ⟨_, hp⟩ (by show Cert.ProjAWgradIdeal.Value.pt2Of (ix3 s i j) % 4 = 3; omega) _ _ _).trans ?_
  exact accumulated_product (n := 4) (by decide) (show 4096 = 4 * 1024 from rfl)
    (fun t h => (outsAt0 m c t h).2 (ix2 i (⟨j.val % 512, by omega⟩ : Fin 512)))
    (fun t h k => B0 m c ⟨t, h⟩ (ix2 k i)) (fun t h k => B1 m c ⟨t, h⟩ (ix2 k (⟨j.val % 512, by omega⟩ : Fin 512)))
    (fun k => x m c (ix2 k i)) (fun k => d m c (ix2 k (place (n := 4) (K := 2048) rfl s j))) (1 * s.val + j.val / 512)
    (fun t h h0 => first m c ⟨t, h⟩ h0 _ _) (fun t h h0 => next m c ⟨t, h⟩ h0 _ _)
    (fun t h hr k => block0 m c ⟨t, h⟩ i k) (fun t h hr k => block1 m c ⟨t, h⟩ s j _ k hr rfl) _ hp (by omega) (by omega)

/-- The reference's result, at a place. -/
theorem reference (x : FVec Ideal S4096x512 .f32) (d : FVec Ideal S4096x2048 .bf16) (s : Fin 4) (i : Fin 512) (j : Fin 512) :
    Cert.ProjAWgradRefIdeal.Read.val_main_v9 (F := Ideal) x d (ix3 s i j)
      = ∑ k : Fin 4096, x (ix2 k i) * d (ix2 k (place (n := 4) (K := 2048) rfl s j)) := by
  have hs := s.2
  have hj := j.2
  rw [Cert.ProjAWgradRefIdeal.Read.val_main_v9_apply, Cert.ProjAWgradRefIdeal.Read.val_main_v8_apply,
    Cert.ProjAWgradRefIdeal.Read.val_main_v7_apply, Cert.ProjAWgradRefIdeal.Read.val_main_v6_apply]
  refine (Cert.ProjAWgradRefIdeal.Read.val_main_v5_apply x d _).trans (Finset.sum_congr rfl fun k _ => ?_)
  rw [mul_comm]
  refine congrArg₂ (fun a b => x a * d b) (funext fun a => ?_) (funext fun a => ?_) <;> fin_cases a <;> first | rfl | refine Fin.ext ?_
  · show ((i.val * 4 + s.val) * 512 + j.val) / 2048 = i.val
    omega
  · show ((i.val * 4 + s.val) * 512 + j.val) % 2048 = 512 * s.val + j.val
    omega

attribute [local instance] Cert.ProjAWgradIdeal.Gen.facts Cert.ProjAWgradRefIdeal.Gen.facts

theorem frame_ri : Cert.quiescent_ProjAWgradRefIdeal := fun m ρ _ =>
  (θ_run Cert.ProjAWgradRefIdeal.defs _ _).mono
    (fun r h => ⟨fun c => (h c).2, sem_eq_zero_of_no_sems (by decide) r.2⟩)
    (Cert.ProjAWgradRefIdeal.Value.run m ρ)

theorem value : Cert.algebraic_ProjAWgradIdeal_ProjAWgradRefIdeal := by
  intro m g m' g' _ ha
  refine ⟨fun c => Cert.ProjAWgradRefIdeal.Read.val_main_v9 (F := Ideal) (x m c) (d m c), ?_, ?_⟩
  · refine (θ_run Cert.ProjAWgradIdeal.defs _ _).mono (fun r h c => ?_) (Cert.ProjAWgradIdeal.Value.run m g)
    refine ⟨(h c).1.trans (ext3 fun s i j => ?_), (h c).2⟩
    exact (result m c s i j).trans (reference _ _ s i j).symm
  · refine (θ_run Cert.ProjAWgradRefIdeal.defs _ _).mono (fun r h c => ?_) (Cert.ProjAWgradRefIdeal.Value.run m' g')
    obtain ⟨a0, a1⟩ := ha c
    refine ⟨(h c).1.trans ?_, (h c).2⟩
    rw [Cert.ProjAWgradRefIdeal.Read.val_main_v9_eq, a0, a1]
    rfl

end Cert.Products.ProjAWgrad
-- ==== Proof.Products.ProjBDgrad.lean ====
/- The gradient of a wider branch's input through its weights, kept in four shards: the kernel's product, accumulated shard by
   shard, is the reference's. -/
module

public import proofs.«01_k».proof.Proof.Kit
public import proofs.«01_k».proof.Proof.Gen.ProjBDgradIdeal.Value
public import proofs.«01_k».proof.Proof.Gen.ProjBDgradRefIdeal.Read
public import proofs.«01_k».proof.Proof.Products.Blocked

@[expose] public section

set_option maxRecDepth 16384

noncomputable section

namespace Cert.Products.ProjBDgrad

open Idealize.ShloMosaic Idealize.ShloMosaic.TcCoe Idealize.SL.Sem Cert.ProjBDgradIdeal Cert.ProjBDgradIdeal.Gen

variable (m : (ℓ : Loc nD τ sig) → Buf (Elt Ideal) ℓ) (c : Dev nD) (t : Fin cfg0.N)

/-- The blocks of point `t`. -/
abbrev B0 : FVec Ideal S512x512 .bf16 := iblk m c 0 t
abbrev B1 : FVec Ideal S1x768x512 .bf16 := iblk m c 1 t

/-- The arguments, at their places. -/
def d : FVec Ideal S4096x2048 .bf16 := m ((c : Thread nD τ).loc main_arg0)
def w : FVec Ideal S4x768x512 .f32 := m ((c : Thread nD τ).loc main_arg1)

theorem first (h : t.val % 4 = 0) (p : Fin 512) (q : Fin 768) : (outsAt0 m c t.val t.isLt).2 (ix2 p q)
    = ∑ k : Fin 512, B0 m c t (ix2 p k) * B1 m c t (ix3 0 q k) := by
  rw [outsAt0_A m c t h (by omega) (by omega)]
  frame_out
  simp only [k0_pay2]
  pointwise [k0_pay1]

theorem next (h : ¬ t.val % 4 = 0) (p : Fin 512) (q : Fin 768) : (outsAt0 m c t.val t.isLt).2 (ix2 p q)
    = (outsAt0 m c (t.val - 1) (lt_of_le_of_lt (Nat.sub_le _ _) t.isLt)).2 (ix2 p q)
      + ∑ k : Fin 512, B0 m c t (ix2 p k) * B1 m c t (ix3 0 q k) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (p : Fin 512) (q : Fin 768) :
    (outsAt0 m c t.val t.isLt).1 (ix2 p q) = (outsAt0 m c t.val t.isLt).2 (ix2 p q) := by
  rw [outsAt0_C m c t (by omega) (by omega) h]
  frame_out

theorem idx0 : ∀ t : Fin grid0.N, win0_0.index t = ![t.val / 4, t.val % 4] := by decide +kernel
theorem idx1 : ∀ t : Fin grid0.N, win0_1.index t = ![t.val % 4, 0, 0] := by decide +kernel

theorem V_v0 : V m c main_v0 = w m c := by
  unfold V
  simp only [hostOps0]
  after_results
  rfl

theorem block0 (i : Fin 4096) (p : Fin 512) (k : Fin 512) (hi : t.val / 4 = i / 512) (hp : p.val = i % 512) :
    B0 m c t (ix2 p k) = d m c (ix2 i (place (n := 4) (K := 2048) rfl (turn (by decide) t) k)) := by
  unfold B0 iblk
  rw [show V m c (Pipeline.arrRef spec0 0) = d m c from V_main_arg0 m c]
  refine congrArg (d m c) (funext fun a => Fin.ext ?_)
  blk_simp [idx0 t]
  fin_cases a <;> simp [place, turn] <;> omega

theorem block1 (j : Fin 768) (k : Fin 512) :
    B1 m c t (ix3 0 j k) = columns (n := 4) (l := 512) (by decide) (show 2048 = 4 * 512 from rfl) (w m c) j (place (n := 4) (K := 2048) rfl (turn (by decide) t) k) := by
  unfold B1 iblk columns
  rw [show V m c (Pipeline.arrRef spec0 1) = w m c from V_v0 m c]
  refine congrArg (w m c) (funext fun a => Fin.ext ?_)
  blk_simp [idx1 t]
  fin_cases a <;> simp [place, turn] <;> omega

/-- The kernel's result, at a place. -/
theorem result (i : Fin 4096) (j : Fin 768) : Cert.ProjBDgradIdeal.Value.G2 m c (ix2 i j)
    = ∑ k : Fin 2048, d m c (ix2 i k) * columns (n := 4) (l := 512) (by decide) (show 2048 = 4 * 512 from rfl) (w m c) j k := by
  have hi := i.2
  have hj := j.2
  have hN : cfg0.N = 32 := N_0
  have hb : Cert.ProjBDgradIdeal.Value.pt2Of (ix2 i j) = 4 * (i.val / 512) + 3 := by
    show 4 * (1 * (i.val / 512 - 0) + 1 * (j.val / 768 - 0)) + 3 = _
    omega
  have hp : Cert.ProjBDgradIdeal.Value.pt2Of (ix2 i j) < cfg0.N := by omega
  have hl : Cert.ProjBDgradIdeal.Value.loc2Of (ix2 i j) = ix2 (⟨i.val % 512, by omega⟩ : Fin 512) j := by
    funext a
    match a with
    | ⟨0, _⟩ => rfl
    | ⟨1, _⟩ => exact Fin.ext (Nat.mod_eq_of_lt j.2)
  unfold Cert.ProjBDgradIdeal.Value.G2
  rw [dif_pos hp, ← Cert.ProjBDgradIdeal.Value.outsAt0_sweep m c _ hp, hl]
  refine (written m c ⟨_, hp⟩ (by show Cert.ProjBDgradIdeal.Value.pt2Of (ix2 i j) % 4 = 3; omega) _ _).trans ?_
  exact accumulated_product (n := 4) (by decide) (show 2048 = 4 * 512 from rfl)
    (fun t h => (outsAt0 m c t h).2 (ix2 (⟨i.val % 512, by omega⟩ : Fin 512) j))
    (fun t h k => B0 m c ⟨t, h⟩ (ix2 (⟨i.val % 512, by omega⟩ : Fin 512) k)) (fun t h k => B1 m c ⟨t, h⟩ (ix3 0 j k))
    (fun k => d m c (ix2 i k)) (fun k => columns (n := 4) (l := 512) (by decide) (show 2048 = 4 * 512 from rfl) (w m c) j k) (i.val / 512)
    (fun t h h0 => first m c ⟨t, h⟩ h0 _ _) (fun t h h0 => next m c ⟨t, h⟩ h0 _ _)
    (fun t h hr k => block0 m c ⟨t, h⟩ i _ k hr rfl) (fun t h hr k => block1 m c ⟨t, h⟩ j k) _ hp (by omega) (by omega)

/-- The reference's result, at a place. -/
theorem reference (x : FVec Ideal S4096x2048 .bf16) (w : FVec Ideal S4x768x512 .f32) (i : Fin 4096) (j : Fin 768) :
    Cert.ProjBDgradRefIdeal.Read.val_main_v5 (F := Ideal) x w (ix2 i j) = ∑ k : Fin 2048, x (ix2 i k) * columns (n := 4) (l := 512) (by decide) (show 2048 = 4 * 512 from rfl) w j k := by
  refine (Cert.ProjBDgradRefIdeal.Read.val_main_v5_apply x w _).trans (Finset.sum_congr rfl fun k _ => ?_)
  have hj := j.2
  have hk := k.2
  rw [Cert.ProjBDgradRefIdeal.Read.val_main_v3_apply, Cert.ProjBDgradRefIdeal.Read.val_main_v2_apply]
  unfold columns
  refine congrArg₂ (fun a b => x a * w b) (funext fun a => ?_) (funext fun a => ?_) <;> fin_cases a <;> first | rfl | refine Fin.ext ?_
  · show (j.val * 2048 + k.val) / 512 % 4 = k.val / 512
    omega
  · show (j.val * 2048 + k.val) / 2048 = j.val
    omega
  · show (j.val * 2048 + k.val) % 512 = k.val % 512
    omega

attribute [local instance] Cert.ProjBDgradIdeal.Gen.facts Cert.ProjBDgradRefIdeal.Gen.facts

theorem frame_ri : Cert.quiescent_ProjBDgradRefIdeal := fun m ρ _ =>
  (θ_run Cert.ProjBDgradRefIdeal.defs _ _).mono
    (fun r h => ⟨fun c => (h c).2, sem_eq_zero_of_no_sems (by decide) r.2⟩)
    (Cert.ProjBDgradRefIdeal.Value.run m ρ)

theorem value : Cert.algebraic_ProjBDgradIdeal_ProjBDgradRefIdeal := by
  intro m g m' g' _ ha
  refine ⟨fun c => Cert.ProjBDgradRefIdeal.Read.val_main_v5 (F := Ideal) (d m c) (w m c), ?_, ?_⟩
  · refine (θ_run Cert.ProjBDgradIdeal.defs _ _).mono (fun r h c => ?_) (Cert.ProjBDgradIdeal.Value.run m g)
    refine ⟨(h c).1.trans (ext2 fun i j => ?_), (h c).2⟩
    exact (result m c i j).trans (reference _ _ i j).symm
  · refine (θ_run Cert.ProjBDgradRefIdeal.defs _ _).mono (fun r h c => ?_) (Cert.ProjBDgradRefIdeal.Value.run m' g')
    obtain ⟨a0, a1⟩ := ha c
    refine ⟨(h c).1.trans ?_, (h c).2⟩
    rw [Cert.ProjBDgradRefIdeal.Read.val_main_v5_eq, a0, a1]
    rfl

end Cert.Products.ProjBDgrad
-- ==== Proof.Products.ProjBWgrad.lean ====
/- The gradient of a wider branch's weights, in the four shards they are kept in: the kernel's product, accumulated over four
   blocks of tokens, is the reference's. -/
module

public import proofs.«01_k».proof.Proof.Kit
public import proofs.«01_k».proof.Proof.Gen.ProjBWgradIdeal.Value
public import proofs.«01_k».proof.Proof.Gen.ProjBWgradRefIdeal.Read
public import proofs.«01_k».proof.Proof.Products.Blocked

@[expose] public section

set_option maxRecDepth 16384

noncomputable section

namespace Cert.Products.ProjBWgrad

open Idealize.ShloMosaic Idealize.ShloMosaic.TcCoe Idealize.SL.Sem Cert.ProjBWgradIdeal Cert.ProjBWgradIdeal.Gen

variable (m : (ℓ : Loc nD τ sig) → Buf (Elt Ideal) ℓ) (c : Dev nD) (t : Fin cfg0.N)

/-- The blocks of point `t`. -/
abbrev B0 : FVec Ideal S1024x768 .bf16 := iblk m c 0 t
abbrev B1 : FVec Ideal S1024x512 .bf16 := iblk m c 1 t

/-- The arguments, at their places. -/
def x : FVec Ideal S4096x768 .bf16 := m ((c : Thread nD τ).loc main_arg0)
def d : FVec Ideal S4096x2048 .bf16 := m ((c : Thread nD τ).loc main_arg1)

theorem first (h : t.val % 4 = 0) (p : Fin 768) (q : Fin 512) : (outsAt0 m c t.val t.isLt).2 (ix2 p q)
    = ∑ k : Fin 1024, B0 m c t (ix2 k p) * B1 m c t (ix2 k q) := by
  rw [outsAt0_A m c t h (by omega) (by omega)]
  frame_out
  simp only [k0_pay2]
  pointwise [k0_pay1]

theorem next (h : ¬ t.val % 4 = 0) (p : Fin 768) (q : Fin 512) : (outsAt0 m c t.val t.isLt).2 (ix2 p q)
    = (outsAt0 m c (t.val - 1) (lt_of_le_of_lt (Nat.sub_le _ _) t.isLt)).2 (ix2 p q)
      + ∑ k : Fin 1024, B0 m c t (ix2 k p) * B1 m c t (ix2 k q) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (z : Fin 1) (p : Fin 768) (q : Fin 512) :
    (outsAt0 m c t.val t.isLt).1 (ix3 z p q) = (outsAt0 m c t.val t.isLt).2 (ix2 p q) := by
  rw [outsAt0_C m c t (by omega) (by omega) h]
  frame_out
  simp only [k0_pay4]
  pointwise [k0_pay3]

theorem idx0 : ∀ t : Fin grid0.N, win0_0.index t = ![t.val % 4, 0] := by decide +kernel
theorem idx1 : ∀ t : Fin grid0.N, win0_1.index t = ![t.val % 4, t.val / 4] := by decide +kernel

theorem block0 (i : Fin 768) (k : Fin 1024) :
    B0 m c t (ix2 k i) = x m c (ix2 (place (n := 4) (K := 4096) rfl (turn (by decide) t) k) i) := by
  unfold B0 iblk
  rw [show V m c (Pipeline.arrRef spec0 0) = x m c from V_main_arg0 m c]
  refine congrArg (x m c) (funext fun a => Fin.ext ?_)
  blk_simp [idx0 t]
  fin_cases a <;> simp [place, turn] <;> omega

theorem block1 (s : Fin 4) (j : Fin 512) (q : Fin 512) (k : Fin 1024) (hj : t.val / 4 = 1 * s + j / 512) (hq : q.val = j % 512) :
    B1 m c t (ix2 k q) = d m c (ix2 (place (n := 4) (K := 4096) rfl (turn (by decide) t) k) (place (n := 4) (K := 2048) rfl s j)) := by
  unfold B1 iblk
  rw [show V m c (Pipeline.arrRef spec0 1) = d m c from V_main_arg1 m c]
  refine congrArg (d m c) (funext fun a => Fin.ext ?_)
  blk_simp [idx1 t]
  fin_cases a <;> simp [place, turn] <;> omega

/-- The kernel's result, at a place. -/
theorem result (s : Fin 4) (i : Fin 768) (j : Fin 512) : Cert.ProjBWgradIdeal.Value.G2 m c (ix3 s i j)
    = ∑ k : Fin 4096, x m c (ix2 k i) * d m c (ix2 k (place (n := 4) (K := 2048) rfl s j)) := by
  have hs := s.2
  have hi := i.2
  have hj := j.2
  have hN : cfg0.N = 16 := N_0
  have hb : Cert.ProjBWgradIdeal.Value.pt2Of (ix3 s i j) = 4 * (1 * s.val + j.val / 512) + 3 := by
    show 4 * (1 * (s.val / 1 - 0) + 1 * (i.val / 768 - 0) + 1 * (j.val / 512 - 0)) + 3 = _
    omega
  have hp : Cert.ProjBWgradIdeal.Value.pt2Of (ix3 s i j) < cfg0.N := by omega
  have hl : Cert.ProjBWgradIdeal.Value.loc2Of (ix3 s i j) = ix3 (0 : Fin 1) i (⟨j.val % 512, by omega⟩ : Fin 512) := by
    funext a
    match a with
    | ⟨0, _⟩ => exact Fin.ext (Nat.mod_one _)
    | ⟨1, _⟩ => exact Fin.ext (Nat.mod_eq_of_lt i.2)
    | ⟨2, _⟩ => rfl
  unfold Cert.ProjBWgradIdeal.Value.G2
  rw [dif_pos hp, ← Cert.ProjBWgradIdeal.Value.outsAt0_sweep m c _ hp, hl]
  refine (written m c ⟨_, hp⟩ (by show Cert.ProjBWgradIdeal.Value.pt2Of (ix3 s i j) % 4 = 3; omega) _ _ _).trans ?_
  exact accumulated_product (n := 4) (by decide) (show 4096 = 4 * 1024 from rfl)
    (fun t h => (outsAt0 m c t h).2 (ix2 i (⟨j.val % 512, by omega⟩ : Fin 512)))
    (fun t h k => B0 m c ⟨t, h⟩ (ix2 k i)) (fun t h k => B1 m c ⟨t, h⟩ (ix2 k (⟨j.val % 512, by omega⟩ : Fin 512)))
    (fun k => x m c (ix2 k i)) (fun k => d m c (ix2 k (place (n := 4) (K := 2048) rfl s j))) (1 * s.val + j.val / 512)
    (fun t h h0 => first m c ⟨t, h⟩ h0 _ _) (fun t h h0 => next m c ⟨t, h⟩ h0 _ _)
    (fun t h hr k => block0 m c ⟨t, h⟩ i k) (fun t h hr k => block1 m c ⟨t, h⟩ s j _ k hr rfl) _ hp (by omega) (by omega)

/-- The reference's result, at a place. -/
theorem reference (x : FVec Ideal S4096x768 .bf16) (d : FVec Ideal S4096x2048 .bf16) (s : Fin 4) (i : Fin 768) (j : Fin 512) :
    Cert.ProjBWgradRefIdeal.Read.val_main_v10 (F := Ideal) x d (ix3 s i j)
      = ∑ k : Fin 4096, x (ix2 k i) * d (ix2 k (place (n := 4) (K := 2048) rfl s j)) := by
  have hs := s.2
  have hj := j.2
  rw [Cert.ProjBWgradRefIdeal.Read.val_main_v10_apply, Cert.ProjBWgradRefIdeal.Read.val_main_v9_apply,
    Cert.ProjBWgradRefIdeal.Read.val_main_v8_apply, Cert.ProjBWgradRefIdeal.Read.val_main_v7_apply]
  refine (Cert.ProjBWgradRefIdeal.Read.val_main_v6_apply x d _).trans (Finset.sum_congr rfl fun k _ => ?_)
  rw [mul_comm]
  refine congrArg₂ (fun a b => x a * d b) (funext fun a => ?_) (funext fun a => ?_) <;> fin_cases a <;> first | rfl | refine Fin.ext ?_
  · show ((i.val * 4 + s.val) * 512 + j.val) / 2048 = i.val
    omega
  · show ((i.val * 4 + s.val) * 512 + j.val) % 2048 = 512 * s.val + j.val
    omega

attribute [local instance] Cert.ProjBWgradIdeal.Gen.facts Cert.ProjBWgradRefIdeal.Gen.facts

theorem frame_ri : Cert.quiescent_ProjBWgradRefIdeal := fun m ρ _ =>
  (θ_run Cert.ProjBWgradRefIdeal.defs _ _).mono
    (fun r h => ⟨fun c => (h c).2, sem_eq_zero_of_no_sems (by decide) r.2⟩)
    (Cert.ProjBWgradRefIdeal.Value.run m ρ)

theorem value : Cert.algebraic_ProjBWgradIdeal_ProjBWgradRefIdeal := by
  intro m g m' g' _ ha
  refine ⟨fun c => Cert.ProjBWgradRefIdeal.Read.val_main_v10 (F := Ideal) (x m c) (d m c), ?_, ?_⟩
  · refine (θ_run Cert.ProjBWgradIdeal.defs _ _).mono (fun r h c => ?_) (Cert.ProjBWgradIdeal.Value.run m g)
    refine ⟨(h c).1.trans (ext3 fun s i j => ?_), (h c).2⟩
    exact (result m c s i j).trans (reference _ _ s i j).symm
  · refine (θ_run Cert.ProjBWgradRefIdeal.defs _ _).mono (fun r h c => ?_) (Cert.ProjBWgradRefIdeal.Value.run m' g')
    obtain ⟨a0, a1⟩ := ha c
    refine ⟨(h c).1.trans ?_, (h c).2⟩
    rw [Cert.ProjBWgradRefIdeal.Read.val_main_v10_eq, a0, a1]
    rfl

end Cert.Products.ProjBWgrad
-- ==== Proof.Products.ProjQkv.lean ====
/- The queries, keys and values: each point of the kernel's grid writes one block of the product with the first columns of the stacked
   weights, with its bias, whole. -/
module

public import proofs.«01_k».proof.Proof.Kit
public import proofs.«01_k».proof.Proof.Gen.ProjQkvIdeal.Value
public import proofs.«01_k».proof.Proof.Gen.ProjQkvRefIdeal.Read
public import proofs.«01_k».proof.Proof.Products.Blocked

@[expose] public section

set_option maxRecDepth 16384

noncomputable section

namespace Cert.Products.ProjQkv

open Idealize.ShloMosaic Idealize.ShloMosaic.TcCoe Idealize.SL.Sem Cert.ProjQkvIdeal Cert.ProjQkvIdeal.Gen

variable (m : (ℓ : Loc nD τ sig) → Buf (Elt Ideal) ℓ) (c : Dev nD) (t : Fin cfg0.N)

/-- The blocks of point `t`. -/
abbrev B0 : FVec Ideal S1024x2048 .f32 := iblk m c 0 t
abbrev B1 : FVec Ideal S2048x768 .bf16 := iblk m c 1 t
abbrev B2 : FVec Ideal S1x768 .f32 := iblk m c 2 t

/-- The arguments, at their places. -/
def h : FVec Ideal S4096x2048 .f32 := m ((c : Thread nD τ).loc main_arg0)
def w : FVec Ideal S2048x13056 .f32 := m ((c : Thread nD τ).loc main_arg1)
def b : FVec Ideal S13056 .f32 := m ((c : Thread nD τ).loc main_arg2)

theorem written (y : S1024x768.Idx) : out0_3 (iblk m c 0 t) (iblk m c 1 t) (iblk m c 2 t) y
    = (∑ k : Fin 2048, B0 m c t (ix2 (y 0) k) * B1 m c t (ix2 k (y 1))) + B2 m c t (ix2 0 (y 1)) := by
  rw [ValueIdx.eq_ix2 y]
  frame_out
  pointwise [k0_pay1]

/-- The column of the stacked weights which the result's column `j` is of. -/
def col (j : Fin 4608) : Fin 13056 := ⟨j.val + 0, by omega⟩

theorem idx0 : ∀ t : Fin grid0.N, win0_0.index t = ![t.val / 6, 0] := by decide +kernel
theorem idx1 : ∀ t : Fin grid0.N, win0_1.index t = ![0, t.val % 6] := by decide +kernel
theorem idx2 : ∀ t : Fin grid0.N, win0_2.index t = ![0, t.val % 6] := by decide +kernel
theorem idx3 : ∀ t : Fin grid0.N, win0_3.index t = ![t.val / 6, t.val % 6] := by decide +kernel

/-- Where the block written at point `t` lies. -/
theorem placed (y : S1024x768.Idx) : ((win0_3.blk t).view.emb y 0).val = t.val / 6 * 1024 + (y 0).val
    ∧ ((win0_3.blk t).view.emb y 1).val = t.val % 6 * 768 + (y 1).val := by
  constructor
  · show win0_3.index t (0 : Fin 2) * 1024 + 1 * (y 0).val = _
    rw [idx3 t, one_mul]; rfl
  · show win0_3.index t (1 : Fin 2) * 768 + 1 * (y 1).val = _
    rw [idx3 t, one_mul]; rfl

theorem V_v0 : V m c main_v0 = w m c := by
  unfold V
  simp only [hostOps0]
  after_results
  rfl

theorem V_v1 (j : Fin 13056) : (V m c main_v1 : FVec Ideal S1x13056 .f32) (ix2 0 j) = b m c (ix1 j) := by
  unfold V
  simp only [hostOps0]
  after_results
  exact broadcastInDim_apply _ _ _ _ (ix1 j) (fun a => match a with | ⟨0, _⟩ => rfl)

theorem block0 (i : Fin 4096) (p : Fin 1024) (k : Fin 2048) (hi : i.val = t.val / 6 * 1024 + p) :
    B0 m c t (ix2 p k) = h m c (ix2 i k) := by
  unfold B0 iblk
  rw [show V m c (Pipeline.arrRef spec0 0) = h m c from V_main_arg0 m c]
  refine congrArg (h m c) (funext fun a => Fin.ext ?_)
  blk_simp [idx0 t]
  fin_cases a <;> simp <;> omega

theorem block1 (j : Fin 4608) (q : Fin 768) (k : Fin 2048) (hj : j.val = t.val % 6 * 768 + q) :
    B1 m c t (ix2 k q) = w m c (ix2 k (col j)) := by
  unfold B1 iblk
  rw [show V m c (Pipeline.arrRef spec0 1) = w m c from V_v0 m c]
  refine congrArg (w m c) (funext fun a => Fin.ext ?_)
  blk_simp [idx1 t]
  fin_cases a <;> simp [col] <;> omega

theorem block2 (j : Fin 4608) (q : Fin 768) (hj : j.val = t.val % 6 * 768 + q) : B2 m c t (ix2 0 q) = b m c (ix1 (col j)) := by
  refine Eq.trans ?_ (V_v1 m c (col j))
  unfold B2 iblk
  refine congrArg (V m c main_v1) (funext fun a => Fin.ext ?_)
  blk_simp [idx2 t]
  fin_cases a <;> simp [col] <;> omega

/-- The reference's result, at a place. -/
theorem reference (h : FVec Ideal S4096x2048 .f32) (w : FVec Ideal S2048x13056 .f32) (b : FVec Ideal S13056 .f32) (i : S4096x4608.Idx) :
    Cert.ProjQkvRefIdeal.Read.val_main_v6 (F := Ideal) h w b i
      = (∑ k : Fin 2048, h (ix2 (i 0) k) * w (ix2 k (col (i 1)))) + b (ix1 (col (i 1))) := by
  rw [Cert.ProjQkvRefIdeal.Read.val_main_v6_apply]
  show Cert.ProjQkvRefIdeal.Read.val_main_v5 (F := Ideal) h w b i = _
  rw [Cert.ProjQkvRefIdeal.Read.val_main_v5_apply]
  refine congrArg₂ (· + ·) ?_ ?_
  · refine (Cert.ProjQkvRefIdeal.Read.val_main_v1_apply h w i).trans (Finset.sum_congr rfl fun k _ => ?_)
    rw [Cert.ProjQkvRefIdeal.Read.val_main_v0_apply]
    refine congrArg₂ (fun a b => h a * w b) (funext fun a => ?_) (funext fun a => ?_) <;> fin_cases a <;> first | rfl | exact Fin.ext (Nat.add_comm _ _)
  · rw [Cert.ProjQkvRefIdeal.Read.val_main_v4_apply, Cert.ProjQkvRefIdeal.Read.val_main_v3_apply, Cert.ProjQkvRefIdeal.Read.val_main_v2_apply]
    refine congrArg b (funext fun a => ?_)
    fin_cases a
    exact Fin.ext (by show _ = (i 1).val + 0; simp)

/-- The kernel's result is the reference's. -/
theorem result : (dats m 0 c).arrAt 3 cfg0.N
    = Cert.ProjQkvRefIdeal.Read.val_main_v6 (F := Ideal) (h m c) (w m c) (b m c) := by
  refine (dats m 0 c).arrAt_eq_of_covers 3 _ (by decide +kernel) fun t hf y => ?_
  blk_simp
  rw [after0_3]
  refine (written m c t y).trans (Eq.trans (congrArg₂ (· + ·) (Finset.sum_congr rfl fun k _ => ?_)
    (block2 m c t _ (y 1) (placed t y).2)) (reference _ _ _ _).symm)
  rw [block0 m c t _ (y 0) k (placed t y).1, block1 m c t _ (y 1) k (placed t y).2]

attribute [local instance] Cert.ProjQkvIdeal.Gen.facts Cert.ProjQkvRefIdeal.Gen.facts

theorem frame_ri : Cert.quiescent_ProjQkvRefIdeal := fun m ρ _ =>
  (θ_run Cert.ProjQkvRefIdeal.defs _ _).mono
    (fun r h => ⟨fun c => (h c).2, sem_eq_zero_of_no_sems (by decide) r.2⟩)
    (Cert.ProjQkvRefIdeal.Value.run m ρ)

theorem value : Cert.algebraic_ProjQkvIdeal_ProjQkvRefIdeal := by
  intro m g m' g' _ ha
  refine ⟨fun c => Cert.ProjQkvRefIdeal.Read.val_main_v6 (F := Ideal) (h m c) (w m c) (b m c), ?_, ?_⟩
  · exact (θ_run Cert.ProjQkvIdeal.defs _ _).mono (fun r h c => ⟨(h c).1.trans (result m c), (h c).2⟩)
      (Cert.ProjQkvIdeal.Value.run_blocks m g)
  · refine (θ_run Cert.ProjQkvRefIdeal.defs _ _).mono (fun r h c => ?_) (Cert.ProjQkvRefIdeal.Value.run m' g')
    obtain ⟨a0, a1, a2⟩ := ha c
    refine ⟨(h c).1.trans ?_, (h c).2⟩
    rw [Cert.ProjQkvRefIdeal.Read.val_main_v6_eq, a0, a1, a2]
    rfl

end Cert.Products.ProjQkv
-- ==== Proof.Products.ProjRest.lean ====
/- What the stacked weights give past the queries, keys and values: each point of the kernel's grid writes one block of the product
   with the later columns, with its bias, whole. -/
module

public import proofs.«01_k».proof.Proof.Kit
public import proofs.«01_k».proof.Proof.Gen.ProjRestIdeal.Value
public import proofs.«01_k».proof.Proof.Gen.ProjRestRefIdeal.Read
public import proofs.«01_k».proof.Proof.Products.Blocked

@[expose] public section

set_option maxRecDepth 16384

noncomputable section

namespace Cert.Products.ProjRest

open Idealize.ShloMosaic Idealize.ShloMosaic.TcCoe Idealize.SL.Sem Cert.ProjRestIdeal Cert.ProjRestIdeal.Gen

variable (m : (ℓ : Loc nD τ sig) → Buf (Elt Ideal) ℓ) (c : Dev nD) (t : Fin cfg0.N)

/-- The blocks of point `t`. -/
abbrev B0 : FVec Ideal S1024x2048 .f32 := iblk m c 0 t
abbrev B1 : FVec Ideal S2048x768 .bf16 := iblk m c 1 t
abbrev B2 : FVec Ideal S1x768 .f32 := iblk m c 2 t

/-- The arguments, at their places. -/
def h : FVec Ideal S4096x2048 .f32 := m ((c : Thread nD τ).loc main_arg0)
def w : FVec Ideal S2048x13056 .f32 := m ((c : Thread nD τ).loc main_arg1)
def b : FVec Ideal S13056 .f32 := m ((c : Thread nD τ).loc main_arg2)

theorem written (y : S1024x768.Idx) : out0_3 (iblk m c 0 t) (iblk m c 1 t) (iblk m c 2 t) y
    = (∑ k : Fin 2048, B0 m c t (ix2 (y 0) k) * B1 m c t (ix2 k (y 1))) + B2 m c t (ix2 0 (y 1)) := by
  rw [ValueIdx.eq_ix2 y]
  frame_out
  pointwise [k0_pay1]

/-- The column of the stacked weights which the result's column `j` is of. -/
def col (j : Fin 8448) : Fin 13056 := ⟨j.val + 4608, by omega⟩

theorem idx0 : ∀ t : Fin grid0.N, win0_0.index t = ![t.val / 11, 0] := by decide +kernel
theorem idx1 : ∀ t : Fin grid0.N, win0_1.index t = ![0, t.val % 11 + 6] := by decide +kernel
theorem idx2 : ∀ t : Fin grid0.N, win0_2.index t = ![0, t.val % 11 + 6] := by decide +kernel
theorem idx3 : ∀ t : Fin grid0.N, win0_3.index t = ![t.val / 11, t.val % 11] := by decide +kernel

/-- Where the block written at point `t` lies. -/
theorem placed (y : S1024x768.Idx) : ((win0_3.blk t).view.emb y 0).val = t.val / 11 * 1024 + (y 0).val
    ∧ ((win0_3.blk t).view.emb y 1).val = t.val % 11 * 768 + (y 1).val := by
  constructor
  · show win0_3.index t (0 : Fin 2) * 1024 + 1 * (y 0).val = _
    rw [idx3 t, one_mul]; rfl
  · show win0_3.index t (1 : Fin 2) * 768 + 1 * (y 1).val = _
    rw [idx3 t, one_mul]; rfl

theorem V_v0 : V m c main_v0 = w m c := by
  unfold V
  simp only [hostOps0]
  after_results
  rfl

theorem V_v1 (j : Fin 13056) : (V m c main_v1 : FVec Ideal S1x13056 .f32) (ix2 0 j) = b m c (ix1 j) := by
  unfold V
  simp only [hostOps0]
  after_results
  exact broadcastInDim_apply _ _ _ _ (ix1 j) (fun a => match a with | ⟨0, _⟩ => rfl)

theorem block0 (i : Fin 4096) (p : Fin 1024) (k : Fin 2048) (hi : i.val = t.val / 11 * 1024 + p) :
    B0 m c t (ix2 p k) = h m c (ix2 i k) := by
  unfold B0 iblk
  rw [show V m c (Pipeline.arrRef spec0 0) = h m c from V_main_arg0 m c]
  refine congrArg (h m c) (funext fun a => Fin.ext ?_)
  blk_simp [idx0 t]
  fin_cases a <;> simp <;> omega

theorem block1 (j : Fin 8448) (q : Fin 768) (k : Fin 2048) (hj : j.val = t.val % 11 * 768 + q) :
    B1 m c t (ix2 k q) = w m c (ix2 k (col j)) := by
  unfold B1 iblk
  rw [show V m c (Pipeline.arrRef spec0 1) = w m c from V_v0 m c]
  refine congrArg (w m c) (funext fun a => Fin.ext ?_)
  blk_simp [idx1 t]
  fin_cases a <;> simp [col] <;> omega

theorem block2 (j : Fin 8448) (q : Fin 768) (hj : j.val = t.val % 11 * 768 + q) : B2 m c t (ix2 0 q) = b m c (ix1 (col j)) := by
  refine Eq.trans ?_ (V_v1 m c (col j))
  unfold B2 iblk
  refine congrArg (V m c main_v1) (funext fun a => Fin.ext ?_)
  blk_simp [idx2 t]
  fin_cases a <;> simp [col] <;> omega

/-- The reference's result, at a place. -/
theorem reference (h : FVec Ideal S4096x2048 .f32) (w : FVec Ideal S2048x13056 .f32) (b : FVec Ideal S13056 .f32) (i : S4096x8448.Idx) :
    Cert.ProjRestRefIdeal.Read.val_main_v5 (F := Ideal) h w b i
      = (∑ k : Fin 2048, h (ix2 (i 0) k) * w (ix2 k (col (i 1)))) + b (ix1 (col (i 1))) := by
  rw [Cert.ProjRestRefIdeal.Read.val_main_v5_apply]
  refine congrArg₂ (· + ·) ?_ ?_
  · refine (Cert.ProjRestRefIdeal.Read.val_main_v1_apply h w i).trans (Finset.sum_congr rfl fun k _ => ?_)
    rw [Cert.ProjRestRefIdeal.Read.val_main_v0_apply]
    refine congrArg₂ (fun a b => h a * w b) (funext fun a => ?_) (funext fun a => ?_) <;> fin_cases a <;> first | rfl | exact Fin.ext (Nat.add_comm _ _)
  · rw [Cert.ProjRestRefIdeal.Read.val_main_v4_apply, Cert.ProjRestRefIdeal.Read.val_main_v3_apply, Cert.ProjRestRefIdeal.Read.val_main_v2_apply]
    refine congrArg b (funext fun a => ?_)
    fin_cases a
    exact Fin.ext (Nat.add_comm _ _)

/-- The kernel's result is the reference's. -/
theorem result : (dats m 0 c).arrAt 3 cfg0.N
    = Cert.ProjRestRefIdeal.Read.val_main_v5 (F := Ideal) (h m c) (w m c) (b m c) := by
  refine (dats m 0 c).arrAt_eq_of_covers 3 _ (by decide +kernel) fun t hf y => ?_
  blk_simp
  rw [after0_3]
  refine (written m c t y).trans (Eq.trans (congrArg₂ (· + ·) (Finset.sum_congr rfl fun k _ => ?_)
    (block2 m c t _ (y 1) (placed t y).2)) (reference _ _ _ _).symm)
  rw [block0 m c t _ (y 0) k (placed t y).1, block1 m c t _ (y 1) k (placed t y).2]

attribute [local instance] Cert.ProjRestIdeal.Gen.facts Cert.ProjRestRefIdeal.Gen.facts

theorem frame_ri : Cert.quiescent_ProjRestRefIdeal := fun m ρ _ =>
  (θ_run Cert.ProjRestRefIdeal.defs _ _).mono
    (fun r h => ⟨fun c => (h c).2, sem_eq_zero_of_no_sems (by decide) r.2⟩)
    (Cert.ProjRestRefIdeal.Value.run m ρ)

theorem value : Cert.algebraic_ProjRestIdeal_ProjRestRefIdeal := by
  intro m g m' g' _ ha
  refine ⟨fun c => Cert.ProjRestRefIdeal.Read.val_main_v5 (F := Ideal) (h m c) (w m c) (b m c), ?_, ?_⟩
  · exact (θ_run Cert.ProjRestIdeal.defs _ _).mono (fun r h c => ⟨(h c).1.trans (result m c), (h c).2⟩)
      (Cert.ProjRestIdeal.Value.run_blocks m g)
  · refine (θ_run Cert.ProjRestRefIdeal.defs _ _).mono (fun r h c => ?_) (Cert.ProjRestRefIdeal.Value.run m' g')
    obtain ⟨a0, a1, a2⟩ := ha c
    refine ⟨(h c).1.trans ?_, (h c).2⟩
    rw [Cert.ProjRestRefIdeal.Read.val_main_v5_eq, a0, a1, a2]
    rfl

end Cert.Products.ProjRest
-- ==== Proof.Products.FfnIn.lean ====
/- The feed-forward block's two inner products: each point of the kernel's grid writes one block of the product with weights kept in
   four shards, whole. -/
module

public import proofs.«01_k».proof.Proof.Kit
public import proofs.«01_k».proof.Proof.Gen.FfnInIdeal.Value
public import proofs.«01_k».proof.Proof.Gen.FfnInRefIdeal.Read
public import proofs.«01_k».proof.Proof.Products.Blocked

@[expose] public section

set_option maxRecDepth 16384

noncomputable section

namespace Cert.Products.FfnIn

open Idealize.ShloMosaic Idealize.ShloMosaic.TcCoe Idealize.SL.Sem Cert.FfnInIdeal Cert.FfnInIdeal.Gen

variable (m : (ℓ : Loc nD τ sig) → Buf (Elt Ideal) ℓ) (c : Dev nD) (t : Fin cfg0.N)

/-- The blocks of point `t`. -/
abbrev B0 : FVec Ideal S1024x2048 .f32 := iblk m c 0 t
abbrev B1 : FVec Ideal S1x2048x1408 .bf16 := iblk m c 1 t

/-- The arguments, at their places. -/
def x : FVec Ideal S4096x2048 .f32 := m ((c : Thread nD τ).loc main_arg0)
def w : FVec Ideal S4x2048x2816 .f32 := m ((c : Thread nD τ).loc main_arg1)

theorem written (y : S1024x1408.Idx) : out0_2 (iblk m c 0 t) (iblk m c 1 t) y
    = (∑ k : Fin 2048, B0 m c t (ix2 (y 0) k) * B1 m c t (ix3 0 k (y 1))) := by
  rw [ValueIdx.eq_ix2 y]
  frame_out
  pointwise [k0_pay1]

theorem idx0 : ∀ t : Fin grid0.N, win0_0.index t = ![t.val / 8, 0] := by decide +kernel
theorem idx1 : ∀ t : Fin grid0.N, win0_1.index t = ![t.val % 8 / 2, 0, t.val % 8 % 2] := by decide +kernel
theorem idx2 : ∀ t : Fin grid0.N, win0_2.index t = ![t.val / 8, t.val % 8] := by decide +kernel

/-- Where the block written at point `t` lies. -/
theorem placed (y : S1024x1408.Idx) : ((win0_2.blk t).view.emb y 0).val = t.val / 8 * 1024 + (y 0).val
    ∧ ((win0_2.blk t).view.emb y 1).val = t.val % 8 * 1408 + (y 1).val := by
  constructor
  · show win0_2.index t (0 : Fin 2) * 1024 + 1 * (y 0).val = _
    rw [idx2 t, one_mul]; rfl
  · show win0_2.index t (1 : Fin 2) * 1408 + 1 * (y 1).val = _
    rw [idx2 t, one_mul]; rfl

theorem V_v0 : V m c main_v0 = w m c := by
  unfold V
  simp only [hostOps0]
  after_results
  rfl

theorem block0 (i : Fin 4096) (p : Fin 1024) (k : Fin 2048) (hi : i.val = t.val / 8 * 1024 + p) :
    B0 m c t (ix2 p k) = x m c (ix2 i k) := by
  unfold B0 iblk
  rw [show V m c (Pipeline.arrRef spec0 0) = x m c from V_main_arg0 m c]
  refine congrArg (x m c) (funext fun a => Fin.ext ?_)
  blk_simp [idx0 t]
  fin_cases a <;> simp <;> omega

theorem block1 (j : Fin 11264) (q : Fin 1408) (k : Fin 2048) (hj : j.val = t.val % 8 * 1408 + q) :
    B1 m c t (ix3 0 k q) = columns (n := 4) (l := 2816) (by decide) (show 11264 = 4 * 2816 from rfl) (w m c) k j := by
  unfold B1 iblk columns
  rw [show V m c (Pipeline.arrRef spec0 1) = w m c from V_v0 m c]
  refine congrArg (w m c) (funext fun a => Fin.ext ?_)
  blk_simp [idx1 t]
  fin_cases a <;> simp <;> omega

/-- The reference's result, at a place. -/
theorem reference (x : FVec Ideal S4096x2048 .f32) (w : FVec Ideal S4x2048x2816 .f32) (i : S4096x11264.Idx) :
    Cert.FfnInRefIdeal.Read.val_main_v2 (F := Ideal) x w i
      = (∑ k : Fin 2048, x (ix2 (i 0) k) * columns (n := 4) (l := 2816) (by decide) (show 11264 = 4 * 2816 from rfl) w k (i 1)) := by
  have hj : (i 1).val < 11264 := (i 1).isLt
  refine (Cert.FfnInRefIdeal.Read.val_main_v2_apply x w i).trans (Finset.sum_congr rfl fun k _ => ?_)
  have hk := k.2
  rw [Cert.FfnInRefIdeal.Read.val_main_v1_apply, Cert.FfnInRefIdeal.Read.val_main_v0_apply]
  unfold columns
  refine congrArg₂ (fun a b => x a * w b) (funext fun a => ?_) (funext fun a => ?_) <;> fin_cases a <;> first | rfl | refine Fin.ext ?_
  · show (k.val * 11264 + (i 1).val) / 2816 % 4 = (i 1).val / 2816
    omega
  · show (k.val * 11264 + (i 1).val) / 11264 = k.val
    omega
  · show (k.val * 11264 + (i 1).val) % 2816 = (i 1).val % 2816
    omega

/-- The kernel's result is the reference's. -/
theorem result : (dats m 0 c).arrAt 2 cfg0.N
    = Cert.FfnInRefIdeal.Read.val_main_v2 (F := Ideal) (x m c) (w m c) := by
  refine (dats m 0 c).arrAt_eq_of_covers 2 _ (by decide +kernel) fun t hf y => ?_
  blk_simp
  rw [after0_2]
  refine (written m c t y).trans (Eq.trans (Finset.sum_congr rfl fun k _ => ?_) (reference _ _ _).symm)
  rw [block0 m c t _ (y 0) k (placed t y).1, block1 m c t _ (y 1) k (placed t y).2]

attribute [local instance] Cert.FfnInIdeal.Gen.facts Cert.FfnInRefIdeal.Gen.facts

theorem frame_ri : Cert.quiescent_FfnInRefIdeal := fun m ρ _ =>
  (θ_run Cert.FfnInRefIdeal.defs _ _).mono
    (fun r h => ⟨fun c => (h c).2, sem_eq_zero_of_no_sems (by decide) r.2⟩)
    (Cert.FfnInRefIdeal.Value.run m ρ)

theorem value : Cert.algebraic_FfnInIdeal_FfnInRefIdeal := by
  intro m g m' g' _ ha
  refine ⟨fun c => Cert.FfnInRefIdeal.Read.val_main_v2 (F := Ideal) (x m c) (w m c), ?_, ?_⟩
  · exact (θ_run Cert.FfnInIdeal.defs _ _).mono (fun r h c => ⟨(h c).1.trans (result m c), (h c).2⟩)
      (Cert.FfnInIdeal.Value.run_blocks m g)
  · refine (θ_run Cert.FfnInRefIdeal.defs _ _).mono (fun r h c => ?_) (Cert.FfnInRefIdeal.Value.run m' g')
    obtain ⟨a0, a1⟩ := ha c
    refine ⟨(h c).1.trans ?_, (h c).2⟩
    rw [Cert.FfnInRefIdeal.Read.val_main_v2_eq, a0, a1]
    rfl

end Cert.Products.FfnIn
-- ==== Proof.Products.FfnOut.lean ====
/- The feed-forward block's output: each point of the kernel's grid writes one block of the product, with the residual's share added,
   whole. -/
module

public import proofs.«01_k».proof.Proof.Kit
public import proofs.«01_k».proof.Proof.Gen.FfnOutIdeal.Value
public import proofs.«01_k».proof.Proof.Gen.FfnOutRefIdeal.Read
public import proofs.«01_k».proof.Proof.Products.Blocked

@[expose] public section

set_option maxRecDepth 16384

noncomputable section

namespace Cert.Products.FfnOut

open Idealize.ShloMosaic Idealize.ShloMosaic.TcCoe Idealize.SL.Sem Cert.FfnOutIdeal Cert.FfnOutIdeal.Gen

variable (m : (ℓ : Loc nD τ sig) → Buf (Elt Ideal) ℓ) (c : Dev nD) (t : Fin cfg0.N)

/-- The blocks of point `t`. -/
abbrev B0 : FVec Ideal S1024x5632 .bf16 := iblk m c 0 t
abbrev B1 : FVec Ideal S5632x512 .bf16 := iblk m c 1 t
abbrev B2 : FVec Ideal S1024x512 .f32 := iblk m c 2 t

/-- The arguments, at their places. -/
def x : FVec Ideal S4096x5632 .bf16 := m ((c : Thread nD τ).loc main_arg0)
def w : FVec Ideal S5632x2048 .f32 := m ((c : Thread nD τ).loc main_arg1)
def d : FVec Ideal S4096x2048 .f32 := m ((c : Thread nD τ).loc main_arg2)

theorem written (y : S1024x512.Idx) : out0_3 (iblk m c 0 t) (iblk m c 1 t) (iblk m c 2 t) y
    = (∑ k : Fin 5632, B0 m c t (ix2 (y 0) k) * B1 m c t (ix2 k (y 1))) + Ideal.ofBits .f32 0x3FD744FD#32 * B2 m c t (ix2 (y 0) (y 1)) := by
  rw [ValueIdx.eq_ix2 y]
  frame_out
  pointwise [k0_pay1]

theorem idx0 : ∀ t : Fin grid0.N, win0_0.index t = ![t.val / 4, 0] := by decide +kernel
theorem idx1 : ∀ t : Fin grid0.N, win0_1.index t = ![0, t.val % 4] := by decide +kernel
theorem idx2 : ∀ t : Fin grid0.N, win0_2.index t = ![t.val / 4, t.val % 4] := by decide +kernel
theorem idx3 : ∀ t : Fin grid0.N, win0_3.index t = ![t.val / 4, t.val % 4] := by decide +kernel

/-- Where the block written at point `t` lies. -/
theorem placed (y : S1024x512.Idx) : ((win0_3.blk t).view.emb y 0).val = t.val / 4 * 1024 + (y 0).val
    ∧ ((win0_3.blk t).view.emb y 1).val = t.val % 4 * 512 + (y 1).val := by
  constructor
  · show win0_3.index t (0 : Fin 2) * 1024 + 1 * (y 0).val = _
    rw [idx3 t, one_mul]; rfl
  · show win0_3.index t (1 : Fin 2) * 512 + 1 * (y 1).val = _
    rw [idx3 t, one_mul]; rfl

theorem V_v0 : V m c main_v0 = w m c := by
  unfold V
  simp only [hostOps0]
  after_results
  rfl

theorem block0 (i : Fin 4096) (p : Fin 1024) (k : Fin 5632) (hi : i.val = t.val / 4 * 1024 + p) :
    B0 m c t (ix2 p k) = x m c (ix2 i k) := by
  unfold B0 iblk
  rw [show V m c (Pipeline.arrRef spec0 0) = x m c from V_main_arg0 m c]
  refine congrArg (x m c) (funext fun a => Fin.ext ?_)
  blk_simp [idx0 t]
  fin_cases a <;> simp <;> omega

theorem block1 (j : Fin 2048) (q : Fin 512) (k : Fin 5632) (hj : j.val = t.val % 4 * 512 + q) :
    B1 m c t (ix2 k q) = w m c (ix2 k j) := by
  unfold B1 iblk
  rw [show V m c (Pipeline.arrRef spec0 1) = w m c from V_v0 m c]
  refine congrArg (w m c) (funext fun a => Fin.ext ?_)
  blk_simp [idx1 t]
  fin_cases a <;> simp <;> omega

theorem block2 (i : Fin 4096) (j : Fin 2048) (p : Fin 1024) (q : Fin 512) (hi : i.val = t.val / 4 * 1024 + p)
    (hj : j.val = t.val % 4 * 512 + q) :
    B2 m c t (ix2 p q) = d m c (ix2 i j) := by
  unfold B2 iblk
  rw [show V m c (Pipeline.arrRef spec0 2) = d m c from V_main_arg2 m c]
  refine congrArg (d m c) (funext fun a => Fin.ext ?_)
  blk_simp [idx2 t]
  fin_cases a <;> simp <;> omega

/-- The reference's result, at a place. -/
theorem reference (x : FVec Ideal S4096x5632 .bf16) (w : FVec Ideal S5632x2048 .f32) (d : FVec Ideal S4096x2048 .f32) (i : S4096x2048.Idx) :
    Cert.FfnOutRefIdeal.Read.val_main_v4 (F := Ideal) x w d i
      = (∑ k : Fin 5632, x (ix2 (i 0) k) * w (ix2 k (i 1)))
      + Ideal.ofBits .f32 0x3FD744FD#32 * d (ix2 (i 0) (i 1)) := by
  rw [add_comm, Cert.FfnOutRefIdeal.Read.val_main_v4_apply, Cert.FfnOutRefIdeal.Read.val_main_v3_apply]
  refine congrArg₂ (· + ·) (congrArg (_ * ·) (congrArg d (ValueIdx.eq_ix2 i))) (Finset.sum_congr rfl fun k _ => ?_)
  refine congrArg₂ (fun a b => x a * w b) (funext fun a => ?_) (funext fun a => ?_) <;> fin_cases a <;> rfl

/-- The kernel's result is the reference's. -/
theorem result : (dats m 0 c).arrAt 3 cfg0.N
    = Cert.FfnOutRefIdeal.Read.val_main_v4 (F := Ideal) (x m c) (w m c) (d m c) := by
  refine (dats m 0 c).arrAt_eq_of_covers 3 _ (by decide +kernel) fun t hf y => ?_
  blk_simp
  rw [after0_3]
  refine (written m c t y).trans (Eq.trans (congrArg₂ (· + ·) (Finset.sum_congr rfl fun k _ => ?_)
    (congrArg (_ * ·) (block2 m c t _ _ (y 0) (y 1) (placed t y).1 (placed t y).2))) (reference _ _ _ _).symm)
  rw [block0 m c t _ (y 0) k (placed t y).1, block1 m c t _ (y 1) k (placed t y).2]

attribute [local instance] Cert.FfnOutIdeal.Gen.facts Cert.FfnOutRefIdeal.Gen.facts

theorem frame_ri : Cert.quiescent_FfnOutRefIdeal := fun m ρ _ =>
  (θ_run Cert.FfnOutRefIdeal.defs _ _).mono
    (fun r h => ⟨fun c => (h c).2, sem_eq_zero_of_no_sems (by decide) r.2⟩)
    (Cert.FfnOutRefIdeal.Value.run m ρ)

theorem value : Cert.algebraic_FfnOutIdeal_FfnOutRefIdeal := by
  intro m g m' g' _ ha
  refine ⟨fun c => Cert.FfnOutRefIdeal.Read.val_main_v4 (F := Ideal) (x m c) (w m c) (d m c), ?_, ?_⟩
  · exact (θ_run Cert.FfnOutIdeal.defs _ _).mono (fun r h c => ⟨(h c).1.trans (result m c), (h c).2⟩)
      (Cert.FfnOutIdeal.Value.run_blocks m g)
  · refine (θ_run Cert.FfnOutRefIdeal.defs _ _).mono (fun r h c => ?_) (Cert.FfnOutRefIdeal.Value.run m' g')
    obtain ⟨a0, a1, a2⟩ := ha c
    refine ⟨(h c).1.trans ?_, (h c).2⟩
    rw [Cert.FfnOutRefIdeal.Read.val_main_v4_eq, a0, a1, a2]
    rfl

end Cert.Products.FfnOut
-- ==== Proof.Products.ProjO.lean ====
/- The attention block's output: each point of the kernel's grid writes one block of the product, with the residual's share added,
   whole. -/
module

public import proofs.«01_k».proof.Proof.Kit
public import proofs.«01_k».proof.Proof.Gen.ProjOIdeal.Value
public import proofs.«01_k».proof.Proof.Gen.ProjORefIdeal.Read
public import proofs.«01_k».proof.Proof.Products.Blocked

@[expose] public section

set_option maxRecDepth 16384

noncomputable section

namespace Cert.Products.ProjO

open Idealize.ShloMosaic Idealize.ShloMosaic.TcCoe Idealize.SL.Sem Cert.ProjOIdeal Cert.ProjOIdeal.Gen

variable (m : (ℓ : Loc nD τ sig) → Buf (Elt Ideal) ℓ) (c : Dev nD) (t : Fin cfg0.N)

/-- The blocks of point `t`. -/
abbrev B0 : FVec Ideal S1024x2048 .bf16 := iblk m c 0 t
abbrev B1 : FVec Ideal S2048x512 .bf16 := iblk m c 1 t
abbrev B2 : FVec Ideal S1024x512 .f32 := iblk m c 2 t

/-- The arguments, at their places. -/
def x : FVec Ideal S4096x2048 .bf16 := m ((c : Thread nD τ).loc main_arg0)
def w : FVec Ideal S2048x2048 .f32 := m ((c : Thread nD τ).loc main_arg1)
def d : FVec Ideal S4096x2048 .f32 := m ((c : Thread nD τ).loc main_arg2)

theorem written (y : S1024x512.Idx) : out0_3 (iblk m c 0 t) (iblk m c 1 t) (iblk m c 2 t) y
    = (∑ k : Fin 2048, B0 m c t (ix2 (y 0) k) * B1 m c t (ix2 k (y 1))) + Ideal.ofBits .f32 0x3FD744FD#32 * B2 m c t (ix2 (y 0) (y 1)) := by
  rw [ValueIdx.eq_ix2 y]
  frame_out
  pointwise [k0_pay1]

theorem idx0 : ∀ t : Fin grid0.N, win0_0.index t = ![t.val / 4, 0] := by decide +kernel
theorem idx1 : ∀ t : Fin grid0.N, win0_1.index t = ![0, t.val % 4] := by decide +kernel
theorem idx2 : ∀ t : Fin grid0.N, win0_2.index t = ![t.val / 4, t.val % 4] := by decide +kernel
theorem idx3 : ∀ t : Fin grid0.N, win0_3.index t = ![t.val / 4, t.val % 4] := by decide +kernel

/-- Where the block written at point `t` lies. -/
theorem placed (y : S1024x512.Idx) : ((win0_3.blk t).view.emb y 0).val = t.val / 4 * 1024 + (y 0).val
    ∧ ((win0_3.blk t).view.emb y 1).val = t.val % 4 * 512 + (y 1).val := by
  constructor
  · show win0_3.index t (0 : Fin 2) * 1024 + 1 * (y 0).val = _
    rw [idx3 t, one_mul]; rfl
  · show win0_3.index t (1 : Fin 2) * 512 + 1 * (y 1).val = _
    rw [idx3 t, one_mul]; rfl

theorem V_v0 : V m c main_v0 = w m c := by
  unfold V
  simp only [hostOps0]
  after_results
  rfl

theorem block0 (i : Fin 4096) (p : Fin 1024) (k : Fin 2048) (hi : i.val = t.val / 4 * 1024 + p) :
    B0 m c t (ix2 p k) = x m c (ix2 i k) := by
  unfold B0 iblk
  rw [show V m c (Pipeline.arrRef spec0 0) = x m c from V_main_arg0 m c]
  refine congrArg (x m c) (funext fun a => Fin.ext ?_)
  blk_simp [idx0 t]
  fin_cases a <;> simp <;> omega

theorem block1 (j : Fin 2048) (q : Fin 512) (k : Fin 2048) (hj : j.val = t.val % 4 * 512 + q) :
    B1 m c t (ix2 k q) = w m c (ix2 k j) := by
  unfold B1 iblk
  rw [show V m c (Pipeline.arrRef spec0 1) = w m c from V_v0 m c]
  refine congrArg (w m c) (funext fun a => Fin.ext ?_)
  blk_simp [idx1 t]
  fin_cases a <;> simp <;> omega

theorem block2 (i : Fin 4096) (j : Fin 2048) (p : Fin 1024) (q : Fin 512) (hi : i.val = t.val / 4 * 1024 + p)
    (hj : j.val = t.val % 4 * 512 + q) :
    B2 m c t (ix2 p q) = d m c (ix2 i j) := by
  unfold B2 iblk
  rw [show V m c (Pipeline.arrRef spec0 2) = d m c from V_main_arg2 m c]
  refine congrArg (d m c) (funext fun a => Fin.ext ?_)
  blk_simp [idx2 t]
  fin_cases a <;> simp <;> omega

/-- The reference's result, at a place. -/
theorem reference (x : FVec Ideal S4096x2048 .bf16) (w : FVec Ideal S2048x2048 .f32) (d : FVec Ideal S4096x2048 .f32) (i : S4096x2048.Idx) :
    Cert.ProjORefIdeal.Read.val_main_v4 (F := Ideal) x w d i
      = (∑ k : Fin 2048, x (ix2 (i 0) k) * w (ix2 k (i 1)))
      + Ideal.ofBits .f32 0x3FD744FD#32 * d (ix2 (i 0) (i 1)) := by
  rw [add_comm, Cert.ProjORefIdeal.Read.val_main_v4_apply, Cert.ProjORefIdeal.Read.val_main_v3_apply]
  refine congrArg₂ (· + ·) (congrArg (_ * ·) (congrArg d (ValueIdx.eq_ix2 i))) (Finset.sum_congr rfl fun k _ => ?_)
  refine congrArg₂ (fun a b => x a * w b) (funext fun a => ?_) (funext fun a => ?_) <;> fin_cases a <;> rfl

/-- The kernel's result is the reference's. -/
theorem result : (dats m 0 c).arrAt 3 cfg0.N
    = Cert.ProjORefIdeal.Read.val_main_v4 (F := Ideal) (x m c) (w m c) (d m c) := by
  refine (dats m 0 c).arrAt_eq_of_covers 3 _ (by decide +kernel) fun t hf y => ?_
  blk_simp
  rw [after0_3]
  refine (written m c t y).trans (Eq.trans (congrArg₂ (· + ·) (Finset.sum_congr rfl fun k _ => ?_)
    (congrArg (_ * ·) (block2 m c t _ _ (y 0) (y 1) (placed t y).1 (placed t y).2))) (reference _ _ _ _).symm)
  rw [block0 m c t _ (y 0) k (placed t y).1, block1 m c t _ (y 1) k (placed t y).2]

attribute [local instance] Cert.ProjOIdeal.Gen.facts Cert.ProjORefIdeal.Gen.facts

theorem frame_ri : Cert.quiescent_ProjORefIdeal := fun m ρ _ =>
  (θ_run Cert.ProjORefIdeal.defs _ _).mono
    (fun r h => ⟨fun c => (h c).2, sem_eq_zero_of_no_sems (by decide) r.2⟩)
    (Cert.ProjORefIdeal.Value.run m ρ)

theorem value : Cert.algebraic_ProjOIdeal_ProjORefIdeal := by
  intro m g m' g' _ ha
  refine ⟨fun c => Cert.ProjORefIdeal.Read.val_main_v4 (F := Ideal) (x m c) (w m c) (d m c), ?_, ?_⟩
  · exact (θ_run Cert.ProjOIdeal.defs _ _).mono (fun r h c => ⟨(h c).1.trans (result m c), (h c).2⟩)
      (Cert.ProjOIdeal.Value.run_blocks m g)
  · refine (θ_run Cert.ProjORefIdeal.defs _ _).mono (fun r h c => ?_) (Cert.ProjORefIdeal.Value.run m' g')
    obtain ⟨a0, a1, a2⟩ := ha c
    refine ⟨(h c).1.trans ?_, (h c).2⟩
    rw [Cert.ProjORefIdeal.Read.val_main_v4_eq, a0, a1, a2]
    rfl

end Cert.Products.ProjO
-- ==== Proof.Products.ProjA.lean ====
/- A branch's output through weights kept in four shards: each point of the kernel's grid writes one block of the product, whole. -/
module

public import proofs.«01_k».proof.Proof.Kit
public import proofs.«01_k».proof.Proof.Gen.ProjAIdeal.Value
public import proofs.«01_k».proof.Proof.Gen.ProjARefIdeal.Read
public import proofs.«01_k».proof.Proof.Products.Blocked

@[expose] public section

set_option maxRecDepth 16384

noncomputable section

namespace Cert.Products.ProjA

open Idealize.ShloMosaic Idealize.ShloMosaic.TcCoe Idealize.SL.Sem Cert.ProjAIdeal Cert.ProjAIdeal.Gen

variable (m : (ℓ : Loc nD τ sig) → Buf (Elt Ideal) ℓ) (c : Dev nD) (t : Fin cfg0.N)

/-- The blocks of point `t`. -/
abbrev B0 : FVec Ideal S1024x512 .f32 := iblk m c 0 t
abbrev B1 : FVec Ideal S1x512x512 .bf16 := iblk m c 1 t

/-- The arguments, at their places. -/
def x : FVec Ideal S4096x512 .f32 := m ((c : Thread nD τ).loc main_arg0)
def w : FVec Ideal S4x512x512 .f32 := m ((c : Thread nD τ).loc main_arg1)

theorem written (y : S1024x512.Idx) : out0_2 (iblk m c 0 t) (iblk m c 1 t) y
    = (∑ k : Fin 512, B0 m c t (ix2 (y 0) k) * B1 m c t (ix3 0 k (y 1))) := by
  rw [ValueIdx.eq_ix2 y]
  frame_out
  pointwise [k0_pay1]

theorem idx0 : ∀ t : Fin grid0.N, win0_0.index t = ![t.val / 4, 0] := by decide +kernel
theorem idx1 : ∀ t : Fin grid0.N, win0_1.index t = ![t.val % 4, 0, 0] := by decide +kernel
theorem idx2 : ∀ t : Fin grid0.N, win0_2.index t = ![t.val / 4, t.val % 4] := by decide +kernel

/-- Where the block written at point `t` lies. -/
theorem placed (y : S1024x512.Idx) : ((win0_2.blk t).view.emb y 0).val = t.val / 4 * 1024 + (y 0).val
    ∧ ((win0_2.blk t).view.emb y 1).val = t.val % 4 * 512 + (y 1).val := by
  constructor
  · show win0_2.index t (0 : Fin 2) * 1024 + 1 * (y 0).val = _
    rw [idx2 t, one_mul]; rfl
  · show win0_2.index t (1 : Fin 2) * 512 + 1 * (y 1).val = _
    rw [idx2 t, one_mul]; rfl

theorem V_v0 : V m c main_v0 = w m c := by
  unfold V
  simp only [hostOps0]
  after_results
  rfl

theorem block0 (i : Fin 4096) (p : Fin 1024) (k : Fin 512) (hi : i.val = t.val / 4 * 1024 + p) :
    B0 m c t (ix2 p k) = x m c (ix2 i k) := by
  unfold B0 iblk
  rw [show V m c (Pipeline.arrRef spec0 0) = x m c from V_main_arg0 m c]
  refine congrArg (x m c) (funext fun a => Fin.ext ?_)
  blk_simp [idx0 t]
  fin_cases a <;> simp <;> omega

theorem block1 (j : Fin 2048) (q : Fin 512) (k : Fin 512) (hj : j.val = t.val % 4 * 512 + q) :
    B1 m c t (ix3 0 k q) = columns (n := 4) (l := 512) (by decide) (show 2048 = 4 * 512 from rfl) (w m c) k j := by
  unfold B1 iblk columns
  rw [show V m c (Pipeline.arrRef spec0 1) = w m c from V_v0 m c]
  refine congrArg (w m c) (funext fun a => Fin.ext ?_)
  blk_simp [idx1 t]
  fin_cases a <;> simp <;> omega

/-- The reference's result, at a place. -/
theorem reference (x : FVec Ideal S4096x512 .f32) (w : FVec Ideal S4x512x512 .f32) (i : S4096x2048.Idx) :
    Cert.ProjARefIdeal.Read.val_main_v2 (F := Ideal) x w i
      = (∑ k : Fin 512, x (ix2 (i 0) k) * columns (n := 4) (l := 512) (by decide) (show 2048 = 4 * 512 from rfl) w k (i 1)) := by
  have hj : (i 1).val < 2048 := (i 1).isLt
  refine (Cert.ProjARefIdeal.Read.val_main_v2_apply x w i).trans (Finset.sum_congr rfl fun k _ => ?_)
  have hk := k.2
  rw [Cert.ProjARefIdeal.Read.val_main_v1_apply, Cert.ProjARefIdeal.Read.val_main_v0_apply]
  unfold columns
  refine congrArg₂ (fun a b => x a * w b) (funext fun a => ?_) (funext fun a => ?_) <;> fin_cases a <;> first | rfl | refine Fin.ext ?_
  · show (k.val * 2048 + (i 1).val) / 512 % 4 = (i 1).val / 512
    omega
  · show (k.val * 2048 + (i 1).val) / 2048 = k.val
    omega
  · show (k.val * 2048 + (i 1).val) % 512 = (i 1).val % 512
    omega

/-- The kernel's result is the reference's. -/
theorem result : (dats m 0 c).arrAt 2 cfg0.N
    = Cert.ProjARefIdeal.Read.val_main_v2 (F := Ideal) (x m c) (w m c) := by
  refine (dats m 0 c).arrAt_eq_of_covers 2 _ (by decide +kernel) fun t hf y => ?_
  blk_simp
  rw [after0_2]
  refine (written m c t y).trans (Eq.trans (Finset.sum_congr rfl fun k _ => ?_) (reference _ _ _).symm)
  rw [block0 m c t _ (y 0) k (placed t y).1, block1 m c t _ (y 1) k (placed t y).2]

attribute [local instance] Cert.ProjAIdeal.Gen.facts Cert.ProjARefIdeal.Gen.facts

theorem frame_ri : Cert.quiescent_ProjARefIdeal := fun m ρ _ =>
  (θ_run Cert.ProjARefIdeal.defs _ _).mono
    (fun r h => ⟨fun c => (h c).2, sem_eq_zero_of_no_sems (by decide) r.2⟩)
    (Cert.ProjARefIdeal.Value.run m ρ)

theorem value : Cert.algebraic_ProjAIdeal_ProjARefIdeal := by
  intro m g m' g' _ ha
  refine ⟨fun c => Cert.ProjARefIdeal.Read.val_main_v2 (F := Ideal) (x m c) (w m c), ?_, ?_⟩
  · exact (θ_run Cert.ProjAIdeal.defs _ _).mono (fun r h c => ⟨(h c).1.trans (result m c), (h c).2⟩)
      (Cert.ProjAIdeal.Value.run_blocks m g)
  · refine (θ_run Cert.ProjARefIdeal.defs _ _).mono (fun r h c => ?_) (Cert.ProjARefIdeal.Value.run m' g')
    obtain ⟨a0, a1⟩ := ha c
    refine ⟨(h c).1.trans ?_, (h c).2⟩
    rw [Cert.ProjARefIdeal.Read.val_main_v2_eq, a0, a1]
    rfl

end Cert.Products.ProjA
-- ==== Proof.Products.ProjB.lean ====
/- A wider branch's output through weights kept in four shards: each point of the kernel's grid writes one block of the product,
   whole. -/
module

public import proofs.«01_k».proof.Proof.Kit
public import proofs.«01_k».proof.Proof.Gen.ProjBIdeal.Value
public import proofs.«01_k».proof.Proof.Gen.ProjBRefIdeal.Read
public import proofs.«01_k».proof.Proof.Products.Blocked

@[expose] public section

set_option maxRecDepth 16384

noncomputable section

namespace Cert.Products.ProjB

open Idealize.ShloMosaic Idealize.ShloMosaic.TcCoe Idealize.SL.Sem Cert.ProjBIdeal Cert.ProjBIdeal.Gen

variable (m : (ℓ : Loc nD τ sig) → Buf (Elt Ideal) ℓ) (c : Dev nD) (t : Fin cfg0.N)

/-- The blocks of point `t`. -/
abbrev B0 : FVec Ideal S1024x768 .bf16 := iblk m c 0 t
abbrev B1 : FVec Ideal S1x768x512 .bf16 := iblk m c 1 t

/-- The arguments, at their places. -/
def x : FVec Ideal S4096x768 .bf16 := m ((c : Thread nD τ).loc main_arg0)
def w : FVec Ideal S4x768x512 .f32 := m ((c : Thread nD τ).loc main_arg1)

theorem written (y : S1024x512.Idx) : out0_2 (iblk m c 0 t) (iblk m c 1 t) y
    = (∑ k : Fin 768, B0 m c t (ix2 (y 0) k) * B1 m c t (ix3 0 k (y 1))) := by
  rw [ValueIdx.eq_ix2 y]
  frame_out
  pointwise [k0_pay1]

theorem idx0 : ∀ t : Fin grid0.N, win0_0.index t = ![t.val / 4, 0] := by decide +kernel
theorem idx1 : ∀ t : Fin grid0.N, win0_1.index t = ![t.val % 4, 0, 0] := by decide +kernel
theorem idx2 : ∀ t : Fin grid0.N, win0_2.index t = ![t.val / 4, t.val % 4] := by decide +kernel

/-- Where the block written at point `t` lies. -/
theorem placed (y : S1024x512.Idx) : ((win0_2.blk t).view.emb y 0).val = t.val / 4 * 1024 + (y 0).val
    ∧ ((win0_2.blk t).view.emb y 1).val = t.val % 4 * 512 + (y 1).val := by
  constructor
  · show win0_2.index t (0 : Fin 2) * 1024 + 1 * (y 0).val = _
    rw [idx2 t, one_mul]; rfl
  · show win0_2.index t (1 : Fin 2) * 512 + 1 * (y 1).val = _
    rw [idx2 t, one_mul]; rfl

theorem V_v0 : V m c main_v0 = w m c := by
  unfold V
  simp only [hostOps0]
  after_results
  rfl

theorem block0 (i : Fin 4096) (p : Fin 1024) (k : Fin 768) (hi : i.val = t.val / 4 * 1024 + p) :
    B0 m c t (ix2 p k) = x m c (ix2 i k) := by
  unfold B0 iblk
  rw [show V m c (Pipeline.arrRef spec0 0) = x m c from V_main_arg0 m c]
  refine congrArg (x m c) (funext fun a => Fin.ext ?_)
  blk_simp [idx0 t]
  fin_cases a <;> simp <;> omega

theorem block1 (j : Fin 2048) (q : Fin 512) (k : Fin 768) (hj : j.val = t.val % 4 * 512 + q) :
    B1 m c t (ix3 0 k q) = columns (n := 4) (l := 512) (by decide) (show 2048 = 4 * 512 from rfl) (w m c) k j := by
  unfold B1 iblk columns
  rw [show V m c (Pipeline.arrRef spec0 1) = w m c from V_v0 m c]
  refine congrArg (w m c) (funext fun a => Fin.ext ?_)
  blk_simp [idx1 t]
  fin_cases a <;> simp <;> omega

/-- The reference's result, at a place. -/
theorem reference (x : FVec Ideal S4096x768 .bf16) (w : FVec Ideal S4x768x512 .f32) (i : S4096x2048.Idx) :
    Cert.ProjBRefIdeal.Read.val_main_v3 (F := Ideal) x w i
      = (∑ k : Fin 768, x (ix2 (i 0) k) * columns (n := 4) (l := 512) (by decide) (show 2048 = 4 * 512 from rfl) w k (i 1)) := by
  have hj : (i 1).val < 2048 := (i 1).isLt
  refine (Cert.ProjBRefIdeal.Read.val_main_v3_apply x w i).trans (Finset.sum_congr rfl fun k _ => ?_)
  have hk := k.2
  rw [Cert.ProjBRefIdeal.Read.val_main_v2_apply, Cert.ProjBRefIdeal.Read.val_main_v1_apply]
  unfold columns
  refine congrArg₂ (fun a b => x a * w b) (funext fun a => ?_) (funext fun a => ?_) <;> fin_cases a <;> first | rfl | refine Fin.ext ?_
  · show (k.val * 2048 + (i 1).val) / 512 % 4 = (i 1).val / 512
    omega
  · show (k.val * 2048 + (i 1).val) / 2048 = k.val
    omega
  · show (k.val * 2048 + (i 1).val) % 512 = (i 1).val % 512
    omega

/-- The kernel's result is the reference's. -/
theorem result : (dats m 0 c).arrAt 2 cfg0.N
    = Cert.ProjBRefIdeal.Read.val_main_v3 (F := Ideal) (x m c) (w m c) := by
  refine (dats m 0 c).arrAt_eq_of_covers 2 _ (by decide +kernel) fun t hf y => ?_
  blk_simp
  rw [after0_2]
  refine (written m c t y).trans (Eq.trans (Finset.sum_congr rfl fun k _ => ?_) (reference _ _ _).symm)
  rw [block0 m c t _ (y 0) k (placed t y).1, block1 m c t _ (y 1) k (placed t y).2]

attribute [local instance] Cert.ProjBIdeal.Gen.facts Cert.ProjBRefIdeal.Gen.facts

theorem frame_ri : Cert.quiescent_ProjBRefIdeal := fun m ρ _ =>
  (θ_run Cert.ProjBRefIdeal.defs _ _).mono
    (fun r h => ⟨fun c => (h c).2, sem_eq_zero_of_no_sems (by decide) r.2⟩)
    (Cert.ProjBRefIdeal.Value.run m ρ)

theorem value : Cert.algebraic_ProjBIdeal_ProjBRefIdeal := by
  intro m g m' g' _ ha
  refine ⟨fun c => Cert.ProjBRefIdeal.Read.val_main_v3 (F := Ideal) (x m c) (w m c), ?_, ?_⟩
  · exact (θ_run Cert.ProjBIdeal.defs _ _).mono (fun r h c => ⟨(h c).1.trans (result m c), (h c).2⟩)
      (Cert.ProjBIdeal.Value.run_blocks m g)
  · refine (θ_run Cert.ProjBRefIdeal.defs _ _).mono (fun r h c => ?_) (Cert.ProjBRefIdeal.Value.run m' g')
    obtain ⟨a0, a1⟩ := ha c
    refine ⟨(h c).1.trans ?_, (h c).2⟩
    rw [Cert.ProjBRefIdeal.Read.val_main_v3_eq, a0, a1]
    rfl

end Cert.Products.ProjB
-- ==== Proof.Gates.Sigmoid.lean ====
/- The sigmoid which the gates share, as the host writes it and as the kernel does. -/
module

public import Idealize.ShloMosaic.Lib.IdealHost

@[expose] public section

noncomputable section

namespace Cert.Gates

open Idealize.ShloMosaic

/-- One over one plus the exponential of the negated argument is the logistic function. -/
theorem sigmoid (x : EReal) :
    Ideal.div (Ideal.ofBits .f32 0x3F800000#32) (Ideal.ofBits .f32 0x3F800000#32 + Ideal.exp (-x)) = Ideal.logistic x := by
  rw [Ideal.ofBits_one_f32]
  rfl

end Cert.Gates
-- ==== Proof.Gates.MergeBwd.lean ====
/- The gradients through the branches' merge: of each gate's argument and of each branch's result. -/
module

public import proofs.«01_k».proof.Proof.Kit
public import proofs.«01_k».proof.Proof.Gen.MergeBwdIdeal.Value
public import proofs.«01_k».proof.Proof.Gen.MergeBwdRefIdeal.Read
public import proofs.«01_k».proof.Proof.Gates.Sigmoid
public import proofs.«01_k».proof.Proof.Products.Blocked
public import Idealize.ShloMosaic.Lib.KernelVsHost

@[expose] public section

set_option maxRecDepth 16384

noncomputable section

namespace Cert.Gates.MergeBwd

open Idealize.ShloMosaic Idealize.ShloMosaic.TcCoe Idealize.SL.Sem Cert.MergeBwdIdeal Cert.MergeBwdIdeal.Gen Cert.Products

variable (m : (ℓ : Loc nD τ sig) → Buf (Elt Ideal) ℓ) (c : Dev nD) (t : Fin cfg0.N)

/-- The blocks of point `t`: the merge's gradient, the three gates' arguments, the three branches' results. -/
abbrev B0 : FVec Ideal S1024x256 .f32 := iblk m c 0 t
abbrev B1 : FVec Ideal S1024x256 .f32 := iblk m c 1 t
abbrev B2 : FVec Ideal S1024x256 .f32 := iblk m c 2 t
abbrev B3 : FVec Ideal S1024x256 .f32 := iblk m c 3 t
abbrev B4 : FVec Ideal S1024x256 .f32 := iblk m c 4 t
abbrev B5 : FVec Ideal S1024x256 .f32 := iblk m c 5 t
abbrev B6 : FVec Ideal S1024x256 .f32 := iblk m c 6 t

/-- The arguments, at their places. -/
def d : FVec Ideal S4096x2048 .f32 := m ((c : Thread nD τ).loc main_arg0)
def x : FVec Ideal S4096x8448 .f32 := m ((c : Thread nD τ).loc main_arg1)
def pa : FVec Ideal S4096x2048 .f32 := m ((c : Thread nD τ).loc main_arg2)
def pb : FVec Ideal S4096x2048 .f32 := m ((c : Thread nD τ).loc main_arg3)
def pc : FVec Ideal S4096x2048 .f32 := m ((c : Thread nD τ).loc main_arg4)

/-- One entry's gradient of the gate's argument, and of the branch's result. -/
def slope (d p g : EReal) : EReal := d * p * (Ideal.logistic g * (Ideal.ofBits .f32 0x3F800000#32 - Ideal.logistic g))
def pass (d g : EReal) : EReal := Ideal.logistic g * d

/-- The block a point of the grid writes, of each result. -/
theorem written (p : Fin 1024) (q : Fin 256) :
    ((dats m 0 c).after 7 t : FVec Ideal S1024x256 .bf16) (ix2 p q)
        = slope (B0 m c t (ix2 p q)) (B4 m c t (ix2 p q)) (B1 m c t (ix2 p q))
    ∧ ((dats m 0 c).after 8 t : FVec Ideal S1024x256 .bf16) (ix2 p q)
        = slope (B0 m c t (ix2 p q)) (B5 m c t (ix2 p q)) (B2 m c t (ix2 p q))
    ∧ ((dats m 0 c).after 9 t : FVec Ideal S1024x256 .bf16) (ix2 p q)
        = slope (B0 m c t (ix2 p q)) (B6 m c t (ix2 p q)) (B3 m c t (ix2 p q))
    ∧ ((dats m 0 c).after 10 t : FVec Ideal S1024x256 .bf16) (ix2 p q) = pass (B0 m c t (ix2 p q)) (B1 m c t (ix2 p q))
    ∧ ((dats m 0 c).after 11 t : FVec Ideal S1024x256 .bf16) (ix2 p q) = pass (B0 m c t (ix2 p q)) (B2 m c t (ix2 p q))
    ∧ ((dats m 0 c).after 12 t : FVec Ideal S1024x256 .bf16) (ix2 p q) = pass (B0 m c t (ix2 p q)) (B3 m c t (ix2 p q)) := by
  rw [after0_7, after0_8, after0_9, after0_10, after0_11, after0_12]
  refine ⟨?_, ?_, ?_, ?_, ?_, ?_⟩ <;>
  · frame_out
    pointwise [k0_pay1, k0_pay2, k0_pay3, k0_pay4, k0_pay5, k0_pay6, k0_pay7, k0_pay8, k0_pay9, k0_pay10, k0_pay11, k0_pay12,
      k0_pay13, k0_pay14, slope, pass]

theorem idx0 : ∀ t : Fin grid0.N, win0_0.index t = ![t.val % 4, t.val / 4] := by decide +kernel
theorem idx1 : ∀ t : Fin grid0.N, win0_1.index t = ![t.val % 4, t.val / 4 + 9] := by decide +kernel
theorem idx2 : ∀ t : Fin grid0.N, win0_2.index t = ![t.val % 4, t.val / 4 + 17] := by decide +kernel
theorem idx3 : ∀ t : Fin grid0.N, win0_3.index t = ![t.val % 4, t.val / 4 + 25] := by decide +kernel
theorem idx4 : ∀ t : Fin grid0.N, win0_4.index t = ![t.val % 4, t.val / 4] := by decide +kernel
theorem idx5 : ∀ t : Fin grid0.N, win0_5.index t = ![t.val % 4, t.val / 4] := by decide +kernel
theorem idx6 : ∀ t : Fin grid0.N, win0_6.index t = ![t.val % 4, t.val / 4] := by decide +kernel
theorem idx7 : ∀ t : Fin grid0.N, win0_7.index t = ![t.val % 4, t.val / 4] := by decide +kernel
theorem idx8 : ∀ t : Fin grid0.N, win0_8.index t = ![t.val % 4, t.val / 4] := by decide +kernel
theorem idx9 : ∀ t : Fin grid0.N, win0_9.index t = ![t.val % 4, t.val / 4] := by decide +kernel
theorem idx10 : ∀ t : Fin grid0.N, win0_10.index t = ![t.val % 4, t.val / 4] := by decide +kernel
theorem idx11 : ∀ t : Fin grid0.N, win0_11.index t = ![t.val % 4, t.val / 4] := by decide +kernel
theorem idx12 : ∀ t : Fin grid0.N, win0_12.index t = ![t.val % 4, t.val / 4] := by decide +kernel

/-- The row and the column which an entry of point `t`'s blocks is of. -/
def row (p : Fin 1024) : Fin 4096 := ⟨t.val % 4 * 1024 + p.val, by omega⟩
def col (q : Fin 256) : Fin 2048 := ⟨t.val / 4 * 256 + q.val, by
  have hN : t.val < 32 := lt_of_lt_of_eq t.isLt N_0
  omega⟩

/-- Where gate `k`'s column lies among the columns of the layer's other projections. -/
def gateCol (k : Fin 3) (j : Fin 2048) : Fin 8448 := ⟨j.val + (2304 + 2048 * k.val), by omega⟩

theorem block0 (p : Fin 1024) (q : Fin 256) : B0 m c t (ix2 p q) = d m c (ix2 (row t p) (col t q)) := by
  unfold B0 iblk
  rw [show V m c (Pipeline.arrRef spec0 0) = d m c from V_main_arg0 m c]
  refine congrArg (d m c) (funext fun a => Fin.ext ?_)
  blk_simp [idx0 t]
  fin_cases a <;> simp [row, col]
theorem block4 (p : Fin 1024) (q : Fin 256) : B4 m c t (ix2 p q) = pa m c (ix2 (row t p) (col t q)) := by
  unfold B4 iblk
  rw [show V m c (Pipeline.arrRef spec0 4) = pa m c from V_main_arg2 m c]
  refine congrArg (pa m c) (funext fun a => Fin.ext ?_)
  blk_simp [idx4 t]
  fin_cases a <;> simp [row, col]
theorem block5 (p : Fin 1024) (q : Fin 256) : B5 m c t (ix2 p q) = pb m c (ix2 (row t p) (col t q)) := by
  unfold B5 iblk
  rw [show V m c (Pipeline.arrRef spec0 5) = pb m c from V_main_arg3 m c]
  refine congrArg (pb m c) (funext fun a => Fin.ext ?_)
  blk_simp [idx5 t]
  fin_cases a <;> simp [row, col]
theorem block6 (p : Fin 1024) (q : Fin 256) : B6 m c t (ix2 p q) = pc m c (ix2 (row t p) (col t q)) := by
  unfold B6 iblk
  rw [show V m c (Pipeline.arrRef spec0 6) = pc m c from V_main_arg4 m c]
  refine congrArg (pc m c) (funext fun a => Fin.ext ?_)
  blk_simp [idx6 t]
  fin_cases a <;> simp [row, col]
theorem block1 (p : Fin 1024) (q : Fin 256) : B1 m c t (ix2 p q) = x m c (ix2 (row t p) (gateCol 0 (col t q))) := by
  unfold B1 iblk
  rw [show V m c (Pipeline.arrRef spec0 1) = x m c from V_main_arg1 m c]
  refine congrArg (x m c) (funext fun a => Fin.ext ?_)
  blk_simp [idx1 t]
  fin_cases a <;> simp [row, col, gateCol] <;> omega
theorem block2 (p : Fin 1024) (q : Fin 256) : B2 m c t (ix2 p q) = x m c (ix2 (row t p) (gateCol 1 (col t q))) := by
  unfold B2 iblk
  rw [show V m c (Pipeline.arrRef spec0 2) = x m c from V_main_arg1 m c]
  refine congrArg (x m c) (funext fun a => Fin.ext ?_)
  blk_simp [idx2 t]
  fin_cases a <;> simp [row, col, gateCol] <;> omega
theorem block3 (p : Fin 1024) (q : Fin 256) : B3 m c t (ix2 p q) = x m c (ix2 (row t p) (gateCol 2 (col t q))) := by
  unfold B3 iblk
  rw [show V m c (Pipeline.arrRef spec0 3) = x m c from V_main_arg1 m c]
  refine congrArg (x m c) (funext fun a => Fin.ext ?_)
  blk_simp [idx3 t]
  fin_cases a <;> simp [row, col, gateCol] <;> omega

/-- Where the entries written at point `t` lie. -/
theorem placed (p : Fin 1024) (q : Fin 256) : (win0_7.blk t).view.emb (ix2 p q) = ix2 (row t p) (col t q)
    ∧ (win0_8.blk t).view.emb (ix2 p q) = ix2 (row t p) (col t q)
    ∧ (win0_9.blk t).view.emb (ix2 p q) = ix2 (row t p) (col t q)
    ∧ (win0_10.blk t).view.emb (ix2 p q) = ix2 (row t p) (col t q)
    ∧ (win0_11.blk t).view.emb (ix2 p q) = ix2 (row t p) (col t q)
    ∧ (win0_12.blk t).view.emb (ix2 p q) = ix2 (row t p) (col t q) := by
  refine ⟨?_, ?_, ?_, ?_, ?_, ?_⟩ <;>
  · funext a
    apply Fin.ext
    blk_simp [idx7 t, idx8 t, idx9 t, idx10 t, idx11 t, idx12 t]
    fin_cases a <;> simp [row, col]

/-! The reference, at a place. -/

open Cert.MergeBwdRefIdeal.Read

section
variable (d : FVec Ideal S4096x2048 .f32) (x : FVec Ideal S4096x8448 .f32) (pa pb pc : FVec Ideal S4096x2048 .f32)
variable (k : Fin 3) (i : Fin 4096) (j : Fin 2048)

theorem gate : val_main_v7 (F := Ideal) x (ix3 i k j) = Ideal.logistic (x (ix2 i (gateCol k j))) := by
  rw [val_main_v7_apply, val_main_v6_apply, val_main_v5_apply, val_main_v4_apply]
  refine (sigmoid _).trans (congrArg Ideal.logistic ?_)
  rw [val_main_v1_apply, val_main_v0_apply]
  refine congrArg x (funext fun a => Fin.ext ?_)
  fin_cases a
  · show ((i.val * 3 + k.val) * 2048 + j.val) / 6144 = i.val
    omega
  · show 2304 + ((i.val * 3 + k.val) * 2048 + j.val) % 6144 = j.val + (2304 + 2048 * k.val)
    omega

theorem gates : val_main_v12 (F := Ideal) x (ix2 i j) = Ideal.logistic (x (ix2 i (gateCol 0 j)))
    ∧ val_main_v15 (F := Ideal) x (ix2 i j) = Ideal.logistic (x (ix2 i (gateCol 1 j)))
    ∧ val_main_v19 (F := Ideal) x (ix2 i j) = Ideal.logistic (x (ix2 i (gateCol 2 j))) := by
  rw [val_main_v12_apply, val_main_v11_apply, val_main_v15_apply, val_main_v14_apply, val_main_v19_apply, val_main_v18_apply,
    ← gate, ← gate, ← gate]
  have e0 : (i.val * 2048 + j.val) / 2048 = i.val := by omega
  have e1 : (i.val * 2048 + j.val) % 2048 = j.val := by omega
  refine ⟨?_, ?_, ?_⟩ <;>
  · refine congrArg (val_main_v7 (F := Ideal) x) (funext fun a => Fin.ext ?_)
    fin_cases a
    · exact e0
    · rfl
    · exact e1

theorem merged : val_main_v22 (F := Ideal) d (ix2 i j) = d (ix2 i j) ∧ val_main_v23 (F := Ideal) d (ix2 i j) = d (ix2 i j) := by
  rw [val_main_v22_apply, val_main_v23_apply]
  have e0 : (i.val * 2048 + j.val) / 2048 = i.val := by omega
  have e1 : (i.val * 2048 + j.val) % 2048 = j.val := by omega
  refine ⟨?_, ?_⟩ <;>
  · refine congrArg d (funext fun a => Fin.ext ?_)
    fin_cases a
    · exact e0
    · exact e1

/-- A matrix set as slice `l` of three, the others zero. -/
theorem slice (l h : ℕ) (u : FVec Ideal Cert.MergeBwdRefIdeal.S4096x1x2048 .f32) (z : FVec Ideal Cert.MergeBwdRefIdeal.S_ .f32)
    (hz : ∀ y, z y = 0) (hp : Cert.MergeBwdRefIdeal.S4096x1x2048.Pads ![0, l, 0] ![0, h, 0] ![0, 0, 0] Cert.MergeBwdRefIdeal.S4096x3x2048)
    (hu : 0 < Cert.MergeBwdRefIdeal.S_.numel) :
    pad Cert.MergeBwdRefIdeal.S4096x3x2048 ![0, l, 0] ![0, h, 0] ![0, 0, 0] u z hp hu (ix3 i k j)
      = if k.val = l then u (ix3 i 0 j) else 0 := by
  split
  · refine pad_apply_of_inside _ _ _ u z hp hu _ _ fun a => ?_
    fin_cases a
    · show i.val = 0 + i.val * (0 + 1); omega
    · show k.val = l + 0 * (0 + 1); omega
    · show j.val = 0 + j.val * (0 + 1); omega
  · refine (pad_apply_of_not_inside _ _ _ u z hp hu _ 1 ?_).trans (hz _)
    show ¬ (l ≤ k.val ∧ (k.val - l) % (0 + 1) = 0 ∧ (k.val - l) / (0 + 1) < 1)
    omega

/-- The gradient of the three gates, joined: gate `k`'s is the merge's gradient times branch `k`. -/
theorem joined : val_main_v37 (F := Ideal) d pa pb pc (ix3 i k j) = d (ix2 i j) * (![pa, pb, pc] k) (ix2 i j) := by
  rw [val_main_v37_apply, val_main_v32_apply]
  unfold val_main_v27 val_main_v31 val_main_v36
  rw [slice k i j 2 0 _ (val_main_cst_2 (F := Ideal)) (fun _ => Ideal.ofBits_zero_f32), slice k i j 1 1 _ (val_main_cst_3 (F := Ideal)) (fun _ => Ideal.ofBits_zero_f32),
    slice k i j 0 2 _ (val_main_cst_4 (F := Ideal)) (fun _ => Ideal.ofBits_zero_f32), val_main_v26_apply, val_main_v25_apply, val_main_v30_apply,
    val_main_v29_apply, val_main_v35_apply, val_main_v34_apply]
  have e : ∀ f : FVec Ideal S4096x2048 .f32, ∀ y : S4096x2048.Idx, y = ix2 i j → f y = f (ix2 i j) := fun f y h => by rw [h]
  have h : ∀ y : S4096x2048.Idx, y 0 = i → y 1 = j → y = ix2 i j := fun y h0 h1 => by
    subst h0 h1
    exact ValueIdx.eq_ix2 y
  rw [e pc _ (h _ rfl rfl), e pb _ (h _ rfl rfl), e pa _ (h _ rfl rfl), e (val_main_v23 (F := Ideal) d) _ (h _ rfl rfl),
    e (val_main_v22 (F := Ideal) d) _ (h _ rfl rfl), (merged d i j).1, (merged d i j).2]
  fin_cases k
  · exact (congrArg (· + _) (add_zero (0 : EReal))).trans (zero_add _)
  · exact (congrArg (· + (0 : EReal)) (zero_add _)).trans (add_zero _)
  · exact (add_zero _).trans (add_zero _)

theorem reference_slope (y : Cert.MergeBwdRefIdeal.S4096x6144.Idx) (h0 : (y 0).val = i.val) (h1 : (y 1).val = 2048 * k.val + j.val) :
    val_main_v39 (F := Ideal) d x pa pb pc y = slope (d (ix2 i j)) ((![pa, pb, pc] k) (ix2 i j)) (x (ix2 i (gateCol k j))) := by
  rw [val_main_v39_apply]
  have e : idx_main_v39 y = ix3 i k j := by
    funext a
    apply Fin.ext
    fin_cases a
    · show ((y 0).val * 6144 + (y 1).val) / 6144 = i.val
      omega
    · show ((y 0).val * 6144 + (y 1).val) / 2048 % 3 = k.val
      omega
    · show ((y 0).val * 6144 + (y 1).val) % 2048 = j.val
      omega
  rw [e, val_main_v38_apply, joined, val_main_v10_apply, val_main_v9_apply, val_main_v8_apply, gate]
  rfl

/-- The reference's results. -/
theorem reference :
    val_main_v43 (F := Ideal) d x pa pb pc (ix2 i j) = slope (d (ix2 i j)) (pa (ix2 i j)) (x (ix2 i (gateCol 0 j)))
    ∧ val_main_v44 (F := Ideal) d x pa pb pc (ix2 i j) = slope (d (ix2 i j)) (pb (ix2 i j)) (x (ix2 i (gateCol 1 j)))
    ∧ val_main_v45 (F := Ideal) d x pa pb pc (ix2 i j) = slope (d (ix2 i j)) (pc (ix2 i j)) (x (ix2 i (gateCol 2 j)))
    ∧ val_main_v46 (F := Ideal) d x (ix2 i j) = pass (d (ix2 i j)) (x (ix2 i (gateCol 0 j)))
    ∧ val_main_v47 (F := Ideal) d x (ix2 i j) = pass (d (ix2 i j)) (x (ix2 i (gateCol 1 j)))
    ∧ val_main_v48 (F := Ideal) d x (ix2 i j) = pass (d (ix2 i j)) (x (ix2 i (gateCol 2 j))) := by
  obtain ⟨g0, g1, g2⟩ := gates x i j
  obtain ⟨m0, m1⟩ := merged d i j
  refine ⟨?_, ?_, ?_, ?_, ?_, ?_⟩
  · rw [val_main_v43_apply, val_main_v40_apply]
    exact reference_slope d x pa pb pc 0 i j _ rfl (Nat.zero_add _).symm
  · rw [val_main_v44_apply, val_main_v41_apply]
    exact reference_slope d x pa pb pc 1 i j _ rfl rfl
  · rw [val_main_v45_apply, val_main_v42_apply]
    exact reference_slope d x pa pb pc 2 i j _ rfl rfl
  · rw [val_main_v46_apply, val_main_v33_apply, g0, m0]
    rfl
  · rw [val_main_v47_apply, val_main_v28_apply, g1, m0]
    rfl
  · rw [val_main_v48_apply, val_main_v24_apply, g2, m1]
    rfl

end

/-! The kernel's results are the reference's. -/

/-- An array whose blocks are what the points write, each entry the function's at its place, is the function. -/
theorem result :
    (dats m 0 c).arrAt 7 cfg0.N = val_main_v43 (F := Ideal) (d m c) (x m c) (pa m c) (pb m c) (pc m c)
    ∧ (dats m 0 c).arrAt 8 cfg0.N = val_main_v44 (F := Ideal) (d m c) (x m c) (pa m c) (pb m c) (pc m c)
    ∧ (dats m 0 c).arrAt 9 cfg0.N = val_main_v45 (F := Ideal) (d m c) (x m c) (pa m c) (pb m c) (pc m c)
    ∧ (dats m 0 c).arrAt 10 cfg0.N = val_main_v46 (F := Ideal) (d m c) (x m c)
    ∧ (dats m 0 c).arrAt 11 cfg0.N = val_main_v47 (F := Ideal) (d m c) (x m c)
    ∧ (dats m 0 c).arrAt 12 cfg0.N = val_main_v48 (F := Ideal) (d m c) (x m c) := by
  have w := written m c
  have r := fun t p q => reference (d m c) (x m c) (pa m c) (pb m c) (pc m c) (row t p) (col t q)
  simp only [block0, block1, block2, block3, block4, block5, block6] at w
  refine ⟨?_, ?_, ?_, ?_, ?_, ?_⟩
  · refine (dats m 0 c).arrAt_eq_of_covers 7 _ (by decide +kernel) fun t hf y => ?_
    obtain ⟨p, q, rfl⟩ : ∃ (p : Fin 1024) (q : Fin 256), y = ix2 p q := ⟨y 0, y 1, ValueIdx.eq_ix2 y⟩
    exact (w t p q).1.trans ((r t p q).1.symm.trans (congrArg _ (placed t p q).1.symm))
  · refine (dats m 0 c).arrAt_eq_of_covers 8 _ (by decide +kernel) fun t hf y => ?_
    obtain ⟨p, q, rfl⟩ : ∃ (p : Fin 1024) (q : Fin 256), y = ix2 p q := ⟨y 0, y 1, ValueIdx.eq_ix2 y⟩
    exact (w t p q).2.1.trans ((r t p q).2.1.symm.trans (congrArg _ (placed t p q).2.1.symm))
  · refine (dats m 0 c).arrAt_eq_of_covers 9 _ (by decide +kernel) fun t hf y => ?_
    obtain ⟨p, q, rfl⟩ : ∃ (p : Fin 1024) (q : Fin 256), y = ix2 p q := ⟨y 0, y 1, ValueIdx.eq_ix2 y⟩
    exact (w t p q).2.2.1.trans ((r t p q).2.2.1.symm.trans (congrArg _ (placed t p q).2.2.1.symm))
  · refine (dats m 0 c).arrAt_eq_of_covers 10 _ (by decide +kernel) fun t hf y => ?_
    obtain ⟨p, q, rfl⟩ : ∃ (p : Fin 1024) (q : Fin 256), y = ix2 p q := ⟨y 0, y 1, ValueIdx.eq_ix2 y⟩
    exact (w t p q).2.2.2.1.trans ((r t p q).2.2.2.1.symm.trans (congrArg _ (placed t p q).2.2.2.1.symm))
  · refine (dats m 0 c).arrAt_eq_of_covers 11 _ (by decide +kernel) fun t hf y => ?_
    obtain ⟨p, q, rfl⟩ : ∃ (p : Fin 1024) (q : Fin 256), y = ix2 p q := ⟨y 0, y 1, ValueIdx.eq_ix2 y⟩
    exact (w t p q).2.2.2.2.1.trans ((r t p q).2.2.2.2.1.symm.trans (congrArg _ (placed t p q).2.2.2.2.1.symm))
  · refine (dats m 0 c).arrAt_eq_of_covers 12 _ (by decide +kernel) fun t hf y => ?_
    obtain ⟨p, q, rfl⟩ : ∃ (p : Fin 1024) (q : Fin 256), y = ix2 p q := ⟨y 0, y 1, ValueIdx.eq_ix2 y⟩
    exact (w t p q).2.2.2.2.2.trans ((r t p q).2.2.2.2.2.symm.trans (congrArg _ (placed t p q).2.2.2.2.2.symm))

attribute [local instance] Cert.MergeBwdIdeal.Gen.facts Cert.MergeBwdRefIdeal.Gen.facts

theorem frame_ri : Cert.quiescent_MergeBwdRefIdeal := fun m ρ _ =>
  (θ_run Cert.MergeBwdRefIdeal.defs _ _).mono
    (fun r h => ⟨fun c => (h c).2.2.2.2.2.2, sem_eq_zero_of_no_sems (by decide) r.2⟩)
    (Cert.MergeBwdRefIdeal.Value.run m ρ)

theorem value : Cert.algebraic_MergeBwdIdeal_MergeBwdRefIdeal := by
  intro m g m' g' _ ha
  refine ⟨fun c => val_main_v43 (F := Ideal) (d m c) (x m c) (pa m c) (pb m c) (pc m c),
    fun c => val_main_v44 (F := Ideal) (d m c) (x m c) (pa m c) (pb m c) (pc m c),
    fun c => val_main_v45 (F := Ideal) (d m c) (x m c) (pa m c) (pb m c) (pc m c),
    fun c => val_main_v46 (F := Ideal) (d m c) (x m c),
    fun c => val_main_v47 (F := Ideal) (d m c) (x m c),
    fun c => val_main_v48 (F := Ideal) (d m c) (x m c), ?_, ?_⟩
  · refine (θ_run Cert.MergeBwdIdeal.defs _ _).mono (fun r h c => ?_) (Cert.MergeBwdIdeal.Value.run_blocks m g)
    have w := result m c
    exact ⟨(h c).1.trans w.1, (h c).2.1.trans w.2.1, (h c).2.2.1.trans w.2.2.1, (h c).2.2.2.1.trans w.2.2.2.1, (h c).2.2.2.2.1.trans w.2.2.2.2.1, (h c).2.2.2.2.2.1.trans w.2.2.2.2.2,
      (h c).2.2.2.2.2.2⟩
  · refine (θ_run Cert.MergeBwdRefIdeal.defs _ _).mono (fun r h c => ?_) (Cert.MergeBwdRefIdeal.Value.run m' g')
    obtain ⟨a0, a1, a2, a3, a4⟩ := ha c
    refine ⟨(h c).1.trans ?_, (h c).2.1.trans ?_, (h c).2.2.1.trans ?_, (h c).2.2.2.1.trans ?_, (h c).2.2.2.2.1.trans ?_, (h c).2.2.2.2.2.1.trans ?_,
      (h c).2.2.2.2.2.2⟩
    · rw [val_main_v43_eq, a0, a1, a2, a3, a4]
      rfl
    · rw [val_main_v44_eq, a0, a1, a2, a3, a4]
      rfl
    · rw [val_main_v45_eq, a0, a1, a2, a3, a4]
      rfl
    · rw [val_main_v46_eq, a0, a1]
      rfl
    · rw [val_main_v47_eq, a0, a1]
      rfl
    · rw [val_main_v48_eq, a0, a1]
      rfl

end Cert.Gates.MergeBwd
-- ==== Proof.Gates.SwigluBwd.lean ====
/- The gradients through the feed-forward layer's gate, of its two halves. -/
module

public import proofs.«01_k».proof.Proof.Kit
public import proofs.«01_k».proof.Proof.Gen.SwigluBwdIdeal.Value
public import proofs.«01_k».proof.Proof.Gen.SwigluBwdRefIdeal.Read
public import proofs.«01_k».proof.Proof.Gates.Sigmoid

@[expose] public section

set_option maxRecDepth 16384

noncomputable section

namespace Cert.Gates.SwigluBwd

open Idealize.ShloMosaic Idealize.ShloMosaic.TcCoe Idealize.SL.Sem

open Cert.SwigluBwdRefIdeal Cert.SwigluBwdRefIdeal.Read

theorem gate (x : FVec Ideal S4096x11264 .f32) (i : S4096x5632.Idx) :
    val_main_v2_2 (F := Ideal) x i = Ideal.logistic (val_main_v0 (F := Ideal) x i) := by
  rw [val_main_v2_2_apply, val_main_call0_v4_apply, val_main_call0_v3_apply, val_main_call0_v2_apply]
  exact sigmoid _

theorem slope (x : FVec Ideal S4096x11264 .f32) (i : S4096x5632.Idx) : val_main_v2_1 (F := Ideal) x i
    = Ideal.logistic (val_main_v0 (F := Ideal) x i)
      * (Ideal.ofBits .f32 0x3F800000#32 - Ideal.logistic (val_main_v0 (F := Ideal) x i)) := by
  rw [val_main_v2_1_apply, val_main_call0_v7_apply, gate, val_main_call0_v6_apply]
  rfl

/-- The first half of the joined gradient is the gate's, the second the other half's. -/
theorem left (d : FVec Ideal S4096x5632 .bf16) (x : FVec Ideal S4096x11264 .f32) (i : S4096x5632.Idx) :
    val_main_v10 (F := Ideal) d x i = val_main_v7 (F := Ideal) d x i := by
  rw [val_main_v10_apply, val_main_v9_apply]
  exact concatenate_pair_apply_left 1 (val_main_v7 (F := Ideal) d x) (val_main_v5 (F := Ideal) d x)
    Gen.concatenates_S4096x5632_S4096x5632_S4096x11264_d1 (idx_main_v10 i) rfl i
    fun b => by fin_cases b <;> rfl

theorem right (d : FVec Ideal S4096x5632 .bf16) (x : FVec Ideal S4096x11264 .f32) (i : S4096x5632.Idx) :
    val_main_v11 (F := Ideal) d x i = val_main_v5 (F := Ideal) d x i := by
  rw [val_main_v11_apply, val_main_v9_apply]
  refine concatenate_pair_apply_right 1 (val_main_v7 (F := Ideal) d x) (val_main_v5 (F := Ideal) d x)
    Gen.concatenates_S4096x5632_S4096x5632_S4096x11264_d1 (idx_main_v11 i) rfl rfl i
    (fun b hb => ?_) (Nat.add_comm _ _)
  fin_cases b
  · rfl
  · exact absurd rfl hb

theorem place0 (i : S4096x5632.Idx) : Cert.SwigluBwdIdeal.Value.inIdx3_1 i = idx_main_v0 i := by
  funext a; fin_cases a <;> rfl
theorem place1 (i : S4096x5632.Idx) : Cert.SwigluBwdIdeal.Value.inIdx3_2 i = idx_main_v1 i := by
  funext a
  fin_cases a
  · rfl
  · exact Fin.ext (Nat.add_comm _ _)

/-- The kernel's gradient of the gate's half is the reference's. -/
theorem same_gate (d : FVec Ideal S4096x5632 .bf16) (x : FVec Ideal S4096x11264 .f32) :
    Cert.SwigluBwdIdeal.Value.G3 (F := Ideal) d x x = val_main_v10 (F := Ideal) d x := by
  funext i
  rw [left, val_main_v7_apply, val_main_call1_v1_apply, val_main_call1_v2_apply, val_main_call1_v0_apply, gate, slope,
    val_main_v6_apply, val_main_v0_apply, val_main_v1_apply, ← place0, ← place1]
  rfl

/-- The kernel's gradient of the other half is the reference's. -/
theorem same_up (d : FVec Ideal S4096x5632 .bf16) (x : FVec Ideal S4096x11264 .f32) :
    Cert.SwigluBwdIdeal.Value.G4 (F := Ideal) d x = val_main_v11 (F := Ideal) d x := by
  funext i
  rw [right, val_main_v5_apply, val_main_v2_0_apply, gate, val_main_v0_apply, ← place0]
  rfl

attribute [local instance] Cert.SwigluBwdIdeal.Gen.facts Cert.SwigluBwdRefIdeal.Gen.facts

theorem frame_ri : Cert.quiescent_SwigluBwdRefIdeal := fun m ρ _ =>
  (θ_run Cert.SwigluBwdRefIdeal.defs _ _).mono
    (fun r h => ⟨fun c => (h c).2.2, sem_eq_zero_of_no_sems (by decide) r.2⟩)
    (Cert.SwigluBwdRefIdeal.Value.run m ρ)

theorem value : Cert.algebraic_SwigluBwdIdeal_SwigluBwdRefIdeal := by
  intro m g m' g' _ ha
  refine ⟨fun c => Cert.SwigluBwdIdeal.Value.G3 (F := Ideal) (m (c.tc.loc Cert.SwigluBwdIdeal.main_arg0))
      (m (c.tc.loc Cert.SwigluBwdIdeal.main_arg1)) (m (c.tc.loc Cert.SwigluBwdIdeal.main_arg1)),
    fun c => Cert.SwigluBwdIdeal.Value.G4 (F := Ideal) (m (c.tc.loc Cert.SwigluBwdIdeal.main_arg0))
      (m (c.tc.loc Cert.SwigluBwdIdeal.main_arg1)), Cert.SwigluBwdIdeal.Value.run m g, ?_⟩
  refine (θ_run Cert.SwigluBwdRefIdeal.defs _ _).mono (fun r h c => ?_) (Cert.SwigluBwdRefIdeal.Value.run m' g')
  obtain ⟨a0, a1⟩ := ha c
  refine ⟨(h c).1.trans ?_, (h c).2.1.trans ?_, (h c).2.2⟩
  · rw [val_main_v10_eq, a0, a1]
    exact (same_gate _ _).symm
  · rw [val_main_v11_eq, a0, a1]
    exact (same_up _ _).symm

end Cert.Gates.SwigluBwd
-- ==== Proof.Gates.GluBwd.lean ====
/- The gradients through the state-space layer's own gate: of the scan's result, of the gate's argument, and of the gate's bias,
   summed over sixteen blocks of tokens. -/
module

public import proofs.«01_k».proof.Proof.Kit
public import proofs.«01_k».proof.Proof.Gen.GluBwdIdeal.Value
public import proofs.«01_k».proof.Proof.Gen.GluBwdRefIdeal.Read
public import proofs.«01_k».proof.Proof.Gates.Sigmoid
public import proofs.«01_k».proof.Proof.Products.Blocked

@[expose] public section

set_option maxRecDepth 16384

noncomputable section

namespace Cert.Gates.GluBwd

open Idealize.ShloMosaic Idealize.ShloMosaic.TcCoe Idealize.SL.Sem Cert.GluBwdIdeal Cert.GluBwdIdeal.Gen Cert.Products

variable (m : (ℓ : Loc nD τ sig) → Buf (Elt Ideal) ℓ) (c : Dev nD) (t : Fin cfg0.N)

/-- The blocks of point `t`: the gradient arriving, the scan's result, the gate's argument. -/
abbrev B0 : FVec Ideal S256x768 .f32 := iblk m c 0 t
abbrev B1 : FVec Ideal S256x768 .f32 := iblk m c 1 t
abbrev B2 : FVec Ideal S256x768 .f32 := iblk m c 2 t

/-- The arguments, at their places. -/
def d : FVec Ideal S4096x768 .f32 := m ((c : Thread nD τ).loc main_arg0)
def y : FVec Ideal S4096x768 .f32 := m ((c : Thread nD τ).loc main_arg1)
def a : FVec Ideal S4096x768 .f32 := m ((c : Thread nD τ).loc main_arg2)

/-- One entry's gradient of the gate's argument. -/
def slope (d y a : EReal) : EReal :=
  y * d * (Ideal.logistic a * (Ideal.ofBits .f32 0x3F800000#32 - Ideal.logistic a))

theorem first_or_not : t.val % 16 = 0 ∧ ¬ 1 ≤ t.val ∨ ¬ t.val % 16 = 0 ∧ 1 ≤ t.val := by
  have hN : t.val < 16 := lt_of_lt_of_eq t.isLt N_0
  omega

theorem written_scan (p : Fin 256) (q : Fin 768) : (outsAt0 m c t.val t.isLt).1 (ix2 p q)
    = B0 m c t (ix2 p q) * Ideal.logistic (B2 m c t (ix2 p q)) := by
  rcases first_or_not t with h | h
  · rw [outsAt0_A m c t h.1 h.2]
    frame_out
    pointwise [k0_pay2, k0_pay1]
  · rw [outsAt0_B m c t h.1 h.2]
    frame_out
    pointwise [k0_pay2, k0_pay1]

theorem written_argument (p : Fin 256) (q : Fin 768) : (outsAt0 m c t.val t.isLt).2.1 (ix2 p q)
    = slope (B0 m c t (ix2 p q)) (B1 m c t (ix2 p q)) (B2 m c t (ix2 p q)) := by
  rcases first_or_not t with h | h
  · rw [outsAt0_A m c t h.1 h.2]
    frame_out
    pointwise [k0_pay5, k0_pay3, k0_pay1, slope]
  · rw [outsAt0_B m c t h.1 h.2]
    frame_out
    pointwise [k0_pay5, k0_pay3, k0_pay1, slope]

theorem first (h : t.val % 16 = 0) (q : Fin 768) : (outsAt0 m c t.val t.isLt).2.2 (ix2 0 q)
    = ∑ p : Fin 256, slope (B0 m c t (ix2 p q)) (B1 m c t (ix2 p q)) (B2 m c t (ix2 p q)) := by
  have hN : t.val < 16 := lt_of_lt_of_eq t.isLt N_0
  rw [outsAt0_A m c t h (by omega)]
  frame_out
  pointwise [k0_pay4, k0_pay3, k0_pay1, slope]

theorem next (h : ¬ t.val % 16 = 0) (q : Fin 768) : (outsAt0 m c t.val t.isLt).2.2 (ix2 0 q)
    = (outsAt0 m c (t.val - 1) (lt_of_le_of_lt (Nat.sub_le _ _) t.isLt)).2.2 (ix2 0 q)
      + ∑ p : Fin 256, slope (B0 m c t (ix2 p q)) (B1 m c t (ix2 p q)) (B2 m c t (ix2 p q)) := by
  rw [outsAt0_B m c t h (by omega)]
  frame_out
  pointwise [k0_pay6, k0_pay4, k0_pay3, k0_pay1, slope]

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel
theorem last5 : ∀ t : Fin grid0.N, (cfg0.win 5).flush t = true → t.val = 15 := by decide +kernel

/-- The token which row `p` of point `t`'s blocks is of. -/
def row (p : Fin 256) : Fin 4096 := place (n := 16) (l := 256) rfl (turn (by decide) t) p

theorem row_val (p : Fin 256) : (row t p).val = t.val * 256 + p.val := by
  have hN : t.val < 16 := lt_of_lt_of_eq t.isLt N_0
  simp [row, place, turn]
  omega

theorem block0 (p : Fin 256) (q : Fin 768) : B0 m c t (ix2 p q) = d m c (ix2 (row t p) q) := by
  unfold B0 iblk
  rw [show V m c (Pipeline.arrRef spec0 0) = d m c from V_main_arg0 m c]
  refine congrArg (d m c) (funext fun a => Fin.ext ?_)
  blk_simp [idx0 t]
  fin_cases a <;> simp [row_val]

theorem block1 (p : Fin 256) (q : Fin 768) : B1 m c t (ix2 p q) = y m c (ix2 (row t p) q) := by
  unfold B1 iblk
  rw [show V m c (Pipeline.arrRef spec0 1) = y m c from V_main_arg1 m c]
  refine congrArg (y m c) (funext fun a => Fin.ext ?_)
  blk_simp [idx1 t]
  fin_cases a <;> simp [row_val]

theorem block2 (p : Fin 256) (q : Fin 768) : B2 m c t (ix2 p q) = a m c (ix2 (row t p) q) := by
  unfold B2 iblk
  rw [show V m c (Pipeline.arrRef spec0 2) = a m c from V_main_arg2 m c]
  refine congrArg (a m c) (funext fun a => Fin.ext ?_)
  blk_simp [idx2 t]
  fin_cases a <;> simp [row_val]

/-- Where row `p` of the blocks written at point `t` lies. -/
theorem placed3 (p : Fin 256) (q : Fin 768) : (win0_3.blk t).view.emb (ix2 p q) = ix2 (row t p) q := by
  funext a
  apply Fin.ext
  fin_cases a
  · show win0_3.index t (0 : Fin 2) * 256 + 1 * p.val = (row t p).val
    rw [idx3 t, row_val, one_mul]; rfl
  · show win0_3.index t (1 : Fin 2) * 768 + 1 * q.val = q.val
    rw [idx3 t, one_mul]; exact (congrArg (· + q.val) (Nat.zero_mul 768)).trans (Nat.zero_add _)

theorem placed4 (p : Fin 256) (q : Fin 768) : (win0_4.blk t).view.emb (ix2 p q) = ix2 (row t p) q := by
  funext a
  apply Fin.ext
  fin_cases a
  · show win0_4.index t (0 : Fin 2) * 256 + 1 * p.val = (row t p).val
    rw [idx4 t, row_val, one_mul]; rfl
  · show win0_4.index t (1 : Fin 2) * 768 + 1 * q.val = q.val
    rw [idx4 t, one_mul]; exact (congrArg (· + q.val) (Nat.zero_mul 768)).trans (Nat.zero_add _)

theorem placed5 (q : Fin 768) : (win0_5.blk t).view.emb (ix2 0 q) = ix2 0 q := by
  funext a
  apply Fin.ext
  fin_cases a
  · rfl
  · show win0_5.index t (1 : Fin 2) * 768 + 1 * q.val = q.val
    rw [idx5 t, one_mul]; exact (congrArg (· + q.val) (Nat.zero_mul 768)).trans (Nat.zero_add _)

/-! The reference, at a place. -/

open Cert.GluBwdRefIdeal.Read

theorem zero (i : Cert.GluBwdRefIdeal.S4096x768.Idx) : val_main_v2 (F := Ideal) i = 0 := by
  rw [val_main_v2_apply, val_main_v1_apply, val_main_v0_apply, val_main_cst_apply]
  exact Ideal.ofBits_zero_f32

theorem gate (a : FVec Ideal S4096x768 .f32) (i : S4096x768.Idx) :
    val_main_v9 (F := Ideal) a i = Ideal.logistic (a i) := by
  rw [val_main_v9_apply, val_main_v8_apply, val_main_v7_apply, val_main_v6_apply, val_main_v5_apply, val_main_v4_apply,
    val_main_v3_apply, zero]
  exact (sigmoid _).trans (congrArg Ideal.logistic (add_zero _))

theorem reference_scan (d a : FVec Ideal S4096x768 .f32) (i : S4096x768.Idx) :
    val_main_v15 (F := Ideal) d a i = d i * Ideal.logistic (a i) := by
  rw [val_main_v15_apply, gate]
  rfl

theorem reference_slope (d y a : FVec Ideal S4096x768 .f32) (i : S4096x768.Idx) :
    val_main_v16 (F := Ideal) d y a i = slope (d i) (y i) (a i) := by
  rw [val_main_v16_apply, val_main_v14_apply, val_main_v12_apply, val_main_v11_apply, val_main_v10_apply, gate]
  rfl

theorem reference_bias (d y a : FVec Ideal S4096x768 .f32) (q : Fin 768) : val_main_v21 (F := Ideal) d y a (ix2 0 q)
    = ∑ k : Fin 4096, slope (d (ix2 k q)) (y (ix2 k q)) (a (ix2 k q)) := by
  rw [val_main_v21_apply, val_main_v19_apply, Fin.sum_univ_one, val_main_v18_apply, val_main_v17_apply]
  have e3 : val_main_cst_3 (F := Ideal) (Shape.Idx.first Cert.GluBwdRefIdeal.Gen.h_S_) = 0 := Ideal.ofBits_zero_f32
  have e4 : val_main_cst_4 (F := Ideal) (Shape.Idx.first Cert.GluBwdRefIdeal.Gen.h_S_) = 0 := Ideal.ofBits_zero_f32
  rw [e3, e4, zero_add, zero_add]
  refine Finset.sum_congr rfl fun k _ => (reference_slope d y a _).trans ?_
  have e : ∀ i : S4096x768.Idx, i = ix2 k q → slope (d i) (y i) (a i) = slope (d (ix2 k q)) (y (ix2 k q)) (a (ix2 k q)) :=
    fun i h => by rw [h]
  refine e _ (funext fun a => Fin.ext ?_)
  fin_cases a
  · rfl
  · show 0 * 768 + q.val = q.val
    omega

/-! The kernel's results are the reference's. -/

theorem result_scan : (dats m 0 c).arrAt 3 cfg0.N = val_main_v15 (F := Ideal) (d m c) (a m c) := by
  refine (dats m 0 c).arrAt_eq_of_covers 3 _ (by decide +kernel) fun t hf i => ?_
  obtain ⟨p, q, rfl⟩ : ∃ (p : Fin 256) (q : Fin 768), i = ix2 p q := ⟨i 0, i 1, ValueIdx.eq_ix2 i⟩
  blk_simp
  rw [after0_3]
  refine (written_scan m c t p q).trans ?_
  rw [block0, block2, ← reference_scan]
  exact congrArg _ (placed3 t p q).symm

theorem result_argument : (dats m 0 c).arrAt 4 cfg0.N = val_main_v20 (F := Ideal) (d m c) (y m c) (a m c) := by
  refine (dats m 0 c).arrAt_eq_of_covers 4 _ (by decide +kernel) fun t hf i => ?_
  obtain ⟨p, q, rfl⟩ : ∃ (p : Fin 256) (q : Fin 768), i = ix2 p q := ⟨i 0, i 1, ValueIdx.eq_ix2 i⟩
  blk_simp
  rw [after0_4]
  refine (written_argument m c t p q).trans ?_
  rw [block0, block1, block2, ← reference_slope]
  exact congrArg (val_main_v16 (F := Ideal) (d m c) (y m c) (a m c)) (placed4 t p q).symm

theorem result_bias : (dats m 0 c).arrAt 5 cfg0.N = val_main_v21 (F := Ideal) (d m c) (y m c) (a m c) := by
  refine (dats m 0 c).arrAt_eq_of_covers 5 _ (by decide +kernel) fun t hf i => ?_
  obtain ⟨q, rfl⟩ : ∃ q : Fin 768, i = ix2 0 q :=
    ⟨i 1, (ValueIdx.eq_ix2 i).trans (congrArg (ix2 · _) (Subsingleton.elim (α := Fin 1) _ _))⟩
  blk_simp
  rw [after0_5]
  have ht := last5 t hf
  refine Eq.trans ?_ (congrArg (val_main_v21 (F := Ideal) (d m c) (y m c) (a m c)) (placed5 t q).symm)
  rw [reference_bias]
  refine accumulated (n := 16) (l := 256) (by decide) rfl (fun t h => (outsAt0 m c t h).2.2 (ix2 0 q))
    (fun k => slope (d m c (ix2 k q)) (y m c (ix2 k q)) (a m c (ix2 k q))) 0 (fun t h _ h0 => ?_) (fun t h _ h0 => ?_) t.val t.isLt
    (by omega) (by omega)
  · exact (first m c ⟨t, h⟩ h0 q).trans (Finset.sum_congr rfl fun p _ => by rw [block0, block1, block2]; rfl)
  · exact (next m c ⟨t, h⟩ h0 q).trans (congrArg _ (Finset.sum_congr rfl fun p _ => by rw [block0, block1, block2]; rfl))

attribute [local instance] Cert.GluBwdIdeal.Gen.facts Cert.GluBwdRefIdeal.Gen.facts

theorem frame_ri : Cert.quiescent_GluBwdRefIdeal := fun m ρ _ =>
  (θ_run Cert.GluBwdRefIdeal.defs _ _).mono
    (fun r h => ⟨fun c => (h c).2.2.2, sem_eq_zero_of_no_sems (by decide) r.2⟩)
    (Cert.GluBwdRefIdeal.Value.run m ρ)

theorem value : Cert.algebraic_GluBwdIdeal_GluBwdRefIdeal := by
  intro m g m' g' _ ha
  refine ⟨fun c => val_main_v15 (F := Ideal) (d m c) (a m c), fun c => val_main_v20 (F := Ideal) (d m c) (y m c) (a m c),
    fun c => val_main_v21 (F := Ideal) (d m c) (y m c) (a m c), ?_, ?_⟩
  · exact (θ_run Cert.GluBwdIdeal.defs _ _).mono (fun r h c => ⟨(h c).1.trans (result_scan m c),
      (h c).2.1.trans (result_argument m c), (h c).2.2.1.trans (result_bias m c), (h c).2.2.2⟩)
      (Cert.GluBwdIdeal.Value.run_blocks m g)
  · refine (θ_run Cert.GluBwdRefIdeal.defs _ _).mono (fun r h c => ?_) (Cert.GluBwdRefIdeal.Value.run m' g')
    obtain ⟨a0, a1, a2⟩ := ha c
    refine ⟨(h c).1.trans ?_, (h c).2.1.trans ?_, (h c).2.2.1.trans ?_, (h c).2.2.2⟩
    · rw [val_main_v15_eq, a0, a2]
      rfl
    · rw [val_main_v20_eq, a0, a1, a2]
      rfl
    · rw [val_main_v21_eq, a0, a1, a2]
      rfl

end Cert.Gates.GluBwd
-- ==== Proof.Products.GluProj.lean ====
/- The argument of the state-space layer's own gate: each point of the kernel's grid writes one block of the product, with its bias,
   whole. -/
module

public import proofs.«01_k».proof.Proof.Kit
public import proofs.«01_k».proof.Proof.Gen.GluProjIdeal.Value
public import proofs.«01_k».proof.Proof.Gen.GluProjRefIdeal.Read
public import proofs.«01_k».proof.Proof.Products.Blocked

@[expose] public section

set_option maxRecDepth 16384

noncomputable section

namespace Cert.Products.GluProj

open Idealize.ShloMosaic Idealize.ShloMosaic.TcCoe Idealize.SL.Sem Cert.GluProjIdeal Cert.GluProjIdeal.Gen

variable (m : (ℓ : Loc nD τ sig) → Buf (Elt Ideal) ℓ) (c : Dev nD) (t : Fin cfg0.N)

/-- The blocks of point `t`. -/
abbrev B0 : FVec Ideal S1024x768 .f32 := iblk m c 0 t
abbrev B1 : FVec Ideal S768x768 .bf16 := iblk m c 1 t
abbrev B2 : FVec Ideal S1x768 .f32 := iblk m c 2 t

/-- The arguments, at their places. -/
def h : FVec Ideal S4096x768 .f32 := m ((c : Thread nD τ).loc main_arg0)
def w : FVec Ideal S768x768 .f32 := m ((c : Thread nD τ).loc main_arg1)
def b : FVec Ideal S768 .f32 := m ((c : Thread nD τ).loc main_arg2)

theorem written (y : S1024x768.Idx) : out0_3 (iblk m c 0 t) (iblk m c 1 t) (iblk m c 2 t) y
    = (∑ k : Fin 768, B0 m c t (ix2 (y 0) k) * B1 m c t (ix2 k (y 1))) + B2 m c t (ix2 0 (y 1)) := by
  rw [ValueIdx.eq_ix2 y]
  frame_out
  pointwise [k0_pay1]

theorem idx0 : ∀ t : Fin grid0.N, win0_0.index t = ![t.val / 1, 0] := by decide +kernel
theorem idx1 : ∀ t : Fin grid0.N, win0_1.index t = ![0, t.val % 1] := by decide +kernel
theorem idx2 : ∀ t : Fin grid0.N, win0_2.index t = ![0, t.val % 1] := by decide +kernel
theorem idx3 : ∀ t : Fin grid0.N, win0_3.index t = ![t.val / 1, t.val % 1] := by decide +kernel

/-- Where the block written at point `t` lies. -/
theorem placed (y : S1024x768.Idx) : ((win0_3.blk t).view.emb y 0).val = t.val / 1 * 1024 + (y 0).val
    ∧ ((win0_3.blk t).view.emb y 1).val = t.val % 1 * 768 + (y 1).val := by
  constructor
  · show win0_3.index t (0 : Fin 2) * 1024 + 1 * (y 0).val = _
    rw [idx3 t, one_mul]; rfl
  · show win0_3.index t (1 : Fin 2) * 768 + 1 * (y 1).val = _
    rw [idx3 t, one_mul]; rfl

theorem V_v0 : V m c main_v0 = w m c := by
  unfold V
  simp only [hostOps0]
  after_results
  rfl

theorem V_v1 (j : Fin 768) : (V m c main_v1 : FVec Ideal S1x768 .f32) (ix2 0 j) = b m c (ix1 j) := by
  unfold V
  simp only [hostOps0]
  after_results
  exact broadcastInDim_apply _ _ _ _ (ix1 j) (fun a => match a with | ⟨0, _⟩ => rfl)

theorem block0 (i : Fin 4096) (p : Fin 1024) (k : Fin 768) (hi : i.val = t.val / 1 * 1024 + p) :
    B0 m c t (ix2 p k) = h m c (ix2 i k) := by
  unfold B0 iblk
  rw [show V m c (Pipeline.arrRef spec0 0) = h m c from V_main_arg0 m c]
  refine congrArg (h m c) (funext fun a => Fin.ext ?_)
  blk_simp [idx0 t]
  fin_cases a <;> simp <;> omega

theorem block1 (j : Fin 768) (q : Fin 768) (k : Fin 768) (hj : j.val = t.val % 1 * 768 + q) :
    B1 m c t (ix2 k q) = w m c (ix2 k j) := by
  unfold B1 iblk
  rw [show V m c (Pipeline.arrRef spec0 1) = w m c from V_v0 m c]
  refine congrArg (w m c) (funext fun a => Fin.ext ?_)
  blk_simp [idx1 t]
  fin_cases a <;> simp <;> omega

theorem block2 (j : Fin 768) (q : Fin 768) (hj : j.val = t.val % 1 * 768 + q) : B2 m c t (ix2 0 q) = b m c (ix1 j) := by
  refine Eq.trans ?_ (V_v1 m c j)
  unfold B2 iblk
  refine congrArg (V m c main_v1) (funext fun a => Fin.ext ?_)
  blk_simp [idx2 t]
  fin_cases a <;> simp <;> omega

/-- The reference's result, at a place. -/
theorem reference (h : FVec Ideal S4096x768 .f32) (w : FVec Ideal S768x768 .f32) (b : FVec Ideal S768 .f32) (i : S4096x768.Idx) :
    Cert.GluProjRefIdeal.Read.val_main_v3 (F := Ideal) h w b i
      = (∑ k : Fin 768, h (ix2 (i 0) k) * w (ix2 k (i 1))) + b (ix1 (i 1)) := by
  refine congrArg₂ (· + ·) ?_ ?_
  · refine (Cert.GluProjRefIdeal.Read.val_main_v0_apply h w i).trans (Finset.sum_congr rfl fun k _ => ?_)
    refine congrArg₂ (fun a b => h a * w b) (funext fun a => ?_) (funext fun a => ?_) <;> fin_cases a <;> rfl
  · rw [Cert.GluProjRefIdeal.Read.val_main_v2_apply, Cert.GluProjRefIdeal.Read.val_main_v1_apply]
    refine congrArg b (funext fun a => ?_)
    fin_cases a
    rfl

/-- The kernel's result is the reference's. -/
theorem result : (dats m 0 c).arrAt 3 cfg0.N
    = Cert.GluProjRefIdeal.Read.val_main_v3 (F := Ideal) (h m c) (w m c) (b m c) := by
  refine (dats m 0 c).arrAt_eq_of_covers 3 _ (by decide +kernel) fun t hf y => ?_
  blk_simp
  rw [after0_3]
  refine (written m c t y).trans (Eq.trans (congrArg₂ (· + ·) (Finset.sum_congr rfl fun k _ => ?_)
    (block2 m c t _ (y 1) (placed t y).2)) (reference _ _ _ _).symm)
  rw [block0 m c t _ (y 0) k (placed t y).1, block1 m c t _ (y 1) k (placed t y).2]

attribute [local instance] Cert.GluProjIdeal.Gen.facts Cert.GluProjRefIdeal.Gen.facts

theorem frame_ri : Cert.quiescent_GluProjRefIdeal := fun m ρ _ =>
  (θ_run Cert.GluProjRefIdeal.defs _ _).mono
    (fun r h => ⟨fun c => (h c).2, sem_eq_zero_of_no_sems (by decide) r.2⟩)
    (Cert.GluProjRefIdeal.Value.run m ρ)

theorem value : Cert.algebraic_GluProjIdeal_GluProjRefIdeal := by
  intro m g m' g' _ ha
  refine ⟨fun c => Cert.GluProjRefIdeal.Read.val_main_v3 (F := Ideal) (h m c) (w m c) (b m c), ?_, ?_⟩
  · exact (θ_run Cert.GluProjIdeal.defs _ _).mono (fun r h c => ⟨(h c).1.trans (result m c), (h c).2⟩)
      (Cert.GluProjIdeal.Value.run_blocks m g)
  · refine (θ_run Cert.GluProjRefIdeal.defs _ _).mono (fun r h c => ?_) (Cert.GluProjRefIdeal.Value.run m' g')
    obtain ⟨a0, a1, a2⟩ := ha c
    refine ⟨(h c).1.trans ?_, (h c).2⟩
    rw [Cert.GluProjRefIdeal.Read.val_main_v3_eq, a0, a1, a2]
    rfl

end Cert.Products.GluProj
-- ==== Proof.Products.GluWgrad.lean ====
/- The gradient of the weights of the state-space layer's own gate: the kernel's product, accumulated over four blocks of tokens, is
   the reference's. -/
module

public import proofs.«01_k».proof.Proof.Kit
public import proofs.«01_k».proof.Proof.Gen.GluWgradIdeal.Value
public import proofs.«01_k».proof.Proof.Gen.GluWgradRefIdeal.Read
public import proofs.«01_k».proof.Proof.Products.Blocked

@[expose] public section

set_option maxRecDepth 16384

noncomputable section

namespace Cert.Products.GluWgrad

open Idealize.ShloMosaic Idealize.ShloMosaic.TcCoe Idealize.SL.Sem Cert.GluWgradIdeal Cert.GluWgradIdeal.Gen

variable (m : (ℓ : Loc nD τ sig) → Buf (Elt Ideal) ℓ) (c : Dev nD) (t : Fin cfg0.N)

/-- The blocks of point `t`. -/
abbrev B0 : FVec Ideal S1024x768 .f32 := iblk m c 0 t
abbrev B1 : FVec Ideal S1024x768 .bf16 := iblk m c 1 t

/-- The arguments, at their places. -/
def y : FVec Ideal S4096x768 .f32 := m ((c : Thread nD τ).loc main_arg0)
def dt : FVec Ideal S4096x768 .bf16 := m ((c : Thread nD τ).loc main_arg1)

theorem first (h : t.val % 4 = 0) (p : Fin 768) (q : Fin 768) : (outsAt0 m c t.val t.isLt).2 (ix2 p q)
    = ∑ k : Fin 1024, B0 m c t (ix2 k p) * B1 m c t (ix2 k q) := by
  have hN : t.val < 4 := lt_of_lt_of_eq t.isLt N_0
  rw [outsAt0_A m c t h (by omega) (by omega)]
  frame_out
  simp only [k0_pay2]
  pointwise [k0_pay1]

theorem next (h : ¬ t.val % 4 = 0) (p : Fin 768) (q : Fin 768) : (outsAt0 m c t.val t.isLt).2 (ix2 p q)
    = (outsAt0 m c (t.val - 1) (lt_of_le_of_lt (Nat.sub_le _ _) t.isLt)).2 (ix2 p q)
      + ∑ k : Fin 1024, B0 m c t (ix2 k p) * B1 m c t (ix2 k q) := by
  by_cases h' : t.val % 4 = 3
  on_goal 1 => rw [outsAt0_C m c t h (by omega) h']
  on_goal 2 => rw [outsAt0_B m c t h (by omega) h']
  all_goals
    frame_out
    simp only [k0_pay3]
    pointwise [k0_pay1]
    exact congrArg₂ (· + ·) (congrFun (Memref.IsWhole.read_unread (Memref.isWhole_whole cc0_scratch0) _) _) rfl

theorem written (h : t.val % 4 = 3) (p : Fin 768) (q : Fin 768) :
    (outsAt0 m c t.val t.isLt).1 (ix2 p q) = (outsAt0 m c t.val t.isLt).2 (ix2 p q) := by
  rw [outsAt0_C m c t (by omega) (by omega) h]
  frame_out
  simp only [k0_pay4]
  pointwise [k0_pay3]

theorem idx0 : ∀ t : Fin grid0.N, win0_0.index t = ![t.val % 4, 0] := by decide +kernel
theorem idx1 : ∀ t : Fin grid0.N, win0_1.index t = ![t.val % 4, t.val / 4] := by decide +kernel

theorem block0 (i : Fin 768) (k : Fin 1024) :
    B0 m c t (ix2 k i) = y m c (ix2 (place (n := 4) (K := 4096) rfl (turn (by decide) t) k) i) := by
  unfold B0 iblk
  rw [show V m c (Pipeline.arrRef spec0 0) = y m c from V_main_arg0 m c]
  refine congrArg (y m c) (funext fun a => Fin.ext ?_)
  blk_simp [idx0 t]
  fin_cases a <;> simp [place, turn] <;> omega

theorem block1 (j : Fin 768) (q : Fin 768) (k : Fin 1024) (hj : t.val / 4 = j / 768) (hq : q.val = j % 768) :
    B1 m c t (ix2 k q) = dt m c (ix2 (place (n := 4) (K := 4096) rfl (turn (by decide) t) k) j) := by
  unfold B1 iblk
  rw [show V m c (Pipeline.arrRef spec0 1) = dt m c from V_main_arg1 m c]
  refine congrArg (dt m c) (funext fun a => Fin.ext ?_)
  blk_simp [idx1 t]
  fin_cases a <;> simp [place, turn] <;> omega

/-- The kernel's result, at a place. -/
theorem result (i : Fin 768) (j : Fin 768) : Cert.GluWgradIdeal.Value.G2 m c (ix2 i j)
    = ∑ k : Fin 4096, y m c (ix2 k i) * dt m c (ix2 k j) := by
  have hi := i.2
  have hj := j.2
  have hN : cfg0.N = 4 := N_0
  have hb : Cert.GluWgradIdeal.Value.pt2Of (ix2 i j) = 4 * (j.val / 768) + 3 := by
    show 4 * (1 * (i.val / 768 - 0) + 1 * (j.val / 768 - 0)) + 3 = _
    omega
  have hp : Cert.GluWgradIdeal.Value.pt2Of (ix2 i j) < cfg0.N := by omega
  have hl : Cert.GluWgradIdeal.Value.loc2Of (ix2 i j) = ix2 i (⟨j.val % 768, by omega⟩ : Fin 768) := by
    funext a
    match a with
    | ⟨0, _⟩ => exact Fin.ext (Nat.mod_eq_of_lt i.2)
    | ⟨1, _⟩ => rfl
  unfold Cert.GluWgradIdeal.Value.G2
  rw [dif_pos hp, ← Cert.GluWgradIdeal.Value.outsAt0_sweep m c _ hp, hl]
  refine (written m c ⟨_, hp⟩ (by show Cert.GluWgradIdeal.Value.pt2Of (ix2 i j) % 4 = 3; omega) _ _).trans ?_
  exact accumulated_product (n := 4) (by decide) (show 4096 = 4 * 1024 from rfl)
    (fun t h => (outsAt0 m c t h).2 (ix2 i (⟨j.val % 768, by omega⟩ : Fin 768)))
    (fun t h k => B0 m c ⟨t, h⟩ (ix2 k i)) (fun t h k => B1 m c ⟨t, h⟩ (ix2 k (⟨j.val % 768, by omega⟩ : Fin 768)))
    (fun k => y m c (ix2 k i)) (fun k => dt m c (ix2 k j)) (j.val / 768)
    (fun t h h0 => first m c ⟨t, h⟩ h0 _ _) (fun t h h0 => next m c ⟨t, h⟩ h0 _ _)
    (fun t h hr k => block0 m c ⟨t, h⟩ i k) (fun t h hr k => block1 m c ⟨t, h⟩ j _ k hr rfl) _ hp (by omega) (by omega)

/-- The reference's result, at a place. -/
theorem reference (x : FVec Ideal S4096x768 .f32) (d : FVec Ideal S4096x768 .bf16) (i : Fin 768) (j : Fin 768) :
    Cert.GluWgradRefIdeal.Read.val_main_v5 (F := Ideal) x d (ix2 i j) = ∑ k : Fin 4096, x (ix2 k i) * d (ix2 k j) := by
  rw [Cert.GluWgradRefIdeal.Read.val_main_v5_apply, Cert.GluWgradRefIdeal.Read.val_main_v4_apply]
  refine (Cert.GluWgradRefIdeal.Read.val_main_v3_apply x d _).trans (Finset.sum_congr rfl fun k _ => ?_)
  rw [mul_comm]
  refine congrArg₂ (fun a b => x a * d b) (funext fun a => ?_) (funext fun a => ?_) <;> fin_cases a <;> rfl

attribute [local instance] Cert.GluWgradIdeal.Gen.facts Cert.GluWgradRefIdeal.Gen.facts

theorem frame_ri : Cert.quiescent_GluWgradRefIdeal := fun m ρ _ =>
  (θ_run Cert.GluWgradRefIdeal.defs _ _).mono
    (fun r h => ⟨fun c => (h c).2, sem_eq_zero_of_no_sems (by decide) r.2⟩)
    (Cert.GluWgradRefIdeal.Value.run m ρ)

theorem value : Cert.algebraic_GluWgradIdeal_GluWgradRefIdeal := by
  intro m g m' g' _ ha
  refine ⟨fun c => Cert.GluWgradRefIdeal.Read.val_main_v5 (F := Ideal) (y m c) (dt m c), ?_, ?_⟩
  · refine (θ_run Cert.GluWgradIdeal.defs _ _).mono (fun r h c => ?_) (Cert.GluWgradIdeal.Value.run m g)
    refine ⟨(h c).1.trans (ext2 fun i j => ?_), (h c).2⟩
    exact (result m c i j).trans (reference _ _ i j).symm
  · refine (θ_run Cert.GluWgradRefIdeal.defs _ _).mono (fun r h c => ?_) (Cert.GluWgradRefIdeal.Value.run m' g')
    obtain ⟨a0, a1⟩ := ha c
    refine ⟨(h c).1.trans ?_, (h c).2⟩
    rw [Cert.GluWgradRefIdeal.Read.val_main_v5_eq, a0, a1]
    rfl

end Cert.Products.GluWgrad
-- ==== Proof.Products.GluDgrad.lean ====
/- The gradient of the state-space layer's result through its own gate's weights: the kernel's product over two blocks of columns,
   with the gradient past the gate added last, is the reference's. -/
module

public import proofs.«01_k».proof.Proof.Kit
public import proofs.«01_k».proof.Proof.Gen.GluDgradIdeal.Value
public import proofs.«01_k».proof.Proof.Gen.GluDgradRefIdeal.Read
public import proofs.«01_k».proof.Proof.Products.Blocked

@[expose] public section

set_option maxRecDepth 16384

noncomputable section

namespace Cert.Products.GluDgrad

open Idealize.ShloMosaic Idealize.ShloMosaic.TcCoe Idealize.SL.Sem Cert.GluDgradIdeal Cert.GluDgradIdeal.Gen

variable (m : (ℓ : Loc nD τ sig) → Buf (Elt Ideal) ℓ) (c : Dev nD) (t : Fin cfg0.N)

/-- The blocks of point `t`. -/
abbrev B0 : FVec Ideal S512x384 .bf16 := iblk m c 0 t
abbrev B1 : FVec Ideal S768x384 .bf16 := iblk m c 1 t
abbrev B2 : FVec Ideal S512x768 .f32 := iblk m c 2 t

/-- The arguments, at their places. -/
def d : FVec Ideal S4096x768 .bf16 := m ((c : Thread nD τ).loc main_arg0)
def w : FVec Ideal S768x768 .f32 := m ((c : Thread nD τ).loc main_arg1)
def dy : FVec Ideal S4096x768 .f32 := m ((c : Thread nD τ).loc main_arg2)

theorem first (h : t.val % 2 = 0) (p : Fin 512) (q : Fin 768) : (outsAt0 m c t.val t.isLt).2 (ix2 p q)
    = ∑ k : Fin 384, B0 m c t (ix2 p k) * B1 m c t (ix2 q k) := by
  rw [outsAt0_A m c t h (by omega) (by omega)]
  frame_out
  simp only [k0_pay2]
  pointwise [k0_pay1]

theorem next (h : ¬ t.val % 2 = 0) (p : Fin 512) (q : Fin 768) : (outsAt0 m c t.val t.isLt).2 (ix2 p q)
    = (outsAt0 m c (t.val - 1) (lt_of_le_of_lt (Nat.sub_le _ _) t.isLt)).2 (ix2 p q)
      + ∑ k : Fin 384, B0 m c t (ix2 p k) * B1 m c t (ix2 q k) := by
  have h' : t.val % 2 = 1 := by omega
  rw [outsAt0_B m c t h h' h']
  frame_out
  simp only [k0_pay3]
  pointwise [k0_pay1]
  exact congrArg₂ (· + ·) (congrFun (Memref.IsWhole.read_unread (Memref.isWhole_whole cc0_scratch0) _) _) rfl

theorem written (h : t.val % 2 = 1) (p : Fin 512) (q : Fin 768) :
    (outsAt0 m c t.val t.isLt).1 (ix2 p q) = (outsAt0 m c t.val t.isLt).2 (ix2 p q) + B2 m c t (ix2 p q) := by
  rw [outsAt0_B m c t (by omega) h h]
  frame_out
  simp only [k0_pay4]
  pointwise [k0_pay3]

theorem idx0 : ∀ t : Fin grid0.N, win0_0.index t = ![t.val / 2, t.val % 2] := by decide +kernel
theorem idx1 : ∀ t : Fin grid0.N, win0_1.index t = ![0, t.val % 2] := by decide +kernel
theorem idx2 : ∀ t : Fin grid0.N, win0_2.index t = ![t.val / 2, 0] := by decide +kernel

theorem V_v0 : V m c main_v0 = w m c := by
  unfold V
  simp only [hostOps0]
  after_results
  rfl

theorem block0 (i : Fin 4096) (p : Fin 512) (k : Fin 384) (hi : t.val / 2 = i / 512) (hp : p.val = i % 512) :
    B0 m c t (ix2 p k) = d m c (ix2 i (place (n := 2) (K := 768) rfl (turn (by decide) t) k)) := by
  unfold B0 iblk
  rw [show V m c (Pipeline.arrRef spec0 0) = d m c from V_main_arg0 m c]
  refine congrArg (d m c) (funext fun a => Fin.ext ?_)
  blk_simp [idx0 t]
  fin_cases a <;> simp [place, turn] <;> omega

theorem block1 (j : Fin 768) (k : Fin 384) :
    B1 m c t (ix2 j k) = w m c (ix2 j (place (n := 2) (K := 768) rfl (turn (by decide) t) k)) := by
  unfold B1 iblk
  rw [show V m c (Pipeline.arrRef spec0 1) = w m c from V_v0 m c]
  refine congrArg (w m c) (funext fun a => Fin.ext ?_)
  blk_simp [idx1 t]
  fin_cases a <;> simp [place, turn] <;> omega

theorem block2 (i : Fin 4096) (p : Fin 512) (j : Fin 768) (hi : t.val / 2 = i / 512) (hp : p.val = i % 512) :
    B2 m c t (ix2 p j) = dy m c (ix2 i j) := by
  unfold B2 iblk
  rw [show V m c (Pipeline.arrRef spec0 2) = dy m c from V_main_arg2 m c]
  refine congrArg (dy m c) (funext fun a => Fin.ext ?_)
  blk_simp [idx2 t]
  fin_cases a <;> simp <;> omega

/-- The kernel's result, at a place. -/
theorem result (i : Fin 4096) (j : Fin 768) : Cert.GluDgradIdeal.Value.G3 m c (ix2 i j)
    = (∑ k : Fin 768, d m c (ix2 i k) * w m c (ix2 j k))
      + dy m c (ix2 i j) := by
  have hi := i.2
  have hj := j.2
  have hN : cfg0.N = 16 := N_0
  have hb : Cert.GluDgradIdeal.Value.pt3Of (ix2 i j) = 2 * (i.val / 512) + 1 := by
    show 2 * (1 * (i.val / 512 - 0) + 1 * (j.val / 768 - 0)) + 1 = _
    omega
  have hp : Cert.GluDgradIdeal.Value.pt3Of (ix2 i j) < cfg0.N := by omega
  have hl : Cert.GluDgradIdeal.Value.loc3Of (ix2 i j) = ix2 (⟨i.val % 512, by omega⟩ : Fin 512) j := by
    funext a
    match a with
    | ⟨0, _⟩ => rfl
    | ⟨1, _⟩ => exact Fin.ext (Nat.mod_eq_of_lt j.2)
  unfold Cert.GluDgradIdeal.Value.G3
  rw [dif_pos hp, ← Cert.GluDgradIdeal.Value.outsAt0_sweep m c _ hp, hl]
  refine (written m c ⟨_, hp⟩ (by show Cert.GluDgradIdeal.Value.pt3Of (ix2 i j) % 2 = 1; omega) _ _).trans (congrArg₂ (· + ·) ?_ ?_)
  · exact accumulated_product (n := 2) (by decide) (show 768 = 2 * 384 from rfl)
      (fun t h => (outsAt0 m c t h).2 (ix2 (⟨i.val % 512, by omega⟩ : Fin 512) j))
      (fun t h k => B0 m c ⟨t, h⟩ (ix2 (⟨i.val % 512, by omega⟩ : Fin 512) k)) (fun t h k => B1 m c ⟨t, h⟩ (ix2 j k))
      (fun k => d m c (ix2 i k)) (fun k => w m c (ix2 j k)) (i.val / 512)
      (fun t h h0 => first m c ⟨t, h⟩ h0 _ _) (fun t h h0 => next m c ⟨t, h⟩ h0 _ _)
      (fun t h hr k => block0 m c ⟨t, h⟩ i _ k hr rfl) (fun t h hr k => block1 m c ⟨t, h⟩ j k) _ hp (by omega) (by omega)
  · rw [block2 m c ⟨_, hp⟩ i _ j (by show Cert.GluDgradIdeal.Value.pt3Of (ix2 i j) / 2 = _; omega) rfl]

/-- The reference's result, at a place. -/
theorem reference (x : FVec Ideal S4096x768 .bf16) (w : FVec Ideal S768x768 .f32) (d : FVec Ideal S4096x768 .f32) (i : Fin 4096) (j : Fin 768) :
    Cert.GluDgradRefIdeal.Read.val_main_v4 (F := Ideal) x w d (ix2 i j) = (∑ k : Fin 768, x (ix2 i k) * w (ix2 j k))
      + d (ix2 i j) := by
  rw [add_comm, Cert.GluDgradRefIdeal.Read.val_main_v4_apply, Cert.GluDgradRefIdeal.Read.val_main_v3_apply]
  refine congrArg₂ (· + ·) rfl (Finset.sum_congr rfl fun k _ => ?_)
  refine congrArg₂ (fun a b => x a * w b) (funext fun a => ?_) (funext fun a => ?_) <;> fin_cases a <;> rfl

attribute [local instance] Cert.GluDgradIdeal.Gen.facts Cert.GluDgradRefIdeal.Gen.facts

theorem frame_ri : Cert.quiescent_GluDgradRefIdeal := fun m ρ _ =>
  (θ_run Cert.GluDgradRefIdeal.defs _ _).mono
    (fun r h => ⟨fun c => (h c).2, sem_eq_zero_of_no_sems (by decide) r.2⟩)
    (Cert.GluDgradRefIdeal.Value.run m ρ)

theorem value : Cert.algebraic_GluDgradIdeal_GluDgradRefIdeal := by
  intro m g m' g' _ ha
  refine ⟨fun c => Cert.GluDgradRefIdeal.Read.val_main_v4 (F := Ideal) (d m c) (w m c) (dy m c), ?_, ?_⟩
  · refine (θ_run Cert.GluDgradIdeal.defs _ _).mono (fun r h c => ?_) (Cert.GluDgradIdeal.Value.run m g)
    refine ⟨(h c).1.trans (ext2 fun i j => ?_), (h c).2⟩
    exact (result m c i j).trans (reference _ _ _ i j).symm
  · refine (θ_run Cert.GluDgradRefIdeal.defs _ _).mono (fun r h c => ?_) (Cert.GluDgradRefIdeal.Value.run m' g')
    obtain ⟨a0, a1, a2⟩ := ha c
    refine ⟨(h c).1.trans ?_, (h c).2⟩
    rw [Cert.GluDgradRefIdeal.Read.val_main_v4_eq, a0, a1, a2]
    rfl

end Cert.Products.GluDgrad
-- ==== Proof.Gates.BInGrad.lean ====
/- The gradient of the input projections' bias: the gradients of their results, added over eight blocks of tokens, column by column. -/
module

public import proofs.«01_k».proof.Proof.Kit
public import proofs.«01_k».proof.Proof.Gen.BInGradIdeal.Value
public import proofs.«01_k».proof.Proof.Gen.BInGradRefIdeal.Read
public import proofs.«01_k».proof.Proof.Products.Blocked

@[expose] public section

set_option maxRecDepth 16384

noncomputable section

namespace Cert.Gates.BInGrad

open Idealize.ShloMosaic Idealize.ShloMosaic.TcCoe Idealize.SL.Sem Cert.BInGradIdeal Cert.BInGradIdeal.Gen Cert.Products

variable (m : (ℓ : Loc nD τ sig) → Buf (Elt Ideal) ℓ) (c : Dev nD) (t : Fin cfg0.N)

/-- The block of point `t`, and the argument. -/
abbrev B0 : FVec Ideal S512x768 .bf16 := iblk m c 0 t
def d : FVec Ideal S4096x13056 .bf16 := m ((c : Thread nD τ).loc main_arg0)

theorem first (h : t.val % 8 = 0) (q : Fin 768) : outsAt0 m c t.val t.isLt (ix2 0 q) = ∑ p : Fin 512, B0 m c t (ix2 p q) := by
  rw [outsAt0_A m c t h (by omega)]
  frame_out
  pointwise [k0_pay1]

theorem next (h : ¬ t.val % 8 = 0) (q : Fin 768) : outsAt0 m c t.val t.isLt (ix2 0 q)
    = outsAt0 m c (t.val - 1) (lt_of_le_of_lt (Nat.sub_le _ _) t.isLt) (ix2 0 q) + ∑ p : Fin 512, B0 m c t (ix2 p q) := by
  rw [outsAt0_B m c t h (by omega)]
  frame_out
  pointwise [k0_pay2, k0_pay1]

theorem idx0 : ∀ t : Fin grid0.N, win0_0.index t = ![t.val % 8, t.val / 8] := by decide +kernel
theorem idx1 : ∀ t : Fin grid0.N, win0_1.index t = ![0, t.val / 8] := by decide +kernel
theorem last1 : ∀ t : Fin grid0.N, (cfg0.win 1).flush t = true → t.val % 8 = 7 := by decide +kernel

theorem block0 (p : Fin 512) (q : Fin 768) (j : Fin 13056) (hj : j.val = t.val / 8 * 768 + q.val) :
    B0 m c t (ix2 p q) = d m c (ix2 (place (n := 8) rfl (turn (by decide) t) p) j) := by
  unfold B0 iblk
  rw [show V m c (Pipeline.arrRef spec0 0) = d m c from V_main_arg0 m c]
  refine congrArg (d m c) (funext fun a => Fin.ext ?_)
  blk_simp [idx0 t]
  fin_cases a <;> simp [place, turn, hj] <;> omega

/-- The column which place `q` of point `t`'s block is of. -/
def col (q : Fin 768) : Fin 13056 := ⟨t.val / 8 * 768 + q.val, by
  have hN : t.val < 136 := lt_of_lt_of_eq t.isLt N_0
  omega⟩

theorem placed (q : Fin 768) : (win0_1.blk t).view.emb (ix2 0 q) = ix2 0 (col t q) := by
  funext a
  apply Fin.ext
  fin_cases a
  · rfl
  · show win0_1.index t (1 : Fin 2) * 768 + 1 * q.val = t.val / 8 * 768 + q.val
    rw [idx1 t, one_mul]; rfl

open Cert.BInGradRefIdeal.Read

/-- The reference's result, at a place. -/
theorem reference (d : FVec Ideal S4096x13056 .bf16) (j : Fin 13056) :
    val_main_v9 (F := Ideal) d (ix2 0 j) = ∑ k : Fin 4096, d (ix2 k j) := by
  rw [val_main_v9_apply, val_main_v8_apply, Fin.sum_univ_one, val_main_v7_apply, val_main_v6_apply]
  have e1 : val_main_cst_1 (F := Ideal) (Shape.Idx.first Cert.BInGradRefIdeal.Gen.h_S_) = 0 := Ideal.ofBits_zero_f32
  have e2 : val_main_cst_2 (F := Ideal) (Shape.Idx.first Cert.BInGradRefIdeal.Gen.h_S_) = 0 := Ideal.ofBits_zero_f32
  rw [e1, e2, zero_add, zero_add]
  refine Finset.sum_congr rfl fun k _ => congrArg d (funext fun a => Fin.ext ?_)
  fin_cases a
  · rfl
  · show 0 * 13056 + j.val = j.val
    omega

/-- The kernel's result is the reference's. -/
theorem result : (dats m 0 c).arrAt 1 cfg0.N = val_main_v9 (F := Ideal) (d m c) := by
  refine (dats m 0 c).arrAt_eq_of_covers 1 _ (by decide +kernel) fun t hf i => ?_
  obtain ⟨q, rfl⟩ : ∃ q : Fin 768, i = ix2 0 q :=
    ⟨i 1, (ValueIdx.eq_ix2 i).trans (congrArg (ix2 · _) (Subsingleton.elim (α := Fin 1) _ _))⟩
  blk_simp
  rw [after0_1]
  have ht := last1 t hf
  refine Eq.trans ?_ (congrArg (val_main_v9 (F := Ideal) (d m c)) (placed t q).symm)
  rw [reference]
  refine accumulated (n := 8) (l := 512) (by decide) rfl (fun t h => outsAt0 m c t h (ix2 0 q))
    (fun k => d m c (ix2 k (col t q))) (t.val / 8) (fun s h hs h0 => ?_) (fun s h hs h0 => ?_) t.val t.isLt rfl ht
  · exact (first m c ⟨s, h⟩ h0 q).trans (Finset.sum_congr rfl fun p _ =>
      block0 m c ⟨s, h⟩ p q _ (congrArg (fun x => x * 768 + q.val) hs.symm))
  · exact (next m c ⟨s, h⟩ h0 q).trans (congrArg _ (Finset.sum_congr rfl fun p _ =>
      block0 m c ⟨s, h⟩ p q _ (congrArg (fun x => x * 768 + q.val) hs.symm)))

attribute [local instance] Cert.BInGradIdeal.Gen.facts Cert.BInGradRefIdeal.Gen.facts

theorem frame_ri : Cert.quiescent_BInGradRefIdeal := fun m ρ _ =>
  (θ_run Cert.BInGradRefIdeal.defs _ _).mono
    (fun r h => ⟨fun c => (h c).2, sem_eq_zero_of_no_sems (by decide) r.2⟩)
    (Cert.BInGradRefIdeal.Value.run m ρ)

theorem value : Cert.algebraic_BInGradIdeal_BInGradRefIdeal := by
  intro m g m' g' _ ha
  refine ⟨fun c => val_main_v9 (F := Ideal) (d m c), ?_, ?_⟩
  · exact (θ_run Cert.BInGradIdeal.defs _ _).mono (fun r h c => ⟨(h c).1.trans (result m c), (h c).2⟩)
      (Cert.BInGradIdeal.Value.run_blocks m g)
  · refine (θ_run Cert.BInGradRefIdeal.defs _ _).mono (fun r h c => ?_) (Cert.BInGradRefIdeal.Value.run m' g')
    have a0 := ha c
    refine ⟨(h c).1.trans ?_, (h c).2⟩
    rw [val_main_v9_eq, a0]
    rfl

end Cert.Gates.BInGrad
-- ==== Proof.Gates.Merge.lean ====
/- The branches' merge: each branch's result times the sigmoid of its gate, added. -/
module

public import proofs.«01_k».proof.Proof.Kit
public import proofs.«01_k».proof.Proof.Gen.MergeIdeal.Value
public import proofs.«01_k».proof.Proof.Gen.MergeRefIdeal.Read
public import proofs.«01_k».proof.Proof.Gates.Sigmoid

@[expose] public section

set_option maxRecDepth 16384

noncomputable section

namespace Cert.Gates.Merge

open Idealize.ShloMosaic Idealize.ShloMosaic.TcCoe Idealize.SL.Sem

open Cert.MergeRefIdeal Cert.MergeRefIdeal.Read

theorem gate (x : FVec Ideal S4096x8448 .f32) (i : S4096x3x2048.Idx) :
    val_main_v7 (F := Ideal) x i = Ideal.logistic (val_main_v1 (F := Ideal) x i) := by
  rw [val_main_v7_apply, val_main_v6_apply, val_main_v5_apply, val_main_v4_apply]
  exact sigmoid _

/-- Where gate `k`'s entry lies among the columns of the layer's other projections. -/
theorem placed (k : Fin 3) (i : S4096x2048.Idx) (y : S4096x3x2048.Idx) (h0 : (y 0).val = (i 0).val) (h1 : (y 1).val = k.val)
    (h2 : (y 2).val = (i 1).val) : ∀ a, (idx_main_v0 (idx_main_v1 y) a).val = (![(i 0).val, (i 1).val + (2304 + 2048 * k.val)] : Fin 2 → ℕ) a := by
  have b0 : (i 0).val < 4096 := (i 0).isLt
  have b1 : (i 1).val < 2048 := (i 1).isLt
  intro a
  fin_cases a
  · show (((y 0).val * 3 + (y 1).val) * 2048 + (y 2).val) / 6144 = (i 0).val
    omega
  · show 2304 + (((y 0).val * 3 + (y 1).val) * 2048 + (y 2).val) % 6144 = (i 1).val + (2304 + 2048 * k.val)
    omega

/-- The kernel's function is the reference's. -/
theorem same (x : FVec Ideal S4096x8448 .f32) (pa pb pc : FVec Ideal S4096x2048 .f32) :
    Cert.MergeIdeal.Value.G6 (F := Ideal) x x x pa pb pc = val_main_v19 (F := Ideal) x pa pb pc := by
  funext i
  have b0 : (i 0).val < 4096 := (i 0).isLt
  have b1 : (i 1).val < 2048 := (i 1).isLt
  show Ideal.logistic (x _) * pa i + Ideal.logistic (x _) * pb i + Ideal.logistic (x _) * pc i
    = val_main_v9 (F := Ideal) x i * pa i + val_main_v12 (F := Ideal) x i * pb i + val_main_v16 (F := Ideal) x i * pc i
  rw [val_main_v9_apply, val_main_v8_apply, val_main_v12_apply, val_main_v11_apply, val_main_v16_apply, val_main_v15_apply,
    gate, gate, gate, val_main_v1_apply, val_main_v1_apply, val_main_v1_apply, val_main_v0_apply, val_main_v0_apply,
    val_main_v0_apply]
  refine congrArg₂ (· + ·) (congrArg₂ (· + ·) ?_ ?_) ?_
  · refine congrArg (fun y => Ideal.logistic (x y) * pa i) (funext fun a => Fin.ext ((?_ : _ = _).trans
      (placed 0 i (idx_main_v8 (idx_main_v9 i)) ?_ ?_ ?_ a).symm))
    · fin_cases a <;> rfl
    · show ((i 0).val * 2048 + (i 1).val) / 2048 = _; omega
    · rfl
    · show ((i 0).val * 2048 + (i 1).val) % 2048 = _; omega
  · refine congrArg (fun y => Ideal.logistic (x y) * pb i) (funext fun a => Fin.ext ((?_ : _ = _).trans
      (placed 1 i (idx_main_v11 (idx_main_v12 i)) ?_ ?_ ?_ a).symm))
    · fin_cases a <;> rfl
    · show ((i 0).val * 2048 + (i 1).val) / 2048 = _; omega
    · rfl
    · show ((i 0).val * 2048 + (i 1).val) % 2048 = _; omega
  · refine congrArg (fun y => Ideal.logistic (x y) * pc i) (funext fun a => Fin.ext ((?_ : _ = _).trans
      (placed 2 i (idx_main_v15 (idx_main_v16 i)) ?_ ?_ ?_ a).symm))
    · fin_cases a <;> rfl
    · show ((i 0).val * 2048 + (i 1).val) / 2048 = _; omega
    · rfl
    · show ((i 0).val * 2048 + (i 1).val) % 2048 = _; omega

attribute [local instance] Cert.MergeIdeal.Gen.facts Cert.MergeRefIdeal.Gen.facts

theorem frame_ri : Cert.quiescent_MergeRefIdeal := fun m ρ _ =>
  (θ_run Cert.MergeRefIdeal.defs _ _).mono
    (fun r h => ⟨fun c => (h c).2, sem_eq_zero_of_no_sems (by decide) r.2⟩)
    (Cert.MergeRefIdeal.Value.run m ρ)

theorem value : Cert.algebraic_MergeIdeal_MergeRefIdeal := by
  intro m g m' g' _ ha
  refine ⟨fun c => Cert.MergeIdeal.Value.G6 (F := Ideal) (m (c.tc.loc Cert.MergeIdeal.main_arg0))
    (m (c.tc.loc Cert.MergeIdeal.main_arg0)) (m (c.tc.loc Cert.MergeIdeal.main_arg0))
    (m (c.tc.loc Cert.MergeIdeal.main_arg1)) (m (c.tc.loc Cert.MergeIdeal.main_arg2))
    (m (c.tc.loc Cert.MergeIdeal.main_arg3)), Cert.MergeIdeal.Value.run m g, ?_⟩
  refine (θ_run Cert.MergeRefIdeal.defs _ _).mono (fun r h c => ?_) (Cert.MergeRefIdeal.Value.run m' g')
  obtain ⟨a0, a1, a2, a3⟩ := ha c
  refine ⟨(h c).1.trans ?_, (h c).2⟩
  rw [val_main_v19_eq, a0, a1, a2, a3]
  exact (same _ _ _ _).symm

end Cert.Gates.Merge
-- ==== Proof.Gates.Swiglu.lean ====
/- The feed-forward layer's gate: the gate's half times its sigmoid, times the other half. -/
module

public import proofs.«01_k».proof.Proof.Kit
public import proofs.«01_k».proof.Proof.Gen.SwigluIdeal.Value
public import proofs.«01_k».proof.Proof.Gen.SwigluRefIdeal.Read
public import proofs.«01_k».proof.Proof.Gates.Sigmoid

@[expose] public section

set_option maxRecDepth 16384

noncomputable section

namespace Cert.Gates.Swiglu

open Idealize.ShloMosaic Idealize.ShloMosaic.TcCoe Idealize.SL.Sem

open Cert.SwigluRefIdeal Cert.SwigluRefIdeal.Read

theorem gate (x : FVec Ideal S4096x11264 .f32) (i : S4096x5632.Idx) :
    val_main_call0_v5 (F := Ideal) x i = Ideal.logistic (val_main_v0 (F := Ideal) x i) := by
  rw [val_main_call0_v5_apply, val_main_call0_v4_apply, val_main_call0_v3_apply, val_main_call0_v2_apply]
  exact sigmoid _

/-- The kernel's function is the reference's. -/
theorem same (x : FVec Ideal S4096x11264 .f32) :
    Cert.SwigluIdeal.Value.G2 (F := Ideal) x x = val_main_v4 (F := Ideal) x := by
  funext i
  show x _ * Ideal.logistic (x _) * x _ = val_main_v0 (F := Ideal) x i * val_main_call0_v5 (F := Ideal) x i * val_main_v1 (F := Ideal) x i
  rw [gate, val_main_v0_apply, val_main_v1_apply]
  have e0 : Cert.SwigluIdeal.Value.inIdx2_0 i = idx_main_v0 i := by funext a; fin_cases a <;> rfl
  have e1 : Cert.SwigluIdeal.Value.inIdx2_1 i = idx_main_v1 i := by
    funext a
    fin_cases a
    · rfl
    · exact Fin.ext (Nat.add_comm _ _)
  rw [e0, e1]

attribute [local instance] Cert.SwigluIdeal.Gen.facts Cert.SwigluRefIdeal.Gen.facts

theorem frame_ri : Cert.quiescent_SwigluRefIdeal := fun m ρ _ =>
  (θ_run Cert.SwigluRefIdeal.defs _ _).mono
    (fun r h => ⟨fun c => (h c).2, sem_eq_zero_of_no_sems (by decide) r.2⟩)
    (Cert.SwigluRefIdeal.Value.run m ρ)

theorem value : Cert.algebraic_SwigluIdeal_SwigluRefIdeal := by
  intro m g m' g' _ ha
  refine ⟨fun c => Cert.SwigluIdeal.Value.G2 (F := Ideal) (m (c.tc.loc Cert.SwigluIdeal.main_arg0))
    (m (c.tc.loc Cert.SwigluIdeal.main_arg0)), Cert.SwigluIdeal.Value.run m g, ?_⟩
  refine (θ_run Cert.SwigluRefIdeal.defs _ _).mono (fun r h c => ?_) (Cert.SwigluRefIdeal.Value.run m' g')
  have a0 := ha c
  refine ⟨(h c).1.trans ?_, (h c).2⟩
  rw [val_main_v4_eq, a0]
  exact (same _).symm

end Cert.Gates.Swiglu
-- ==== Proof.Gates.Glu.lean ====
/- The state-space layer's own gate: the scan's result times the sigmoid of its gate's argument. -/
module

public import proofs.«01_k».proof.Proof.Kit
public import proofs.«01_k».proof.Proof.Gen.GluIdeal.Value
public import proofs.«01_k».proof.Proof.Gen.GluRefIdeal.Read
public import proofs.«01_k».proof.Proof.Gates.Sigmoid

@[expose] public section

set_option maxRecDepth 16384

noncomputable section

namespace Cert.Gates.Glu

open Idealize.ShloMosaic Idealize.ShloMosaic.TcCoe Idealize.SL.Sem

open Cert.GluRefIdeal.Read

theorem gate (t : FVec Ideal Cert.GluRefIdeal.S4096x768 .f32) (i : Cert.GluRefIdeal.S4096x768.Idx) :
    val_main_v5 (F := Ideal) t i = Ideal.logistic (t i) := by
  rw [val_main_v5_apply, val_main_v4_apply, val_main_v3_apply, val_main_v2_apply]
  exact sigmoid (t i)

/-- The kernel's function is the reference's. -/
theorem same (y t : FVec Ideal Cert.GluRefIdeal.S4096x768 .f32) :
    Cert.GluIdeal.Value.G2 (F := Ideal) y t = val_main_v7 (F := Ideal) y t :=
  funext fun i => (congrArg (y i * ·) (gate t i)).symm

attribute [local instance] Cert.GluIdeal.Gen.facts Cert.GluRefIdeal.Gen.facts

theorem frame_ri : Cert.quiescent_GluRefIdeal := fun m ρ _ =>
  (θ_run Cert.GluRefIdeal.defs _ _).mono
    (fun r h => ⟨fun c => (h c).2, sem_eq_zero_of_no_sems (by decide) r.2⟩)
    (Cert.GluRefIdeal.Value.run m ρ)

theorem value : Cert.algebraic_GluIdeal_GluRefIdeal := by
  intro m g m' g' _ ha
  refine ⟨fun c => Cert.GluIdeal.Value.G2 (F := Ideal) (m (c.tc.loc Cert.GluIdeal.main_arg0))
    (m (c.tc.loc Cert.GluIdeal.main_arg1)), Cert.GluIdeal.Value.run m g, ?_⟩
  refine (θ_run Cert.GluRefIdeal.defs _ _).mono (fun r h c => ?_) (Cert.GluRefIdeal.Value.run m' g')
  obtain ⟨a0, a1⟩ := ha c
  refine ⟨(h c).1.trans ?_, (h c).2⟩
  rw [val_main_v7_eq, a0, a1]
  exact (same _ _).symm

end Cert.Gates.Glu
-- ==== Proof.Reals.lean ====
/- Real numbers inside the extended reals: the operations of the ideal instance on finite values, and the float
   constants of the programs as real numbers. -/
module

public import Idealize.ShloMosaic.PureOps.Ideal.Laws
public import Idealize.ShloMosaic.Lib.IdealHost
public import Idealize.ShloMosaic.Lib.Pipeline.ValueKit

@[expose] public section

noncomputable section

namespace Cert.Reals

open Idealize.ShloMosaic

/-- A finite sum of reals, taken in the extended reals, is the real sum. -/
@[norm_cast] theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a real by a nonzero real. -/
theorem div_real (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_real {x : ℝ} (h : 0 < x) : Ideal.rsqrt (x : EReal) = (((Real.sqrt x)⁻¹ : ℝ) : EReal) := by
  rw [Ideal.rsqrt_coe, if_neg (not_lt.2 h.le), if_neg h.ne']

/-- A value below `+∞` and above `-∞` is a real. -/
theorem eq_coe_toReal {x : EReal} (h : max x (-x) < ⊤) : x = ((x.toReal : ℝ) : EReal) := by
  refine (EReal.coe_toReal ?_ ?_).symm
  · rintro rfl; simp at h
  · rintro rfl; simp at h

theorem half_f32 : Ideal.ofBits .f32 0x3F000000#32 = ((1 / 2 : ℝ) : EReal) := by
  simp [Ideal.ofBits, Ideal.ieee]; norm_num [← EReal.coe_mul]

theorem neg_half_f32 : Ideal.ofBits .f32 0xBF000000#32 = ((-(1 / 2) : ℝ) : EReal) := by
  simp [Ideal.ofBits, Ideal.ieee]; norm_num [← EReal.coe_mul]

theorem two_f32 : Ideal.ofBits .f32 0x40000000#32 = ((2 : ℝ) : EReal) := by
  simp [Ideal.ofBits, Ideal.ieee]; norm_num [← EReal.coe_mul]

theorem three_f32 : Ideal.ofBits .f32 0x40400000#32 = ((3 : ℝ) : EReal) := by
  simp [Ideal.ofBits, Ideal.ieee]; norm_num [← EReal.coe_mul]

theorem n768_f32 : Ideal.ofBits .f32 0x44400000#32 = ((768 : ℝ) : EReal) := by
  simp [Ideal.ofBits, Ideal.ieee]; norm_num [← EReal.coe_mul]

theorem one_f32 : Ideal.ofBits .f32 0x3F800000#32 = ((1 : ℝ) : EReal) := by
  rw [Ideal.ofBits_one_f32, EReal.coe_one]

/-- The layer norm's epsilon, a float near `1e-5`. -/
def eps : ℝ := 10995116 / 2 ^ 40

theorem eps_pos : 0 < eps := by unfold eps; norm_num

theorem eps_f32 : Ideal.ofBits .f32 0x3727C5AC#32 = (eps : EReal) := by
  simp [Ideal.ofBits, Ideal.ieee, eps]; norm_num [← EReal.coe_mul]

/-- The float near `sqrt (2 / pi)` of the tanh form of GELU. -/
def gc : ℝ := 13386282 / 2 ^ 24

theorem gc_f32 : Ideal.ofBits .f32 0x3F4C422A#32 = (gc : EReal) := by
  simp [Ideal.ofBits, Ideal.ieee, gc]; norm_num [← EReal.coe_mul]

/-- The float near `0.044715` of the tanh form of GELU. -/
def ga : ℝ := 12003091 / 2 ^ 28

theorem ga_f32 : Ideal.ofBits .f32 0x3D372713#32 = (ga : EReal) := by
  simp [Ideal.ofBits, Ideal.ieee, ga]; norm_num [← EReal.coe_mul]

end Cert.Reals
-- ==== Proof.Norm.Width.lean ====
/- The width of a row as a float constant and as a real number. -/
module

public import proofs.«01_k».proof.Proof.Reals

@[expose] public section

namespace Cert.Reals

open Idealize.ShloMosaic

theorem n2048_f32 : Ideal.ofBits .f32 0x45000000#32 = ((2048 : ℝ) : EReal) := by
  simp [Ideal.ofBits, Ideal.ieee]; norm_num [← EReal.coe_mul]

end Cert.Reals
-- ==== Proof.Sgu.Spec.lean ====
/- The backward pass of the spatial gating unit on one chunk of 128 tokens, over the real numbers: what both programs
   compute, with no tiling and no rounding. -/
module

public import proofs.«01_k».proof.Proof.Reals

@[expose] public section

noncomputable section

namespace Cert.Sgu

open Idealize.ShloMosaic Cert.Reals

/-- The hyperbolic tangent inside GELU. -/
def th (x : ℝ) : ℝ := Real.tanh (gc * (x + ga * (x * x * x)))

/-- GELU in its tanh form. -/
def gelu (x : ℝ) : ℝ := 1 / 2 * x * (1 + th x)

/-- The derivative of GELU. -/
def gelu' (x : ℝ) : ℝ :=
  1 / 2 * (1 + th x) + 1 / 2 * x * ((1 + th x) * (1 - th x)) * gc * (1 + 3 * ga * (x * x))

/-- The group of a channel, six groups of 128 channels. -/
def grp (j : Fin 768) : Fin 6 := ⟨j / 128, by omega⟩

/-- Channel `c` of group `g`. -/
def col (g : Fin 6) (c : Fin 128) : Fin 768 := ⟨g * 128 + c, by omega⟩

@[simp] theorem grp_col (g : Fin 6) (c : Fin 128) : grp (col g c) = g := by
  ext; simp only [grp, col]; omega

/-- One chunk's inputs: the two halves of the projection, the gradient of the unit's result, the layer norm's scale and
    shift, and the mixing matrices with their biases. -/
structure Chunk where
  zu : Fin 128 → Fin 768 → ℝ
  zv : Fin 128 → Fin 768 → ℝ
  dy : Fin 128 → Fin 768 → ℝ
  g : Fin 768 → ℝ
  b : Fin 768 → ℝ
  w : Fin 6 → Fin 128 → Fin 128 → ℝ
  bs : Fin 6 → Fin 128 → ℝ

namespace Chunk

variable (B : Chunk)

def u (p : Fin 128) (j : Fin 768) : ℝ := gelu (B.zu p j)
def v (p : Fin 128) (j : Fin 768) : ℝ := gelu (B.zv p j)

/-! The layer norm of `v` along the channels. -/

def mu (p : Fin 128) : ℝ := (∑ j, B.v p j) / 768
def xc (p : Fin 128) (j : Fin 768) : ℝ := B.v p j - B.mu p
def den (p : Fin 128) : ℝ := (∑ j, B.xc p j * B.xc p j) / 768 + eps
def r (p : Fin 128) : ℝ := (Real.sqrt (B.den p))⁻¹
def xh (p : Fin 128) (j : Fin 768) : ℝ := B.xc p j * B.r p
def vn (p : Fin 128) (j : Fin 768) : ℝ := B.xh p j * B.g j + B.b j

/-! The mixing of the chunk's tokens, group by group, and its gradients. -/

def mixed (p : Fin 128) (j : Fin 768) : ℝ := (∑ s, B.w (grp j) p s * B.vn s j) + B.bs (grp j) p
def dmix (p : Fin 128) (j : Fin 768) : ℝ := B.dy p j * B.u p j
def du (p : Fin 128) (j : Fin 768) : ℝ := B.dy p j * B.mixed p j
def dvn (s : Fin 128) (j : Fin 768) : ℝ := ∑ p, B.w (grp j) p s * B.dmix p j
def dw (g : Fin 6) (t s : Fin 128) : ℝ := ∑ c, B.dmix t (col g c) * B.vn s (col g c)
def dbs (g : Fin 6) (t : Fin 128) : ℝ := ∑ c, B.dmix t (col g c)

/-! The layer norm's gradients. -/

def dg (j : Fin 768) : ℝ := ∑ p, B.xh p j * B.dvn p j
def db (j : Fin 768) : ℝ := ∑ p, B.dvn p j
def dxh (p : Fin 128) (j : Fin 768) : ℝ := B.dvn p j * B.g j
def q (p : Fin 128) : ℝ := (∑ j, B.xc p j * B.dxh p j) * (-(1 / 2) * (B.r p / B.den p)) / 768
def dxc (p : Fin 128) (j : Fin 768) : ℝ := B.dxh p j * B.r p + 2 * B.xc p j * B.q p
def dv (p : Fin 128) (j : Fin 768) : ℝ := B.dxc p j - (∑ k, B.dxc p k) / 768

/-! The gradients of the projection's two halves. -/

def dzu (p : Fin 128) (j : Fin 768) : ℝ := B.du p j * gelu' (B.zu p j)
def dzv (p : Fin 128) (j : Fin 768) : ℝ := B.dv p j * gelu' (B.zv p j)

theorem den_pos (p : Fin 128) : 0 < B.den p := by
  have h : 0 ≤ ∑ j, B.xc p j * B.xc p j := Finset.sum_nonneg fun j _ => mul_self_nonneg _
  have := eps_pos
  unfold den
  positivity

end Chunk

/-! Arrays of reals, as arrays of extended reals. -/

def A1 (φ : FTy) {n : ℕ} (f : Fin n → ℝ) : FVec Ideal ⟨1, ![n]⟩ φ := fun i => ((f (i 0) : ℝ) : EReal)
def A2 (φ : FTy) {n m : ℕ} (f : Fin n → Fin m → ℝ) : FVec Ideal ⟨2, ![n, m]⟩ φ := fun i => ((f (i 0) (i 1) : ℝ) : EReal)
def A3 (φ : FTy) {n m k : ℕ} (f : Fin n → Fin m → Fin k → ℝ) : FVec Ideal ⟨3, ![n, m, k]⟩ φ :=
  fun i => ((f (i 0) (i 1) (i 2) : ℝ) : EReal)

end Cert.Sgu
-- ==== Proof.Norm.Rows.lean ====
/- The backward pass of the layer norm over rows of 2048 real numbers: what both programs compute. -/
module

public import proofs.«01_k».proof.Proof.Norm.Width
public import proofs.«01_k».proof.Proof.Sgu.Spec

@[expose] public section

noncomputable section

namespace Cert.Norm

open Idealize.ShloMosaic Cert.Reals

/-- A row's mean, its centred entries, their variance kept from zero, the reciprocal deviation, and the normalised row. -/
def mu (h : Fin 2048 → ℝ) : ℝ := (∑ j, h j) / 2048
def xc (h : Fin 2048 → ℝ) (j : Fin 2048) : ℝ := h j - mu h
def den (h : Fin 2048 → ℝ) : ℝ := (∑ j, xc h j * xc h j) / 2048 + eps
def r (h : Fin 2048 → ℝ) : ℝ := (Real.sqrt (den h))⁻¹
def xh (h : Fin 2048 → ℝ) (j : Fin 2048) : ℝ := xc h j * r h

/-- The gradient of the normalised row, for the gradient `d` arriving at it and the scale `g`; its share through the deviation;
    the centred row's gradient; and the row's. -/
def dxh (d g : Fin 2048 → ℝ) (j : Fin 2048) : ℝ := d j * g j
def q (d h g : Fin 2048 → ℝ) : ℝ := (∑ j, xc h j * dxh d g j) * (-(1 / 2) * (r h / den h)) / 2048
def dxc (d h g : Fin 2048 → ℝ) (j : Fin 2048) : ℝ := dxh d g j * r h + 2 * xc h j * q d h g
def dh (d h g : Fin 2048 → ℝ) (j : Fin 2048) : ℝ := dxc d h g j - (∑ k, dxc d h g k) / 2048

theorem den_pos (h : Fin 2048 → ℝ) : 0 < den h := by
  have e : 0 ≤ ∑ j, xc h j * xc h j := Finset.sum_nonneg fun j _ => mul_self_nonneg _
  have := eps_pos
  unfold den
  positivity

/-- The row's gradient as its parts arrive. -/
theorem dh_parts (d h g : Fin 2048 → ℝ) (j : Fin 2048) :
    dxh d g j * r h + q d h g * (2 * xc h j) + -(∑ k, dxc d h g k) / 2048 = dh d h g j := by
  unfold dh
  rw [show dxc d h g j = dxh d g j * r h + 2 * xc h j * q d h g from rfl]
  ring

end Cert.Norm
-- ==== Proof.Norm.LnBwdStages.lean ====
/- The stages of the layer norm's backward kernel on a block of rows of real numbers. -/
module

public import proofs.«01_k».proof.Proof.Gen.LnBwdIdeal.Skeleton
public import proofs.«01_k».proof.Proof.Norm.Rows

@[expose] public section

set_option maxRecDepth 16384

noncomputable section

namespace Cert.Norm.LnBwd

open Idealize.ShloMosaic Idealize.ShloMosaic.TcCoe Idealize.SL.Sem Cert.Reals Cert.Sgu Cert.LnBwdIdeal Cert.LnBwdIdeal.Gen

variable (d h : Fin 256 → Fin 2048 → ℝ) (g : Fin 2048 → ℝ)

theorem pay4 : k0_pay4 (F := Ideal) (A2 .f32 h) = A2 .f32 fun p j => xc (h p) j := by
  funext i
  idx_vars i
  pointwise [k0_pay4, A2]
  simp only [n2048_f32]
  norm_cast
  rw [div_real _ (by norm_num)]
  norm_cast

theorem pay5 : k0_pay5 (F := Ideal) (A2 .f32 h) = A2 .f32 fun p (_ : Fin 1) => den (h p) := by
  simp only [k0_pay5, pay4 h]
  funext i
  idx_vars i
  pointwise [A2]
  simp only [n2048_f32, eps_f32]
  norm_cast
  rw [div_real _ (by norm_num)]
  norm_cast

theorem pay6 : k0_pay6 (F := Ideal) (A2 .f32 h) = A2 .f32 fun p (_ : Fin 1) => r (h p) := by
  simp only [k0_pay6, pay5 h]
  funext i
  idx_vars i
  pointwise [A2]
  rw [rsqrt_real (den_pos _)]
  norm_cast

theorem pay7 : k0_pay7 (F := Ideal) (A2 .f32 d) = A2 .f32 d := by pointwise! [k0_pay7]

theorem pay8 : k0_pay8 (F := Ideal) (A2 .f32 d) = A2 .f32 fun (_ : Fin 1) j => ∑ p, d p j := by
  funext i
  idx_vars i
  pointwise [k0_pay8, A2]
  norm_cast

theorem pay9 : k0_pay9 (F := Ideal) (A2 .f32 d) (A2 .f32 h) = A2 .f32 fun (_ : Fin 1) j => ∑ p, xh (h p) j * d p j := by
  simp only [k0_pay9, pay4 h, pay6 h, pay7 d]
  funext i
  idx_vars i
  pointwise [A2]
  norm_cast

/-- The scale, as a row. -/
abbrev gv : FVec Ideal S1x2048 .f32 := A2 .f32 fun _ j => g j

theorem pay10 : k0_pay10 (F := Ideal) (A2 .f32 d) (gv g) = A2 .f32 fun p j => dxh (d p) g j := by
  simp only [k0_pay10, pay7 d]
  funext i
  idx_vars i
  pointwise [A2]
  norm_cast

theorem pay11 : k0_pay11 (F := Ideal) (A2 .f32 d) (A2 .f32 h) (gv g) = A2 .f32 fun p j => dxh (d p) g j * r (h p) := by
  simp only [k0_pay11, pay10 d g, pay6 h]
  funext i
  idx_vars i
  pointwise [A2]
  norm_cast

theorem pay12 : k0_pay12 (F := Ideal) (A2 .f32 d) (A2 .f32 h) (gv g) = A2 .f32 fun p (_ : Fin 1) => q (d p) (h p) g := by
  simp only [k0_pay12, pay4 h, pay5 h, pay6 h, pay10 d g]
  funext i
  idx_vars i
  pointwise [A2]
  simp only [n2048_f32, neg_half_f32, div_real _ (den_pos _).ne']
  norm_cast
  rw [div_real _ (by norm_num)]
  norm_cast
  simp only [Finset.univ_unique, Finset.sum_singleton]
  rfl

theorem pay1 : k0_pay1 (F := Ideal) (A2 .f32 fun p j => xc (h p) j) (A2 .f32 fun p j => dxh (d p) g j * r (h p))
    (A2 .f32 fun p (_ : Fin 1) => q (d p) (h p) g) = A2 .f32 fun p j => dh (d p) (h p) g j := by
  funext i
  idx_vars i
  pointwise [k0_pay1, A2]
  simp only [n2048_f32]
  norm_cast
  rw [div_real _ (by norm_num)]
  norm_cast
  have e : ∀ j, dxh (d i0) g j * r (h i0) + xc (h i0) j * q (d i0) (h i0) g + q (d i0) (h i0) g * xc (h i0) j
      = dxc (d i0) (h i0) g j := by
    intro j
    simp only [dxc]
    ring
  simp only [Finset.univ_unique, Finset.sum_singleton, e, dh, zero_sub, Finset.sum_neg_distrib]
  ring

end Cert.Norm.LnBwd
-- ==== Proof.Sgu.Stages.lean ====
/- The kernel's stages on one chunk of real numbers. -/
module

public import proofs.«01_k».proof.Proof.Gen.KernelIdeal.Skeleton
public import proofs.«01_k».proof.Proof.Sgu.Spec

@[expose] public section

set_option maxRecDepth 16384

noncomputable section

namespace Cert.Sgu

open Idealize.ShloMosaic Idealize.ShloMosaic.TcCoe Idealize.SL.Sem Cert.Reals Cert.KernelIdeal Cert.KernelIdeal.Gen

variable (B : Chunk)

/-! The activations. -/

theorem pay12 : k0_pay12 (F := Ideal) (A2 .f32 B.zu) = A2 .f32 B.u := by
  funext i
  idx_vars i
  pointwise [k0_pay12, k0_pay7, k0_pay11, k0_pay9, k0_pay8, A2]
  simp only [half_f32, gc_f32, ga_f32]
  norm_cast

theorem pay13 : k0_pay13 (F := Ideal) (A2 .f32 B.zv) = A2 .f32 fun p j => 1 / 2 * B.zv p j := by
  funext i
  idx_vars i
  pointwise [k0_pay13, A2]
  simp only [half_f32]
  norm_cast

theorem pay15 : k0_pay15 (F := Ideal) (A2 .f32 B.zv) = A2 .f32 fun p j => th (B.zv p j) := by
  funext i
  idx_vars i
  pointwise [k0_pay15, k0_pay14, A2]
  simp only [gc_f32, ga_f32]
  norm_cast

/-! The layer norm of `v`. -/

/-- The unit of the float format. -/
abbrev one : Ideal .f32 := FloatOps.ofBits .f32 0x3F800000#32

/-- The halves of the projection as the layer norm's stages meet them. -/
abbrev hv : FVec Ideal S128x768 .f32 := A2 .f32 fun p j => 1 / 2 * B.zv p j
abbrev tv : FVec Ideal S128x768 .f32 := A2 .f32 fun p j => th (B.zv p j)

theorem pay17 : k0_pay17 (F := Ideal) (tv B) one = A2 .f32 fun p j => 1 + th (B.zv p j) := by
  funext i
  idx_vars i
  pointwise [k0_pay17, A2, one]
  norm_cast

theorem pay18 : k0_pay18 (F := Ideal) (hv B) (tv B) one = A2 .f32 B.xc := by
  simp only [k0_pay18, pay17 B]
  funext i
  idx_vars i
  pointwise [A2]
  simp only [n768_f32]
  norm_cast
  rw [div_real _ (by norm_num)]
  norm_cast

theorem pay19 : k0_pay19 (F := Ideal) (hv B) (tv B) one = A2 .f32 fun p _ => B.den p := by
  simp only [k0_pay19, pay18 B]
  funext i
  idx_vars i
  pointwise [A2]
  simp only [n768_f32, eps_f32]
  norm_cast
  rw [div_real _ (by norm_num)]
  norm_cast

theorem pay20 : k0_pay20 (F := Ideal) (hv B) (tv B) one = A2 .f32 fun p _ => B.r p := by
  simp only [k0_pay20, pay19 B]
  funext i
  idx_vars i
  pointwise [A2]
  rw [rsqrt_real (B.den_pos _)]
  norm_cast

theorem pay21 : k0_pay21 (F := Ideal) (hv B) (tv B) one = A2 .f32 fun p _ => -(1 / 2) * (B.r p / B.den p) := by
  simp only [k0_pay21, pay19 B, pay20 B]
  funext i
  idx_vars i
  pointwise [A2]
  rw [div_real _ (B.den_pos _).ne', neg_half_f32]
  norm_cast

theorem pay22 : k0_pay22 (F := Ideal) (hv B) (tv B) one = A2 .f32 B.xh := by
  simp only [k0_pay22, pay18 B, pay20 B]
  funext i
  idx_vars i
  pointwise [A2]
  norm_cast

/-- The layer norm's scale and shift, as rows. -/
abbrev gv : FVec Ideal S1x768 .f32 := A2 .f32 fun _ j => B.g j
abbrev bv : FVec Ideal S1x768 .f32 := A2 .f32 fun _ j => B.b j

theorem pay5 : k0_pay5 (F := Ideal) (gv B) = gv B := by pointwise! [k0_pay5]
theorem pay6 : k0_pay6 (F := Ideal) (bv B) = bv B := by pointwise! [k0_pay6]

theorem pay23 : k0_pay23 (F := Ideal) (gv B) (bv B) (hv B) (tv B) one = A2 .f32 B.vn := by
  simp only [k0_pay23, pay22 B]
  funext i
  idx_vars i
  pointwise [A2]
  norm_cast

end Cert.Sgu
-- ==== Proof.Sgu.Grad.lean ====
/- The kernel's remaining stages on one chunk: the gradients, from the six groups' gradient of the layer norm's result put
   side by side. -/
module

public import proofs.«01_k».proof.Proof.Sgu.Stages

@[expose] public section

set_option maxRecDepth 16384

noncomputable section

namespace Cert.Sgu

open Idealize.ShloMosaic Idealize.ShloMosaic.TcCoe Idealize.SL.Sem Cert.Reals Cert.KernelIdeal Cert.KernelIdeal.Gen

variable (B : Chunk)

@[norm_cast] theorem tanh_coe (x : ℝ) : Ideal.tanh (x : EReal) = ((Real.tanh x : ℝ) : EReal) := rfl

/-- The first half's gradient, from the unit's gradient `du`. -/
theorem pay1 (X : FVec Ideal S128x768 .f32) (h : X = A2 .f32 B.du) :
    k0_pay1 (F := Ideal) (A2 .f32 B.zu) (k0_pay7 (A2 .f32 B.zu)) (k0_pay8 (A2 .f32 B.zu)) (k0_pay10 (A2 .f32 B.zu))
      (k0_pay11 (A2 .f32 B.zu)) X = A2 .bf16 B.dzu := by
  subst h
  funext i
  idx_vars i
  pointwise [k0_pay1, k0_pay7, k0_pay11, k0_pay10, k0_pay9, k0_pay8, A2]
  simp only [half_f32, gc_f32, ga_f32]
  norm_cast
  simp only [Chunk.dzu, gelu', th]
  ring

variable {v82 v107 v132 v157 v182 v207 : FVec Ideal S128x128 .f32}
  (h : k0_pay92 v82 v107 v132 v157 v182 v207 = A2 .f32 B.dvn)

include h

/-- The gradient of the layer norm's shift. -/
theorem pay93 : k0_pay93 v82 v107 v132 v157 v182 v207 = A2 .f32 fun _ j => B.db j := by
  simp only [k0_pay93, h]
  funext i
  idx_vars i
  pointwise [A2]
  norm_cast

/-- The gradient of the layer norm's scale. -/
theorem pay94 : k0_pay94 (A2 .f32 B.xh) v82 v107 v132 v157 v182 v207 = A2 .f32 fun _ j => B.dg j := by
  simp only [k0_pay94, h]
  funext i
  idx_vars i
  pointwise [A2]
  norm_cast

/-- The gradient of the second half after its activation. -/
theorem pay95 : k0_pay95 (gv B) (A2 .f32 B.xc) (A2 .f32 fun p _ => B.r p) (A2 .f32 fun p _ => -(1 / 2) * (B.r p / B.den p))
    v82 v107 v132 v157 v182 v207 = A2 .f32 B.dv := by
  simp only [k0_pay95, h]
  funext i
  idx_vars i
  pointwise [A2]
  simp only [n768_f32]
  norm_cast
  rw [div_real _ (by norm_num)]
  norm_cast
  rw [div_real _ (by norm_num)]
  norm_cast
  have e : ∀ j, B.dvn i0 j * B.g j * B.r i0
      + B.xc i0 j * ((∑ k, B.xc i0 k * (B.dvn i0 k * B.g k)) * (-(1 / 2) * (B.r i0 / B.den i0)) / 768)
      + (∑ k, B.xc i0 k * (B.dvn i0 k * B.g k)) * (-(1 / 2) * (B.r i0 / B.den i0)) / 768 * B.xc i0 j = B.dxc i0 j := by
    intro j
    simp only [Chunk.dxc, Chunk.q, Chunk.dxh]
    ring
  simp only [Finset.univ_unique, Finset.sum_singleton, e, Chunk.dv, zero_sub, Finset.sum_neg_distrib]
  ring

/-- The second half's gradient. -/
theorem pay2 : k0_pay2 (A2 .f32 B.zv) (k0_pay96 (gv B) (k0_pay17 (tv B) one) (A2 .f32 B.xc) (A2 .f32 fun p _ => B.r p)
      (A2 .f32 fun p _ => -(1 / 2) * (B.r p / B.den p)) v82 v107 v132 v157 v182 v207)
    (k0_pay99 (gv B) (hv B) (k0_pay14 (A2 .f32 B.zv)) (k0_pay16 (A2 .f32 B.zv)) (A2 .f32 B.xc) (A2 .f32 fun p _ => B.r p)
      (A2 .f32 fun p _ => -(1 / 2) * (B.r p / B.den p)) v82 v107 v132 v157 v182 v207)
    (k0_pay100 (A2 .f32 B.zv) (gv B) (hv B) (k0_pay16 (A2 .f32 B.zv)) (A2 .f32 B.xc) (A2 .f32 fun p _ => B.r p)
      (A2 .f32 fun p _ => -(1 / 2) * (B.r p / B.den p)) v82 v107 v132 v157 v182 v207)
    (k0_pay101 (A2 .f32 B.zv) (gv B) (hv B) (k0_pay16 (A2 .f32 B.zv)) (A2 .f32 B.xc) (A2 .f32 fun p _ => B.r p)
      (A2 .f32 fun p _ => -(1 / 2) * (B.r p / B.den p)) v82 v107 v132 v157 v182 v207) = A2 .bf16 B.dzv := by
  simp only [k0_pay2, k0_pay96, k0_pay101, k0_pay100, k0_pay99, k0_pay98, k0_pay97, k0_pay17, k0_pay16, k0_pay14,
    pay15 B, pay95 B h]
  funext i
  idx_vars i
  pointwise [A2, one]
  simp only [half_f32, gc_f32, ga_f32]
  norm_cast
  simp only [Chunk.dzv, gelu']
  ring

end Cert.Sgu
-- ==== Proof.Sgu.Inputs.lean ====
/- The programs' six arguments as real arrays, and the chunks they hold. -/
module

public import proofs.«01_k».proof.Proof.Sgu.Spec

@[expose] public section

noncomputable section

namespace Cert.Sgu

open Idealize.ShloMosaic

/-- The six arguments: the projection, the layer norm's scale and shift, the mixing matrices and biases, and the gradient
    of the unit's result. -/
structure Inputs where
  rest : Fin 4096 → Fin 8448 → ℝ
  g : Fin 768 → ℝ
  b : Fin 768 → ℝ
  w : Fin 6 → Fin 128 → Fin 128 → ℝ
  bs : Fin 6 → Fin 128 → ℝ
  dy : Fin 4096 → Fin 768 → ℝ

/-- Token `p` of chunk `n`. -/
def row (n : Fin 32) (p : Fin 128) : Fin 4096 := ⟨n * 128 + p, by omega⟩

/-- Chunk `n`: its 128 tokens, with the mixing matrices' causal part. -/
def Inputs.chunk (I : Inputs) (n : Fin 32) : Chunk where
  zu p j := I.rest (row n p) ⟨j, by omega⟩
  zv p j := I.rest (row n p) ⟨768 + j, by omega⟩
  dy p j := I.dy (row n p) j
  g := I.g
  b := I.b
  w g t s := if s.val ≤ t.val then I.w g t s else 0
  bs := I.bs

/-- The chunk of a row, and the row's place in it. -/
def chunkOf (r : Fin 4096) : Fin 32 := ⟨r / 128, by omega⟩
def posOf (r : Fin 4096) : Fin 128 := ⟨r % 128, by omega⟩

theorem row_chunkOf (r : Fin 4096) : row (chunkOf r) (posOf r) = r := Fin.ext (by simp only [row, chunkOf, posOf]; omega)

/-- The select under the lower triangle keeps the entries on and below the diagonal. -/
theorem causal (t s : Fin 128) (x : ℝ) :
    Scalar.select (IntOp.cmpi .sge (IntOp.addi (BitVec.ofNat 32 t.val) 0#32) (BitVec.ofNat 32 s.val)) (x : EReal) 0
      = ((if s.val ≤ t.val then x else 0 : ℝ) : EReal) := by
  have h : ∀ t s : Fin 128, IntOp.cmpi .sge (IntOp.addi (BitVec.ofNat 32 t.val) 0#32) (BitVec.ofNat 32 s.val)
      = if s.val ≤ t.val then 1#1 else 0#1 := by decide +kernel
  rw [h]
  by_cases hs : s.val ≤ t.val <;> simp [hs, Scalar.select]

end Cert.Sgu
-- ==== Proof.Sgu.RefNorm.lean ====
/- The reference, stage by stage over the real numbers: GELU of the projection's two halves, and the layer norm. -/
module

public import proofs.«01_k».proof.Proof.Sgu.Grad
public import proofs.«01_k».proof.Proof.Sgu.Inputs
public import proofs.«01_k».proof.Proof.Gen.ReferenceIdeal.Read

@[expose] public section

set_option maxRecDepth 16384

noncomputable section

namespace Cert.Sgu.Ref

open Idealize.ShloMosaic Idealize.ShloMosaic.TcCoe Cert.Reals Cert.Sgu Cert.ReferenceIdeal Cert.ReferenceIdeal.Gen
  Cert.ReferenceIdeal.Read

variable (I : Inputs)

/-! The reference's arguments. -/

abbrev X0 : FVec Ideal S4096x8448 .f32 := A2 .f32 I.rest
abbrev X1 : FVec Ideal S768 .f32 := A1 .f32 I.g
abbrev X2 : FVec Ideal S768 .f32 := A1 .f32 I.b
abbrev X3 : FVec Ideal S6x128x128 .f32 := A3 .f32 I.w
abbrev X4 : FVec Ideal S6x128 .f32 := A2 .f32 I.bs
abbrev X5 : FVec Ideal S4096x768 .f32 := A2 .f32 I.dy

/-- The chunk of a row. -/
abbrev B (r : Fin 4096) : Chunk := I.chunk (chunkOf r)

/-- The projection's two halves, side by side. -/
def zz (r : Fin 4096) (k : Fin 1536) : ℝ := I.rest r ⟨k, by omega⟩

theorem zu_eq (r : Fin 4096) (j : Fin 768) : (B I r).zu (posOf r) j = I.rest r ⟨j, by omega⟩ := by
  show I.rest (row (chunkOf r) (posOf r)) _ = _
  rw [row_chunkOf]

theorem zv_eq (r : Fin 4096) (j : Fin 768) : (B I r).zv (posOf r) j = I.rest r ⟨768 + j, by omega⟩ := by
  show I.rest (row (chunkOf r) (posOf r)) _ = _
  rw [row_chunkOf]

theorem dy_eq (r : Fin 4096) (j : Fin 768) : (B I r).dy (posOf r) j = I.dy r j := by
  show I.dy (row (chunkOf r) (posOf r)) _ = _
  rw [row_chunkOf]

/-- A sum of reals from the float zero. -/
theorem sum_init {n : ℕ} (f : Fin n → ℝ) :
    (FloatOps.ofBits (F := Ideal) .f32 0x00000000#32 : EReal) + ∑ k, ((f k : ℝ) : EReal) = ((∑ k, f k : ℝ) : EReal) := by
  rw [coe_sum]
  exact (congrArg (· + _) Ideal.ofBits_zero_f32).trans (zero_add _)

theorem r_v0 : val_main_v0 (F := Ideal) (X0 I) = A2 .f32 (zz I) := by
  funext i
  rw [val_main_v0_apply]
  rfl

theorem r_v12 : val_main_v12 (F := Ideal) (X0 I) = A2 .f32 fun r k => th (zz I r k) := by
  funext i
  simp only [
    val_main_v12_apply, val_main_v11_apply, val_main_v10_apply, val_main_v9_apply, val_main_cst_1_apply,
    val_main_v8_apply, val_main_v7_apply, val_main_v3_apply, val_main_cst_0_apply, val_main_v2_apply, r_v0]
  pointwise [A2]
  simp only [gc_f32, ga_f32]
  norm_cast

theorem r_v6 : val_main_v6 (F := Ideal) (X0 I) = A2 .f32 fun r k => 3 * (zz I r k * zz I r k) := by
  funext i
  simp only [
    val_main_v6_apply, val_main_v5_apply, val_main_v4_apply, val_main_cst_apply, r_v0]
  pointwise [A2]
  simp only [three_f32]
  norm_cast

theorem r_v17 : val_main_v17 (F := Ideal) (X0 I) = A2 .f32 fun r k => (1 + th (zz I r k)) * (1 - th (zz I r k)) := by
  funext i
  simp only [
    val_main_v17_apply, val_main_v14_apply, val_main_v16_apply, val_main_v13_apply, val_main_v15_apply,
    val_main_cst_2_apply, val_main_cst_3_apply, r_v12]
  pointwise [A2]
  norm_cast

theorem r_v21 : val_main_v21 (F := Ideal) (X0 I) = A2 .f32 fun r k => 1 / 2 * (1 + th (zz I r k)) := by
  funext i
  simp only [
    val_main_v21_apply, val_main_v20_apply, val_main_v19_apply, val_main_cst_5_apply, val_main_v18_apply,
    val_main_cst_4_apply, r_v12]
  pointwise [A2]
  simp only [half_f32]
  norm_cast

theorem r_v22 : val_main_v22 (F := Ideal) (X0 I) = A2 .f32 fun r k => gelu (zz I r k) := by
  funext i
  simp only [
    val_main_v22_apply, r_v0, r_v21]
  pointwise [A2]
  norm_cast
  simp only [gelu]
  ring_nf

theorem r_v23 : val_main_v23 (F := Ideal) (X0 I) = A2 .f32 fun r j => (B I r).u (posOf r) j := by
  funext i
  rw [val_main_v23_apply, r_v22]
  exact congrArg (fun x : ℝ => ((gelu x : ℝ) : EReal)) (zu_eq I (i 0) (i 1)).symm

theorem r_v24 : val_main_v24 (F := Ideal) (X0 I) = A2 .f32 fun r j => (B I r).v (posOf r) j := by
  funext i
  rw [val_main_v24_apply, r_v22]
  exact congrArg (fun x : ℝ => ((gelu x : ℝ) : EReal)) (zv_eq I (i 0) (i 1)).symm

theorem r_v25 : val_main_v25 (F := Ideal) (X0 I) = A1 (n := 4096) .f32 fun r => ∑ j, (B I r).v (posOf r) j := by
  funext i
  rw [val_main_v25_apply, r_v24, val_main_cst_6_apply]
  exact sum_init (fun j => (B I (i 0)).v (posOf (i 0)) j)

theorem r_v28 : val_main_v28 (F := Ideal) (X0 I) = A2 (n := 4096) (m := 1) .f32 fun r _ => (B I r).mu (posOf r) := by
  funext i
  simp only [
    val_main_v28_apply, val_main_v26_apply, val_main_v27_apply, val_main_cst_7_apply, r_v25]
  pointwise [A1, A2]
  simp only [n768_f32]
  norm_cast
  rw [div_real _ (by norm_num)]
  norm_cast

theorem r_v30 : val_main_v30 (F := Ideal) (X0 I) = A2 .f32 fun r j => (B I r).xc (posOf r) j := by
  funext i
  simp only [
    val_main_v30_apply, val_main_v29_apply, r_v24, r_v28]
  pointwise [A2]
  norm_cast

theorem r_v39 : val_main_v39 (F := Ideal) (X0 I) = A2 .f32 fun r j => (B I r).xc (posOf r) j := by
  funext i
  simp only [
    val_main_v39_apply, val_main_v38_apply, r_v24, r_v28]
  pointwise [A2]
  norm_cast

theorem r_v33 : val_main_v33 (F := Ideal) (X0 I) = A2 .f32 fun r j => 2 * (B I r).xc (posOf r) j := by
  funext i
  simp only [
    val_main_v33_apply, val_main_v32_apply, val_main_cst_8_apply, r_v30]
  pointwise [A2]
  simp only [two_f32]
  norm_cast

theorem r_v31 : val_main_v31 (F := Ideal) (X0 I) = A2 .f32 fun r j => (B I r).xc (posOf r) j * (B I r).xc (posOf r) j := by
  funext i
  simp only [
    val_main_v31_apply, r_v30]
  pointwise [A2]
  norm_cast

theorem r_v34 : val_main_v34 (F := Ideal) (X0 I) = A1 (n := 4096) .f32 fun r => ∑ j, (B I r).xc (posOf r) j * (B I r).xc (posOf r) j := by
  funext i
  rw [val_main_v34_apply, r_v31, val_main_cst_9_apply]
  exact sum_init (fun j => (B I (i 0)).xc (posOf (i 0)) j * (B I (i 0)).xc (posOf (i 0)) j)

theorem r_v41 : val_main_v41 (F := Ideal) (X0 I) = A2 (n := 4096) (m := 1) .f32 fun r _ => (B I r).den (posOf r) := by
  funext i
  simp only [
    val_main_v41_apply, val_main_v37_apply, val_main_v40_apply, val_main_v35_apply, val_main_v36_apply,
    val_main_cst_11_apply, val_main_cst_10_apply, r_v34]
  pointwise [A1, A2]
  simp only [n768_f32, eps_f32]
  norm_cast
  rw [div_real _ (by norm_num)]
  norm_cast

theorem r_v42 : val_main_v42 (F := Ideal) (X0 I) = A2 (n := 4096) (m := 1) .f32 fun r _ => (B I r).r (posOf r) := by
  funext i
  simp only [
    val_main_v42_apply, r_v41]
  pointwise [A2]
  exact rsqrt_real (Chunk.den_pos _ _)

theorem r_v45 : val_main_v45 (F := Ideal) (X0 I) = A2 (n := 4096) (m := 1) .f32 fun r _ => -(1 / 2) * ((B I r).r (posOf r) / (B I r).den (posOf r)) := by
  funext i
  simp only [
    val_main_v45_apply, val_main_v44_apply, val_main_v43_apply, val_main_cst_12_apply, r_v41, r_v42]
  pointwise [A2]
  simp only [neg_half_f32]
  rw [div_real _ (Chunk.den_pos _ _).ne']
  norm_cast

theorem r_v47 : val_main_v47 (F := Ideal) (X0 I) = A2 .f32 fun r j => (B I r).xh (posOf r) j := by
  funext i
  simp only [
    val_main_v47_apply, val_main_v46_apply, r_v39, r_v42]
  pointwise [A2]
  norm_cast

theorem r_v53 : val_main_v53 (F := Ideal) (X0 I) (X1 I) (X2 I) = A2 .f32 fun r j => (B I r).vn (posOf r) j := by
  funext i
  simp only [
    val_main_v53_apply, val_main_v50_apply, val_main_v52_apply, val_main_v49_apply, val_main_v51_apply,
    val_main_v48_apply, r_v47]
  pointwise [A1, A2]
  norm_cast

end Cert.Sgu.Ref
-- ==== Proof.Norm.LnBwdRef.lean ====
/- The reference of the layer norm's backward pass, stage by stage over the real numbers. -/
module

public import proofs.«01_k».proof.Proof.Norm.Rows
public import proofs.«01_k».proof.Proof.Sgu.RefNorm
public import proofs.«01_k».proof.Proof.Gen.LnBwdRefIdeal.Read

@[expose] public section

set_option maxRecDepth 16384

noncomputable section

namespace Cert.Norm.LnBwd.Ref

open Idealize.ShloMosaic Idealize.ShloMosaic.TcCoe Cert.Reals Cert.Sgu Cert.LnBwdRefIdeal Cert.LnBwdRefIdeal.Gen
  Cert.LnBwdRefIdeal.Read
open Cert.Sgu.Ref (sum_init)

variable (d h : Fin 4096 → Fin 2048 → ℝ) (g : Fin 2048 → ℝ)

/-- The reference's arguments: the gradient arriving, the rows, the scale. -/
abbrev XD : FVec Ideal S4096x2048 .f32 := A2 .f32 d
abbrev XH : FVec Ideal S4096x2048 .f32 := A2 .f32 h
abbrev XG : FVec Ideal S2048 .f32 := A1 .f32 g

theorem r_v0 : val_main_v0 (F := Ideal) (XH h) = A1 (n := 4096) .f32 fun i => ∑ j, h i j := by
  funext i
  rw [val_main_v0_apply, val_main_cst_apply]
  exact sum_init (fun j => h (i 0) j)

theorem r_v3 : val_main_v3 (F := Ideal) (XH h) = A2 (n := 4096) (m := 1) .f32 fun i _ => mu (h i) := by
  funext i
  simp only [val_main_v3_apply, val_main_v1_apply, val_main_v2_apply, val_main_cst_0_apply, r_v0]
  pointwise [A1, A2]
  simp only [n2048_f32]
  norm_cast
  rw [div_real _ (by norm_num)]
  norm_cast

theorem r_v5 : val_main_v5 (F := Ideal) (XH h) = A2 .f32 fun i j => xc (h i) j := by
  funext i
  simp only [val_main_v5_apply, val_main_v4_apply, r_v3]
  pointwise [A1, A2]
  norm_cast

theorem r_v14 : val_main_v14 (F := Ideal) (XH h) = A2 .f32 fun i j => xc (h i) j := by
  funext i
  simp only [val_main_v14_apply, val_main_v13_apply, r_v3]
  pointwise [A1, A2]
  norm_cast

theorem r_v6 : val_main_v6 (F := Ideal) (XH h) = A2 .f32 fun i j => xc (h i) j * xc (h i) j := by
  funext i
  simp only [val_main_v6_apply, r_v5]
  pointwise [A1, A2]
  norm_cast

theorem r_v9 : val_main_v9 (F := Ideal) (XH h) = A1 (n := 4096) .f32 fun i => ∑ j, xc (h i) j * xc (h i) j := by
  funext i
  rw [val_main_v9_apply, r_v6, val_main_cst_2_apply]
  exact sum_init (fun j => xc (h (i 0)) j * xc (h (i 0)) j)

theorem r_v16 : val_main_v16 (F := Ideal) (XH h) = A2 (n := 4096) (m := 1) .f32 fun i _ => den (h i) := by
  funext i
  simp only [val_main_v16_apply, val_main_v15_apply, val_main_v12_apply, val_main_v11_apply, val_main_v10_apply, val_main_cst_3_apply, val_main_cst_4_apply, r_v9]
  pointwise [A1, A2]
  simp only [n2048_f32, eps_f32]
  norm_cast
  rw [div_real _ (by norm_num)]
  norm_cast

theorem r_v17 : val_main_v17 (F := Ideal) (XH h) = A2 (n := 4096) (m := 1) .f32 fun i _ => r (h i) := by
  funext i
  simp only [val_main_v17_apply, r_v16]
  pointwise [A1, A2]
  rw [rsqrt_real (den_pos _)]
  norm_cast

theorem r_v20 : val_main_v20 (F := Ideal) (XH h) = A2 (n := 4096) (m := 1) .f32 fun i _ => -(1 / 2) * (r (h i) / den (h i)) := by
  funext i
  simp only [val_main_v20_apply, val_main_v19_apply, val_main_v18_apply, val_main_cst_5_apply, r_v17, r_v16]
  pointwise [A1, A2]
  rw [div_real _ (den_pos _).ne', neg_half_f32]
  norm_cast

theorem r_v22 : val_main_v22 (F := Ideal) (XH h) = A2 .f32 fun i j => xh (h i) j := by
  funext i
  simp only [val_main_v22_apply, val_main_v21_apply, r_v14, r_v17]
  pointwise [A1, A2]
  norm_cast

theorem r_v8 : val_main_v8 (F := Ideal) (XH h) = A2 .f32 fun i j => 2 * xc (h i) j := by
  funext i
  simp only [val_main_v8_apply, val_main_v7_apply, val_main_cst_1_apply, r_v5]
  pointwise [A1, A2]
  simp only [two_f32]
  norm_cast

/-- The reshapes of the gradient arriving, and of the sums over a row, move nothing. -/
theorem r_v29 : val_main_v29 (F := Ideal) (XD d) = A2 .f32 d := by
  funext i
  rw [val_main_v29_apply]
  have e : idx_main_v29 i = i := by
    funext a
    apply Fin.ext
    have h0 : (i 0 : ℕ) < 4096 := (i 0).isLt
    have h1 : (i 1 : ℕ) < 2048 := (i 1).isLt
    fin_cases a
    · show ((i 0 : ℕ) * 2048 + (i 1 : ℕ)) / 2048 = (i 0 : ℕ)
      omega
    · show ((i 0 : ℕ) * 2048 + (i 1 : ℕ)) % 2048 = (i 1 : ℕ)
      omega
  rw [e]

theorem r_v64 : val_main_v64 (F := Ideal) (XD d) = A2 .f32 fun (_ : Fin 1) j => ∑ p, d p j := by
  funext i
  rw [val_main_v64_apply, val_main_v32_apply, val_main_cst_7_apply]
  refine (congrArg (· + _) Ideal.ofBits_zero_f32).trans ((zero_add _).trans ?_)
  simp only [Finset.univ_unique, Finset.sum_singleton, val_main_v31_apply, val_main_v30_apply, val_main_cst_6_apply]
  refine (sum_init (fun p => d p _)).trans (congrArg Real.toEReal (Finset.sum_congr rfl fun p _ => congrArg (d p) (Fin.ext ?_)))
  show 0 * 2048 + (i 1 : ℕ) = (i 1 : ℕ)
  omega

theorem r_v33 : val_main_v33 (F := Ideal) (XD d) (XH h) = A2 .f32 fun p j => xh (h p) j * d p j := by
  funext i
  rw [val_main_v33_apply, r_v22, r_v29]
  exact (EReal.coe_mul _ _).symm

theorem r_v63 : val_main_v63 (F := Ideal) (XD d) (XH h) = A2 .f32 fun (_ : Fin 1) j => ∑ p, xh (h p) j * d p j := by
  funext i
  rw [val_main_v63_apply, val_main_v38_apply, val_main_cst_9_apply]
  refine (congrArg (· + _) Ideal.ofBits_zero_f32).trans ((zero_add _).trans ?_)
  simp only [Finset.univ_unique, Finset.sum_singleton, val_main_v35_apply, val_main_v34_apply, val_main_cst_8_apply, r_v33]
  refine (sum_init (fun p => xh (h p) _ * d p _)).trans (congrArg Real.toEReal
    (Finset.sum_congr rfl fun p _ => congrArg (fun j => xh (h p) j * d p j) (Fin.ext ?_)))
  show 0 * 2048 + (i 1 : ℕ) = (i 1 : ℕ)
  omega

theorem r_v37 : val_main_v37 (F := Ideal) (XD d) (XG g) = A2 .f32 fun i j => dxh (d i) g j := by
  funext i
  simp only [val_main_v37_apply, val_main_v36_apply, val_main_v23_apply, r_v29]
  pointwise [A1, A2]
  norm_cast

theorem r_v39 : val_main_v39 (F := Ideal) (XD d) (XH h) (XG g) = A2 .f32 fun i j => xc (h i) j * dxh (d i) g j := by
  funext i
  simp only [val_main_v39_apply, r_v14, r_v37]
  pointwise [A1, A2]
  norm_cast

theorem r_v40 : val_main_v40 (F := Ideal) (XD d) (XH h) (XG g) = A1 (n := 4096) .f32 fun i => ∑ j, xc (h i) j * dxh (d i) g j := by
  funext i
  rw [val_main_v40_apply, r_v39, val_main_cst_10_apply]
  exact sum_init (fun j => xc (h (i 0)) j * dxh (d (i 0)) g j)

theorem r_v43 : val_main_v43 (F := Ideal) (XD d) (XH h) (XG g) = A2 .f32 fun i j => dxh (d i) g j * r (h i) := by
  funext i
  simp only [val_main_v43_apply, val_main_v42_apply, r_v37, r_v17]
  pointwise [A1, A2]
  norm_cast

theorem r_v49 : val_main_v49 (F := Ideal) (XD d) (XH h) (XG g) = A2 (n := 4096) (m := 1) .f32 fun i _ => q (d i) (h i) g := by
  funext i
  rw [val_main_v49_apply, val_main_v44_apply, val_main_v41_apply, r_v40, r_v20, val_main_v48_apply, val_main_cst_12_apply]
  have e : (idx_main_v41 i) 0 = i 0 := Fin.ext (by
    show (i 0 : ℕ) * 1 + (i 1 : ℕ) = (i 0 : ℕ)
    have : (i 1 : ℕ) < 1 := (i 1).isLt
    omega)
  refine (congrArg (fun p : Fin 4096 => Ideal.div (((∑ j, xc (h p) j * dxh (d p) g j : ℝ) : EReal) * _) _) e).trans ?_
  exact (congrArg₂ Ideal.div (EReal.coe_mul _ _).symm n2048_f32).trans (div_real _ (by norm_num))

theorem r_v50 : val_main_v50 (F := Ideal) (XD d) (XH h) (XG g) = A1 .f32 fun i => q (d i) (h i) g := by
  funext i
  rw [val_main_v50_apply, val_main_cst_13_apply, r_v49]
  refine (sum_init (fun _ : Fin 1 => q (d (i 0)) (h (i 0)) g)).trans (congrArg Real.toEReal ?_)
  simp

theorem r_v52 : val_main_v52 (F := Ideal) (XD d) (XH h) (XG g) = A2 .f32 fun i j => q (d i) (h i) g * (2 * xc (h i) j) := by
  funext i
  simp only [val_main_v52_apply, val_main_v51_apply, r_v8, r_v50]
  pointwise [A1, A2]
  norm_cast

theorem r_v45 : val_main_v45 (F := Ideal) (XD d) (XH h) (XG g) = A2 .f32 fun i j => -(dxh (d i) g j * r (h i)) := by
  funext i
  simp only [val_main_v45_apply, r_v43]
  pointwise [A1, A2]
  norm_cast

theorem r_v46 : val_main_v46 (F := Ideal) (XD d) (XH h) (XG g) = A1 (n := 4096) .f32 fun i => ∑ j : Fin 2048, -(dxh (d i) g j * r (h i)) := by
  funext i
  rw [val_main_v46_apply, r_v45, val_main_cst_11_apply]
  exact sum_init (fun j => -(dxh (d (i 0)) g j * r (h (i 0))))

theorem r_v53 : val_main_v53 (F := Ideal) (XD d) (XH h) (XG g) = A2 .f32 fun i j => -(q (d i) (h i) g * (2 * xc (h i) j)) := by
  funext i
  simp only [val_main_v53_apply, r_v52]
  pointwise [A1, A2]
  norm_cast

theorem r_v54 : val_main_v54 (F := Ideal) (XD d) (XH h) (XG g) = A1 (n := 4096) .f32 fun i => ∑ j : Fin 2048, -(q (d i) (h i) g * (2 * xc (h i) j)) := by
  funext i
  rw [val_main_v54_apply, r_v53, val_main_cst_14_apply]
  exact sum_init (fun j => -(q (d (i 0)) (h (i 0)) g * (2 * xc (h (i 0)) j)))

theorem r_v59 : val_main_v59 (F := Ideal) (XD d) (XH h) (XG g)
    = A2 (n := 4096) (m := 1) .f32 fun i _ => -(∑ j, dxc (d i) (h i) g j) / 2048 := by
  funext i
  rw [val_main_v59_apply, val_main_v57_apply, val_main_v47_apply, val_main_v55_apply, r_v46, r_v54, val_main_v58_apply,
    val_main_cst_15_apply]
  have e : (idx_main_v47 i) 0 = i 0 := Fin.ext (by
    show (i 0 : ℕ) * 1 + (i 1 : ℕ) = (i 0 : ℕ)
    have : (i 1 : ℕ) < 1 := (i 1).isLt
    omega)
  refine (congrArg (fun p : Fin 4096 => Ideal.div (((∑ j : Fin 2048, -(dxh (d p) g j * r (h p)) : ℝ) : EReal)
    + ((∑ j : Fin 2048, -(q (d p) (h p) g * (2 * xc (h p) j)) : ℝ) : EReal)) _) e).trans ?_
  refine (congrArg₂ Ideal.div (EReal.coe_add _ _).symm n2048_f32).trans ?_
  refine (div_real _ (by norm_num)).trans (congrArg Real.toEReal (congrArg (· / 2048) ?_))
  rw [← Finset.sum_add_distrib, ← Finset.sum_neg_distrib]
  refine Finset.sum_congr rfl fun j _ => ?_
  simp only [dxc]
  ring

theorem r_v60 : val_main_v60 (F := Ideal) (XD d) (XH h) (XG g) = A1 .f32 fun i => -(∑ j, dxc (d i) (h i) g j) / 2048 := by
  funext i
  rw [val_main_v60_apply, val_main_cst_16_apply, r_v59]
  refine (sum_init (fun _ : Fin 1 => -(∑ j, dxc (d (i 0)) (h (i 0)) g j) / 2048)).trans (congrArg Real.toEReal ?_)
  simp

theorem r_v62 : val_main_v62 (F := Ideal) (XD d) (XH h) (XG g) = A2 .f32 fun i j => dh (d i) (h i) g j := by
  funext i
  simp only [val_main_v62_apply, val_main_v61_apply, val_main_v56_apply, r_v43, r_v52, r_v60]
  pointwise [A1, A2]
  norm_cast
  exact congrArg Real.toEReal (dh_parts _ _ _ _)

end Cert.Norm.LnBwd.Ref
-- ==== Proof.Finite.lean ====
/- What the precondition says: an array whose absolute values all compare below infinity holds reals. -/
module

public import proofs.«01_k».proof.Proof.Reals
public import Idealize.ShloMosaic.Lib.ReduceAll
public import Idealize.ShloMosaic.Lib.StableHlo

@[expose] public section

noncomputable section

namespace Cert.Reals

open Idealize.ShloMosaic

theorem infinity_f32 : Ideal.ofBits .f32 0x7F800000#32 = ⊤ := by simp [Ideal.ofBits, Ideal.ieee]

/-- If "every absolute value is below infinity" came out 1, every element is a real. -/
theorem real_of_all {s u t : Shape} {axes : List (Fin s.rank)} [Subsingleton t.Idx] (x : FVec Ideal s .f32) (init : IVec u 1)
    (hb : (⟨0, ![]⟩ : Shape).BroadcastsInDim s (![] : Fin 0 → Fin s.rank)) (h : s.ReducesTo axes t) (hu : 0 < u.numel) (j : t.Idx)
    (e : Host.reduce IntOp.andi (cmpf .olt (Host.absf x)
      (broadcastInDim s ![] hb (constant (⟨0, ![]⟩ : Shape) .f32 0x7F800000#32))) init h hu j = 1#1) (i : s.Idx) :
    x i = ((x i).toReal : EReal) := by
  have k := Host.reduce_andi_all _ _ _ _ j e i
  apply eq_coe_toReal
  have k' : Scalar.cmpf (F := Ideal) (φ := .f32) .olt (max (x i) (-(x i))) (Ideal.ofBits .f32 0x7F800000#32) = 1#1 := k
  rw [infinity_f32] at k'
  by_contra hn
  simp [Ideal.scalar_cmpf_def, Ideal.cmp, hn] at k'

end Cert.Reals
-- ==== Proof.Norm.LnBwd.lean ====
/- The backward pass of the layer norm, under the precondition that its arrays are arrays of reals: the rows' gradient, and the
   gradients of the scale and the shift, summed over sixteen blocks of rows. -/
module

public import proofs.«01_k».proof.Proof.Kit
public import proofs.«01_k».proof.Pre_ln_finite
public import proofs.«01_k».proof.Proof.Gen.LnBwdIdeal.Value
public import proofs.«01_k».proof.Proof.Gen.LnBwdRefIdeal.Read
public import proofs.«01_k».proof.Proof.Products.Blocked
public import proofs.«01_k».proof.Proof.Norm.LnBwdStages
public import proofs.«01_k».proof.Proof.Norm.LnBwdRef
public import proofs.«01_k».proof.Proof.Finite

@[expose] public section

set_option maxRecDepth 16384

noncomputable section

namespace Cert.Norm.LnBwd

open Idealize.ShloMosaic Idealize.ShloMosaic.TcCoe Idealize.SL.Sem Cert.LnBwdIdeal Cert.LnBwdIdeal.Gen Cert.Products Cert.Reals Cert.Sgu Idealize.ShloMosaic.StableHlo

variable (m : (ℓ : Loc nD τ sig) → Buf (Elt Ideal) ℓ) (c : Dev nD) (t : Fin cfg0.N)

/-- The blocks of point `t`. -/
abbrev B0 : FVec Ideal S256x2048 .f32 := iblk m c 0 t
abbrev B1 : FVec Ideal S256x2048 .f32 := iblk m c 1 t
abbrev B2 : FVec Ideal S1x2048 .f32 := iblk m c 2 t
abbrev B3 : FVec Ideal S1x2048 .f32 := iblk m c 3 t

/-- The arguments, at their places. -/
def xd : FVec Ideal S4096x2048 .f32 := m ((c : Thread nD τ).loc main_arg0)
def xhid : FVec Ideal S4096x2048 .f32 := m ((c : Thread nD τ).loc main_arg1)
def xg : FVec Ideal S2048 .f32 := m ((c : Thread nD τ).loc main_arg2)
def shift : FVec Ideal S2048 .f32 := m ((c : Thread nD τ).loc main_arg3)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![0, 0] := by decide +kernel
theorem last5 : ∀ t : Fin grid0.N, (cfg0.win 5).flush t = true → t.val = 15 := by decide +kernel
theorem last6 : ∀ t : Fin grid0.N, (cfg0.win 6).flush t = true → t.val = 15 := by decide +kernel

/-- The token which row `p` of point `t`'s blocks is of. -/
def row (p : Fin 256) : Fin 4096 := place (n := 16) (l := 256) rfl (turn (by decide) t) p

theorem row_val (p : Fin 256) : (row t p).val = t.val * 256 + p.val := by
  have hN : t.val < 16 := lt_of_lt_of_eq t.isLt N_0
  simp [row, place, turn]
  omega

theorem block0 (p : Fin 256) (q : Fin 2048) : B0 m c t (ix2 p q) = xd m c (ix2 (row t p) q) := by
  unfold B0 iblk
  rw [show V m c (Pipeline.arrRef spec0 0) = xd m c from V_main_arg0 m c]
  refine congrArg (xd m c) (funext fun a => Fin.ext ?_)
  blk_simp [idx0 t]
  fin_cases a <;> simp [row_val]

theorem block1 (p : Fin 256) (q : Fin 2048) : B1 m c t (ix2 p q) = xhid m c (ix2 (row t p) q) := by
  unfold B1 iblk
  rw [show V m c (Pipeline.arrRef spec0 1) = xhid m c from V_main_arg1 m c]
  refine congrArg (xhid m c) (funext fun a => Fin.ext ?_)
  blk_simp [idx1 t]
  fin_cases a <;> simp [row_val]

theorem spread2 : V m c main_v0 = fun i : S1x2048.Idx => xg m c (ix1 (i 1)) := by
  have e : V m c main_v0 = broadcastInDim S1x2048 ![1] bcast_S2048_S1x2048_1 (xg m c) := by
    unfold V
    simp only [hostOps0, List.flatten_cons, List.flatten_nil, List.append_nil, List.cons_append, List.nil_append]
    after_results
    rfl
  refine e.trans (funext fun i => ?_)
  idx_vars i
  pointwise []

theorem block2 (q : Fin 2048) : B2 m c t (ix2 0 q) = xg m c (ix1 q) := by
  unfold B2 iblk
  rw [show V m c (Pipeline.arrRef spec0 2) = fun i : S1x2048.Idx => xg m c (ix1 (i 1)) from spread2 m c]
  refine congrArg (xg m c) (congrArg ix1 (Fin.ext ?_))
  blk_simp [idx2 t]
  try simp

theorem spread3 : V m c main_v1 = fun i : S1x2048.Idx => shift m c (ix1 (i 1)) := by
  have e : V m c main_v1 = broadcastInDim S1x2048 ![1] bcast_S2048_S1x2048_1 (shift m c) := by
    unfold V
    simp only [hostOps0, List.flatten_cons, List.flatten_nil, List.append_nil, List.cons_append, List.nil_append]
    after_results
    rfl
  refine e.trans (funext fun i => ?_)
  idx_vars i
  pointwise []

theorem block3 (q : Fin 2048) : B3 m c t (ix2 0 q) = shift m c (ix1 q) := by
  unfold B3 iblk
  rw [show V m c (Pipeline.arrRef spec0 3) = fun i : S1x2048.Idx => shift m c (ix1 (i 1)) from spread3 m c]
  refine congrArg (shift m c) (congrArg ix1 (Fin.ext ?_))
  blk_simp [idx3 t]
  try simp

theorem placed4 (p : Fin 256) (q : Fin 2048) : (win0_4.blk t).view.emb (ix2 p q) = ix2 (row t p) q := by
  funext a
  apply Fin.ext
  blk_simp [idx4 t]
  fin_cases a <;> simp [row_val]

theorem placed5 (q : Fin 2048) : (win0_5.blk t).view.emb (ix2 0 q) = ix2 0 q := by
  funext a
  apply Fin.ext
  blk_simp [idx5 t]
  fin_cases a <;> simp

theorem placed6 (q : Fin 2048) : (win0_6.blk t).view.emb (ix2 0 q) = ix2 0 q := by
  funext a
  apply Fin.ext
  blk_simp [idx6 t]
  fin_cases a <;> simp

theorem first_or_not : t.val % 16 = 0 ∧ ¬ 1 ≤ t.val ∨ ¬ t.val % 16 = 0 ∧ 1 ≤ t.val := by
  have hN : t.val < 16 := lt_of_lt_of_eq t.isLt N_0
  omega

/-- Arrays of reals which the arguments are. -/
structure Holds (d h : Fin 4096 → Fin 2048 → ℝ) (g : Fin 2048 → ℝ) : Prop where
  d : xd m c = A2 .f32 d
  h : xhid m c = A2 .f32 h
  g : xg m c = A1 .f32 g

section
variable {m c} {d h : Fin 4096 → Fin 2048 → ℝ} {g : Fin 2048 → ℝ} (H : Holds m c d h g)
include H

theorem rows0 : B0 m c t = A2 .f32 fun p j => d (row t p) j := by
  funext i
  obtain ⟨p, q, rfl⟩ : ∃ (p : Fin 256) (q : Fin 2048), i = ix2 p q := ⟨i 0, i 1, ValueIdx.eq_ix2 i⟩
  rw [block0, H.d]
  rfl

theorem rows1 : B1 m c t = A2 .f32 fun p j => h (row t p) j := by
  funext i
  obtain ⟨p, q, rfl⟩ : ∃ (p : Fin 256) (q : Fin 2048), i = ix2 p q := ⟨i 0, i 1, ValueIdx.eq_ix2 i⟩
  rw [block1, H.h]
  rfl

theorem rows2 : B2 m c t = gv g := by
  funext i
  obtain ⟨q, rfl⟩ : ∃ q : Fin 2048, i = ix2 0 q :=
    ⟨i 1, (ValueIdx.eq_ix2 i).trans (congrArg (ix2 · _) (Subsingleton.elim (α := Fin 1) _ _))⟩
  rw [block2, H.g]
  rfl

theorem written : (outsAt0 m c t.val t.isLt).1 = A2 .f32 fun p j => dh (d (row t p)) (h (row t p)) g j := by
  rcases first_or_not t with e | e
  · rw [outsAt0_A m c t e.1 e.2 e.1 e.2]
    frame_out
    rw [show iblk m c 0 t = _ from rows0 t H, show iblk m c 1 t = _ from rows1 t H, show iblk m c 2 t = _ from rows2 t H,
      pay4, pay11, pay12, pay1]
  · rw [outsAt0_B m c t e.1 e.2 e.1 e.2]
    frame_out
    rw [show iblk m c 0 t = _ from rows0 t H, show iblk m c 1 t = _ from rows1 t H, show iblk m c 2 t = _ from rows2 t H,
      pay4, pay11, pay12, pay1]

/-- One row's term of the scale's gradient. -/
abbrev term (d h : Fin 4096 → Fin 2048 → ℝ) (q : Fin 2048) (k : Fin 4096) : EReal := ((xh (h k) q * d k q : ℝ) : EReal)

theorem first (h0 : t.val % 16 = 0) (q : Fin 2048) :
    (outsAt0 m c t.val t.isLt).2.1 (ix2 0 q) = ∑ p : Fin 256, term d h q (row t p)
    ∧ (outsAt0 m c t.val t.isLt).2.2 (ix2 0 q) = ∑ p : Fin 256, ((d (row t p) q : ℝ) : EReal) := by
  have hN : t.val < 16 := lt_of_lt_of_eq t.isLt N_0
  rw [outsAt0_A m c t h0 (by omega) h0 (by omega)]
  constructor <;> frame_out
  · rw [show iblk m c 0 t = _ from rows0 t H, show iblk m c 1 t = _ from rows1 t H, pay9, ← coe_sum]
    rfl
  · rw [show iblk m c 0 t = _ from rows0 t H, pay8, ← coe_sum]
    rfl

theorem next (h0 : ¬ t.val % 16 = 0) (q : Fin 2048) :
    (outsAt0 m c t.val t.isLt).2.1 (ix2 0 q) = (outsAt0 m c (t.val - 1) (lt_of_le_of_lt (Nat.sub_le _ _) t.isLt)).2.1 (ix2 0 q)
      + ∑ p : Fin 256, term d h q (row t p)
    ∧ (outsAt0 m c t.val t.isLt).2.2 (ix2 0 q)
      = (outsAt0 m c (t.val - 1) (lt_of_le_of_lt (Nat.sub_le _ _) t.isLt)).2.2 (ix2 0 q)
        + ∑ p : Fin 256, ((d (row t p) q : ℝ) : EReal) := by
  rw [outsAt0_B m c t h0 (by omega) h0 (by omega)]
  constructor <;> frame_out
  · rw [show iblk m c 0 t = _ from rows0 t H, show iblk m c 1 t = _ from rows1 t H, pay9]
    pointwise [k0_pay2, A2]
    rw [coe_sum]
  · rw [show iblk m c 0 t = _ from rows0 t H, pay8]
    pointwise [k0_pay3, A2]
    rw [coe_sum]

theorem result0 : (dats m 0 c).arrAt 4 cfg0.N = A2 .f32 fun i j => dh (d i) (h i) g j := by
  refine (dats m 0 c).arrAt_eq_of_covers 4 _ (by decide +kernel) fun t hf i => ?_
  obtain ⟨p, q, rfl⟩ : ∃ (p : Fin 256) (q : Fin 2048), i = ix2 p q := ⟨i 0, i 1, ValueIdx.eq_ix2 i⟩
  blk_simp
  rw [after0_4, written t H]
  exact congrArg (A2 .f32 fun i j => dh (d i) (h i) g j) (placed4 t p q).symm

theorem result1 : (dats m 0 c).arrAt 5 cfg0.N = A2 .f32 fun (_ : Fin 1) j => ∑ k, xh (h k) j * d k j := by
  refine (dats m 0 c).arrAt_eq_of_covers 5 _ (by decide +kernel) fun t hf i => ?_
  obtain ⟨q, rfl⟩ : ∃ q : Fin 2048, i = ix2 0 q :=
    ⟨i 1, (ValueIdx.eq_ix2 i).trans (congrArg (ix2 · _) (Subsingleton.elim (α := Fin 1) _ _))⟩
  blk_simp
  rw [after0_5]
  have ht := last5 t hf
  refine Eq.trans ?_ (congrArg (A2 .f32 fun (_ : Fin 1) j => ∑ k, xh (h k) j * d k j) (placed5 t q).symm)
  refine Eq.trans ?_ (coe_sum _ _).symm
  exact accumulated (n := 16) (l := 256) (by decide) rfl (fun t h => (outsAt0 m c t h).2.1 (ix2 0 q)) (term d h q) 0
    (fun t ht _ h0 => (first ⟨t, ht⟩ H h0 q).1) (fun t ht _ h0 => (next ⟨t, ht⟩ H h0 q).1) t.val t.isLt (by omega) (by omega)

theorem result2 : (dats m 0 c).arrAt 6 cfg0.N = A2 .f32 fun (_ : Fin 1) j => ∑ k, d k j := by
  refine (dats m 0 c).arrAt_eq_of_covers 6 _ (by decide +kernel) fun t hf i => ?_
  obtain ⟨q, rfl⟩ : ∃ q : Fin 2048, i = ix2 0 q :=
    ⟨i 1, (ValueIdx.eq_ix2 i).trans (congrArg (ix2 · _) (Subsingleton.elim (α := Fin 1) _ _))⟩
  blk_simp
  rw [after0_6]
  have ht := last6 t hf
  refine Eq.trans ?_ (congrArg (A2 .f32 fun (_ : Fin 1) j => ∑ k, d k j) (placed6 t q).symm)
  refine Eq.trans ?_ (coe_sum _ _).symm
  exact accumulated (n := 16) (l := 256) (by decide) rfl (fun t h => (outsAt0 m c t h).2.2 (ix2 0 q))
    (fun k => ((d k q : ℝ) : EReal)) 0 (fun t ht _ h0 => (first ⟨t, ht⟩ H h0 q).2) (fun t ht _ h0 => (next ⟨t, ht⟩ H h0 q).2)
    t.val t.isLt (by omega) (by omega)

end

/-! The precondition makes the arguments arrays of reals. -/

/-- The side conditions of the precondition's own operations. -/
theorem finiteFacts : Cert.Pre_ln_finite.Facts where
  bcast_S_S4096x2048 := by decide
  reducesTo_S4096x2048_S_d0_1 := by decide
  h_S_ := by decide
  bcast_S_S2048 := by decide
  reducesTo_S2048_S_d0 := by decide

attribute [local instance] Cert.LnBwdIdeal.Gen.facts Cert.LnBwdRefIdeal.Gen.facts finiteFacts

instance : Subsingleton Cert.Pre_ln_finite.S_.Idx := ⟨fun _ _ => funext fun k => k.elim0⟩

/-- The real parts of the arguments. -/
def rd (i : Fin 4096) (j : Fin 2048) : ℝ := (xd m c (ix2 i j)).toReal
def rh (i : Fin 4096) (j : Fin 2048) : ℝ := (xhid m c (ix2 i j)).toReal
def rg (j : Fin 2048) : ℝ := (xg m c (ix1 j)).toReal

theorem holds (h : Cert.Pre_LnBwdIdeal_ln_finite m) : Holds m c (rd m c) (rh m c) (rg m c) := by
  have e := congrFun (h c) (fun k => k.elim0)
  dsimp only [Cert.Pre_ln_finite.fn] at e
  obtain ⟨e, e2⟩ := IntOp.andi_eq_one.1 e
  obtain ⟨e0, e1⟩ := IntOp.andi_eq_one.1 e
  refine ⟨funext fun i => ?_, funext fun i => ?_, funext fun i => ?_⟩
  · exact (real_of_all _ _ _ _ _ _ e0 i).trans (congrArg (fun j => ((xd m c j).toReal : EReal)) (ValueIdx.eq_ix2 i))
  · exact (real_of_all _ _ _ _ _ _ e1 i).trans (congrArg (fun j => ((xhid m c j).toReal : EReal)) (ValueIdx.eq_ix2 i))
  · exact (real_of_all _ _ _ _ _ _ e2 i).trans (congrArg (fun j => ((xg m c j).toReal : EReal))
      (funext fun a => by fin_cases a; rfl))

theorem frame_ri : Cert.quiescent_LnBwdRefIdeal := fun m ρ _ =>
  (θ_run Cert.LnBwdRefIdeal.defs _ _).mono
    (fun r h => ⟨fun c => (h c).2.2.2, sem_eq_zero_of_no_sems (by decide) r.2⟩)
    (Cert.LnBwdRefIdeal.Value.run m ρ)

open Cert.LnBwdRefIdeal.Read

theorem value : Cert.algebraic_LnBwdIdeal_LnBwdRefIdeal_pre_ln_finite := by
  intro m ρ m' ρ' hp ha
  refine ⟨fun c => A2 .f32 fun i j => dh (rd m c i) (rh m c i) (rg m c) j,
    fun c => A2 .f32 fun (_ : Fin 1) j => ∑ k, xh (rh m c k) j * rd m c k j,
    fun c => A2 .f32 fun (_ : Fin 1) j => ∑ k, rd m c k j, ?_, ?_⟩
  · exact (θ_run Cert.LnBwdIdeal.defs _ _).mono (fun r h c => ⟨(h c).1.trans (result0 (holds m c hp)),
      (h c).2.1.trans (result1 (holds m c hp)), (h c).2.2.1.trans (result2 (holds m c hp)), (h c).2.2.2⟩)
      (Cert.LnBwdIdeal.Value.run_blocks m ρ)
  · refine (θ_run Cert.LnBwdRefIdeal.defs _ _).mono (fun r h c => ?_) (Cert.LnBwdRefIdeal.Value.run m' ρ')
    obtain ⟨a0, a1, a2, -⟩ := ha c
    have H := holds m c hp
    have a0 : m' (c.tc.loc Cert.LnBwdRefIdeal.main_arg0) = Ref.XD (rd m c) := a0.trans H.d
    have a1 : m' (c.tc.loc Cert.LnBwdRefIdeal.main_arg1) = Ref.XH (rh m c) := a1.trans H.h
    have a2 : m' (c.tc.loc Cert.LnBwdRefIdeal.main_arg2) = Ref.XG (rg m c) := a2.trans H.g
    refine ⟨(h c).1.trans ?_, (h c).2.1.trans ?_, (h c).2.2.1.trans ?_, (h c).2.2.2⟩
    · rw [val_main_v62_eq, a0, a1, a2]
      exact Ref.r_v62 _ _ _
    · exact (val_main_v63_eq _ _).trans ((congrArg₂ (val_main_v63 (F := Ideal)) a0 a1).trans (Ref.r_v63 _ _))
    · exact (val_main_v64_eq _).trans ((congrArg (val_main_v64 (F := Ideal)) a0).trans (Ref.r_v64 _))

end Cert.Norm.LnBwd
-- ==== Proof.Ssm.SsmSkipGeluBwd.lean ====
/- The gradients through the state-space layer's activation and skip connection: of the scan's result, of the layer's input by
   way of the skip, and of the skip's weight, summed over sixteen blocks of tokens. -/
module

public import proofs.«01_k».proof.Proof.Kit
public import proofs.«01_k».proof.Proof.Gen.SsmSkipGeluBwdIdeal.Value
public import proofs.«01_k».proof.Proof.Gen.SsmSkipGeluBwdRefIdeal.Read
public import proofs.«01_k».proof.Proof.Products.Blocked
public import proofs.«01_k».proof.Proof.Reals

@[expose] public section

set_option maxRecDepth 16384

noncomputable section

namespace Cert.Ssm.SsmSkipGeluBwd

open Idealize.ShloMosaic Idealize.ShloMosaic.TcCoe Idealize.SL.Sem Cert.SsmSkipGeluBwdIdeal Cert.SsmSkipGeluBwdIdeal.Gen Cert.Products Cert.Reals

variable (m : (ℓ : Loc nD τ sig) → Buf (Elt Ideal) ℓ) (c : Dev nD) (t : Fin cfg0.N)

/-- The blocks of point `t`. -/
abbrev B0 : FVec Ideal S256x768 .f32 := iblk m c 0 t
abbrev B1 : FVec Ideal S256x768 .f32 := iblk m c 1 t
abbrev B2 : FVec Ideal S256x768 .f32 := iblk m c 2 t
abbrev B3 : FVec Ideal S1x768 .f32 := iblk m c 3 t

/-- The arguments, at their places. -/
def dy : FVec Ideal S4096x768 .f32 := m ((c : Thread nD τ).loc main_arg0)
def y : FVec Ideal S4096x768 .f32 := m ((c : Thread nD τ).loc main_arg1)
def x : FVec Ideal S4096x8448 .f32 := m ((c : Thread nD τ).loc main_arg2)
def d : FVec Ideal S768 .f32 := m ((c : Thread nD τ).loc main_arg3)

/-- The tangent in the activation, and the gradient of its argument by way of the tangent. -/
def tangent (x : EReal) : EReal :=
  Ideal.tanh (Ideal.ofBits .f32 0x3F4C422A#32 * (x + Ideal.ofBits .f32 0x3D372713#32 * (x * x * x)))
def inner (g x : EReal) : EReal :=
  Ideal.ofBits .f32 0x3F4C422A#32 * (Ideal.ofBits .f32 0x3F000000#32 * (x * g)
    * ((Ideal.ofBits .f32 0x3F800000#32 + tangent x) * (Ideal.ofBits .f32 0x3F800000#32 - tangent x)))

/-- One entry's gradient of the activation's argument `x`, for the gradient `g` arriving. -/
def slope (g x : EReal) : EReal :=
  g * (Ideal.ofBits .f32 0x3F000000#32 * (Ideal.ofBits .f32 0x3F800000#32 + tangent x)) + inner g x
    + Ideal.ofBits .f32 0x3D372713#32 * inner g x * (Ideal.ofBits .f32 0x40400000#32 * (x * x))

/-- Three times a value is the value added thrice, also where it is not finite. -/
theorem thrice (e : EReal) : Ideal.ofBits .f32 0x40400000#32 * e = e + e + e := by
  rw [three_f32]
  induction e with
  | bot => rw [EReal.coe_mul_bot_of_pos (by norm_num)]; rfl
  | top => rw [EReal.coe_mul_top_of_pos (by norm_num)]; rfl
  | coe x => norm_cast; ring

/-- The kernel takes the derivative of the cube apart into its three factors' shares. -/
theorem shares (h a g x i : EReal) (T : EReal) :
    i + x * x * (a * i) + x * (a * i * x) + a * i * x * x + h * (g * T)
      = g * (h * T) + i + a * i * (Ideal.ofBits .f32 0x40400000#32 * (x * x)) := by
  have e : a * i * (Ideal.ofBits .f32 0x40400000#32 * (x * x)) = Ideal.ofBits .f32 0x40400000#32 * (x * x * (a * i)) := by
    ac_rfl
  rw [e, thrice, show x * (a * i * x) = x * x * (a * i) by ac_rfl, show a * i * x * x = x * x * (a * i) by ac_rfl,
    show h * (g * T) = g * (h * T) by ac_rfl]
  ac_rfl

/-- What the kernel computes of an entry. -/
def taken (g x : EReal) : EReal :=
  (let i := Ideal.ofBits .f32 0x3F4C422A#32 * (Ideal.ofBits .f32 0x3F000000#32 * x * g
    * ((Ideal.ofBits .f32 0x3F800000#32 + tangent x) * (Ideal.ofBits .f32 0x3F800000#32 - tangent x)))
  i + x * x * (Ideal.ofBits .f32 0x3D372713#32 * i) + x * (Ideal.ofBits .f32 0x3D372713#32 * i * x)
    + Ideal.ofBits .f32 0x3D372713#32 * i * x * x)
  + Ideal.ofBits .f32 0x3F000000#32 * (g * (Ideal.ofBits .f32 0x3F800000#32 + tangent x))

theorem taken_eq (g x : EReal) : taken g x = slope g x := by
  unfold taken slope inner
  rw [mul_assoc (Ideal.ofBits .f32 0x3F000000#32) x g]
  exact shares _ _ _ _ _ _

/-- The activation's argument, at a place of the blocks. -/
abbrev arg (p : Fin 256) (q : Fin 768) : EReal := B1 m c t (ix2 p q) + B3 m c t (ix2 0 q) * B2 m c t (ix2 p q)

theorem first_or_not : t.val % 16 = 0 ∧ ¬ 1 ≤ t.val ∨ ¬ t.val % 16 = 0 ∧ 1 ≤ t.val := by
  have hN : t.val < 16 := lt_of_lt_of_eq t.isLt N_0
  omega

theorem written0 (p : Fin 256) (q : Fin 768) : (outsAt0 m c t.val t.isLt).1 (ix2 p q)
    = slope (B0 m c t (ix2 p q)) (arg m c t p q) := by
  rw [← taken_eq]
  rcases first_or_not t with h | h
  · rw [outsAt0_A m c t h.1 h.2]
    frame_out
    pointwise [k0_pay1, k0_pay5, k0_pay6, k0_pay7, k0_pay8, k0_pay9, k0_pay10, taken, tangent, arg]
  · rw [outsAt0_B m c t h.1 h.2]
    frame_out
    pointwise [k0_pay1, k0_pay5, k0_pay6, k0_pay7, k0_pay8, k0_pay9, k0_pay10, taken, tangent, arg]

theorem written1 (p : Fin 256) (q : Fin 768) : (outsAt0 m c t.val t.isLt).2.1 (ix2 p q)
    = B3 m c t (ix2 0 q) * slope (B0 m c t (ix2 p q)) (arg m c t p q) := by
  rw [← taken_eq]
  rcases first_or_not t with h | h
  · rw [outsAt0_A m c t h.1 h.2]
    frame_out
    pointwise [k0_pay2, k0_pay1, k0_pay5, k0_pay6, k0_pay7, k0_pay8, k0_pay9, k0_pay10, taken, tangent, arg]
  · rw [outsAt0_B m c t h.1 h.2]
    frame_out
    pointwise [k0_pay2, k0_pay1, k0_pay5, k0_pay6, k0_pay7, k0_pay8, k0_pay9, k0_pay10, taken, tangent, arg]

theorem first (h : t.val % 16 = 0) (q : Fin 768) : (outsAt0 m c t.val t.isLt).2.2 (ix2 0 q)
    = ∑ p : Fin 256, slope (B0 m c t (ix2 p q)) (arg m c t p q) * B2 m c t (ix2 p q) := by
  have hN : t.val < 16 := lt_of_lt_of_eq t.isLt N_0
  simp only [← taken_eq]
  rw [outsAt0_A m c t h (by omega)]
  frame_out
  pointwise [k0_pay3, k0_pay1, k0_pay5, k0_pay6, k0_pay7, k0_pay8, k0_pay9, k0_pay10, taken, tangent, arg]

theorem next (h : ¬ t.val % 16 = 0) (q : Fin 768) : (outsAt0 m c t.val t.isLt).2.2 (ix2 0 q)
    = (outsAt0 m c (t.val - 1) (lt_of_le_of_lt (Nat.sub_le _ _) t.isLt)).2.2 (ix2 0 q)
      + ∑ p : Fin 256, slope (B0 m c t (ix2 p q)) (arg m c t p q) * B2 m c t (ix2 p q) := by
  simp only [← taken_eq]
  rw [outsAt0_B m c t h (by omega)]
  frame_out
  pointwise [k0_pay4, k0_pay3, k0_pay1, k0_pay5, k0_pay6, k0_pay7, k0_pay8, k0_pay9, k0_pay10, taken, tangent, arg]

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 2] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem last6 : ∀ t : Fin grid0.N, (cfg0.win 6).flush t = true → t.val = 15 := by decide +kernel

/-- The token which row `p` of point `t`'s blocks is of. -/
def row (p : Fin 256) : Fin 4096 := place (n := 16) (l := 256) rfl (turn (by decide) t) p

theorem row_val (p : Fin 256) : (row t p).val = t.val * 256 + p.val := by
  have hN : t.val < 16 := lt_of_lt_of_eq t.isLt N_0
  simp [row, place, turn]
  omega

theorem block0 (p : Fin 256) (q : Fin 768) : B0 m c t (ix2 p q) = dy m c (ix2 (row t p) q) := by
  unfold B0 iblk
  rw [show V m c (Pipeline.arrRef spec0 0) = dy m c from V_main_arg0 m c]
  refine congrArg (dy m c) (funext fun a => Fin.ext ?_)
  blk_simp [idx0 t]
  fin_cases a <;> simp [row_val]

theorem block1 (p : Fin 256) (q : Fin 768) : B1 m c t (ix2 p q) = y m c (ix2 (row t p) q) := by
  unfold B1 iblk
  rw [show V m c (Pipeline.arrRef spec0 1) = y m c from V_main_arg1 m c]
  refine congrArg (y m c) (funext fun a => Fin.ext ?_)
  blk_simp [idx1 t]
  fin_cases a <;> simp [row_val]

theorem block2 (p : Fin 256) (q : Fin 768) : B2 m c t (ix2 p q) = x m c (ix2 (row t p) (⟨q.val + 1536, by omega⟩ : Fin 8448)) := by
  unfold B2 iblk
  rw [show V m c (Pipeline.arrRef spec0 2) = x m c from V_main_arg2 m c]
  refine congrArg (x m c) (funext fun a => Fin.ext ?_)
  blk_simp [idx2 t]
  fin_cases a <;> simp [row_val] <;> omega

theorem spread3 : V m c main_v0 = fun i : S1x768.Idx => d m c (ix1 (i 1)) := by
  have e : V m c main_v0 = broadcastInDim S1x768 ![1] bcast_S768_S1x768_1 (d m c) := by
    unfold V
    simp only [hostOps0, List.flatten_cons, List.flatten_nil, List.append_nil, List.cons_append, List.nil_append]
    after_results
    rfl
  refine e.trans (funext fun i => ?_)
  idx_vars i
  pointwise []

theorem block3 (q : Fin 768) : B3 m c t (ix2 0 q) = d m c (ix1 q) := by
  unfold B3 iblk
  rw [show V m c (Pipeline.arrRef spec0 3) = fun i : S1x768.Idx => d m c (ix1 (i 1)) from spread3 m c]
  refine congrArg (d m c) (congrArg ix1 (Fin.ext ?_))
  blk_simp [idx3 t]
  try simp

theorem placed4 (p : Fin 256) (q : Fin 768) : (win0_4.blk t).view.emb (ix2 p q) = ix2 (row t p) q := by
  funext a
  apply Fin.ext
  blk_simp [idx4 t]
  fin_cases a <;> simp [row_val]

theorem placed5 (p : Fin 256) (q : Fin 768) : (win0_5.blk t).view.emb (ix2 p q) = ix2 (row t p) q := by
  funext a
  apply Fin.ext
  blk_simp [idx5 t]
  fin_cases a <;> simp [row_val]

theorem placed6 (q : Fin 768) : (win0_6.blk t).view.emb (ix2 0 q) = ix2 0 q := by
  funext a
  apply Fin.ext
  blk_simp [idx6 t]
  fin_cases a <;> simp

/-! The reference, at a place. -/

open Cert.SsmSkipGeluBwdRefIdeal.Read

section
variable (dy y : FVec Ideal S4096x768 .f32) (x : FVec Ideal S4096x8448 .f32) (d : FVec Ideal S768 .f32) (i : Fin 4096) (j : Fin 768)

/-- The column of the projection's result which channel `j` of the layer's input stands in. -/
abbrev col (j : Fin 768) : Fin 8448 := ⟨j.val + 1536, by omega⟩

theorem reference_input : val_main_v0 (F := Ideal) x (ix2 i j) = x (ix2 i (col j)) := by
  rw [val_main_v0_apply]
  refine congrArg x (funext fun a => Fin.ext ?_)
  fin_cases a <;> first | rfl | exact Nat.add_comm _ _

theorem reference_arg : val_main_v4 (F := Ideal) y x d (ix2 i j) = y (ix2 i j) + d (ix1 j) * x (ix2 i (col j)) := by
  rw [val_main_v4_apply, val_main_v3_apply, reference_input, val_main_v2_apply, val_main_v1_apply]
  refine congrArg (y (ix2 i j) + ·) (congrArg (· * x (ix2 i (col j))) (congrArg d (funext fun a => Fin.ext ?_)))
  fin_cases a
  rfl

theorem reference_slope : val_main_v37 (F := Ideal) dy y x d (ix2 i j)
    = slope (dy (ix2 i j)) (y (ix2 i j) + d (ix1 j) * x (ix2 i (col j))) := by
  rw [val_main_v37_apply, val_main_v36_apply, val_main_v35_apply, val_main_v34_apply, val_main_v33_apply, val_main_v32_apply,
    val_main_v31_apply, val_main_v30_apply, val_main_v29_apply, val_main_v28_apply, val_main_v27_apply, val_main_v26_apply,
    val_main_v24_apply, val_main_v23_apply, val_main_v22_apply, val_main_v21_apply,
    val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, reference_arg]
  rfl

theorem reference_skip : val_main_v39 (F := Ideal) dy y x d (ix2 i j)
    = d (ix1 j) * slope (dy (ix2 i j)) (y (ix2 i j) + d (ix1 j) * x (ix2 i (col j))) := by
  rw [val_main_v39_apply, reference_slope, val_main_v38_apply, val_main_v1_apply]
  refine congrArg (· * _) (congrArg d (funext fun a => Fin.ext ?_))
  fin_cases a
  rfl

theorem reference_weight : val_main_v44 (F := Ideal) dy y x d (ix2 0 j)
    = ∑ k : Fin 4096, slope (dy (ix2 k j)) (y (ix2 k j) + d (ix1 j) * x (ix2 k (col j))) * x (ix2 k (col j)) := by
  rw [val_main_v44_apply, val_main_v43_apply, Fin.sum_univ_one, val_main_v42_apply, val_main_v41_apply]
  have e9 : val_main_cst_9 (F := Ideal) (Shape.Idx.first Cert.SsmSkipGeluBwdRefIdeal.Gen.h_S_) = 0 := Ideal.ofBits_zero_f32
  have e10 : val_main_cst_10 (F := Ideal) (Shape.Idx.first Cert.SsmSkipGeluBwdRefIdeal.Gen.h_S_) = 0 := Ideal.ofBits_zero_f32
  rw [e9, e10, zero_add, zero_add]
  refine Finset.sum_congr rfl fun k _ => ?_
  have e : val_main_v40 (F := Ideal) dy y x d (ix2 k j)
      = slope (dy (ix2 k j)) (y (ix2 k j) + d (ix1 j) * x (ix2 k (col j))) * x (ix2 k (col j)) := by
    rw [val_main_v40_apply, reference_slope, reference_input]
    rfl
  refine (congrArg (val_main_v40 (F := Ideal) dy y x d) (funext fun a => Fin.ext ?_)).trans e
  fin_cases a
  · rfl
  · show 0 * 768 + j.val = j.val
    omega

end

/-! The kernel's results are the reference's. -/

theorem result0 : (dats m 0 c).arrAt 4 cfg0.N = val_main_v37 (F := Ideal) (dy m c) (y m c) (x m c) (d m c) := by
  refine (dats m 0 c).arrAt_eq_of_covers 4 _ (by decide +kernel) fun t hf i => ?_
  obtain ⟨p, q, rfl⟩ : ∃ (p : Fin 256) (q : Fin 768), i = ix2 p q := ⟨i 0, i 1, ValueIdx.eq_ix2 i⟩
  blk_simp
  rw [after0_4]
  refine (written0 m c t p q).trans ?_
  rw [arg, block0, block1, block2, block3, ← reference_slope]
  exact congrArg (val_main_v37 (F := Ideal) (dy m c) (y m c) (x m c) (d m c)) (placed4 t p q).symm

theorem result1 : (dats m 0 c).arrAt 5 cfg0.N = val_main_v39 (F := Ideal) (dy m c) (y m c) (x m c) (d m c) := by
  refine (dats m 0 c).arrAt_eq_of_covers 5 _ (by decide +kernel) fun t hf i => ?_
  obtain ⟨p, q, rfl⟩ : ∃ (p : Fin 256) (q : Fin 768), i = ix2 p q := ⟨i 0, i 1, ValueIdx.eq_ix2 i⟩
  blk_simp
  rw [after0_5]
  refine (written1 m c t p q).trans ?_
  rw [arg, block0, block1, block2, block3, ← reference_skip]
  exact congrArg (val_main_v39 (F := Ideal) (dy m c) (y m c) (x m c) (d m c)) (placed5 t p q).symm

theorem result2 : (dats m 0 c).arrAt 6 cfg0.N = val_main_v44 (F := Ideal) (dy m c) (y m c) (x m c) (d m c) := by
  refine (dats m 0 c).arrAt_eq_of_covers 6 _ (by decide +kernel) fun t hf i => ?_
  obtain ⟨q, rfl⟩ : ∃ q : Fin 768, i = ix2 0 q :=
    ⟨i 1, (ValueIdx.eq_ix2 i).trans (congrArg (ix2 · _) (Subsingleton.elim (α := Fin 1) _ _))⟩
  blk_simp
  rw [after0_6]
  have ht := last6 t hf
  refine Eq.trans ?_ (congrArg (val_main_v44 (F := Ideal) (dy m c) (y m c) (x m c) (d m c)) (placed6 t q).symm)
  rw [reference_weight]
  refine accumulated (n := 16) (l := 256) (by decide) rfl (fun t h => (outsAt0 m c t h).2.2 (ix2 0 q))
    (fun k => slope (dy m c (ix2 k q)) (y m c (ix2 k q) + d m c (ix1 q) * x m c (ix2 k (col q))) * x m c (ix2 k (col q))) 0
    (fun t h _ h0 => ?_) (fun t h _ h0 => ?_) t.val t.isLt (by omega) (by omega)
  · exact (first m c ⟨t, h⟩ h0 q).trans (Finset.sum_congr rfl fun p _ => by rw [arg, block0, block1, block2, block3]; rfl)
  · exact (next m c ⟨t, h⟩ h0 q).trans
      (congrArg _ (Finset.sum_congr rfl fun p _ => by rw [arg, block0, block1, block2, block3]; rfl))

attribute [local instance] Cert.SsmSkipGeluBwdIdeal.Gen.facts Cert.SsmSkipGeluBwdRefIdeal.Gen.facts

theorem frame_ri : Cert.quiescent_SsmSkipGeluBwdRefIdeal := fun m ρ _ =>
  (θ_run Cert.SsmSkipGeluBwdRefIdeal.defs _ _).mono
    (fun r h => ⟨fun c => (h c).2.2.2, sem_eq_zero_of_no_sems (by decide) r.2⟩)
    (Cert.SsmSkipGeluBwdRefIdeal.Value.run m ρ)

theorem value : Cert.algebraic_SsmSkipGeluBwdIdeal_SsmSkipGeluBwdRefIdeal := by
  intro m ρ m' ρ' _ ha
  refine ⟨fun c => val_main_v37 (F := Ideal) (dy m c) (y m c) (x m c) (d m c), fun c => val_main_v39 (F := Ideal) (dy m c) (y m c) (x m c) (d m c), fun c => val_main_v44 (F := Ideal) (dy m c) (y m c) (x m c) (d m c), ?_, ?_⟩
  · exact (θ_run Cert.SsmSkipGeluBwdIdeal.defs _ _).mono (fun r h c => ⟨(h c).1.trans (result0 m c), (h c).2.1.trans (result1 m c), (h c).2.2.1.trans (result2 m c), (h c).2.2.2⟩)
      (Cert.SsmSkipGeluBwdIdeal.Value.run_blocks m ρ)
  · refine (θ_run Cert.SsmSkipGeluBwdRefIdeal.defs _ _).mono (fun r h c => ?_) (Cert.SsmSkipGeluBwdRefIdeal.Value.run m' ρ')
    obtain ⟨a0, a1, a2, a3⟩ := ha c
    refine ⟨(h c).1.trans ?_, (h c).2.1.trans ?_, (h c).2.2.1.trans ?_, (h c).2.2.2⟩
    · rw [val_main_v37_eq, a0, a1, a2, a3]
      rfl
    · rw [val_main_v39_eq, a0, a1, a2, a3]
      rfl
    · rw [val_main_v44_eq, a0, a1, a2, a3]
      rfl

end Cert.Ssm.SsmSkipGeluBwd
-- ==== Proof.Ssm.Tiles.lean ====
/- The state-space layer's channels and states, cut into the six tiles that the kernel's products work on. -/
module

public import proofs.«01_k».proof.Proof.Products.Blocked

@[expose] public section

namespace Cert.Ssm

open Idealize.ShloMosaic Idealize.ShloMosaic.ValueIdx

/-- Channel `h` of tile `t`. -/
def channel (t : Fin 6) (h : Fin 128) : Fin 768 := ⟨128 * t + h, by omega⟩

/-- State `p` of tile `t`. -/
def state (t : Fin 6) (p : Fin 512) : Fin 3072 := ⟨512 * t + p, by omega⟩

/-- Channel `h` of tile `t` among the columns of the combined projection, where the layer's input begins at column 1536. -/
def column (t : Fin 6) (h : Fin 128) : Fin 8448 := ⟨1536 + (128 * t + h), by omega⟩

/-- Every channel is one of a tile. -/
theorem channel_of (j : Fin 768) : ∃ t h, channel t h = j :=
  ⟨⟨j.val / 128, by omega⟩, ⟨j.val % 128, by omega⟩, Fin.ext (Nat.div_add_mod _ _)⟩

/-- Every state is one of a tile. -/
theorem state_of (j : Fin 3072) : ∃ t p, state t p = j :=
  ⟨⟨j.val / 512, by omega⟩, ⟨j.val % 512, by omega⟩, Fin.ext (Nat.div_add_mod _ _)⟩

/-- Two arrays of four axes with the same entries are equal. -/
theorem ext4 {a b c d : ℕ} {α : Type*} {f g : (⟨4, ![a, b, c, d]⟩ : Shape).Idx → α}
    (h : ∀ i j k l, f (ix4 i j k l) = g (ix4 i j k l)) : f = g :=
  funext fun y => by rw [eq_ix4 y]; exact h _ _ _ _

end Cert.Ssm
-- ==== Proof.Ssm.BlockDiag.lean ====
/- The block-diagonal matrices that the state-space layer's products take: a tile's eight groups of sixteen channels each meet
   their own sixty-four states, and no others. -/
module

public import proofs.«01_k».proof.Proof.Ssm.Tiles
public import Idealize.ShloMosaic.Lib.Pipeline.ValueKit

@[expose] public section

set_option maxRecDepth 16384

noncomputable section

namespace Cert.Ssm

open Idealize.ShloMosaic Cert.Products

/-- The matrix of every group, one below another. -/
abbrev Tall : Shape := ⟨2, ![768, 64]⟩
abbrev Split : Shape := ⟨4, ![6, 8, 16, 64]⟩
abbrev Split1 : Shape := ⟨5, ![6, 8, 16, 1, 64]⟩
abbrev Grid5 : Shape := ⟨5, ![6, 8, 16, 8, 64]⟩
abbrev Square : Shape := ⟨2, ![8, 8]⟩
abbrev Square1 : Shape := ⟨5, ![1, 8, 1, 8, 1]⟩
abbrev Diag : Shape := ⟨3, ![6, 128, 512]⟩
abbrev Unit0 : Shape := ⟨0, ![]⟩

/-- One where the two groups are the same, nought elsewhere. -/
def one (a b : ℕ) : EReal := if a = b then 1 else 0

/-- The entry of the block-diagonal matrices in tile `t`, channel `h` and state `p`. -/
def entry (w : FVec Ideal Tall .f32) (t : Fin 6) (h : Fin 128) (p : Fin 512) : EReal :=
  w (ix2 (channel t h) (⟨p.val % 64, Nat.mod_lt _ (by decide)⟩ : Fin 64)) * one (h.val / 16) (p.val / 64)

/-- The comparison of two counters as a float. -/
theorem same_apply (h0 : Unit0.BroadcastsInDim Square (![] : Fin 0 → Fin Square.rank)) (a b : Fin 8) :
    (uitofp .f32 (cmpi .eq (addi (iotaInDim Square 32 0) (broadcastInDim Square ![] h0 (constantI Unit0 32 0#32)))
      (iotaInDim Square 32 1)) : FVec Ideal Square .f32) (ix2 a b) = one a.val b.val := by
  have key : ∀ a b : Fin 8, IntOp.cmpi .eq (IntOp.addi (BitVec.ofNat 32 a.val) 0#32) (BitVec.ofNat 32 b.val)
      = if a.val = b.val then 1#1 else 0#1 := by decide
  refine (congrArg (FloatOps.uitofp (F := Ideal) .f32) (key a b)).trans ?_
  unfold one
  split_ifs <;> simp [FloatOps.uitofp]

theorem bcastSplit : Split.BroadcastsInDim Split1 (![0, 1, 2, 4] : Fin 4 → Fin Split1.rank) := by decide
theorem bcastSplit1 : Split1.BroadcastsInDim Grid5 (![0, 1, 2, 3, 4] : Fin 5 → Fin Grid5.rank) := by decide
theorem bcastUnit : Unit0.BroadcastsInDim Square (![] : Fin 0 → Fin Square.rank) := by decide
theorem bcastSquare : Square.BroadcastsInDim Square1 (![1, 3] : Fin 2 → Fin Square1.rank) := by decide
theorem bcastSquare1 : Square1.BroadcastsInDim Grid5 (![0, 1, 2, 3, 4] : Fin 5 → Fin Grid5.rank) := by decide
theorem castTall : Tall.ShapeCasts Split := by decide
theorem castGrid : Grid5.ShapeCasts Diag := by decide

/-- The block-diagonal matrices, as the host builds them. -/
def diag (w : FVec Ideal Tall .f32) : FVec Ideal Diag .f32 :=
  shapeCast Diag (mulf
    (broadcastInDim Grid5 ![0, 1, 2, 3, 4] bcastSplit1 (broadcastInDim Split1 ![0, 1, 2, 4] bcastSplit (shapeCast Split w castTall)))
    (broadcastInDim Grid5 ![0, 1, 2, 3, 4] bcastSquare1 (broadcastInDim Square1 ![1, 3] bcastSquare
      (uitofp .f32 (cmpi .eq (addi (iotaInDim Square 32 0) (broadcastInDim Square ![] bcastUnit (constantI Unit0 32 0#32)))
        (iotaInDim Square 32 1)) : FVec Ideal Square .f32)))) castGrid

theorem diag_apply (w : FVec Ideal Tall .f32) (t : Fin 6) (h : Fin 128) (p : Fin 512) :
    diag w (ix3 t h p) = entry w t h p := by
  have ht := t.2
  have hh := h.2
  have hp := p.2
  let a : Fin 8 := ⟨h.val / 16, by omega⟩
  let b : Fin 16 := ⟨h.val % 16, by omega⟩
  let e : Fin 8 := ⟨p.val / 64, by omega⟩
  let f : Fin 64 := ⟨p.val % 64, by omega⟩
  unfold diag
  rw [shapeCast_apply _ castGrid _ (ix5 t a b e f) (by
    rw [Shape.rowMajor_val_five, Shape.rowMajor_val_three]
    show ((((t.val * 8 + h.val / 16) * 16 + h.val % 16) * 8 + p.val / 64) * 64 + p.val % 64) = (t.val * 128 + h.val) * 512 + p.val
    omega)]
  refine congrArg₂ (· * ·) ?_ ?_
  · rw [broadcastInDim_apply _ bcastSplit1 _ _ (ix5 t a b 0 f) (fun x => by fin_cases x <;> rfl),
      broadcastInDim_apply _ bcastSplit _ _ (ix4 t a b f) (fun x => by fin_cases x <;> rfl),
      shapeCast_apply _ castTall _ (ix2 (channel t h) f) (by
        rw [Shape.rowMajor_val_two, Shape.rowMajor_val_four]
        show (128 * t.val + h.val) * 64 + p.val % 64 = ((t.val * 8 + h.val / 16) * 16 + h.val % 16) * 64 + p.val % 64
        omega)]
  · rw [broadcastInDim_apply _ bcastSquare1 _ _ (ix5 0 a 0 e 0) (fun x => by fin_cases x <;> rfl),
      broadcastInDim_apply _ bcastSquare _ _ (ix2 a e) (fun x => by fin_cases x <;> rfl)]
    exact same_apply bcastUnit a e

/-- The first or the second of two. -/
def pick {α : Type*} (r : Fin 2) (a b : α) : α := if r.val = 0 then a else b

/-- Two arrays laid one after the other along a new first axis. -/
theorem stack_apply {A B C : ℕ}
    (hb : (⟨3, ![A, B, C]⟩ : Shape).BroadcastsInDim ⟨4, ![1, A, B, C]⟩ (![1, 2, 3] : Fin 3 → Fin 4))
    (hc : Shape.Concatenates [⟨4, ![1, A, B, C]⟩, ⟨4, ![1, A, B, C]⟩] ⟨4, ![2, A, B, C]⟩ 0)
    (x y : (⟨3, ![A, B, C]⟩ : Shape).Idx → EReal) (r : Fin 2) (i : Fin A) (j : Fin B) (k : Fin C) :
    concatenate (⟨4, ![2, A, B, C]⟩ : Shape) 0
      [⟨⟨4, ![1, A, B, C]⟩, broadcastInDim ⟨4, ![1, A, B, C]⟩ ![1, 2, 3] hb x⟩,
        ⟨⟨4, ![1, A, B, C]⟩, broadcastInDim ⟨4, ![1, A, B, C]⟩ ![1, 2, 3] hb y⟩] hc (ix4 r i j k)
      = pick r x y (ix3 i j k) := by
  have one : ∀ z : (⟨3, ![A, B, C]⟩ : Shape).Idx → EReal,
      broadcastInDim (⟨4, ![1, A, B, C]⟩ : Shape) ![1, 2, 3] hb z (ix4 0 i j k) = z (ix3 i j k) := fun z =>
    broadcastInDim_apply _ hb z _ (ix3 i j k) fun a => by
      have hi := i.2
      have hj := j.2
      have hk := k.2
      fin_cases a
      · show i.val = if A = 1 then 0 else i.val
        split_ifs <;> omega
      · show j.val = if B = 1 then 0 else j.val
        split_ifs <;> omega
      · show k.val = if C = 1 then 0 else k.val
        split_ifs <;> omega
  fin_cases r
  · exact (concatenate_pair_apply_left 0 _ _ hc _ rfl (ix4 0 i j k) fun a => by fin_cases a <;> rfl).trans (one x)
  · refine (concatenate_pair_apply_right 0 _ _ hc _ rfl rfl (ix4 0 i j k) (fun a ha => ?_) rfl).trans (one y)
    fin_cases a
    · exact absurd rfl ha
    all_goals rfl

theorem bcastDiag : Diag.BroadcastsInDim ⟨4, ![1, 6, 128, 512]⟩ (![1, 2, 3] : Fin 3 → Fin 4) := by decide
theorem joins : Shape.Concatenates [⟨4, ![1, 6, 128, 512]⟩, ⟨4, ![1, 6, 128, 512]⟩] ⟨4, ![2, 6, 128, 512]⟩ 0 := by decide

/-- The block-diagonal matrices of two arguments, one after the other. -/
def both (x y : FVec Ideal Tall .f32) : FVec Ideal ⟨4, ![2, 6, 128, 512]⟩ .f32 :=
  concatenate (⟨4, ![2, 6, 128, 512]⟩ : Shape) 0
    [⟨⟨4, ![1, 6, 128, 512]⟩, broadcastInDim ⟨4, ![1, 6, 128, 512]⟩ ![1, 2, 3] bcastDiag (diag x)⟩,
      ⟨⟨4, ![1, 6, 128, 512]⟩, broadcastInDim ⟨4, ![1, 6, 128, 512]⟩ ![1, 2, 3] bcastDiag (diag y)⟩] joins

theorem both_apply (x y : FVec Ideal Tall .f32) (r : Fin 2) (t : Fin 6) (h : Fin 128) (p : Fin 512) :
    both x y (ix4 r t h p) = entry (pick r x y) t h p := by
  refine (stack_apply bcastDiag joins (diag x) (diag y) r t h p).trans ?_
  unfold pick
  split_ifs <;> exact diag_apply _ _ _ _

/-- A channel's group: its number among all and its place there. -/
def member (g : Fin 48) (h : Fin 16) : Fin 768 := ⟨16 * g.val + h.val, by omega⟩

/-- A sum over a tile's channels against one column of the block-diagonal matrices only sees the column's own group. -/
theorem sum_channels (w : FVec Ideal Tall .f32) (f : Fin 768 → EReal) (t : Fin 6) (p : Fin 512) :
    ∑ h : Fin 128, f (channel t h) * entry w t h p
      = ∑ h : Fin 16, f (member ⟨8 * t.val + p.val / 64, by omega⟩ h)
        * w (ix2 (member ⟨8 * t.val + p.val / 64, by omega⟩ h) (⟨p.val % 64, Nat.mod_lt _ (by decide)⟩ : Fin 64)) := by
  have hp := p.2
  rw [← sum_place (n := 8) (l := 16) rfl fun h => f (channel t h) * entry w t h p,
    Finset.sum_eq_single (⟨p.val / 64, by omega⟩ : Fin 8)]
  · refine Finset.sum_congr rfl fun h _ => ?_
    have hh := h.2
    have e : channel t (place (n := 8) (K := 128) rfl ⟨p.val / 64, by omega⟩ h) = member ⟨8 * t.val + p.val / 64, by omega⟩ h :=
      Fin.ext (by show 128 * t.val + (16 * (p.val / 64) + h.val) = 16 * (8 * t.val + p.val / 64) + h.val; omega)
    have o : one ((place (n := 8) (K := 128) rfl ⟨p.val / 64, by omega⟩ h).val / 16) (p.val / 64) = 1 :=
      if_pos (by show (16 * (p.val / 64) + h.val) / 16 = p.val / 64; omega)
    rw [entry, o, mul_one, e]
  · intro s _ hs
    refine Finset.sum_eq_zero fun h _ => ?_
    have hh := h.2
    have o : one ((place (n := 8) (K := 128) rfl s h).val / 16) (p.val / 64) = 0 :=
      if_neg (by
        intro e
        have e' : (16 * s.val + h.val) / 16 = p.val / 64 := e
        exact hs (Fin.ext (by show s.val = p.val / 64; omega)))
    rw [entry, o, mul_zero, mul_zero]
  · exact fun h => absurd (Finset.mem_univ _) h

/-- State `p` of group `g` among all. -/
def own (g : Fin 48) (p : Fin 64) : Fin 3072 := ⟨64 * g.val + p.val, by omega⟩

/-- A sum over a tile's states against one row only sees the row's own group. -/
theorem sum_states (w : FVec Ideal Tall .f32) (f : Fin 3072 → EReal) (t : Fin 6) (h : Fin 128) :
    ∑ p : Fin 512, f (state t p) * entry w t h p
      = ∑ p : Fin 64, f (own ⟨8 * t.val + h.val / 16, by omega⟩ p) * w (ix2 (channel t h) p) := by
  have hh := h.2
  rw [← sum_place (n := 8) (l := 64) rfl fun p => f (state t p) * entry w t h p,
    Finset.sum_eq_single (⟨h.val / 16, by omega⟩ : Fin 8)]
  · refine Finset.sum_congr rfl fun p _ => ?_
    have hp := p.2
    have e : state t (place (n := 8) (K := 512) rfl ⟨h.val / 16, by omega⟩ p) = own ⟨8 * t.val + h.val / 16, by omega⟩ p :=
      Fin.ext (by show 512 * t.val + (64 * (h.val / 16) + p.val) = 64 * (8 * t.val + h.val / 16) + p.val; omega)
    have o : one (h.val / 16) ((place (n := 8) (K := 512) rfl ⟨h.val / 16, by omega⟩ p).val / 64) = 1 :=
      if_pos (by show h.val / 16 = (64 * (h.val / 16) + p.val) / 64; omega)
    have q : (⟨(place (n := 8) (K := 512) rfl ⟨h.val / 16, by omega⟩ p).val % 64, Nat.mod_lt _ (by decide)⟩ : Fin 64) = p :=
      Fin.ext (by show (64 * (h.val / 16) + p.val) % 64 = p.val; omega)
    rw [entry, o, mul_one, e, q]
  · intro s _ hs
    refine Finset.sum_eq_zero fun p _ => ?_
    have hp := p.2
    have o : one (h.val / 16) ((place (n := 8) (K := 512) rfl s p).val / 64) = 0 :=
      if_neg (by
        intro e
        have e' : h.val / 16 = (64 * s.val + p.val) / 64 := e
        exact hs (Fin.ext (by show s.val = h.val / 16; omega)))
    rw [entry, o, mul_zero, mul_zero]
  · exact fun h => absurd (Finset.mem_univ _) h

end Cert.Ssm
-- ==== Proof.Ssm.SsmOutDgrad.lean ====
/- The gradient of the state-space layer's states: the kernel's product with block-diagonal matrices is the reference's product
   group by group. -/
module

public import proofs.«01_k».proof.Proof.Kit
public import proofs.«01_k».proof.Proof.Gen.SsmOutDgradIdeal.Value
public import proofs.«01_k».proof.Proof.Gen.SsmOutDgradRefIdeal.Read
public import proofs.«01_k».proof.Proof.Ssm.BlockDiag

@[expose] public section

set_option maxRecDepth 16384

noncomputable section

namespace Cert.Ssm.SsmOutDgrad

open Idealize.ShloMosaic Idealize.ShloMosaic.TcCoe Idealize.SL.Sem Cert.SsmOutDgradIdeal Cert.SsmOutDgradIdeal.Gen Cert.Products

variable (m : (ℓ : Loc nD τ sig) → Buf (Elt Ideal) ℓ) (c : Dev nD) (t : Fin cfg0.N)

/-- The blocks of point `t`. -/
abbrev B0 : FVec Ideal S2048x128 .f32 := iblk m c 0 t
abbrev B1 : FVec Ideal S1x1x512x128 .f32 := iblk m c 1 t

/-- The arguments, at their places. -/
def dy : FVec Ideal S4096x768 .f32 := m ((c : Thread nD τ).loc main_arg0)
def re : FVec Ideal S48x16x64 .f32 := m ((c : Thread nD τ).loc main_arg1)
def im : FVec Ideal S48x16x64 .f32 := m ((c : Thread nD τ).loc main_arg2)

/-- The block a point of the grid writes. -/
theorem written (k : Fin 2048) (p : Fin 512) : ((dats m 0 c).after 2 t : FVec Ideal S1x2048x512 .f32) (ix3 0 k p)
    = ∑ h : Fin 128, B0 m c t (ix2 k h) * B1 m c t (ix4 0 0 p h) := by
  rw [after0_2]
  frame_out
  pointwise [k0_pay1]

/-- An argument's groups, one below another. -/
def tall (w : FVec Ideal S48x16x64 .f32) : FVec Ideal S768x64 .f32 := shapeCast S768x64 w shapeCasts_S48x16x64_S768x64

theorem tall_apply (w : FVec Ideal S48x16x64 .f32) (g : Fin 48) (h : Fin 16) (p : Fin 64) :
    tall w (ix2 (member g h) p) = w (ix3 g h p) := by
  unfold tall
  refine shapeCast_apply w shapeCasts_S48x16x64_S768x64 _ (ix3 g h p) ?_
  rw [Shape.rowMajor_val_three, Shape.rowMajor_val_two]
  show (g.val * 16 + h.val) * 64 + p.val = (16 * g.val + h.val) * 64 + p.val
  omega

/-- An argument's block-diagonal matrices, transposed. -/
def turned (w : FVec Ideal S48x16x64 .f32) : FVec Ideal S6x512x128 .f32 :=
  transpose S6x512x128 [0, 2, 1] (diag (tall w)) transposes_S6x128x512_S6x512x128_0_2_1

theorem turned_apply (w : FVec Ideal S48x16x64 .f32) (s : Fin 6) (p : Fin 512) (h : Fin 128) :
    turned w (ix3 s p h) = entry (tall w) s h p :=
  (transpose_apply [0, 2, 1] (diag (tall w)) transposes_S6x128x512_S6x512x128_0_2_1 (ix3 s p h) (ix3 s h p)
    fun b => by fin_cases b <;> rfl).trans (diag_apply _ _ _ _)

/-- The second window's array: the one argument's matrices, and the negatives of the other's. -/
theorem stacked : V m c main_v33 = concatenate S2x6x512x128 0
    [⟨S1x6x512x128, broadcastInDim S1x6x512x128 ![1, 2, 3] bcast_S6x512x128_S1x6x512x128_1_2_3 (turned (re m c))⟩,
      ⟨S1x6x512x128, broadcastInDim S1x6x512x128 ![1, 2, 3] bcast_S6x512x128_S1x6x512x128_1_2_3 (Host.negf (turned (im m c)))⟩]
    concatenates_S1x6x512x128_S1x6x512x128_S2x6x512x128_d0 := by
  unfold V
  simp only [hostOps0, List.flatten_cons, List.flatten_nil, List.append_nil, List.cons_append, List.nil_append]
  after_results
  rfl

/-- A number, or its negative where the half is the second. -/
def signed (r : Fin 2) (x : EReal) : EReal := pick r x (-x)

theorem matrices (r : Fin 2) (s : Fin 6) (p : Fin 512) (h : Fin 128) :
    V m c main_v33 (ix4 r s p h) = signed r (entry (tall (pick r (re m c) (im m c))) s h p) := by
  refine (congrFun (stacked m c) _).trans ((stack_apply _ _ (turned (re m c)) (Host.negf (turned (im m c))) r s p h).trans ?_)
  unfold signed pick
  split_ifs
  · exact turned_apply _ _ _ _
  · exact congrArg (- ·) (turned_apply _ _ _ _)

/-- The sign may go to either factor. -/
theorem mul_signed (r : Fin 2) (x y : EReal) : x * signed r y = signed r x * y := by
  unfold signed pick
  split_ifs
  · rfl
  · rw [mul_neg, neg_mul]

/-- The grid: two blocks of tokens, and for each the two halves' six tiles. -/
theorem idx0 : ∀ t : Fin grid0.N, win0_0.index t = ![t.val / 12, t.val % 6] := by decide +kernel
theorem idx1 : ∀ t : Fin grid0.N, win0_1.index t = ![t.val % 12 / 6, t.val % 6, 0, 0] := by decide +kernel
theorem idx2 : ∀ t : Fin grid0.N, win0_2.index t = ![t.val % 12 / 6, t.val / 12, t.val % 6] := by decide +kernel

/-- The half, the tile and the token that point `t`'s blocks are of. -/
def half : Fin 2 := ⟨t.val % 12 / 6, by omega⟩
def tile : Fin 6 := ⟨t.val % 6, Nat.mod_lt _ (by decide)⟩
def token (k : Fin 2048) : Fin 4096 := ⟨2048 * (t.val / 12) + k.val, by have h : t.val < 24 := lt_of_lt_of_eq t.isLt N_0; omega⟩

theorem block0 (k : Fin 2048) (h : Fin 128) : B0 m c t (ix2 k h) = dy m c (ix2 (token t k) (channel (tile t) h)) := by
  unfold B0 iblk
  rw [show V m c (Pipeline.arrRef spec0 0) = dy m c from V_main_arg0 m c]
  refine congrArg (dy m c) (funext fun a => Fin.ext ?_)
  blk_simp [idx0 t]
  fin_cases a <;> simp [token, channel, tile] <;> omega

theorem block1 (p : Fin 512) (h : Fin 128) :
    B1 m c t (ix4 0 0 p h) = signed (half t) (entry (tall (pick (half t) (re m c) (im m c))) (tile t) h p) := by
  refine Eq.trans ?_ (matrices m c (half t) (tile t) p h)
  unfold B1 iblk
  show V m c main_v33 _ = V m c main_v33 _
  refine congrArg (V m c main_v33) (funext fun a => Fin.ext ?_)
  blk_simp [idx1 t]
  fin_cases a <;> simp [half, tile]

theorem placed (k : Fin 2048) (p : Fin 512) :
    (win0_2.blk t).view.emb (ix3 0 k p) = ix3 (half t) (token t k) (state (tile t) p) := by
  funext a
  apply Fin.ext
  blk_simp [idx2 t]
  fin_cases a <;> simp [half, token, tile, state] <;> omega

open Cert.SsmOutDgradRefIdeal.Read

variable (r : Fin 2) (i : Fin 4096) (s : Fin 6) (p : Fin 512)

/-- The reference, at a place. -/
theorem reference (x : FVec Ideal S4096x768 .f32) (re im : FVec Ideal S48x16x64 .f32) :
    val_main_v18 (F := Ideal) x re im (ix3 r i (state s p))
      = ∑ h : Fin 16, signed r (x (ix2 i (member ⟨8 * s.val + p.val / 64, by omega⟩ h)))
        * pick r re im (ix3 (⟨8 * s.val + p.val / 64, by omega⟩ : Fin 48) h (⟨p.val % 64, Nat.mod_lt _ (by decide)⟩ : Fin 64)) := by
  have hr := r.2
  have hi := i.2
  have hs := s.2
  have hp := p.2
  have e : idx_main_v18 (ix3 r i (state s p))
      = ix4 r i (⟨8 * s.val + p.val / 64, by omega⟩ : Fin 48) (⟨p.val % 64, Nat.mod_lt _ (by decide)⟩ : Fin 64) := by
    refine funext fun a => Fin.ext ?_
    fin_cases a <;> simp [state] <;> omega
  rw [val_main_v18_apply, e]
  refine (stack_apply _ _ (val_main_v14 (F := Ideal) x re) (val_main_v11 (F := Ideal) x im) r i _ _).trans ?_
  unfold signed pick
  split_ifs
  · rw [val_main_v14_apply]
    refine (val_main_v13_apply _ _ _).trans (Finset.sum_congr rfl fun h _ => ?_)
    have hh := h.2
    rw [val_main_v12_apply, val_main_v7_apply]
    refine congrArg₂ (fun a b => x a * re b) (funext fun a => Fin.ext ?_) (funext fun a => Fin.ext ?_) <;>
      fin_cases a <;> simp [member] <;> omega
  · rw [val_main_v11_apply]
    refine (val_main_v10_apply _ _ _).trans (Finset.sum_congr rfl fun h _ => ?_)
    have hh := h.2
    rw [val_main_v9_apply, val_main_v8_apply, val_main_v7_apply]
    refine congrArg₂ (fun a b => -x a * im b) (funext fun a => Fin.ext ?_) (funext fun a => Fin.ext ?_) <;>
      fin_cases a <;> simp [member] <;> omega

theorem result : (dats m 0 c).arrAt 2 cfg0.N = val_main_v18 (F := Ideal) (dy m c) (re m c) (im m c) := by
  refine (dats m 0 c).arrAt_eq_of_covers 2 _ (by decide +kernel) fun t hf y => ?_
  obtain ⟨k, p, rfl⟩ : ∃ (k : Fin 2048) (p : Fin 512), y = ix3 0 k p := by
    obtain ⟨a, k, p, rfl⟩ : ∃ (a : Fin 1) (k : Fin 2048) (p : Fin 512), y = ix3 a k p := ⟨y 0, y 1, y 2, ValueIdx.eq_ix3 y⟩
    exact ⟨k, p, by rw [Subsingleton.elim a 0]⟩
  refine (written m c t k p).trans ?_
  simp only [block0, block1, mul_signed]
  refine (sum_channels _ (fun j => signed (half t) (dy m c (ix2 (token t k) j))) _ _).trans ?_
  simp only [tall_apply]
  exact (reference _ _ _ _ _ _ _).symm.trans
    (congrArg (val_main_v18 (F := Ideal) (dy m c) (re m c) (im m c)) (placed t k p).symm)

attribute [local instance] Cert.SsmOutDgradIdeal.Gen.facts Cert.SsmOutDgradRefIdeal.Gen.facts

theorem frame_ri : Cert.quiescent_SsmOutDgradRefIdeal := fun m ρ _ =>
  (θ_run Cert.SsmOutDgradRefIdeal.defs _ _).mono
    (fun r h => ⟨fun c => (h c).2, sem_eq_zero_of_no_sems (by decide) r.2⟩)
    (Cert.SsmOutDgradRefIdeal.Value.run m ρ)

theorem value : Cert.algebraic_SsmOutDgradIdeal_SsmOutDgradRefIdeal := by
  intro m ρ m' ρ' _ ha
  refine ⟨fun c => val_main_v18 (F := Ideal) (dy m c) (re m c) (im m c), ?_, ?_⟩
  · exact (θ_run Cert.SsmOutDgradIdeal.defs _ _).mono (fun r h c => ⟨(h c).1.trans (result m c), (h c).2⟩)
      (Cert.SsmOutDgradIdeal.Value.run_blocks m ρ)
  · refine (θ_run Cert.SsmOutDgradRefIdeal.defs _ _).mono (fun r h c => ?_) (Cert.SsmOutDgradRefIdeal.Value.run m' ρ')
    obtain ⟨a0, a1, a2⟩ := ha c
    refine ⟨(h c).1.trans ?_, (h c).2⟩
    rw [val_main_v18_eq, a0, a1, a2]
    rfl

end Cert.Ssm.SsmOutDgrad
-- ==== Proof.Ssm.SsmOutWgrad.lean ====
/- The gradient of the state-space layer's output matrices, tile by tile: the kernel's product, accumulated over two blocks of
   tokens, is the reference's. -/
module

public import proofs.«01_k».proof.Proof.Kit
public import proofs.«01_k».proof.Proof.Gen.SsmOutWgradIdeal.Value
public import proofs.«01_k».proof.Proof.Gen.SsmOutWgradRefIdeal.Read
public import proofs.«01_k».proof.Proof.Ssm.Tiles

@[expose] public section

set_option maxRecDepth 16384

noncomputable section

namespace Cert.Ssm.SsmOutWgrad

open Idealize.ShloMosaic Idealize.ShloMosaic.TcCoe Idealize.SL.Sem Cert.SsmOutWgradIdeal Cert.SsmOutWgradIdeal.Gen Cert.Products

variable (m : (ℓ : Loc nD τ sig) → Buf (Elt Ideal) ℓ) (c : Dev nD) (t : Fin cfg0.N)

/-- The blocks of point `t`. -/
abbrev B0 : FVec Ideal S1x2048x512 .f32 := iblk m c 0 t
abbrev B1 : FVec Ideal S2048x128 .f32 := iblk m c 1 t

/-- The arguments, at their places. -/
def xs : FVec Ideal S2x4096x3072 .f32 := m ((c : Thread nD τ).loc main_arg0)
def dy : FVec Ideal S4096x768 .f32 := m ((c : Thread nD τ).loc main_arg1)

theorem first (h : t.val % 2 = 0) (p : Fin 512) (q : Fin 128) : (outsAt0 m c t.val t.isLt).2 (ix2 p q)
    = ∑ k : Fin 2048, B0 m c t (ix3 0 k p) * B1 m c t (ix2 k q) := by
  rw [outsAt0_A m c t h (by omega) (by omega)]
  frame_out
  simp only [k0_pay2]
  pointwise [k0_pay1]

theorem next (h : ¬ t.val % 2 = 0) (p : Fin 512) (q : Fin 128) : (outsAt0 m c t.val t.isLt).2 (ix2 p q)
    = (outsAt0 m c (t.val - 1) (lt_of_le_of_lt (Nat.sub_le _ _) t.isLt)).2 (ix2 p q) + ∑ k : Fin 2048, B0 m c t (ix3 0 k p) * B1 m c t (ix2 k q) := by
  rw [outsAt0_B m c t h (by omega) (by omega)]
  frame_out
  simp only [k0_pay3]
  pointwise [k0_pay1]
  exact congrArg₂ (· + ·) (congrFun (Memref.IsWhole.read_unread (Memref.isWhole_whole cc0_scratch0) _) _) rfl

theorem written (h : ¬ t.val % 2 = 0) (p : Fin 512) (q : Fin 128) :
    (outsAt0 m c t.val t.isLt).1 (ix4 0 0 p q) = (outsAt0 m c t.val t.isLt).2 (ix2 p q) := by
  rw [outsAt0_B m c t h (by omega) (by omega)]
  frame_out
  simp only [k0_pay4]
  pointwise [k0_pay3]

theorem idx0 : ∀ t : Fin grid0.N, win0_0.index t = ![t.val / 2 / 6, t.val % 2, t.val / 2 % 6] := by decide +kernel
theorem idx1 : ∀ t : Fin grid0.N, win0_1.index t = ![t.val % 2, t.val / 2 % 6] := by decide +kernel

/-- The token which row `k` of point `t`'s blocks is of. -/
def token (t : ℕ) (k : Fin 2048) : Fin 4096 := place (n := 2) rfl (turn (by decide) t) k

theorem token_val (t : ℕ) (k : Fin 2048) : (token t k).val = 2048 * (t % 2) + k.val := rfl

variable (r : Fin 2) (s : Fin 6) (p : Fin 512) (q : Fin 128)

theorem block0 (h : t.val / 2 = 6 * r.val + s.val) (k : Fin 2048) : B0 m c t (ix3 0 k p) = xs m c (ix3 r (token t k) (state s p)) := by
  have hr := r.2
  have hs := s.2
  unfold B0 iblk
  rw [show V m c (Pipeline.arrRef spec0 0) = xs m c from V_main_arg0 m c]
  refine congrArg (xs m c) (funext fun a => Fin.ext ?_)
  blk_simp [idx0 t]
  fin_cases a <;> simp [token_val, state, channel, column] <;> omega

theorem block1 (h : t.val / 2 = 6 * r.val + s.val) (k : Fin 2048) : B1 m c t (ix2 k q) = dy m c (ix2 (token t k) (channel s q)) := by
  have hr := r.2
  have hs := s.2
  unfold B1 iblk
  rw [show V m c (Pipeline.arrRef spec0 1) = dy m c from V_main_arg1 m c]
  refine congrArg (dy m c) (funext fun a => Fin.ext ?_)
  blk_simp [idx1 t]
  fin_cases a <;> simp [token_val, state, channel, column] <;> omega

/-- The kernel's result, at a place. -/
theorem result : Cert.SsmOutWgradIdeal.Value.G2 m c (ix4 r s p q) = ∑ k : Fin 4096, xs m c (ix3 r k (state s p)) * dy m c (ix2 k (channel s q)) := by
  have hr := r.2
  have hs := s.2
  have hp := p.2
  have hq := q.2
  have hN : cfg0.N = 24 := N_0
  have hb : Cert.SsmOutWgradIdeal.Value.pt2Of (ix4 r s p q) = 2 * (6 * r.val + s.val) + 1 := by
    show 2 * (6 * (r.val / 1 - 0) + 1 * (s.val / 1 - 0) + 1 * (p.val / 512 - 0) + 1 * (q.val / 128 - 0)) + 1 = _
    omega
  have ht : Cert.SsmOutWgradIdeal.Value.pt2Of (ix4 r s p q) < cfg0.N := by omega
  have hl : Cert.SsmOutWgradIdeal.Value.loc2Of (ix4 r s p q) = ix4 0 0 p q := by
    funext a
    match a with
    | ⟨0, _⟩ => exact Fin.ext (Nat.mod_one _)
    | ⟨1, _⟩ => exact Fin.ext (Nat.mod_one _)
    | ⟨2, _⟩ => exact Fin.ext (Nat.mod_eq_of_lt p.2)
    | ⟨3, _⟩ => exact Fin.ext (Nat.mod_eq_of_lt q.2)
  unfold Cert.SsmOutWgradIdeal.Value.G2
  rw [dif_pos ht, ← Cert.SsmOutWgradIdeal.Value.outsAt0_sweep m c _ ht, hl]
  refine (written m c ⟨_, ht⟩ (by show ¬ Cert.SsmOutWgradIdeal.Value.pt2Of (ix4 r s p q) % 2 = 0; omega) _ _).trans ?_
  exact accumulated_product (n := 2) (by decide) (show 4096 = 2 * 2048 from rfl)
    (fun t h => (outsAt0 m c t h).2 (ix2 p q)) (fun t h k => B0 m c ⟨t, h⟩ (ix3 0 k p)) (fun t h k => B1 m c ⟨t, h⟩ (ix2 k q))
    (fun k => xs m c (ix3 r k (state s p))) (fun k => dy m c (ix2 k (channel s q))) (6 * r.val + s.val)
    (fun t h h0 => first m c ⟨t, h⟩ h0 _ _) (fun t h h0 => next m c ⟨t, h⟩ h0 _ _)
    (fun t h ht k => block0 m c ⟨t, h⟩ r s p ht k) (fun t h ht k => block1 m c ⟨t, h⟩ r s q ht k) _ ht (by omega) (by omega)

open Cert.SsmOutWgradRefIdeal.Read

/-- The reference's result, at a place. -/
theorem reference (xs : FVec Ideal S2x4096x3072 .f32) (dy : FVec Ideal S4096x768 .f32) :
    val_main_v8 (F := Ideal) xs dy (ix4 r s p q) = ∑ k : Fin 4096, xs (ix3 r k (state s p)) * dy (ix2 k (channel s q)) := by
  have hs := s.2
  have hp := p.2
  have hq := q.2
  rw [val_main_v8_apply]
  refine (val_main_v7_apply _ _ _).trans (Finset.sum_congr rfl fun k _ => ?_)
  have hk := k.2
  rw [val_main_v6_apply, val_main_v5_apply, val_main_v1_apply]
  refine (mul_comm _ _).trans (congrArg₂ (fun a b => xs a * dy b) (funext fun a => Fin.ext ?_) (funext fun a => Fin.ext ?_)) <;>
    fin_cases a <;> simp [state, channel, column] <;> omega

attribute [local instance] Cert.SsmOutWgradIdeal.Gen.facts Cert.SsmOutWgradRefIdeal.Gen.facts

theorem frame_ri : Cert.quiescent_SsmOutWgradRefIdeal := fun m ρ _ =>
  (θ_run Cert.SsmOutWgradRefIdeal.defs _ _).mono
    (fun r h => ⟨fun c => (h c).2, sem_eq_zero_of_no_sems (by decide) r.2⟩)
    (Cert.SsmOutWgradRefIdeal.Value.run m ρ)

theorem value : Cert.algebraic_SsmOutWgradIdeal_SsmOutWgradRefIdeal := by
  intro m ρ m' ρ' _ ha
  refine ⟨fun c => val_main_v8 (F := Ideal) (xs m c) (dy m c), ?_, ?_⟩
  · refine (θ_run Cert.SsmOutWgradIdeal.defs _ _).mono (fun r h c => ?_) (Cert.SsmOutWgradIdeal.Value.run m ρ)
    refine ⟨(h c).1.trans (ext4 fun i j k l => ?_), (h c).2⟩
    exact (result m c i j k l).trans (reference i j k l _ _).symm
  · refine (θ_run Cert.SsmOutWgradRefIdeal.defs _ _).mono (fun r h c => ?_) (Cert.SsmOutWgradRefIdeal.Value.run m' ρ')
    obtain ⟨a0, a1⟩ := ha c
    refine ⟨(h c).1.trans ?_, (h c).2⟩
    rw [val_main_v8_eq, a0, a1]
    rfl

end Cert.Ssm.SsmOutWgrad
-- ==== Proof.Ssm.SsmInDgrad.lean ====
/- The gradient of the state-space layer's input: the kernel's two products, one for each half of the states, against
   block-diagonal matrices are the reference's products group by group. -/
module

public import proofs.«01_k».proof.Proof.Kit
public import proofs.«01_k».proof.Proof.Gen.SsmInDgradIdeal.Value
public import proofs.«01_k».proof.Proof.Gen.SsmInDgradRefIdeal.Read
public import proofs.«01_k».proof.Proof.Ssm.BlockDiag

@[expose] public section

set_option maxRecDepth 16384

noncomputable section

namespace Cert.Ssm.SsmInDgrad

open Idealize.ShloMosaic Idealize.ShloMosaic.TcCoe Idealize.SL.Sem Cert.SsmInDgradIdeal Cert.SsmInDgradIdeal.Gen Cert.Products

variable (m : (ℓ : Loc nD τ sig) → Buf (Elt Ideal) ℓ) (c : Dev nD) (t : Fin cfg0.N)

/-- The blocks of point `t`. -/
abbrev B0 : FVec Ideal S1x2048x512 .f32 := iblk m c 0 t
abbrev B1 : FVec Ideal S1x1x128x512 .f32 := iblk m c 1 t

/-- The arguments, at their places. -/
def gs : FVec Ideal S2x4096x3072 .f32 := m ((c : Thread nD τ).loc main_arg0)
def re : FVec Ideal S768x64 .f32 := m ((c : Thread nD τ).loc main_arg1)
def im : FVec Ideal S768x64 .f32 := m ((c : Thread nD τ).loc main_arg2)

theorem first (h : t.val % 2 = 0) (i : Fin 2048) (q : Fin 128) : (outsAt0 m c t.val t.isLt).2 (ix2 i q)
    = ∑ p : Fin 512, B0 m c t (ix3 0 i p) * B1 m c t (ix4 0 0 q p) := by
  rw [outsAt0_A m c t h (by omega) (by omega)]
  frame_out
  simp only [k0_pay2]
  pointwise [k0_pay1]

theorem next (h : ¬ t.val % 2 = 0) (i : Fin 2048) (q : Fin 128) : (outsAt0 m c t.val t.isLt).2 (ix2 i q)
    = (outsAt0 m c (t.val - 1) (lt_of_le_of_lt (Nat.sub_le _ _) t.isLt)).2 (ix2 i q)
      + ∑ p : Fin 512, B0 m c t (ix3 0 i p) * B1 m c t (ix4 0 0 q p) := by
  rw [outsAt0_B m c t h (by omega) (by omega)]
  frame_out
  simp only [k0_pay3]
  pointwise [k0_pay1]
  exact congrArg₂ (· + ·) (congrFun (Memref.IsWhole.read_unread (Memref.isWhole_whole cc0_scratch0) _) _) rfl

/-- The second window's array: the two arguments' block-diagonal matrices. -/
theorem matrices : V m c main_v28 = both (re m c) (im m c) := by
  unfold V
  simp only [hostOps0, List.flatten_cons, List.flatten_nil, List.append_nil, List.cons_append, List.nil_append]
  after_results
  rfl

theorem written (h : ¬ t.val % 2 = 0) (i : Fin 2048) (q : Fin 128) :
    (outsAt0 m c t.val t.isLt).1 (ix2 i q) = (outsAt0 m c t.val t.isLt).2 (ix2 i q) := by
  rw [outsAt0_B m c t h (by omega) (by omega)]
  frame_out

theorem idx0 : ∀ t : Fin grid0.N, win0_0.index t = ![t.val % 2, t.val / 2 / 6, t.val / 2 % 6] := by decide +kernel
theorem idx1 : ∀ t : Fin grid0.N, win0_1.index t = ![t.val % 2, t.val / 2 % 6, 0, 0] := by decide +kernel

variable (k : Fin 2) (i : Fin 4096) (s : Fin 6) (q : Fin 128) (p : Fin 512)

/-- The row of its block that a token is in. -/
def inner (i : Fin 4096) : Fin 2048 := ⟨i.val % 2048, Nat.mod_lt _ (by decide)⟩

theorem block0 (hk : t.val % 2 = k.val) (h : t.val / 2 = 6 * (i.val / 2048) + s.val) :
    B0 m c t (ix3 0 (inner i) p) = gs m c (ix3 k i (state s p)) := by
  have hi := i.2
  have hs := s.2
  unfold B0 iblk
  rw [show V m c (Pipeline.arrRef spec0 0) = gs m c from V_main_arg0 m c]
  refine congrArg (gs m c) (funext fun a => Fin.ext ?_)
  blk_simp [idx0 t]
  fin_cases a <;> simp [inner, state] <;> omega

theorem block1 (hk : t.val % 2 = k.val) (h : t.val / 2 = 6 * (i.val / 2048) + s.val) :
    B1 m c t (ix4 0 0 q p) = entry (pick k (re m c) (im m c)) s q p := by
  have hi := i.2
  have hs := s.2
  refine Eq.trans ?_ (both_apply (re m c) (im m c) k s q p)
  unfold B1 iblk
  rw [show V m c (Pipeline.arrRef spec0 1) = both (re m c) (im m c) from matrices m c]
  refine congrArg (both (re m c) (im m c)) (funext fun a => Fin.ext ?_)
  blk_simp [idx1 t]
  fin_cases a <;> simp <;> omega

/-- What a point of the grid adds: one half's product. -/
theorem term (hk : t.val % 2 = k.val) (h : t.val / 2 = 6 * (i.val / 2048) + s.val) :
    ∑ p : Fin 512, B0 m c t (ix3 0 (inner i) p) * B1 m c t (ix4 0 0 q p)
      = ∑ p : Fin 64, gs m c (ix3 k i (own ⟨8 * s.val + q.val / 16, by omega⟩ p))
          * pick k (re m c) (im m c) (ix2 (channel s q) p) := by
  refine Eq.trans (Finset.sum_congr rfl fun p _ => ?_) (sum_states (pick k (re m c) (im m c)) (fun j => gs m c (ix3 k i j)) s q)
  rw [block0 m c t k i s p hk h, block1 m c t k i s q p hk h]

/-- The kernel's result, at a place. -/
theorem result : Cert.SsmInDgradIdeal.Value.G2 m c (ix2 i (channel s q))
    = ∑ p : Fin 64, gs m c (ix3 0 i (own ⟨8 * s.val + q.val / 16, by omega⟩ p)) * re m c (ix2 (channel s q) p)
      + ∑ p : Fin 64, gs m c (ix3 1 i (own ⟨8 * s.val + q.val / 16, by omega⟩ p)) * im m c (ix2 (channel s q) p) := by
  have hi := i.2
  have hs := s.2
  have hq := q.2
  have hN : cfg0.N = 24 := N_0
  have hb : Cert.SsmInDgradIdeal.Value.pt2Of (ix2 i (channel s q)) = 2 * (6 * (i.val / 2048) + s.val) + 1 := by
    show 2 * (6 * (i.val / 2048 - 0) + 1 * ((128 * s.val + q.val) / 128 - 0)) + 1 = _
    omega
  have hl : Cert.SsmInDgradIdeal.Value.loc2Of (ix2 i (channel s q)) = ix2 (inner i) q := by
    funext a
    match a with
    | ⟨0, _⟩ => rfl
    | ⟨1, _⟩ => exact Fin.ext (show (128 * s.val + q.val) % 128 = q.val by omega)
  have ht : Cert.SsmInDgradIdeal.Value.pt2Of (ix2 i (channel s q)) < cfg0.N := by omega
  unfold Cert.SsmInDgradIdeal.Value.G2
  rw [dif_pos ht, ← Cert.SsmInDgradIdeal.Value.outsAt0_sweep m c _ ht, hl]
  generalize Cert.SsmInDgradIdeal.Value.pt2Of (ix2 i (channel s q)) = n at hb ht
  refine (written m c ⟨n, ht⟩ (by show ¬ n % 2 = 0; omega) _ _).trans
    ((next m c ⟨n, ht⟩ (by show ¬ n % 2 = 0; omega) _ _).trans (congrArg₂ (· + ·) ?_ ?_))
  · exact (first m c ⟨n - 1, by omega⟩ (by show (n - 1) % 2 = 0; omega) _ _).trans
      (term m c ⟨n - 1, by omega⟩ 0 i s q (by show (n - 1) % 2 = 0; omega) (by show (n - 1) / 2 = _; omega))
  · exact term m c ⟨n, ht⟩ 1 i s q (by show n % 2 = 1; omega) (by show n / 2 = _; omega)

open Cert.SsmInDgradRefIdeal.Read

/-- The reference's result, at a place. -/
theorem reference (gs : FVec Ideal S2x4096x3072 .f32) (re im : FVec Ideal S768x64 .f32) :
    val_main_v20 (F := Ideal) gs re im (ix2 i (channel s q))
      = ∑ p : Fin 64, gs (ix3 0 i (own ⟨8 * s.val + q.val / 16, by omega⟩ p)) * re (ix2 (channel s q) p)
        + ∑ p : Fin 64, gs (ix3 1 i (own ⟨8 * s.val + q.val / 16, by omega⟩ p)) * im (ix2 (channel s q) p) := by
  have hi := i.2
  have hs := s.2
  have hq := q.2
  rw [val_main_v20_apply, val_main_v19_apply, val_main_v15_apply, val_main_v18_apply]
  refine (congrArg₂ (· + ·) (val_main_v14_apply _ _ _) (val_main_v17_apply _ _ _)).trans ((add_comm _ _).trans ?_)
  refine congrArg₂ (· + ·) (Finset.sum_congr rfl fun p _ => ?_) (Finset.sum_congr rfl fun p _ => ?_)
  · have hp := p.2
    rw [val_main_v16_apply, val_main_v2_apply, val_main_v1_apply, val_main_v0_apply, val_main_v7_apply]
    refine congrArg₂ (fun a b => gs a * re b) (funext fun a => Fin.ext ?_) (funext fun a => Fin.ext ?_) <;>
      fin_cases a <;> simp [own, channel] <;> omega
  · have hp := p.2
    rw [val_main_v13_apply, val_main_v4_apply, val_main_v3_apply, val_main_v0_apply, val_main_v10_apply]
    refine congrArg₂ (fun a b => gs a * im b) (funext fun a => Fin.ext ?_) (funext fun a => Fin.ext ?_) <;>
      fin_cases a <;> simp [own, channel] <;> omega

attribute [local instance] Cert.SsmInDgradIdeal.Gen.facts Cert.SsmInDgradRefIdeal.Gen.facts

theorem frame_ri : Cert.quiescent_SsmInDgradRefIdeal := fun m ρ _ =>
  (θ_run Cert.SsmInDgradRefIdeal.defs _ _).mono
    (fun r h => ⟨fun c => (h c).2, sem_eq_zero_of_no_sems (by decide) r.2⟩)
    (Cert.SsmInDgradRefIdeal.Value.run m ρ)

theorem value : Cert.algebraic_SsmInDgradIdeal_SsmInDgradRefIdeal := by
  intro m ρ m' ρ' _ ha
  refine ⟨fun c => val_main_v20 (F := Ideal) (gs m c) (re m c) (im m c), ?_, ?_⟩
  · refine (θ_run Cert.SsmInDgradIdeal.defs _ _).mono (fun r h c => ?_) (Cert.SsmInDgradIdeal.Value.run m ρ)
    refine ⟨(h c).1.trans (ext2 fun i j => ?_), (h c).2⟩
    obtain ⟨s, q, rfl⟩ := channel_of j
    exact (result m c i s q).trans (reference i s q _ _ _).symm
  · refine (θ_run Cert.SsmInDgradRefIdeal.defs _ _).mono (fun r h c => ?_) (Cert.SsmInDgradRefIdeal.Value.run m' ρ')
    obtain ⟨a0, a1, a2⟩ := ha c
    refine ⟨(h c).1.trans ?_, (h c).2⟩
    rw [val_main_v20_eq, a0, a1, a2]
    rfl

end Cert.Ssm.SsmInDgrad
-- ==== Proof.Ssm.SsmInWgrad.lean ====
/- The gradient of the state-space layer's input matrices, tile by tile: the kernel's product, accumulated over two blocks of
   tokens, is the reference's. -/
module

public import proofs.«01_k».proof.Proof.Kit
public import proofs.«01_k».proof.Proof.Gen.SsmInWgradIdeal.Value
public import proofs.«01_k».proof.Proof.Gen.SsmInWgradRefIdeal.Read
public import proofs.«01_k».proof.Proof.Ssm.Tiles

@[expose] public section

set_option maxRecDepth 16384

noncomputable section

namespace Cert.Ssm.SsmInWgrad

open Idealize.ShloMosaic Idealize.ShloMosaic.TcCoe Idealize.SL.Sem Cert.SsmInWgradIdeal Cert.SsmInWgradIdeal.Gen Cert.Products

variable (m : (ℓ : Loc nD τ sig) → Buf (Elt Ideal) ℓ) (c : Dev nD) (t : Fin cfg0.N)

/-- The blocks of point `t`. -/
abbrev B0 : FVec Ideal S2048x128 .f32 := iblk m c 0 t
abbrev B1 : FVec Ideal S1x2048x512 .f32 := iblk m c 1 t

/-- The arguments, at their places. -/
def rest : FVec Ideal S4096x8448 .f32 := m ((c : Thread nD τ).loc main_arg0)
def gs : FVec Ideal S2x4096x3072 .f32 := m ((c : Thread nD τ).loc main_arg1)

theorem first (h : t.val % 2 = 0) (p : Fin 128) (q : Fin 512) : (outsAt0 m c t.val t.isLt).2 (ix2 p q)
    = ∑ k : Fin 2048, B0 m c t (ix2 k p) * B1 m c t (ix3 0 k q) := by
  rw [outsAt0_A m c t h (by omega) (by omega)]
  frame_out
  simp only [k0_pay2]
  pointwise [k0_pay1]

theorem next (h : ¬ t.val % 2 = 0) (p : Fin 128) (q : Fin 512) : (outsAt0 m c t.val t.isLt).2 (ix2 p q)
    = (outsAt0 m c (t.val - 1) (lt_of_le_of_lt (Nat.sub_le _ _) t.isLt)).2 (ix2 p q) + ∑ k : Fin 2048, B0 m c t (ix2 k p) * B1 m c t (ix3 0 k q) := by
  rw [outsAt0_B m c t h (by omega) (by omega)]
  frame_out
  simp only [k0_pay3]
  pointwise [k0_pay1]
  exact congrArg₂ (· + ·) (congrFun (Memref.IsWhole.read_unread (Memref.isWhole_whole cc0_scratch0) _) _) rfl

theorem written (h : ¬ t.val % 2 = 0) (p : Fin 128) (q : Fin 512) :
    (outsAt0 m c t.val t.isLt).1 (ix4 0 0 p q) = (outsAt0 m c t.val t.isLt).2 (ix2 p q) := by
  rw [outsAt0_B m c t h (by omega) (by omega)]
  frame_out
  simp only [k0_pay4]
  pointwise [k0_pay3]

theorem idx0 : ∀ t : Fin grid0.N, win0_0.index t = ![t.val % 2, 12 + t.val / 2 % 6] := by decide +kernel
theorem idx1 : ∀ t : Fin grid0.N, win0_1.index t = ![t.val / 2 / 6, t.val % 2, t.val / 2 % 6] := by decide +kernel

/-- The token which row `k` of point `t`'s blocks is of. -/
def token (t : ℕ) (k : Fin 2048) : Fin 4096 := place (n := 2) rfl (turn (by decide) t) k

theorem token_val (t : ℕ) (k : Fin 2048) : (token t k).val = 2048 * (t % 2) + k.val := rfl

variable (r : Fin 2) (s : Fin 6) (p : Fin 128) (q : Fin 512)

theorem block0 (h : t.val / 2 = 6 * r.val + s.val) (k : Fin 2048) : B0 m c t (ix2 k p) = rest m c (ix2 (token t k) (column s p)) := by
  have hr := r.2
  have hs := s.2
  unfold B0 iblk
  rw [show V m c (Pipeline.arrRef spec0 0) = rest m c from V_main_arg0 m c]
  refine congrArg (rest m c) (funext fun a => Fin.ext ?_)
  blk_simp [idx0 t]
  fin_cases a <;> simp [token_val, state, channel, column] <;> omega

theorem block1 (h : t.val / 2 = 6 * r.val + s.val) (k : Fin 2048) : B1 m c t (ix3 0 k q) = gs m c (ix3 r (token t k) (state s q)) := by
  have hr := r.2
  have hs := s.2
  unfold B1 iblk
  rw [show V m c (Pipeline.arrRef spec0 1) = gs m c from V_main_arg1 m c]
  refine congrArg (gs m c) (funext fun a => Fin.ext ?_)
  blk_simp [idx1 t]
  fin_cases a <;> simp [token_val, state, channel, column] <;> omega

/-- The kernel's result, at a place. -/
theorem result : Cert.SsmInWgradIdeal.Value.G2 m c (ix4 r s p q) = ∑ k : Fin 4096, rest m c (ix2 k (column s p)) * gs m c (ix3 r k (state s q)) := by
  have hr := r.2
  have hs := s.2
  have hp := p.2
  have hq := q.2
  have hN : cfg0.N = 24 := N_0
  have hb : Cert.SsmInWgradIdeal.Value.pt2Of (ix4 r s p q) = 2 * (6 * r.val + s.val) + 1 := by
    show 2 * (6 * (r.val / 1 - 0) + 1 * (s.val / 1 - 0) + 1 * (p.val / 128 - 0) + 1 * (q.val / 512 - 0)) + 1 = _
    omega
  have ht : Cert.SsmInWgradIdeal.Value.pt2Of (ix4 r s p q) < cfg0.N := by omega
  have hl : Cert.SsmInWgradIdeal.Value.loc2Of (ix4 r s p q) = ix4 0 0 p q := by
    funext a
    match a with
    | ⟨0, _⟩ => exact Fin.ext (Nat.mod_one _)
    | ⟨1, _⟩ => exact Fin.ext (Nat.mod_one _)
    | ⟨2, _⟩ => exact Fin.ext (Nat.mod_eq_of_lt p.2)
    | ⟨3, _⟩ => exact Fin.ext (Nat.mod_eq_of_lt q.2)
  unfold Cert.SsmInWgradIdeal.Value.G2
  rw [dif_pos ht, ← Cert.SsmInWgradIdeal.Value.outsAt0_sweep m c _ ht, hl]
  refine (written m c ⟨_, ht⟩ (by show ¬ Cert.SsmInWgradIdeal.Value.pt2Of (ix4 r s p q) % 2 = 0; omega) _ _).trans ?_
  exact accumulated_product (n := 2) (by decide) (show 4096 = 2 * 2048 from rfl)
    (fun t h => (outsAt0 m c t h).2 (ix2 p q)) (fun t h k => B0 m c ⟨t, h⟩ (ix2 k p)) (fun t h k => B1 m c ⟨t, h⟩ (ix3 0 k q))
    (fun k => rest m c (ix2 k (column s p))) (fun k => gs m c (ix3 r k (state s q))) (6 * r.val + s.val)
    (fun t h h0 => first m c ⟨t, h⟩ h0 _ _) (fun t h h0 => next m c ⟨t, h⟩ h0 _ _)
    (fun t h ht k => block0 m c ⟨t, h⟩ r s p ht k) (fun t h ht k => block1 m c ⟨t, h⟩ r s q ht k) _ ht (by omega) (by omega)

open Cert.SsmInWgradRefIdeal.Read

/-- The reference's result, at a place. -/
theorem reference (rest : FVec Ideal S4096x8448 .f32) (gs : FVec Ideal S2x4096x3072 .f32) :
    val_main_v9 (F := Ideal) rest gs (ix4 r s p q) = ∑ k : Fin 4096, rest (ix2 k (column s p)) * gs (ix3 r k (state s q)) := by
  have hs := s.2
  have hp := p.2
  have hq := q.2
  rw [val_main_v9_apply]
  refine (val_main_v8_apply _ _ _).trans (Finset.sum_congr rfl fun k _ => ?_)
  have hk := k.2
  rw [val_main_v7_apply, val_main_v6_apply, val_main_v2_apply, val_main_v1_apply]
  refine (mul_comm _ _).trans (congrArg₂ (fun a b => rest a * gs b) (funext fun a => Fin.ext ?_) (funext fun a => Fin.ext ?_)) <;>
    fin_cases a <;> simp [state, channel, column] <;> omega

attribute [local instance] Cert.SsmInWgradIdeal.Gen.facts Cert.SsmInWgradRefIdeal.Gen.facts

theorem frame_ri : Cert.quiescent_SsmInWgradRefIdeal := fun m ρ _ =>
  (θ_run Cert.SsmInWgradRefIdeal.defs _ _).mono
    (fun r h => ⟨fun c => (h c).2, sem_eq_zero_of_no_sems (by decide) r.2⟩)
    (Cert.SsmInWgradRefIdeal.Value.run m ρ)

theorem value : Cert.algebraic_SsmInWgradIdeal_SsmInWgradRefIdeal := by
  intro m ρ m' ρ' _ ha
  refine ⟨fun c => val_main_v9 (F := Ideal) (rest m c) (gs m c), ?_, ?_⟩
  · refine (θ_run Cert.SsmInWgradIdeal.defs _ _).mono (fun r h c => ?_) (Cert.SsmInWgradIdeal.Value.run m ρ)
    refine ⟨(h c).1.trans (ext4 fun i j k l => ?_), (h c).2⟩
    exact (result m c i j k l).trans (reference i j k l _ _).symm
  · refine (θ_run Cert.SsmInWgradRefIdeal.defs _ _).mono (fun r h c => ?_) (Cert.SsmInWgradRefIdeal.Value.run m' ρ')
    obtain ⟨a0, a1⟩ := ha c
    refine ⟨(h c).1.trans ?_, (h c).2⟩
    rw [val_main_v9_eq, a0, a1]
    rfl

end Cert.Ssm.SsmInWgrad
-- ==== Proof.Ssm.SsmDuc.lean ====
/- The two parts of the gradient of the state-space layer's input, added. -/
module

public import proofs.«01_k».proof.Proof.Kit
public import proofs.«01_k».proof.Proof.Gen.SsmDucIdeal.Value
public import proofs.«01_k».proof.Proof.Gen.SsmDucRefIdeal.Read
public import proofs.«01_k».proof.Proof.Products.Blocked

@[expose] public section

set_option maxRecDepth 16384

noncomputable section

namespace Cert.Ssm.SsmDuc

open Idealize.ShloMosaic Idealize.ShloMosaic.TcCoe Idealize.SL.Sem Cert.SsmDucIdeal Cert.SsmDucIdeal.Gen Cert.Products

variable (m : (ℓ : Loc nD τ sig) → Buf (Elt Ideal) ℓ) (c : Dev nD) (t : Fin cfg0.N)

/-- The blocks of point `t`. -/
abbrev B0 : FVec Ideal S256x768 .f32 := iblk m c 0 t
abbrev B1 : FVec Ideal S256x768 .f32 := iblk m c 1 t

/-- The arguments, at their places. -/
def a : FVec Ideal S4096x768 .f32 := m ((c : Thread nD τ).loc main_arg0)
def b : FVec Ideal S4096x768 .f32 := m ((c : Thread nD τ).loc main_arg1)

/-- The block a point of the grid writes. -/
theorem written (p : Fin 256) (q : Fin 768) : ((dats m 0 c).after 2 t : FVec Ideal S256x768 .bf16) (ix2 p q)
    = B0 m c t (ix2 p q) + B1 m c t (ix2 p q) := by
  rw [after0_2]
  frame_out
  pointwise [k0_pay1]

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel

/-- The token which row `p` of point `t`'s blocks is of. -/
def row (p : Fin 256) : Fin 4096 := place (n := 16) (l := 256) rfl (turn (by decide) t) p

theorem row_val (p : Fin 256) : (row t p).val = t.val * 256 + p.val := by
  have hN : t.val < 16 := lt_of_lt_of_eq t.isLt N_0
  simp [row, place, turn]
  omega

theorem block0 (p : Fin 256) (q : Fin 768) : B0 m c t (ix2 p q) = a m c (ix2 (row t p) q) := by
  unfold B0 iblk
  rw [show V m c (Pipeline.arrRef spec0 0) = a m c from V_main_arg0 m c]
  refine congrArg (a m c) (funext fun a => Fin.ext ?_)
  blk_simp [idx0 t]
  fin_cases a <;> simp [row_val]

theorem block1 (p : Fin 256) (q : Fin 768) : B1 m c t (ix2 p q) = b m c (ix2 (row t p) q) := by
  unfold B1 iblk
  rw [show V m c (Pipeline.arrRef spec0 1) = b m c from V_main_arg1 m c]
  refine congrArg (b m c) (funext fun a => Fin.ext ?_)
  blk_simp [idx1 t]
  fin_cases a <;> simp [row_val]

theorem placed2 (p : Fin 256) (q : Fin 768) : (win0_2.blk t).view.emb (ix2 p q) = ix2 (row t p) q := by
  funext a
  apply Fin.ext
  blk_simp [idx2 t]
  fin_cases a <;> simp [row_val]

open Cert.SsmDucRefIdeal.Read

theorem result0 : (dats m 0 c).arrAt 2 cfg0.N = val_main_v2 (F := Ideal) (a m c) (b m c) := by
  refine (dats m 0 c).arrAt_eq_of_covers 2 _ (by decide +kernel) fun t hf i => ?_
  obtain ⟨p, q, rfl⟩ : ∃ (p : Fin 256) (q : Fin 768), i = ix2 p q := ⟨i 0, i 1, ValueIdx.eq_ix2 i⟩
  refine (written m c t p q).trans ?_
  rw [block0, block1]
  exact congrArg (val_main_v2 (F := Ideal) (a m c) (b m c)) (placed2 t p q).symm

attribute [local instance] Cert.SsmDucIdeal.Gen.facts Cert.SsmDucRefIdeal.Gen.facts

theorem frame_ri : Cert.quiescent_SsmDucRefIdeal := fun m ρ _ =>
  (θ_run Cert.SsmDucRefIdeal.defs _ _).mono
    (fun r h => ⟨fun c => (h c).2, sem_eq_zero_of_no_sems (by decide) r.2⟩)
    (Cert.SsmDucRefIdeal.Value.run m ρ)

theorem value : Cert.algebraic_SsmDucIdeal_SsmDucRefIdeal := by
  intro m ρ m' ρ' _ ha
  refine ⟨fun c => val_main_v2 (F := Ideal) (a m c) (b m c), ?_, ?_⟩
  · exact (θ_run Cert.SsmDucIdeal.defs _ _).mono (fun r h c => ⟨(h c).1.trans (result0 m c), (h c).2⟩)
      (Cert.SsmDucIdeal.Value.run_blocks m ρ)
  · refine (θ_run Cert.SsmDucRefIdeal.defs _ _).mono (fun r h c => ?_) (Cert.SsmDucRefIdeal.Value.run m' ρ')
    obtain ⟨a0, a1⟩ := ha c
    refine ⟨(h c).1.trans ?_, (h c).2⟩
    · rw [val_main_v2_eq, a0, a1]
      rfl

end Cert.Ssm.SsmDuc
-- ==== Proof.Ssm.SsmIn.lean ====
/- The state-space layer's inputs: the kernel's product with block-diagonal matrices is the reference's product group by group. -/
module

public import proofs.«01_k».proof.Proof.Kit
public import proofs.«01_k».proof.Proof.Gen.SsmInIdeal.Value
public import proofs.«01_k».proof.Proof.Gen.SsmInRefIdeal.Read
public import proofs.«01_k».proof.Proof.Ssm.BlockDiag

@[expose] public section

set_option maxRecDepth 16384

noncomputable section

namespace Cert.Ssm.SsmIn

open Idealize.ShloMosaic Idealize.ShloMosaic.TcCoe Idealize.SL.Sem Cert.SsmInIdeal Cert.SsmInIdeal.Gen Cert.Products

variable (m : (ℓ : Loc nD τ sig) → Buf (Elt Ideal) ℓ) (c : Dev nD) (t : Fin cfg0.N)

/-- The blocks of point `t`. -/
abbrev B0 : FVec Ideal S2048x128 .f32 := iblk m c 0 t
abbrev B1 : FVec Ideal S1x1x128x512 .f32 := iblk m c 1 t

/-- The arguments, at their places. -/
def rest : FVec Ideal S4096x8448 .f32 := m ((c : Thread nD τ).loc main_arg0)
def re : FVec Ideal S768x64 .f32 := m ((c : Thread nD τ).loc main_arg1)
def im : FVec Ideal S768x64 .f32 := m ((c : Thread nD τ).loc main_arg2)

/-- The block a point of the grid writes. -/
theorem written (k : Fin 2048) (p : Fin 512) : ((dats m 0 c).after 2 t : FVec Ideal S1x2048x512 .f32) (ix3 0 k p)
    = ∑ h : Fin 128, B0 m c t (ix2 k h) * B1 m c t (ix4 0 0 h p) := by
  rw [after0_2]
  frame_out
  pointwise [k0_pay1]

/-- The second window's array: the two arguments' block-diagonal matrices. -/
theorem matrices : V m c main_v28 = both (re m c) (im m c) := by
  unfold V
  simp only [hostOps0, List.flatten_cons, List.flatten_nil, List.append_nil, List.cons_append, List.nil_append]
  after_results
  rfl

/-- The grid: two blocks of tokens, and for each the two halves' six tiles. -/
theorem idx0 : ∀ t : Fin grid0.N, win0_0.index t = ![t.val / 12, 12 + t.val % 6] := by decide +kernel
theorem idx1 : ∀ t : Fin grid0.N, win0_1.index t = ![t.val % 12 / 6, t.val % 6, 0, 0] := by decide +kernel
theorem idx2 : ∀ t : Fin grid0.N, win0_2.index t = ![t.val % 12 / 6, t.val / 12, t.val % 6] := by decide +kernel

/-- The half, the tile and the token that point `t`'s blocks are of. -/
def half : Fin 2 := ⟨t.val % 12 / 6, by omega⟩
def tile : Fin 6 := ⟨t.val % 6, Nat.mod_lt _ (by decide)⟩
def token (k : Fin 2048) : Fin 4096 := ⟨2048 * (t.val / 12) + k.val, by have h : t.val < 24 := lt_of_lt_of_eq t.isLt N_0; omega⟩

/-- A channel's column in the combined projection. -/
def input (j : Fin 768) : Fin 8448 := ⟨1536 + j.val, by omega⟩

theorem block0 (k : Fin 2048) (h : Fin 128) :
    B0 m c t (ix2 k h) = rest m c (ix2 (token t k) (input (channel (tile t) h))) := by
  unfold B0 iblk
  rw [show V m c (Pipeline.arrRef spec0 0) = rest m c from V_main_arg0 m c]
  refine congrArg (rest m c) (funext fun a => Fin.ext ?_)
  blk_simp [idx0 t]
  fin_cases a <;> simp [token, input, channel, tile] <;> omega

theorem block1 (h : Fin 128) (p : Fin 512) :
    B1 m c t (ix4 0 0 h p) = entry (pick (half t) (re m c) (im m c)) (tile t) h p := by
  refine Eq.trans ?_ (both_apply (re m c) (im m c) (half t) (tile t) h p)
  unfold B1 iblk
  rw [show V m c (Pipeline.arrRef spec0 1) = both (re m c) (im m c) from matrices m c]
  refine congrArg (both (re m c) (im m c)) (funext fun a => Fin.ext ?_)
  blk_simp [idx1 t]
  fin_cases a <;> simp [half, tile]

theorem placed (k : Fin 2048) (p : Fin 512) :
    (win0_2.blk t).view.emb (ix3 0 k p) = ix3 (half t) (token t k) (state (tile t) p) := by
  funext a
  apply Fin.ext
  blk_simp [idx2 t]
  fin_cases a <;> simp [half, token, tile, state] <;> omega

open Cert.SsmInRefIdeal.Read

variable (r : Fin 2) (i : Fin 4096) (s : Fin 6) (p : Fin 512)

/-- The reference, at a place. -/
theorem reference (x : FVec Ideal S4096x8448 .f32) (re im : FVec Ideal S768x64 .f32) :
    val_main_v11 (F := Ideal) x re im (ix3 r i (state s p))
      = ∑ h : Fin 16, x (ix2 i (input (member ⟨8 * s.val + p.val / 64, by omega⟩ h)))
        * pick r re im (ix2 (member ⟨8 * s.val + p.val / 64, by omega⟩ h) (⟨p.val % 64, Nat.mod_lt _ (by decide)⟩ : Fin 64)) := by
  have hr := r.2
  have hi := i.2
  have hs := s.2
  have hp := p.2
  have e : idx_main_v11 (ix3 r i (state s p))
      = ix4 r i (⟨8 * s.val + p.val / 64, by omega⟩ : Fin 48) (⟨p.val % 64, Nat.mod_lt _ (by decide)⟩ : Fin 64) := by
    refine funext fun a => Fin.ext ?_
    fin_cases a <;> simp [state] <;> omega
  rw [val_main_v11_apply, e]
  refine (stack_apply _ _ (val_main_v4 (F := Ideal) x re) (val_main_v7 (F := Ideal) x im) r i _ _).trans ?_
  unfold pick
  split_ifs
  · rw [val_main_v4_apply]
    refine (val_main_v3_apply _ _ _).trans (Finset.sum_congr rfl fun h _ => (mul_comm _ _).trans ?_)
    have hh := h.2
    rw [val_main_v2_apply, val_main_v1_apply, val_main_v0_apply]
    refine congrArg₂ (fun a b => x a * re b) (funext fun a => Fin.ext ?_) (funext fun a => Fin.ext ?_) <;>
      fin_cases a <;> simp [input, member] <;> omega
  · rw [val_main_v7_apply]
    refine (val_main_v6_apply _ _ _).trans (Finset.sum_congr rfl fun h _ => (mul_comm _ _).trans ?_)
    have hh := h.2
    rw [val_main_v5_apply, val_main_v1_apply, val_main_v0_apply]
    refine congrArg₂ (fun a b => x a * im b) (funext fun a => Fin.ext ?_) (funext fun a => Fin.ext ?_) <;>
      fin_cases a <;> simp [input, member] <;> omega

theorem result : (dats m 0 c).arrAt 2 cfg0.N = val_main_v11 (F := Ideal) (rest m c) (re m c) (im m c) := by
  refine (dats m 0 c).arrAt_eq_of_covers 2 _ (by decide +kernel) fun t hf y => ?_
  obtain ⟨k, p, rfl⟩ : ∃ (k : Fin 2048) (p : Fin 512), y = ix3 0 k p := by
    obtain ⟨a, k, p, rfl⟩ : ∃ (a : Fin 1) (k : Fin 2048) (p : Fin 512), y = ix3 a k p := ⟨y 0, y 1, y 2, ValueIdx.eq_ix3 y⟩
    exact ⟨k, p, by rw [Subsingleton.elim a 0]⟩
  refine (written m c t k p).trans ?_
  simp only [block0, block1]
  refine (sum_channels _ (fun j => rest m c (ix2 (token t k) (input j))) _ _).trans ?_
  exact (reference _ _ _ _ _ _ _).symm.trans
    (congrArg (val_main_v11 (F := Ideal) (rest m c) (re m c) (im m c)) (placed t k p).symm)

attribute [local instance] Cert.SsmInIdeal.Gen.facts Cert.SsmInRefIdeal.Gen.facts

theorem frame_ri : Cert.quiescent_SsmInRefIdeal := fun m ρ _ =>
  (θ_run Cert.SsmInRefIdeal.defs _ _).mono
    (fun r h => ⟨fun c => (h c).2, sem_eq_zero_of_no_sems (by decide) r.2⟩)
    (Cert.SsmInRefIdeal.Value.run m ρ)

theorem value : Cert.algebraic_SsmInIdeal_SsmInRefIdeal := by
  intro m ρ m' ρ' _ ha
  refine ⟨fun c => val_main_v11 (F := Ideal) (rest m c) (re m c) (im m c), ?_, ?_⟩
  · exact (θ_run Cert.SsmInIdeal.defs _ _).mono (fun r h c => ⟨(h c).1.trans (result m c), (h c).2⟩)
      (Cert.SsmInIdeal.Value.run_blocks m ρ)
  · refine (θ_run Cert.SsmInRefIdeal.defs _ _).mono (fun r h c => ?_) (Cert.SsmInRefIdeal.Value.run m' ρ')
    obtain ⟨a0, a1, a2⟩ := ha c
    refine ⟨(h c).1.trans ?_, (h c).2⟩
    rw [val_main_v11_eq, a0, a1, a2]
    rfl

end Cert.Ssm.SsmIn
-- ==== Proof.Ssm.SsmSkipGelu.lean ====
/- The state-space layer's skip connection and its activation. -/
module

public import proofs.«01_k».proof.Proof.Kit
public import proofs.«01_k».proof.Proof.Gen.SsmSkipGeluIdeal.Value
public import proofs.«01_k».proof.Proof.Gen.SsmSkipGeluRefIdeal.Read
public import proofs.«01_k».proof.Proof.Products.Blocked

@[expose] public section

set_option maxRecDepth 16384

noncomputable section

namespace Cert.Ssm.SsmSkipGelu

open Idealize.ShloMosaic Idealize.ShloMosaic.TcCoe Idealize.SL.Sem Cert.SsmSkipGeluIdeal Cert.SsmSkipGeluIdeal.Gen Cert.Products

variable (m : (ℓ : Loc nD τ sig) → Buf (Elt Ideal) ℓ) (c : Dev nD) (t : Fin cfg0.N)

/-- The blocks of point `t`. -/
abbrev B0 : FVec Ideal S256x768 .f32 := iblk m c 0 t
abbrev B1 : FVec Ideal S256x768 .f32 := iblk m c 1 t
abbrev B2 : FVec Ideal S1x768 .f32 := iblk m c 2 t

/-- The arguments, at their places. -/
def y : FVec Ideal S4096x768 .f32 := m ((c : Thread nD τ).loc main_arg0)
def x : FVec Ideal S4096x8448 .f32 := m ((c : Thread nD τ).loc main_arg1)
def d : FVec Ideal S768 .f32 := m ((c : Thread nD τ).loc main_arg2)

/-- One entry's activation, in the tangent's form, of the scan's result `y`, the input `u` and the skip's weight `d`. -/
def act (x : EReal) : EReal :=
  Ideal.ofBits .f32 0x3F000000#32 * x
    * (Ideal.ofBits .f32 0x3F800000#32
      + Ideal.tanh (Ideal.ofBits .f32 0x3F4C422A#32 * (x + Ideal.ofBits .f32 0x3D372713#32 * (x * x * x))))

/-- The block a point of the grid writes. -/
theorem written (p : Fin 256) (q : Fin 768) : ((dats m 0 c).after 3 t : FVec Ideal S256x768 .f32) (ix2 p q)
    = act (B0 m c t (ix2 p q) + B2 m c t (ix2 0 q) * B1 m c t (ix2 p q)) := by
  rw [after0_3]
  frame_out
  pointwise [k0_pay1, act]

theorem idx0 : ∀ t : Fin grid0.N, win0_0.index t = ![t.val, 0] := by decide +kernel
theorem idx1 : ∀ t : Fin grid0.N, win0_1.index t = ![t.val, 2] := by decide +kernel
theorem idx2 : ∀ t : Fin grid0.N, win0_2.index t = ![0, 0] := by decide +kernel
theorem idx3 : ∀ t : Fin grid0.N, win0_3.index t = ![t.val, 0] := by decide +kernel

/-- The token which row `p` of point `t`'s blocks is of. -/
def row (p : Fin 256) : Fin 4096 := place (n := 16) (l := 256) rfl (turn (by decide) t) p

theorem row_val (p : Fin 256) : (row t p).val = t.val * 256 + p.val := by
  have hN : t.val < 16 := lt_of_lt_of_eq t.isLt N_0
  simp [row, place, turn]
  omega

theorem block0 (p : Fin 256) (q : Fin 768) : B0 m c t (ix2 p q) = y m c (ix2 (row t p) q) := by
  unfold B0 iblk
  rw [show V m c (Pipeline.arrRef spec0 0) = y m c from V_main_arg0 m c]
  refine congrArg (y m c) (funext fun a => Fin.ext ?_)
  blk_simp [idx0 t]
  fin_cases a <;> simp [row_val]

theorem block1 (p : Fin 256) (q : Fin 768) : B1 m c t (ix2 p q) = x m c (ix2 (row t p) (⟨q.val + 1536, by omega⟩ : Fin 8448)) := by
  unfold B1 iblk
  rw [show V m c (Pipeline.arrRef spec0 1) = x m c from V_main_arg1 m c]
  refine congrArg (x m c) (funext fun a => Fin.ext ?_)
  blk_simp [idx1 t]
  fin_cases a <;> simp [row_val] <;> omega

theorem spread2 : V m c main_v0 = fun i : S1x768.Idx => d m c (ix1 (i 1)) := by
  have e : V m c main_v0 = broadcastInDim S1x768 ![1] bcast_S768_S1x768_1 (d m c) := by
    unfold V
    simp only [hostOps0, List.flatten_cons, List.flatten_nil, List.append_nil, List.cons_append, List.nil_append]
    after_results
    rfl
  refine e.trans (funext fun i => ?_)
  idx_vars i
  pointwise []

theorem block2 (q : Fin 768) : B2 m c t (ix2 0 q) = d m c (ix1 q) := by
  unfold B2 iblk
  rw [show V m c (Pipeline.arrRef spec0 2) = fun i : S1x768.Idx => d m c (ix1 (i 1)) from spread2 m c]
  refine congrArg (d m c) (congrArg ix1 (Fin.ext ?_))
  blk_simp [idx2 t]
  try simp

theorem placed3 (p : Fin 256) (q : Fin 768) : (win0_3.blk t).view.emb (ix2 p q) = ix2 (row t p) q := by
  funext a
  apply Fin.ext
  blk_simp [idx3 t]
  fin_cases a <;> simp [row_val]

open Cert.SsmSkipGeluRefIdeal.Read

/-- The reference, at a place. -/
theorem reference (y : FVec Ideal S4096x768 .f32) (x : FVec Ideal S4096x8448 .f32) (d : FVec Ideal S768 .f32) (i : Fin 4096) (j : Fin 768) :
    val_main_v17 (F := Ideal) y x d (ix2 i j) = act (y (ix2 i j) + d (ix1 j) * x (ix2 i (⟨j.val + 1536, by omega⟩ : Fin 8448))) := by
  have e : val_main_v4 (F := Ideal) y x d (ix2 i j) = y (ix2 i j) + d (ix1 j) * x (ix2 i (⟨j.val + 1536, by omega⟩ : Fin 8448)) := by
    rw [val_main_v4_apply, val_main_v3_apply, val_main_v2_apply, val_main_v1_apply, val_main_v0_apply]
    refine congrArg (y (ix2 i j) + ·) (congrArg₂ (· * ·) (congrArg d ?_) (congrArg x ?_)) <;>
    · funext a
      apply Fin.ext
      fin_cases a <;> first | rfl | exact Nat.add_comm _ _
  rw [val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, e]
  exact (mul_left_comm _ _ _).trans (mul_assoc _ _ _).symm

theorem result0 : (dats m 0 c).arrAt 3 cfg0.N = val_main_v17 (F := Ideal) (y m c) (x m c) (d m c) := by
  refine (dats m 0 c).arrAt_eq_of_covers 3 _ (by decide +kernel) fun t hf i => ?_
  obtain ⟨p, q, rfl⟩ : ∃ (p : Fin 256) (q : Fin 768), i = ix2 p q := ⟨i 0, i 1, ValueIdx.eq_ix2 i⟩
  refine (written m c t p q).trans ?_
  rw [block0, block1, block2, ← reference]
  exact congrArg (val_main_v17 (F := Ideal) (y m c) (x m c) (d m c)) (placed3 t p q).symm

attribute [local instance] Cert.SsmSkipGeluIdeal.Gen.facts Cert.SsmSkipGeluRefIdeal.Gen.facts

theorem frame_ri : Cert.quiescent_SsmSkipGeluRefIdeal := fun m ρ _ =>
  (θ_run Cert.SsmSkipGeluRefIdeal.defs _ _).mono
    (fun r h => ⟨fun c => (h c).2, sem_eq_zero_of_no_sems (by decide) r.2⟩)
    (Cert.SsmSkipGeluRefIdeal.Value.run m ρ)

theorem value : Cert.algebraic_SsmSkipGeluIdeal_SsmSkipGeluRefIdeal := by
  intro m ρ m' ρ' _ ha
  refine ⟨fun c => val_main_v17 (F := Ideal) (y m c) (x m c) (d m c), ?_, ?_⟩
  · exact (θ_run Cert.SsmSkipGeluIdeal.defs _ _).mono (fun r h c => ⟨(h c).1.trans (result0 m c), (h c).2⟩)
      (Cert.SsmSkipGeluIdeal.Value.run_blocks m ρ)
  · refine (θ_run Cert.SsmSkipGeluRefIdeal.defs _ _).mono (fun r h c => ?_) (Cert.SsmSkipGeluRefIdeal.Value.run m' ρ')
    obtain ⟨a0, a1, a2⟩ := ha c
    refine ⟨(h c).1.trans ?_, (h c).2⟩
    · rw [val_main_v17_eq, a0, a1, a2]
      rfl

end Cert.Ssm.SsmSkipGelu
-- ==== Proof.Norm.Ln.lean ====
/- The layer norm of the forward pass. -/
module

public import proofs.«01_k».proof.Proof.Kit
public import proofs.«01_k».proof.Proof.Gen.LnIdeal.Value
public import proofs.«01_k».proof.Proof.Gen.LnRefIdeal.Read
public import proofs.«01_k».proof.Proof.Products.Blocked

@[expose] public section

set_option maxRecDepth 16384

noncomputable section

namespace Cert.Norm.Ln

open Idealize.ShloMosaic Idealize.ShloMosaic.TcCoe Idealize.SL.Sem Cert.LnIdeal Cert.LnIdeal.Gen Cert.Products

variable (m : (ℓ : Loc nD τ sig) → Buf (Elt Ideal) ℓ) (c : Dev nD) (t : Fin cfg0.N)

/-- The blocks of point `t`. -/
abbrev B0 : FVec Ideal S256x2048 .f32 := iblk m c 0 t
abbrev B1 : FVec Ideal S1x2048 .f32 := iblk m c 1 t
abbrev B2 : FVec Ideal S1x2048 .f32 := iblk m c 2 t

/-- The arguments, at their places. -/
def x : FVec Ideal S4096x2048 .f32 := m ((c : Thread nD τ).loc main_arg0)
def g : FVec Ideal S2048 .f32 := m ((c : Thread nD τ).loc main_arg1)
def b : FVec Ideal S2048 .f32 := m ((c : Thread nD τ).loc main_arg2)

/-- The layer norm of a row: its mean, its centred entries, their variance, and the entry scaled and shifted. -/
def mean (x : Fin 2048 → EReal) : EReal := Ideal.div (∑ k, x k) (Ideal.ofBits .f32 0x45000000#32)
def spread (x : Fin 2048 → EReal) : EReal :=
  Ideal.div (∑ k, (x k - mean x) * (x k - mean x)) (Ideal.ofBits .f32 0x45000000#32)
def norm (x : Fin 2048 → EReal) (g b : EReal) (j : Fin 2048) : EReal :=
  (x j - mean x) * Ideal.rsqrt (spread x + Ideal.ofBits .f32 0x3727C5AC#32) * g + b

/-- The block a point of the grid writes. -/
theorem written (p : Fin 256) (q : Fin 2048) : ((dats m 0 c).after 3 t : FVec Ideal S256x2048 .f32) (ix2 p q)
    = norm (fun k => B0 m c t (ix2 p k)) (B1 m c t (ix2 0 q)) (B2 m c t (ix2 0 q)) q := by
  rw [after0_3]
  frame_out
  pointwise [k0_pay1, norm, mean, spread]

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel

/-- The token which row `p` of point `t`'s blocks is of. -/
def row (p : Fin 256) : Fin 4096 := place (n := 16) (l := 256) rfl (turn (by decide) t) p

theorem row_val (p : Fin 256) : (row t p).val = t.val * 256 + p.val := by
  have hN : t.val < 16 := lt_of_lt_of_eq t.isLt N_0
  simp [row, place, turn]
  omega

theorem block0 (p : Fin 256) (q : Fin 2048) : B0 m c t (ix2 p q) = x m c (ix2 (row t p) q) := by
  unfold B0 iblk
  rw [show V m c (Pipeline.arrRef spec0 0) = x m c from V_main_arg0 m c]
  refine congrArg (x m c) (funext fun a => Fin.ext ?_)
  blk_simp [idx0 t]
  fin_cases a <;> simp [row_val]

theorem spread1 : V m c main_v0 = fun i : S1x2048.Idx => g m c (ix1 (i 1)) := by
  have e : V m c main_v0 = broadcastInDim S1x2048 ![1] bcast_S2048_S1x2048_1 (g m c) := by
    unfold V
    simp only [hostOps0, List.flatten_cons, List.flatten_nil, List.append_nil, List.cons_append, List.nil_append]
    after_results
    rfl
  refine e.trans (funext fun i => ?_)
  idx_vars i
  pointwise []

theorem block1 (q : Fin 2048) : B1 m c t (ix2 0 q) = g m c (ix1 q) := by
  unfold B1 iblk
  rw [show V m c (Pipeline.arrRef spec0 1) = fun i : S1x2048.Idx => g m c (ix1 (i 1)) from spread1 m c]
  refine congrArg (g m c) (congrArg ix1 (Fin.ext ?_))
  blk_simp [idx1 t]
  try simp

theorem spread2 : V m c main_v1 = fun i : S1x2048.Idx => b m c (ix1 (i 1)) := by
  have e : V m c main_v1 = broadcastInDim S1x2048 ![1] bcast_S2048_S1x2048_1 (b m c) := by
    unfold V
    simp only [hostOps0, List.flatten_cons, List.flatten_nil, List.append_nil, List.cons_append, List.nil_append]
    after_results
    rfl
  refine e.trans (funext fun i => ?_)
  idx_vars i
  pointwise []

theorem block2 (q : Fin 2048) : B2 m c t (ix2 0 q) = b m c (ix1 q) := by
  unfold B2 iblk
  rw [show V m c (Pipeline.arrRef spec0 2) = fun i : S1x2048.Idx => b m c (ix1 (i 1)) from spread2 m c]
  refine congrArg (b m c) (congrArg ix1 (Fin.ext ?_))
  blk_simp [idx2 t]
  try simp

theorem placed3 (p : Fin 256) (q : Fin 2048) : (win0_3.blk t).view.emb (ix2 p q) = ix2 (row t p) q := by
  funext a
  apply Fin.ext
  blk_simp [idx3 t]
  fin_cases a <;> simp [row_val]

open Cert.LnRefIdeal.Read

section
variable (x : FVec Ideal S4096x2048 .f32) (g b : FVec Ideal S2048 .f32) (i : Fin 4096) (j : Fin 2048)

theorem reference_mean : val_main_v3 (F := Ideal) x (ix2 i 0) = mean fun k => x (ix2 i k) := by
  rw [val_main_v3_apply, val_main_v1_apply, val_main_v0_apply, val_main_v2_apply]
  refine congrArg (Ideal.div · (Ideal.ofBits .f32 0x45000000#32)) ?_
  refine (congrArg (· + _) Ideal.ofBits_zero_f32).trans ((zero_add _).trans (Finset.sum_congr rfl fun k _ => congrArg x ?_))
  funext a
  apply Fin.ext
  fin_cases a <;> rfl

theorem reference_spread : val_main_v10 (F := Ideal) x (ix2 i 0) = spread fun k => x (ix2 i k) := by
  rw [val_main_v10_apply, val_main_v8_apply, val_main_v7_apply, val_main_v9_apply]
  refine congrArg (Ideal.div · (Ideal.ofBits .f32 0x45000000#32)) ?_
  refine (congrArg (· + _) Ideal.ofBits_zero_f32).trans ((zero_add _).trans (Finset.sum_congr rfl fun k _ => ?_))
  have e : val_main_v5 (F := Ideal) x (ix2 i k) = x (ix2 i k) - mean fun k => x (ix2 i k) := by
    rw [val_main_v5_apply, val_main_v4_apply]
    refine congrArg (x (ix2 i k) - ·) ((congrArg (val_main_v3 (F := Ideal) x) (funext fun a => Fin.ext ?_)).trans (reference_mean x i))
    fin_cases a <;> rfl
  rw [← e, val_main_v6_apply]
  have h : ∀ y : S4096x2048.Idx, y = ix2 i k → val_main_v5 (F := Ideal) x y * val_main_v5 (F := Ideal) x y
      = val_main_v5 (F := Ideal) x (ix2 i k) * val_main_v5 (F := Ideal) x (ix2 i k) := fun y h => by rw [h]
  refine h _ (funext fun a => Fin.ext ?_)
  fin_cases a <;> rfl

theorem reference : val_main_v23 (F := Ideal) x g b (ix2 i j) = norm (fun k => x (ix2 i k)) (g (ix1 j)) (b (ix1 j)) j := by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply]
  have h0 : idx_main_v16 (ix2 i j) = ix2 i 0 := by funext a; apply Fin.ext; fin_cases a <;> rfl
  have h1 : idx_main_v11 (ix2 i j) = ix2 i 0 := by funext a; apply Fin.ext; fin_cases a <;> rfl
  have h2 : idx_main_v18 (idx_main_v19 (ix2 i j)) = ix1 j := by funext a; apply Fin.ext; fin_cases a; rfl
  have h3 : idx_main_v21 (idx_main_v22 (ix2 i j)) = ix1 j := by funext a; apply Fin.ext; fin_cases a; rfl
  rw [h0, h1, h2, h3, reference_mean, reference_spread]
  rfl

end

theorem result0 : (dats m 0 c).arrAt 3 cfg0.N = val_main_v23 (F := Ideal) (x m c) (g m c) (b m c) := by
  refine (dats m 0 c).arrAt_eq_of_covers 3 _ (by decide +kernel) fun t hf i => ?_
  obtain ⟨p, q, rfl⟩ : ∃ (p : Fin 256) (q : Fin 2048), i = ix2 p q := ⟨i 0, i 1, ValueIdx.eq_ix2 i⟩
  refine (written m c t p q).trans ?_
  simp only [block0, block1, block2]
  rw [← reference]
  exact congrArg (val_main_v23 (F := Ideal) (x m c) (g m c) (b m c)) (placed3 t p q).symm

attribute [local instance] Cert.LnIdeal.Gen.facts Cert.LnRefIdeal.Gen.facts

theorem frame_ri : Cert.quiescent_LnRefIdeal := fun m ρ _ =>
  (θ_run Cert.LnRefIdeal.defs _ _).mono
    (fun r h => ⟨fun c => (h c).2, sem_eq_zero_of_no_sems (by decide) r.2⟩)
    (Cert.LnRefIdeal.Value.run m ρ)

theorem value : Cert.algebraic_LnIdeal_LnRefIdeal := by
  intro m ρ m' ρ' _ ha
  refine ⟨fun c => val_main_v23 (F := Ideal) (x m c) (g m c) (b m c), ?_, ?_⟩
  · exact (θ_run Cert.LnIdeal.defs _ _).mono (fun r h c => ⟨(h c).1.trans (result0 m c), (h c).2⟩)
      (Cert.LnIdeal.Value.run_blocks m ρ)
  · refine (θ_run Cert.LnRefIdeal.defs _ _).mono (fun r h c => ?_) (Cert.LnRefIdeal.Value.run m' ρ')
    obtain ⟨a0, a1, a2⟩ := ha c
    refine ⟨(h c).1.trans ?_, (h c).2⟩
    · rw [val_main_v23_eq, a0, a1, a2]
      rfl

end Cert.Norm.Ln
-- ==== Proof.Norm.LossHead.lean ====
/- The loss at the layer's end: its gradient, and the columns' sums of the squared errors. -/
module

public import proofs.«01_k».proof.Proof.Kit
public import proofs.«01_k».proof.Proof.Gen.LossHeadIdeal.Value
public import proofs.«01_k».proof.Proof.Gen.LossHeadRefIdeal.Read
public import proofs.«01_k».proof.Proof.Products.Blocked
public import proofs.«01_k».proof.Proof.Norm.Width

@[expose] public section

set_option maxRecDepth 16384

noncomputable section

namespace Cert.Norm.LossHead

open Idealize.ShloMosaic Idealize.ShloMosaic.TcCoe Idealize.SL.Sem Cert.LossHeadIdeal Cert.LossHeadIdeal.Gen Cert.Products Cert.Reals

variable (m : (ℓ : Loc nD τ sig) → Buf (Elt Ideal) ℓ) (c : Dev nD) (t : Fin cfg0.N)

/-- The blocks of point `t`. -/
abbrev B0 : FVec Ideal S256x2048 .f32 := iblk m c 0 t
abbrev B1 : FVec Ideal S256x2048 .f32 := iblk m c 1 t

/-- The arguments, at their places. -/
def x : FVec Ideal S4096x2048 .f32 := m ((c : Thread nD τ).loc main_arg0)
def y : FVec Ideal S4096x2048 .f32 := m ((c : Thread nD τ).loc main_arg1)

/-- The block of gradients a point of the grid writes. -/
theorem written (p : Fin 256) (q : Fin 2048) : (outsAt0 m c t.val t.isLt).1 (ix2 p q)
    = Ideal.div (B0 m c t (ix2 p q) - B1 m c t (ix2 p q)) (Ideal.ofBits .f32 0x45000000#32) := by
  have hN : t.val < 16 := lt_of_lt_of_eq t.isLt N_0
  by_cases h : t.val % 16 = 0
  · rw [outsAt0_A m c t h (by omega)]
    frame_out
    pointwise [k0_pay2, k0_pay1]
  · rw [outsAt0_B m c t h (by omega)]
    frame_out
    pointwise [k0_pay2, k0_pay1]

/-- The square of an error. -/
def square (x y : EReal) : EReal := (x - y) * (x - y)

theorem first (h : t.val % 16 = 0) (q : Fin 2048) : (outsAt0 m c t.val t.isLt).2 (ix2 0 q)
    = ∑ p : Fin 256, square (B0 m c t (ix2 p q)) (B1 m c t (ix2 p q)) := by
  have hN : t.val < 16 := lt_of_lt_of_eq t.isLt N_0
  rw [outsAt0_A m c t h (by omega)]
  frame_out
  pointwise [k0_pay3, k0_pay1, square]

theorem next (h : ¬ t.val % 16 = 0) (q : Fin 2048) : (outsAt0 m c t.val t.isLt).2 (ix2 0 q)
    = (outsAt0 m c (t.val - 1) (lt_of_le_of_lt (Nat.sub_le _ _) t.isLt)).2 (ix2 0 q)
      + ∑ p : Fin 256, square (B0 m c t (ix2 p q)) (B1 m c t (ix2 p q)) := by
  rw [outsAt0_B m c t h (by omega)]
  frame_out
  pointwise [k0_pay4, k0_pay3, k0_pay1, square]

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem last3 : ∀ t : Fin grid0.N, (cfg0.win 3).flush t = true → t.val = 15 := by decide +kernel

/-- The token which row `p` of point `t`'s blocks is of. -/
def row (p : Fin 256) : Fin 4096 := place (n := 16) (l := 256) rfl (turn (by decide) t) p

theorem row_val (p : Fin 256) : (row t p).val = t.val * 256 + p.val := by
  have hN : t.val < 16 := lt_of_lt_of_eq t.isLt N_0
  simp [row, place, turn]
  omega

theorem block0 (p : Fin 256) (q : Fin 2048) : B0 m c t (ix2 p q) = x m c (ix2 (row t p) q) := by
  unfold B0 iblk
  rw [show V m c (Pipeline.arrRef spec0 0) = x m c from V_main_arg0 m c]
  refine congrArg (x m c) (funext fun a => Fin.ext ?_)
  blk_simp [idx0 t]
  fin_cases a <;> simp [row_val]

theorem block1 (p : Fin 256) (q : Fin 2048) : B1 m c t (ix2 p q) = y m c (ix2 (row t p) q) := by
  unfold B1 iblk
  rw [show V m c (Pipeline.arrRef spec0 1) = y m c from V_main_arg1 m c]
  refine congrArg (y m c) (funext fun a => Fin.ext ?_)
  blk_simp [idx1 t]
  fin_cases a <;> simp [row_val]

theorem placed2 (p : Fin 256) (q : Fin 2048) : (win0_2.blk t).view.emb (ix2 p q) = ix2 (row t p) q := by
  funext a
  apply Fin.ext
  blk_simp [idx2 t]
  fin_cases a <;> simp [row_val]

theorem placed3 (q : Fin 2048) : (win0_3.blk t).view.emb (ix2 0 q) = ix2 0 q := by
  funext a
  apply Fin.ext
  blk_simp [idx3 t]
  fin_cases a <;> simp

open Cert.LossHeadRefIdeal.Read

section
variable (x y : FVec Ideal S4096x2048 .f32) (i : Fin 4096) (j : Fin 2048)

/-- The reference's gradient: half of the mean's share, times twice the error. -/
theorem reference_gradient :
    val_main_v14 (F := Ideal) x y (ix2 i j) = Ideal.div (x (ix2 i j) - y (ix2 i j)) (Ideal.ofBits .f32 0x45000000#32) := by
  rw [val_main_v14_apply, val_main_v13_apply, val_main_v12_apply, val_main_v11_apply, val_main_v10_apply, val_main_v9_apply,
    val_main_v3_apply, val_main_v2_apply, val_main_v0_apply]
  show Ideal.div (Ideal.ofBits .f32 0x3F000000#32 * Ideal.ofBits .f32 0x3F800000#32) (Ideal.ofBits .f32 0x45000000#32)
    * (Ideal.ofBits .f32 0x40000000#32 * (x (ix2 i j) - y (ix2 i j))) = _
  rw [half_f32, Ideal.ofBits_one_f32, two_f32, n2048_f32, mul_one, div_real _ (by norm_num), ← mul_assoc, Ideal.div, ← EReal.coe_mul,
    mul_comm]
  congr 1
  norm_num [← EReal.coe_inv]

theorem reference_squares :
    val_main_v18 (F := Ideal) x y (ix2 0 j) = ∑ k : Fin 4096, square (x (ix2 k j)) (y (ix2 k j)) := by
  rw [val_main_v18_apply, val_main_v17_apply]
  refine (congrArg (· + _) Ideal.ofBits_zero_f32).trans ((zero_add _).trans (Finset.sum_congr rfl fun k _ => ?_))
  rw [val_main_v16_apply, val_main_v15_apply]
  have h : ∀ z : S4096x2048.Idx, z = ix2 k j → (x z - y z) * (x z - y z) = square (x (ix2 k j)) (y (ix2 k j)) := fun z h => by rw [h]; rfl
  refine h _ (funext fun a => Fin.ext ?_)
  fin_cases a <;> rfl

end

theorem result0 : (dats m 0 c).arrAt 2 cfg0.N = val_main_v14 (F := Ideal) (x m c) (y m c) := by
  refine (dats m 0 c).arrAt_eq_of_covers 2 _ (by decide +kernel) fun t hf i => ?_
  obtain ⟨p, q, rfl⟩ : ∃ (p : Fin 256) (q : Fin 2048), i = ix2 p q := ⟨i 0, i 1, ValueIdx.eq_ix2 i⟩
  blk_simp
  rw [after0_2]
  refine (written m c t p q).trans ?_
  rw [block0, block1, ← reference_gradient]
  exact congrArg (val_main_v14 (F := Ideal) (x m c) (y m c)) (placed2 t p q).symm

theorem result1 : (dats m 0 c).arrAt 3 cfg0.N = val_main_v18 (F := Ideal) (x m c) (y m c) := by
  refine (dats m 0 c).arrAt_eq_of_covers 3 _ (by decide +kernel) fun t hf i => ?_
  obtain ⟨q, rfl⟩ : ∃ q : Fin 2048, i = ix2 0 q :=
    ⟨i 1, (ValueIdx.eq_ix2 i).trans (congrArg (ix2 · _) (Subsingleton.elim (α := Fin 1) _ _))⟩
  blk_simp
  rw [after0_3]
  have ht := last3 t hf
  refine Eq.trans ?_ (congrArg (val_main_v18 (F := Ideal) (x m c) (y m c)) (placed3 t q).symm)
  rw [reference_squares]
  refine accumulated (n := 16) (l := 256) (by decide) rfl (fun t h => (outsAt0 m c t h).2 (ix2 0 q))
    (fun k => square (x m c (ix2 k q)) (y m c (ix2 k q))) 0 (fun t h _ h0 => ?_) (fun t h _ h0 => ?_) t.val t.isLt (by omega) (by omega)
  · exact (first m c ⟨t, h⟩ h0 q).trans (Finset.sum_congr rfl fun p _ => by rw [block0, block1]; rfl)
  · exact (next m c ⟨t, h⟩ h0 q).trans (congrArg _ (Finset.sum_congr rfl fun p _ => by rw [block0, block1]; rfl))

attribute [local instance] Cert.LossHeadIdeal.Gen.facts Cert.LossHeadRefIdeal.Gen.facts

theorem frame_ri : Cert.quiescent_LossHeadRefIdeal := fun m ρ _ =>
  (θ_run Cert.LossHeadRefIdeal.defs _ _).mono
    (fun r h => ⟨fun c => (h c).2.2, sem_eq_zero_of_no_sems (by decide) r.2⟩)
    (Cert.LossHeadRefIdeal.Value.run m ρ)

theorem value : Cert.algebraic_LossHeadIdeal_LossHeadRefIdeal := by
  intro m ρ m' ρ' _ ha
  refine ⟨fun c => val_main_v14 (F := Ideal) (x m c) (y m c), fun c => val_main_v18 (F := Ideal) (x m c) (y m c), ?_, ?_⟩
  · exact (θ_run Cert.LossHeadIdeal.defs _ _).mono (fun r h c => ⟨(h c).1.trans (result0 m c), (h c).2.1.trans (result1 m c), (h c).2.2⟩)
      (Cert.LossHeadIdeal.Value.run_blocks m ρ)
  · refine (θ_run Cert.LossHeadRefIdeal.defs _ _).mono (fun r h c => ?_) (Cert.LossHeadRefIdeal.Value.run m' ρ')
    obtain ⟨a0, a1⟩ := ha c
    refine ⟨(h c).1.trans ?_, (h c).2.1.trans ?_, (h c).2.2⟩
    · rw [val_main_v14_eq, a0, a1]
      rfl
    · rw [val_main_v18_eq, a0, a1]
      rfl

end Cert.Norm.LossHead
-- ==== Proof.Adam.Step.lean ====
/- The optimiser's step at one entry, which its calls for the several weights share. -/
module

public import Idealize.ShloMosaic.Lib.IdealHost

@[expose] public section

noncomputable section

namespace Cert.Adam

open Idealize.ShloMosaic

/-- The mean of the gradients, moved by this step's gradient. -/
def mean (g m : EReal) : EReal := Ideal.ofBits .f32 0x3F666666#32 * m + Ideal.ofBits .f32 0x3DCCCCCD#32 * g

/-- The mean of the squared gradients, moved by the square of this step's. -/
def square (g v : EReal) : EReal := Ideal.ofBits .f32 0x3F7FBE77#32 * v + Ideal.ofBits .f32 0x3A83126F#32 * (g * g)

/-- What the weight changes by. -/
def change (w g m v : EReal) : EReal :=
  Ideal.ofBits .f32 0xBA83126F#32
    * (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Cert.Adam
-- ==== Proof.Adam.AdamwWIn.lean ====
/- The optimiser's step on the weights of the projections out of the layer's input. -/
module

public import proofs.«01_k».proof.Proof.Kit
public import proofs.«01_k».proof.Proof.Gen.AdamwWInIdeal.Value
public import proofs.«01_k».proof.Proof.Gen.AdamwWInRefIdeal.Read
public import proofs.«01_k».proof.Proof.Adam.Step
public import proofs.«01_k».proof.Proof.Products.Blocked

@[expose] public section

set_option maxRecDepth 16384

noncomputable section

namespace Cert.Adam.AdamwWIn

open Idealize.ShloMosaic Idealize.ShloMosaic.TcCoe Idealize.SL.Sem Cert.AdamwWInIdeal Cert.AdamwWInIdeal.Gen Cert.Products

variable (m : (ℓ : Loc nD τ sig) → Buf (Elt Ideal) ℓ) (c : Dev nD) (t : Fin cfg0.N)

/-- The blocks of point `t`: of the weights, the gradients, and the two means. -/
abbrev B0 : FVec Ideal S128x3264 .f32 := iblk m c 0 t
abbrev B1 : FVec Ideal S128x3264 .f32 := iblk m c 1 t
abbrev B2 : FVec Ideal S128x3264 .f32 := iblk m c 2 t
abbrev B3 : FVec Ideal S128x3264 .f32 := iblk m c 3 t

/-- The arguments, and their rows one matrix after another. -/
def w : FVec Ideal S4x2048x3264 .f32 := m ((c : Thread nD τ).loc main_arg0)
def g : FVec Ideal S4x2048x3264 .f32 := m ((c : Thread nD τ).loc main_arg1)
def a : FVec Ideal S4x2048x3264 .f32 := m ((c : Thread nD τ).loc main_arg2)
def v : FVec Ideal S4x2048x3264 .f32 := m ((c : Thread nD τ).loc main_arg3)
abbrev rows (f : FVec Ideal S4x2048x3264 .f32) : FVec Ideal S8192x3264 .f32 := shapeCast S8192x3264 f shapeCasts_S4x2048x3264_S8192x3264

theorem flat : V m c main_v1 = rows (w m c) ∧ V m c main_v2 = rows (g m c) ∧ V m c main_v3 = rows (a m c)
    ∧ V m c main_v4 = rows (v m c) := by
  unfold V
  simp only [hostOps0, List.flatten_cons, List.flatten_nil, List.append_nil, List.cons_append, List.nil_append]
  refine ⟨?_, ?_, ?_, ?_⟩ <;>
  · after_results
    rfl

/-- The entries a point of the grid writes, of each result. -/
theorem written (p : Fin 128) (q : Fin 3264) :
    ((dats m 0 c).after 4 t : FVec Ideal S128x3264 .f32) (ix2 p q)
        = change (B0 m c t (ix2 p q)) (B1 m c t (ix2 p q)) (B2 m c t (ix2 p q)) (B3 m c t (ix2 p q))
    ∧ ((dats m 0 c).after 5 t : FVec Ideal S128x3264 .f32) (ix2 p q) = mean (B1 m c t (ix2 p q)) (B2 m c t (ix2 p q))
    ∧ ((dats m 0 c).after 6 t : FVec Ideal S128x3264 .f32) (ix2 p q) = square (B1 m c t (ix2 p q)) (B3 m c t (ix2 p q)) := by
  rw [after0_4, after0_5, after0_6]
  refine ⟨?_, ?_, ?_⟩ <;>
  · frame_out
    pointwise [k0_pay1, k0_pay2, k0_pay3, k0_pay4, change, mean, square]

/-- Every array's block of point `t` is its rows from the same one on. -/
theorem index : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

/-- The row which an entry of point `t`'s blocks is of. -/
def row (p : Fin 128) : Fin 8192 := ⟨t.val * 128 + p.val, by
  have hN : t.val < 64 := lt_of_lt_of_eq t.isLt N_0
  omega⟩

theorem blocks (p : Fin 128) (q : Fin 3264) : B0 m c t (ix2 p q) = (rows (w m c)) (ix2 (row t p) q)
    ∧ B1 m c t (ix2 p q) = (rows (g m c)) (ix2 (row t p) q)
    ∧ B2 m c t (ix2 p q) = (rows (a m c)) (ix2 (row t p) q)
    ∧ B3 m c t (ix2 p q) = (rows (v m c)) (ix2 (row t p) q) := by
  obtain ⟨i0, i1, i2, i3, -⟩ := index t
  refine ⟨?_, ?_, ?_, ?_⟩
  · unfold B0 iblk
    rw [show V m c (Pipeline.arrRef spec0 0) = rows (w m c) from (flat m c).1]
    refine congrArg (rows (w m c)) (funext fun a => Fin.ext ?_)
    blk_simp [i0]
    fin_cases a <;> simp [row]
  · unfold B1 iblk
    rw [show V m c (Pipeline.arrRef spec0 1) = rows (g m c) from (flat m c).2.1]
    refine congrArg (rows (g m c)) (funext fun a => Fin.ext ?_)
    blk_simp [i1]
    fin_cases a <;> simp [row]
  · unfold B2 iblk
    rw [show V m c (Pipeline.arrRef spec0 2) = rows (a m c) from (flat m c).2.2.1]
    refine congrArg (rows (a m c)) (funext fun a => Fin.ext ?_)
    blk_simp [i2]
    fin_cases a <;> simp [row]
  · unfold B3 iblk
    rw [show V m c (Pipeline.arrRef spec0 3) = rows (v m c) from (flat m c).2.2.2]
    refine congrArg (rows (v m c)) (funext fun a => Fin.ext ?_)
    blk_simp [i3]
    fin_cases a <;> simp [row]

theorem placed (p : Fin 128) (q : Fin 3264) : (win0_4.blk t).view.emb (ix2 p q) = ix2 (row t p) q
    ∧ (win0_5.blk t).view.emb (ix2 p q) = ix2 (row t p) q
    ∧ (win0_6.blk t).view.emb (ix2 p q) = ix2 (row t p) q := by
  obtain ⟨-, -, -, -, i4, i5, i6⟩ := index t
  refine ⟨?_, ?_, ?_⟩ <;>
  · funext a
    apply Fin.ext
    blk_simp [i4, i5, i6]
    fin_cases a <;> simp [row]

open Cert.AdamwWInRefIdeal.Read

/-- The reference's results, at a place. -/
theorem reference (w g a v : FVec Ideal S4x2048x3264 .f32) (y : S8192x3264.Idx) :
    val_main_v24 (F := Ideal) w g a v y = change (rows w y) (rows g y) (rows a y) (rows v y)
    ∧ val_main_v25 (F := Ideal) g a y = mean (rows g y) (rows a y)
    ∧ val_main_v26 (F := Ideal) g v y = square (rows g y) (rows v y) := ⟨rfl, rfl, rfl⟩

/-- The kernel's results are the reference's. -/
theorem result :
    (dats m 0 c).arrAt 4 cfg0.N = val_main_v24 (F := Ideal) (w m c) (g m c) (a m c) (v m c)
    ∧ (dats m 0 c).arrAt 5 cfg0.N = val_main_v25 (F := Ideal) (g m c) (a m c)
    ∧ (dats m 0 c).arrAt 6 cfg0.N = val_main_v26 (F := Ideal) (g m c) (v m c) := by
  have e := written m c
  have r := fun t p q => reference (w m c) (g m c) (a m c) (v m c) (ix2 (row t p) q)
  simp only [(blocks m c _ _ _).1, (blocks m c _ _ _).2.1, (blocks m c _ _ _).2.2.1, (blocks m c _ _ _).2.2.2] at e
  refine ⟨?_, ?_, ?_⟩
  · refine (dats m 0 c).arrAt_eq_of_covers 4 _ (by decide +kernel) fun t hf y => ?_
    obtain ⟨p, q, rfl⟩ : ∃ (p : Fin 128) (q : Fin 3264), y = ix2 p q := ⟨y 0, y 1, ValueIdx.eq_ix2 y⟩
    exact (e t p q).1.trans ((r t p q).1.symm.trans (congrArg _ (placed t p q).1.symm))
  · refine (dats m 0 c).arrAt_eq_of_covers 5 _ (by decide +kernel) fun t hf y => ?_
    obtain ⟨p, q, rfl⟩ : ∃ (p : Fin 128) (q : Fin 3264), y = ix2 p q := ⟨y 0, y 1, ValueIdx.eq_ix2 y⟩
    exact (e t p q).2.1.trans ((r t p q).2.1.symm.trans (congrArg _ (placed t p q).2.1.symm))
  · refine (dats m 0 c).arrAt_eq_of_covers 6 _ (by decide +kernel) fun t hf y => ?_
    obtain ⟨p, q, rfl⟩ : ∃ (p : Fin 128) (q : Fin 3264), y = ix2 p q := ⟨y 0, y 1, ValueIdx.eq_ix2 y⟩
    exact (e t p q).2.2.trans ((r t p q).2.2.symm.trans (congrArg _ (placed t p q).2.2.symm))

attribute [local instance] Cert.AdamwWInIdeal.Gen.facts Cert.AdamwWInRefIdeal.Gen.facts

theorem frame_ri : Cert.quiescent_AdamwWInRefIdeal := fun m ρ _ =>
  (θ_run Cert.AdamwWInRefIdeal.defs _ _).mono
    (fun r h => ⟨fun c => (h c).2.2.2, sem_eq_zero_of_no_sems (by decide) r.2⟩)
    (Cert.AdamwWInRefIdeal.Value.run m ρ)

theorem value : Cert.algebraic_AdamwWInIdeal_AdamwWInRefIdeal := by
  intro m g' m' g'' _ ha
  refine ⟨fun c => val_main_v24 (F := Ideal) (w m c) (g m c) (a m c) (v m c), fun c => val_main_v25 (F := Ideal) (g m c) (a m c),
    fun c => val_main_v26 (F := Ideal) (g m c) (v m c), ?_, ?_⟩
  · refine (θ_run Cert.AdamwWInIdeal.defs _ _).mono (fun r h c => ?_) (Cert.AdamwWInIdeal.Value.run_blocks m g')
    have e := result m c
    exact ⟨(h c).1.trans e.1, (h c).2.1.trans e.2.1, (h c).2.2.1.trans e.2.2, (h c).2.2.2⟩
  · refine (θ_run Cert.AdamwWInRefIdeal.defs _ _).mono (fun r h c => ?_) (Cert.AdamwWInRefIdeal.Value.run m' g'')
    obtain ⟨a0, a1, a2, a3⟩ := ha c
    refine ⟨(h c).1.trans ?_, (h c).2.1.trans ?_, (h c).2.2.1.trans ?_, (h c).2.2.2⟩
    · rw [val_main_v24_eq, a0, a1, a2, a3]
      rfl
    · rw [val_main_v25_eq, a1, a2]
      rfl
    · rw [val_main_v26_eq, a1, a3]
      rfl

end Cert.Adam.AdamwWIn
-- ==== Proof.Adam.AdamwWGlu.lean ====
/- The optimiser's step on the weights of the state-space layer's own gate. -/
module

public import proofs.«01_k».proof.Proof.Kit
public import proofs.«01_k».proof.Proof.Gen.AdamwWGluIdeal.Value
public import proofs.«01_k».proof.Proof.Gen.AdamwWGluRefIdeal.Read
public import proofs.«01_k».proof.Proof.Adam.Step
public import proofs.«01_k».proof.Proof.Products.Blocked

@[expose] public section

set_option maxRecDepth 16384

noncomputable section

namespace Cert.Adam.AdamwWGlu

open Idealize.ShloMosaic Idealize.ShloMosaic.TcCoe Idealize.SL.Sem Cert.AdamwWGluIdeal Cert.AdamwWGluIdeal.Gen Cert.Products

variable (m : (ℓ : Loc nD τ sig) → Buf (Elt Ideal) ℓ) (c : Dev nD) (t : Fin cfg0.N)

/-- The blocks of point `t`: of the weights, the gradients, and the two means. -/
abbrev B0 : FVec Ideal S384x768 .f32 := iblk m c 0 t
abbrev B1 : FVec Ideal S384x768 .f32 := iblk m c 1 t
abbrev B2 : FVec Ideal S384x768 .f32 := iblk m c 2 t
abbrev B3 : FVec Ideal S384x768 .f32 := iblk m c 3 t

/-- The arguments, and their rows one matrix after another. -/
def w : FVec Ideal S4x192x768 .f32 := m ((c : Thread nD τ).loc main_arg0)
def g : FVec Ideal S4x192x768 .f32 := m ((c : Thread nD τ).loc main_arg1)
def a : FVec Ideal S4x192x768 .f32 := m ((c : Thread nD τ).loc main_arg2)
def v : FVec Ideal S4x192x768 .f32 := m ((c : Thread nD τ).loc main_arg3)
abbrev rows (f : FVec Ideal S4x192x768 .f32) : FVec Ideal S768x768 .f32 := shapeCast S768x768 f shapeCasts_S4x192x768_S768x768

theorem flat : V m c main_v1 = rows (w m c) ∧ V m c main_v2 = rows (g m c) ∧ V m c main_v3 = rows (a m c)
    ∧ V m c main_v4 = rows (v m c) := by
  unfold V
  simp only [hostOps0, List.flatten_cons, List.flatten_nil, List.append_nil, List.cons_append, List.nil_append]
  refine ⟨?_, ?_, ?_, ?_⟩ <;>
  · after_results
    rfl

/-- The entries a point of the grid writes, of each result. -/
theorem written (p : Fin 384) (q : Fin 768) :
    ((dats m 0 c).after 4 t : FVec Ideal S384x768 .f32) (ix2 p q)
        = change (B0 m c t (ix2 p q)) (B1 m c t (ix2 p q)) (B2 m c t (ix2 p q)) (B3 m c t (ix2 p q))
    ∧ ((dats m 0 c).after 5 t : FVec Ideal S384x768 .f32) (ix2 p q) = mean (B1 m c t (ix2 p q)) (B2 m c t (ix2 p q))
    ∧ ((dats m 0 c).after 6 t : FVec Ideal S384x768 .f32) (ix2 p q) = square (B1 m c t (ix2 p q)) (B3 m c t (ix2 p q)) := by
  rw [after0_4, after0_5, after0_6]
  refine ⟨?_, ?_, ?_⟩ <;>
  · frame_out
    pointwise [k0_pay1, k0_pay2, k0_pay3, k0_pay4, change, mean, square]

/-- Every array's block of point `t` is its rows from the same one on. -/
theorem index : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

/-- The row which an entry of point `t`'s blocks is of. -/
def row (p : Fin 384) : Fin 768 := ⟨t.val * 384 + p.val, by
  have hN : t.val < 2 := lt_of_lt_of_eq t.isLt N_0
  omega⟩

theorem blocks (p : Fin 384) (q : Fin 768) : B0 m c t (ix2 p q) = (rows (w m c)) (ix2 (row t p) q)
    ∧ B1 m c t (ix2 p q) = (rows (g m c)) (ix2 (row t p) q)
    ∧ B2 m c t (ix2 p q) = (rows (a m c)) (ix2 (row t p) q)
    ∧ B3 m c t (ix2 p q) = (rows (v m c)) (ix2 (row t p) q) := by
  obtain ⟨i0, i1, i2, i3, -⟩ := index t
  refine ⟨?_, ?_, ?_, ?_⟩
  · unfold B0 iblk
    rw [show V m c (Pipeline.arrRef spec0 0) = rows (w m c) from (flat m c).1]
    refine congrArg (rows (w m c)) (funext fun a => Fin.ext ?_)
    blk_simp [i0]
    fin_cases a <;> simp [row]
  · unfold B1 iblk
    rw [show V m c (Pipeline.arrRef spec0 1) = rows (g m c) from (flat m c).2.1]
    refine congrArg (rows (g m c)) (funext fun a => Fin.ext ?_)
    blk_simp [i1]
    fin_cases a <;> simp [row]
  · unfold B2 iblk
    rw [show V m c (Pipeline.arrRef spec0 2) = rows (a m c) from (flat m c).2.2.1]
    refine congrArg (rows (a m c)) (funext fun a => Fin.ext ?_)
    blk_simp [i2]
    fin_cases a <;> simp [row]
  · unfold B3 iblk
    rw [show V m c (Pipeline.arrRef spec0 3) = rows (v m c) from (flat m c).2.2.2]
    refine congrArg (rows (v m c)) (funext fun a => Fin.ext ?_)
    blk_simp [i3]
    fin_cases a <;> simp [row]

theorem placed (p : Fin 384) (q : Fin 768) : (win0_4.blk t).view.emb (ix2 p q) = ix2 (row t p) q
    ∧ (win0_5.blk t).view.emb (ix2 p q) = ix2 (row t p) q
    ∧ (win0_6.blk t).view.emb (ix2 p q) = ix2 (row t p) q := by
  obtain ⟨-, -, -, -, i4, i5, i6⟩ := index t
  refine ⟨?_, ?_, ?_⟩ <;>
  · funext a
    apply Fin.ext
    blk_simp [i4, i5, i6]
    fin_cases a <;> simp [row]

open Cert.AdamwWGluRefIdeal.Read

/-- The reference's results, at a place. -/
theorem reference (w g a v : FVec Ideal S4x192x768 .f32) (y : S768x768.Idx) :
    val_main_v24 (F := Ideal) w g a v y = change (rows w y) (rows g y) (rows a y) (rows v y)
    ∧ val_main_v25 (F := Ideal) g a y = mean (rows g y) (rows a y)
    ∧ val_main_v26 (F := Ideal) g v y = square (rows g y) (rows v y) := ⟨rfl, rfl, rfl⟩

/-- The kernel's results are the reference's. -/
theorem result :
    (dats m 0 c).arrAt 4 cfg0.N = val_main_v24 (F := Ideal) (w m c) (g m c) (a m c) (v m c)
    ∧ (dats m 0 c).arrAt 5 cfg0.N = val_main_v25 (F := Ideal) (g m c) (a m c)
    ∧ (dats m 0 c).arrAt 6 cfg0.N = val_main_v26 (F := Ideal) (g m c) (v m c) := by
  have e := written m c
  have r := fun t p q => reference (w m c) (g m c) (a m c) (v m c) (ix2 (row t p) q)
  simp only [(blocks m c _ _ _).1, (blocks m c _ _ _).2.1, (blocks m c _ _ _).2.2.1, (blocks m c _ _ _).2.2.2] at e
  refine ⟨?_, ?_, ?_⟩
  · refine (dats m 0 c).arrAt_eq_of_covers 4 _ (by decide +kernel) fun t hf y => ?_
    obtain ⟨p, q, rfl⟩ : ∃ (p : Fin 384) (q : Fin 768), y = ix2 p q := ⟨y 0, y 1, ValueIdx.eq_ix2 y⟩
    exact (e t p q).1.trans ((r t p q).1.symm.trans (congrArg _ (placed t p q).1.symm))
  · refine (dats m 0 c).arrAt_eq_of_covers 5 _ (by decide +kernel) fun t hf y => ?_
    obtain ⟨p, q, rfl⟩ : ∃ (p : Fin 384) (q : Fin 768), y = ix2 p q := ⟨y 0, y 1, ValueIdx.eq_ix2 y⟩
    exact (e t p q).2.1.trans ((r t p q).2.1.symm.trans (congrArg _ (placed t p q).2.1.symm))
  · refine (dats m 0 c).arrAt_eq_of_covers 6 _ (by decide +kernel) fun t hf y => ?_
    obtain ⟨p, q, rfl⟩ : ∃ (p : Fin 384) (q : Fin 768), y = ix2 p q := ⟨y 0, y 1, ValueIdx.eq_ix2 y⟩
    exact (e t p q).2.2.trans ((r t p q).2.2.symm.trans (congrArg _ (placed t p q).2.2.symm))

attribute [local instance] Cert.AdamwWGluIdeal.Gen.facts Cert.AdamwWGluRefIdeal.Gen.facts

theorem frame_ri : Cert.quiescent_AdamwWGluRefIdeal := fun m ρ _ =>
  (θ_run Cert.AdamwWGluRefIdeal.defs _ _).mono
    (fun r h => ⟨fun c => (h c).2.2.2, sem_eq_zero_of_no_sems (by decide) r.2⟩)
    (Cert.AdamwWGluRefIdeal.Value.run m ρ)

theorem value : Cert.algebraic_AdamwWGluIdeal_AdamwWGluRefIdeal := by
  intro m g' m' g'' _ ha
  refine ⟨fun c => val_main_v24 (F := Ideal) (w m c) (g m c) (a m c) (v m c), fun c => val_main_v25 (F := Ideal) (g m c) (a m c),
    fun c => val_main_v26 (F := Ideal) (g m c) (v m c), ?_, ?_⟩
  · refine (θ_run Cert.AdamwWGluIdeal.defs _ _).mono (fun r h c => ?_) (Cert.AdamwWGluIdeal.Value.run_blocks m g')
    have e := result m c
    exact ⟨(h c).1.trans e.1, (h c).2.1.trans e.2.1, (h c).2.2.1.trans e.2.2, (h c).2.2.2⟩
  · refine (θ_run Cert.AdamwWGluRefIdeal.defs _ _).mono (fun r h c => ?_) (Cert.AdamwWGluRefIdeal.Value.run m' g'')
    obtain ⟨a0, a1, a2, a3⟩ := ha c
    refine ⟨(h c).1.trans ?_, (h c).2.1.trans ?_, (h c).2.2.1.trans ?_, (h c).2.2.2⟩
    · rw [val_main_v24_eq, a0, a1, a2, a3]
      rfl
    · rw [val_main_v25_eq, a1, a2]
      rfl
    · rw [val_main_v26_eq, a1, a3]
      rfl

end Cert.Adam.AdamwWGlu
-- ==== Proof.Adam.AdamwWPa.lean ====
/- The optimiser's step on the weights of the attention's branch. -/
module

public import proofs.«01_k».proof.Proof.Kit
public import proofs.«01_k».proof.Proof.Gen.AdamwWPaIdeal.Value
public import proofs.«01_k».proof.Proof.Gen.AdamwWPaRefIdeal.Read
public import proofs.«01_k».proof.Proof.Adam.Step
public import proofs.«01_k».proof.Proof.Products.Blocked

@[expose] public section

set_option maxRecDepth 16384

noncomputable section

namespace Cert.Adam.AdamwWPa

open Idealize.ShloMosaic Idealize.ShloMosaic.TcCoe Idealize.SL.Sem Cert.AdamwWPaIdeal Cert.AdamwWPaIdeal.Gen Cert.Products

variable (m : (ℓ : Loc nD τ sig) → Buf (Elt Ideal) ℓ) (c : Dev nD) (t : Fin cfg0.N)

/-- The blocks of point `t`: of the weights, the gradients, and the two means. -/
abbrev B0 : FVec Ideal S1024x512 .f32 := iblk m c 0 t
abbrev B1 : FVec Ideal S1024x512 .f32 := iblk m c 1 t
abbrev B2 : FVec Ideal S1024x512 .f32 := iblk m c 2 t
abbrev B3 : FVec Ideal S1024x512 .f32 := iblk m c 3 t

/-- The arguments, and their rows one matrix after another. -/
def w : FVec Ideal S4x512x512 .f32 := m ((c : Thread nD τ).loc main_arg0)
def g : FVec Ideal S4x512x512 .f32 := m ((c : Thread nD τ).loc main_arg1)
def a : FVec Ideal S4x512x512 .f32 := m ((c : Thread nD τ).loc main_arg2)
def v : FVec Ideal S4x512x512 .f32 := m ((c : Thread nD τ).loc main_arg3)
abbrev rows (f : FVec Ideal S4x512x512 .f32) : FVec Ideal S2048x512 .f32 := shapeCast S2048x512 f shapeCasts_S4x512x512_S2048x512

theorem flat : V m c main_v1 = rows (w m c) ∧ V m c main_v2 = rows (g m c) ∧ V m c main_v3 = rows (a m c)
    ∧ V m c main_v4 = rows (v m c) := by
  unfold V
  simp only [hostOps0, List.flatten_cons, List.flatten_nil, List.append_nil, List.cons_append, List.nil_append]
  refine ⟨?_, ?_, ?_, ?_⟩ <;>
  · after_results
    rfl

/-- The entries a point of the grid writes, of each result. -/
theorem written (p : Fin 1024) (q : Fin 512) :
    ((dats m 0 c).after 4 t : FVec Ideal S1024x512 .f32) (ix2 p q)
        = change (B0 m c t (ix2 p q)) (B1 m c t (ix2 p q)) (B2 m c t (ix2 p q)) (B3 m c t (ix2 p q))
    ∧ ((dats m 0 c).after 5 t : FVec Ideal S1024x512 .f32) (ix2 p q) = mean (B1 m c t (ix2 p q)) (B2 m c t (ix2 p q))
    ∧ ((dats m 0 c).after 6 t : FVec Ideal S1024x512 .f32) (ix2 p q) = square (B1 m c t (ix2 p q)) (B3 m c t (ix2 p q)) := by
  rw [after0_4, after0_5, after0_6]
  refine ⟨?_, ?_, ?_⟩ <;>
  · frame_out
    pointwise [k0_pay1, k0_pay2, k0_pay3, k0_pay4, change, mean, square]

/-- Every array's block of point `t` is its rows from the same one on. -/
theorem index : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

/-- The row which an entry of point `t`'s blocks is of. -/
def row (p : Fin 1024) : Fin 2048 := ⟨t.val * 1024 + p.val, by
  have hN : t.val < 2 := lt_of_lt_of_eq t.isLt N_0
  omega⟩

theorem blocks (p : Fin 1024) (q : Fin 512) : B0 m c t (ix2 p q) = (rows (w m c)) (ix2 (row t p) q)
    ∧ B1 m c t (ix2 p q) = (rows (g m c)) (ix2 (row t p) q)
    ∧ B2 m c t (ix2 p q) = (rows (a m c)) (ix2 (row t p) q)
    ∧ B3 m c t (ix2 p q) = (rows (v m c)) (ix2 (row t p) q) := by
  obtain ⟨i0, i1, i2, i3, -⟩ := index t
  refine ⟨?_, ?_, ?_, ?_⟩
  · unfold B0 iblk
    rw [show V m c (Pipeline.arrRef spec0 0) = rows (w m c) from (flat m c).1]
    refine congrArg (rows (w m c)) (funext fun a => Fin.ext ?_)
    blk_simp [i0]
    fin_cases a <;> simp [row]
  · unfold B1 iblk
    rw [show V m c (Pipeline.arrRef spec0 1) = rows (g m c) from (flat m c).2.1]
    refine congrArg (rows (g m c)) (funext fun a => Fin.ext ?_)
    blk_simp [i1]
    fin_cases a <;> simp [row]
  · unfold B2 iblk
    rw [show V m c (Pipeline.arrRef spec0 2) = rows (a m c) from (flat m c).2.2.1]
    refine congrArg (rows (a m c)) (funext fun a => Fin.ext ?_)
    blk_simp [i2]
    fin_cases a <;> simp [row]
  · unfold B3 iblk
    rw [show V m c (Pipeline.arrRef spec0 3) = rows (v m c) from (flat m c).2.2.2]
    refine congrArg (rows (v m c)) (funext fun a => Fin.ext ?_)
    blk_simp [i3]
    fin_cases a <;> simp [row]

theorem placed (p : Fin 1024) (q : Fin 512) : (win0_4.blk t).view.emb (ix2 p q) = ix2 (row t p) q
    ∧ (win0_5.blk t).view.emb (ix2 p q) = ix2 (row t p) q
    ∧ (win0_6.blk t).view.emb (ix2 p q) = ix2 (row t p) q := by
  obtain ⟨-, -, -, -, i4, i5, i6⟩ := index t
  refine ⟨?_, ?_, ?_⟩ <;>
  · funext a
    apply Fin.ext
    blk_simp [i4, i5, i6]
    fin_cases a <;> simp [row]

open Cert.AdamwWPaRefIdeal.Read

/-- The reference's results, at a place. -/
theorem reference (w g a v : FVec Ideal S4x512x512 .f32) (y : S2048x512.Idx) :
    val_main_v24 (F := Ideal) w g a v y = change (rows w y) (rows g y) (rows a y) (rows v y)
    ∧ val_main_v25 (F := Ideal) g a y = mean (rows g y) (rows a y)
    ∧ val_main_v26 (F := Ideal) g v y = square (rows g y) (rows v y) := ⟨rfl, rfl, rfl⟩

/-- The kernel's results are the reference's. -/
theorem result :
    (dats m 0 c).arrAt 4 cfg0.N = val_main_v24 (F := Ideal) (w m c) (g m c) (a m c) (v m c)
    ∧ (dats m 0 c).arrAt 5 cfg0.N = val_main_v25 (F := Ideal) (g m c) (a m c)
    ∧ (dats m 0 c).arrAt 6 cfg0.N = val_main_v26 (F := Ideal) (g m c) (v m c) := by
  have e := written m c
  have r := fun t p q => reference (w m c) (g m c) (a m c) (v m c) (ix2 (row t p) q)
  simp only [(blocks m c _ _ _).1, (blocks m c _ _ _).2.1, (blocks m c _ _ _).2.2.1, (blocks m c _ _ _).2.2.2] at e
  refine ⟨?_, ?_, ?_⟩
  · refine (dats m 0 c).arrAt_eq_of_covers 4 _ (by decide +kernel) fun t hf y => ?_
    obtain ⟨p, q, rfl⟩ : ∃ (p : Fin 1024) (q : Fin 512), y = ix2 p q := ⟨y 0, y 1, ValueIdx.eq_ix2 y⟩
    exact (e t p q).1.trans ((r t p q).1.symm.trans (congrArg _ (placed t p q).1.symm))
  · refine (dats m 0 c).arrAt_eq_of_covers 5 _ (by decide +kernel) fun t hf y => ?_
    obtain ⟨p, q, rfl⟩ : ∃ (p : Fin 1024) (q : Fin 512), y = ix2 p q := ⟨y 0, y 1, ValueIdx.eq_ix2 y⟩
    exact (e t p q).2.1.trans ((r t p q).2.1.symm.trans (congrArg _ (placed t p q).2.1.symm))
  · refine (dats m 0 c).arrAt_eq_of_covers 6 _ (by decide +kernel) fun t hf y => ?_
    obtain ⟨p, q, rfl⟩ : ∃ (p : Fin 1024) (q : Fin 512), y = ix2 p q := ⟨y 0, y 1, ValueIdx.eq_ix2 y⟩
    exact (e t p q).2.2.trans ((r t p q).2.2.symm.trans (congrArg _ (placed t p q).2.2.symm))

attribute [local instance] Cert.AdamwWPaIdeal.Gen.facts Cert.AdamwWPaRefIdeal.Gen.facts

theorem frame_ri : Cert.quiescent_AdamwWPaRefIdeal := fun m ρ _ =>
  (θ_run Cert.AdamwWPaRefIdeal.defs _ _).mono
    (fun r h => ⟨fun c => (h c).2.2.2, sem_eq_zero_of_no_sems (by decide) r.2⟩)
    (Cert.AdamwWPaRefIdeal.Value.run m ρ)

theorem value : Cert.algebraic_AdamwWPaIdeal_AdamwWPaRefIdeal := by
  intro m g' m' g'' _ ha
  refine ⟨fun c => val_main_v24 (F := Ideal) (w m c) (g m c) (a m c) (v m c), fun c => val_main_v25 (F := Ideal) (g m c) (a m c),
    fun c => val_main_v26 (F := Ideal) (g m c) (v m c), ?_, ?_⟩
  · refine (θ_run Cert.AdamwWPaIdeal.defs _ _).mono (fun r h c => ?_) (Cert.AdamwWPaIdeal.Value.run_blocks m g')
    have e := result m c
    exact ⟨(h c).1.trans e.1, (h c).2.1.trans e.2.1, (h c).2.2.1.trans e.2.2, (h c).2.2.2⟩
  · refine (θ_run Cert.AdamwWPaRefIdeal.defs _ _).mono (fun r h c => ?_) (Cert.AdamwWPaRefIdeal.Value.run m' g'')
    obtain ⟨a0, a1, a2, a3⟩ := ha c
    refine ⟨(h c).1.trans ?_, (h c).2.1.trans ?_, (h c).2.2.1.trans ?_, (h c).2.2.2⟩
    · rw [val_main_v24_eq, a0, a1, a2, a3]
      rfl
    · rw [val_main_v25_eq, a1, a2]
      rfl
    · rw [val_main_v26_eq, a1, a3]
      rfl

end Cert.Adam.AdamwWPa
-- ==== Proof.Adam.AdamwWPb.lean ====
/- The optimiser's step on the weights of the gating unit's branch (and of the state-space layer's, which has the same shape). -/
module

public import proofs.«01_k».proof.Proof.Kit
public import proofs.«01_k».proof.Proof.Gen.AdamwWPbIdeal.Value
public import proofs.«01_k».proof.Proof.Gen.AdamwWPbRefIdeal.Read
public import proofs.«01_k».proof.Proof.Adam.Step
public import proofs.«01_k».proof.Proof.Products.Blocked

@[expose] public section

set_option maxRecDepth 16384

noncomputable section

namespace Cert.Adam.AdamwWPb

open Idealize.ShloMosaic Idealize.ShloMosaic.TcCoe Idealize.SL.Sem Cert.AdamwWPbIdeal Cert.AdamwWPbIdeal.Gen Cert.Products

variable (m : (ℓ : Loc nD τ sig) → Buf (Elt Ideal) ℓ) (c : Dev nD) (t : Fin cfg0.N)

/-- The blocks of point `t`: of the weights, the gradients, and the two means. -/
abbrev B0 : FVec Ideal S1024x512 .f32 := iblk m c 0 t
abbrev B1 : FVec Ideal S1024x512 .f32 := iblk m c 1 t
abbrev B2 : FVec Ideal S1024x512 .f32 := iblk m c 2 t
abbrev B3 : FVec Ideal S1024x512 .f32 := iblk m c 3 t

/-- The arguments, and their rows one matrix after another. -/
def w : FVec Ideal S4x768x512 .f32 := m ((c : Thread nD τ).loc main_arg0)
def g : FVec Ideal S4x768x512 .f32 := m ((c : Thread nD τ).loc main_arg1)
def a : FVec Ideal S4x768x512 .f32 := m ((c : Thread nD τ).loc main_arg2)
def v : FVec Ideal S4x768x512 .f32 := m ((c : Thread nD τ).loc main_arg3)
abbrev rows (f : FVec Ideal S4x768x512 .f32) : FVec Ideal S3072x512 .f32 := shapeCast S3072x512 f shapeCasts_S4x768x512_S3072x512

theorem flat : V m c main_v1 = rows (w m c) ∧ V m c main_v2 = rows (g m c) ∧ V m c main_v3 = rows (a m c)
    ∧ V m c main_v4 = rows (v m c) := by
  unfold V
  simp only [hostOps0, List.flatten_cons, List.flatten_nil, List.append_nil, List.cons_append, List.nil_append]
  refine ⟨?_, ?_, ?_, ?_⟩ <;>
  · after_results
    rfl

/-- The entries a point of the grid writes, of each result. -/
theorem written (p : Fin 1024) (q : Fin 512) :
    ((dats m 0 c).after 4 t : FVec Ideal S1024x512 .f32) (ix2 p q)
        = change (B0 m c t (ix2 p q)) (B1 m c t (ix2 p q)) (B2 m c t (ix2 p q)) (B3 m c t (ix2 p q))
    ∧ ((dats m 0 c).after 5 t : FVec Ideal S1024x512 .f32) (ix2 p q) = mean (B1 m c t (ix2 p q)) (B2 m c t (ix2 p q))
    ∧ ((dats m 0 c).after 6 t : FVec Ideal S1024x512 .f32) (ix2 p q) = square (B1 m c t (ix2 p q)) (B3 m c t (ix2 p q)) := by
  rw [after0_4, after0_5, after0_6]
  refine ⟨?_, ?_, ?_⟩ <;>
  · frame_out
    pointwise [k0_pay1, k0_pay2, k0_pay3, k0_pay4, change, mean, square]

/-- Every array's block of point `t` is its rows from the same one on. -/
theorem index : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

/-- The row which an entry of point `t`'s blocks is of. -/
def row (p : Fin 1024) : Fin 3072 := ⟨t.val * 1024 + p.val, by
  have hN : t.val < 3 := lt_of_lt_of_eq t.isLt N_0
  omega⟩

theorem blocks (p : Fin 1024) (q : Fin 512) : B0 m c t (ix2 p q) = (rows (w m c)) (ix2 (row t p) q)
    ∧ B1 m c t (ix2 p q) = (rows (g m c)) (ix2 (row t p) q)
    ∧ B2 m c t (ix2 p q) = (rows (a m c)) (ix2 (row t p) q)
    ∧ B3 m c t (ix2 p q) = (rows (v m c)) (ix2 (row t p) q) := by
  obtain ⟨i0, i1, i2, i3, -⟩ := index t
  refine ⟨?_, ?_, ?_, ?_⟩
  · unfold B0 iblk
    rw [show V m c (Pipeline.arrRef spec0 0) = rows (w m c) from (flat m c).1]
    refine congrArg (rows (w m c)) (funext fun a => Fin.ext ?_)
    blk_simp [i0]
    fin_cases a <;> simp [row]
  · unfold B1 iblk
    rw [show V m c (Pipeline.arrRef spec0 1) = rows (g m c) from (flat m c).2.1]
    refine congrArg (rows (g m c)) (funext fun a => Fin.ext ?_)
    blk_simp [i1]
    fin_cases a <;> simp [row]
  · unfold B2 iblk
    rw [show V m c (Pipeline.arrRef spec0 2) = rows (a m c) from (flat m c).2.2.1]
    refine congrArg (rows (a m c)) (funext fun a => Fin.ext ?_)
    blk_simp [i2]
    fin_cases a <;> simp [row]
  · unfold B3 iblk
    rw [show V m c (Pipeline.arrRef spec0 3) = rows (v m c) from (flat m c).2.2.2]
    refine congrArg (rows (v m c)) (funext fun a => Fin.ext ?_)
    blk_simp [i3]
    fin_cases a <;> simp [row]

theorem placed (p : Fin 1024) (q : Fin 512) : (win0_4.blk t).view.emb (ix2 p q) = ix2 (row t p) q
    ∧ (win0_5.blk t).view.emb (ix2 p q) = ix2 (row t p) q
    ∧ (win0_6.blk t).view.emb (ix2 p q) = ix2 (row t p) q := by
  obtain ⟨-, -, -, -, i4, i5, i6⟩ := index t
  refine ⟨?_, ?_, ?_⟩ <;>
  · funext a
    apply Fin.ext
    blk_simp [i4, i5, i6]
    fin_cases a <;> simp [row]

open Cert.AdamwWPbRefIdeal.Read

/-- The reference's results, at a place. -/
theorem reference (w g a v : FVec Ideal S4x768x512 .f32) (y : S3072x512.Idx) :
    val_main_v24 (F := Ideal) w g a v y = change (rows w y) (rows g y) (rows a y) (rows v y)
    ∧ val_main_v25 (F := Ideal) g a y = mean (rows g y) (rows a y)
    ∧ val_main_v26 (F := Ideal) g v y = square (rows g y) (rows v y) := ⟨rfl, rfl, rfl⟩

/-- The kernel's results are the reference's. -/
theorem result :
    (dats m 0 c).arrAt 4 cfg0.N = val_main_v24 (F := Ideal) (w m c) (g m c) (a m c) (v m c)
    ∧ (dats m 0 c).arrAt 5 cfg0.N = val_main_v25 (F := Ideal) (g m c) (a m c)
    ∧ (dats m 0 c).arrAt 6 cfg0.N = val_main_v26 (F := Ideal) (g m c) (v m c) := by
  have e := written m c
  have r := fun t p q => reference (w m c) (g m c) (a m c) (v m c) (ix2 (row t p) q)
  simp only [(blocks m c _ _ _).1, (blocks m c _ _ _).2.1, (blocks m c _ _ _).2.2.1, (blocks m c _ _ _).2.2.2] at e
  refine ⟨?_, ?_, ?_⟩
  · refine (dats m 0 c).arrAt_eq_of_covers 4 _ (by decide +kernel) fun t hf y => ?_
    obtain ⟨p, q, rfl⟩ : ∃ (p : Fin 1024) (q : Fin 512), y = ix2 p q := ⟨y 0, y 1, ValueIdx.eq_ix2 y⟩
    exact (e t p q).1.trans ((r t p q).1.symm.trans (congrArg _ (placed t p q).1.symm))
  · refine (dats m 0 c).arrAt_eq_of_covers 5 _ (by decide +kernel) fun t hf y => ?_
    obtain ⟨p, q, rfl⟩ : ∃ (p : Fin 1024) (q : Fin 512), y = ix2 p q := ⟨y 0, y 1, ValueIdx.eq_ix2 y⟩
    exact (e t p q).2.1.trans ((r t p q).2.1.symm.trans (congrArg _ (placed t p q).2.1.symm))
  · refine (dats m 0 c).arrAt_eq_of_covers 6 _ (by decide +kernel) fun t hf y => ?_
    obtain ⟨p, q, rfl⟩ : ∃ (p : Fin 1024) (q : Fin 512), y = ix2 p q := ⟨y 0, y 1, ValueIdx.eq_ix2 y⟩
    exact (e t p q).2.2.trans ((r t p q).2.2.symm.trans (congrArg _ (placed t p q).2.2.symm))

attribute [local instance] Cert.AdamwWPbIdeal.Gen.facts Cert.AdamwWPbRefIdeal.Gen.facts

theorem frame_ri : Cert.quiescent_AdamwWPbRefIdeal := fun m ρ _ =>
  (θ_run Cert.AdamwWPbRefIdeal.defs _ _).mono
    (fun r h => ⟨fun c => (h c).2.2.2, sem_eq_zero_of_no_sems (by decide) r.2⟩)
    (Cert.AdamwWPbRefIdeal.Value.run m ρ)

theorem value : Cert.algebraic_AdamwWPbIdeal_AdamwWPbRefIdeal := by
  intro m g' m' g'' _ ha
  refine ⟨fun c => val_main_v24 (F := Ideal) (w m c) (g m c) (a m c) (v m c), fun c => val_main_v25 (F := Ideal) (g m c) (a m c),
    fun c => val_main_v26 (F := Ideal) (g m c) (v m c), ?_, ?_⟩
  · refine (θ_run Cert.AdamwWPbIdeal.defs _ _).mono (fun r h c => ?_) (Cert.AdamwWPbIdeal.Value.run_blocks m g')
    have e := result m c
    exact ⟨(h c).1.trans e.1, (h c).2.1.trans e.2.1, (h c).2.2.1.trans e.2.2, (h c).2.2.2⟩
  · refine (θ_run Cert.AdamwWPbRefIdeal.defs _ _).mono (fun r h c => ?_) (Cert.AdamwWPbRefIdeal.Value.run m' g'')
    obtain ⟨a0, a1, a2, a3⟩ := ha c
    refine ⟨(h c).1.trans ?_, (h c).2.1.trans ?_, (h c).2.2.1.trans ?_, (h c).2.2.2⟩
    · rw [val_main_v24_eq, a0, a1, a2, a3]
      rfl
    · rw [val_main_v25_eq, a1, a2]
      rfl
    · rw [val_main_v26_eq, a1, a3]
      rfl

end Cert.Adam.AdamwWPb
-- ==== Proof.Adam.AdamwWO.lean ====
/- The optimiser's step on the weights of the merge. -/
module

public import proofs.«01_k».proof.Proof.Kit
public import proofs.«01_k».proof.Proof.Gen.AdamwWOIdeal.Value
public import proofs.«01_k».proof.Proof.Gen.AdamwWORefIdeal.Read
public import proofs.«01_k».proof.Proof.Adam.Step
public import proofs.«01_k».proof.Proof.Products.Blocked

@[expose] public section

set_option maxRecDepth 16384

noncomputable section

namespace Cert.Adam.AdamwWO

open Idealize.ShloMosaic Idealize.ShloMosaic.TcCoe Idealize.SL.Sem Cert.AdamwWOIdeal Cert.AdamwWOIdeal.Gen Cert.Products

variable (m : (ℓ : Loc nD τ sig) → Buf (Elt Ideal) ℓ) (c : Dev nD) (t : Fin cfg0.N)

/-- The blocks of point `t`: of the weights, the gradients, and the two means. -/
abbrev B0 : FVec Ideal S256x2048 .f32 := iblk m c 0 t
abbrev B1 : FVec Ideal S256x2048 .f32 := iblk m c 1 t
abbrev B2 : FVec Ideal S256x2048 .f32 := iblk m c 2 t
abbrev B3 : FVec Ideal S256x2048 .f32 := iblk m c 3 t

/-- The arguments, and their rows one matrix after another. -/
def w : FVec Ideal S4x512x2048 .f32 := m ((c : Thread nD τ).loc main_arg0)
def g : FVec Ideal S4x512x2048 .f32 := m ((c : Thread nD τ).loc main_arg1)
def a : FVec Ideal S4x512x2048 .f32 := m ((c : Thread nD τ).loc main_arg2)
def v : FVec Ideal S4x512x2048 .f32 := m ((c : Thread nD τ).loc main_arg3)
abbrev rows (f : FVec Ideal S4x512x2048 .f32) : FVec Ideal S2048x2048 .f32 := shapeCast S2048x2048 f shapeCasts_S4x512x2048_S2048x2048

theorem flat : V m c main_v1 = rows (w m c) ∧ V m c main_v2 = rows (g m c) ∧ V m c main_v3 = rows (a m c)
    ∧ V m c main_v4 = rows (v m c) := by
  unfold V
  simp only [hostOps0, List.flatten_cons, List.flatten_nil, List.append_nil, List.cons_append, List.nil_append]
  refine ⟨?_, ?_, ?_, ?_⟩ <;>
  · after_results
    rfl

/-- The entries a point of the grid writes, of each result. -/
theorem written (p : Fin 256) (q : Fin 2048) :
    ((dats m 0 c).after 4 t : FVec Ideal S256x2048 .f32) (ix2 p q)
        = change (B0 m c t (ix2 p q)) (B1 m c t (ix2 p q)) (B2 m c t (ix2 p q)) (B3 m c t (ix2 p q))
    ∧ ((dats m 0 c).after 5 t : FVec Ideal S256x2048 .f32) (ix2 p q) = mean (B1 m c t (ix2 p q)) (B2 m c t (ix2 p q))
    ∧ ((dats m 0 c).after 6 t : FVec Ideal S256x2048 .f32) (ix2 p q) = square (B1 m c t (ix2 p q)) (B3 m c t (ix2 p q)) := by
  rw [after0_4, after0_5, after0_6]
  refine ⟨?_, ?_, ?_⟩ <;>
  · frame_out
    pointwise [k0_pay1, k0_pay2, k0_pay3, k0_pay4, change, mean, square]

/-- Every array's block of point `t` is its rows from the same one on. -/
theorem index : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

/-- The row which an entry of point `t`'s blocks is of. -/
def row (p : Fin 256) : Fin 2048 := ⟨t.val * 256 + p.val, by
  have hN : t.val < 8 := lt_of_lt_of_eq t.isLt N_0
  omega⟩

theorem blocks (p : Fin 256) (q : Fin 2048) : B0 m c t (ix2 p q) = (rows (w m c)) (ix2 (row t p) q)
    ∧ B1 m c t (ix2 p q) = (rows (g m c)) (ix2 (row t p) q)
    ∧ B2 m c t (ix2 p q) = (rows (a m c)) (ix2 (row t p) q)
    ∧ B3 m c t (ix2 p q) = (rows (v m c)) (ix2 (row t p) q) := by
  obtain ⟨i0, i1, i2, i3, -⟩ := index t
  refine ⟨?_, ?_, ?_, ?_⟩
  · unfold B0 iblk
    rw [show V m c (Pipeline.arrRef spec0 0) = rows (w m c) from (flat m c).1]
    refine congrArg (rows (w m c)) (funext fun a => Fin.ext ?_)
    blk_simp [i0]
    fin_cases a <;> simp [row]
  · unfold B1 iblk
    rw [show V m c (Pipeline.arrRef spec0 1) = rows (g m c) from (flat m c).2.1]
    refine congrArg (rows (g m c)) (funext fun a => Fin.ext ?_)
    blk_simp [i1]
    fin_cases a <;> simp [row]
  · unfold B2 iblk
    rw [show V m c (Pipeline.arrRef spec0 2) = rows (a m c) from (flat m c).2.2.1]
    refine congrArg (rows (a m c)) (funext fun a => Fin.ext ?_)
    blk_simp [i2]
    fin_cases a <;> simp [row]
  · unfold B3 iblk
    rw [show V m c (Pipeline.arrRef spec0 3) = rows (v m c) from (flat m c).2.2.2]
    refine congrArg (rows (v m c)) (funext fun a => Fin.ext ?_)
    blk_simp [i3]
    fin_cases a <;> simp [row]

theorem placed (p : Fin 256) (q : Fin 2048) : (win0_4.blk t).view.emb (ix2 p q) = ix2 (row t p) q
    ∧ (win0_5.blk t).view.emb (ix2 p q) = ix2 (row t p) q
    ∧ (win0_6.blk t).view.emb (ix2 p q) = ix2 (row t p) q := by
  obtain ⟨-, -, -, -, i4, i5, i6⟩ := index t
  refine ⟨?_, ?_, ?_⟩ <;>
  · funext a
    apply Fin.ext
    blk_simp [i4, i5, i6]
    fin_cases a <;> simp [row]

open Cert.AdamwWORefIdeal.Read

/-- The reference's results, at a place. -/
theorem reference (w g a v : FVec Ideal S4x512x2048 .f32) (y : S2048x2048.Idx) :
    val_main_v24 (F := Ideal) w g a v y = change (rows w y) (rows g y) (rows a y) (rows v y)
    ∧ val_main_v25 (F := Ideal) g a y = mean (rows g y) (rows a y)
    ∧ val_main_v26 (F := Ideal) g v y = square (rows g y) (rows v y) := ⟨rfl, rfl, rfl⟩

/-- The kernel's results are the reference's. -/
theorem result :
    (dats m 0 c).arrAt 4 cfg0.N = val_main_v24 (F := Ideal) (w m c) (g m c) (a m c) (v m c)
    ∧ (dats m 0 c).arrAt 5 cfg0.N = val_main_v25 (F := Ideal) (g m c) (a m c)
    ∧ (dats m 0 c).arrAt 6 cfg0.N = val_main_v26 (F := Ideal) (g m c) (v m c) := by
  have e := written m c
  have r := fun t p q => reference (w m c) (g m c) (a m c) (v m c) (ix2 (row t p) q)
  simp only [(blocks m c _ _ _).1, (blocks m c _ _ _).2.1, (blocks m c _ _ _).2.2.1, (blocks m c _ _ _).2.2.2] at e
  refine ⟨?_, ?_, ?_⟩
  · refine (dats m 0 c).arrAt_eq_of_covers 4 _ (by decide +kernel) fun t hf y => ?_
    obtain ⟨p, q, rfl⟩ : ∃ (p : Fin 256) (q : Fin 2048), y = ix2 p q := ⟨y 0, y 1, ValueIdx.eq_ix2 y⟩
    exact (e t p q).1.trans ((r t p q).1.symm.trans (congrArg _ (placed t p q).1.symm))
  · refine (dats m 0 c).arrAt_eq_of_covers 5 _ (by decide +kernel) fun t hf y => ?_
    obtain ⟨p, q, rfl⟩ : ∃ (p : Fin 256) (q : Fin 2048), y = ix2 p q := ⟨y 0, y 1, ValueIdx.eq_ix2 y⟩
    exact (e t p q).2.1.trans ((r t p q).2.1.symm.trans (congrArg _ (placed t p q).2.1.symm))
  · refine (dats m 0 c).arrAt_eq_of_covers 6 _ (by decide +kernel) fun t hf y => ?_
    obtain ⟨p, q, rfl⟩ : ∃ (p : Fin 256) (q : Fin 2048), y = ix2 p q := ⟨y 0, y 1, ValueIdx.eq_ix2 y⟩
    exact (e t p q).2.2.trans ((r t p q).2.2.symm.trans (congrArg _ (placed t p q).2.2.symm))

attribute [local instance] Cert.AdamwWOIdeal.Gen.facts Cert.AdamwWORefIdeal.Gen.facts

theorem frame_ri : Cert.quiescent_AdamwWORefIdeal := fun m ρ _ =>
  (θ_run Cert.AdamwWORefIdeal.defs _ _).mono
    (fun r h => ⟨fun c => (h c).2.2.2, sem_eq_zero_of_no_sems (by decide) r.2⟩)
    (Cert.AdamwWORefIdeal.Value.run m ρ)

theorem value : Cert.algebraic_AdamwWOIdeal_AdamwWORefIdeal := by
  intro m g' m' g'' _ ha
  refine ⟨fun c => val_main_v24 (F := Ideal) (w m c) (g m c) (a m c) (v m c), fun c => val_main_v25 (F := Ideal) (g m c) (a m c),
    fun c => val_main_v26 (F := Ideal) (g m c) (v m c), ?_, ?_⟩
  · refine (θ_run Cert.AdamwWOIdeal.defs _ _).mono (fun r h c => ?_) (Cert.AdamwWOIdeal.Value.run_blocks m g')
    have e := result m c
    exact ⟨(h c).1.trans e.1, (h c).2.1.trans e.2.1, (h c).2.2.1.trans e.2.2, (h c).2.2.2⟩
  · refine (θ_run Cert.AdamwWORefIdeal.defs _ _).mono (fun r h c => ?_) (Cert.AdamwWORefIdeal.Value.run m' g'')
    obtain ⟨a0, a1, a2, a3⟩ := ha c
    refine ⟨(h c).1.trans ?_, (h c).2.1.trans ?_, (h c).2.2.1.trans ?_, (h c).2.2.2⟩
    · rw [val_main_v24_eq, a0, a1, a2, a3]
      rfl
    · rw [val_main_v25_eq, a1, a2]
      rfl
    · rw [val_main_v26_eq, a1, a3]
      rfl

end Cert.Adam.AdamwWO
-- ==== Proof.Adam.AdamwWFfnIn.lean ====
/- The optimiser's step on the weights of the feed-forward part's input. -/
module

public import proofs.«01_k».proof.Proof.Kit
public import proofs.«01_k».proof.Proof.Gen.AdamwWFfnInIdeal.Value
public import proofs.«01_k».proof.Proof.Gen.AdamwWFfnInRefIdeal.Read
public import proofs.«01_k».proof.Proof.Adam.Step
public import proofs.«01_k».proof.Proof.Products.Blocked

@[expose] public section

set_option maxRecDepth 16384

noncomputable section

namespace Cert.Adam.AdamwWFfnIn

open Idealize.ShloMosaic Idealize.ShloMosaic.TcCoe Idealize.SL.Sem Cert.AdamwWFfnInIdeal Cert.AdamwWFfnInIdeal.Gen Cert.Products

variable (m : (ℓ : Loc nD τ sig) → Buf (Elt Ideal) ℓ) (c : Dev nD) (t : Fin cfg0.N)

/-- The blocks of point `t`: of the weights, the gradients, and the two means. -/
abbrev B0 : FVec Ideal S128x2816 .f32 := iblk m c 0 t
abbrev B1 : FVec Ideal S128x2816 .f32 := iblk m c 1 t
abbrev B2 : FVec Ideal S128x2816 .f32 := iblk m c 2 t
abbrev B3 : FVec Ideal S128x2816 .f32 := iblk m c 3 t

/-- The arguments, and their rows one matrix after another. -/
def w : FVec Ideal S4x2048x2816 .f32 := m ((c : Thread nD τ).loc main_arg0)
def g : FVec Ideal S4x2048x2816 .f32 := m ((c : Thread nD τ).loc main_arg1)
def a : FVec Ideal S4x2048x2816 .f32 := m ((c : Thread nD τ).loc main_arg2)
def v : FVec Ideal S4x2048x2816 .f32 := m ((c : Thread nD τ).loc main_arg3)
abbrev rows (f : FVec Ideal S4x2048x2816 .f32) : FVec Ideal S8192x2816 .f32 := shapeCast S8192x2816 f shapeCasts_S4x2048x2816_S8192x2816

theorem flat : V m c main_v1 = rows (w m c) ∧ V m c main_v2 = rows (g m c) ∧ V m c main_v3 = rows (a m c)
    ∧ V m c main_v4 = rows (v m c) := by
  unfold V
  simp only [hostOps0, List.flatten_cons, List.flatten_nil, List.append_nil, List.cons_append, List.nil_append]
  refine ⟨?_, ?_, ?_, ?_⟩ <;>
  · after_results
    rfl

/-- The entries a point of the grid writes, of each result. -/
theorem written (p : Fin 128) (q : Fin 2816) :
    ((dats m 0 c).after 4 t : FVec Ideal S128x2816 .f32) (ix2 p q)
        = change (B0 m c t (ix2 p q)) (B1 m c t (ix2 p q)) (B2 m c t (ix2 p q)) (B3 m c t (ix2 p q))
    ∧ ((dats m 0 c).after 5 t : FVec Ideal S128x2816 .f32) (ix2 p q) = mean (B1 m c t (ix2 p q)) (B2 m c t (ix2 p q))
    ∧ ((dats m 0 c).after 6 t : FVec Ideal S128x2816 .f32) (ix2 p q) = square (B1 m c t (ix2 p q)) (B3 m c t (ix2 p q)) := by
  rw [after0_4, after0_5, after0_6]
  refine ⟨?_, ?_, ?_⟩ <;>
  · frame_out
    pointwise [k0_pay1, k0_pay2, k0_pay3, k0_pay4, change, mean, square]

/-- Every array's block of point `t` is its rows from the same one on. -/
theorem index : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

/-- The row which an entry of point `t`'s blocks is of. -/
def row (p : Fin 128) : Fin 8192 := ⟨t.val * 128 + p.val, by
  have hN : t.val < 64 := lt_of_lt_of_eq t.isLt N_0
  omega⟩

theorem blocks (p : Fin 128) (q : Fin 2816) : B0 m c t (ix2 p q) = (rows (w m c)) (ix2 (row t p) q)
    ∧ B1 m c t (ix2 p q) = (rows (g m c)) (ix2 (row t p) q)
    ∧ B2 m c t (ix2 p q) = (rows (a m c)) (ix2 (row t p) q)
    ∧ B3 m c t (ix2 p q) = (rows (v m c)) (ix2 (row t p) q) := by
  obtain ⟨i0, i1, i2, i3, -⟩ := index t
  refine ⟨?_, ?_, ?_, ?_⟩
  · unfold B0 iblk
    rw [show V m c (Pipeline.arrRef spec0 0) = rows (w m c) from (flat m c).1]
    refine congrArg (rows (w m c)) (funext fun a => Fin.ext ?_)
    blk_simp [i0]
    fin_cases a <;> simp [row]
  · unfold B1 iblk
    rw [show V m c (Pipeline.arrRef spec0 1) = rows (g m c) from (flat m c).2.1]
    refine congrArg (rows (g m c)) (funext fun a => Fin.ext ?_)
    blk_simp [i1]
    fin_cases a <;> simp [row]
  · unfold B2 iblk
    rw [show V m c (Pipeline.arrRef spec0 2) = rows (a m c) from (flat m c).2.2.1]
    refine congrArg (rows (a m c)) (funext fun a => Fin.ext ?_)
    blk_simp [i2]
    fin_cases a <;> simp [row]
  · unfold B3 iblk
    rw [show V m c (Pipeline.arrRef spec0 3) = rows (v m c) from (flat m c).2.2.2]
    refine congrArg (rows (v m c)) (funext fun a => Fin.ext ?_)
    blk_simp [i3]
    fin_cases a <;> simp [row]

theorem placed (p : Fin 128) (q : Fin 2816) : (win0_4.blk t).view.emb (ix2 p q) = ix2 (row t p) q
    ∧ (win0_5.blk t).view.emb (ix2 p q) = ix2 (row t p) q
    ∧ (win0_6.blk t).view.emb (ix2 p q) = ix2 (row t p) q := by
  obtain ⟨-, -, -, -, i4, i5, i6⟩ := index t
  refine ⟨?_, ?_, ?_⟩ <;>
  · funext a
    apply Fin.ext
    blk_simp [i4, i5, i6]
    fin_cases a <;> simp [row]

open Cert.AdamwWFfnInRefIdeal.Read

/-- The reference's results, at a place. -/
theorem reference (w g a v : FVec Ideal S4x2048x2816 .f32) (y : S8192x2816.Idx) :
    val_main_v24 (F := Ideal) w g a v y = change (rows w y) (rows g y) (rows a y) (rows v y)
    ∧ val_main_v25 (F := Ideal) g a y = mean (rows g y) (rows a y)
    ∧ val_main_v26 (F := Ideal) g v y = square (rows g y) (rows v y) := ⟨rfl, rfl, rfl⟩

/-- The kernel's results are the reference's. -/
theorem result :
    (dats m 0 c).arrAt 4 cfg0.N = val_main_v24 (F := Ideal) (w m c) (g m c) (a m c) (v m c)
    ∧ (dats m 0 c).arrAt 5 cfg0.N = val_main_v25 (F := Ideal) (g m c) (a m c)
    ∧ (dats m 0 c).arrAt 6 cfg0.N = val_main_v26 (F := Ideal) (g m c) (v m c) := by
  have e := written m c
  have r := fun t p q => reference (w m c) (g m c) (a m c) (v m c) (ix2 (row t p) q)
  simp only [(blocks m c _ _ _).1, (blocks m c _ _ _).2.1, (blocks m c _ _ _).2.2.1, (blocks m c _ _ _).2.2.2] at e
  refine ⟨?_, ?_, ?_⟩
  · refine (dats m 0 c).arrAt_eq_of_covers 4 _ (by decide +kernel) fun t hf y => ?_
    obtain ⟨p, q, rfl⟩ : ∃ (p : Fin 128) (q : Fin 2816), y = ix2 p q := ⟨y 0, y 1, ValueIdx.eq_ix2 y⟩
    exact (e t p q).1.trans ((r t p q).1.symm.trans (congrArg _ (placed t p q).1.symm))
  · refine (dats m 0 c).arrAt_eq_of_covers 5 _ (by decide +kernel) fun t hf y => ?_
    obtain ⟨p, q, rfl⟩ : ∃ (p : Fin 128) (q : Fin 2816), y = ix2 p q := ⟨y 0, y 1, ValueIdx.eq_ix2 y⟩
    exact (e t p q).2.1.trans ((r t p q).2.1.symm.trans (congrArg _ (placed t p q).2.1.symm))
  · refine (dats m 0 c).arrAt_eq_of_covers 6 _ (by decide +kernel) fun t hf y => ?_
    obtain ⟨p, q, rfl⟩ : ∃ (p : Fin 128) (q : Fin 2816), y = ix2 p q := ⟨y 0, y 1, ValueIdx.eq_ix2 y⟩
    exact (e t p q).2.2.trans ((r t p q).2.2.symm.trans (congrArg _ (placed t p q).2.2.symm))

attribute [local instance] Cert.AdamwWFfnInIdeal.Gen.facts Cert.AdamwWFfnInRefIdeal.Gen.facts

theorem frame_ri : Cert.quiescent_AdamwWFfnInRefIdeal := fun m ρ _ =>
  (θ_run Cert.AdamwWFfnInRefIdeal.defs _ _).mono
    (fun r h => ⟨fun c => (h c).2.2.2, sem_eq_zero_of_no_sems (by decide) r.2⟩)
    (Cert.AdamwWFfnInRefIdeal.Value.run m ρ)

theorem value : Cert.algebraic_AdamwWFfnInIdeal_AdamwWFfnInRefIdeal := by
  intro m g' m' g'' _ ha
  refine ⟨fun c => val_main_v24 (F := Ideal) (w m c) (g m c) (a m c) (v m c), fun c => val_main_v25 (F := Ideal) (g m c) (a m c),
    fun c => val_main_v26 (F := Ideal) (g m c) (v m c), ?_, ?_⟩
  · refine (θ_run Cert.AdamwWFfnInIdeal.defs _ _).mono (fun r h c => ?_) (Cert.AdamwWFfnInIdeal.Value.run_blocks m g')
    have e := result m c
    exact ⟨(h c).1.trans e.1, (h c).2.1.trans e.2.1, (h c).2.2.1.trans e.2.2, (h c).2.2.2⟩
  · refine (θ_run Cert.AdamwWFfnInRefIdeal.defs _ _).mono (fun r h c => ?_) (Cert.AdamwWFfnInRefIdeal.Value.run m' g'')
    obtain ⟨a0, a1, a2, a3⟩ := ha c
    refine ⟨(h c).1.trans ?_, (h c).2.1.trans ?_, (h c).2.2.1.trans ?_, (h c).2.2.2⟩
    · rw [val_main_v24_eq, a0, a1, a2, a3]
      rfl
    · rw [val_main_v25_eq, a1, a2]
      rfl
    · rw [val_main_v26_eq, a1, a3]
      rfl

end Cert.Adam.AdamwWFfnIn
-- ==== Proof.Adam.AdamwWFfnOut.lean ====
/- The optimiser's step on the weights of the feed-forward part's output. -/
module

public import proofs.«01_k».proof.Proof.Kit
public import proofs.«01_k».proof.Proof.Gen.AdamwWFfnOutIdeal.Value
public import proofs.«01_k».proof.Proof.Gen.AdamwWFfnOutRefIdeal.Read
public import proofs.«01_k».proof.Proof.Adam.Step
public import proofs.«01_k».proof.Proof.Products.Blocked

@[expose] public section

set_option maxRecDepth 16384

noncomputable section

namespace Cert.Adam.AdamwWFfnOut

open Idealize.ShloMosaic Idealize.ShloMosaic.TcCoe Idealize.SL.Sem Cert.AdamwWFfnOutIdeal Cert.AdamwWFfnOutIdeal.Gen Cert.Products

variable (m : (ℓ : Loc nD τ sig) → Buf (Elt Ideal) ℓ) (c : Dev nD) (t : Fin cfg0.N)

/-- The blocks of point `t`: of the weights, the gradients, and the two means. -/
abbrev B0 : FVec Ideal S256x2048 .f32 := iblk m c 0 t
abbrev B1 : FVec Ideal S256x2048 .f32 := iblk m c 1 t
abbrev B2 : FVec Ideal S256x2048 .f32 := iblk m c 2 t
abbrev B3 : FVec Ideal S256x2048 .f32 := iblk m c 3 t

/-- The arguments, and their rows one matrix after another. -/
def w : FVec Ideal S4x1408x2048 .f32 := m ((c : Thread nD τ).loc main_arg0)
def g : FVec Ideal S4x1408x2048 .f32 := m ((c : Thread nD τ).loc main_arg1)
def a : FVec Ideal S4x1408x2048 .f32 := m ((c : Thread nD τ).loc main_arg2)
def v : FVec Ideal S4x1408x2048 .f32 := m ((c : Thread nD τ).loc main_arg3)
abbrev rows (f : FVec Ideal S4x1408x2048 .f32) : FVec Ideal S5632x2048 .f32 := shapeCast S5632x2048 f shapeCasts_S4x1408x2048_S5632x2048

theorem flat : V m c main_v1 = rows (w m c) ∧ V m c main_v2 = rows (g m c) ∧ V m c main_v3 = rows (a m c)
    ∧ V m c main_v4 = rows (v m c) := by
  unfold V
  simp only [hostOps0, List.flatten_cons, List.flatten_nil, List.append_nil, List.cons_append, List.nil_append]
  refine ⟨?_, ?_, ?_, ?_⟩ <;>
  · after_results
    rfl

/-- The entries a point of the grid writes, of each result. -/
theorem written (p : Fin 256) (q : Fin 2048) :
    ((dats m 0 c).after 4 t : FVec Ideal S256x2048 .f32) (ix2 p q)
        = change (B0 m c t (ix2 p q)) (B1 m c t (ix2 p q)) (B2 m c t (ix2 p q)) (B3 m c t (ix2 p q))
    ∧ ((dats m 0 c).after 5 t : FVec Ideal S256x2048 .f32) (ix2 p q) = mean (B1 m c t (ix2 p q)) (B2 m c t (ix2 p q))
    ∧ ((dats m 0 c).after 6 t : FVec Ideal S256x2048 .f32) (ix2 p q) = square (B1 m c t (ix2 p q)) (B3 m c t (ix2 p q)) := by
  rw [after0_4, after0_5, after0_6]
  refine ⟨?_, ?_, ?_⟩ <;>
  · frame_out
    pointwise [k0_pay1, k0_pay2, k0_pay3, k0_pay4, change, mean, square]

/-- Every array's block of point `t` is its rows from the same one on. -/
theorem index : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

/-- The row which an entry of point `t`'s blocks is of. -/
def row (p : Fin 256) : Fin 5632 := ⟨t.val * 256 + p.val, by
  have hN : t.val < 22 := lt_of_lt_of_eq t.isLt N_0
  omega⟩

theorem blocks (p : Fin 256) (q : Fin 2048) : B0 m c t (ix2 p q) = (rows (w m c)) (ix2 (row t p) q)
    ∧ B1 m c t (ix2 p q) = (rows (g m c)) (ix2 (row t p) q)
    ∧ B2 m c t (ix2 p q) = (rows (a m c)) (ix2 (row t p) q)
    ∧ B3 m c t (ix2 p q) = (rows (v m c)) (ix2 (row t p) q) := by
  obtain ⟨i0, i1, i2, i3, -⟩ := index t
  refine ⟨?_, ?_, ?_, ?_⟩
  · unfold B0 iblk
    rw [show V m c (Pipeline.arrRef spec0 0) = rows (w m c) from (flat m c).1]
    refine congrArg (rows (w m c)) (funext fun a => Fin.ext ?_)
    blk_simp [i0]
    fin_cases a <;> simp [row]
  · unfold B1 iblk
    rw [show V m c (Pipeline.arrRef spec0 1) = rows (g m c) from (flat m c).2.1]
    refine congrArg (rows (g m c)) (funext fun a => Fin.ext ?_)
    blk_simp [i1]
    fin_cases a <;> simp [row]
  · unfold B2 iblk
    rw [show V m c (Pipeline.arrRef spec0 2) = rows (a m c) from (flat m c).2.2.1]
    refine congrArg (rows (a m c)) (funext fun a => Fin.ext ?_)
    blk_simp [i2]
    fin_cases a <;> simp [row]
  · unfold B3 iblk
    rw [show V m c (Pipeline.arrRef spec0 3) = rows (v m c) from (flat m c).2.2.2]
    refine congrArg (rows (v m c)) (funext fun a => Fin.ext ?_)
    blk_simp [i3]
    fin_cases a <;> simp [row]

theorem placed (p : Fin 256) (q : Fin 2048) : (win0_4.blk t).view.emb (ix2 p q) = ix2 (row t p) q
    ∧ (win0_5.blk t).view.emb (ix2 p q) = ix2 (row t p) q
    ∧ (win0_6.blk t).view.emb (ix2 p q) = ix2 (row t p) q := by
  obtain ⟨-, -, -, -, i4, i5, i6⟩ := index t
  refine ⟨?_, ?_, ?_⟩ <;>
  · funext a
    apply Fin.ext
    blk_simp [i4, i5, i6]
    fin_cases a <;> simp [row]

open Cert.AdamwWFfnOutRefIdeal.Read

/-- The reference's results, at a place. -/
theorem reference (w g a v : FVec Ideal S4x1408x2048 .f32) (y : S5632x2048.Idx) :
    val_main_v24 (F := Ideal) w g a v y = change (rows w y) (rows g y) (rows a y) (rows v y)
    ∧ val_main_v25 (F := Ideal) g a y = mean (rows g y) (rows a y)
    ∧ val_main_v26 (F := Ideal) g v y = square (rows g y) (rows v y) := ⟨rfl, rfl, rfl⟩

/-- The kernel's results are the reference's. -/
theorem result :
    (dats m 0 c).arrAt 4 cfg0.N = val_main_v24 (F := Ideal) (w m c) (g m c) (a m c) (v m c)
    ∧ (dats m 0 c).arrAt 5 cfg0.N = val_main_v25 (F := Ideal) (g m c) (a m c)
    ∧ (dats m 0 c).arrAt 6 cfg0.N = val_main_v26 (F := Ideal) (g m c) (v m c) := by
  have e := written m c
  have r := fun t p q => reference (w m c) (g m c) (a m c) (v m c) (ix2 (row t p) q)
  simp only [(blocks m c _ _ _).1, (blocks m c _ _ _).2.1, (blocks m c _ _ _).2.2.1, (blocks m c _ _ _).2.2.2] at e
  refine ⟨?_, ?_, ?_⟩
  · refine (dats m 0 c).arrAt_eq_of_covers 4 _ (by decide +kernel) fun t hf y => ?_
    obtain ⟨p, q, rfl⟩ : ∃ (p : Fin 256) (q : Fin 2048), y = ix2 p q := ⟨y 0, y 1, ValueIdx.eq_ix2 y⟩
    exact (e t p q).1.trans ((r t p q).1.symm.trans (congrArg _ (placed t p q).1.symm))
  · refine (dats m 0 c).arrAt_eq_of_covers 5 _ (by decide +kernel) fun t hf y => ?_
    obtain ⟨p, q, rfl⟩ : ∃ (p : Fin 256) (q : Fin 2048), y = ix2 p q := ⟨y 0, y 1, ValueIdx.eq_ix2 y⟩
    exact (e t p q).2.1.trans ((r t p q).2.1.symm.trans (congrArg _ (placed t p q).2.1.symm))
  · refine (dats m 0 c).arrAt_eq_of_covers 6 _ (by decide +kernel) fun t hf y => ?_
    obtain ⟨p, q, rfl⟩ : ∃ (p : Fin 256) (q : Fin 2048), y = ix2 p q := ⟨y 0, y 1, ValueIdx.eq_ix2 y⟩
    exact (e t p q).2.2.trans ((r t p q).2.2.symm.trans (congrArg _ (placed t p q).2.2.symm))

attribute [local instance] Cert.AdamwWFfnOutIdeal.Gen.facts Cert.AdamwWFfnOutRefIdeal.Gen.facts

theorem frame_ri : Cert.quiescent_AdamwWFfnOutRefIdeal := fun m ρ _ =>
  (θ_run Cert.AdamwWFfnOutRefIdeal.defs _ _).mono
    (fun r h => ⟨fun c => (h c).2.2.2, sem_eq_zero_of_no_sems (by decide) r.2⟩)
    (Cert.AdamwWFfnOutRefIdeal.Value.run m ρ)

theorem value : Cert.algebraic_AdamwWFfnOutIdeal_AdamwWFfnOutRefIdeal := by
  intro m g' m' g'' _ ha
  refine ⟨fun c => val_main_v24 (F := Ideal) (w m c) (g m c) (a m c) (v m c), fun c => val_main_v25 (F := Ideal) (g m c) (a m c),
    fun c => val_main_v26 (F := Ideal) (g m c) (v m c), ?_, ?_⟩
  · refine (θ_run Cert.AdamwWFfnOutIdeal.defs _ _).mono (fun r h c => ?_) (Cert.AdamwWFfnOutIdeal.Value.run_blocks m g')
    have e := result m c
    exact ⟨(h c).1.trans e.1, (h c).2.1.trans e.2.1, (h c).2.2.1.trans e.2.2, (h c).2.2.2⟩
  · refine (θ_run Cert.AdamwWFfnOutRefIdeal.defs _ _).mono (fun r h c => ?_) (Cert.AdamwWFfnOutRefIdeal.Value.run m' g'')
    obtain ⟨a0, a1, a2, a3⟩ := ha c
    refine ⟨(h c).1.trans ?_, (h c).2.1.trans ?_, (h c).2.2.1.trans ?_, (h c).2.2.2⟩
    · rw [val_main_v24_eq, a0, a1, a2, a3]
      rfl
    · rw [val_main_v25_eq, a1, a2]
      rfl
    · rw [val_main_v26_eq, a1, a3]
      rfl

end Cert.Adam.AdamwWFfnOut
-- ==== Proof.Adam.AdamwSmall.lean ====
/- The optimiser's step on the weights of the small parameters, packed into one array. -/
module

public import proofs.«01_k».proof.Proof.Kit
public import proofs.«01_k».proof.Proof.Gen.AdamwSmallIdeal.Value
public import proofs.«01_k».proof.Proof.Gen.AdamwSmallRefIdeal.Read
public import proofs.«01_k».proof.Proof.Adam.Step
public import proofs.«01_k».proof.Proof.Products.Blocked

@[expose] public section

set_option maxRecDepth 16384

noncomputable section

namespace Cert.Adam.AdamwSmall

open Idealize.ShloMosaic Idealize.ShloMosaic.TcCoe Idealize.SL.Sem Cert.AdamwSmallIdeal Cert.AdamwSmallIdeal.Gen Cert.Products

variable (m : (ℓ : Loc nD τ sig) → Buf (Elt Ideal) ℓ) (c : Dev nD) (t : Fin cfg0.N)

/-- The blocks of point `t`: of the weights, the gradients, and the two means. -/
abbrev B0 : FVec Ideal S10200x128 .f32 := iblk m c 0 t
abbrev B1 : FVec Ideal S10200x128 .f32 := iblk m c 1 t
abbrev B2 : FVec Ideal S10200x128 .f32 := iblk m c 2 t
abbrev B3 : FVec Ideal S10200x128 .f32 := iblk m c 3 t

/-- The arguments. -/
def w : FVec Ideal S10200x128 .f32 := m ((c : Thread nD τ).loc main_arg0)
def g : FVec Ideal S10200x128 .f32 := m ((c : Thread nD τ).loc main_arg1)
def a : FVec Ideal S10200x128 .f32 := m ((c : Thread nD τ).loc main_arg2)
def v : FVec Ideal S10200x128 .f32 := m ((c : Thread nD τ).loc main_arg3)

/-- The entries a point of the grid writes, of each result. -/
theorem written (p : Fin 10200) (q : Fin 128) :
    ((dats m 0 c).after 4 t : FVec Ideal S10200x128 .f32) (ix2 p q)
        = change (B0 m c t (ix2 p q)) (B1 m c t (ix2 p q)) (B2 m c t (ix2 p q)) (B3 m c t (ix2 p q))
    ∧ ((dats m 0 c).after 5 t : FVec Ideal S10200x128 .f32) (ix2 p q) = mean (B1 m c t (ix2 p q)) (B2 m c t (ix2 p q))
    ∧ ((dats m 0 c).after 6 t : FVec Ideal S10200x128 .f32) (ix2 p q) = square (B1 m c t (ix2 p q)) (B3 m c t (ix2 p q)) := by
  rw [after0_4, after0_5, after0_6]
  refine ⟨?_, ?_, ?_⟩ <;>
  · frame_out
    pointwise [k0_pay1, k0_pay2, k0_pay3, change, mean, square]

/-- Every array's block of point `t` is its rows from the same one on. -/
theorem index : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

/-- The row which an entry of point `t`'s blocks is of. -/
def row (p : Fin 10200) : Fin 10200 := ⟨t.val * 10200 + p.val, by
  have hN : t.val < 1 := lt_of_lt_of_eq t.isLt N_0
  omega⟩

theorem blocks (p : Fin 10200) (q : Fin 128) : B0 m c t (ix2 p q) = (w m c) (ix2 (row t p) q)
    ∧ B1 m c t (ix2 p q) = (g m c) (ix2 (row t p) q)
    ∧ B2 m c t (ix2 p q) = (a m c) (ix2 (row t p) q)
    ∧ B3 m c t (ix2 p q) = (v m c) (ix2 (row t p) q) := by
  obtain ⟨i0, i1, i2, i3, -⟩ := index t
  refine ⟨?_, ?_, ?_, ?_⟩
  · unfold B0 iblk
    rw [show V m c (Pipeline.arrRef spec0 0) = w m c from V_main_arg0 m c]
    refine congrArg (w m c) (funext fun a => Fin.ext ?_)
    blk_simp [i0]
    fin_cases a <;> simp [row]
  · unfold B1 iblk
    rw [show V m c (Pipeline.arrRef spec0 1) = g m c from V_main_arg1 m c]
    refine congrArg (g m c) (funext fun a => Fin.ext ?_)
    blk_simp [i1]
    fin_cases a <;> simp [row]
  · unfold B2 iblk
    rw [show V m c (Pipeline.arrRef spec0 2) = a m c from V_main_arg2 m c]
    refine congrArg (a m c) (funext fun a => Fin.ext ?_)
    blk_simp [i2]
    fin_cases a <;> simp [row]
  · unfold B3 iblk
    rw [show V m c (Pipeline.arrRef spec0 3) = v m c from V_main_arg3 m c]
    refine congrArg (v m c) (funext fun a => Fin.ext ?_)
    blk_simp [i3]
    fin_cases a <;> simp [row]

theorem placed (p : Fin 10200) (q : Fin 128) : (win0_4.blk t).view.emb (ix2 p q) = ix2 (row t p) q
    ∧ (win0_5.blk t).view.emb (ix2 p q) = ix2 (row t p) q
    ∧ (win0_6.blk t).view.emb (ix2 p q) = ix2 (row t p) q := by
  obtain ⟨-, -, -, -, i4, i5, i6⟩ := index t
  refine ⟨?_, ?_, ?_⟩ <;>
  · funext a
    apply Fin.ext
    blk_simp [i4, i5, i6]
    fin_cases a <;> simp [row]

open Cert.AdamwSmallRefIdeal.Read

/-- The reference's results, at a place. -/
theorem reference (w g a v : FVec Ideal S10200x128 .f32) (y : S10200x128.Idx) :
    val_main_v23 (F := Ideal) w g a v y = change (w y) (g y) (a y) (v y)
    ∧ val_main_v4 (F := Ideal) g a y = mean (g y) (a y)
    ∧ val_main_v10 (F := Ideal) g v y = square (g y) (v y) := ⟨rfl, rfl, rfl⟩

/-- The kernel's results are the reference's. -/
theorem result :
    (dats m 0 c).arrAt 4 cfg0.N = val_main_v23 (F := Ideal) (w m c) (g m c) (a m c) (v m c)
    ∧ (dats m 0 c).arrAt 5 cfg0.N = val_main_v4 (F := Ideal) (g m c) (a m c)
    ∧ (dats m 0 c).arrAt 6 cfg0.N = val_main_v10 (F := Ideal) (g m c) (v m c) := by
  have e := written m c
  have r := fun t p q => reference (w m c) (g m c) (a m c) (v m c) (ix2 (row t p) q)
  simp only [(blocks m c _ _ _).1, (blocks m c _ _ _).2.1, (blocks m c _ _ _).2.2.1, (blocks m c _ _ _).2.2.2] at e
  refine ⟨?_, ?_, ?_⟩
  · refine (dats m 0 c).arrAt_eq_of_covers 4 _ (by decide +kernel) fun t hf y => ?_
    obtain ⟨p, q, rfl⟩ : ∃ (p : Fin 10200) (q : Fin 128), y = ix2 p q := ⟨y 0, y 1, ValueIdx.eq_ix2 y⟩
    exact (e t p q).1.trans ((r t p q).1.symm.trans (congrArg _ (placed t p q).1.symm))
  · refine (dats m 0 c).arrAt_eq_of_covers 5 _ (by decide +kernel) fun t hf y => ?_
    obtain ⟨p, q, rfl⟩ : ∃ (p : Fin 10200) (q : Fin 128), y = ix2 p q := ⟨y 0, y 1, ValueIdx.eq_ix2 y⟩
    exact (e t p q).2.1.trans ((r t p q).2.1.symm.trans (congrArg _ (placed t p q).2.1.symm))
  · refine (dats m 0 c).arrAt_eq_of_covers 6 _ (by decide +kernel) fun t hf y => ?_
    obtain ⟨p, q, rfl⟩ : ∃ (p : Fin 10200) (q : Fin 128), y = ix2 p q := ⟨y 0, y 1, ValueIdx.eq_ix2 y⟩
    exact (e t p q).2.2.trans ((r t p q).2.2.symm.trans (congrArg _ (placed t p q).2.2.symm))

attribute [local instance] Cert.AdamwSmallIdeal.Gen.facts Cert.AdamwSmallRefIdeal.Gen.facts

theorem frame_ri : Cert.quiescent_AdamwSmallRefIdeal := fun m ρ _ =>
  (θ_run Cert.AdamwSmallRefIdeal.defs _ _).mono
    (fun r h => ⟨fun c => (h c).2.2.2, sem_eq_zero_of_no_sems (by decide) r.2⟩)
    (Cert.AdamwSmallRefIdeal.Value.run m ρ)

theorem value : Cert.algebraic_AdamwSmallIdeal_AdamwSmallRefIdeal := by
  intro m g' m' g'' _ ha
  refine ⟨fun c => val_main_v23 (F := Ideal) (w m c) (g m c) (a m c) (v m c), fun c => val_main_v4 (F := Ideal) (g m c) (a m c),
    fun c => val_main_v10 (F := Ideal) (g m c) (v m c), ?_, ?_⟩
  · refine (θ_run Cert.AdamwSmallIdeal.defs _ _).mono (fun r h c => ?_) (Cert.AdamwSmallIdeal.Value.run_blocks m g')
    have e := result m c
    exact ⟨(h c).1.trans e.1, (h c).2.1.trans e.2.1, (h c).2.2.1.trans e.2.2, (h c).2.2.2⟩
  · refine (θ_run Cert.AdamwSmallRefIdeal.defs _ _).mono (fun r h c => ?_) (Cert.AdamwSmallRefIdeal.Value.run m' g'')
    obtain ⟨a0, a1, a2, a3⟩ := ha c
    refine ⟨(h c).1.trans ?_, (h c).2.1.trans ?_, (h c).2.2.1.trans ?_, (h c).2.2.2⟩
    · rw [val_main_v23_eq, a0, a1, a2, a3]
      rfl
    · rw [val_main_v4_eq, a1, a2]
      rfl
    · rw [val_main_v10_eq, a1, a3]
      rfl

end Cert.Adam.AdamwSmall
-- ==== Proof.Sgu.SguFwd.lean ====
/- The spatial gating unit of the forward pass: the one half's activation times the other half's, normalised and mixed along
   the tokens of a chunk. -/
module

public import proofs.«01_k».proof.Proof.Kit
public import proofs.«01_k».proof.Proof.Gen.SguFwdIdeal.Value
public import proofs.«01_k».proof.Proof.Gen.SguFwdRefIdeal.Read

@[expose] public section

set_option maxRecDepth 16384

noncomputable section

namespace Cert.Sgu.SguFwd

open Idealize.ShloMosaic Idealize.ShloMosaic.TcCoe Idealize.SL.Sem Cert.SguFwdIdeal Cert.SguFwdIdeal.Gen

variable (m : (ℓ : Loc nD τ sig) → Buf (Elt Ideal) ℓ) (c : Dev nD) (t : Fin cfg0.N)

/-- The blocks of point `t`. -/
abbrev B0 : FVec Ideal S128x768 .f32 := iblk m c 0 t
abbrev B1 : FVec Ideal S128x768 .f32 := iblk m c 1 t
abbrev B2 : FVec Ideal S1x768 .f32 := iblk m c 2 t
abbrev B3 : FVec Ideal S1x768 .f32 := iblk m c 3 t
abbrev B4 : FVec Ideal S6x128x128 .bf16 := iblk m c 4 t
abbrev B5 : FVec Ideal S6x128x1 .f32 := iblk m c 5 t

/-- The arguments, at their places. -/
def rest : FVec Ideal S4096x8448 .f32 := m ((c : Thread nD τ).loc main_arg0)
def g : FVec Ideal S768 .f32 := m ((c : Thread nD τ).loc main_arg1)
def b : FVec Ideal S768 .f32 := m ((c : Thread nD τ).loc main_arg2)
def w : FVec Ideal S6x128x128 .f32 := m ((c : Thread nD τ).loc main_arg3)
def bs : FVec Ideal S6x128 .f32 := m ((c : Thread nD τ).loc main_arg4)

/-- The activation of a number. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The half that the kernel takes of the number itself, not of the other factor. -/
theorem halved (x s : EReal) : Ideal.ofBits .f32 0x3F000000#32 * x * s = x * (Ideal.ofBits .f32 0x3F000000#32 * s) := by
  rw [mul_comm (Ideal.ofBits .f32 0x3F000000#32) x, mul_assoc]

/-- The layer norm of a row: its mean, its centred entries' variance, and the entry scaled and shifted. -/
def mean (x : Fin 768 → EReal) : EReal := Ideal.div (∑ k, x k) (Ideal.ofBits .f32 0x44400000#32)
def spread (x : Fin 768 → EReal) : EReal :=
  Ideal.div (∑ k, (x k - mean x) * (x k - mean x)) (Ideal.ofBits .f32 0x44400000#32)
def norm (x : Fin 768 → EReal) (g b : EReal) (j : Fin 768) : EReal :=
  (x j - mean x) * Ideal.rsqrt (spread x + Ideal.ofBits .f32 0x3727C5AC#32) * g + b

/-- The kernel's activations and its normalised rows. -/
theorem active (x : FVec Ideal S128x768 .f32) : k0_pay5 (F := Ideal) x = fun i => gelu (x i) := by
  funext i
  pointwise [k0_pay5, gelu]
  exact halved _ _

theorem normed (x : FVec Ideal S128x768 .f32) (g b : FVec Ideal S1x768 .f32) :
    k0_pay8 (F := Ideal) (k0_pay3 g) (k0_pay4 b) (k0_pay6 x) (k0_pay7 x)
      = fun i : S128x768.Idx => norm (fun k => gelu (x (ix2 (i 0) k))) (g (ix2 0 (i 1))) (b (ix2 0 (i 1))) (i 1) := by
  funext i
  idx_vars i
  pointwise [k0_pay8, k0_pay3, k0_pay4, k0_pay7, k0_pay6, halved, norm, mean, spread, gelu]

/-- The group of a channel. -/
def grp (q : Fin 768) : Fin 6 := ⟨q.val / 128, by omega⟩

/-- What a point of the grid writes at token `p` and channel `q`, mixed by group `g`'s matrix and bias. -/
def mixed (p : Fin 128) (q : Fin 768) (g : Fin 6) : EReal :=
  gelu (B0 m c t (ix2 p q)) * ((∑ s : Fin 128, B4 m c t (ix3 g p s)
    * norm (fun k => gelu (B1 m c t (ix2 s k))) (B2 m c t (ix2 0 q)) (B3 m c t (ix2 0 q)) q) + B5 m c t (ix3 g p 0))

theorem mixed_at {p p' : Fin 128} {q q' : Fin 768} {g : Fin 6} (hp : p = p') (hq : q = q') (hg : g = grp q') :
    mixed m c t p q g = mixed m c t p' q' (grp q') := by rw [hp, hq, hg]

/-- The block a point of the grid writes: group by group. -/
theorem written (p : Fin 128) (q : Fin 768) :
    ((dats m 0 c).after 6 t : FVec Ideal S128x768 .bf16) (ix2 p q) = mixed m c t p q (grp q) := by
  rw [after0_6]
  unfold_out out0_6
  frame_out
  simp only [k0_pay9, k0_pay10]
  rw [normed, active]
  canon_tiles y h
  all_goals
    idx_vars y
    pointwise [k0_pay1, k0_pay2, k0_pay11, k0_pay12, k0_pay13, k0_pay14]
    exact mixed_at m c t (Fin.ext h0.symm) (Fin.ext h1.symm) (Fin.ext (by show _ = q.val / 128; simp; omega))

theorem idx0 : ∀ t : Fin grid0.N, win0_0.index t = ![t.val, 0] := by decide +kernel
theorem idx1 : ∀ t : Fin grid0.N, win0_1.index t = ![t.val, 1] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0, 0] := by decide +kernel
theorem idx5 : ∀ t : Fin grid0.N, win0_5.index t = ![0, 0, 0] := by decide +kernel
theorem idx6 : ∀ t : Fin grid0.N, win0_6.index t = ![t.val, 0] := by decide +kernel

open Cert.SguFwdRefIdeal.Read

/-- Token `p` of chunk `n`, and the two halves' channels. -/
def row (n : Fin 32) (p : Fin 128) : Fin 4096 := ⟨128 * n.val + p.val, by omega⟩
def left (q : Fin 768) : Fin 8448 := ⟨q.val, by omega⟩
def right (q : Fin 768) : Fin 8448 := ⟨768 + q.val, by omega⟩

/-- The chunk of a point of the grid. -/
def chunk : Fin 32 := ⟨t.val, lt_of_lt_of_eq t.isLt N_0⟩

theorem block0 (p : Fin 128) (q : Fin 768) : B0 m c t (ix2 p q) = rest m c (ix2 (row (chunk t) p) (left q)) := by
  unfold B0 iblk
  rw [show V m c (Pipeline.arrRef spec0 0) = rest m c from V_main_arg0 m c]
  refine congrArg (rest m c) (funext fun a => Fin.ext ?_)
  blk_simp [idx0 t]
  fin_cases a <;> simp [row, chunk, left] <;> omega

theorem block1 (p : Fin 128) (q : Fin 768) : B1 m c t (ix2 p q) = rest m c (ix2 (row (chunk t) p) (right q)) := by
  unfold B1 iblk
  rw [show V m c (Pipeline.arrRef spec0 1) = rest m c from V_main_arg0 m c]
  refine congrArg (rest m c) (funext fun a => Fin.ext ?_)
  blk_simp [idx1 t]
  fin_cases a <;> simp [row, chunk, right] <;> omega

theorem scales : V m c main_v0 = broadcastInDim S1x768 ![1] bcast_S768_S1x768_1 (g m c) := by
  unfold V
  simp only [hostOps0, hostOps0_1, hostOps0_2, List.flatten_cons, List.flatten_nil, List.append_nil, List.cons_append, List.nil_append]
  after_results
  rfl

theorem shifts : V m c main_v1 = broadcastInDim S1x768 ![1] bcast_S768_S1x768_1 (b m c) := by
  unfold V
  simp only [hostOps0, hostOps0_1, hostOps0_2, List.flatten_cons, List.flatten_nil, List.append_nil, List.cons_append, List.nil_append]
  after_results
  rfl

/-- The mixing matrices' causal part is the reference's. -/
theorem matrices : V m c main_v3 = val_main_v0 (F := Ideal) (w m c) := by
  unfold V
  simp only [hostOps0, hostOps0_1, hostOps0_2, List.flatten_cons, List.flatten_nil, List.append_nil, List.cons_append, List.nil_append]
  after_results
  rfl

theorem biases : V m c main_v4 = broadcastInDim S6x128x1 ![0, 1] bcast_S6x128_S6x128x1_0_1 (bs m c) := by
  unfold V
  simp only [hostOps0, hostOps0_1, hostOps0_2, List.flatten_cons, List.flatten_nil, List.append_nil, List.cons_append, List.nil_append]
  after_results
  rfl

theorem spread_apply (x : FVec Ideal S768 .f32) (q : Fin 768) :
    broadcastInDim S1x768 ![1] bcast_S768_S1x768_1 x (ix2 0 q) = x (ix1 q) :=
  broadcastInDim_apply _ bcast_S768_S1x768_1 x _ (ix1 q) fun a => by fin_cases a; rfl

theorem block2 (q : Fin 768) : B2 m c t (ix2 0 q) = g m c (ix1 q) := by
  refine Eq.trans ?_ (spread_apply (g m c) q)
  unfold B2 iblk
  rw [show V m c (Pipeline.arrRef spec0 2) = _ from scales m c]
  refine congrArg (broadcastInDim S1x768 ![1] bcast_S768_S1x768_1 (g m c)) (funext fun a => Fin.ext ?_)
  blk_simp [idx2 t]
  fin_cases a <;> simp

theorem block3 (q : Fin 768) : B3 m c t (ix2 0 q) = b m c (ix1 q) := by
  refine Eq.trans ?_ (spread_apply (b m c) q)
  unfold B3 iblk
  rw [show V m c (Pipeline.arrRef spec0 3) = _ from shifts m c]
  refine congrArg (broadcastInDim S1x768 ![1] bcast_S768_S1x768_1 (b m c)) (funext fun a => Fin.ext ?_)
  blk_simp [idx3 t]
  fin_cases a <;> simp

theorem block4 (g : Fin 6) (p s : Fin 128) : B4 m c t (ix3 g p s) = val_main_v0 (F := Ideal) (w m c) (ix3 g p s) := by
  unfold B4 iblk
  rw [show V m c (Pipeline.arrRef spec0 4) = _ from matrices m c]
  refine congrArg (val_main_v0 (F := Ideal) (w m c)) (funext fun a => Fin.ext ?_)
  blk_simp [idx4 t]
  fin_cases a <;> simp

theorem block5 (g : Fin 6) (p : Fin 128) : B5 m c t (ix3 g p 0) = bs m c (ix2 g p) := by
  refine Eq.trans ?_ (broadcastInDim_apply _ bcast_S6x128_S6x128x1_0_1 (bs m c) (ix3 g p 0) (ix2 g p)
    fun a => by fin_cases a <;> rfl)
  unfold B5 iblk
  rw [show V m c (Pipeline.arrRef spec0 5) = _ from biases m c]
  refine congrArg (broadcastInDim S6x128x1 ![0, 1] bcast_S6x128_S6x128x1_0_1 (bs m c)) (funext fun a => Fin.ext ?_)
  blk_simp [idx5 t]
  fin_cases a <;> simp

theorem placed (p : Fin 128) (q : Fin 768) : (win0_6.blk t).view.emb (ix2 p q) = ix2 (row (chunk t) p) q := by
  funext a
  apply Fin.ext
  blk_simp [idx6 t]
  fin_cases a <;> simp [row, chunk] <;> omega

section
variable (x : FVec Ideal S4096x8448 .f32) (g b : FVec Ideal S768 .f32) (w : FVec Ideal S6x128x128 .f32) (bs : FVec Ideal S6x128 .f32)
  (i : Fin 4096) (j : Fin 768)

theorem reference_gelu (y : Cert.SguFwdRefIdeal.S4096x1536.Idx) : val_main_v14 (F := Ideal) x y = gelu (x (idx_main_v1 y)) := by
  rw [val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply]
  rfl

theorem reference_left : val_main_v15 (F := Ideal) x (ix2 i j) = gelu (x (ix2 i (left j))) := by
  rw [val_main_v15_apply, reference_gelu]
  refine congrArg (fun y => gelu (x y)) (funext fun a => Fin.ext ?_)
  fin_cases a <;> simp [left]

theorem reference_right : val_main_v16 (F := Ideal) x (ix2 i j) = gelu (x (ix2 i (right j))) := by
  rw [val_main_v16_apply, reference_gelu]
  refine congrArg (fun y => gelu (x y)) (funext fun a => Fin.ext ?_)
  fin_cases a <;> simp [right]

theorem reference_mean : val_main_v20 (F := Ideal) x (ix2 i 0) = mean fun k => gelu (x (ix2 i (right k))) := by
  rw [val_main_v20_apply, val_main_v18_apply, val_main_v17_apply, val_main_v19_apply]
  refine congrArg (Ideal.div · (Ideal.ofBits .f32 0x44400000#32)) ?_
  refine (congrArg (· + _) Ideal.ofBits_zero_f32).trans ((zero_add _).trans (Finset.sum_congr rfl fun k _ => ?_))
  refine (congrArg (val_main_v16 (F := Ideal) x) (funext fun a => Fin.ext ?_)).trans (reference_right x i k)
  fin_cases a <;> rfl

theorem reference_spread : val_main_v27 (F := Ideal) x (ix2 i 0) = spread fun k => gelu (x (ix2 i (right k))) := by
  rw [val_main_v27_apply, val_main_v25_apply, val_main_v24_apply, val_main_v26_apply]
  refine congrArg (Ideal.div · (Ideal.ofBits .f32 0x44400000#32)) ?_
  refine (congrArg (· + _) Ideal.ofBits_zero_f32).trans ((zero_add _).trans (Finset.sum_congr rfl fun k _ => ?_))
  have e : val_main_v22 (F := Ideal) x (ix2 i k)
      = gelu (x (ix2 i (right k))) - mean fun k => gelu (x (ix2 i (right k))) := by
    rw [val_main_v22_apply, val_main_v21_apply, reference_right]
    refine congrArg (gelu (x (ix2 i (right k))) - ·)
      ((congrArg (val_main_v20 (F := Ideal) x) (funext fun a => Fin.ext ?_)).trans (reference_mean x i))
    fin_cases a <;> rfl
  rw [← e, val_main_v23_apply]
  have h : ∀ y : Cert.SguFwdRefIdeal.S4096x768.Idx, y = ix2 i k → val_main_v22 (F := Ideal) x y * val_main_v22 (F := Ideal) x y
      = val_main_v22 (F := Ideal) x (ix2 i k) * val_main_v22 (F := Ideal) x (ix2 i k) := fun y h => by rw [h]
  refine h _ (funext fun a => Fin.ext ?_)
  fin_cases a <;> rfl

theorem reference_norm : val_main_v40 (F := Ideal) x g b (ix2 i j)
    = norm (fun k => gelu (x (ix2 i (right k)))) (g (ix1 j)) (b (ix1 j)) j := by
  rw [val_main_v40_apply, val_main_v39_apply, val_main_v38_apply, val_main_v37_apply, val_main_v36_apply, val_main_v35_apply,
    val_main_v34_apply, val_main_v33_apply, val_main_v32_apply, val_main_v31_apply, val_main_v30_apply, val_main_v29_apply,
    val_main_v28_apply, reference_right]
  have h0 : idx_main_v33 (ix2 i j) = ix2 i 0 := by funext a; apply Fin.ext; fin_cases a <;> rfl
  have h1 : idx_main_v28 (ix2 i j) = ix2 i 0 := by funext a; apply Fin.ext; fin_cases a <;> rfl
  have h2 : idx_main_v35 (idx_main_v36 (ix2 i j)) = ix1 j := by funext a; apply Fin.ext; fin_cases a; rfl
  have h3 : idx_main_v38 (idx_main_v39 (ix2 i j)) = ix1 j := by funext a; apply Fin.ext; fin_cases a; rfl
  rw [h0, h1, h2, h3, reference_mean, reference_spread]
  rfl

theorem reference (n : Fin 32) (p : Fin 128) : val_main_v51 (F := Ideal) x g b w bs (ix2 (row n p) j)
    = gelu (x (ix2 (row n p) (left j))) * ((∑ s : Fin 128, val_main_v0 (F := Ideal) w (ix3 (grp j) p s)
        * norm (fun k => gelu (x (ix2 (row n s) (right k)))) (g (ix1 j)) (b (ix1 j)) j) + bs (ix2 (grp j) p)) := by
  have hn := n.2
  have hp := p.2
  have hj := j.2
  have e : idx_main_v49 (ix2 (row n p) j) = ix4 n p (grp j) (⟨j.val % 128, Nat.mod_lt _ (by decide)⟩ : Fin 128) := by
    refine funext fun a => Fin.ext ?_
    fin_cases a <;> simp [row, grp] <;> omega
  rw [val_main_v51_apply, val_main_v50_apply, reference_left, val_main_v49_apply, e, val_main_v48_apply, val_main_v43_apply,
    val_main_v47_apply, val_main_v46_apply, val_main_v45_apply, val_main_v44_apply]
  refine congrArg₂ (fun a b => gelu (x (ix2 (row n p) (left j))) * (a + b)) ?_ (congrArg bs (funext fun a => Fin.ext ?_))
  · refine (val_main_v42_apply _ _ _ _ _).trans (Finset.sum_congr rfl fun s _ => (mul_comm _ _).trans ?_)
    have hs := s.2
    rw [val_main_v41_apply, ← reference_norm]
    refine congrArg₂ (fun y z => val_main_v0 (F := Ideal) w y * val_main_v40 (F := Ideal) x g b z) ?_ ?_
    · refine funext fun a => Fin.ext ?_
      fin_cases a <;> simp
    · refine funext fun a => Fin.ext ?_
      fin_cases a <;> simp [row, grp] <;> omega
  · fin_cases a <;> simp [grp]

end

theorem result : (dats m 0 c).arrAt 6 cfg0.N = val_main_v51 (F := Ideal) (rest m c) (g m c) (b m c) (w m c) (bs m c) := by
  refine (dats m 0 c).arrAt_eq_of_covers 6 _ (by decide +kernel) fun t hf i => ?_
  obtain ⟨p, q, rfl⟩ : ∃ (p : Fin 128) (q : Fin 768), i = ix2 p q := ⟨i 0, i 1, ValueIdx.eq_ix2 i⟩
  refine (written m c t p q).trans ?_
  unfold mixed
  simp only [block0, block1, block2, block3, block4, block5]
  rw [← reference]
  exact congrArg (val_main_v51 (F := Ideal) (rest m c) (g m c) (b m c) (w m c) (bs m c)) (placed t p q).symm

attribute [local instance] Cert.SguFwdIdeal.Gen.facts Cert.SguFwdRefIdeal.Gen.facts

theorem frame_ri : Cert.quiescent_SguFwdRefIdeal := fun m ρ _ =>
  (θ_run Cert.SguFwdRefIdeal.defs _ _).mono
    (fun r h => ⟨fun c => (h c).2, sem_eq_zero_of_no_sems (by decide) r.2⟩)
    (Cert.SguFwdRefIdeal.Value.run m ρ)

theorem value : Cert.algebraic_SguFwdIdeal_SguFwdRefIdeal := by
  intro m ρ m' ρ' _ ha
  refine ⟨fun c => val_main_v51 (F := Ideal) (rest m c) (g m c) (b m c) (w m c) (bs m c), ?_, ?_⟩
  · exact (θ_run Cert.SguFwdIdeal.defs _ _).mono (fun r h c => ⟨(h c).1.trans (result m c), (h c).2⟩)
      (Cert.SguFwdIdeal.Value.run_blocks m ρ)
  · refine (θ_run Cert.SguFwdRefIdeal.defs _ _).mono (fun r h c => ?_) (Cert.SguFwdRefIdeal.Value.run m' ρ')
    obtain ⟨a0, a1, a2, a3, a4⟩ := ha c
    refine ⟨(h c).1.trans ?_, (h c).2⟩
    rw [val_main_v51_eq, a0, a1, a2, a3, a4]
    rfl

end Cert.Sgu.SguFwd
-- ==== Proof.Ssm.SsmOut.lean ====
/- The readout of the state-space layer, under the precondition that its arrays are arrays of reals: the kernel adds the products of
   the states' two halves, the second against negated matrices; the reference takes the difference of the two products. -/
module

public import proofs.«01_k».proof.Defs
public import proofs.«01_k».proof.Pre_out_finite
public import proofs.«01_k».proof.Proof.Gen.SsmOutIdeal.Value
public import proofs.«01_k».proof.Proof.Gen.SsmOutRefIdeal.Run
public import proofs.«01_k».proof.Proof.Gen.SsmOutRefIdeal.Read
public import proofs.«01_k».proof.Proof.Finite
public import proofs.«01_k».proof.Proof.Ssm.SsmOutDgrad

@[expose] public section

set_option maxRecDepth 16384

noncomputable section

namespace Cert.Ssm.SsmOut

open Idealize.ShloMosaic Idealize.ShloMosaic.TcCoe Idealize.SL.Sem Cert.SsmOutIdeal Cert.SsmOutIdeal.Gen Cert.Products Cert.Reals
open Cert.Ssm.SsmOutDgrad (tall tall_apply turned turned_apply signed mul_signed)

variable (m : (ℓ : Loc nD τ sig) → Buf (Elt Ideal) ℓ) (c : Dev nD) (t : Fin cfg0.N)

/-- The blocks of point `t`. -/
abbrev B0 : FVec Ideal S1x2048x512 .f32 := iblk m c 0 t
abbrev B1 : FVec Ideal S1x1x512x128 .f32 := iblk m c 1 t

/-- The arguments, at their places: the states' two halves, and the readout's two parts. -/
def xs : FVec Ideal S2x4096x3072 .f32 := m ((c : Thread nD τ).loc main_arg0)
def re : FVec Ideal S48x16x64 .f32 := m ((c : Thread nD τ).loc main_arg1)
def im : FVec Ideal S48x16x64 .f32 := m ((c : Thread nD τ).loc main_arg2)

theorem first (h : t.val % 2 = 0) (i : Fin 2048) (q : Fin 128) : (outsAt0 m c t.val t.isLt).2 (ix2 i q)
    = ∑ p : Fin 512, B0 m c t (ix3 0 i p) * B1 m c t (ix4 0 0 p q) := by
  rw [outsAt0_A m c t h (by omega) (by omega)]
  frame_out
  simp only [k0_pay2]
  pointwise [k0_pay1]

theorem next (h : ¬ t.val % 2 = 0) (i : Fin 2048) (q : Fin 128) : (outsAt0 m c t.val t.isLt).2 (ix2 i q)
    = (outsAt0 m c (t.val - 1) (lt_of_le_of_lt (Nat.sub_le _ _) t.isLt)).2 (ix2 i q)
      + ∑ p : Fin 512, B0 m c t (ix3 0 i p) * B1 m c t (ix4 0 0 p q) := by
  rw [outsAt0_B m c t h (by omega) (by omega)]
  frame_out
  simp only [k0_pay3]
  pointwise [k0_pay1]
  exact congrArg₂ (· + ·) (congrFun (Memref.IsWhole.read_unread (Memref.isWhole_whole cc0_scratch0) _) _) rfl

theorem written (h : ¬ t.val % 2 = 0) (i : Fin 2048) (q : Fin 128) :
    (outsAt0 m c t.val t.isLt).1 (ix2 i q) = (outsAt0 m c t.val t.isLt).2 (ix2 i q) := by
  rw [outsAt0_B m c t h (by omega) (by omega)]
  frame_out

/-- The second window's array: the one argument's block-diagonal matrices, and the negatives of the other's. -/
theorem stacked : V m c main_v33 = concatenate S2x6x512x128 0
    [⟨S1x6x512x128, broadcastInDim S1x6x512x128 ![1, 2, 3] bcast_S6x512x128_S1x6x512x128_1_2_3 (turned (re m c))⟩,
      ⟨S1x6x512x128, broadcastInDim S1x6x512x128 ![1, 2, 3] bcast_S6x512x128_S1x6x512x128_1_2_3 (Host.negf (turned (im m c)))⟩]
    concatenates_S1x6x512x128_S1x6x512x128_S2x6x512x128_d0 := by
  unfold V
  simp only [hostOps0, List.flatten_cons, List.flatten_nil, List.append_nil, List.cons_append, List.nil_append]
  after_results
  rfl

theorem matrices (r : Fin 2) (s : Fin 6) (p : Fin 512) (h : Fin 128) :
    V m c main_v33 (ix4 r s p h) = signed r (entry (tall (pick r (re m c) (im m c))) s h p) := by
  refine (congrFun (stacked m c) _).trans ((stack_apply _ _ (turned (re m c)) (Host.negf (turned (im m c))) r s p h).trans ?_)
  unfold signed pick
  split_ifs
  · exact turned_apply _ _ _ _
  · exact congrArg (- ·) (turned_apply _ _ _ _)

theorem idx0 : ∀ t : Fin grid0.N, win0_0.index t = ![t.val % 2, t.val / 2 / 6, t.val / 2 % 6] := by decide +kernel
theorem idx1 : ∀ t : Fin grid0.N, win0_1.index t = ![t.val % 2, t.val / 2 % 6, 0, 0] := by decide +kernel

variable (k : Fin 2) (i : Fin 4096) (s : Fin 6) (q : Fin 128) (p : Fin 512)

/-- The row of its block that a token is in. -/
def inner (i : Fin 4096) : Fin 2048 := ⟨i.val % 2048, Nat.mod_lt _ (by decide)⟩

/-- A channel's group, and its place there. -/
def grp (s : Fin 6) (q : Fin 128) : Fin 48 := ⟨8 * s.val + q.val / 16, by omega⟩
def place16 (q : Fin 128) : Fin 16 := ⟨q.val % 16, Nat.mod_lt _ (by decide)⟩

theorem channel_eq : channel s q = member (grp s q) (place16 q) :=
  Fin.ext (by show 128 * s.val + q.val = 16 * (8 * s.val + q.val / 16) + q.val % 16; omega)

theorem block0 (hk : t.val % 2 = k.val) (h : t.val / 2 = 6 * (i.val / 2048) + s.val) :
    B0 m c t (ix3 0 (inner i) p) = xs m c (ix3 k i (state s p)) := by
  have hi := i.2
  have hs := s.2
  unfold B0 iblk
  rw [show V m c (Pipeline.arrRef spec0 0) = xs m c from V_main_arg0 m c]
  refine congrArg (xs m c) (funext fun a => Fin.ext ?_)
  blk_simp [idx0 t]
  fin_cases a <;> simp [inner, state] <;> omega

theorem block1 (hk : t.val % 2 = k.val) (h : t.val / 2 = 6 * (i.val / 2048) + s.val) :
    B1 m c t (ix4 0 0 p q) = signed k (entry (tall (pick k (re m c) (im m c))) s q p) := by
  have hi := i.2
  have hs := s.2
  refine Eq.trans ?_ (matrices m c k s p q)
  unfold B1 iblk
  show V m c main_v33 _ = V m c main_v33 _
  refine congrArg (V m c main_v33) (funext fun a => Fin.ext ?_)
  blk_simp [idx1 t]
  fin_cases a <;> simp <;> omega

/-- What a point of the grid adds: one half's product, with the second half's sign. -/
theorem term (hk : t.val % 2 = k.val) (h : t.val / 2 = 6 * (i.val / 2048) + s.val) :
    ∑ p : Fin 512, B0 m c t (ix3 0 (inner i) p) * B1 m c t (ix4 0 0 p q)
      = ∑ p : Fin 64, signed k (xs m c (ix3 k i (own (grp s q) p)))
          * pick k (re m c) (im m c) (ix3 (grp s q) (place16 q) p) := by
  refine Eq.trans (Finset.sum_congr rfl fun p _ => ?_)
    ((sum_states (tall (pick k (re m c) (im m c))) (fun j => signed k (xs m c (ix3 k i j))) s q).trans
      (Finset.sum_congr rfl fun p _ => congrArg₂ (· * ·) rfl ?_))
  · rw [block0 m c t k i s p hk h, block1 m c t k i s q p hk h, mul_signed]
  · rw [channel_eq, tall_apply]

/-- The kernel's result, at a place. -/
theorem result : Cert.SsmOutIdeal.Value.G2 m c (ix2 i (channel s q))
    = ∑ p : Fin 64, xs m c (ix3 0 i (own (grp s q) p)) * re m c (ix3 (grp s q) (place16 q) p)
      + ∑ p : Fin 64, -xs m c (ix3 1 i (own (grp s q) p)) * im m c (ix3 (grp s q) (place16 q) p) := by
  have hi := i.2
  have hs := s.2
  have hq := q.2
  have hN : cfg0.N = 24 := N_0
  have hb : Cert.SsmOutIdeal.Value.pt2Of (ix2 i (channel s q)) = 2 * (6 * (i.val / 2048) + s.val) + 1 := by
    show 2 * (6 * (i.val / 2048 - 0) + 1 * ((128 * s.val + q.val) / 128 - 0)) + 1 = _
    omega
  have hl : Cert.SsmOutIdeal.Value.loc2Of (ix2 i (channel s q)) = ix2 (inner i) q := by
    funext a
    match a with
    | ⟨0, _⟩ => rfl
    | ⟨1, _⟩ => exact Fin.ext (show (128 * s.val + q.val) % 128 = q.val by omega)
  have ht : Cert.SsmOutIdeal.Value.pt2Of (ix2 i (channel s q)) < cfg0.N := by omega
  unfold Cert.SsmOutIdeal.Value.G2
  rw [dif_pos ht, ← Cert.SsmOutIdeal.Value.outsAt0_sweep m c _ ht, hl]
  generalize Cert.SsmOutIdeal.Value.pt2Of (ix2 i (channel s q)) = n at hb ht
  refine (written m c ⟨n, ht⟩ (by show ¬ n % 2 = 0; omega) _ _).trans
    ((next m c ⟨n, ht⟩ (by show ¬ n % 2 = 0; omega) _ _).trans (congrArg₂ (· + ·) ?_ ?_))
  · exact (first m c ⟨n - 1, by omega⟩ (by show (n - 1) % 2 = 0; omega) _ _).trans
      (term m c ⟨n - 1, by omega⟩ 0 i s q (by show (n - 1) % 2 = 0; omega) (by show (n - 1) / 2 = _; omega))
  · exact term m c ⟨n, ht⟩ 1 i s q (by show n % 2 = 1; omega) (by show n / 2 = _; omega)

open Cert.SsmOutRefIdeal.Read

/-- The reference's result, at a place. -/
theorem reference (xs : FVec Ideal S2x4096x3072 .f32) (re im : FVec Ideal S48x16x64 .f32) :
    val_main_v10 (F := Ideal) xs re im (ix2 i (channel s q))
      = ∑ p : Fin 64, xs (ix3 0 i (own (grp s q) p)) * re (ix3 (grp s q) (place16 q) p)
        - ∑ p : Fin 64, xs (ix3 1 i (own (grp s q) p)) * im (ix3 (grp s q) (place16 q) p) := by
  have hi := i.2
  have hs := s.2
  have hq := q.2
  have e : idx_main_v10 (ix2 i (channel s q)) = ix3 i (grp s q) (place16 q) := by
    refine funext fun a => Fin.ext ?_
    fin_cases a <;> simp [channel, grp, place16] <;> omega
  rw [val_main_v10_apply, e, val_main_v9_apply, val_main_v4_apply, val_main_v8_apply]
  refine (congrArg₂ (· - ·) (val_main_v3_apply _ _ _) (val_main_v7_apply _ _ _)).trans ?_
  refine congrArg₂ (· - ·) (Finset.sum_congr rfl fun p _ => (mul_comm _ _).trans ?_)
    (Finset.sum_congr rfl fun p _ => (mul_comm _ _).trans ?_)
  · have hp := p.2
    rw [val_main_v2_apply, val_main_v1_apply, val_main_v0_apply]
    refine congrArg₂ (fun a b => xs a * re b) (funext fun a => Fin.ext ?_) (funext fun a => Fin.ext ?_) <;>
      fin_cases a <;> simp [own, grp, place16] <;> omega
  · have hp := p.2
    rw [val_main_v6_apply, val_main_v5_apply, val_main_v0_apply]
    refine congrArg₂ (fun a b => xs a * im b) (funext fun a => Fin.ext ?_) (funext fun a => Fin.ext ?_) <;>
      fin_cases a <;> simp [own, grp, place16] <;> omega

/-- The sign comes out of a sum of products of reals. -/
theorem sum_neg_mul {n : ℕ} (f g : Fin n → EReal) (hf : ∀ p, f p = ((f p).toReal : EReal)) (hg : ∀ p, g p = ((g p).toReal : EReal)) :
    ∑ p, -f p * g p = -∑ p, f p * g p := by
  have e : ∀ p, f p * g p = (((f p).toReal * (g p).toReal : ℝ) : EReal) := fun p => by
    rw [EReal.coe_mul, ← hf p, ← hg p]
  simp only [neg_mul, e, ← EReal.coe_neg]
  rw [← coe_sum, ← coe_sum, ← EReal.coe_neg, Finset.sum_neg_distrib]

/-! The precondition makes the arguments arrays of reals. -/

/-- The side conditions of the precondition's own operations. -/
theorem finiteFacts : Cert.Pre_out_finite.Facts where
  bcast_S_S2x4096x3072 := by decide
  reducesTo_S2x4096x3072_S_d0_1_2 := by decide
  h_S_ := by decide
  bcast_S_S48x16x64 := by decide
  reducesTo_S48x16x64_S_d0_1_2 := by decide

attribute [local instance] Cert.SsmOutIdeal.Gen.facts Cert.SsmOutRefIdeal.Gen.facts finiteFacts

instance : Subsingleton Cert.Pre_out_finite.S_.Idx := ⟨fun _ _ => funext fun k => k.elim0⟩

theorem reals (h : Cert.Pre_SsmOutIdeal_out_finite m) :
    (∀ j, xs m c j = ((xs m c j).toReal : EReal)) ∧ ∀ j, im m c j = ((im m c j).toReal : EReal) := by
  have e := congrFun (h c) (fun k => k.elim0)
  dsimp only [Cert.Pre_out_finite.fn] at e
  obtain ⟨e, e2⟩ := IntOp.andi_eq_one.1 e
  obtain ⟨e0, -⟩ := IntOp.andi_eq_one.1 e
  exact ⟨real_of_all _ _ _ _ _ _ e0, real_of_all _ _ _ _ _ _ e2⟩

theorem frame_ri : Cert.quiescent_SsmOutRefIdeal := fun m ρ _ =>
  (θ_run Cert.SsmOutRefIdeal.defs _ _).mono
    (fun r h => ⟨fun c => (h c).2, sem_eq_zero_of_no_sems (by decide) r.2⟩)
    (Cert.SsmOutRefIdeal.Value.run m ρ)

theorem value : Cert.algebraic_SsmOutIdeal_SsmOutRefIdeal_pre_out_finite := by
  intro m ρ m' ρ' hp ha
  refine ⟨fun c => val_main_v10 (F := Ideal) (xs m c) (re m c) (im m c), ?_, ?_⟩
  · refine (θ_run Cert.SsmOutIdeal.defs _ _).mono (fun r h c => ?_) (Cert.SsmOutIdeal.Value.run m ρ)
    refine ⟨(h c).1.trans (ext2 fun i j => ?_), (h c).2⟩
    obtain ⟨s, q, rfl⟩ := channel_of j
    obtain ⟨hx, hi⟩ := reals m c hp
    refine (result m c i s q).trans (Eq.trans ?_ (reference i s q _ _ _).symm)
    rw [sub_eq_add_neg]
    exact congrArg₂ (· + ·) rfl (sum_neg_mul _ _ (fun p => hx _) fun p => hi _)
  · refine (θ_run Cert.SsmOutRefIdeal.defs _ _).mono (fun r h c => ?_) (Cert.SsmOutRefIdeal.Value.run m' ρ')
    obtain ⟨a0, a1, a2⟩ := ha c
    refine ⟨(h c).1.trans ?_, (h c).2⟩
    rw [val_main_v10_eq, a0, a1, a2]
    rfl

end Cert.Ssm.SsmOut
-- ==== Proof.Ssm.SsmParams.lean ====
/- The discretisation of the state-space layer: the transition and the input matrices over one step, from the continuous ones. -/
module

public import proofs.«01_k».proof.Proof.Kit
public import proofs.«01_k».proof.Proof.Gen.SsmParamsIdeal.Value
public import proofs.«01_k».proof.Proof.Gen.SsmParamsRefIdeal.Read
public import proofs.«01_k».proof.Proof.Ssm.BlockDiag

@[expose] public section

set_option maxRecDepth 16384

noncomputable section

namespace Cert.Ssm.SsmParams

open Idealize.ShloMosaic Idealize.ShloMosaic.TcCoe Idealize.SL.Sem Cert.SsmParamsIdeal Cert.SsmParamsIdeal.Gen

variable (m : (ℓ : Loc nD τ sig) → Buf (Elt Ideal) ℓ) (c : Dev nD) (t : Fin cfg0.N)

/-- The arguments, at their places: the eigenvalues' two parts, the logarithms of the steps, and the input matrices' two parts. -/
def lr : FVec Ideal S48x64 .f32 := m ((c : Thread nD τ).loc main_arg0)
def li : FVec Ideal S48x64 .f32 := m ((c : Thread nD τ).loc main_arg1)
def ld : FVec Ideal S48 .f32 := m ((c : Thread nD τ).loc main_arg2)
def br : FVec Ideal S48x64x16 .f32 := m ((c : Thread nD τ).loc main_arg3)
def bi : FVec Ideal S48x64x16 .f32 := m ((c : Thread nD τ).loc main_arg4)

/-- One state's transition over a step, for the eigenvalue `lr + i li` and the logarithm `ld` of the step. -/
def growth (lr ld : EReal) : EReal := Ideal.exp (lr * Ideal.exp ld)
def abRe (lr li ld : EReal) : EReal := growth lr ld * Ideal.cos (li * Ideal.exp ld)
def abIm (lr li ld : EReal) : EReal := growth lr ld * Ideal.sin (li * Ideal.exp ld)

/-- The factor of the input matrix: the transition less one, over the eigenvalue. -/
def cRe (lr li ld : EReal) : EReal :=
  Ideal.div ((abRe lr li ld - Ideal.ofBits .f32 0x3F800000#32) * lr + abIm lr li ld * li) (lr * lr + li * li)
def cIm (lr li ld : EReal) : EReal :=
  Ideal.div (abIm lr li ld * lr - (abRe lr li ld - Ideal.ofBits .f32 0x3F800000#32) * li) (lr * lr + li * li)

/-- An entry of the input matrix over a step. -/
def bbRe (lr li ld br bi : EReal) : EReal := cRe lr li ld * br - cIm lr li ld * bi
def bbIm (lr li ld br bi : EReal) : EReal := cRe lr li ld * bi + cIm lr li ld * br

/-- The blocks: the arguments as they are, and repeated for each of a group's channels. -/
abbrev B0 : FVec Ideal S48x64 .f32 := iblk m c 0 t
abbrev B1 : FVec Ideal S48x64 .f32 := iblk m c 1 t
abbrev B2 : FVec Ideal S48x1 .f32 := iblk m c 2 t
abbrev B3 : FVec Ideal S768x64 .f32 := iblk m c 3 t
abbrev B4 : FVec Ideal S768x64 .f32 := iblk m c 4 t
abbrev B5 : FVec Ideal S768x1 .f32 := iblk m c 5 t
abbrev B6 : FVec Ideal S768x64 .f32 := iblk m c 6 t
abbrev B7 : FVec Ideal S768x64 .f32 := iblk m c 7 t

theorem written8 (g : Fin 48) (p : Fin 64) : ((dats m 0 c).after 8 t : FVec Ideal S48x64 .f32) (ix2 g p)
    = abRe (B0 m c t (ix2 g p)) (B1 m c t (ix2 g p)) (B2 m c t (ix2 g 0)) := by
  rw [after0_8]
  unfold_out out0_8
  frame_out
  pointwise [k0_pay11, k0_pay10, k0_pay9, k0_pay8, abRe, growth]

theorem written9 (g : Fin 48) (p : Fin 64) : ((dats m 0 c).after 9 t : FVec Ideal S48x64 .f32) (ix2 g p)
    = abIm (B0 m c t (ix2 g p)) (B1 m c t (ix2 g p)) (B2 m c t (ix2 g 0)) := by
  rw [after0_9]
  unfold_out out0_9
  frame_out
  pointwise [k0_pay12, k0_pay10, k0_pay9, k0_pay8, abIm, growth]

theorem written10 (j : Fin 768) (p : Fin 64) : ((dats m 0 c).after 10 t : FVec Ideal S768x64 .f32) (ix2 j p)
    = bbRe (B3 m c t (ix2 j p)) (B4 m c t (ix2 j p)) (B5 m c t (ix2 j 0)) (B6 m c t (ix2 j p)) (B7 m c t (ix2 j p)) := by
  rw [after0_10]
  unfold_out out0_10
  frame_out
  pointwise [k0_pay1, k0_pay2, k0_pay4, k0_pay5, k0_pay6, k0_pay7, k0_pay13, k0_pay14, k0_pay15, k0_pay16, k0_pay17, k0_pay18,
    k0_pay19, bbRe, cRe, cIm, abRe, abIm, growth]

theorem written11 (j : Fin 768) (p : Fin 64) : ((dats m 0 c).after 11 t : FVec Ideal S768x64 .f32) (ix2 j p)
    = bbIm (B3 m c t (ix2 j p)) (B4 m c t (ix2 j p)) (B5 m c t (ix2 j 0)) (B6 m c t (ix2 j p)) (B7 m c t (ix2 j p)) := by
  rw [after0_11]
  unfold_out out0_11
  frame_out
  pointwise [k0_pay1, k0_pay3, k0_pay4, k0_pay5, k0_pay6, k0_pay7, k0_pay13, k0_pay14, k0_pay15, k0_pay16, k0_pay17, k0_pay18,
    k0_pay19, bbIm, cRe, cIm, abRe, abIm, growth]

/-- Every block is its whole array. -/
theorem block0 : B0 m c t = lr m c := by
  refine funext fun i => ?_
  unfold B0 iblk
  rw [show V m c (Pipeline.arrRef spec0 0) = lr m c from V_main_arg0 m c]
  refine congrArg (lr m c) (funext fun a => Fin.ext ?_)
  blk_simp [show win0_0.index t a = 0 by fin_cases a <;> rfl]

theorem block1 : B1 m c t = li m c := by
  refine funext fun i => ?_
  unfold B1 iblk
  rw [show V m c (Pipeline.arrRef spec0 1) = li m c from V_main_arg1 m c]
  refine congrArg (li m c) (funext fun a => Fin.ext ?_)
  blk_simp [show win0_1.index t a = 0 by fin_cases a <;> rfl]

/-- A group's numbers repeated for each of its channels; a group's step likewise; and a group's matrix, its channels' rows. -/
def repeated (x : FVec Ideal S48x64 .f32) : FVec Ideal S768x64 .f32 :=
  shapeCast S768x64 (broadcastInDim S48x16x64 ![0, 2] bcast_S48x64_S48x16x64_0_2 x) shapeCasts_S48x16x64_S768x64
def column (x : FVec Ideal S48 .f32) : FVec Ideal S48x1 .f32 := broadcastInDim S48x1 ![0] bcast_S48_S48x1_0 x
def steps (x : FVec Ideal S48 .f32) : FVec Ideal S768x1 .f32 :=
  shapeCast S768x1 (broadcastInDim S48x16x1 ![0, 2] bcast_S48x1_S48x16x1_0_2 (column x)) shapeCasts_S48x16x1_S768x1
def byState (x : FVec Ideal S48x64x16 .f32) : FVec Ideal S768x64 .f32 :=
  shapeCast S768x64 (transpose S48x16x64 [0, 2, 1] x transposes_S48x64x16_S48x16x64_0_2_1) shapeCasts_S48x16x64_S768x64

theorem rows (g : Fin 48) (h : Fin 16) (p : Fin 64) :
    (S48x16x64.rowMajor (ix3 g h p)).val = (S768x64.rowMajor (ix2 (member g h) p)).val := by
  rw [Shape.rowMajor_val_three, Shape.rowMajor_val_two]
  show (g.val * 16 + h.val) * 64 + p.val = (16 * g.val + h.val) * 64 + p.val
  omega

theorem repeated_apply (x : FVec Ideal S48x64 .f32) (g : Fin 48) (h : Fin 16) (p : Fin 64) :
    repeated x (ix2 (member g h) p) = x (ix2 g p) :=
  (shapeCast_apply _ shapeCasts_S48x16x64_S768x64 _ (ix3 g h p) (rows g h p)).trans
    (broadcastInDim_apply _ bcast_S48x64_S48x16x64_0_2 x _ (ix2 g p) fun a => by fin_cases a <;> rfl)

theorem column_apply (x : FVec Ideal S48 .f32) (g : Fin 48) : column x (ix2 g 0) = x (ix1 g) :=
  broadcastInDim_apply _ bcast_S48_S48x1_0 x _ (ix1 g) fun a => by fin_cases a; rfl

theorem steps_apply (x : FVec Ideal S48 .f32) (g : Fin 48) (h : Fin 16) : steps x (ix2 (member g h) 0) = x (ix1 g) := by
  refine (shapeCast_apply _ shapeCasts_S48x16x1_S768x1 _ (ix3 g h 0) ?_).trans
    ((broadcastInDim_apply _ bcast_S48x1_S48x16x1_0_2 (column x) _ (ix2 g 0) fun a => by fin_cases a <;> rfl).trans (column_apply x g))
  rw [Shape.rowMajor_val_three, Shape.rowMajor_val_two]
  show (g.val * 16 + h.val) * 1 + 0 = (16 * g.val + h.val) * 1 + 0
  omega

theorem byState_apply (x : FVec Ideal S48x64x16 .f32) (g : Fin 48) (h : Fin 16) (p : Fin 64) :
    byState x (ix2 (member g h) p) = x (ix3 g p h) :=
  (shapeCast_apply _ shapeCasts_S48x16x64_S768x64 _ (ix3 g h p) (rows g h p)).trans
    (transpose_apply [0, 2, 1] x transposes_S48x64x16_S48x16x64_0_2_1 (ix3 g h p) (ix3 g p h) fun b => by fin_cases b <;> rfl)

theorem member_of (j : Fin 768) : ∃ (g : Fin 48) (h : Fin 16), j = member g h := by
  have hj := j.2
  exact ⟨⟨j.val / 16, by omega⟩, ⟨j.val % 16, by omega⟩, Fin.ext (by show j.val = 16 * (j.val / 16) + j.val % 16; omega)⟩

theorem block2 : B2 m c t = column (ld m c) := by
  have e : V m c main_v0 = column (ld m c) := by
    unfold V
    simp only [hostOps0, List.flatten_cons, List.flatten_nil, List.append_nil, List.cons_append, List.nil_append]
    after_results
    rfl
  refine funext fun i => ?_
  unfold B2 iblk
  rw [show V m c (Pipeline.arrRef spec0 2) = _ from e]
  refine congrArg (column (ld m c)) (funext fun a => Fin.ext ?_)
  blk_simp [show win0_2.index t a = 0 by fin_cases a <;> rfl]

theorem block3 : B3 m c t = repeated (lr m c) := by
  have e : V m c main_v6 = repeated (lr m c) := by
    unfold V
    simp only [hostOps0, List.flatten_cons, List.flatten_nil, List.append_nil, List.cons_append, List.nil_append]
    after_results
    rfl
  refine funext fun i => ?_
  unfold B3 iblk
  rw [show V m c (Pipeline.arrRef spec0 3) = _ from e]
  refine congrArg (repeated (lr m c)) (funext fun a => Fin.ext ?_)
  blk_simp [show win0_3.index t a = 0 by fin_cases a <;> rfl]

theorem block4 : B4 m c t = repeated (li m c) := by
  have e : V m c main_v8 = repeated (li m c) := by
    unfold V
    simp only [hostOps0, List.flatten_cons, List.flatten_nil, List.append_nil, List.cons_append, List.nil_append]
    after_results
    rfl
  refine funext fun i => ?_
  unfold B4 iblk
  rw [show V m c (Pipeline.arrRef spec0 4) = _ from e]
  refine congrArg (repeated (li m c)) (funext fun a => Fin.ext ?_)
  blk_simp [show win0_4.index t a = 0 by fin_cases a <;> rfl]

theorem block5 : B5 m c t = steps (ld m c) := by
  have e : V m c main_v10 = steps (ld m c) := by
    unfold V
    simp only [hostOps0, List.flatten_cons, List.flatten_nil, List.append_nil, List.cons_append, List.nil_append]
    after_results
    rfl
  refine funext fun i => ?_
  unfold B5 iblk
  rw [show V m c (Pipeline.arrRef spec0 5) = _ from e]
  refine congrArg (steps (ld m c)) (funext fun a => Fin.ext ?_)
  blk_simp [show win0_5.index t a = 0 by fin_cases a <;> rfl]

theorem block6 : B6 m c t = byState (br m c) := by
  have e : V m c main_v2 = byState (br m c) := by
    unfold V
    simp only [hostOps0, List.flatten_cons, List.flatten_nil, List.append_nil, List.cons_append, List.nil_append]
    after_results
    rfl
  refine funext fun i => ?_
  unfold B6 iblk
  rw [show V m c (Pipeline.arrRef spec0 6) = _ from e]
  refine congrArg (byState (br m c)) (funext fun a => Fin.ext ?_)
  blk_simp [show win0_6.index t a = 0 by fin_cases a <;> rfl]

theorem block7 : B7 m c t = byState (bi m c) := by
  have e : V m c main_v4 = byState (bi m c) := by
    unfold V
    simp only [hostOps0, List.flatten_cons, List.flatten_nil, List.append_nil, List.cons_append, List.nil_append]
    after_results
    rfl
  refine funext fun i => ?_
  unfold B7 iblk
  rw [show V m c (Pipeline.arrRef spec0 7) = _ from e]
  refine congrArg (byState (bi m c)) (funext fun a => Fin.ext ?_)
  blk_simp [show win0_7.index t a = 0 by fin_cases a <;> rfl]

open Cert.SsmParamsRefIdeal.Read

section
variable (x y : FVec Ideal S48x64 .f32) (z : FVec Ideal S48 .f32) (u v : FVec Ideal S48x64x16 .f32)
  (g : Fin 48) (h : Fin 16) (p : Fin 64)

theorem reference_step (i : S48x1.Idx) (hi : i = ix2 g 0) : val_main_v1 (F := Ideal) z i = Ideal.exp (z (ix1 g)) := by
  subst hi
  rw [val_main_v1_apply, val_main_v0_apply]
  refine congrArg (fun i => Ideal.exp (z i)) (funext fun a => Fin.ext ?_)
  fin_cases a
  rfl

theorem reference_growth : val_main_v4 (F := Ideal) x z (ix2 g p) = growth (x (ix2 g p)) (z (ix1 g)) := by
  rw [val_main_v4_apply, val_main_v3_apply, val_main_v2_apply,
    reference_step z g _ (by funext a; apply Fin.ext; fin_cases a <;> rfl)]
  rfl

theorem reference8 : val_main_v8 (F := Ideal) x y z (ix2 g p) = abRe (x (ix2 g p)) (y (ix2 g p)) (z (ix1 g)) := by
  rw [val_main_v8_apply, reference_growth, val_main_v7_apply, val_main_v6_apply, val_main_v5_apply,
    reference_step z g _ (by funext a; apply Fin.ext; fin_cases a <;> rfl)]
  rfl

theorem reference12 : val_main_v12 (F := Ideal) x y z (ix2 g p) = abIm (x (ix2 g p)) (y (ix2 g p)) (z (ix1 g)) := by
  rw [val_main_v12_apply, reference_growth, val_main_v11_apply, val_main_v10_apply, val_main_v9_apply,
    reference_step z g _ (by funext a; apply Fin.ext; fin_cases a <;> rfl)]
  rfl

theorem reference_cRe : val_main_v21 (F := Ideal) x y z (ix2 g p) = cRe (x (ix2 g p)) (y (ix2 g p)) (z (ix1 g)) := by
  rw [val_main_v21_apply, val_main_v20_apply, val_main_v19_apply, val_main_v18_apply, val_main_v17_apply, val_main_v16_apply,
    val_main_v15_apply, val_main_v14_apply, val_main_v13_apply, reference8, reference12]
  rfl

theorem reference_cIm : val_main_v27 (F := Ideal) x y z (ix2 g p) = cIm (x (ix2 g p)) (y (ix2 g p)) (z (ix1 g)) := by
  rw [val_main_v27_apply, val_main_v26_apply, val_main_v25_apply, val_main_v24_apply, val_main_v23_apply, val_main_v22_apply,
    val_main_v15_apply, val_main_v14_apply, val_main_v13_apply, reference8, reference12]
  rfl

/-- The reference's row of a group's channel. -/
theorem entry_at : idx_main_v42 (idx_main_v43 (ix2 (member g h) p)) = ix3 g p h := by
  have hg := g.2
  have hh := h.2
  have hp := p.2
  refine funext fun a => Fin.ext ?_
  fin_cases a <;> simp [member] <;> omega

theorem entry_at' : idx_main_v44 (idx_main_v45 (ix2 (member g h) p)) = ix3 g p h := entry_at g h p

theorem reference43 : val_main_v43 (F := Ideal) x y z u v (ix2 (member g h) p)
    = bbRe (x (ix2 g p)) (y (ix2 g p)) (z (ix1 g)) (u (ix3 g p h)) (v (ix3 g p h)) := by
  rw [val_main_v43_apply, val_main_v42_apply, entry_at, val_main_v34_apply, val_main_v33_apply, val_main_v32_apply,
    val_main_v31_apply, val_main_v30_apply, val_main_v29_apply, val_main_v28_apply]
  have e : ∀ i : S48x64.Idx, i = ix2 g p → val_main_v21 (F := Ideal) x y z i = cRe (x (ix2 g p)) (y (ix2 g p)) (z (ix1 g)) :=
    fun i hi => hi ▸ reference_cRe x y z g p
  have f : ∀ i : S48x64.Idx, i = ix2 g p → val_main_v27 (F := Ideal) x y z i = cIm (x (ix2 g p)) (y (ix2 g p)) (z (ix1 g)) :=
    fun i hi => hi ▸ reference_cIm x y z g p
  rw [e _ (by funext a; apply Fin.ext; fin_cases a <;> rfl), f _ (by funext a; apply Fin.ext; fin_cases a <;> rfl)]
  rfl

theorem reference45 : val_main_v45 (F := Ideal) x y z u v (ix2 (member g h) p)
    = bbIm (x (ix2 g p)) (y (ix2 g p)) (z (ix1 g)) (u (ix3 g p h)) (v (ix3 g p h)) := by
  rw [val_main_v45_apply, val_main_v44_apply, entry_at', val_main_v41_apply, val_main_v40_apply, val_main_v39_apply,
    val_main_v38_apply, val_main_v37_apply, val_main_v36_apply, val_main_v35_apply]
  have e : ∀ i : S48x64.Idx, i = ix2 g p → val_main_v21 (F := Ideal) x y z i = cRe (x (ix2 g p)) (y (ix2 g p)) (z (ix1 g)) :=
    fun i hi => hi ▸ reference_cRe x y z g p
  have f : ∀ i : S48x64.Idx, i = ix2 g p → val_main_v27 (F := Ideal) x y z i = cIm (x (ix2 g p)) (y (ix2 g p)) (z (ix1 g)) :=
    fun i hi => hi ▸ reference_cIm x y z g p
  rw [e _ (by funext a; apply Fin.ext; fin_cases a <;> rfl), f _ (by funext a; apply Fin.ext; fin_cases a <;> rfl)]
  rfl

end

theorem result8 : (dats m 0 c).arrAt 8 cfg0.N = val_main_v8 (F := Ideal) (lr m c) (li m c) (ld m c) := by
  refine (dats m 0 c).arrAt_eq_of_covers 8 _ (by decide +kernel) fun t hf i => ?_
  obtain ⟨g, p, rfl⟩ : ∃ (g : Fin 48) (p : Fin 64), i = ix2 g p := ⟨i 0, i 1, ValueIdx.eq_ix2 i⟩
  refine (written8 m c t g p).trans ?_
  rw [block0, block1, block2, column_apply]
  refine (reference8 _ _ _ g p).symm.trans (congrArg (val_main_v8 (F := Ideal) (lr m c) (li m c) (ld m c)) (funext fun a => Fin.ext ?_))
  blk_simp [show win0_8.index t a = 0 by fin_cases a <;> rfl]

theorem result9 : (dats m 0 c).arrAt 9 cfg0.N = val_main_v12 (F := Ideal) (lr m c) (li m c) (ld m c) := by
  refine (dats m 0 c).arrAt_eq_of_covers 9 _ (by decide +kernel) fun t hf i => ?_
  obtain ⟨g, p, rfl⟩ : ∃ (g : Fin 48) (p : Fin 64), i = ix2 g p := ⟨i 0, i 1, ValueIdx.eq_ix2 i⟩
  refine (written9 m c t g p).trans ?_
  rw [block0, block1, block2, column_apply]
  refine (reference12 _ _ _ g p).symm.trans (congrArg (val_main_v12 (F := Ideal) (lr m c) (li m c) (ld m c)) (funext fun a => Fin.ext ?_))
  blk_simp [show win0_9.index t a = 0 by fin_cases a <;> rfl]

theorem result10 : (dats m 0 c).arrAt 10 cfg0.N = val_main_v43 (F := Ideal) (lr m c) (li m c) (ld m c) (br m c) (bi m c) := by
  refine (dats m 0 c).arrAt_eq_of_covers 10 _ (by decide +kernel) fun t hf i => ?_
  obtain ⟨j, p, rfl⟩ : ∃ (j : Fin 768) (p : Fin 64), i = ix2 j p := ⟨i 0, i 1, ValueIdx.eq_ix2 i⟩
  obtain ⟨g, h, rfl⟩ := member_of j
  refine (written10 m c t _ p).trans ?_
  rw [block3, block4, block5, block6, block7, repeated_apply, repeated_apply, steps_apply, byState_apply, byState_apply]
  refine (reference43 _ _ _ _ _ g h p).symm.trans (congrArg (val_main_v43 (F := Ideal) (lr m c) (li m c) (ld m c) (br m c) (bi m c)) (funext fun a => Fin.ext ?_))
  blk_simp [show win0_10.index t a = 0 by fin_cases a <;> rfl]

theorem result11 : (dats m 0 c).arrAt 11 cfg0.N = val_main_v45 (F := Ideal) (lr m c) (li m c) (ld m c) (br m c) (bi m c) := by
  refine (dats m 0 c).arrAt_eq_of_covers 11 _ (by decide +kernel) fun t hf i => ?_
  obtain ⟨j, p, rfl⟩ : ∃ (j : Fin 768) (p : Fin 64), i = ix2 j p := ⟨i 0, i 1, ValueIdx.eq_ix2 i⟩
  obtain ⟨g, h, rfl⟩ := member_of j
  refine (written11 m c t _ p).trans ?_
  rw [block3, block4, block5, block6, block7, repeated_apply, repeated_apply, steps_apply, byState_apply, byState_apply]
  refine (reference45 _ _ _ _ _ g h p).symm.trans (congrArg (val_main_v45 (F := Ideal) (lr m c) (li m c) (ld m c) (br m c) (bi m c)) (funext fun a => Fin.ext ?_))
  blk_simp [show win0_11.index t a = 0 by fin_cases a <;> rfl]

attribute [local instance] Cert.SsmParamsIdeal.Gen.facts Cert.SsmParamsRefIdeal.Gen.facts

theorem frame_ri : Cert.quiescent_SsmParamsRefIdeal := fun m ρ _ =>
  (θ_run Cert.SsmParamsRefIdeal.defs _ _).mono
    (fun r h => ⟨fun c => (h c).2.2.2.2, sem_eq_zero_of_no_sems (by decide) r.2⟩)
    (Cert.SsmParamsRefIdeal.Value.run m ρ)

theorem value : Cert.algebraic_SsmParamsIdeal_SsmParamsRefIdeal := by
  intro m ρ m' ρ' _ ha
  refine ⟨fun c => val_main_v8 (F := Ideal) (lr m c) (li m c) (ld m c), fun c => val_main_v12 (F := Ideal) (lr m c) (li m c) (ld m c),
    fun c => val_main_v43 (F := Ideal) (lr m c) (li m c) (ld m c) (br m c) (bi m c), fun c => val_main_v45 (F := Ideal) (lr m c) (li m c) (ld m c) (br m c) (bi m c), ?_, ?_⟩
  · exact (θ_run Cert.SsmParamsIdeal.defs _ _).mono (fun r h c => ⟨(h c).1.trans (result8 m c), (h c).2.1.trans (result9 m c),
      (h c).2.2.1.trans (result10 m c), (h c).2.2.2.1.trans (result11 m c), (h c).2.2.2.2⟩)
      (Cert.SsmParamsIdeal.Value.run_blocks m ρ)
  · refine (θ_run Cert.SsmParamsRefIdeal.defs _ _).mono (fun r h c => ?_) (Cert.SsmParamsRefIdeal.Value.run m' ρ')
    obtain ⟨a0, a1, a2, a3, a4⟩ := ha c
    refine ⟨(h c).1.trans ?_, (h c).2.1.trans ?_, (h c).2.2.1.trans ?_, (h c).2.2.2.1.trans ?_, (h c).2.2.2.2⟩
    · rw [val_main_v8_eq, a0, a1, a2]
      rfl
    · rw [val_main_v12_eq, a0, a1, a2]
      rfl
    · rw [val_main_v43_eq, a0, a1, a2, a3, a4]
      rfl
    · rw [val_main_v45_eq, a0, a1, a2, a3, a4]
      rfl

end Cert.Ssm.SsmParams
-- ==== Proof.Attn.Row.lean ====
/- One query's softmax over its keys, the keys in two halves (the previous block's and the current block's) and in one row. -/
module

public import Idealize.ShloMosaic.Lib.Pipeline.ValueKit

@[expose] public section

noncomputable section

namespace Cert.Attn

open Idealize.ShloMosaic

/-- The largest score, the sum of the weights, the weighted values and the logarithm of the sum, of the scores `a` of the
    previous block's keys and `b` of the current block's, whose values are `v` and `w`. -/
def top (a b : Fin 128 → EReal) : EReal :=
  max (Finset.univ.fold max (Ideal.ofBits .f32 0xFF800000#32) a) (Finset.univ.fold max (Ideal.ofBits .f32 0xFF800000#32) b)
def den (a b : Fin 128 → EReal) : EReal := ∑ k, Ideal.exp (a k - top a b) + ∑ k, Ideal.exp (b k - top a b)
def out (a b v w : Fin 128 → EReal) : EReal :=
  Ideal.div (∑ k, Ideal.exp (a k - top a b) * v k + ∑ k, Ideal.exp (b k - top a b) * w k) (den a b)
def lse (a b : Fin 128 → EReal) : EReal := top a b + Ideal.log (den a b)

/-- The same of one row of scores `s` and values `x`. -/
def top1 (s : Fin 256 → EReal) : EReal := Finset.univ.fold max (Ideal.ofBits .f32 0xFF800000#32) s
def den1 (s : Fin 256 → EReal) : EReal := ∑ k, Ideal.exp (s k - top1 s)
def out1 (s x : Fin 256 → EReal) : EReal := Ideal.div (∑ k, x k * Ideal.exp (s k - top1 s)) (den1 s)
def lse1 (s : Fin 256 → EReal) : EReal := top1 s + Ideal.log (den1 s)

/-- The keys of the two halves among all. -/
def lo (k : Fin 128) : Fin 256 := ⟨k.val, by omega⟩
def hi (k : Fin 128) : Fin 256 := ⟨128 + k.val, by omega⟩

theorem halves {p : Fin 256 → Prop} (hl : ∀ k, p (lo k)) (hh : ∀ k, p (hi k)) (k : Fin 256) : p k := by
  by_cases h : k.val < 128
  · exact hl ⟨k.val, h⟩
  · have := hh ⟨k.val - 128, by omega⟩
    rwa [show hi ⟨k.val - 128, by omega⟩ = k from Fin.ext (by show 128 + (k.val - 128) = k.val; omega)] at this

theorem sum_halves (f : Fin 256 → EReal) : ∑ k, f k = ∑ k, f (lo k) + ∑ k, f (hi k) :=
  Fin.sum_univ_add (a := 128) (b := 128) f

variable {s x : Fin 256 → EReal} {a b v w : Fin 128 → EReal}

theorem top1_eq (ha : ∀ k, s (lo k) = a k) (hb : ∀ k, s (hi k) = b k) : top1 s = top a b := by
  refine eq_of_forall_ge_iff fun c => ?_
  rw [top1, top, max_le_iff, Finset.fold_max_le, Finset.fold_max_le, Finset.fold_max_le]
  refine ⟨fun h => ⟨⟨h.1, fun k _ => ha k ▸ h.2 _ (Finset.mem_univ _)⟩, h.1, fun k _ => hb k ▸ h.2 _ (Finset.mem_univ _)⟩,
    fun h => ⟨h.1.1, fun k _ => ?_⟩⟩
  exact halves (p := fun k => s k ≤ c) (fun k => (ha k).symm ▸ h.1.2 k (Finset.mem_univ _))
    (fun k => (hb k).symm ▸ h.2.2 k (Finset.mem_univ _)) k

theorem den1_eq (ha : ∀ k, s (lo k) = a k) (hb : ∀ k, s (hi k) = b k) : den1 s = den a b := by
  rw [den1, sum_halves, top1_eq ha hb]
  simp only [ha, hb]
  rfl

/-- A key that is not seen weighs nothing, whatever its value. -/
theorem unseen (y : EReal) (z z' : EReal) : z * Ideal.exp (⊥ - y) = Ideal.exp (⊥ - y) * z' := by
  rw [show (⊥ : EReal) - y = ⊥ from by rw [sub_eq_add_neg, EReal.bot_add], Ideal.exp_bot, mul_zero, zero_mul]

theorem out1_eq (ha : ∀ k, s (lo k) = a k) (hb : ∀ k, s (hi k) = b k) (hv : ∀ k, a k = ⊥ ∨ x (lo k) = v k)
    (hw : ∀ k, x (hi k) = w k) : out1 s x = out a b v w := by
  rw [out1, sum_halves, top1_eq ha hb, den1_eq ha hb, out]
  simp only [ha, hb, hw]
  refine congrArg₂ _ (congrArg₂ _ (Finset.sum_congr rfl fun k _ => ?_) (Finset.sum_congr rfl fun k _ => mul_comm _ _)) rfl
  rcases hv k with h | h
  · rw [h]; exact unseen _ _ _
  · rw [h]; exact mul_comm _ _

theorem lse1_eq (ha : ∀ k, s (lo k) = a k) (hb : ∀ k, s (hi k) = b k) : lse1 s = lse a b := by
  rw [lse1, lse, top1_eq ha hb, den1_eq ha hb]

end Cert.Attn
-- ==== Proof.Attn.AttnFwd.lean ====
module

public import proofs.«01_k».proof.Proof.Attn.Row
public import proofs.«01_k».proof.Proof.Gen.AttnFwdIdeal.Value
public import Idealize.ShloMosaic.Lib.Pipeline.ValueKit

@[expose] public section

set_option maxRecDepth 16384

noncomputable section

namespace Cert.Attn.AttnFwd

open Idealize.ShloMosaic Idealize.ShloMosaic.TcCoe Idealize.SL.Sem Cert.AttnFwdIdeal Cert.AttnFwdIdeal.Gen

/-- What the kernel computes of one head, from its queries, keys, values and biases: every head is computed as the second
    is. -/
def headO (i : grid0.Coords) (q kp kc vp vc : Vec Ideal S1x1x1x128x64 .bf16) (b : Vec Ideal S1x1x128x256 .f32) :
    FVec Ideal S1x1x128x64 .f32 :=
  k0_pay24 (k0_pay18 (k0_pay2 i) q kp b) (k0_pay19 k0_pay3 q kc b) vp vc
def headL (i : grid0.Coords) (q kp kc : Vec Ideal S1x1x1x128x64 .bf16) (b : Vec Ideal S1x1x128x256 .f32) :
    FVec Ideal S1x1x128x64 .f32 :=
  k0_pay26 (k0_pay25 (k0_pay18 (k0_pay2 i) q kp b) (k0_pay19 k0_pay3 q kc b))

theorem outO (i : grid0.Coords) (x0 x1 x2 x3 x4 : Vec Ideal S1x1x8x128x64 .bf16) (x5 : Vec Ideal S1x8x128x256 .f32) :
    out0_6 i x0 x1 x2 x3 x4 x5 = View.canon
      [⟨r0_23, headO i (View.ld x0 r0_21) (View.ld x1 r0_21) (View.ld x2 r0_21) (View.ld x3 r0_21) (View.ld x4 r0_21) (View.ld x5 r0_22)⟩,
       ⟨r0_20, headO i (View.ld x0 r0_18) (View.ld x1 r0_18) (View.ld x2 r0_18) (View.ld x3 r0_18) (View.ld x4 r0_18) (View.ld x5 r0_19)⟩,
       ⟨r0_17, headO i (View.ld x0 r0_15) (View.ld x1 r0_15) (View.ld x2 r0_15) (View.ld x3 r0_15) (View.ld x4 r0_15) (View.ld x5 r0_16)⟩,
       ⟨r0_14, headO i (View.ld x0 r0_12) (View.ld x1 r0_12) (View.ld x2 r0_12) (View.ld x3 r0_12) (View.ld x4 r0_12) (View.ld x5 r0_13)⟩,
       ⟨r0_11, headO i (View.ld x0 r0_9) (View.ld x1 r0_9) (View.ld x2 r0_9) (View.ld x3 r0_9) (View.ld x4 r0_9) (View.ld x5 r0_10)⟩,
       ⟨r0_8, headO i (View.ld x0 r0_6) (View.ld x1 r0_6) (View.ld x2 r0_6) (View.ld x3 r0_6) (View.ld x4 r0_6) (View.ld x5 r0_7)⟩,
       ⟨r0_5, headO i (View.ld x0 r0_3) (View.ld x1 r0_3) (View.ld x2 r0_3) (View.ld x3 r0_3) (View.ld x4 r0_3) (View.ld x5 r0_4)⟩,
       ⟨r0_2, headO i (View.ld x0 r0_0) (View.ld x1 r0_0) (View.ld x2 r0_0) (View.ld x3 r0_0) (View.ld x4 r0_0) (View.ld x5 r0_1)⟩] := rfl

theorem outL (i : grid0.Coords) (x0 x1 x2 x3 x4 : Vec Ideal S1x1x8x128x64 .bf16) (x5 : Vec Ideal S1x8x128x256 .f32) :
    out0_7 i x0 x1 x2 x3 x4 x5 = View.canon
      [⟨r0_23, headL i (View.ld x0 r0_21) (View.ld x1 r0_21) (View.ld x2 r0_21) (View.ld x5 r0_22)⟩,
       ⟨r0_20, headL i (View.ld x0 r0_18) (View.ld x1 r0_18) (View.ld x2 r0_18) (View.ld x5 r0_19)⟩,
       ⟨r0_17, headL i (View.ld x0 r0_15) (View.ld x1 r0_15) (View.ld x2 r0_15) (View.ld x5 r0_16)⟩,
       ⟨r0_14, headL i (View.ld x0 r0_12) (View.ld x1 r0_12) (View.ld x2 r0_12) (View.ld x5 r0_13)⟩,
       ⟨r0_11, headL i (View.ld x0 r0_9) (View.ld x1 r0_9) (View.ld x2 r0_9) (View.ld x5 r0_10)⟩,
       ⟨r0_8, headL i (View.ld x0 r0_6) (View.ld x1 r0_6) (View.ld x2 r0_6) (View.ld x5 r0_7)⟩,
       ⟨r0_5, headL i (View.ld x0 r0_3) (View.ld x1 r0_3) (View.ld x2 r0_3) (View.ld x5 r0_4)⟩,
       ⟨r0_2, headL i (View.ld x0 r0_0) (View.ld x1 r0_0) (View.ld x2 r0_0) (View.ld x5 r0_1)⟩] := rfl

variable (q kp kc vp vc : Vec Ideal S1x1x1x128x64 .bf16) (b : Vec Ideal S1x1x128x256 .f32)

/-- A choice by a word of one bit. -/
theorem choice (w : BitVec 1) (x y : EReal) : Scalar.select w x y = if w = 1#1 then x else y := rfl

/-- A score of one of the previous block's keys, and of one of the current block's: a key that is not seen scores −∞. -/
theorem scoreP_apply (M : IVec S128x128 1) (i k : Fin 128) : k0_pay18 (F := Ideal) M q kp b (ix2 i k) =
    if M (ix2 i k) = 1#1 then (∑ e, q (ix5 0 0 0 i e) * kp (ix5 0 0 0 k e)) * Ideal.ofBits .f32 0x3E000000#32
      + b (ix4 0 0 i (lo k)) else ⊥ := by
  pointwise [k0_pay18, k0_pay16, k0_pay17]
  exact choice _ _ _

theorem scoreC_apply (M : IVec S128x128 1) (i k : Fin 128) : k0_pay19 (F := Ideal) M q kc b (ix2 i k) =
    if M (ix2 i k) = 1#1 then (∑ e, q (ix5 0 0 0 i e) * kc (ix5 0 0 0 k e)) * Ideal.ofBits .f32 0x3E000000#32
      + b (ix4 0 0 i (hi k)) else ⊥ := by
  pointwise [k0_pay19, k0_pay16, k0_pay17]
  exact choice _ _ _

theorem headO_apply (I : grid0.Coords) (i : Fin 128) (e : Fin 64) :
    headO I q kp kc vp vc b (ix4 0 0 i e)
      = out (fun k => k0_pay18 (F := Ideal) (k0_pay2 I) q kp b (ix2 i k)) (fun k => k0_pay19 (F := Ideal) k0_pay3 q kc b (ix2 i k))
          (fun k => vp (ix5 0 0 0 k e)) (fun k => vc (ix5 0 0 0 k e)) := by
  pointwise [headO, k0_pay24, k0_pay23, k0_pay22, k0_pay21, k0_pay20, out, den, top]

theorem headL_apply (I : grid0.Coords) (i : Fin 128) (e : Fin 64) :
    headL I q kp kc b (ix4 0 0 i e)
      = lse (fun k => k0_pay18 (F := Ideal) (k0_pay2 I) q kp b (ix2 i k)) (fun k => k0_pay19 (F := Ideal) k0_pay3 q kc b (ix2 i k)) := by
  pointwise [headL, k0_pay26, k0_pay25, k0_pay23, k0_pay22, k0_pay21, k0_pay20, lse, den, top]

/-! ### The streams -/

/-- The blocks of a stream of each group of heads, and the streams. -/
def nbs : Fin 3 → Nat := ![32, 8, 2]
def dil : Fin 3 → Nat := ![1, 4, 16]

/-- The token at place `p` of the streams of group `g`, one stream after the other. -/
def tok (g : Fin 3) (p : Fin 4096) : Fin 4096 :=
  ⟨p.val % (128 * nbs g) * dil g + p.val / (128 * nbs g), by have := p.2; fin_cases g <;> simp [nbs, dil] <;> omega⟩

/-- The column of number `e` of head `h` of group `g`: of its queries, keys or values. -/
def col (part g : Fin 3) (h : Fin 8) (e : Fin 64) : Fin 4608 := ⟨1536 * part.val + 512 * g.val + 64 * h.val + e.val, by omega⟩

/-- Place `k` of block `n`, and the block before. -/
def pos (n : Fin 32) (k : Fin 128) : Fin 4096 := ⟨128 * n.val + k.val, by omega⟩
def prev (n : Fin 32) : Fin 32 := ⟨n.val - 1, by omega⟩

/-- A block that begins a stream sees no block before it. -/
def fresh (g : Fin 3) (n : Fin 32) : Bool := n.val % nbs g == 0

variable (x : FVec Ideal S4096x4608 .bf16) (bias : FVec Ideal S3x8x128x256 .f32) (g : Fin 3) (n : Fin 32) (h : Fin 8)

/-- The numbers of head `h` of group `g` at a place of its streams. -/
def strm (part : Fin 3) (p : Fin 4096) (e : Fin 64) : EReal := x (ix2 (tok g p) (col part g h e))

/-- The scores of query `i` of block `n`: of key `k` of the block before and of key `k` of the block. -/
def before (i k : Fin 128) : EReal :=
  if fresh g n = false ∧ i ≤ k then (∑ e, strm x g h 0 (pos n i) e * strm x g h 1 (pos (prev n) k) e)
    * Ideal.ofBits .f32 0x3E000000#32 + bias (ix4 g h i (lo k)) else ⊥
def within (i k : Fin 128) : EReal :=
  if k ≤ i then (∑ e, strm x g h 0 (pos n i) e * strm x g h 1 (pos n k) e)
    * Ideal.ofBits .f32 0x3E000000#32 + bias (ix4 g h i (hi k)) else ⊥

/-- The attention of query `i` of block `n`, and the logarithm of the sum of its weights. -/
def attended (i : Fin 128) (e : Fin 64) : EReal :=
  out (before x bias g n h i) (within x bias g n h i) (fun k => strm x g h 2 (pos (prev n) k) e) (fun k => strm x g h 2 (pos n k) e)
def summed (i : Fin 128) : EReal := lse (before x bias g n h i) (within x bias g n h i)

variable (m : (ℓ : Loc nD τ sig) → Buf (Elt Ideal) ℓ) (c : Dev nD) (t : Fin cfg0.N)

/-- The arguments, at their places. -/
def qkv : FVec Ideal S4096x4608 .bf16 := m ((c : Thread nD τ).loc main_arg0)
def bs : FVec Ideal S3x8x128x256 .f32 := m ((c : Thread nD τ).loc main_arg1)

/-- The group and the block of a point of the grid. -/
def grp : Fin 3 := ⟨t.val / 32, by have := lt_of_lt_of_eq t.isLt N_0; omega⟩
def blk : Fin 32 := ⟨t.val % 32, by omega⟩

theorem idx0 : ∀ t : Fin cfg0.N, win0_0.index t = ![t.val / 32, 0, 0, t.val % 32, 0] :=
  (by decide +kernel : ∀ t : Fin grid0.N, win0_0.index t = ![t.val / 32, 0, 0, t.val % 32, 0])
theorem idx1 : ∀ t : Fin cfg0.N, win0_1.index t = ![t.val / 32, 1, 0, t.val % 32 - 1, 0] :=
  (by decide +kernel : ∀ t : Fin grid0.N, win0_1.index t = ![t.val / 32, 1, 0, t.val % 32 - 1, 0])
theorem idx2 : ∀ t : Fin cfg0.N, win0_2.index t = ![t.val / 32, 1, 0, t.val % 32, 0] :=
  (by decide +kernel : ∀ t : Fin grid0.N, win0_2.index t = ![t.val / 32, 1, 0, t.val % 32, 0])
theorem idx3 : ∀ t : Fin cfg0.N, win0_3.index t = ![t.val / 32, 2, 0, t.val % 32 - 1, 0] :=
  (by decide +kernel : ∀ t : Fin grid0.N, win0_3.index t = ![t.val / 32, 2, 0, t.val % 32 - 1, 0])
theorem idx4 : ∀ t : Fin cfg0.N, win0_4.index t = ![t.val / 32, 2, 0, t.val % 32, 0] :=
  (by decide +kernel : ∀ t : Fin grid0.N, win0_4.index t = ![t.val / 32, 2, 0, t.val % 32, 0])
theorem idx5 : ∀ t : Fin cfg0.N, win0_5.index t = ![t.val / 32, 0, 0, 0] :=
  (by decide +kernel : ∀ t : Fin grid0.N, win0_5.index t = ![t.val / 32, 0, 0, 0])
theorem idx6 : ∀ t : Fin cfg0.N, win0_6.index t = ![t.val / 32, 0, t.val % 32, 0] :=
  (by decide +kernel : ∀ t : Fin grid0.N, win0_6.index t = ![t.val / 32, 0, t.val % 32, 0])
theorem idx7 : ∀ t : Fin cfg0.N, win0_7.index t = ![t.val / 32, 0, t.val % 32, 0] :=
  (by decide +kernel : ∀ t : Fin grid0.N, win0_7.index t = ![t.val / 32, 0, t.val % 32, 0])

/-- The first key of the block before that a query may see, from its own place on: none where a stream begins. -/
def shift (i : grid0.Coords) : BitVec 32 :=
  Scalar.select (Scalar.cmpi .ne (Scalar.remsi (BitVec.ofNat 32 (i 1).val) (Scalar.select (Scalar.cmpi .eq (BitVec.ofNat 32 (i 0).val) 0#32)
    32#32 (Scalar.select (Scalar.cmpi .eq (BitVec.ofNat 32 (i 0).val) 1#32) 8#32 2#32))) 0#32) 0#32 128#32

theorem shift_at : ∀ t : Fin cfg0.N, shift (grid0.coords t) = if fresh (grp t) (blk t) then 128#32 else 0#32 :=
  (by decide +kernel : ∀ t : Fin grid0.N, shift (grid0.coords t) = if fresh (grp t) (blk t) then 128#32 else 0#32)

theorem seen0 : ∀ i k : Fin 128, IntOp.cmpi .sge (BitVec.ofNat 32 k.val) (IntOp.addi (BitVec.ofNat 32 i.val) 0#32) = 1#1 ↔ i ≤ k := by
  decide +kernel
theorem seen128 : ∀ i k : Fin 128, IntOp.cmpi .sge (BitVec.ofNat 32 k.val) (IntOp.addi (BitVec.ofNat 32 i.val) 128#32) ≠ 1#1 := by
  decide +kernel
theorem seen : ∀ i k : Fin 128, IntOp.cmpi .sle (BitVec.ofNat 32 k.val) (BitVec.ofNat 32 i.val) = 1#1 ↔ k ≤ i := by
  decide +kernel

theorem maskP (i k : Fin 128) : k0_pay2 (grid0.coords t) (ix2 i k) = 1#1 ↔ fresh (grp t) (blk t) = false ∧ i ≤ k := by
  have e : k0_pay2 (grid0.coords t) (ix2 i k)
      = IntOp.cmpi .sge (BitVec.ofNat 32 k.val) (IntOp.addi (BitVec.ofNat 32 i.val) (shift (grid0.coords t))) := by
    pointwise [k0_pay2, shift]
  rw [e, shift_at]
  by_cases hf : fresh (grp t) (blk t) = true
  · simp [hf, seen128]
  · simp [hf, seen0]

theorem maskC (i k : Fin 128) : k0_pay3 (ix2 i k) = 1#1 ↔ k ≤ i := by
  have e : k0_pay3 (ix2 i k) = IntOp.cmpi .sle (BitVec.ofNat 32 k.val) (BitVec.ofNat 32 i.val) := by
    pointwise [k0_pay3]
  rw [e, seen]

theorem placed6 (i : Fin 128) (e : Fin 64) : (win0_6.blk t).view.emb (ix4 0 h i e) = ix4 (grp t) h (pos (blk t) i) e := by
  funext a
  apply Fin.ext
  blk_simp [idx6 t]
  fin_cases a <;> simp [pos, grp, blk] <;> omega

theorem placed7 (i : Fin 128) (e : Fin 64) : (win0_7.blk t).view.emb (ix4 0 h i e) = ix4 (grp t) h (pos (blk t) i) e := by
  funext a
  apply Fin.ext
  blk_simp [idx7 t]
  fin_cases a <;> simp [pos, grp, blk] <;> omega

/-- The streams of each group, as they are laid out before the call. -/
def piece0 : FVec Ideal S1x3x8x4096x64 .bf16 :=
  broadcastInDim S1x3x8x4096x64 ![1, 2, 3, 4] bcast_S3x8x4096x64_S1x3x8x4096x64_1_2_3_4
    (shapeCast S3x8x4096x64 (transpose S3x8x1x4096x64 [2, 3, 1, 0, 4] (shapeCast S4096x1x3x8x64 (shapeCast S4096x3x8x64
      (extractStridedSlice S4096x3x1x8x64 ![0, 0, 0, 0, 0] (shapeCast S4096x3x3x8x64 x shapeCasts_S4096x4608_S4096x3x3x8x64)
        slices_S4096x3x3x8x64_S4096x3x1x8x64_0_0_0_0_0) shapeCasts_S4096x3x1x8x64_S4096x3x8x64) shapeCasts_S4096x3x8x64_S4096x1x3x8x64)
      transposes_S4096x1x3x8x64_S3x8x1x4096x64_2_3_1_0_4) shapeCasts_S3x8x1x4096x64_S3x8x4096x64)
def piece1 : FVec Ideal S1x3x8x4096x64 .bf16 :=
  broadcastInDim S1x3x8x4096x64 ![1, 2, 3, 4] bcast_S3x8x4096x64_S1x3x8x4096x64_1_2_3_4
    (shapeCast S3x8x4096x64 (transpose S3x8x4x1024x64 [2, 3, 1, 0, 4] (shapeCast S1024x4x3x8x64 (shapeCast S4096x3x8x64
      (extractStridedSlice S4096x3x1x8x64 ![0, 0, 1, 0, 0] (shapeCast S4096x3x3x8x64 x shapeCasts_S4096x4608_S4096x3x3x8x64)
        slices_S4096x3x3x8x64_S4096x3x1x8x64_0_0_1_0_0) shapeCasts_S4096x3x1x8x64_S4096x3x8x64) shapeCasts_S4096x3x8x64_S1024x4x3x8x64)
      transposes_S1024x4x3x8x64_S3x8x4x1024x64_2_3_1_0_4) shapeCasts_S3x8x4x1024x64_S3x8x4096x64)
def piece2 : FVec Ideal S1x3x8x4096x64 .bf16 :=
  broadcastInDim S1x3x8x4096x64 ![1, 2, 3, 4] bcast_S3x8x4096x64_S1x3x8x4096x64_1_2_3_4
    (shapeCast S3x8x4096x64 (transpose S3x8x16x256x64 [2, 3, 1, 0, 4] (shapeCast S256x16x3x8x64 (shapeCast S4096x3x8x64
      (extractStridedSlice S4096x3x1x8x64 ![0, 0, 2, 0, 0] (shapeCast S4096x3x3x8x64 x shapeCasts_S4096x4608_S4096x3x3x8x64)
        slices_S4096x3x3x8x64_S4096x3x1x8x64_0_0_2_0_0) shapeCasts_S4096x3x1x8x64_S4096x3x8x64) shapeCasts_S4096x3x8x64_S256x16x3x8x64)
      transposes_S256x16x3x8x64_S3x8x16x256x64_2_3_1_0_4) shapeCasts_S3x8x16x256x64_S3x8x4096x64)

theorem piece0_apply (part : Fin 3) (h : Fin 8) (p : Fin 4096) (e : Fin 64) :
    piece0 x (ix5 0 part h p e) = strm x 0 h part p e := by
  unfold piece0
  pointwise [strm]
  exact congrArg₂ (fun a b => x (ix2 a b)) (Fin.ext (by simp [tok, nbs, dil]; try omega)) (Fin.ext (by simp [col]; omega))

theorem piece1_apply (part : Fin 3) (h : Fin 8) (p : Fin 4096) (e : Fin 64) :
    piece1 x (ix5 0 part h p e) = strm x 1 h part p e := by
  unfold piece1
  pointwise [strm]
  exact congrArg₂ (fun a b => x (ix2 a b)) (Fin.ext (by simp [tok, nbs, dil]; try omega)) (Fin.ext (by simp [col]; omega))

theorem piece2_apply (part : Fin 3) (h : Fin 8) (p : Fin 4096) (e : Fin 64) :
    piece2 x (ix5 0 part h p e) = strm x 2 h part p e := by
  unfold piece2
  pointwise [strm]
  exact congrArg₂ (fun a b => x (ix2 a b)) (Fin.ext (by simp [tok, nbs, dil]; try omega)) (Fin.ext (by simp [col]; omega))

theorem laid : (V m c main_v19 : FVec Ideal S3x3x8x4096x64 .bf16) = concatenate S3x3x8x4096x64 0
    [⟨S1x3x8x4096x64, piece0 (qkv m c)⟩, ⟨S1x3x8x4096x64, piece1 (qkv m c)⟩, ⟨S1x3x8x4096x64, piece2 (qkv m c)⟩]
    concatenates_S1x3x8x4096x64_S1x3x8x4096x64_S1x3x8x4096x64_S3x3x8x4096x64_d0 := by
  unfold V
  simp only [hostOps0, List.flatten_cons, List.flatten_nil, List.append_nil, List.cons_append, List.nil_append]
  after_results
  rfl

theorem streams (g part : Fin 3) (h : Fin 8) (p : Fin 4096) (e : Fin 64) :
    (V m c main_v19 : FVec Ideal S3x3x8x4096x64 .bf16) (ix5 g part h p e) = strm (qkv m c) g h part p e := by
  rw [laid]
  match g with
  | 0 => exact (by pointwise [] : _ = piece0 (qkv m c) (ix5 0 part h p e)).trans (piece0_apply _ _ _ _ _)
  | 1 => exact (by pointwise [] : _ = piece1 (qkv m c) (ix5 0 part h p e)).trans (piece1_apply _ _ _ _ _)
  | 2 => exact (by pointwise [] : _ = piece2 (qkv m c) (ix5 0 part h p e)).trans (piece2_apply _ _ _ _ _)

/-- The blocks of a point of the grid. -/
abbrev B0 : FVec Ideal S1x1x8x128x64 .bf16 := iblk m c 0 t
abbrev B1 : FVec Ideal S1x1x8x128x64 .bf16 := iblk m c 1 t
abbrev B2 : FVec Ideal S1x1x8x128x64 .bf16 := iblk m c 2 t
abbrev B3 : FVec Ideal S1x1x8x128x64 .bf16 := iblk m c 3 t
abbrev B4 : FVec Ideal S1x1x8x128x64 .bf16 := iblk m c 4 t
abbrev B5 : FVec Ideal S1x8x128x256 .f32 := iblk m c 5 t

theorem block0 (h : Fin 8) (i : Fin 128) (e : Fin 64) :
    B0 m c t (ix5 0 0 h i e) = strm (qkv m c) (grp t) h 0 (pos (blk t) i) e := by
  refine Eq.trans ?_ (streams m c (grp t) 0 h (pos (blk t) i) e)
  unfold B0 iblk
  rw [show V m c (Pipeline.arrRef spec0 0) = V m c main_v19 from rfl]
  refine congrArg (V m c main_v19 : FVec Ideal S3x3x8x4096x64 .bf16) (funext fun a => Fin.ext ?_)
  blk_simp [idx0 t]
  fin_cases a <;> simp [grp, blk, prev, pos] <;> omega

theorem block1 (h : Fin 8) (i : Fin 128) (e : Fin 64) :
    B1 m c t (ix5 0 0 h i e) = strm (qkv m c) (grp t) h 1 (pos (prev (blk t)) i) e := by
  refine Eq.trans ?_ (streams m c (grp t) 1 h (pos (prev (blk t)) i) e)
  unfold B1 iblk
  rw [show V m c (Pipeline.arrRef spec0 1) = V m c main_v19 from rfl]
  refine congrArg (V m c main_v19 : FVec Ideal S3x3x8x4096x64 .bf16) (funext fun a => Fin.ext ?_)
  blk_simp [idx1 t]
  fin_cases a <;> simp [grp, blk, prev, pos] <;> omega

theorem block2 (h : Fin 8) (i : Fin 128) (e : Fin 64) :
    B2 m c t (ix5 0 0 h i e) = strm (qkv m c) (grp t) h 1 (pos (blk t) i) e := by
  refine Eq.trans ?_ (streams m c (grp t) 1 h (pos (blk t) i) e)
  unfold B2 iblk
  rw [show V m c (Pipeline.arrRef spec0 2) = V m c main_v19 from rfl]
  refine congrArg (V m c main_v19 : FVec Ideal S3x3x8x4096x64 .bf16) (funext fun a => Fin.ext ?_)
  blk_simp [idx2 t]
  fin_cases a <;> simp [grp, blk, prev, pos] <;> omega

theorem block3 (h : Fin 8) (i : Fin 128) (e : Fin 64) :
    B3 m c t (ix5 0 0 h i e) = strm (qkv m c) (grp t) h 2 (pos (prev (blk t)) i) e := by
  refine Eq.trans ?_ (streams m c (grp t) 2 h (pos (prev (blk t)) i) e)
  unfold B3 iblk
  rw [show V m c (Pipeline.arrRef spec0 3) = V m c main_v19 from rfl]
  refine congrArg (V m c main_v19 : FVec Ideal S3x3x8x4096x64 .bf16) (funext fun a => Fin.ext ?_)
  blk_simp [idx3 t]
  fin_cases a <;> simp [grp, blk, prev, pos] <;> omega

theorem block4 (h : Fin 8) (i : Fin 128) (e : Fin 64) :
    B4 m c t (ix5 0 0 h i e) = strm (qkv m c) (grp t) h 2 (pos (blk t) i) e := by
  refine Eq.trans ?_ (streams m c (grp t) 2 h (pos (blk t) i) e)
  unfold B4 iblk
  rw [show V m c (Pipeline.arrRef spec0 4) = V m c main_v19 from rfl]
  refine congrArg (V m c main_v19 : FVec Ideal S3x3x8x4096x64 .bf16) (funext fun a => Fin.ext ?_)
  blk_simp [idx4 t]
  fin_cases a <;> simp [grp, blk, prev, pos] <;> omega

theorem block5 (h : Fin 8) (i : Fin 128) (k : Fin 256) : B5 m c t (ix4 0 h i k) = bs m c (ix4 (grp t) h i k) := by
  unfold B5 iblk
  rw [show V m c (Pipeline.arrRef spec0 5) = bs m c from V_main_arg1 m c]
  refine congrArg (bs m c) (funext fun a => Fin.ext ?_)
  blk_simp [idx5 t]
  fin_cases a <;> simp [grp] <;> omega

section
variable {q kp kc vp vc b} (h : Fin 8)
  (h0 : ∀ i e, q (ix5 0 0 0 i e) = B0 m c t (ix5 0 0 h i e)) (h1 : ∀ i e, kp (ix5 0 0 0 i e) = B1 m c t (ix5 0 0 h i e))
  (h2 : ∀ i e, kc (ix5 0 0 0 i e) = B2 m c t (ix5 0 0 h i e)) (h3 : ∀ i e, vp (ix5 0 0 0 i e) = B3 m c t (ix5 0 0 h i e))
  (h4 : ∀ i e, vc (ix5 0 0 0 i e) = B4 m c t (ix5 0 0 h i e)) (h5 : ∀ i k, b (ix4 0 0 i k) = B5 m c t (ix4 0 h i k))
include h0 h5

theorem before_at (h1 : ∀ i e, kp (ix5 0 0 0 i e) = B1 m c t (ix5 0 0 h i e)) (i k : Fin 128) :
    k0_pay18 (F := Ideal) (k0_pay2 (grid0.coords t)) q kp b (ix2 i k) = before (qkv m c) (bs m c) (grp t) (blk t) h i k := by
  rw [scoreP_apply, before]
  simp only [h0, h1, h5, block0, block1, block5, maskP]

theorem within_at (h2 : ∀ i e, kc (ix5 0 0 0 i e) = B2 m c t (ix5 0 0 h i e)) (i k : Fin 128) :
    k0_pay19 (F := Ideal) k0_pay3 q kc b (ix2 i k) = within (qkv m c) (bs m c) (grp t) (blk t) h i k := by
  rw [scoreC_apply, within]
  simp only [h0, h2, h5, block0, block2, block5, maskC]

include h1 h2

theorem headL_at {h' : Fin 8} (hh : h = h') {i i' : Fin 128} (hi : i = i') (e : Fin 64) :
    headL (grid0.coords t) q kp kc b (ix4 0 0 i e) = summed (qkv m c) (bs m c) (grp t) (blk t) h' i' := by
  subst hh hi
  rw [headL_apply, summed]
  exact congrArg₂ lse (funext fun k => before_at m c t h h0 h5 h1 i k) (funext fun k => within_at m c t h h0 h5 h2 i k)

include h3 h4

theorem headO_at {h' : Fin 8} (hh : h = h') {i i' : Fin 128} (hi : i = i') {e e' : Fin 64} (he : e = e') :
    headO (grid0.coords t) q kp kc vp vc b (ix4 0 0 i e) = attended (qkv m c) (bs m c) (grp t) (blk t) h' i' e' := by
  subst hh hi he
  rw [headO_apply, attended, funext fun k => before_at m c t h h0 h5 h1 i k, funext fun k => within_at m c t h h0 h5 h2 i k]
  simp only [h3, h4, block3, block4]

end

theorem written6 (h : Fin 8) (i : Fin 128) (e : Fin 64) : ((dats m 0 c).after 6 t : FVec Ideal S1x8x128x64 .f32) (ix4 0 h i e)
    = attended (qkv m c) (bs m c) (grp t) (blk t) h i e := by
  rw [after0_6, outO]
  frame_out
  canon_tiles y hy
  all_goals
    idx_vars y
    obtain rfl : y0 = 0 := Subsingleton.elim _ _
    obtain rfl : y1 = 0 := Subsingleton.elim _ _
    refine headO_at m c t h (fun i e => ?_) (fun i e => ?_) (fun i e => ?_) (fun i e => ?_) (fun i e => ?_) (fun i e => ?_)
      rfl (Fin.ext hy2.symm) (Fin.ext hy3.symm)
    · pointwise []
      exact congrArg (fun a : Fin 8 => B0 m c t (ix5 0 0 a i e)) (Fin.ext (by rw [hy1]; rfl))
    · pointwise []
      exact congrArg (fun a : Fin 8 => B1 m c t (ix5 0 0 a i e)) (Fin.ext (by rw [hy1]; rfl))
    · pointwise []
      exact congrArg (fun a : Fin 8 => B2 m c t (ix5 0 0 a i e)) (Fin.ext (by rw [hy1]; rfl))
    · pointwise []
      exact congrArg (fun a : Fin 8 => B3 m c t (ix5 0 0 a i e)) (Fin.ext (by rw [hy1]; rfl))
    · pointwise []
      exact congrArg (fun a : Fin 8 => B4 m c t (ix5 0 0 a i e)) (Fin.ext (by rw [hy1]; rfl))
    · pointwise []
      exact congrArg (fun a : Fin 8 => B5 m c t (ix4 0 a i e)) (Fin.ext (by rw [hy1]; rfl))

theorem written7 (h : Fin 8) (i : Fin 128) (e : Fin 64) : ((dats m 0 c).after 7 t : FVec Ideal S1x8x128x64 .f32) (ix4 0 h i e)
    = summed (qkv m c) (bs m c) (grp t) (blk t) h i := by
  rw [after0_7, outL]
  frame_out
  canon_tiles y hy
  all_goals
    idx_vars y
    obtain rfl : y0 = 0 := Subsingleton.elim _ _
    obtain rfl : y1 = 0 := Subsingleton.elim _ _
    refine headL_at m c t h (fun i e => ?_) (fun i e => ?_) (fun i e => ?_) (fun i e => ?_) rfl (Fin.ext hy2.symm) _
    · pointwise []
      exact congrArg (fun a : Fin 8 => B0 m c t (ix5 0 0 a i e)) (Fin.ext (by rw [hy1]; rfl))
    · pointwise []
      exact congrArg (fun a : Fin 8 => B1 m c t (ix5 0 0 a i e)) (Fin.ext (by rw [hy1]; rfl))
    · pointwise []
      exact congrArg (fun a : Fin 8 => B2 m c t (ix5 0 0 a i e)) (Fin.ext (by rw [hy1]; rfl))
    · pointwise []
      exact congrArg (fun a : Fin 8 => B5 m c t (ix4 0 a i e)) (Fin.ext (by rw [hy1]; rfl))

end Cert.Attn.AttnFwd
-- ==== Proof.Attn.Seen.lean ====
/- The reference's mask, which says the keys that a query sees, as a word; and the places of the streams. -/
module

public import proofs.«01_k».proof.Proof.Attn.AttnFwd
public import proofs.«01_k».proof.Proof.Gen.AttnFwdRefIdeal.Read
public import Idealize.ShloMosaic.Lib.Pipeline.ValueKit

@[expose] public section

set_option maxRecDepth 16384

namespace Cert.Attn

open Idealize.ShloMosaic

/-- −∞, as the reference's word. -/
theorem negInf : (FloatOps.ofBits .f32 0xFF800000#32 : Ideal .f32) = ⊥ := by
  show Ideal.ofBits .f32 0xFF800000#32 = ⊥
  simp [Ideal.ofBits, Ideal.ieee]

/-- How far key `k` lies before query `i` in the stream, where the key is in the stream, and the mask. -/
def steps (i k : Nat) : BitVec 32 := IntOp.subi (IntOp.addi 128#32 (BitVec.ofNat 32 i)) (BitVec.ofNat 32 k)
def near (i k : Nat) : BitVec 1 := IntOp.andi (IntOp.cmpi .sge (steps i k) 0#32) (IntOp.cmpi .sle (steps i k) 128#32)
def inside (n k : Nat) : BitVec 1 :=
  IntOp.cmpi .sge (IntOp.addi (IntOp.muli (IntOp.subi (BitVec.ofNat 32 n) 1#32) 128#32) (BitVec.ofNat 32 k)) 0#32
def word (n i k : Nat) : BitVec 1 := IntOp.andi (near i k) (inside n k)

theorem both : ∀ a b : BitVec 1, IntOp.andi a b = 1#1 ↔ a = 1#1 ∧ b = 1#1 := by decide
theorem near_lo : ∀ i k : Fin 128, near i.val (lo k).val = 1#1 ↔ i ≤ k := by decide +kernel
theorem near_hi : ∀ i k : Fin 128, near i.val (hi k).val = 1#1 ↔ k ≤ i := by decide +kernel
theorem inside_lo : ∀ (n : Fin 32) (k : Fin 128), inside n.val (lo k).val = 1#1 ↔ n.val ≠ 0 := by decide +kernel
theorem inside_hi : ∀ (n : Fin 32) (k : Fin 128), inside n.val (hi k).val = 1#1 := by decide +kernel

theorem word_lo (n : Fin 32) (i k : Fin 128) : word n.val i.val (lo k).val = 1#1 ↔ n.val ≠ 0 ∧ i ≤ k := by
  rw [word, both, near_lo, inside_lo]
  exact and_comm
theorem word_hi (n : Fin 32) (i k : Fin 128) : word n.val i.val (hi k).val = 1#1 ↔ k ≤ i := by
  rw [word, both, near_hi]
  exact and_iff_left (inside_hi n k)

/-- A number of a stream, by its token and column. -/
theorem strm_at (x : FVec Ideal Cert.AttnFwdIdeal.S4096x4608 .bf16) {g part : Fin 3} {h : Fin 8} {p : Fin 4096} {e : Fin 64}
    {a : Fin 4096} {q : Fin 4608} (ha : a.val = (AttnFwd.tok g p).val) (hq : q.val = (AttnFwd.col part g h e).val) :
    x (ix2 a q) = AttnFwd.strm x g h part p e := by
  rw [AttnFwd.strm, Fin.ext ha, Fin.ext hq]

/-- A logarithm added, in the reference's operations. -/
theorem plus_log (a d : EReal) : FloatOps.addf (F := Ideal) (φ := .f32) a (FloatOps.hostUnary (F := Ideal) (φ := .f32) .log d) = a + Ideal.log d := rfl

theorem ix5_congr {d0 d1 d2 d3 d4 : Nat} {a a' : Fin d0} {b b' : Fin d1} {c c' : Fin d2} {d d' : Fin d3} {e : Fin d4}
    (ha : a = a') (hb : b = b') (hc : c = c') (hd : d = d') : ix5 a b c d e = ix5 a' b' c' d' e := by
  rw [ha, hb, hc, hd]

end Cert.Attn
-- ==== Proof.Attn.Ref0.lean ====
/- The reference's attention of group 0 of heads (1 stream of 32 blocks), read one query at a time. -/
module

public import proofs.«01_k».proof.Proof.Attn.Seen

@[expose] public section

set_option maxRecDepth 16384

noncomputable section

namespace Cert.Attn.Ref0

open Idealize.ShloMosaic Cert.Attn.AttnFwd Cert.AttnFwdRefIdeal Cert.AttnFwdRefIdeal.Read

variable (x : FVec Ideal S4096x4608 .bf16) (b : FVec Ideal S3x8x128x256 .f32) (c : Fin 1) (n : Fin 32) (h : Fin 8)
  (i k : Fin 128) (e : Fin 64) (kk : Fin 256)

/-- Block `n` of stream `c` among the blocks. -/
def place : Fin 32 := ⟨32 * c.val + n.val, by omega⟩

theorem fresh_place : fresh 0 (place c n) = decide (n.val = 0) := by
  unfold fresh place
  rw [show nbs 0 = 32 from rfl]
  have := n.2
  rw [Bool.eq_iff_iff]
  simp only [beq_iff_eq, decide_eq_true_eq]
  omega

theorem query : val_main_v16 (F := Ideal) x (ix5 c n i h e) = strm x 0 h 0 (pos (place c n) i) e := by
  have := c.2; have := n.2; have := h.2; have := e.2; have := i.2
  pointwise [val_main_v16, val_main_v15, val_main_v14, val_main_v9, val_main_v4, val_main_v3, val_main_v0]
  exact strm_at x (by simp [tok, pos, place, nbs, dil]; try omega) (by simp [col]; omega)

theorem keyC : val_main_v24 (F := Ideal) x (ix5 c n (hi k) h e) = strm x 0 h 1 (pos (place c n) k) e := by
  have := c.2; have := n.2; have := h.2; have := e.2; have := k.2
  unfold val_main_v24
  pointwise [val_main_v23, val_main_v21, val_main_v20, val_main_v19, val_main_v18, val_main_v17, val_main_v10, val_main_v6, val_main_v5, val_main_v1, val_main_cst]
  rw [dif_neg (by show ¬ 128 + k.val < 128; omega), dif_neg (by show ¬ (1 + n.val) * 128 + (128 + k.val - 128) < 128; omega)]
  exact strm_at x (by simp [tok, pos, place, nbs, dil, hi]; try omega) (by simp [col]; omega)

theorem keyP (hn : n.val ≠ 0) : val_main_v24 (F := Ideal) x (ix5 c n (lo k) h e) = strm x 0 h 1 (pos (prev (place c n)) k) e := by
  have := c.2; have := n.2; have := h.2; have := e.2; have := k.2
  unfold val_main_v24
  pointwise [val_main_v22, val_main_v21, val_main_v20, val_main_v19, val_main_v18, val_main_v17, val_main_v10, val_main_v6, val_main_v5, val_main_v1, val_main_cst]
  rw [dif_pos (by show k.val < 128; omega), dif_neg (by show ¬ n.val * 128 + k.val < 128; omega)]
  exact strm_at x (by simp [tok, pos, prev, place, nbs, dil, lo]; try omega) (by simp [col]; omega)

theorem valueC : val_main_v32 (F := Ideal) x (ix5 c n (hi k) h e) = strm x 0 h 2 (pos (place c n) k) e := by
  have := c.2; have := n.2; have := h.2; have := e.2; have := k.2
  unfold val_main_v32
  pointwise [val_main_v31, val_main_v29, val_main_v28, val_main_v27, val_main_v26, val_main_v25, val_main_v11, val_main_v8, val_main_v7, val_main_v2, val_main_cst_0]
  rw [dif_neg (by show ¬ 128 + k.val < 128; omega), dif_neg (by show ¬ (1 + n.val) * 128 + (128 + k.val - 128) < 128; omega)]
  exact strm_at x (by simp [tok, pos, place, nbs, dil, hi]; try omega) (by simp [col]; omega)

theorem valueP (hn : n.val ≠ 0) : val_main_v32 (F := Ideal) x (ix5 c n (lo k) h e) = strm x 0 h 2 (pos (prev (place c n)) k) e := by
  have := c.2; have := n.2; have := h.2; have := e.2; have := k.2
  unfold val_main_v32
  pointwise [val_main_v30, val_main_v29, val_main_v28, val_main_v27, val_main_v26, val_main_v25, val_main_v11, val_main_v8, val_main_v7, val_main_v2, val_main_cst_0]
  rw [dif_pos (by show k.val < 128; omega), dif_neg (by show ¬ n.val * 128 + k.val < 128; omega)]
  exact strm_at x (by simp [tok, pos, prev, place, nbs, dil, lo]; try omega) (by simp [col]; omega)

theorem mask : val_main_v64 (F := Ideal) (ix3 n i kk) = word n.val i.val kk.val := by
  pointwise [val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_c, val_main_c_1, val_main_c_2, val_main_c_3, val_main_c_4, val_main_c_5, word, near, steps, inside]

theorem logit : val_main_v72 (F := Ideal) x b (ix5 c n h i kk) = if word n.val i.val kk.val = 1#1 then
    (∑ e, val_main_v16 (F := Ideal) x (ix5 c n i h e) * val_main_v24 (F := Ideal) x (ix5 c n kk h e)) * Ideal.ofBits .f32 0x3E000000#32
      + b (ix4 0 h i kk) else ⊥ := by
  rw [← mask]
  pointwise [val_main_v72, val_main_v71, val_main_v70, val_main_v69, val_main_v68, val_main_v67, val_main_v66, val_main_v65, val_main_v13, val_main_v12, val_main_cst_6, val_main_cst_7, val_main_call0_v0, val_main_call0_v1, val_main_call0_v2]
  exact choice _ _ _

theorem logitP : val_main_v72 (F := Ideal) x b (ix5 c n h i (lo k)) = before x b 0 (place c n) h i k := by
  rw [logit, before, fresh_place]
  have hw := word_lo ⟨n.val, by omega⟩ i k
  by_cases hn : n.val = 0
  · rw [if_neg fun hs => (hw.mp hs).1 hn, if_neg fun hs => by simp [hn] at hs]
  · simp only [query, keyP x c n h k _ hn]
    exact if_congr (hw.trans (by simp [hn])) rfl rfl

theorem logitC : val_main_v72 (F := Ideal) x b (ix5 c n h i (hi k)) = within x b 0 (place c n) h i k := by
  rw [logit, within]
  simp only [query, keyC]
  exact if_congr (word_hi ⟨n.val, by omega⟩ i k) rfl rfl

end Cert.Attn.Ref0
-- ==== Proof.Attn.Sum0.lean ====
/- The reference's attention of group 0 of heads, summed over the keys. -/
module

public import proofs.«01_k».proof.Proof.Attn.Ref0

@[expose] public section

set_option maxRecDepth 16384

noncomputable section

namespace Cert.Attn.Ref0

open Idealize.ShloMosaic Cert.Attn.AttnFwd Cert.AttnFwdRefIdeal Cert.AttnFwdRefIdeal.Read

variable (x : FVec Ideal S4096x4608 .bf16) (b : FVec Ideal S3x8x128x256 .f32) (c : Fin 1) (n : Fin 32) (h : Fin 8)
  (i k : Fin 128) (e : Fin 64) (kk : Fin 256)

theorem largest : val_main_v73 (F := Ideal) x b (ix4 c n h i) = top1 fun kk => val_main_v72 (F := Ideal) x b (ix5 c n h i kk) := by
  obtain rfl : c = 0 := Subsingleton.elim _ _
  unfold val_main_v73 top1
  generalize val_main_v72 (F := Ideal) x b = s
  pointwise [val_main_cst_8]

theorem weight : val_main_v77 (F := Ideal) x b (ix5 c n h i kk)
    = Ideal.exp (val_main_v72 (F := Ideal) x b (ix5 c n h i kk) - top1 fun kk => val_main_v72 (F := Ideal) x b (ix5 c n h i kk)) := by
  obtain rfl : c = 0 := Subsingleton.elim _ _
  rw [← largest]
  unfold val_main_v77 val_main_v76 val_main_v75 val_main_v74
  generalize val_main_v73 (F := Ideal) x b = s
  generalize val_main_v72 (F := Ideal) x b = u
  pointwise []

theorem weights : val_main_v78 (F := Ideal) x b (ix4 c n h i) = den1 fun kk => val_main_v72 (F := Ideal) x b (ix5 c n h i kk) := by
  obtain rfl : c = 0 := Subsingleton.elim _ _
  refine Eq.trans (b := ∑ kk, val_main_v77 (F := Ideal) x b (ix5 0 n h i kk)) ?_
    (Finset.sum_congr rfl fun kk _ => weight x b 0 n h i kk)
  unfold val_main_v78
  generalize val_main_v77 (F := Ideal) x b = s
  pointwise [val_main_cst_9]

theorem attend : val_main_v84 (F := Ideal) x b (ix5 c n i h e) = attended x b 0 (place c n) h i e := by
  have e1 : val_main_v84 (F := Ideal) x b (ix5 c n i h e)
      = out1 (fun kk => val_main_v72 (F := Ideal) x b (ix5 c n h i kk)) (fun kk => val_main_v32 (F := Ideal) x (ix5 c n kk h e)) := by
    obtain rfl : c = 0 := Subsingleton.elim _ _
    refine Eq.trans (b := Ideal.div (∑ kk, val_main_v32 (F := Ideal) x (ix5 0 n kk h e) * val_main_v77 (F := Ideal) x b (ix5 0 n h i kk))
      (val_main_v78 (F := Ideal) x b (ix4 0 n h i))) ?_ (congrArg₂ Ideal.div (Finset.sum_congr rfl fun kk _ =>
        congrArg (HMul.hMul _) (weight x b 0 n h i kk)) (weights x b 0 n h i))
    unfold val_main_v84 val_main_v83 val_main_v82 val_main_v81 val_main_v80 val_main_v79
    generalize val_main_v78 (F := Ideal) x b = s
    generalize val_main_v77 (F := Ideal) x b = u
    generalize val_main_v32 (F := Ideal) x = y
    pointwise []
  rw [e1, attended]
  refine out1_eq (logitP x b c n h i) (logitC x b c n h i) (fun k => ?_) fun k => valueC x c n h k e
  by_cases hn : n.val = 0
  · exact Or.inl (if_neg fun hs => by rw [fresh_place] at hs; simp [hn] at hs)
  · exact Or.inr (valueP x c n h k e hn)

theorem across : val_main_v74 (F := Ideal) x b (ix5 c n h i 0) = val_main_v73 (F := Ideal) x b (ix4 c n h i) := by
  obtain rfl : c = 0 := Subsingleton.elim _ _
  unfold val_main_v74
  generalize val_main_v73 (F := Ideal) x b = s
  pointwise []

theorem acrossSum : val_main_v79 (F := Ideal) x b (ix5 c n h i 0) = val_main_v78 (F := Ideal) x b (ix4 c n h i) := by
  obtain rfl : c = 0 := Subsingleton.elim _ _
  unfold val_main_v79
  generalize val_main_v78 (F := Ideal) x b = s
  pointwise []

theorem logsum : val_main_v86 (F := Ideal) x b (ix5 c n h i 0) = summed x b 0 (place c n) h i := by
  rw [summed, ← lse1_eq (s := fun kk => val_main_v72 (F := Ideal) x b (ix5 c n h i kk)) (logitP x b c n h i) (logitC x b c n h i), lse1,
    ← largest, ← weights, ← across, ← acrossSum, val_main_v86_apply, val_main_v85_apply]
  generalize val_main_v74 (F := Ideal) x b (ix5 c n h i 0) = u
  generalize val_main_v79 (F := Ideal) x b (ix5 c n h i 0) = w
  exact plus_log u w

theorem stacked (m : Fin 32) : val_main_v89 (F := Ideal) x b (ix3 h (pos m i) e) = attended x b 0 m h i e := by
  have := m.2; have := i.2
  have e1 : val_main_v89 (F := Ideal) x b (ix3 h (pos m i) e)
      = val_main_v84 (F := Ideal) x b (ix5 ⟨m.val / 32, by omega⟩ ⟨m.val % 32, by omega⟩ i h e) := by
    unfold val_main_v89 val_main_v88
    generalize val_main_v84 (F := Ideal) x b = s
    pointwise []
    exact congrArg s (ix5_congr (Fin.ext (by simp [pos]; try omega)) (Fin.ext (by simp [pos]; try omega)) (Fin.ext (by simp [pos]; try omega)) rfl)
  rw [e1, attend, show place ⟨m.val / 32, by omega⟩ ⟨m.val % 32, by omega⟩ = m from Fin.ext (by simp [place]; try omega)]

theorem stackedL (m : Fin 32) : val_main_v92 (F := Ideal) x b (ix3 h (pos m i) e) = summed x b 0 m h i := by
  have := m.2; have := i.2
  have e1 : val_main_v92 (F := Ideal) x b (ix3 h (pos m i) e)
      = val_main_v86 (F := Ideal) x b (ix5 ⟨m.val / 32, by omega⟩ ⟨m.val % 32, by omega⟩ h i 0) := by
    unfold val_main_v92 val_main_v91 val_main_v90 val_main_v87
    generalize val_main_v86 (F := Ideal) x b = s
    pointwise []
    exact congrArg s (ix5_congr (Fin.ext (by simp [pos]; try omega)) (Fin.ext (by simp [pos]; try omega)) rfl (Fin.ext (by simp [pos]; try omega)))
  rw [e1, logsum, show place ⟨m.val / 32, by omega⟩ ⟨m.val % 32, by omega⟩ = m from Fin.ext (by simp [place]; try omega)]

end Cert.Attn.Ref0
-- ==== Proof.Attn.Ref1.lean ====
/- The reference's attention of group 1 of heads (4 streams of 8 blocks), read one query at a time. -/
module

public import proofs.«01_k».proof.Proof.Attn.Seen

@[expose] public section

set_option maxRecDepth 16384

noncomputable section

namespace Cert.Attn.Ref1

open Idealize.ShloMosaic Cert.Attn.AttnFwd Cert.AttnFwdRefIdeal Cert.AttnFwdRefIdeal.Read

variable (x : FVec Ideal S4096x4608 .bf16) (b : FVec Ideal S3x8x128x256 .f32) (c : Fin 4) (n : Fin 8) (h : Fin 8)
  (i k : Fin 128) (e : Fin 64) (kk : Fin 256)

/-- Block `n` of stream `c` among the blocks. -/
def place : Fin 32 := ⟨8 * c.val + n.val, by omega⟩

theorem fresh_place : fresh 1 (place c n) = decide (n.val = 0) := by
  unfold fresh place
  rw [show nbs 1 = 8 from rfl]
  have := n.2
  rw [Bool.eq_iff_iff]
  simp only [beq_iff_eq, decide_eq_true_eq]
  omega

theorem query : val_main_v100 (F := Ideal) x (ix5 c n i h e) = strm x 1 h 0 (pos (place c n) i) e := by
  have := c.2; have := n.2; have := h.2; have := e.2; have := i.2
  pointwise [val_main_v100, val_main_v99, val_main_v98, val_main_v93, val_main_v4, val_main_v3, val_main_v0]
  exact strm_at x (by simp [tok, pos, place, nbs, dil]; try omega) (by simp [col]; omega)

theorem keyC : val_main_v108 (F := Ideal) x (ix5 c n (hi k) h e) = strm x 1 h 1 (pos (place c n) k) e := by
  have := c.2; have := n.2; have := h.2; have := e.2; have := k.2
  unfold val_main_v108
  pointwise [val_main_v107, val_main_v105, val_main_v104, val_main_v103, val_main_v102, val_main_v101, val_main_v94, val_main_v6, val_main_v5, val_main_v1, val_main_cst_10]
  rw [dif_neg (by show ¬ 128 + k.val < 128; omega), dif_neg (by show ¬ (1 + n.val) * 128 + (128 + k.val - 128) < 128; omega)]
  exact strm_at x (by simp [tok, pos, place, nbs, dil, hi]; try omega) (by simp [col]; omega)

theorem keyP (hn : n.val ≠ 0) : val_main_v108 (F := Ideal) x (ix5 c n (lo k) h e) = strm x 1 h 1 (pos (prev (place c n)) k) e := by
  have := c.2; have := n.2; have := h.2; have := e.2; have := k.2
  unfold val_main_v108
  pointwise [val_main_v106, val_main_v105, val_main_v104, val_main_v103, val_main_v102, val_main_v101, val_main_v94, val_main_v6, val_main_v5, val_main_v1, val_main_cst_10]
  rw [dif_pos (by show k.val < 128; omega), dif_neg (by show ¬ n.val * 128 + k.val < 128; omega)]
  exact strm_at x (by simp [tok, pos, prev, place, nbs, dil, lo]; try omega) (by simp [col]; omega)

theorem valueC : val_main_v116 (F := Ideal) x (ix5 c n (hi k) h e) = strm x 1 h 2 (pos (place c n) k) e := by
  have := c.2; have := n.2; have := h.2; have := e.2; have := k.2
  unfold val_main_v116
  pointwise [val_main_v115, val_main_v113, val_main_v112, val_main_v111, val_main_v110, val_main_v109, val_main_v95, val_main_v8, val_main_v7, val_main_v2, val_main_cst_11]
  rw [dif_neg (by show ¬ 128 + k.val < 128; omega), dif_neg (by show ¬ (1 + n.val) * 128 + (128 + k.val - 128) < 128; omega)]
  exact strm_at x (by simp [tok, pos, place, nbs, dil, hi]; try omega) (by simp [col]; omega)

theorem valueP (hn : n.val ≠ 0) : val_main_v116 (F := Ideal) x (ix5 c n (lo k) h e) = strm x 1 h 2 (pos (prev (place c n)) k) e := by
  have := c.2; have := n.2; have := h.2; have := e.2; have := k.2
  unfold val_main_v116
  pointwise [val_main_v114, val_main_v113, val_main_v112, val_main_v111, val_main_v110, val_main_v109, val_main_v95, val_main_v8, val_main_v7, val_main_v2, val_main_cst_11]
  rw [dif_pos (by show k.val < 128; omega), dif_neg (by show ¬ n.val * 128 + k.val < 128; omega)]
  exact strm_at x (by simp [tok, pos, prev, place, nbs, dil, lo]; try omega) (by simp [col]; omega)

theorem mask : val_main_v148 (F := Ideal) (ix3 n i kk) = word n.val i.val kk.val := by
  pointwise [val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_c_12, val_main_c_13, val_main_c_14, val_main_c_15, val_main_c_16, val_main_c_17, word, near, steps, inside]

theorem logit : val_main_v156 (F := Ideal) x b (ix5 c n h i kk) = if word n.val i.val kk.val = 1#1 then
    (∑ e, val_main_v100 (F := Ideal) x (ix5 c n i h e) * val_main_v108 (F := Ideal) x (ix5 c n kk h e)) * Ideal.ofBits .f32 0x3E000000#32
      + b (ix4 1 h i kk) else ⊥ := by
  rw [← mask]
  pointwise [val_main_v156, val_main_v155, val_main_v154, val_main_v153, val_main_v152, val_main_v151, val_main_v150, val_main_v149, val_main_v97, val_main_v96, val_main_cst_18, val_main_cst_19, val_main_call1_v0, val_main_call1_v1, val_main_call1_v2]
  exact choice _ _ _

theorem logitP : val_main_v156 (F := Ideal) x b (ix5 c n h i (lo k)) = before x b 1 (place c n) h i k := by
  rw [logit, before, fresh_place]
  have hw := word_lo ⟨n.val, by omega⟩ i k
  by_cases hn : n.val = 0
  · rw [if_neg fun hs => (hw.mp hs).1 hn, if_neg fun hs => by simp [hn] at hs]
  · simp only [query, keyP x c n h k _ hn]
    exact if_congr (hw.trans (by simp [hn])) rfl rfl

theorem logitC : val_main_v156 (F := Ideal) x b (ix5 c n h i (hi k)) = within x b 1 (place c n) h i k := by
  rw [logit, within]
  simp only [query, keyC]
  exact if_congr (word_hi ⟨n.val, by omega⟩ i k) rfl rfl

end Cert.Attn.Ref1
-- ==== Proof.Attn.Sum1.lean ====
/- The reference's attention of group 1 of heads, summed over the keys. -/
module

public import proofs.«01_k».proof.Proof.Attn.Ref1

@[expose] public section

set_option maxRecDepth 16384

noncomputable section

namespace Cert.Attn.Ref1

open Idealize.ShloMosaic Cert.Attn.AttnFwd Cert.AttnFwdRefIdeal Cert.AttnFwdRefIdeal.Read

variable (x : FVec Ideal S4096x4608 .bf16) (b : FVec Ideal S3x8x128x256 .f32) (c : Fin 4) (n : Fin 8) (h : Fin 8)
  (i k : Fin 128) (e : Fin 64) (kk : Fin 256)

theorem largest : val_main_v157 (F := Ideal) x b (ix4 c n h i) = top1 fun kk => val_main_v156 (F := Ideal) x b (ix5 c n h i kk) := by
  unfold val_main_v157 top1
  generalize val_main_v156 (F := Ideal) x b = s
  pointwise [val_main_cst_20]

theorem weight : val_main_v161 (F := Ideal) x b (ix5 c n h i kk)
    = Ideal.exp (val_main_v156 (F := Ideal) x b (ix5 c n h i kk) - top1 fun kk => val_main_v156 (F := Ideal) x b (ix5 c n h i kk)) := by
  rw [← largest]
  unfold val_main_v161 val_main_v160 val_main_v159 val_main_v158
  generalize val_main_v157 (F := Ideal) x b = s
  generalize val_main_v156 (F := Ideal) x b = u
  pointwise []

theorem weights : val_main_v162 (F := Ideal) x b (ix4 c n h i) = den1 fun kk => val_main_v156 (F := Ideal) x b (ix5 c n h i kk) := by
  refine Eq.trans (b := ∑ kk, val_main_v161 (F := Ideal) x b (ix5 c n h i kk)) ?_
    (Finset.sum_congr rfl fun kk _ => weight x b c n h i kk)
  unfold val_main_v162
  generalize val_main_v161 (F := Ideal) x b = s
  pointwise [val_main_cst_21]

theorem attend : val_main_v168 (F := Ideal) x b (ix5 c n i h e) = attended x b 1 (place c n) h i e := by
  have e1 : val_main_v168 (F := Ideal) x b (ix5 c n i h e)
      = out1 (fun kk => val_main_v156 (F := Ideal) x b (ix5 c n h i kk)) (fun kk => val_main_v116 (F := Ideal) x (ix5 c n kk h e)) := by
    refine Eq.trans (b := Ideal.div (∑ kk, val_main_v116 (F := Ideal) x (ix5 c n kk h e) * val_main_v161 (F := Ideal) x b (ix5 c n h i kk))
      (val_main_v162 (F := Ideal) x b (ix4 c n h i))) ?_ (congrArg₂ Ideal.div (Finset.sum_congr rfl fun kk _ =>
        congrArg (HMul.hMul _) (weight x b c n h i kk)) (weights x b c n h i))
    unfold val_main_v168 val_main_v167 val_main_v166 val_main_v165 val_main_v164 val_main_v163
    generalize val_main_v162 (F := Ideal) x b = s
    generalize val_main_v161 (F := Ideal) x b = u
    generalize val_main_v116 (F := Ideal) x = y
    pointwise []
  rw [e1, attended]
  refine out1_eq (logitP x b c n h i) (logitC x b c n h i) (fun k => ?_) fun k => valueC x c n h k e
  by_cases hn : n.val = 0
  · exact Or.inl (if_neg fun hs => by rw [fresh_place] at hs; simp [hn] at hs)
  · exact Or.inr (valueP x c n h k e hn)

theorem across : val_main_v158 (F := Ideal) x b (ix5 c n h i 0) = val_main_v157 (F := Ideal) x b (ix4 c n h i) := by
  unfold val_main_v158
  generalize val_main_v157 (F := Ideal) x b = s
  pointwise []

theorem acrossSum : val_main_v163 (F := Ideal) x b (ix5 c n h i 0) = val_main_v162 (F := Ideal) x b (ix4 c n h i) := by
  unfold val_main_v163
  generalize val_main_v162 (F := Ideal) x b = s
  pointwise []

theorem logsum : val_main_v170 (F := Ideal) x b (ix5 c n h i 0) = summed x b 1 (place c n) h i := by
  rw [summed, ← lse1_eq (s := fun kk => val_main_v156 (F := Ideal) x b (ix5 c n h i kk)) (logitP x b c n h i) (logitC x b c n h i), lse1,
    ← largest, ← weights, ← across, ← acrossSum, val_main_v170_apply, val_main_v169_apply]
  generalize val_main_v158 (F := Ideal) x b (ix5 c n h i 0) = u
  generalize val_main_v163 (F := Ideal) x b (ix5 c n h i 0) = w
  exact plus_log u w

theorem stacked (m : Fin 32) : val_main_v173 (F := Ideal) x b (ix3 h (pos m i) e) = attended x b 1 m h i e := by
  have := m.2; have := i.2
  have e1 : val_main_v173 (F := Ideal) x b (ix3 h (pos m i) e)
      = val_main_v168 (F := Ideal) x b (ix5 ⟨m.val / 8, by omega⟩ ⟨m.val % 8, by omega⟩ i h e) := by
    unfold val_main_v173 val_main_v172
    generalize val_main_v168 (F := Ideal) x b = s
    pointwise []
    exact congrArg s (ix5_congr (Fin.ext (by simp [pos]; try omega)) (Fin.ext (by simp [pos]; try omega)) (Fin.ext (by simp [pos]; try omega)) rfl)
  rw [e1, attend, show place ⟨m.val / 8, by omega⟩ ⟨m.val % 8, by omega⟩ = m from Fin.ext (by simp [place]; try omega)]

theorem stackedL (m : Fin 32) : val_main_v176 (F := Ideal) x b (ix3 h (pos m i) e) = summed x b 1 m h i := by
  have := m.2; have := i.2
  have e1 : val_main_v176 (F := Ideal) x b (ix3 h (pos m i) e)
      = val_main_v170 (F := Ideal) x b (ix5 ⟨m.val / 8, by omega⟩ ⟨m.val % 8, by omega⟩ h i 0) := by
    unfold val_main_v176 val_main_v175 val_main_v174 val_main_v171
    generalize val_main_v170 (F := Ideal) x b = s
    pointwise []
    exact congrArg s (ix5_congr (Fin.ext (by simp [pos]; try omega)) (Fin.ext (by simp [pos]; try omega)) rfl (Fin.ext (by simp [pos]; try omega)))
  rw [e1, logsum, show place ⟨m.val / 8, by omega⟩ ⟨m.val % 8, by omega⟩ = m from Fin.ext (by simp [place]; try omega)]

end Cert.Attn.Ref1
-- ==== Proof.Attn.Ref2.lean ====
/- The reference's attention of group 2 of heads (16 streams of 2 blocks), read one query at a time. -/
module

public import proofs.«01_k».proof.Proof.Attn.Seen

@[expose] public section

set_option maxRecDepth 16384

noncomputable section

namespace Cert.Attn.Ref2

open Idealize.ShloMosaic Cert.Attn.AttnFwd Cert.AttnFwdRefIdeal Cert.AttnFwdRefIdeal.Read

variable (x : FVec Ideal S4096x4608 .bf16) (b : FVec Ideal S3x8x128x256 .f32) (c : Fin 16) (n : Fin 2) (h : Fin 8)
  (i k : Fin 128) (e : Fin 64) (kk : Fin 256)

/-- Block `n` of stream `c` among the blocks. -/
def place : Fin 32 := ⟨2 * c.val + n.val, by omega⟩

theorem fresh_place : fresh 2 (place c n) = decide (n.val = 0) := by
  unfold fresh place
  rw [show nbs 2 = 2 from rfl]
  have := n.2
  rw [Bool.eq_iff_iff]
  simp only [beq_iff_eq, decide_eq_true_eq]
  omega

theorem query : val_main_v184 (F := Ideal) x (ix5 c n i h e) = strm x 2 h 0 (pos (place c n) i) e := by
  have := c.2; have := n.2; have := h.2; have := e.2; have := i.2
  pointwise [val_main_v184, val_main_v183, val_main_v182, val_main_v177, val_main_v4, val_main_v3, val_main_v0]
  exact strm_at x (by simp [tok, pos, place, nbs, dil]; try omega) (by simp [col]; omega)

theorem keyC : val_main_v192 (F := Ideal) x (ix5 c n (hi k) h e) = strm x 2 h 1 (pos (place c n) k) e := by
  have := c.2; have := n.2; have := h.2; have := e.2; have := k.2
  unfold val_main_v192
  pointwise [val_main_v191, val_main_v189, val_main_v188, val_main_v187, val_main_v186, val_main_v185, val_main_v178, val_main_v6, val_main_v5, val_main_v1, val_main_cst_22]
  rw [dif_neg (by show ¬ 128 + k.val < 128; omega), dif_neg (by show ¬ (1 + n.val) * 128 + (128 + k.val - 128) < 128; omega)]
  exact strm_at x (by simp [tok, pos, place, nbs, dil, hi]; try omega) (by simp [col]; omega)

theorem keyP (hn : n.val ≠ 0) : val_main_v192 (F := Ideal) x (ix5 c n (lo k) h e) = strm x 2 h 1 (pos (prev (place c n)) k) e := by
  have := c.2; have := n.2; have := h.2; have := e.2; have := k.2
  unfold val_main_v192
  pointwise [val_main_v190, val_main_v189, val_main_v188, val_main_v187, val_main_v186, val_main_v185, val_main_v178, val_main_v6, val_main_v5, val_main_v1, val_main_cst_22]
  rw [dif_pos (by show k.val < 128; omega), dif_neg (by show ¬ n.val * 128 + k.val < 128; omega)]
  exact strm_at x (by simp [tok, pos, prev, place, nbs, dil, lo]; try omega) (by simp [col]; omega)

theorem valueC : val_main_v200 (F := Ideal) x (ix5 c n (hi k) h e) = strm x 2 h 2 (pos (place c n) k) e := by
  have := c.2; have := n.2; have := h.2; have := e.2; have := k.2
  unfold val_main_v200
  pointwise [val_main_v199, val_main_v197, val_main_v196, val_main_v195, val_main_v194, val_main_v193, val_main_v179, val_main_v8, val_main_v7, val_main_v2, val_main_cst_23]
  rw [dif_neg (by show ¬ 128 + k.val < 128; omega), dif_neg (by show ¬ (1 + n.val) * 128 + (128 + k.val - 128) < 128; omega)]
  exact strm_at x (by simp [tok, pos, place, nbs, dil, hi]; try omega) (by simp [col]; omega)

theorem valueP (hn : n.val ≠ 0) : val_main_v200 (F := Ideal) x (ix5 c n (lo k) h e) = strm x 2 h 2 (pos (prev (place c n)) k) e := by
  have := c.2; have := n.2; have := h.2; have := e.2; have := k.2
  unfold val_main_v200
  pointwise [val_main_v198, val_main_v197, val_main_v196, val_main_v195, val_main_v194, val_main_v193, val_main_v179, val_main_v8, val_main_v7, val_main_v2, val_main_cst_23]
  rw [dif_pos (by show k.val < 128; omega), dif_neg (by show ¬ n.val * 128 + k.val < 128; omega)]
  exact strm_at x (by simp [tok, pos, prev, place, nbs, dil, lo]; try omega) (by simp [col]; omega)

theorem mask : val_main_v232 (F := Ideal) (ix3 n i kk) = word n.val i.val kk.val := by
  pointwise [val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_c_24, val_main_c_25, val_main_c_26, val_main_c_27, val_main_c_28, val_main_c_29, word, near, steps, inside]

theorem logit : val_main_v240 (F := Ideal) x b (ix5 c n h i kk) = if word n.val i.val kk.val = 1#1 then
    (∑ e, val_main_v184 (F := Ideal) x (ix5 c n i h e) * val_main_v192 (F := Ideal) x (ix5 c n kk h e)) * Ideal.ofBits .f32 0x3E000000#32
      + b (ix4 2 h i kk) else ⊥ := by
  rw [← mask]
  pointwise [val_main_v240, val_main_v239, val_main_v238, val_main_v237, val_main_v236, val_main_v235, val_main_v234, val_main_v233, val_main_v181, val_main_v180, val_main_cst_30, val_main_cst_31, val_main_call2_v0, val_main_call2_v1, val_main_call2_v2]
  exact choice _ _ _

theorem logitP : val_main_v240 (F := Ideal) x b (ix5 c n h i (lo k)) = before x b 2 (place c n) h i k := by
  rw [logit, before, fresh_place]
  have hw := word_lo ⟨n.val, by omega⟩ i k
  by_cases hn : n.val = 0
  · rw [if_neg fun hs => (hw.mp hs).1 hn, if_neg fun hs => by simp [hn] at hs]
  · simp only [query, keyP x c n h k _ hn]
    exact if_congr (hw.trans (by simp [hn])) rfl rfl

theorem logitC : val_main_v240 (F := Ideal) x b (ix5 c n h i (hi k)) = within x b 2 (place c n) h i k := by
  rw [logit, within]
  simp only [query, keyC]
  exact if_congr (word_hi ⟨n.val, by omega⟩ i k) rfl rfl

end Cert.Attn.Ref2
-- ==== Proof.Attn.Sum2.lean ====
/- The reference's attention of group 2 of heads, summed over the keys. -/
module

public import proofs.«01_k».proof.Proof.Attn.Ref2

@[expose] public section

set_option maxRecDepth 16384

noncomputable section

namespace Cert.Attn.Ref2

open Idealize.ShloMosaic Cert.Attn.AttnFwd Cert.AttnFwdRefIdeal Cert.AttnFwdRefIdeal.Read

variable (x : FVec Ideal S4096x4608 .bf16) (b : FVec Ideal S3x8x128x256 .f32) (c : Fin 16) (n : Fin 2) (h : Fin 8)
  (i k : Fin 128) (e : Fin 64) (kk : Fin 256)

theorem largest : val_main_v241 (F := Ideal) x b (ix4 c n h i) = top1 fun kk => val_main_v240 (F := Ideal) x b (ix5 c n h i kk) := by
  unfold val_main_v241 top1
  generalize val_main_v240 (F := Ideal) x b = s
  pointwise [val_main_cst_32]

theorem weight : val_main_v245 (F := Ideal) x b (ix5 c n h i kk)
    = Ideal.exp (val_main_v240 (F := Ideal) x b (ix5 c n h i kk) - top1 fun kk => val_main_v240 (F := Ideal) x b (ix5 c n h i kk)) := by
  rw [← largest]
  unfold val_main_v245 val_main_v244 val_main_v243 val_main_v242
  generalize val_main_v241 (F := Ideal) x b = s
  generalize val_main_v240 (F := Ideal) x b = u
  pointwise []

theorem weights : val_main_v246 (F := Ideal) x b (ix4 c n h i) = den1 fun kk => val_main_v240 (F := Ideal) x b (ix5 c n h i kk) := by
  refine Eq.trans (b := ∑ kk, val_main_v245 (F := Ideal) x b (ix5 c n h i kk)) ?_
    (Finset.sum_congr rfl fun kk _ => weight x b c n h i kk)
  unfold val_main_v246
  generalize val_main_v245 (F := Ideal) x b = s
  pointwise [val_main_cst_33]

theorem attend : val_main_v252 (F := Ideal) x b (ix5 c n i h e) = attended x b 2 (place c n) h i e := by
  have e1 : val_main_v252 (F := Ideal) x b (ix5 c n i h e)
      = out1 (fun kk => val_main_v240 (F := Ideal) x b (ix5 c n h i kk)) (fun kk => val_main_v200 (F := Ideal) x (ix5 c n kk h e)) := by
    refine Eq.trans (b := Ideal.div (∑ kk, val_main_v200 (F := Ideal) x (ix5 c n kk h e) * val_main_v245 (F := Ideal) x b (ix5 c n h i kk))
      (val_main_v246 (F := Ideal) x b (ix4 c n h i))) ?_ (congrArg₂ Ideal.div (Finset.sum_congr rfl fun kk _ =>
        congrArg (HMul.hMul _) (weight x b c n h i kk)) (weights x b c n h i))
    unfold val_main_v252 val_main_v251 val_main_v250 val_main_v249 val_main_v248 val_main_v247
    generalize val_main_v246 (F := Ideal) x b = s
    generalize val_main_v245 (F := Ideal) x b = u
    generalize val_main_v200 (F := Ideal) x = y
    pointwise []
  rw [e1, attended]
  refine out1_eq (logitP x b c n h i) (logitC x b c n h i) (fun k => ?_) fun k => valueC x c n h k e
  by_cases hn : n.val = 0
  · exact Or.inl (if_neg fun hs => by rw [fresh_place] at hs; simp [hn] at hs)
  · exact Or.inr (valueP x c n h k e hn)

theorem across : val_main_v242 (F := Ideal) x b (ix5 c n h i 0) = val_main_v241 (F := Ideal) x b (ix4 c n h i) := by
  unfold val_main_v242
  generalize val_main_v241 (F := Ideal) x b = s
  pointwise []

theorem acrossSum : val_main_v247 (F := Ideal) x b (ix5 c n h i 0) = val_main_v246 (F := Ideal) x b (ix4 c n h i) := by
  unfold val_main_v247
  generalize val_main_v246 (F := Ideal) x b = s
  pointwise []

theorem logsum : val_main_v254 (F := Ideal) x b (ix5 c n h i 0) = summed x b 2 (place c n) h i := by
  rw [summed, ← lse1_eq (s := fun kk => val_main_v240 (F := Ideal) x b (ix5 c n h i kk)) (logitP x b c n h i) (logitC x b c n h i), lse1,
    ← largest, ← weights, ← across, ← acrossSum, val_main_v254_apply, val_main_v253_apply]
  generalize val_main_v242 (F := Ideal) x b (ix5 c n h i 0) = u
  generalize val_main_v247 (F := Ideal) x b (ix5 c n h i 0) = w
  exact plus_log u w

theorem stacked (m : Fin 32) : val_main_v257 (F := Ideal) x b (ix3 h (pos m i) e) = attended x b 2 m h i e := by
  have := m.2; have := i.2
  have e1 : val_main_v257 (F := Ideal) x b (ix3 h (pos m i) e)
      = val_main_v252 (F := Ideal) x b (ix5 ⟨m.val / 2, by omega⟩ ⟨m.val % 2, by omega⟩ i h e) := by
    unfold val_main_v257 val_main_v256
    generalize val_main_v252 (F := Ideal) x b = s
    pointwise []
    exact congrArg s (ix5_congr (Fin.ext (by simp [pos]; try omega)) (Fin.ext (by simp [pos]; try omega)) (Fin.ext (by simp [pos]; try omega)) rfl)
  rw [e1, attend, show place ⟨m.val / 2, by omega⟩ ⟨m.val % 2, by omega⟩ = m from Fin.ext (by simp [place]; try omega)]

theorem stackedL (m : Fin 32) : val_main_v260 (F := Ideal) x b (ix3 h (pos m i) e) = summed x b 2 m h i := by
  have := m.2; have := i.2
  have e1 : val_main_v260 (F := Ideal) x b (ix3 h (pos m i) e)
      = val_main_v254 (F := Ideal) x b (ix5 ⟨m.val / 2, by omega⟩ ⟨m.val % 2, by omega⟩ h i 0) := by
    unfold val_main_v260 val_main_v259 val_main_v258 val_main_v255
    generalize val_main_v254 (F := Ideal) x b = s
    pointwise []
    exact congrArg s (ix5_congr (Fin.ext (by simp [pos]; try omega)) (Fin.ext (by simp [pos]; try omega)) rfl (Fin.ext (by simp [pos]; try omega)))
  rw [e1, logsum, show place ⟨m.val / 2, by omega⟩ ⟨m.val % 2, by omega⟩ = m from Fin.ext (by simp [place]; try omega)]

end Cert.Attn.Ref2
-- ==== Proof.Attn.Ref.lean ====
/- The reference's two results, whole: the attention of all the groups of heads, and the logarithms of the sums. -/
module

public import proofs.«01_k».proof.Proof.Attn.Sum0
public import proofs.«01_k».proof.Proof.Attn.Sum1
public import proofs.«01_k».proof.Proof.Attn.Sum2

@[expose] public section

set_option maxRecDepth 16384

noncomputable section

namespace Cert.Attn.Ref

open Idealize.ShloMosaic Cert.Attn.AttnFwd Cert.AttnFwdRefIdeal Cert.AttnFwdRefIdeal.Read

variable (x : FVec Ideal S4096x4608 .bf16) (b : FVec Ideal S3x8x128x256 .f32) (h : Fin 8) (p : Fin 4096) (i : Fin 128) (e : Fin 64)
  (m : Fin 32)

/-- The results of a group among all the results. -/
theorem part : val_main_v264 (F := Ideal) x b (ix4 0 h p e) = val_main_v89 (F := Ideal) x b (ix3 h p e)
    ∧ val_main_v264 (F := Ideal) x b (ix4 1 h p e) = val_main_v173 (F := Ideal) x b (ix3 h p e)
    ∧ val_main_v264 (F := Ideal) x b (ix4 2 h p e) = val_main_v257 (F := Ideal) x b (ix3 h p e) := by
  unfold val_main_v264 val_main_v263 val_main_v262 val_main_v261
  generalize val_main_v89 (F := Ideal) x b = r
  generalize val_main_v173 (F := Ideal) x b = s
  generalize val_main_v257 (F := Ideal) x b = t
  refine ⟨?_, ?_, ?_⟩ <;> pointwise []

theorem partL : val_main_v268 (F := Ideal) x b (ix4 0 h p e) = val_main_v92 (F := Ideal) x b (ix3 h p e)
    ∧ val_main_v268 (F := Ideal) x b (ix4 1 h p e) = val_main_v176 (F := Ideal) x b (ix3 h p e)
    ∧ val_main_v268 (F := Ideal) x b (ix4 2 h p e) = val_main_v260 (F := Ideal) x b (ix3 h p e) := by
  unfold val_main_v268 val_main_v267 val_main_v266 val_main_v265
  generalize val_main_v92 (F := Ideal) x b = r
  generalize val_main_v176 (F := Ideal) x b = s
  generalize val_main_v260 (F := Ideal) x b = t
  refine ⟨?_, ?_, ?_⟩ <;> pointwise []

theorem attention (g : Fin 3) : val_main_v264 (F := Ideal) x b (ix4 g h (pos m i) e) = attended x b g m h i e :=
  match g with
  | 0 => (part x b h _ e).1.trans (Ref0.stacked x b h i e m)
  | 1 => (part x b h _ e).2.1.trans (Ref1.stacked x b h i e m)
  | 2 => (part x b h _ e).2.2.trans (Ref2.stacked x b h i e m)

theorem logs (g : Fin 3) : val_main_v268 (F := Ideal) x b (ix4 g h (pos m i) e) = summed x b g m h i :=
  match g with
  | 0 => (partL x b h _ e).1.trans (Ref0.stackedL x b h i e m)
  | 1 => (partL x b h _ e).2.1.trans (Ref1.stackedL x b h i e m)
  | 2 => (partL x b h _ e).2.2.trans (Ref2.stackedL x b h i e m)

end Cert.Attn.Ref
-- ==== Proof.Attn.Value.lean ====
/- Dilated attention forward: the two results of the kernel are the reference's. -/
module

public import proofs.«01_k».proof.Proof.Attn.Ref
public import proofs.«01_k».proof.Proof.Gen.AttnFwdRefIdeal.Run
public import proofs.«01_k».proof.Defs
public import Idealize.ShloMosaic.Lib.Claim
public import Idealize.ShloMosaic.Lib.Quiescent

@[expose] public section

set_option maxRecDepth 16384

noncomputable section

namespace Cert.Attn.AttnFwd

open Idealize.ShloMosaic Idealize.ShloMosaic.TcCoe Idealize.SL.Sem
open Cert.AttnFwdIdeal Cert.AttnFwdIdeal.Gen Cert.AttnFwdRefIdeal.Read

variable (m : (ℓ : Loc nD τ sig) → Buf (Elt Ideal) ℓ) (c : Dev nD)

theorem result6 : (dats m 0 c).arrAt 6 cfg0.N = val_main_v264 (F := Ideal) (qkv m c) (bs m c) := by
  refine (dats m 0 c).arrAt_eq_of_covers 6 _ (by decide +kernel) fun t hf i => ?_
  obtain ⟨z, h, p, e, rfl⟩ : ∃ (z : Fin 1) (h : Fin 8) (p : Fin 128) (e : Fin 64), i = ix4 z h p e :=
    ⟨i 0, i 1, i 2, i 3, ValueIdx.eq_ix4 i⟩
  obtain rfl : z = 0 := Subsingleton.elim _ _
  refine (written6 m c t h p e).trans ?_
  rw [← Ref.attention]
  exact congrArg (val_main_v264 (F := Ideal) (qkv m c) (bs m c)) (placed6 h t p e).symm

theorem result7 : (dats m 0 c).arrAt 7 cfg0.N = val_main_v268 (F := Ideal) (qkv m c) (bs m c) := by
  refine (dats m 0 c).arrAt_eq_of_covers 7 _ (by decide +kernel) fun t hf i => ?_
  obtain ⟨z, h, p, e, rfl⟩ : ∃ (z : Fin 1) (h : Fin 8) (p : Fin 128) (e : Fin 64), i = ix4 z h p e :=
    ⟨i 0, i 1, i 2, i 3, ValueIdx.eq_ix4 i⟩
  obtain rfl : z = 0 := Subsingleton.elim _ _
  refine (written7 m c t h p e).trans ?_
  rw [← Ref.logs (e := e)]
  exact congrArg (val_main_v268 (F := Ideal) (qkv m c) (bs m c)) (placed7 h t p e).symm

attribute [local instance] Cert.AttnFwdIdeal.Gen.facts Cert.AttnFwdRefIdeal.Gen.facts

theorem frame_ri : Cert.quiescent_AttnFwdRefIdeal := fun m ρ _ =>
  (θ_run Cert.AttnFwdRefIdeal.defs _ _).mono
    (fun r h => ⟨fun c => (h c).2.2, sem_eq_zero_of_no_sems (by decide) r.2⟩)
    (Cert.AttnFwdRefIdeal.Value.run m ρ)

theorem value : Cert.algebraic_AttnFwdIdeal_AttnFwdRefIdeal := by
  intro m ρ m' ρ' _ ha
  refine ⟨fun c => val_main_v264 (F := Ideal) (qkv m c) (bs m c), fun c => val_main_v268 (F := Ideal) (qkv m c) (bs m c), ?_, ?_⟩
  · exact (θ_run Cert.AttnFwdIdeal.defs _ _).mono
      (fun r h c => ⟨(h c).1.trans (result6 m c), (h c).2.1.trans (result7 m c), (h c).2.2⟩)
      (Cert.AttnFwdIdeal.Value.run_blocks m ρ)
  · refine (θ_run Cert.AttnFwdRefIdeal.defs _ _).mono (fun r h c => ?_) (Cert.AttnFwdRefIdeal.Value.run m' ρ')
    obtain ⟨a0, a1⟩ := ha c
    refine ⟨(h c).1.trans ?_, (h c).2.1.trans ?_, (h c).2.2⟩
    · rw [val_main_v264_eq]
      exact congrArg₂ (val_main_v264 (F := Ideal)) a0 a1
    · rw [val_main_v268_eq]
      exact congrArg₂ (val_main_v268 (F := Ideal)) a0 a1

end Cert.Attn.AttnFwd
-- ==== Proof.Sgu.Args.lean ====
/- Under the precondition the six argument arrays are arrays of reals. -/
module

public import proofs.«01_k».proof.Pre_finite
public import proofs.«01_k».proof.Proof.Finite
public import proofs.«01_k».proof.Proof.Sgu.Inputs

@[expose] public section

noncomputable section

namespace Cert.Sgu

open Idealize.ShloMosaic Cert.Reals Cert.Pre_finite

/-- The side conditions of the precondition's own operations. -/
theorem finiteFacts : Cert.Pre_finite.Facts where
  bcast_S_S4096x8448 := by decide
  reducesTo_S4096x8448_S_d0_1 := by decide
  h_S_ := by decide
  bcast_S_S768 := by decide
  reducesTo_S768_S_d0 := by decide
  bcast_S_S6x128x128 := by decide
  reducesTo_S6x128x128_S_d0_1_2 := by decide
  bcast_S_S6x128 := by decide
  reducesTo_S6x128_S_d0_1 := by decide
  bcast_S_S4096x768 := by decide
  reducesTo_S4096x768_S_d0_1 := by decide

instance : Subsingleton S_.Idx := ⟨fun _ _ => funext fun k => k.elim0⟩

variable [hP : Cert.Pre_finite.Facts] (x0 : FVec Ideal S4096x8448 .f32) (x1 x2 : FVec Ideal S768 .f32)
  (x3 : FVec Ideal S6x128x128 .f32) (x4 : FVec Ideal S6x128 .f32) (x5 : FVec Ideal S4096x768 .f32)

/-- The real parts of six arrays. -/
def inputs : Inputs where
  rest r k := (x0 (ix2 r k)).toReal
  g k := (x1 (ix1 k)).toReal
  b k := (x2 (ix1 k)).toReal
  w g t s := (x3 (ix3 g t s)).toReal
  bs g t := (x4 (ix2 g t)).toReal
  dy r k := (x5 (ix2 r k)).toReal

theorem args_real (h : Cert.Pre_finite.fn (F := Ideal) x0 x1 x2 x3 x4 x5 = fun _ => 1#1) :
    x0 = A2 .f32 (inputs x0 x1 x2 x3 x4 x5).rest ∧ x1 = A1 .f32 (inputs x0 x1 x2 x3 x4 x5).g
      ∧ x2 = A1 .f32 (inputs x0 x1 x2 x3 x4 x5).b ∧ x3 = A3 .f32 (inputs x0 x1 x2 x3 x4 x5).w
      ∧ x4 = A2 .f32 (inputs x0 x1 x2 x3 x4 x5).bs ∧ x5 = A2 .f32 (inputs x0 x1 x2 x3 x4 x5).dy := by
  have e := congrFun h (fun k => k.elim0)
  dsimp only [Cert.Pre_finite.fn, Cert.Pre_finite.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨funext fun i => ?_, funext fun i => ?_, funext fun i => ?_, funext fun i => ?_, funext fun i => ?_, funext fun i => ?_⟩
  · exact (real_of_all _ _ _ _ _ _ e0 i).trans (congrArg (fun j => ((x0 j).toReal : EReal)) (eq_ix2 i))
  · exact (real_of_all _ _ _ _ _ _ e1 i).trans (congrArg (fun j => ((x1 j).toReal : EReal)) (eq_ix1 i))
  · exact (real_of_all _ _ _ _ _ _ e2 i).trans (congrArg (fun j => ((x2 j).toReal : EReal)) (eq_ix1 i))
  · exact (real_of_all _ _ _ _ _ _ e3 i).trans (congrArg (fun j => ((x3 j).toReal : EReal)) (eq_ix3 i))
  · exact (real_of_all _ _ _ _ _ _ e4 i).trans (congrArg (fun j => ((x4 j).toReal : EReal)) (eq_ix2 i))
  · exact (real_of_all _ _ _ _ _ _ e5 i).trans (congrArg (fun j => ((x5 j).toReal : EReal)) (eq_ix2 i))

end Cert.Sgu
-- ==== Proof.Sgu.Groups.lean ====
/- The six groups of channels on one chunk: the mixing gradients of a group, and the groups side by side. -/
module

public import proofs.«01_k».proof.Proof.Sgu.Grad

@[expose] public section

set_option maxRecDepth 16384

noncomputable section

namespace Cert.Sgu

open Idealize.ShloMosaic Idealize.ShloMosaic.TcCoe Idealize.SL.Sem Cert.Reals Cert.KernelIdeal Cert.KernelIdeal.Gen

variable (B : Chunk)

variable {B} in
theorem du_at {p : Fin 128} {j j' : Fin 768} {g : Fin 6} (hj : j' = j) (hg : (j : ℕ) / 128 = g) :
    (B.dy p j' : EReal) * (∑ s, (B.w g p s : EReal) * (B.vn s j' : EReal) + (B.bs g p : EReal)) = (B.du p j : EReal) := by
  obtain rfl : grp j = g := Fin.ext hg
  subst hj
  norm_cast

/-- A group's part of the gradient of the unit's result, and a group's mixing matrix. -/
abbrev dyG (g : Fin 6) : FVec Ideal S128x128 .f32 := A2 .f32 fun p k => B.dy p (col g k)
abbrev wG (g : Fin 6) : FVec Ideal S1x128x128 .bf16 := A3 .bf16 fun _ p s => B.w g p s

variable {B} in
theorem dvn_at {p : Fin 128} {j j' k : Fin 768} {g : Fin 6} (hj : j' = j) (hk : k = j) (hg : (j : ℕ) / 128 = g) :
    ∑ s, (B.w g s p : EReal) * ((B.dy s j' : EReal) * (B.u s k : EReal)) = (B.dvn p j : EReal) := by
  obtain rfl : grp j = g := Fin.ext hg
  subst hj hk
  norm_cast

/-- Six groups' arrays side by side. -/
theorem cat (f : Fin 128 → Fin 768 → ℝ) : k0_pay92 (F := Ideal) (A2 .f32 fun p k => f p (col 0 k)) (A2 .f32 fun p k => f p (col 1 k))
    (A2 .f32 fun p k => f p (col 2 k)) (A2 .f32 fun p k => f p (col 3 k)) (A2 .f32 fun p k => f p (col 4 k))
    (A2 .f32 fun p k => f p (col 5 k)) = A2 .f32 f := by
  funext i
  idx_vars i
  pointwise [k0_pay92, A2]
  split_ifs
  all_goals
    refine congrArg (fun j => ((f i0 j : ℝ) : EReal)) (Fin.ext ?_)
    simp [col]
    try omega

theorem piece0_dvn : k0_pay28 (k0_pay27 (A2 .f32 B.u) (dyG B 0)) (wG B 0) = A2 .f32 fun p k => B.dvn p (col 0 k) := by
  funext i
  idx_vars i
  pointwise [k0_pay28, k0_pay27, k0_pay25, A2, A3]
  exact dvn_at (Fin.ext (by simp [col])) (Fin.ext (by simp [col])) (congrArg Fin.val (grp_col 0 i1))

theorem piece1_dvn : k0_pay39 (A2 .f32 B.u) (dyG B 1) (wG B 1) = A2 .f32 fun p k => B.dvn p (col 1 k) := by
  funext i
  idx_vars i
  pointwise [k0_pay39, k0_pay38, k0_pay36, A2, A3]
  exact dvn_at (Fin.ext (by simp [col])) (Fin.ext (by simp [col])) (congrArg Fin.val (grp_col 1 i1))

theorem piece2_dvn : k0_pay50 (A2 .f32 B.u) (dyG B 2) (wG B 2) = A2 .f32 fun p k => B.dvn p (col 2 k) := by
  funext i
  idx_vars i
  pointwise [k0_pay50, k0_pay49, k0_pay47, A2, A3]
  exact dvn_at (Fin.ext (by simp [col])) (Fin.ext (by simp [col])) (congrArg Fin.val (grp_col 2 i1))

theorem piece3_dvn : k0_pay62 (A2 .f32 B.u) (dyG B 3) (wG B 3) = A2 .f32 fun p k => B.dvn p (col 3 k) := by
  funext i
  idx_vars i
  pointwise [k0_pay62, k0_pay61, k0_pay59, A2, A3]
  exact dvn_at (Fin.ext (by simp [col])) (Fin.ext (by simp [col])) (congrArg Fin.val (grp_col 3 i1))

theorem piece4_dvn : k0_pay73 (k0_pay72 (A2 .f32 B.u) (dyG B 4)) (wG B 4) = A2 .f32 fun p k => B.dvn p (col 4 k) := by
  funext i
  idx_vars i
  pointwise [k0_pay73, k0_pay72, k0_pay70, A2, A3]
  exact dvn_at (Fin.ext (by simp [col])) (Fin.ext (by simp [col])) (congrArg Fin.val (grp_col 4 i1))

theorem piece5_dvn : k0_pay84 (A2 .f32 B.u) (dyG B 5) (wG B 5) = A2 .f32 fun p k => B.dvn p (col 5 k) := by
  funext i
  idx_vars i
  pointwise [k0_pay84, k0_pay83, k0_pay81, A2, A3]
  exact dvn_at (Fin.ext (by simp [col])) (Fin.ext (by simp [col])) (congrArg Fin.val (grp_col 5 i1))

/-- The six groups' gradients of the layer norm's result, side by side. -/
theorem dvn_cat {d0 d1 d2 d3 d4 d5 : FVec Ideal S128x128 .f32} {w0 w1 w2 w3 w4 w5 : FVec Ideal S1x128x128 .bf16}
    (hd0 : d0 = dyG B 0) (hd1 : d1 = dyG B 1) (hd2 : d2 = dyG B 2) (hd3 : d3 = dyG B 3) (hd4 : d4 = dyG B 4)
    (hd5 : d5 = dyG B 5) (hw0 : w0 = wG B 0) (hw1 : w1 = wG B 1) (hw2 : w2 = wG B 2) (hw3 : w3 = wG B 3)
    (hw4 : w4 = wG B 4) (hw5 : w5 = wG B 5) : k0_pay92
    (k0_pay28 (k0_pay27 (A2 .f32 B.u) d0) w0)
    (k0_pay39 (A2 .f32 B.u) d1 w1)
    (k0_pay50 (A2 .f32 B.u) d2 w2)
    (k0_pay62 (A2 .f32 B.u) d3 w3)
    (k0_pay73 (k0_pay72 (A2 .f32 B.u) d4) w4)
    (k0_pay84 (A2 .f32 B.u) d5 w5) = A2 .f32 B.dvn := by
  rw [hd0, hd1, hd2, hd3, hd4, hd5, hw0, hw1, hw2, hw3, hw4, hw5,
    piece0_dvn, piece1_dvn, piece2_dvn, piece3_dvn, piece4_dvn, piece5_dvn, cat]

variable {B} in
theorem dw_at {g : Fin 6} {p p' s s' : Fin 128} {f : Fin 128 → Fin 768} (hf : ∀ k, f k = col g k) (hp : p' = p) (hs : s' = s) :
    ∑ k, (B.dy p' (f k) : EReal) * (B.u p' (f k) : EReal) * (B.vn s' (f k) : EReal) = (B.dw g p s : EReal) := by
  subst hp hs
  obtain rfl : f = col g := funext hf
  norm_cast

variable {B} in
theorem dbs_at {g : Fin 6} {p p' : Fin 128} {f : Fin 128 → Fin 768} (hf : ∀ k, f k = col g k) (hp : p' = p) :
    ∑ k, (B.dy p' (f k) : EReal) * (B.u p' (f k) : EReal) = (B.dbs g p : EReal) := by
  subst hp
  obtain rfl : f = col g := funext hf
  norm_cast

end Cert.Sgu
-- ==== Proof.Sgu.Points.lean ====
/- What each grid point of the kernel stores, when its blocks hold a chunk of real numbers. -/
module
public import proofs.«01_k».proof.Defs
public import proofs.«01_k».proof.Proof.Gen.KernelIdeal.Frame
public import proofs.«01_k».proof.Proof.Sgu.Groups
public import Idealize.ShloMosaic.Lib.Pipeline.ValueKit
@[expose] public section
set_option maxRecDepth 16384
noncomputable section
namespace Cert.Sgu
open Cert.Reals Idealize.ShloMosaic Idealize.ShloMosaic.TcCoe Idealize.SL.Sem Cert.KernelIdeal Cert.KernelIdeal.Gen

/-- The blocks a grid point loads are the arrays of the chunk `B`. -/
structure Loaded (B : Chunk) (x0 x1 : FVec Ideal S128x768 .f32) (x2 x3 : FVec Ideal S1x768 .f32)
    (x4 : FVec Ideal S6x128x128 .bf16) (x5 : FVec Ideal S6x128x1 .f32) (x6 : FVec Ideal S128x768 .f32) : Prop where
  zu : x0 = A2 .f32 B.zu
  zv : x1 = A2 .f32 B.zv
  g : x2 = gv B
  b : x3 = bv B
  w : x4 = A3 .bf16 B.w
  bs : x5 = A3 .f32 fun g t _ => B.bs g t
  dy : x6 = A2 .f32 B.dy

variable (B : Chunk)

variable (m : (ℓ : Loc nD τ sig) → Buf (Elt Ideal) ℓ) (c : Dev nD) (t : Fin cfg0.N)

/-- The blocks of point `t` are those of the chunk `B`. -/
abbrev LoadedAt : Prop :=
  Loaded B (iblk m c 0 t) (iblk m c 1 t) (iblk m c 2 t) (iblk m c 3 t) (iblk m c 4 t) (iblk m c 5 t) (iblk m c 6 t)

theorem out7 (H : LoadedAt B m c t) : (outsAt0 m c t.val t.isLt).1 = A2 .bf16 B.dzu := by
  have ht : t.val < 32 := lt_of_lt_of_eq t.isLt N_0
  by_cases h : t.val % 32 = 0
  on_goal 1 =>
    have h' : ¬ 1 ≤ t.val := by omega
    rw [outsAt0_A m c t h h' h h' h h' h h' h h' h h' h h']
  on_goal 2 =>
    have h' : 1 ≤ t.val := by omega
    rw [outsAt0_B m c t h h' h h' h h' h h' h h' h h' h h']
  all_goals
    frame_out
    rw [H.zu, H.zv, H.g, H.b, H.w, H.bs, H.dy]
    rw [pay5, pay6, pay13, pay15]
    refine pay1 B _ ?_
    funext i
    idx_vars i
    simp only [k0_pay24, pay23, k0_pay26]
    pointwise [k0_pay91, k0_pay26, k0_pay37, k0_pay48, k0_pay60, k0_pay58, k0_pay71, k0_pay82, k0_pay24, k0_pay35, k0_pay46, k0_pay57, k0_pay69, k0_pay80, A2, A3]
    split_ifs
    all_goals exact du_at (Fin.ext (by first | omega | (simp only []; omega))) (by first | omega | (simp only []; omega))

theorem out8 (H : LoadedAt B m c t) : (outsAt0 m c t.val t.isLt).2.1 = A2 .bf16 B.dzv := by
  have ht : t.val < 32 := lt_of_lt_of_eq t.isLt N_0
  by_cases h : t.val % 32 = 0
  on_goal 1 =>
    have h' : ¬ 1 ≤ t.val := by omega
    rw [outsAt0_A m c t h h' h h' h h' h h' h h' h h' h h']
  on_goal 2 =>
    have h' : 1 ≤ t.val := by omega
    rw [outsAt0_B m c t h h' h h' h h' h h' h h' h h' h h']
  all_goals
    frame_out
    rw [H.zu, H.zv, H.g, H.w, H.dy]
    rw [pay5, pay13, pay15, pay12, pay18, pay20, pay21]
    refine pay2 B (dvn_cat B ?_ ?_ ?_ ?_ ?_ ?_ ?_ ?_ ?_ ?_ ?_ ?_)
    all_goals
      funext i
      idx_vars i
      pointwise [A2, A3]
      try simp [col]

theorem ix3_eq {a b d : ℕ} (y : (⟨3, ![a, b, d]⟩ : Shape).Idx) {i : Fin a} {j : Fin b} {k : Fin d} (hi : (i : ℕ) = y 0)
    (hj : (j : ℕ) = y 1) (hk : (k : ℕ) = y 2) : ix3 i j k = y := by
  funext l
  match l with
  | ⟨0, _⟩ => exact Fin.ext hi
  | ⟨1, _⟩ => exact Fin.ext hj
  | ⟨2, _⟩ => exact Fin.ext hk

/-- Adding to an accumulator read at the same index. -/
theorem acc_at {a b d : ℕ} {X : (⟨3, ![a, b, d]⟩ : Shape).Idx → EReal} {y : (⟨3, ![a, b, d]⟩ : Shape).Idx} {i : Fin a} {j : Fin b} {k : Fin d} {u v : EReal}
    (hi : (i : ℕ) = y 0) (hj : (j : ℕ) = y 1) (hk : (k : ℕ) = y 2) (h : u = v) : X (ix3 i j k) + u = X y + v := by
  rw [ix3_eq y hi hj hk, h]

theorem out9_A (H : LoadedAt B m c t) (h : t.val % 32 = 0) : (outsAt0 m c t.val t.isLt).2.2.1 = A3 .f32 B.dw := by
  have ht : t.val < 32 := lt_of_lt_of_eq t.isLt N_0
  have h' : ¬ 1 ≤ t.val := by omega
  rw [outsAt0_A m c t h h' h h' h h' h h' h h' h h' h h']
  frame_out
  rw [H.zu, H.zv, H.g, H.b, H.dy]
  rw [pay5, pay6, pay13, pay15, pay12, pay23]
  simp only [k0_pay24, pay23]
  funext y
  canon_tiles y h
  all_goals open_payloads
  all_goals pointwise [A3, A2]
  all_goals apply dw_at
  all_goals try intro k
  all_goals apply Fin.ext
  all_goals first | omega | (simp only [col]; omega)

theorem out9_B (H : LoadedAt B m c t) (h : ¬ t.val % 32 = 0) (y : S6x128x128.Idx) :
    (outsAt0 m c t.val t.isLt).2.2.1 y
      = (outsAt0 m c (t.val - 1) (lt_of_le_of_lt (Nat.sub_le _ _) t.isLt)).2.2.1 y + A3 .f32 B.dw y := by
  have ht : t.val < 32 := lt_of_lt_of_eq t.isLt N_0
  have h' : 1 ≤ t.val := by omega
  rw [outsAt0_B m c t h h' h h' h h' h h' h h' h h' h h']
  frame_out
  rw [H.zu, H.zv, H.g, H.b, H.dy]
  rw [pay5, pay6, pay13, pay15, pay12, pay23]
  simp only [k0_pay24, pay23]
  canon_tiles y h
  all_goals open_payloads
  all_goals pointwise [A3, A2]
  all_goals apply acc_at
  all_goals try apply dw_at
  all_goals try intro k
  all_goals try apply Fin.ext
  all_goals first | omega | (simp only [col]; omega) | trace_state

theorem out10_A (H : LoadedAt B m c t) (h : t.val % 32 = 0) : (outsAt0 m c t.val t.isLt).2.2.2.1 = A3 .f32 (fun g p (_ : Fin 1) => B.dbs g p) := by
  have ht : t.val < 32 := lt_of_lt_of_eq t.isLt N_0
  have h' : ¬ 1 ≤ t.val := by omega
  rw [outsAt0_A m c t h h' h h' h h' h h' h h' h h' h h']
  frame_out
  rw [H.zu, H.dy]
  rw [pay12]
  funext y
  canon_tiles y h
  all_goals open_payloads
  all_goals pointwise [A3, A2]
  all_goals apply dbs_at
  all_goals try intro k
  all_goals apply Fin.ext
  all_goals first | omega | (simp only [col]; omega)

theorem out10_B (H : LoadedAt B m c t) (h : ¬ t.val % 32 = 0) (y : S6x128x1.Idx) :
    (outsAt0 m c t.val t.isLt).2.2.2.1 y
      = (outsAt0 m c (t.val - 1) (lt_of_le_of_lt (Nat.sub_le _ _) t.isLt)).2.2.2.1 y + A3 .f32 (fun g p (_ : Fin 1) => B.dbs g p) y := by
  have ht : t.val < 32 := lt_of_lt_of_eq t.isLt N_0
  have h' : 1 ≤ t.val := by omega
  rw [outsAt0_B m c t h h' h h' h h' h h' h h' h h' h h']
  frame_out
  rw [H.zu, H.dy]
  rw [pay12]
  canon_tiles y h
  all_goals open_payloads
  all_goals pointwise [A3, A2]
  all_goals apply acc_at
  all_goals try apply dbs_at
  all_goals try intro k
  all_goals try apply Fin.ext
  all_goals first | omega | (simp only [col]; omega) | trace_state

theorem out11_A (H : LoadedAt B m c t) (h : t.val % 32 = 0) :
    (outsAt0 m c t.val t.isLt).2.2.2.2.1 = A2 .f32 fun _ j => B.dg j := by
  have ht : t.val < 32 := lt_of_lt_of_eq t.isLt N_0
  have h' : ¬ 1 ≤ t.val := by omega
  rw [outsAt0_A m c t h h' h h' h h' h h' h h' h h' h h']
  frame_out
  rw [H.zu, H.zv, H.w, H.dy]
  rw [pay12, pay13, pay15, pay22]
  refine pay94 B (dvn_cat B ?_ ?_ ?_ ?_ ?_ ?_ ?_ ?_ ?_ ?_ ?_ ?_)
  all_goals
    funext i
    idx_vars i
    pointwise [A2, A3]
    try simp [col]

theorem out11_B (H : LoadedAt B m c t) (h : ¬ t.val % 32 = 0) (y : S1x768.Idx) :
    (outsAt0 m c t.val t.isLt).2.2.2.2.1 y
      = (outsAt0 m c (t.val - 1) (lt_of_le_of_lt (Nat.sub_le _ _) t.isLt)).2.2.2.2.1 y + (B.dg (y 1) : EReal) := by
  have ht : t.val < 32 := lt_of_lt_of_eq t.isLt N_0
  have h' : 1 ≤ t.val := by omega
  rw [outsAt0_B m c t h h' h h' h h' h h' h h' h h' h h']
  frame_out
  rw [H.zu, H.zv, H.w, H.dy]
  rw [pay12, pay13, pay15, pay22]
  refine (congrFun (congrArg (fun X => k0_pay3 X _) (pay94 B (dvn_cat B ?_ ?_ ?_ ?_ ?_ ?_ ?_ ?_ ?_ ?_ ?_ ?_))) y).trans ?_
  on_goal 13 =>
    idx_vars y
    pointwise [k0_pay3, A2]
  all_goals
    funext i
    idx_vars i
    pointwise [A2, A3]
    try simp [col]

theorem out12_A (H : LoadedAt B m c t) (h : t.val % 32 = 0) :
    (outsAt0 m c t.val t.isLt).2.2.2.2.2 = A2 .f32 fun _ j => B.db j := by
  have ht : t.val < 32 := lt_of_lt_of_eq t.isLt N_0
  have h' : ¬ 1 ≤ t.val := by omega
  rw [outsAt0_A m c t h h' h h' h h' h h' h h' h h' h h']
  frame_out
  rw [H.zu, H.w, H.dy]
  rw [pay12]
  refine pay93 B (dvn_cat B ?_ ?_ ?_ ?_ ?_ ?_ ?_ ?_ ?_ ?_ ?_ ?_)
  all_goals
    funext i
    idx_vars i
    pointwise [A2, A3]
    try simp [col]

theorem out12_B (H : LoadedAt B m c t) (h : ¬ t.val % 32 = 0) (y : S1x768.Idx) :
    (outsAt0 m c t.val t.isLt).2.2.2.2.2 y
      = (outsAt0 m c (t.val - 1) (lt_of_le_of_lt (Nat.sub_le _ _) t.isLt)).2.2.2.2.2 y + (B.db (y 1) : EReal) := by
  have ht : t.val < 32 := lt_of_lt_of_eq t.isLt N_0
  have h' : 1 ≤ t.val := by omega
  rw [outsAt0_B m c t h h' h h' h h' h h' h h' h h' h h']
  frame_out
  rw [H.zu, H.w, H.dy]
  rw [pay12]
  refine (congrFun (congrArg (fun X => k0_pay4 X _) (pay93 B (dvn_cat B ?_ ?_ ?_ ?_ ?_ ?_ ?_ ?_ ?_ ?_ ?_ ?_))) y).trans ?_
  on_goal 13 =>
    idx_vars y
    pointwise [k0_pay4, A2]
  all_goals
    funext i
    idx_vars i
    pointwise [A2, A3]
    try simp [col]

end Cert.Sgu
-- ==== Proof.Sgu.Blocks.lean ====
/- The blocks of a grid point, as the arrays of a chunk. -/
module

public import proofs.«01_k».proof.Proof.Sgu.Points
public import proofs.«01_k».proof.Proof.Sgu.Inputs
public import Idealize.ShloMosaic.Lib.Claim

@[expose] public section

set_option maxRecDepth 16384

noncomputable section

namespace Cert.Sgu

open Idealize.ShloMosaic Idealize.ShloMosaic.TcCoe Idealize.SL.Sem Cert.Reals Cert.KernelIdeal Cert.KernelIdeal.Gen

/-- The memory's arguments are the real arrays `I`. -/
structure Holds (I : Inputs) (m : (ℓ : Loc nD τ sig) → Buf (Elt Ideal) ℓ) (c : Dev nD) : Prop where
  rest : m ((c : Thread nD τ).loc main_arg0) = A2 .f32 I.rest
  g : m ((c : Thread nD τ).loc main_arg1) = A1 .f32 I.g
  b : m ((c : Thread nD τ).loc main_arg2) = A1 .f32 I.b
  w : m ((c : Thread nD τ).loc main_arg3) = A3 .f32 I.w
  bs : m ((c : Thread nD τ).loc main_arg4) = A2 .f32 I.bs
  dy : m ((c : Thread nD τ).loc main_arg5) = A2 .f32 I.dy

/-- The chunk of a grid point. -/
def pt (t : Fin cfg0.N) : Fin 32 := ⟨t.val, lt_of_lt_of_eq t.isLt N_0⟩

theorem idx0 : ∀ t : Fin grid0.N, win0_0.index t = ![t.val, 0] := by decide +kernel
theorem idx1 : ∀ t : Fin grid0.N, win0_1.index t = ![t.val, 1] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0, 0] := by decide +kernel
theorem idx5 : ∀ t : Fin grid0.N, win0_5.index t = ![0, 0, 0] := by decide +kernel
theorem idx6 : ∀ t : Fin grid0.N, win0_6.index t = ![t.val, 0] := by decide +kernel

variable {I : Inputs} {m : (ℓ : Loc nD τ sig) → Buf (Elt Ideal) ℓ} {c : Dev nD}

theorem V_v0 : V m c main_v0 = broadcastInDim S1x768 ![1] bcast_S768_S1x768_1 (m ((c : Thread nD τ).loc main_arg1)) := by
  unfold V
  simp only [hostOps0, hostOps0_1, hostOps0_2, List.flatten_cons, List.flatten_nil, List.append_nil, List.cons_append,
    List.nil_append]
  after_results

theorem V_v1 : V m c main_v1 = broadcastInDim S1x768 ![1] bcast_S768_S1x768_1 (m ((c : Thread nD τ).loc main_arg2)) := by
  unfold V
  simp only [hostOps0, hostOps0_1, hostOps0_2, List.flatten_cons, List.flatten_nil, List.append_nil, List.cons_append,
    List.nil_append]
  after_results

theorem V_v4 : V m c main_v4
    = broadcastInDim S6x128x1 ![0, 1] bcast_S6x128_S6x128x1_0_1 (m ((c : Thread nD τ).loc main_arg4)) := by
  unfold V
  simp only [hostOps0, hostOps0_1, hostOps0_2, List.flatten_cons, List.flatten_nil, List.append_nil, List.cons_append,
    List.nil_append]
  after_results

theorem V_v3 : V m c main_v3
    = truncf .bf16 (select (broadcastInDim S6x128x128 ![1, 2] bcast_S128x128_S6x128x128_1_2
        (cmpi .sge (addi (iotaInDim S128x128 32 0) (broadcastInDim S128x128 ![] bcast_S_S128x128 (constantI S_ 32 0#32)))
          (iotaInDim S128x128 32 1)))
        (m ((c : Thread nD τ).loc main_arg3))
        (broadcastInDim S6x128x128 ![] bcast_S_S6x128x128 (constant (F := Ideal) S_ .f32 0x00000000#32))) bitsLt_bf16_f32 := by
  unfold V
  simp only [hostOps0, hostOps0_1, hostOps0_2, List.flatten_cons, List.flatten_nil, List.append_nil, List.cons_append,
    List.nil_append]
  after_results
  rfl

theorem loaded (H : Holds I m c) (t : Fin cfg0.N) : LoadedAt (I.chunk (pt t)) m c t where
  zu := by
    have e : V m c (Pipeline.arrRef spec0 0) = A2 .f32 I.rest := (V_main_arg0 m c).trans H.rest
    funext i
    unfold iblk
    rw [e]
    refine congrArg Real.toEReal (congrArg₂ I.rest (Fin.ext ?_) (Fin.ext ?_)) <;> blk_simp [idx0 t] <;> simp [row, pt]
  zv := by
    have e : V m c (Pipeline.arrRef spec0 1) = A2 .f32 I.rest := (V_main_arg0 m c).trans H.rest
    funext i
    unfold iblk
    rw [e]
    refine congrArg Real.toEReal (congrArg₂ I.rest (Fin.ext ?_) (Fin.ext ?_)) <;> blk_simp [idx1 t] <;> simp [row, pt]
  g := by
    have e : V m c (Pipeline.arrRef spec0 2) = A2 .f32 fun _ j => I.g j := by
      refine V_v0.trans ?_
      rw [H.g]
      funext i
      pointwise [A1, A2]
    funext i
    unfold iblk
    rw [e]
    refine congrArg Real.toEReal (congrArg I.g (Fin.ext ?_))
    blk_simp [idx2 t]
    try simp
  b := by
    have e : V m c (Pipeline.arrRef spec0 3) = A2 .f32 fun _ j => I.b j := by
      refine V_v1.trans ?_
      rw [H.b]
      funext i
      pointwise [A1, A2]
    funext i
    unfold iblk
    rw [e]
    refine congrArg Real.toEReal (congrArg I.b (Fin.ext ?_))
    blk_simp [idx3 t]
    try simp
  w := by
    have e : V m c (Pipeline.arrRef spec0 4) = A3 .f32 (I.chunk (pt t)).w := by
      refine V_v3.trans ?_
      rw [H.w]
      funext i
      idx_vars i
      pointwise [A3]
      exact causal i1 i2 _
    funext i
    unfold iblk
    rw [e]
    refine congrArg (A3 .f32 (I.chunk (pt t)).w) (a₂ := i) ?_
    funext a
    refine Fin.ext ?_
    blk_simp
    rw [idx4 t]
    fin_cases a <;> simp
  bs := by
    have e : V m c (Pipeline.arrRef spec0 5) = A3 .f32 fun g p (_ : Fin 1) => I.bs g p := by
      refine V_v4.trans ?_
      rw [H.bs]
      funext i
      pointwise [A2, A3]
    funext i
    unfold iblk
    rw [e]
    refine congrArg Real.toEReal (congrArg₂ I.bs (Fin.ext ?_) (Fin.ext ?_)) <;> blk_simp [idx5 t] <;> simp
  dy := by
    have e : V m c (Pipeline.arrRef spec0 6) = A2 .f32 I.dy := (V_main_arg5 m c).trans H.dy
    funext i
    unfold iblk
    rw [e]
    refine congrArg Real.toEReal (congrArg₂ I.dy (Fin.ext ?_) (Fin.ext ?_)) <;> blk_simp [idx6 t] <;> simp [row, pt]

end Cert.Sgu
-- ==== Proof.Sgu.Arrays.lean ====
/- The kernel's six result arrays, as real arrays of the chunks: the first two hold each chunk's own rows, the others the
sums over the chunks. -/
module

public import proofs.«01_k».proof.Proof.Sgu.Blocks

@[expose] public section

set_option maxRecDepth 16384

noncomputable section

namespace Cert.Sgu

open Idealize.ShloMosaic Idealize.ShloMosaic.TcCoe Idealize.SL.Sem Cert.Reals Cert.KernelIdeal Cert.KernelIdeal.Gen

variable {I : Inputs} {m : (ℓ : Loc nD τ sig) → Buf (Elt Ideal) ℓ} {c : Dev nD}

/-- A running value that starts at the first term and takes one more term at every point ends at the terms' sum. -/
theorem running (f : (n : ℕ) → n < cfg0.N → EReal) (X : Fin 32 → ℝ)
    (h0 : ∀ t : Fin cfg0.N, t.val % 32 = 0 → f t.val t.isLt = X (pt t))
    (hs : ∀ t : Fin cfg0.N, ¬ t.val % 32 = 0 →
      f t.val t.isLt = f (t.val - 1) (lt_of_le_of_lt (Nat.sub_le _ _) t.isLt) + X (pt t))
    (t : Fin cfg0.N) (ht : t.val % 32 = 31) : f t.val t.isLt = ((∑ n, X n : ℝ) : EReal) := by
  have key : ∀ n (h : n < cfg0.N),
      f n h = ((∑ k ∈ Finset.range (n + 1), (if hk : k < 32 then X ⟨k, hk⟩ else 0) : ℝ) : EReal) := by
    intro n
    induction n with
    | zero =>
      intro h
      rw [h0 ⟨0, h⟩ rfl]
      simp [pt]
    | succ n ih =>
      intro h
      have h32 : n + 1 < 32 := lt_of_lt_of_eq h N_0
      rw [hs ⟨n + 1, h⟩ (by simp only; omega), Finset.sum_range_succ, EReal.coe_add]
      congr 1
      · exact ih _
      · simp [pt, h32]
  have h32 : t.val < 32 := lt_of_lt_of_eq t.isLt N_0
  rw [key t.val t.isLt, show t.val + 1 = 32 by omega, Finset.sum_range]
  exact congrArg Real.toEReal (Finset.sum_congr rfl fun n _ => by simp)

theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![0, 0, 0] := by decide +kernel
theorem idx10 : ∀ t : Fin grid0.N, win0_10.index t = ![0, 0, 0] := by decide +kernel
theorem idx11 : ∀ t : Fin grid0.N, win0_11.index t = ![0, 0] := by decide +kernel
theorem idx12 : ∀ t : Fin grid0.N, win0_12.index t = ![0, 0] := by decide +kernel

theorem pt_chunk (t : Fin cfg0.N) (p : Fin 128) (r : Fin 4096) (h : r.val = t.val * 128 + p.val) :
    pt t = chunkOf r ∧ p = posOf r :=
  ⟨Fin.ext (by simp only [pt, chunkOf]; omega), Fin.ext (by simp only [posOf]; omega)⟩

/-- A chunk's rows, read at their places in the whole array. -/
theorem rows_eq (F : Fin 32 → Fin 128 → Fin 768 → ℝ) (t : Fin cfg0.N) (y : S128x768.Idx) (z : S4096x768.Idx)
    (e0 : (z 0 : ℕ) = t.val * 128 + (y 0 : ℕ)) (e1 : (z 1 : ℕ) = (y 1 : ℕ)) :
    A2 .bf16 (F (pt t)) y = A2 .bf16 (fun r j => F (chunkOf r) (posOf r) j) z := by
  obtain ⟨h, h'⟩ := pt_chunk t (y 0) (z 0) e0
  have h'' : y 1 = z 1 := Fin.ext e1.symm
  show ((F (pt t) (y 0) (y 1) : ℝ) : EReal) = ((F (chunkOf (z 0)) (posOf (z 0)) (z 1) : ℝ) : EReal)
  rw [h, ← h', h'']

theorem arr7 (H : Holds I m c) :
    (dats m 0 c).arrAt 7 cfg0.N = A2 .bf16 fun r j => (I.chunk (chunkOf r)).dzu (posOf r) j := by
  refine (dats m 0 c).arrAt_eq_of_covers 7 _ (by decide +kernel) fun t hf y => ?_
  blk_simp
  rw [after0_7, out7 _ m c t (loaded H t)]
  refine rows_eq (fun n => (I.chunk n).dzu) t y _ ?_ ?_ <;> blk_simp [idx7 t] <;> simp

theorem arr8 (H : Holds I m c) :
    (dats m 0 c).arrAt 8 cfg0.N = A2 .bf16 fun r j => (I.chunk (chunkOf r)).dzv (posOf r) j := by
  refine (dats m 0 c).arrAt_eq_of_covers 8 _ (by decide +kernel) fun t hf y => ?_
  blk_simp
  rw [after0_8, out8 _ m c t (loaded H t)]
  refine rows_eq (fun n => (I.chunk n).dzv) t y _ ?_ ?_ <;> blk_simp [idx8 t] <;> simp

theorem arr9 (H : Holds I m c) : (dats m 0 c).arrAt 9 cfg0.N = A3 .f32 fun g t s => ∑ n, (I.chunk n).dw g t s := by
  refine (dats m 0 c).arrAt_eq_of_covers 9 _ (by decide +kernel) fun t hf y => ?_
  have e : ((cfg0.win 9).blk t).view.emb y = y := by
    funext a
    refine Fin.ext ?_
    blk_simp
    rw [idx9 t]
    fin_cases a <;> simp
  rw [e]
  blk_simp
  rw [after0_9]
  refine running (fun n h => (outsAt0 m c n h).2.2.1 y) (fun n => (I.chunk n).dw (y 0) (y 1) (y 2)) (fun t ht => ?_)
    (fun t ht => ?_) t ((flush0_9 t).mp hf)
  · exact congrFun (out9_A _ m c t (loaded H t) ht) y
  · exact out9_B _ m c t (loaded H t) ht y

theorem arr10 (H : Holds I m c) : (dats m 0 c).arrAt 10 cfg0.N = A3 .f32 fun g p (_ : Fin 1) => ∑ n, (I.chunk n).dbs g p := by
  refine (dats m 0 c).arrAt_eq_of_covers 10 _ (by decide +kernel) fun t hf y => ?_
  have e : ((cfg0.win 10).blk t).view.emb y = y := by
    funext a
    refine Fin.ext ?_
    blk_simp
    rw [idx10 t]
    fin_cases a <;> simp
  rw [e]
  blk_simp
  rw [after0_10]
  refine running (fun n h => (outsAt0 m c n h).2.2.2.1 y) (fun n => (I.chunk n).dbs (y 0) (y 1)) (fun t ht => ?_)
    (fun t ht => ?_) t ((flush0_10 t).mp hf)
  · exact congrFun (out10_A _ m c t (loaded H t) ht) y
  · exact out10_B _ m c t (loaded H t) ht y

theorem arr11 (H : Holds I m c) : (dats m 0 c).arrAt 11 cfg0.N = A2 .f32 fun (_ : Fin 1) j => ∑ n, (I.chunk n).dg j := by
  refine (dats m 0 c).arrAt_eq_of_covers 11 _ (by decide +kernel) fun t hf y => ?_
  have e : ((cfg0.win 11).blk t).view.emb y = y := by
    funext a
    refine Fin.ext ?_
    blk_simp
    rw [idx11 t]
    fin_cases a <;> simp
  rw [e]
  blk_simp
  rw [after0_11]
  refine running (fun n h => (outsAt0 m c n h).2.2.2.2.1 y) (fun n => (I.chunk n).dg (y 1)) (fun t ht => ?_)
    (fun t ht => ?_) t ((flush0_11 t).mp hf)
  · exact congrFun (out11_A _ m c t (loaded H t) ht) y
  · exact out11_B _ m c t (loaded H t) ht y

theorem arr12 (H : Holds I m c) : (dats m 0 c).arrAt 12 cfg0.N = A2 .f32 fun (_ : Fin 1) j => ∑ n, (I.chunk n).db j := by
  refine (dats m 0 c).arrAt_eq_of_covers 12 _ (by decide +kernel) fun t hf y => ?_
  have e : ((cfg0.win 12).blk t).view.emb y = y := by
    funext a
    refine Fin.ext ?_
    blk_simp
    rw [idx12 t]
    fin_cases a <;> simp
  rw [e]
  blk_simp
  rw [after0_12]
  refine running (fun n h => (outsAt0 m c n h).2.2.2.2.2 y) (fun n => (I.chunk n).db (y 1)) (fun t ht => ?_)
    (fun t ht => ?_) t ((flush0_12 t).mp hf)
  · exact congrFun (out12_A _ m c t (loaded H t) ht) y
  · exact out12_B _ m c t (loaded H t) ht y

end Cert.Sgu
-- ==== Proof.Sgu.RefMix.lean ====
/- The reference, stage by stage over the real numbers: the mixing of a chunk's tokens and its gradients. -/
module

public import proofs.«01_k».proof.Proof.Sgu.RefNorm

@[expose] public section

set_option maxRecDepth 16384

noncomputable section

namespace Cert.Sgu.Ref

open Idealize.ShloMosaic Idealize.ShloMosaic.TcCoe Cert.Reals Cert.Sgu Cert.ReferenceIdeal Cert.ReferenceIdeal.Gen
  Cert.ReferenceIdeal.Read

variable (I : Inputs)

def A4 (φ : FTy) {n m k l : ℕ} (f : Fin n → Fin m → Fin k → Fin l → ℝ) : FVec Ideal ⟨4, ![n, m, k, l]⟩ φ :=
  fun i => ((f (i 0) (i 1) (i 2) (i 3) : ℝ) : EReal)

/-- The rows of an array, cut into chunks and groups. -/
theorem at_four (F : Fin 32 → Fin 128 → Fin 768 → ℝ) (z : S4096x768.Idx) (i : S32x128x6x128.Idx)
    (e0 : (z 0 : ℕ) = (i 0 : ℕ) * 128 + (i 1 : ℕ)) (e1 : (z 1 : ℕ) = (i 2 : ℕ) * 128 + (i 3 : ℕ)) :
    A2 .f32 (fun r j => F (chunkOf r) (posOf r) j) z = A4 .f32 (fun n p g c => F n p (col g c)) i := by
  have h1 : (i 1 : ℕ) < 128 := (i 1).isLt
  have a : chunkOf (z 0) = i 0 := Fin.ext (by simp only [chunkOf]; omega)
  have b : posOf (z 0) = i 1 := Fin.ext (by simp only [posOf]; omega)
  have d : z 1 = col (i 2) (i 3) := Fin.ext e1
  show ((F (chunkOf (z 0)) (posOf (z 0)) (z 1) : ℝ) : EReal) = _
  rw [a, b, d]
  rfl

/-- And put together again. -/
theorem at_two (F : Fin 32 → Fin 128 → Fin 768 → ℝ) (z : S4096x768.Idx) (i : S32x128x6x128.Idx)
    (e0 : (i 0 : ℕ) = (z 0 : ℕ) / 128) (e1 : (i 1 : ℕ) = (z 0 : ℕ) % 128) (e2 : (i 2 : ℕ) = (z 1 : ℕ) / 128)
    (e3 : (i 3 : ℕ) = (z 1 : ℕ) % 128) :
    A4 .f32 (fun n p g c => F n p (col g c)) i = A2 .f32 (fun r j => F (chunkOf r) (posOf r) j) z := by
  refine (at_four F z i ?_ ?_).symm <;> omega

/-- A sum over the rows, chunk by chunk. -/
theorem sum_rows (F : Fin 32 → Fin 128 → ℝ) : ∑ r, F (chunkOf r) (posOf r) = ∑ n, ∑ p, F n p := by
  rw [← Fintype.sum_prod_type' F]
  refine Fintype.sum_equiv ⟨fun r => (chunkOf r, posOf r), fun x => row x.1 x.2, row_chunkOf, fun x => ?_⟩ _ _ fun r => rfl
  exact Prod.ext (Fin.ext (by simp only [chunkOf, row]; omega)) (Fin.ext (by simp only [posOf, row]; omega))

theorem mixed_col (C : Chunk) (p : Fin 128) (g : Fin 6) (c : Fin 128) :
    (∑ s, C.vn s (col g c) * C.w g p s) + C.bs g p = C.mixed p (col g c) := by
  simp only [Chunk.mixed, grp_col, mul_comm]

theorem dvn_col (C : Chunk) (s : Fin 128) (g : Fin 6) (c : Fin 128) :
    ∑ p, C.dmix p (col g c) * C.w g p s = C.dvn s (col g c) := by
  simp only [Chunk.dvn, grp_col, mul_comm]

theorem r_v1 (n : Fin 32) : val_main_v1 (F := Ideal) (X3 I) = A3 .f32 (I.chunk n).w := by
  funext i
  idx_vars i
  simp only [val_main_v1_apply, val_main_call0_v5_apply, val_main_call0_v4_apply, val_main_call0_v3_apply,
    val_main_call0_v2_apply, val_main_call0_v1_apply, val_main_call0_v0_apply, val_main_call0_c_apply,
    val_main_call0_v6_apply, val_main_call0_cst_apply]
  pointwise [A3]
  exact causal i1 i2 _

theorem r_v54 : val_main_v54 (F := Ideal) (X0 I) (X1 I) (X2 I) = A4 .f32 fun n p g c => (I.chunk n).vn p (col g c) := by
  funext i
  have h0 : (i 0 : ℕ) < 32 := (i 0).isLt
  have h1 : (i 1 : ℕ) < 128 := (i 1).isLt
  have h2 : (i 2 : ℕ) < 6 := (i 2).isLt
  have h3 : (i 3 : ℕ) < 128 := (i 3).isLt
  rw [val_main_v54_apply, r_v53]
  refine at_four (fun n => (I.chunk n).vn) _ i ?_ ?_
  · show ((((i 0 : ℕ) * 128 + (i 1 : ℕ)) * 6 + (i 2 : ℕ)) * 128 + (i 3 : ℕ)) / 768 = _
    omega
  · show ((((i 0 : ℕ) * 128 + (i 1 : ℕ)) * 6 + (i 2 : ℕ)) * 128 + (i 3 : ℕ)) % 768 = _
    omega

theorem r_v55 : val_main_v55 (F := Ideal) (X0 I) (X1 I) (X2 I) (X3 I)
    = A4 .f32 fun g n c p => ∑ s, (I.chunk n).vn s (col g c) * (I.chunk n).w g p s := by
  funext i
  rw [val_main_v55_apply, r_v54, r_v1 I (i 1)]
  refine Eq.trans ?_ (coe_sum _ _).symm
  refine Finset.sum_congr rfl fun k _ => ?_
  exact (EReal.coe_mul _ _).symm

theorem r_v61 : val_main_v61 (F := Ideal) (X0 I) (X1 I) (X2 I) (X3 I) (X4 I)
    = A4 .f32 fun n p g c => (I.chunk n).mixed p (col g c) := by
  funext i
  rw [val_main_v61_apply, val_main_v56_apply, r_v55, val_main_v60_apply, val_main_v59_apply, val_main_v58_apply,
    val_main_v57_apply]
  refine (EReal.coe_add _ _).symm.trans (congrArg Real.toEReal ?_)
  show (∑ s, (I.chunk (i 0)).vn s (col (i 2) (i 3)) * (I.chunk (i 0)).w (i 2) (i 1) s) + I.bs (i 2) (i 1) = _
  exact mixed_col (I.chunk (i 0)) (i 1) (i 2) (i 3)

theorem r_v62 : val_main_v62 (F := Ideal) (X0 I) (X1 I) (X2 I) (X3 I) (X4 I)
    = A2 .f32 fun r j => (B I r).mixed (posOf r) j := by
  funext i
  have h0 : (i 0 : ℕ) < 4096 := (i 0).isLt
  have h1 : (i 1 : ℕ) < 768 := (i 1).isLt
  rw [val_main_v62_apply, r_v61]
  refine at_two (fun n => (I.chunk n).mixed) i _ ?_ ?_ ?_ ?_
  · show ((i 0 : ℕ) * 768 + (i 1 : ℕ)) / 98304 = _
    omega
  · show ((i 0 : ℕ) * 768 + (i 1 : ℕ)) / 768 % 128 = _
    omega
  · show ((i 0 : ℕ) * 768 + (i 1 : ℕ)) / 128 % 6 = _
    omega
  · show ((i 0 : ℕ) * 768 + (i 1 : ℕ)) % 128 = _
    omega

theorem r_v64 : val_main_v64 (F := Ideal) (X0 I) (X5 I) = A2 .f32 fun r j => (B I r).dmix (posOf r) j := by
  funext i
  rw [val_main_v64_apply, r_v23]
  refine (EReal.coe_mul _ _).symm.trans (congrArg Real.toEReal ?_)
  exact (congrArg (_ * ·) (dy_eq I (i 0) (i 1)).symm).trans (mul_comm _ _)

theorem r_v65 : val_main_v65 (F := Ideal) (X0 I) (X1 I) (X2 I) (X3 I) (X4 I) (X5 I)
    = A2 .f32 fun r j => (B I r).du (posOf r) j := by
  funext i
  rw [val_main_v65_apply, r_v62]
  refine (EReal.coe_mul _ _).symm.trans (congrArg Real.toEReal ?_)
  exact congrArg (· * _) (dy_eq I (i 0) (i 1)).symm

theorem r_v66 : val_main_v66 (F := Ideal) (X0 I) (X5 I) = A4 .f32 fun n p g c => (I.chunk n).dmix p (col g c) := by
  funext i
  have h0 : (i 0 : ℕ) < 32 := (i 0).isLt
  have h1 : (i 1 : ℕ) < 128 := (i 1).isLt
  have h2 : (i 2 : ℕ) < 6 := (i 2).isLt
  have h3 : (i 3 : ℕ) < 128 := (i 3).isLt
  rw [val_main_v66_apply, r_v64]
  refine at_four (fun n => (I.chunk n).dmix) _ i ?_ ?_
  · show ((((i 0 : ℕ) * 128 + (i 1 : ℕ)) * 6 + (i 2 : ℕ)) * 128 + (i 3 : ℕ)) / 768 = _
    omega
  · show ((((i 0 : ℕ) * 128 + (i 1 : ℕ)) * 6 + (i 2 : ℕ)) * 128 + (i 3 : ℕ)) % 768 = _
    omega

theorem r_v73 : val_main_v73 (F := Ideal) (X0 I) (X5 I) = A4 .f32 fun g n c p => (I.chunk n).dmix p (col g c) := by
  funext i
  rw [val_main_v73_apply, r_v66]
  rfl

theorem r_v75 : val_main_v75 (F := Ideal) (X0 I) (X3 I) (X5 I)
    = A4 .f32 fun g n c s => ∑ p, (I.chunk n).dmix p (col g c) * (I.chunk n).w g p s := by
  funext i
  rw [val_main_v75_apply, r_v73, r_v1 I (i 1)]
  refine Eq.trans ?_ (coe_sum _ _).symm
  refine Finset.sum_congr rfl fun k _ => ?_
  exact (EReal.coe_mul _ _).symm

theorem r_v76 : val_main_v76 (F := Ideal) (X0 I) (X3 I) (X5 I)
    = A4 .f32 fun n s g c => (I.chunk n).dvn s (col g c) := by
  funext i
  rw [val_main_v76_apply, r_v75]
  refine congrArg Real.toEReal ?_
  show ∑ p, (I.chunk (i 0)).dmix p (col (i 2) (i 3)) * (I.chunk (i 0)).w (i 2) p (i 1) = _
  exact dvn_col (I.chunk (i 0)) (i 1) (i 2) (i 3)

theorem r_v77 : val_main_v77 (F := Ideal) (X0 I) (X3 I) (X5 I) = A2 .f32 fun r j => (B I r).dvn (posOf r) j := by
  funext i
  have h0 : (i 0 : ℕ) < 4096 := (i 0).isLt
  have h1 : (i 1 : ℕ) < 768 := (i 1).isLt
  rw [val_main_v77_apply, r_v76]
  refine at_two (fun n => (I.chunk n).dvn) i _ ?_ ?_ ?_ ?_
  · show ((i 0 : ℕ) * 768 + (i 1 : ℕ)) / 98304 = _
    omega
  · show ((i 0 : ℕ) * 768 + (i 1 : ℕ)) / 768 % 128 = _
    omega
  · show ((i 0 : ℕ) * 768 + (i 1 : ℕ)) / 128 % 6 = _
    omega
  · show ((i 0 : ℕ) * 768 + (i 1 : ℕ)) % 128 = _
    omega

theorem r_v74 : val_main_v74 (F := Ideal) (X0 I) (X1 I) (X2 I) (X5 I)
    = A3 .f32 fun g t s => ∑ n, (I.chunk n).dw g t s := by
  funext i
  idx_vars i
  unfold val_main_v74
  rw [r_v73, r_v54]
  pointwise [A4, A3]
  norm_cast

/-- A sum over the first and the last of four axes. -/
theorem sum_outer {n a b k : ℕ} (h : Shape.ReducesTo ⟨4, ![n, a, b, k]⟩ [0, 3] ⟨2, ![a, b]⟩)
    (x : Shape.Idx ⟨4, ![n, a, b, k]⟩ → EReal) (init : EReal) (p : Fin a) (g : Fin b) :
    Ideal.hostReduceAdd h x init (ix2 p g) = init + ∑ u, ∑ v, x (ix4 u p g v) := by
  unfold Ideal.hostReduceAdd
  congr 1
  refine (Finset.sum_filter_eq_sum_of_fiber _ (fun q : Fin n × Fin k => ix4 q.1 p g q.2)
    (fun _ _ e => Prod.ext (congrFun e 0) (congrFun e 3)) (fun i => ⟨fun e => ⟨(i 0, i 3), ?_⟩, ?_⟩) x).trans ?_
  · funext c
    apply Fin.ext
    match c with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨q, rfl⟩
    funext c
    apply Fin.ext
    match c with
    | ⟨0, _⟩ => rfl
    | ⟨1, _⟩ => rfl
  · simp only [Fintype.sum_prod_type]

theorem r_v67 : val_main_v67 (F := Ideal) (X0 I) (X5 I)
    = A2 (n := 128) (m := 6) .f32 fun p g => ∑ n, (I.chunk n).dbs g p := by
  funext i
  idx_vars i
  unfold val_main_v67
  rw [r_v66]
  refine (sum_outer reducesTo_S32x128x6x128_S128x6_d0_3 _ _ i0 i1).trans ?_
  rw [val_main_cst_13_apply]
  refine (congrArg (· + _) Ideal.ofBits_zero_f32).trans ((zero_add _).trans ?_)
  simp only [A4, A2]
  norm_cast

theorem r_v69 : val_main_v69 (F := Ideal) (X0 I) (X5 I)
    = A2 (n := 128) (m := 6) .f32 fun p g => ∑ n, (I.chunk n).dbs g p := by
  funext i
  idx_vars i
  unfold val_main_v69
  refine (sum_outer reducesTo_S1x128x6x1_S128x6_d0_3 _ _ i0 i1).trans ?_
  rw [val_main_cst_14_apply]
  refine (congrArg (· + _) Ideal.ofBits_zero_f32).trans ((zero_add _).trans ?_)
  simp only [Finset.univ_unique, Finset.sum_singleton, val_main_v68_apply, r_v67]
  have h1 : (i0 : ℕ) < 128 := i0.isLt
  have h2 : (i1 : ℕ) < 6 := i1.isLt
  refine congrArg Real.toEReal (congrArg₂ (fun (p : Fin 128) (g : Fin 6) => ∑ n, (I.chunk n).dbs g p) (Fin.ext ?_) (Fin.ext ?_))
  · show (((0 * 128 + (i0 : ℕ)) * 6 + (i1 : ℕ)) * 1 + 0) / 6 = (i0 : ℕ)
    omega
  · show (((0 * 128 + (i0 : ℕ)) * 6 + (i1 : ℕ)) * 1 + 0) % 6 = (i1 : ℕ)
    omega

theorem r_v128 : val_main_v128 (F := Ideal) (X0 I) (X5 I)
    = A3 .f32 fun g p (_ : Fin 1) => ∑ n, (I.chunk n).dbs g p := by
  funext i
  rw [val_main_v128_apply, val_main_v72_apply, val_main_v71_apply, val_main_cst_15_apply]
  refine (congrArg (· + _) Ideal.ofBits_zero_f32).trans ((zero_add _).trans ?_)
  simp only [Finset.univ_unique, Finset.sum_singleton, val_main_v70_apply, r_v69]
  rfl

end Cert.Sgu.Ref
-- ==== Proof.Sgu.RefGrad.lean ====
/- The reference, stage by stage over the real numbers: the layer norm's gradients and the results. -/
module

public import proofs.«01_k».proof.Proof.Sgu.RefMix

@[expose] public section

set_option maxRecDepth 16384

noncomputable section

namespace Cert.Sgu.Ref

open Idealize.ShloMosaic Idealize.ShloMosaic.TcCoe Cert.Reals Cert.Sgu Cert.ReferenceIdeal Cert.ReferenceIdeal.Gen
  Cert.ReferenceIdeal.Read

variable (I : Inputs)

theorem r_v130 : val_main_v130 (F := Ideal) (X0 I) (X3 I) (X5 I) = A2 .f32 fun (_ : Fin 1) j => ∑ n, (I.chunk n).db j := by
  funext i
  rw [val_main_v130_apply, val_main_v80_apply, val_main_cst_17_apply]
  refine (congrArg (· + _) Ideal.ofBits_zero_f32).trans ((zero_add _).trans ?_)
  simp only [Finset.univ_unique, Finset.sum_singleton, val_main_v79_apply, val_main_v78_apply, val_main_cst_16_apply, r_v77]
  refine (sum_init (fun r => (B I r).dvn (posOf r) _)).trans (congrArg Real.toEReal ?_)
  refine (sum_rows fun n p => (I.chunk n).dvn p _).trans (Finset.sum_congr rfl fun n _ => congrArg (I.chunk n).db (Fin.ext ?_))
  show 0 * 768 + (i 1 : ℕ) = (i 1 : ℕ)
  omega

theorem r_v81 : val_main_v81 (F := Ideal) (X0 I) (X3 I) (X5 I)
    = A2 .f32 fun r j => (B I r).xh (posOf r) j * (B I r).dvn (posOf r) j := by
  funext i
  rw [val_main_v81_apply, r_v47, r_v77]
  exact (EReal.coe_mul _ _).symm

theorem r_v129 : val_main_v129 (F := Ideal) (X0 I) (X3 I) (X5 I) = A2 .f32 fun (_ : Fin 1) j => ∑ n, (I.chunk n).dg j := by
  funext i
  rw [val_main_v129_apply, val_main_v86_apply, val_main_cst_19_apply]
  refine (congrArg (· + _) Ideal.ofBits_zero_f32).trans ((zero_add _).trans ?_)
  simp only [Finset.univ_unique, Finset.sum_singleton, val_main_v83_apply, val_main_v82_apply, val_main_cst_18_apply, r_v81]
  refine (sum_init (fun r => (B I r).xh (posOf r) _ * (B I r).dvn (posOf r) _)).trans (congrArg Real.toEReal ?_)
  refine (sum_rows fun n p => (I.chunk n).xh p _ * (I.chunk n).dvn p _).trans
    (Finset.sum_congr rfl fun n _ => congrArg (I.chunk n).dg (Fin.ext ?_))
  show 0 * 768 + (i 1 : ℕ) = (i 1 : ℕ)
  omega

theorem r_v85 : val_main_v85 (F := Ideal) (X0 I) (X1 I) (X3 I) (X5 I) = A2 .f32 fun r j => (B I r).dxh (posOf r) j := by
  funext i
  simp only [
    val_main_v85_apply, val_main_v84_apply, val_main_v48_apply, r_v77]
  pointwise [A1, A2]
  norm_cast

theorem r_v87 : val_main_v87 (F := Ideal) (X0 I) (X1 I) (X3 I) (X5 I) = A2 .f32 fun r j => (B I r).xc (posOf r) j * (B I r).dxh (posOf r) j := by
  funext i
  simp only [
    val_main_v87_apply, r_v39, r_v85]
  pointwise [A2]
  norm_cast

theorem r_v88 : val_main_v88 (F := Ideal) (X0 I) (X1 I) (X3 I) (X5 I) = A1 (n := 4096) .f32 fun r => ∑ j, (B I r).xc (posOf r) j * (B I r).dxh (posOf r) j := by
  funext i
  rw [val_main_v88_apply, r_v87, val_main_cst_20_apply]
  exact sum_init (fun j => (B I (i 0)).xc (posOf (i 0)) j * (B I (i 0)).dxh (posOf (i 0)) j)

theorem r_v91 : val_main_v91 (F := Ideal) (X0 I) (X1 I) (X3 I) (X5 I) = A2 .f32 fun r j => (B I r).dxh (posOf r) j * (B I r).r (posOf r) := by
  funext i
  simp only [
    val_main_v91_apply, val_main_v90_apply, r_v42, r_v85]
  pointwise [A2]
  norm_cast

theorem r_v97 : val_main_v97 (F := Ideal) (X0 I) (X1 I) (X3 I) (X5 I)
    = A2 (n := 4096) (m := 1) .f32 fun r _ => (B I r).q (posOf r) := by
  funext i
  rw [val_main_v97_apply, val_main_v92_apply, val_main_v89_apply, r_v88, r_v45, val_main_v96_apply, val_main_cst_22_apply]
  have e : (idx_main_v89 i) 0 = i 0 := Fin.ext (by
    show (i 0 : ℕ) * 1 + (i 1 : ℕ) = (i 0 : ℕ)
    have : (i 1 : ℕ) < 1 := (i 1).isLt
    omega)
  refine (congrArg (fun r : Fin 4096 => Ideal.div (((∑ j, (B I r).xc (posOf r) j * (B I r).dxh (posOf r) j : ℝ) : EReal) * _) _) e).trans ?_
  refine (congrArg₂ Ideal.div (EReal.coe_mul _ _).symm n768_f32).trans ?_
  exact div_real _ (by norm_num)

theorem r_v98 : val_main_v98 (F := Ideal) (X0 I) (X1 I) (X3 I) (X5 I) = A1 .f32 fun r => (B I r).q (posOf r) := by
  funext i
  rw [val_main_v98_apply, val_main_cst_23_apply, r_v97]
  refine (sum_init (fun _ : Fin 1 => (B I (i 0)).q (posOf (i 0)))).trans (congrArg Real.toEReal ?_)
  simp

theorem r_v100 : val_main_v100 (F := Ideal) (X0 I) (X1 I) (X3 I) (X5 I) = A2 .f32 fun r j => (B I r).q (posOf r) * (2 * (B I r).xc (posOf r) j) := by
  funext i
  simp only [
    val_main_v100_apply, val_main_v99_apply, r_v33, r_v98]
  pointwise [A1, A2]
  norm_cast

theorem r_v93 : val_main_v93 (F := Ideal) (X0 I) (X1 I) (X3 I) (X5 I) = A2 .f32 fun r j => -((B I r).dxh (posOf r) j * (B I r).r (posOf r)) := by
  funext i
  simp only [
    val_main_v93_apply, r_v91]
  pointwise [A2]
  norm_cast

theorem r_v94 : val_main_v94 (F := Ideal) (X0 I) (X1 I) (X3 I) (X5 I) = A1 (n := 4096) .f32 fun r => ∑ j : Fin 768, -((B I r).dxh (posOf r) j * (B I r).r (posOf r)) := by
  funext i
  rw [val_main_v94_apply, r_v93, val_main_cst_21_apply]
  exact sum_init (fun j : Fin 768 => -((B I (i 0)).dxh (posOf (i 0)) j * (B I (i 0)).r (posOf (i 0))))

theorem r_v101 : val_main_v101 (F := Ideal) (X0 I) (X1 I) (X3 I) (X5 I) = A2 .f32 fun r j => -((B I r).q (posOf r) * (2 * (B I r).xc (posOf r) j)) := by
  funext i
  simp only [
    val_main_v101_apply, r_v100]
  pointwise [A2]
  norm_cast

theorem r_v102 : val_main_v102 (F := Ideal) (X0 I) (X1 I) (X3 I) (X5 I) = A1 (n := 4096) .f32 fun r => ∑ j : Fin 768, -((B I r).q (posOf r) * (2 * (B I r).xc (posOf r) j)) := by
  funext i
  rw [val_main_v102_apply, r_v101, val_main_cst_24_apply]
  exact sum_init (fun j : Fin 768 => -((B I (i 0)).q (posOf (i 0)) * (2 * (B I (i 0)).xc (posOf (i 0)) j)))

theorem r_v107 : val_main_v107 (F := Ideal) (X0 I) (X1 I) (X3 I) (X5 I)
    = A2 (n := 4096) (m := 1) .f32 fun r _ => -(∑ j, (B I r).dxc (posOf r) j) / 768 := by
  funext i
  rw [val_main_v107_apply, val_main_v105_apply, val_main_v95_apply, val_main_v103_apply, r_v94, r_v102, val_main_v106_apply,
    val_main_cst_25_apply]
  have h : (i 1 : ℕ) < 1 := (i 1).isLt
  have e : (idx_main_v95 i) 0 = i 0 := Fin.ext (by
    show (i 0 : ℕ) * 1 + (i 1 : ℕ) = (i 0 : ℕ)
    omega)
  refine (congrArg (fun r : Fin 4096 => Ideal.div
    (((∑ j : Fin 768, -((B I r).dxh (posOf r) j * (B I r).r (posOf r)) : ℝ) : EReal)
      + ((∑ j : Fin 768, -((B I r).q (posOf r) * (2 * (B I r).xc (posOf r) j)) : ℝ) : EReal)) _) e).trans ?_
  refine (congrArg₂ Ideal.div (EReal.coe_add _ _).symm n768_f32).trans ?_
  refine (div_real _ (by norm_num)).trans (congrArg Real.toEReal ?_)
  congr 1
  rw [← Finset.sum_add_distrib, ← Finset.sum_neg_distrib]
  refine Finset.sum_congr rfl fun j _ => ?_
  simp only [Chunk.dxc]
  ring

theorem r_v108 : val_main_v108 (F := Ideal) (X0 I) (X1 I) (X3 I) (X5 I)
    = A1 .f32 fun r => -(∑ j, (B I r).dxc (posOf r) j) / 768 := by
  funext i
  rw [val_main_v108_apply, val_main_cst_26_apply, r_v107]
  refine (sum_init (fun _ : Fin 1 => -(∑ j, (B I (i 0)).dxc (posOf (i 0)) j) / 768)).trans (congrArg Real.toEReal ?_)
  simp

theorem dv_split (c : Chunk) (p : Fin 128) (j : Fin 768) :
    c.dxh p j * c.r p + c.q p * (2 * c.xc p j) + -(∑ k, c.dxc p k) / 768 = c.dv p j := by
  rw [Chunk.dv, show c.dxc p j = c.dxh p j * c.r p + 2 * c.xc p j * c.q p from rfl]
  ring

theorem r_v110 : val_main_v110 (F := Ideal) (X0 I) (X1 I) (X3 I) (X5 I) = A2 .f32 fun r j => (B I r).dv (posOf r) j := by
  funext i
  simp only [
    val_main_v110_apply, val_main_v104_apply, val_main_v109_apply, r_v91, r_v100, r_v108]
  pointwise [A1, A2]
  norm_cast
  exact congrArg Real.toEReal (dv_split (B I (i 0)) (posOf (i 0)) (i 1))

/-- The gradients of GELU's two results, side by side. -/
def dd (r : Fin 4096) (k : Fin 1536) : ℝ :=
  if h : k.val < 768 then (B I r).du (posOf r) ⟨k, h⟩ else (B I r).dv (posOf r) ⟨k - 768, by omega⟩

theorem r_v111 : val_main_v111 (F := Ideal) (X0 I) (X1 I) (X2 I) (X3 I) (X4 I) (X5 I) = A2 .f32 (dd I) := by
  funext i
  idx_vars i
  unfold val_main_v111
  rw [r_v65, r_v110]
  pointwise [A2]
  unfold dd
  split <;> rfl

theorem r_v123 : val_main_v123 (F := Ideal) (X0 I) (X1 I) (X2 I) (X3 I) (X4 I) (X5 I) = A2 .f32 fun r k => dd I r k * gelu' (zz I r k) := by
  funext i
  simp only [
    val_main_v123_apply, val_main_v119_apply, val_main_v122_apply, val_main_v113_apply, val_main_v118_apply,
    val_main_v121_apply, val_main_v117_apply, val_main_v116_apply, val_main_v120_apply, val_main_cst_28_apply,
    val_main_v115_apply, val_main_cst_29_apply, val_main_v114_apply, val_main_v112_apply, val_main_cst_27_apply,
    r_v0, r_v6, r_v17, r_v21, r_v111]
  pointwise [A2]
  simp only [half_f32, gc_f32, ga_f32]
  norm_cast
  simp only [gelu']
  ring_nf

theorem r_v126 : val_main_v126 (F := Ideal) (X0 I) (X1 I) (X2 I) (X3 I) (X4 I) (X5 I)
    = A2 .bf16 fun r j => (B I r).dzu (posOf r) j := by
  funext i
  rw [val_main_v126_apply, val_main_v124_apply, r_v123]
  refine congrArg Real.toEReal (congrArg₂ (fun x y : ℝ => x * gelu' y) ?_ (zu_eq I (i 0) (i 1)).symm)
  exact dif_pos (i 1).isLt

theorem r_v127 : val_main_v127 (F := Ideal) (X0 I) (X1 I) (X2 I) (X3 I) (X4 I) (X5 I)
    = A2 .bf16 fun r j => (B I r).dzv (posOf r) j := by
  funext i
  rw [val_main_v127_apply, val_main_v125_apply, r_v123]
  refine congrArg Real.toEReal (congrArg₂ (fun x y : ℝ => x * gelu' y) ?_ (zv_eq I (i 0) (i 1)).symm)
  refine (dif_neg (by show ¬ 768 + (i 1 : ℕ) < 768; omega)).trans (congrArg ((B I (i 0)).dv (posOf (i 0))) (Fin.ext ?_))
  show 768 + (i 1 : ℕ) - 768 = (i 1 : ℕ)
  omega

end Cert.Sgu.Ref
-- ==== Proof.Sgu.Claim.lean ====
/- The kernel's and the reference's results are the same real arrays; with the frames, everything claimed of the gating unit's
   backward pass. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Sgu.Args
public import proofs.«01_k».proof.Proof.Sgu.Arrays
public import proofs.«01_k».proof.Proof.Sgu.RefGrad
public import Idealize.ShloMosaic.Lib.Quiescent

@[expose] public section

noncomputable section

namespace Cert.Sgu

open Idealize.ShloMosaic Idealize.ShloMosaic.TcCoe Idealize.SL.Sem Idealize.ShloMosaic.StableHlo Cert.Reals

attribute [local instance] Cert.Kernel.Gen.facts Cert.KernelIdeal.Gen.facts Cert.ReferenceIdeal.Gen.facts finiteFacts

theorem frame_p : Cert.quiescent_Kernel := fun m ρ _ => Cert.Kernel.Gen.frame m ρ
theorem frame_p_none : Cert.quiescent_Kernel_pre_none := fun m ρ _ => Cert.Kernel.Gen.frame m ρ
theorem frame_pi : Cert.quiescent_KernelIdeal := fun m ρ _ => Cert.KernelIdeal.Gen.frame m ρ
theorem frame_pi_none : Cert.quiescent_KernelIdeal_pre_none := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run m ρ)

section

variable (m : (ℓ : Loc Cert.KernelIdeal.nD Cert.KernelIdeal.τ Cert.KernelIdeal.sig) → Buf (Elt Ideal) ℓ)

/-- The real arrays of a device's arguments. -/
def held (c : Dev Cert.KernelIdeal.nD) : Inputs :=
  inputs (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5))

theorem holds (h : Cert.Pre_KernelIdeal m) (c : Dev Cert.KernelIdeal.nD) : Holds (held m c) m c := by
  obtain ⟨h0, h1, h2, h3, h4, h5⟩ := args_real _ _ _ _ _ _ (h c)
  exact ⟨h0, h1, h2, h3, h4, h5⟩

end

theorem value : Cert.algebraic_KernelIdeal_ReferenceIdeal := by
  intro m g m' g' hp ha
  refine ⟨fun c => A2 .bf16 fun r j => ((held m c).chunk (chunkOf r)).dzu (posOf r) j,
    fun c => A2 .bf16 fun r j => ((held m c).chunk (chunkOf r)).dzv (posOf r) j,
    fun c => A3 .f32 fun g t s => ∑ n, ((held m c).chunk n).dw g t s,
    fun c => A3 .f32 fun g p (_ : Fin 1) => ∑ n, ((held m c).chunk n).dbs g p,
    fun c => A2 .f32 fun (_ : Fin 1) j => ∑ n, ((held m c).chunk n).dg j,
    fun c => A2 .f32 fun (_ : Fin 1) j => ∑ n, ((held m c).chunk n).db j, ?_, ?_⟩
  · refine (θ_run Cert.KernelIdeal.defs _ _).mono (fun r h c => ?_) (Cert.KernelIdeal.Value.run_blocks m g)
    obtain ⟨h7, h8, h9, h10, h11, h12, kept⟩ := h c
    have H := holds m hp c
    exact ⟨h7.trans (arr7 H), h8.trans (arr8 H), h9.trans (arr9 H), h10.trans (arr10 H), h11.trans (arr11 H),
      h12.trans (arr12 H), kept⟩
  · refine (θ_run Cert.ReferenceIdeal.defs _ _).mono (fun r h c => ?_) (Cert.ReferenceIdeal.Value.run m' g')
    obtain ⟨h0, h1, h2, h3, h4, h5, kept⟩ := h c
    have H := holds m hp c
    obtain ⟨a0, a1, a2, a3, a4, a5⟩ := ha c
    have a0 : launchContents m' c (Proc.devRef .tc Cert.ReferenceIdeal.main_arg0) = Ref.X0 (held m c) := a0.trans H.rest
    have a1 : launchContents m' c (Proc.devRef .tc Cert.ReferenceIdeal.main_arg1) = Ref.X1 (held m c) := a1.trans H.g
    have a2 : launchContents m' c (Proc.devRef .tc Cert.ReferenceIdeal.main_arg2) = Ref.X2 (held m c) := a2.trans H.b
    have a3 : launchContents m' c (Proc.devRef .tc Cert.ReferenceIdeal.main_arg3) = Ref.X3 (held m c) := a3.trans H.w
    have a4 : launchContents m' c (Proc.devRef .tc Cert.ReferenceIdeal.main_arg4) = Ref.X4 (held m c) := a4.trans H.bs
    have a5 : launchContents m' c (Proc.devRef .tc Cert.ReferenceIdeal.main_arg5) = Ref.X5 (held m c) := a5.trans H.dy
    refine ⟨h0.trans ?_, h1.trans ?_, h2.trans ?_, h3.trans ?_, h4.trans ?_, h5.trans ?_, kept⟩
    · rw [Cert.ReferenceIdeal.Read.val_main_v126_eq, a0, a1, a2, a3, a4, a5]
      exact Ref.r_v126 _
    · rw [Cert.ReferenceIdeal.Read.val_main_v127_eq, a0, a1, a2, a3, a4, a5]
      exact Ref.r_v127 _
    · rw [Cert.ReferenceIdeal.Read.val_main_v74_eq, a0, a1, a2, a5]
      exact Ref.r_v74 _
    · rw [Cert.ReferenceIdeal.Read.val_main_v128_eq, a0, a5]
      exact Ref.r_v128 _
    · rw [Cert.ReferenceIdeal.Read.val_main_v129_eq, a0, a3, a5]
      exact Ref.r_v129 _
    · rw [Cert.ReferenceIdeal.Read.val_main_v130_eq, a0, a3, a5]
      exact Ref.r_v130 _

end Cert.Sgu
-- ==== Proof.lean ====
module

public import proofs.«01_k».proof.Defs
public import proofs.«01_k».proof.Proof.Gen.ProjInDgrad.Frame
public import proofs.«01_k».proof.Proof.Gen.ProjInDgradIdeal.Frame
public import proofs.«01_k».proof.Proof.Products.ProjInDgrad
public import proofs.«01_k».proof.Proof.Gen.FfnOutWgrad.Frame
public import proofs.«01_k».proof.Proof.Gen.FfnOutWgradIdeal.Frame
public import proofs.«01_k».proof.Proof.Products.FfnOutWgrad
public import proofs.«01_k».proof.Proof.Gen.FfnOutDgrad.Frame
public import proofs.«01_k».proof.Proof.Gen.FfnOutDgradIdeal.Frame
public import proofs.«01_k».proof.Proof.Products.FfnOutDgrad
public import proofs.«01_k».proof.Proof.Gen.ProjInWgrad.Frame
public import proofs.«01_k».proof.Proof.Gen.ProjInWgradIdeal.Frame
public import proofs.«01_k».proof.Proof.Products.ProjInWgrad
public import proofs.«01_k».proof.Proof.Gen.FfnInDgrad.Frame
public import proofs.«01_k».proof.Proof.Gen.FfnInDgradIdeal.Frame
public import proofs.«01_k».proof.Proof.Products.FfnInDgrad
public import proofs.«01_k».proof.Proof.Gen.FfnInWgrad.Frame
public import proofs.«01_k».proof.Proof.Gen.FfnInWgradIdeal.Frame
public import proofs.«01_k».proof.Proof.Products.FfnInWgrad
public import proofs.«01_k».proof.Proof.Gen.ProjODgrad.Frame
public import proofs.«01_k».proof.Proof.Gen.ProjODgradIdeal.Frame
public import proofs.«01_k».proof.Proof.Products.ProjODgrad
public import proofs.«01_k».proof.Proof.Gen.ProjOWgrad.Frame
public import proofs.«01_k».proof.Proof.Gen.ProjOWgradIdeal.Frame
public import proofs.«01_k».proof.Proof.Products.ProjOWgrad
public import proofs.«01_k».proof.Proof.Gen.ProjADgrad.Frame
public import proofs.«01_k».proof.Proof.Gen.ProjADgradIdeal.Frame
public import proofs.«01_k».proof.Proof.Products.ProjADgrad
public import proofs.«01_k».proof.Proof.Gen.ProjAWgrad.Frame
public import proofs.«01_k».proof.Proof.Gen.ProjAWgradIdeal.Frame
public import proofs.«01_k».proof.Proof.Products.ProjAWgrad
public import proofs.«01_k».proof.Proof.Gen.ProjBDgrad.Frame
public import proofs.«01_k».proof.Proof.Gen.ProjBDgradIdeal.Frame
public import proofs.«01_k».proof.Proof.Products.ProjBDgrad
public import proofs.«01_k».proof.Proof.Gen.ProjBWgrad.Frame
public import proofs.«01_k».proof.Proof.Gen.ProjBWgradIdeal.Frame
public import proofs.«01_k».proof.Proof.Products.ProjBWgrad
public import proofs.«01_k».proof.Proof.Gen.ProjQkv.Frame
public import proofs.«01_k».proof.Proof.Gen.ProjQkvIdeal.Frame
public import proofs.«01_k».proof.Proof.Products.ProjQkv
public import proofs.«01_k».proof.Proof.Gen.ProjRest.Frame
public import proofs.«01_k».proof.Proof.Gen.ProjRestIdeal.Frame
public import proofs.«01_k».proof.Proof.Products.ProjRest
public import proofs.«01_k».proof.Proof.Gen.FfnIn.Frame
public import proofs.«01_k».proof.Proof.Gen.FfnInIdeal.Frame
public import proofs.«01_k».proof.Proof.Products.FfnIn
public import proofs.«01_k».proof.Proof.Gen.FfnOut.Frame
public import proofs.«01_k».proof.Proof.Gen.FfnOutIdeal.Frame
public import proofs.«01_k».proof.Proof.Products.FfnOut
public import proofs.«01_k».proof.Proof.Gen.ProjO.Frame
public import proofs.«01_k».proof.Proof.Gen.ProjOIdeal.Frame
public import proofs.«01_k».proof.Proof.Products.ProjO
public import proofs.«01_k».proof.Proof.Gen.ProjA.Frame
public import proofs.«01_k».proof.Proof.Gen.ProjAIdeal.Frame
public import proofs.«01_k».proof.Proof.Products.ProjA
public import proofs.«01_k».proof.Proof.Gen.ProjB.Frame
public import proofs.«01_k».proof.Proof.Gen.ProjBIdeal.Frame
public import proofs.«01_k».proof.Proof.Products.ProjB
public import proofs.«01_k».proof.Proof.Gen.MergeBwd.Frame
public import proofs.«01_k».proof.Proof.Gen.MergeBwdIdeal.Frame
public import proofs.«01_k».proof.Proof.Gates.MergeBwd
public import proofs.«01_k».proof.Proof.Gen.SwigluBwd.Frame
public import proofs.«01_k».proof.Proof.Gen.SwigluBwdIdeal.Frame
public import proofs.«01_k».proof.Proof.Gates.SwigluBwd
public import proofs.«01_k».proof.Proof.Gen.GluBwd.Frame
public import proofs.«01_k».proof.Proof.Gen.GluBwdIdeal.Frame
public import proofs.«01_k».proof.Proof.Gates.GluBwd
public import proofs.«01_k».proof.Proof.Gen.GluProj.Frame
public import proofs.«01_k».proof.Proof.Gen.GluProjIdeal.Frame
public import proofs.«01_k».proof.Proof.Products.GluProj
public import proofs.«01_k».proof.Proof.Gen.GluWgrad.Frame
public import proofs.«01_k».proof.Proof.Gen.GluWgradIdeal.Frame
public import proofs.«01_k».proof.Proof.Products.GluWgrad
public import proofs.«01_k».proof.Proof.Gen.GluDgrad.Frame
public import proofs.«01_k».proof.Proof.Gen.GluDgradIdeal.Frame
public import proofs.«01_k».proof.Proof.Products.GluDgrad
public import proofs.«01_k».proof.Proof.Gen.BInGrad.Frame
public import proofs.«01_k».proof.Proof.Gen.BInGradIdeal.Frame
public import proofs.«01_k».proof.Proof.Gates.BInGrad
public import proofs.«01_k».proof.Proof.Gen.Merge.Frame
public import proofs.«01_k».proof.Proof.Gen.MergeIdeal.Frame
public import proofs.«01_k».proof.Proof.Gates.Merge
public import proofs.«01_k».proof.Proof.Gen.Swiglu.Frame
public import proofs.«01_k».proof.Proof.Gen.SwigluIdeal.Frame
public import proofs.«01_k».proof.Proof.Gates.Swiglu
public import proofs.«01_k».proof.Proof.Gen.Glu.Frame
public import proofs.«01_k».proof.Proof.Gen.GluIdeal.Frame
public import proofs.«01_k».proof.Proof.Gates.Glu
public import proofs.«01_k».proof.Proof.Gen.LnBwd.Frame
public import proofs.«01_k».proof.Proof.Gen.LnBwdIdeal.Frame
public import proofs.«01_k».proof.Proof.Norm.LnBwd
public import proofs.«01_k».proof.Proof.Gen.SsmSkipGeluBwd.Frame
public import proofs.«01_k».proof.Proof.Gen.SsmSkipGeluBwdIdeal.Frame
public import proofs.«01_k».proof.Proof.Ssm.SsmSkipGeluBwd
public import proofs.«01_k».proof.Proof.Gen.SsmOutDgrad.Frame
public import proofs.«01_k».proof.Proof.Gen.SsmOutDgradIdeal.Frame
public import proofs.«01_k».proof.Proof.Ssm.SsmOutDgrad
public import proofs.«01_k».proof.Proof.Gen.SsmOutWgrad.Frame
public import proofs.«01_k».proof.Proof.Gen.SsmOutWgradIdeal.Frame
public import proofs.«01_k».proof.Proof.Ssm.SsmOutWgrad
public import proofs.«01_k».proof.Proof.Gen.SsmInDgrad.Frame
public import proofs.«01_k».proof.Proof.Gen.SsmInDgradIdeal.Frame
public import proofs.«01_k».proof.Proof.Ssm.SsmInDgrad
public import proofs.«01_k».proof.Proof.Gen.SsmInWgrad.Frame
public import proofs.«01_k».proof.Proof.Gen.SsmInWgradIdeal.Frame
public import proofs.«01_k».proof.Proof.Ssm.SsmInWgrad
public import proofs.«01_k».proof.Proof.Gen.SsmDuc.Frame
public import proofs.«01_k».proof.Proof.Gen.SsmDucIdeal.Frame
public import proofs.«01_k».proof.Proof.Ssm.SsmDuc
public import proofs.«01_k».proof.Proof.Gen.SsmIn.Frame
public import proofs.«01_k».proof.Proof.Gen.SsmInIdeal.Frame
public import proofs.«01_k».proof.Proof.Ssm.SsmIn
public import proofs.«01_k».proof.Proof.Gen.SsmSkipGelu.Frame
public import proofs.«01_k».proof.Proof.Gen.SsmSkipGeluIdeal.Frame
public import proofs.«01_k».proof.Proof.Ssm.SsmSkipGelu
public import proofs.«01_k».proof.Proof.Gen.Ln.Frame
public import proofs.«01_k».proof.Proof.Gen.LnIdeal.Frame
public import proofs.«01_k».proof.Proof.Norm.Ln
public import proofs.«01_k».proof.Proof.Gen.LossHead.Frame
public import proofs.«01_k».proof.Proof.Gen.LossHeadIdeal.Frame
public import proofs.«01_k».proof.Proof.Norm.LossHead
public import proofs.«01_k».proof.Proof.Gen.AdamwWIn.Frame
public import proofs.«01_k».proof.Proof.Gen.AdamwWInIdeal.Frame
public import proofs.«01_k».proof.Proof.Adam.AdamwWIn
public import proofs.«01_k».proof.Proof.Gen.AdamwWGlu.Frame
public import proofs.«01_k».proof.Proof.Gen.AdamwWGluIdeal.Frame
public import proofs.«01_k».proof.Proof.Adam.AdamwWGlu
public import proofs.«01_k».proof.Proof.Gen.AdamwWPa.Frame
public import proofs.«01_k».proof.Proof.Gen.AdamwWPaIdeal.Frame
public import proofs.«01_k».proof.Proof.Adam.AdamwWPa
public import proofs.«01_k».proof.Proof.Gen.AdamwWPb.Frame
public import proofs.«01_k».proof.Proof.Gen.AdamwWPbIdeal.Frame
public import proofs.«01_k».proof.Proof.Adam.AdamwWPb
public import proofs.«01_k».proof.Proof.Gen.AdamwWO.Frame
public import proofs.«01_k».proof.Proof.Gen.AdamwWOIdeal.Frame
public import proofs.«01_k».proof.Proof.Adam.AdamwWO
public import proofs.«01_k».proof.Proof.Gen.AdamwWFfnIn.Frame
public import proofs.«01_k».proof.Proof.Gen.AdamwWFfnInIdeal.Frame
public import proofs.«01_k».proof.Proof.Adam.AdamwWFfnIn
public import proofs.«01_k».proof.Proof.Gen.AdamwWFfnOut.Frame
public import proofs.«01_k».proof.Proof.Gen.AdamwWFfnOutIdeal.Frame
public import proofs.«01_k».proof.Proof.Adam.AdamwWFfnOut
public import proofs.«01_k».proof.Proof.Gen.AdamwSmall.Frame
public import proofs.«01_k».proof.Proof.Gen.AdamwSmallIdeal.Frame
public import proofs.«01_k».proof.Proof.Adam.AdamwSmall
public import proofs.«01_k».proof.Proof.Gen.SguFwd.Frame
public import proofs.«01_k».proof.Proof.Gen.SguFwdIdeal.Frame
public import proofs.«01_k».proof.Proof.Sgu.SguFwd
public import proofs.«01_k».proof.Proof.Gen.SsmOut.Frame
public import proofs.«01_k».proof.Proof.Gen.SsmOutIdeal.Frame
public import proofs.«01_k».proof.Proof.Ssm.SsmOut
public import proofs.«01_k».proof.Proof.Gen.SsmParams.Frame
public import proofs.«01_k».proof.Proof.Gen.SsmParamsIdeal.Frame
public import proofs.«01_k».proof.Proof.Ssm.SsmParams
public import proofs.«01_k».proof.Proof.Gen.AttnFwd.Frame
public import proofs.«01_k».proof.Proof.Gen.AttnFwdIdeal.Frame
public import proofs.«01_k».proof.Proof.Attn.Value
public import proofs.«01_k».proof.Proof.Sgu.Claim
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.ProjInDgrad.Gen.facts, Cert.ProjInDgradIdeal.Gen.facts, Cert.ProjInDgradRefIdeal.Gen.facts,
    Cert.FfnOutWgrad.Gen.facts, Cert.FfnOutWgradIdeal.Gen.facts, Cert.FfnOutWgradRefIdeal.Gen.facts,
    Cert.FfnOutDgrad.Gen.facts, Cert.FfnOutDgradIdeal.Gen.facts, Cert.FfnOutDgradRefIdeal.Gen.facts,
    Cert.ProjInWgrad.Gen.facts, Cert.ProjInWgradIdeal.Gen.facts, Cert.ProjInWgradRefIdeal.Gen.facts,
    Cert.FfnInDgrad.Gen.facts, Cert.FfnInDgradIdeal.Gen.facts, Cert.FfnInDgradRefIdeal.Gen.facts,
    Cert.FfnInWgrad.Gen.facts, Cert.FfnInWgradIdeal.Gen.facts, Cert.FfnInWgradRefIdeal.Gen.facts,
    Cert.ProjODgrad.Gen.facts, Cert.ProjODgradIdeal.Gen.facts, Cert.ProjODgradRefIdeal.Gen.facts,
    Cert.ProjOWgrad.Gen.facts, Cert.ProjOWgradIdeal.Gen.facts, Cert.ProjOWgradRefIdeal.Gen.facts,
    Cert.ProjADgrad.Gen.facts, Cert.ProjADgradIdeal.Gen.facts, Cert.ProjADgradRefIdeal.Gen.facts,
    Cert.ProjAWgrad.Gen.facts, Cert.ProjAWgradIdeal.Gen.facts, Cert.ProjAWgradRefIdeal.Gen.facts,
    Cert.ProjBDgrad.Gen.facts, Cert.ProjBDgradIdeal.Gen.facts, Cert.ProjBDgradRefIdeal.Gen.facts,
    Cert.ProjBWgrad.Gen.facts, Cert.ProjBWgradIdeal.Gen.facts, Cert.ProjBWgradRefIdeal.Gen.facts,
    Cert.ProjQkv.Gen.facts, Cert.ProjQkvIdeal.Gen.facts, Cert.ProjQkvRefIdeal.Gen.facts,
    Cert.ProjRest.Gen.facts, Cert.ProjRestIdeal.Gen.facts, Cert.ProjRestRefIdeal.Gen.facts,
    Cert.FfnIn.Gen.facts, Cert.FfnInIdeal.Gen.facts, Cert.FfnInRefIdeal.Gen.facts,
    Cert.FfnOut.Gen.facts, Cert.FfnOutIdeal.Gen.facts, Cert.FfnOutRefIdeal.Gen.facts,
    Cert.ProjO.Gen.facts, Cert.ProjOIdeal.Gen.facts, Cert.ProjORefIdeal.Gen.facts,
    Cert.ProjA.Gen.facts, Cert.ProjAIdeal.Gen.facts, Cert.ProjARefIdeal.Gen.facts,
    Cert.ProjB.Gen.facts, Cert.ProjBIdeal.Gen.facts, Cert.ProjBRefIdeal.Gen.facts,
    Cert.MergeBwd.Gen.facts, Cert.MergeBwdIdeal.Gen.facts, Cert.MergeBwdRefIdeal.Gen.facts,
    Cert.SwigluBwd.Gen.facts, Cert.SwigluBwdIdeal.Gen.facts, Cert.SwigluBwdRefIdeal.Gen.facts,
    Cert.GluBwd.Gen.facts, Cert.GluBwdIdeal.Gen.facts, Cert.GluBwdRefIdeal.Gen.facts,
    Cert.GluProj.Gen.facts, Cert.GluProjIdeal.Gen.facts, Cert.GluProjRefIdeal.Gen.facts,
    Cert.GluWgrad.Gen.facts, Cert.GluWgradIdeal.Gen.facts, Cert.GluWgradRefIdeal.Gen.facts,
    Cert.GluDgrad.Gen.facts, Cert.GluDgradIdeal.Gen.facts, Cert.GluDgradRefIdeal.Gen.facts,
    Cert.BInGrad.Gen.facts, Cert.BInGradIdeal.Gen.facts, Cert.BInGradRefIdeal.Gen.facts,
    Cert.Merge.Gen.facts, Cert.MergeIdeal.Gen.facts, Cert.MergeRefIdeal.Gen.facts,
    Cert.Swiglu.Gen.facts, Cert.SwigluIdeal.Gen.facts, Cert.SwigluRefIdeal.Gen.facts,
    Cert.Glu.Gen.facts, Cert.GluIdeal.Gen.facts, Cert.GluRefIdeal.Gen.facts,
    Cert.LnBwd.Gen.facts, Cert.LnBwdIdeal.Gen.facts, Cert.LnBwdRefIdeal.Gen.facts,
    Cert.SsmSkipGeluBwd.Gen.facts, Cert.SsmSkipGeluBwdIdeal.Gen.facts, Cert.SsmSkipGeluBwdRefIdeal.Gen.facts,
    Cert.SsmOutDgrad.Gen.facts, Cert.SsmOutDgradIdeal.Gen.facts, Cert.SsmOutDgradRefIdeal.Gen.facts,
    Cert.SsmOutWgrad.Gen.facts, Cert.SsmOutWgradIdeal.Gen.facts, Cert.SsmOutWgradRefIdeal.Gen.facts,
    Cert.SsmInDgrad.Gen.facts, Cert.SsmInDgradIdeal.Gen.facts, Cert.SsmInDgradRefIdeal.Gen.facts,
    Cert.SsmInWgrad.Gen.facts, Cert.SsmInWgradIdeal.Gen.facts, Cert.SsmInWgradRefIdeal.Gen.facts,
    Cert.SsmDuc.Gen.facts, Cert.SsmDucIdeal.Gen.facts, Cert.SsmDucRefIdeal.Gen.facts,
    Cert.SsmIn.Gen.facts, Cert.SsmInIdeal.Gen.facts, Cert.SsmInRefIdeal.Gen.facts,
    Cert.SsmSkipGelu.Gen.facts, Cert.SsmSkipGeluIdeal.Gen.facts, Cert.SsmSkipGeluRefIdeal.Gen.facts,
    Cert.Ln.Gen.facts, Cert.LnIdeal.Gen.facts, Cert.LnRefIdeal.Gen.facts,
    Cert.LossHead.Gen.facts, Cert.LossHeadIdeal.Gen.facts, Cert.LossHeadRefIdeal.Gen.facts,
    Cert.AdamwWIn.Gen.facts, Cert.AdamwWInIdeal.Gen.facts, Cert.AdamwWInRefIdeal.Gen.facts,
    Cert.AdamwWGlu.Gen.facts, Cert.AdamwWGluIdeal.Gen.facts, Cert.AdamwWGluRefIdeal.Gen.facts,
    Cert.AdamwWPa.Gen.facts, Cert.AdamwWPaIdeal.Gen.facts, Cert.AdamwWPaRefIdeal.Gen.facts,
    Cert.AdamwWPb.Gen.facts, Cert.AdamwWPbIdeal.Gen.facts, Cert.AdamwWPbRefIdeal.Gen.facts,
    Cert.AdamwWO.Gen.facts, Cert.AdamwWOIdeal.Gen.facts, Cert.AdamwWORefIdeal.Gen.facts,
    Cert.AdamwWFfnIn.Gen.facts, Cert.AdamwWFfnInIdeal.Gen.facts, Cert.AdamwWFfnInRefIdeal.Gen.facts,
    Cert.AdamwWFfnOut.Gen.facts, Cert.AdamwWFfnOutIdeal.Gen.facts, Cert.AdamwWFfnOutRefIdeal.Gen.facts,
    Cert.AdamwSmall.Gen.facts, Cert.AdamwSmallIdeal.Gen.facts, Cert.AdamwSmallRefIdeal.Gen.facts,
    Cert.SguFwd.Gen.facts, Cert.SguFwdIdeal.Gen.facts, Cert.SguFwdRefIdeal.Gen.facts,
    Cert.SsmOut.Gen.facts, Cert.SsmOutIdeal.Gen.facts, Cert.SsmOutRefIdeal.Gen.facts,
    Cert.SsmParams.Gen.facts, Cert.SsmParamsIdeal.Gen.facts, Cert.SsmParamsRefIdeal.Gen.facts,
    Cert.AttnFwd.Gen.facts, Cert.AttnFwdIdeal.Gen.facts, Cert.AttnFwdRefIdeal.Gen.facts,
    Cert.Sgu.finiteFacts, Cert.Norm.LnBwd.finiteFacts, Cert.Ssm.SsmOut.finiteFacts,
    Cert.Sgu.frame_p, Cert.Sgu.frame_p_none, Cert.Sgu.frame_pi, Cert.Sgu.frame_pi_none, Cert.Sgu.frame_ri,
    fun m ρ _ => Cert.ProjInDgrad.Gen.frame m ρ, fun m ρ _ => Cert.ProjInDgradIdeal.Gen.frame m ρ, Cert.Products.ProjInDgrad.frame_ri,
    fun m ρ _ => Cert.FfnOutWgrad.Gen.frame m ρ, fun m ρ _ => Cert.FfnOutWgradIdeal.Gen.frame m ρ, Cert.Products.FfnOutWgrad.frame_ri,
    fun m ρ _ => Cert.FfnOutDgrad.Gen.frame m ρ, fun m ρ _ => Cert.FfnOutDgradIdeal.Gen.frame m ρ, Cert.Products.FfnOutDgrad.frame_ri,
    fun m ρ _ => Cert.ProjInWgrad.Gen.frame m ρ, fun m ρ _ => Cert.ProjInWgradIdeal.Gen.frame m ρ, Cert.Products.ProjInWgrad.frame_ri,
    fun m ρ _ => Cert.FfnInDgrad.Gen.frame m ρ, fun m ρ _ => Cert.FfnInDgradIdeal.Gen.frame m ρ, Cert.Products.FfnInDgrad.frame_ri,
    fun m ρ _ => Cert.FfnInWgrad.Gen.frame m ρ, fun m ρ _ => Cert.FfnInWgradIdeal.Gen.frame m ρ, Cert.Products.FfnInWgrad.frame_ri,
    fun m ρ _ => Cert.ProjODgrad.Gen.frame m ρ, fun m ρ _ => Cert.ProjODgradIdeal.Gen.frame m ρ, Cert.Products.ProjODgrad.frame_ri,
    fun m ρ _ => Cert.ProjOWgrad.Gen.frame m ρ, fun m ρ _ => Cert.ProjOWgradIdeal.Gen.frame m ρ, Cert.Products.ProjOWgrad.frame_ri,
    fun m ρ _ => Cert.ProjADgrad.Gen.frame m ρ, fun m ρ _ => Cert.ProjADgradIdeal.Gen.frame m ρ, Cert.Products.ProjADgrad.frame_ri,
    fun m ρ _ => Cert.ProjAWgrad.Gen.frame m ρ, fun m ρ _ => Cert.ProjAWgradIdeal.Gen.frame m ρ, Cert.Products.ProjAWgrad.frame_ri,
    fun m ρ _ => Cert.ProjBDgrad.Gen.frame m ρ, fun m ρ _ => Cert.ProjBDgradIdeal.Gen.frame m ρ, Cert.Products.ProjBDgrad.frame_ri,
    fun m ρ _ => Cert.ProjBWgrad.Gen.frame m ρ, fun m ρ _ => Cert.ProjBWgradIdeal.Gen.frame m ρ, Cert.Products.ProjBWgrad.frame_ri,
    fun m ρ _ => Cert.ProjQkv.Gen.frame m ρ, fun m ρ _ => Cert.ProjQkvIdeal.Gen.frame m ρ, Cert.Products.ProjQkv.frame_ri,
    fun m ρ _ => Cert.ProjRest.Gen.frame m ρ, fun m ρ _ => Cert.ProjRestIdeal.Gen.frame m ρ, Cert.Products.ProjRest.frame_ri,
    fun m ρ _ => Cert.FfnIn.Gen.frame m ρ, fun m ρ _ => Cert.FfnInIdeal.Gen.frame m ρ, Cert.Products.FfnIn.frame_ri,
    fun m ρ _ => Cert.FfnOut.Gen.frame m ρ, fun m ρ _ => Cert.FfnOutIdeal.Gen.frame m ρ, Cert.Products.FfnOut.frame_ri,
    fun m ρ _ => Cert.ProjO.Gen.frame m ρ, fun m ρ _ => Cert.ProjOIdeal.Gen.frame m ρ, Cert.Products.ProjO.frame_ri,
    fun m ρ _ => Cert.ProjA.Gen.frame m ρ, fun m ρ _ => Cert.ProjAIdeal.Gen.frame m ρ, Cert.Products.ProjA.frame_ri,
    fun m ρ _ => Cert.ProjB.Gen.frame m ρ, fun m ρ _ => Cert.ProjBIdeal.Gen.frame m ρ, Cert.Products.ProjB.frame_ri,
    fun m ρ _ => Cert.MergeBwd.Gen.frame m ρ, fun m ρ _ => Cert.MergeBwdIdeal.Gen.frame m ρ, Cert.Gates.MergeBwd.frame_ri,
    fun m ρ _ => Cert.SwigluBwd.Gen.frame m ρ, fun m ρ _ => Cert.SwigluBwdIdeal.Gen.frame m ρ, Cert.Gates.SwigluBwd.frame_ri,
    fun m ρ _ => Cert.GluBwd.Gen.frame m ρ, fun m ρ _ => Cert.GluBwdIdeal.Gen.frame m ρ, Cert.Gates.GluBwd.frame_ri,
    fun m ρ _ => Cert.GluProj.Gen.frame m ρ, fun m ρ _ => Cert.GluProjIdeal.Gen.frame m ρ, Cert.Products.GluProj.frame_ri,
    fun m ρ _ => Cert.GluWgrad.Gen.frame m ρ, fun m ρ _ => Cert.GluWgradIdeal.Gen.frame m ρ, Cert.Products.GluWgrad.frame_ri,
    fun m ρ _ => Cert.GluDgrad.Gen.frame m ρ, fun m ρ _ => Cert.GluDgradIdeal.Gen.frame m ρ, Cert.Products.GluDgrad.frame_ri,
    fun m ρ _ => Cert.BInGrad.Gen.frame m ρ, fun m ρ _ => Cert.BInGradIdeal.Gen.frame m ρ, Cert.Gates.BInGrad.frame_ri,
    fun m ρ _ => Cert.Merge.Gen.frame m ρ, fun m ρ _ => Cert.MergeIdeal.Gen.frame m ρ, Cert.Gates.Merge.frame_ri,
    fun m ρ _ => Cert.Swiglu.Gen.frame m ρ, fun m ρ _ => Cert.SwigluIdeal.Gen.frame m ρ, Cert.Gates.Swiglu.frame_ri,
    fun m ρ _ => Cert.Glu.Gen.frame m ρ, fun m ρ _ => Cert.GluIdeal.Gen.frame m ρ, Cert.Gates.Glu.frame_ri,
    fun m ρ _ => Cert.LnBwd.Gen.frame m ρ, fun m ρ _ => Cert.LnBwdIdeal.Gen.frame m ρ, fun m ρ _ => Cert.LnBwdIdeal.Gen.frame m ρ,
    Cert.Norm.LnBwd.frame_ri, fun m ρ _ => Cert.Norm.LnBwd.frame_ri m ρ trivial,
    fun m ρ _ => Cert.SsmSkipGeluBwd.Gen.frame m ρ, fun m ρ _ => Cert.SsmSkipGeluBwdIdeal.Gen.frame m ρ, Cert.Ssm.SsmSkipGeluBwd.frame_ri,
    fun m ρ _ => Cert.SsmOutDgrad.Gen.frame m ρ, fun m ρ _ => Cert.SsmOutDgradIdeal.Gen.frame m ρ, Cert.Ssm.SsmOutDgrad.frame_ri,
    fun m ρ _ => Cert.SsmOutWgrad.Gen.frame m ρ, fun m ρ _ => Cert.SsmOutWgradIdeal.Gen.frame m ρ, Cert.Ssm.SsmOutWgrad.frame_ri,
    fun m ρ _ => Cert.SsmInDgrad.Gen.frame m ρ, fun m ρ _ => Cert.SsmInDgradIdeal.Gen.frame m ρ, Cert.Ssm.SsmInDgrad.frame_ri,
    fun m ρ _ => Cert.SsmInWgrad.Gen.frame m ρ, fun m ρ _ => Cert.SsmInWgradIdeal.Gen.frame m ρ, Cert.Ssm.SsmInWgrad.frame_ri,
    fun m ρ _ => Cert.SsmDuc.Gen.frame m ρ, fun m ρ _ => Cert.SsmDucIdeal.Gen.frame m ρ, Cert.Ssm.SsmDuc.frame_ri,
    fun m ρ _ => Cert.SsmIn.Gen.frame m ρ, fun m ρ _ => Cert.SsmInIdeal.Gen.frame m ρ, Cert.Ssm.SsmIn.frame_ri,
    fun m ρ _ => Cert.SsmSkipGelu.Gen.frame m ρ, fun m ρ _ => Cert.SsmSkipGeluIdeal.Gen.frame m ρ, Cert.Ssm.SsmSkipGelu.frame_ri,
    fun m ρ _ => Cert.Ln.Gen.frame m ρ, fun m ρ _ => Cert.LnIdeal.Gen.frame m ρ, Cert.Norm.Ln.frame_ri,
    fun m ρ _ => Cert.LossHead.Gen.frame m ρ, fun m ρ _ => Cert.LossHeadIdeal.Gen.frame m ρ, Cert.Norm.LossHead.frame_ri,
    fun m ρ _ => Cert.AdamwWIn.Gen.frame m ρ, fun m ρ _ => Cert.AdamwWInIdeal.Gen.frame m ρ, Cert.Adam.AdamwWIn.frame_ri,
    fun m ρ _ => Cert.AdamwWGlu.Gen.frame m ρ, fun m ρ _ => Cert.AdamwWGluIdeal.Gen.frame m ρ, Cert.Adam.AdamwWGlu.frame_ri,
    fun m ρ _ => Cert.AdamwWPa.Gen.frame m ρ, fun m ρ _ => Cert.AdamwWPaIdeal.Gen.frame m ρ, Cert.Adam.AdamwWPa.frame_ri,
    fun m ρ _ => Cert.AdamwWPb.Gen.frame m ρ, fun m ρ _ => Cert.AdamwWPbIdeal.Gen.frame m ρ, Cert.Adam.AdamwWPb.frame_ri,
    fun m ρ _ => Cert.AdamwWO.Gen.frame m ρ, fun m ρ _ => Cert.AdamwWOIdeal.Gen.frame m ρ, Cert.Adam.AdamwWO.frame_ri,
    fun m ρ _ => Cert.AdamwWFfnIn.Gen.frame m ρ, fun m ρ _ => Cert.AdamwWFfnInIdeal.Gen.frame m ρ, Cert.Adam.AdamwWFfnIn.frame_ri,
    fun m ρ _ => Cert.AdamwWFfnOut.Gen.frame m ρ, fun m ρ _ => Cert.AdamwWFfnOutIdeal.Gen.frame m ρ, Cert.Adam.AdamwWFfnOut.frame_ri,
    fun m ρ _ => Cert.AdamwSmall.Gen.frame m ρ, fun m ρ _ => Cert.AdamwSmallIdeal.Gen.frame m ρ, Cert.Adam.AdamwSmall.frame_ri,
    fun m ρ _ => Cert.SguFwd.Gen.frame m ρ, fun m ρ _ => Cert.SguFwdIdeal.Gen.frame m ρ, Cert.Sgu.SguFwd.frame_ri,
    fun m ρ _ => Cert.SsmOut.Gen.frame m ρ, fun m ρ _ => Cert.SsmOutIdeal.Gen.frame m ρ, fun m ρ _ => Cert.SsmOutIdeal.Gen.frame m ρ,
    Cert.Ssm.SsmOut.frame_ri, fun m ρ _ => Cert.Ssm.SsmOut.frame_ri m ρ trivial,
    fun m ρ _ => Cert.SsmParams.Gen.frame m ρ, fun m ρ _ => Cert.SsmParamsIdeal.Gen.frame m ρ, Cert.Ssm.SsmParams.frame_ri,
    fun m ρ _ => Cert.AttnFwd.Gen.frame m ρ, fun m ρ _ => Cert.AttnFwdIdeal.Gen.frame m ρ, Cert.Attn.AttnFwd.frame_ri,
    trivial, Cert.Sgu.value,
    trivial, Cert.Products.ProjInDgrad.value,
    trivial, Cert.Products.FfnOutWgrad.value,
    trivial, Cert.Products.FfnOutDgrad.value,
    trivial, Cert.Products.ProjInWgrad.value,
    trivial, Cert.Products.FfnInDgrad.value,
    trivial, Cert.Products.FfnInWgrad.value,
    trivial, Cert.Products.ProjODgrad.value,
    trivial, Cert.Products.ProjOWgrad.value,
    trivial, Cert.Products.ProjADgrad.value,
    trivial, Cert.Products.ProjAWgrad.value,
    trivial, Cert.Products.ProjBDgrad.value,
    trivial, Cert.Products.ProjBWgrad.value,
    trivial, Cert.Products.ProjQkv.value,
    trivial, Cert.Products.ProjRest.value,
    trivial, Cert.Products.FfnIn.value,
    trivial, Cert.Products.FfnOut.value,
    trivial, Cert.Products.ProjO.value,
    trivial, Cert.Products.ProjA.value,
    trivial, Cert.Products.ProjB.value,
    trivial, Cert.Gates.MergeBwd.value,
    trivial, Cert.Gates.SwigluBwd.value,
    trivial, Cert.Gates.GluBwd.value,
    trivial, Cert.Products.GluProj.value,
    trivial, Cert.Products.GluWgrad.value,
    trivial, Cert.Products.GluDgrad.value,
    trivial, Cert.Gates.BInGrad.value,
    trivial, Cert.Gates.Merge.value,
    trivial, Cert.Gates.Swiglu.value,
    trivial, Cert.Gates.Glu.value,
    trivial, Cert.Norm.LnBwd.value,
    trivial, Cert.Ssm.SsmSkipGeluBwd.value,
    trivial, Cert.Ssm.SsmOutDgrad.value,
    trivial, Cert.Ssm.SsmOutWgrad.value,
    trivial, Cert.Ssm.SsmInDgrad.value,
    trivial, Cert.Ssm.SsmInWgrad.value,
    trivial, Cert.Ssm.SsmDuc.value,
    trivial, Cert.Ssm.SsmIn.value,
    trivial, Cert.Ssm.SsmSkipGelu.value,
    trivial, Cert.Norm.Ln.value,
    trivial, Cert.Norm.LossHead.value,
    trivial, Cert.Adam.AdamwWIn.value,
    trivial, Cert.Adam.AdamwWGlu.value,
    trivial, Cert.Adam.AdamwWPa.value,
    trivial, Cert.Adam.AdamwWPb.value,
    trivial, Cert.Adam.AdamwWO.value,
    trivial, Cert.Adam.AdamwWFfnIn.value,
    trivial, Cert.Adam.AdamwWFfnOut.value,
    trivial, Cert.Adam.AdamwSmall.value,
    trivial, Cert.Sgu.SguFwd.value,
    trivial, Cert.Ssm.SsmOut.value,
    trivial, Cert.Ssm.SsmParams.value,
    Idealize.ShloMosaic.IdealRules.named_const.statement Cert.AttnFwdIdeal.κ "mask" .f32 0xF149F2CA#32 ⊥ rfl, Cert.Attn.AttnFwd.value⟩

end Cert.Proof

end
